-- ==== Defs.lean ====
def Pre_KernelScanBwd (m : (ℓ : Loc Cert.KernelScanBwd.nD Cert.KernelScanBwd.τ Cert.KernelScanBwd.sig) → Buf (Elt Bits) ℓ) : Prop :=
  True

def Pre_KernelScanBwdIdeal (m : (ℓ : Loc Cert.KernelScanBwdIdeal.nD Cert.KernelScanBwdIdeal.τ Cert.KernelScanBwdIdeal.sig) → Buf (Elt Ideal) ℓ) : Prop :=
  True

def Pre_ReferenceScanBwdIdeal (m : (ℓ : Loc Cert.ReferenceScanBwdIdeal.nD Cert.ReferenceScanBwdIdeal.τ Cert.ReferenceScanBwdIdeal.sig) → Buf (Elt Ideal) ℓ) : Prop :=
  True

def Pre_KernelScanFwd (m : (ℓ : Loc Cert.KernelScanFwd.nD Cert.KernelScanFwd.τ Cert.KernelScanFwd.sig) → Buf (Elt Bits) ℓ) : Prop :=
  True

def Pre_KernelScanFwdIdeal (m : (ℓ : Loc Cert.KernelScanFwdIdeal.nD Cert.KernelScanFwdIdeal.τ Cert.KernelScanFwdIdeal.sig) → Buf (Elt Ideal) ℓ) : Prop :=
  True

def Pre_ReferenceScanFwdIdeal (m : (ℓ : Loc Cert.ReferenceScanFwdIdeal.nD Cert.ReferenceScanFwdIdeal.τ Cert.ReferenceScanFwdIdeal.sig) → Buf (Elt Ideal) ℓ) : Prop :=
  True

def Pre_KernelConvBwd (m : (ℓ : Loc Cert.KernelConvBwd.nD Cert.KernelConvBwd.τ Cert.KernelConvBwd.sig) → Buf (Elt Bits) ℓ) : Prop :=
  True

def Pre_KernelConvBwdIdeal (m : (ℓ : Loc Cert.KernelConvBwdIdeal.nD Cert.KernelConvBwdIdeal.τ Cert.KernelConvBwdIdeal.sig) → Buf (Elt Ideal) ℓ) : Prop :=
  True

def Pre_ReferenceConvBwdIdeal (m : (ℓ : Loc Cert.ReferenceConvBwdIdeal.nD Cert.ReferenceConvBwdIdeal.τ Cert.ReferenceConvBwdIdeal.sig) → Buf (Elt Ideal) ℓ) : Prop :=
  True

def Pre_KernelConvBwdX (m : (ℓ : Loc Cert.KernelConvBwdX.nD Cert.KernelConvBwdX.τ Cert.KernelConvBwdX.sig) → Buf (Elt Bits) ℓ) : Prop :=
  True

def Pre_KernelConvBwdXIdeal (m : (ℓ : Loc Cert.KernelConvBwdXIdeal.nD Cert.KernelConvBwdXIdeal.τ Cert.KernelConvBwdXIdeal.sig) → Buf (Elt Ideal) ℓ) : Prop :=
  True

def Pre_ReferenceConvBwdXIdeal (m : (ℓ : Loc Cert.ReferenceConvBwdXIdeal.nD Cert.ReferenceConvBwdXIdeal.τ Cert.ReferenceConvBwdXIdeal.sig) → Buf (Elt Ideal) ℓ) : Prop :=
  True

def Pre_KernelConvFwd (m : (ℓ : Loc Cert.KernelConvFwd.nD Cert.KernelConvFwd.τ Cert.KernelConvFwd.sig) → Buf (Elt Bits) ℓ) : Prop :=
  True

def Pre_KernelConvFwdIdeal (m : (ℓ : Loc Cert.KernelConvFwdIdeal.nD Cert.KernelConvFwdIdeal.τ Cert.KernelConvFwdIdeal.sig) → Buf (Elt Ideal) ℓ) : Prop :=
  True

def Pre_ReferenceConvFwdIdeal (m : (ℓ : Loc Cert.ReferenceConvFwdIdeal.nD Cert.ReferenceConvFwdIdeal.τ Cert.ReferenceConvFwdIdeal.sig) → Buf (Elt Ideal) ℓ) : Prop :=
  True

def Pre_KernelConvFwdX (m : (ℓ : Loc Cert.KernelConvFwdX.nD Cert.KernelConvFwdX.τ Cert.KernelConvFwdX.sig) → Buf (Elt Bits) ℓ) : Prop :=
  True

def Pre_KernelConvFwdXIdeal (m : (ℓ : Loc Cert.KernelConvFwdXIdeal.nD Cert.KernelConvFwdXIdeal.τ Cert.KernelConvFwdXIdeal.sig) → Buf (Elt Ideal) ℓ) : Prop :=
  True

def Pre_ReferenceConvFwdXIdeal (m : (ℓ : Loc Cert.ReferenceConvFwdXIdeal.nD Cert.ReferenceConvFwdXIdeal.τ Cert.ReferenceConvFwdXIdeal.sig) → Buf (Elt Ideal) ℓ) : Prop :=
  True

def Pre_KernelMergeBwd (m : (ℓ : Loc Cert.KernelMergeBwd.nD Cert.KernelMergeBwd.τ Cert.KernelMergeBwd.sig) → Buf (Elt Bits) ℓ) : Prop :=
  True

def Pre_KernelMergeBwdIdeal (m : (ℓ : Loc Cert.KernelMergeBwdIdeal.nD Cert.KernelMergeBwdIdeal.τ Cert.KernelMergeBwdIdeal.sig) → Buf (Elt Ideal) ℓ) : Prop :=
  True

def Pre_ReferenceMergeBwdIdeal (m : (ℓ : Loc Cert.ReferenceMergeBwdIdeal.nD Cert.ReferenceMergeBwdIdeal.τ Cert.ReferenceMergeBwdIdeal.sig) → Buf (Elt Ideal) ℓ) : Prop :=
  True

def Pre_KernelMergeFwd (m : (ℓ : Loc Cert.KernelMergeFwd.nD Cert.KernelMergeFwd.τ Cert.KernelMergeFwd.sig) → Buf (Elt Bits) ℓ) : Prop :=
  True

def Pre_KernelMergeFwdIdeal (m : (ℓ : Loc Cert.KernelMergeFwdIdeal.nD Cert.KernelMergeFwdIdeal.τ Cert.KernelMergeFwdIdeal.sig) → Buf (Elt Ideal) ℓ) : Prop :=
  True

def Pre_ReferenceMergeFwdIdeal (m : (ℓ : Loc Cert.ReferenceMergeFwdIdeal.nD Cert.ReferenceMergeFwdIdeal.τ Cert.ReferenceMergeFwdIdeal.sig) → Buf (Elt Ideal) ℓ) : Prop :=
  True

def Pre_KernelActBwd (m : (ℓ : Loc Cert.KernelActBwd.nD Cert.KernelActBwd.τ Cert.KernelActBwd.sig) → Buf (Elt Bits) ℓ) : Prop :=
  True

def Pre_KernelActBwdIdeal (m : (ℓ : Loc Cert.KernelActBwdIdeal.nD Cert.KernelActBwdIdeal.τ Cert.KernelActBwdIdeal.sig) → Buf (Elt Ideal) ℓ) : Prop :=
  True

def Pre_ReferenceActBwdIdeal (m : (ℓ : Loc Cert.ReferenceActBwdIdeal.nD Cert.ReferenceActBwdIdeal.τ Cert.ReferenceActBwdIdeal.sig) → Buf (Elt Ideal) ℓ) : Prop :=
  True

def Pre_KernelRmsBwd (m : (ℓ : Loc Cert.KernelRmsBwd.nD Cert.KernelRmsBwd.τ Cert.KernelRmsBwd.sig) → Buf (Elt Bits) ℓ) : Prop :=
  True

def Pre_KernelRmsBwdIdeal (m : (ℓ : Loc Cert.KernelRmsBwdIdeal.nD Cert.KernelRmsBwdIdeal.τ Cert.KernelRmsBwdIdeal.sig) → Buf (Elt Ideal) ℓ) : Prop :=
  True

def Pre_ReferenceRmsBwdIdeal (m : (ℓ : Loc Cert.ReferenceRmsBwdIdeal.nD Cert.ReferenceRmsBwdIdeal.τ Cert.ReferenceRmsBwdIdeal.sig) → Buf (Elt Ideal) ℓ) : Prop :=
  True

def Pre_KernelRmsFwd (m : (ℓ : Loc Cert.KernelRmsFwd.nD Cert.KernelRmsFwd.τ Cert.KernelRmsFwd.sig) → Buf (Elt Bits) ℓ) : Prop :=
  True

def Pre_KernelRmsFwdIdeal (m : (ℓ : Loc Cert.KernelRmsFwdIdeal.nD Cert.KernelRmsFwdIdeal.τ Cert.KernelRmsFwdIdeal.sig) → Buf (Elt Ideal) ℓ) : Prop :=
  True

def Pre_ReferenceRmsFwdIdeal (m : (ℓ : Loc Cert.ReferenceRmsFwdIdeal.nD Cert.ReferenceRmsFwdIdeal.τ Cert.ReferenceRmsFwdIdeal.sig) → Buf (Elt Ideal) ℓ) : Prop :=
  True

def Pre_KernelPostBwd (m : (ℓ : Loc Cert.KernelPostBwd.nD Cert.KernelPostBwd.τ Cert.KernelPostBwd.sig) → Buf (Elt Bits) ℓ) : Prop :=
  True

def Pre_KernelPostBwdIdeal (m : (ℓ : Loc Cert.KernelPostBwdIdeal.nD Cert.KernelPostBwdIdeal.τ Cert.KernelPostBwdIdeal.sig) → Buf (Elt Ideal) ℓ) : Prop :=
  True

def Pre_ReferencePostBwdIdeal (m : (ℓ : Loc Cert.ReferencePostBwdIdeal.nD Cert.ReferencePostBwdIdeal.τ Cert.ReferencePostBwdIdeal.sig) → Buf (Elt Ideal) ℓ) : Prop :=
  True

def Pre_KernelPostFwd (m : (ℓ : Loc Cert.KernelPostFwd.nD Cert.KernelPostFwd.τ Cert.KernelPostFwd.sig) → Buf (Elt Bits) ℓ) : Prop :=
  True

def Pre_KernelPostFwdIdeal (m : (ℓ : Loc Cert.KernelPostFwdIdeal.nD Cert.KernelPostFwdIdeal.τ Cert.KernelPostFwdIdeal.sig) → Buf (Elt Ideal) ℓ) : Prop :=
  True

def Pre_ReferencePostFwdIdeal (m : (ℓ : Loc Cert.ReferencePostFwdIdeal.nD Cert.ReferencePostFwdIdeal.τ Cert.ReferencePostFwdIdeal.sig) → Buf (Elt Ideal) ℓ) : Prop :=
  True

def Pre_KernelGatesFwd (m : (ℓ : Loc Cert.KernelGatesFwd.nD Cert.KernelGatesFwd.τ Cert.KernelGatesFwd.sig) → Buf (Elt Bits) ℓ) : Prop :=
  True

def Pre_KernelGatesFwdIdeal (m : (ℓ : Loc Cert.KernelGatesFwdIdeal.nD Cert.KernelGatesFwdIdeal.τ Cert.KernelGatesFwdIdeal.sig) → Buf (Elt Ideal) ℓ) : Prop :=
  True

def Pre_ReferenceGatesFwdIdeal (m : (ℓ : Loc Cert.ReferenceGatesFwdIdeal.nD Cert.ReferenceGatesFwdIdeal.τ Cert.ReferenceGatesFwdIdeal.sig) → Buf (Elt Ideal) ℓ) : Prop :=
  True

def Pre_KernelDw (m : (ℓ : Loc Cert.KernelDw.nD Cert.KernelDw.τ Cert.KernelDw.sig) → Buf (Elt Bits) ℓ) : Prop :=
  True

def Pre_KernelDwIdeal (m : (ℓ : Loc Cert.KernelDwIdeal.nD Cert.KernelDwIdeal.τ Cert.KernelDwIdeal.sig) → Buf (Elt Ideal) ℓ) : Prop :=
  True

def Pre_ReferenceDwIdeal (m : (ℓ : Loc Cert.ReferenceDwIdeal.nD Cert.ReferenceDwIdeal.τ Cert.ReferenceDwIdeal.sig) → Buf (Elt Ideal) ℓ) : Prop :=
  True

def Pre_KernelDwZ (m : (ℓ : Loc Cert.KernelDwZ.nD Cert.KernelDwZ.τ Cert.KernelDwZ.sig) → Buf (Elt Bits) ℓ) : Prop :=
  True

def Pre_KernelDwZIdeal (m : (ℓ : Loc Cert.KernelDwZIdeal.nD Cert.KernelDwZIdeal.τ Cert.KernelDwZIdeal.sig) → Buf (Elt Ideal) ℓ) : Prop :=
  True

def Pre_ReferenceDwZIdeal (m : (ℓ : Loc Cert.ReferenceDwZIdeal.nD Cert.ReferenceDwZIdeal.τ Cert.ReferenceDwZIdeal.sig) → Buf (Elt Ideal) ℓ) : Prop :=
  True

def Pre_KernelDwXbc (m : (ℓ : Loc Cert.KernelDwXbc.nD Cert.KernelDwXbc.τ Cert.KernelDwXbc.sig) → Buf (Elt Bits) ℓ) : Prop :=
  True

def Pre_KernelDwXbcIdeal (m : (ℓ : Loc Cert.KernelDwXbcIdeal.nD Cert.KernelDwXbcIdeal.τ Cert.KernelDwXbcIdeal.sig) → Buf (Elt Ideal) ℓ) : Prop :=
  True

def Pre_ReferenceDwXbcIdeal (m : (ℓ : Loc Cert.ReferenceDwXbcIdeal.nD Cert.ReferenceDwXbcIdeal.τ Cert.ReferenceDwXbcIdeal.sig) → Buf (Elt Ideal) ℓ) : Prop :=
  True

def Pre_KernelDwDt (m : (ℓ : Loc Cert.KernelDwDt.nD Cert.KernelDwDt.τ Cert.KernelDwDt.sig) → Buf (Elt Bits) ℓ) : Prop :=
  True

def Pre_KernelDwDtIdeal (m : (ℓ : Loc Cert.KernelDwDtIdeal.nD Cert.KernelDwDtIdeal.τ Cert.KernelDwDtIdeal.sig) → Buf (Elt Ideal) ℓ) : Prop :=
  True

def Pre_ReferenceDwDtIdeal (m : (ℓ : Loc Cert.ReferenceDwDtIdeal.nD Cert.ReferenceDwDtIdeal.τ Cert.ReferenceDwDtIdeal.sig) → Buf (Elt Ideal) ℓ) : Prop :=
  True

def Pre_KernelDwFfnOut (m : (ℓ : Loc Cert.KernelDwFfnOut.nD Cert.KernelDwFfnOut.τ Cert.KernelDwFfnOut.sig) → Buf (Elt Bits) ℓ) : Prop :=
  True

def Pre_KernelDwFfnOutIdeal (m : (ℓ : Loc Cert.KernelDwFfnOutIdeal.nD Cert.KernelDwFfnOutIdeal.τ Cert.KernelDwFfnOutIdeal.sig) → Buf (Elt Ideal) ℓ) : Prop :=
  True

def Pre_ReferenceDwFfnOutIdeal (m : (ℓ : Loc Cert.ReferenceDwFfnOutIdeal.nD Cert.ReferenceDwFfnOutIdeal.τ Cert.ReferenceDwFfnOutIdeal.sig) → Buf (Elt Ideal) ℓ) : Prop :=
  True

def Pre_KernelDwFfnIn (m : (ℓ : Loc Cert.KernelDwFfnIn.nD Cert.KernelDwFfnIn.τ Cert.KernelDwFfnIn.sig) → Buf (Elt Bits) ℓ) : Prop :=
  True

def Pre_KernelDwFfnInIdeal (m : (ℓ : Loc Cert.KernelDwFfnInIdeal.nD Cert.KernelDwFfnInIdeal.τ Cert.KernelDwFfnInIdeal.sig) → Buf (Elt Ideal) ℓ) : Prop :=
  True

def Pre_ReferenceDwFfnInIdeal (m : (ℓ : Loc Cert.ReferenceDwFfnInIdeal.nD Cert.ReferenceDwFfnInIdeal.τ Cert.ReferenceDwFfnInIdeal.sig) → Buf (Elt Ideal) ℓ) : Prop :=
  True

def Pre_KernelDwBrb (m : (ℓ : Loc Cert.KernelDwBrb.nD Cert.KernelDwBrb.τ Cert.KernelDwBrb.sig) → Buf (Elt Bits) ℓ) : Prop :=
  True

def Pre_KernelDwBrbIdeal (m : (ℓ : Loc Cert.KernelDwBrbIdeal.nD Cert.KernelDwBrbIdeal.τ Cert.KernelDwBrbIdeal.sig) → Buf (Elt Ideal) ℓ) : Prop :=
  True

def Pre_ReferenceDwBrbIdeal (m : (ℓ : Loc Cert.ReferenceDwBrbIdeal.nD Cert.ReferenceDwBrbIdeal.τ Cert.ReferenceDwBrbIdeal.sig) → Buf (Elt Ideal) ℓ) : Prop :=
  True

def Pre_KernelDAct (m : (ℓ : Loc Cert.KernelDAct.nD Cert.KernelDAct.τ Cert.KernelDAct.sig) → Buf (Elt Bits) ℓ) : Prop :=
  True

def Pre_KernelDActIdeal (m : (ℓ : Loc Cert.KernelDActIdeal.nD Cert.KernelDActIdeal.τ Cert.KernelDActIdeal.sig) → Buf (Elt Ideal) ℓ) : Prop :=
  True

def Pre_ReferenceDActIdeal (m : (ℓ : Loc Cert.ReferenceDActIdeal.nD Cert.ReferenceDActIdeal.τ Cert.ReferenceDActIdeal.sig) → Buf (Elt Ideal) ℓ) : Prop :=
  True

def Pre_KernelDx (m : (ℓ : Loc Cert.KernelDx.nD Cert.KernelDx.τ Cert.KernelDx.sig) → Buf (Elt Bits) ℓ) : Prop :=
  True

def Pre_KernelDxIdeal (m : (ℓ : Loc Cert.KernelDxIdeal.nD Cert.KernelDxIdeal.τ Cert.KernelDxIdeal.sig) → Buf (Elt Ideal) ℓ) : Prop :=
  True

def Pre_ReferenceDxIdeal (m : (ℓ : Loc Cert.ReferenceDxIdeal.nD Cert.ReferenceDxIdeal.τ Cert.ReferenceDxIdeal.sig) → Buf (Elt Ideal) ℓ) : Prop :=
  True

def Pre_KernelDYb (m : (ℓ : Loc Cert.KernelDYb.nD Cert.KernelDYb.τ Cert.KernelDYb.sig) → Buf (Elt Bits) ℓ) : Prop :=
  True

def Pre_KernelDYbIdeal (m : (ℓ : Loc Cert.KernelDYbIdeal.nD Cert.KernelDYbIdeal.τ Cert.KernelDYbIdeal.sig) → Buf (Elt Ideal) ℓ) : Prop :=
  True

def Pre_ReferenceDYbIdeal (m : (ℓ : Loc Cert.ReferenceDYbIdeal.nD Cert.ReferenceDYbIdeal.τ Cert.ReferenceDYbIdeal.sig) → Buf (Elt Ideal) ℓ) : Prop :=
  True

def Pre_KernelDXn2 (m : (ℓ : Loc Cert.KernelDXn2.nD Cert.KernelDXn2.τ Cert.KernelDXn2.sig) → Buf (Elt Bits) ℓ) : Prop :=
  True

def Pre_KernelDXn2Ideal (m : (ℓ : Loc Cert.KernelDXn2Ideal.nD Cert.KernelDXn2Ideal.τ Cert.KernelDXn2Ideal.sig) → Buf (Elt Ideal) ℓ) : Prop :=
  True

def Pre_ReferenceDXn2Ideal (m : (ℓ : Loc Cert.ReferenceDXn2Ideal.nD Cert.ReferenceDXn2Ideal.τ Cert.ReferenceDXn2Ideal.sig) → Buf (Elt Ideal) ℓ) : Prop :=
  True

def Pre_KernelDXnA (m : (ℓ : Loc Cert.KernelDXnA.nD Cert.KernelDXnA.τ Cert.KernelDXnA.sig) → Buf (Elt Bits) ℓ) : Prop :=
  True

def Pre_KernelDXnAIdeal (m : (ℓ : Loc Cert.KernelDXnAIdeal.nD Cert.KernelDXnAIdeal.τ Cert.KernelDXnAIdeal.sig) → Buf (Elt Ideal) ℓ) : Prop :=
  True

def Pre_ReferenceDXnAIdeal (m : (ℓ : Loc Cert.ReferenceDXnAIdeal.nD Cert.ReferenceDXnAIdeal.τ Cert.ReferenceDXnAIdeal.sig) → Buf (Elt Ideal) ℓ) : Prop :=
  True

def Pre_KernelDXnB (m : (ℓ : Loc Cert.KernelDXnB.nD Cert.KernelDXnB.τ Cert.KernelDXnB.sig) → Buf (Elt Bits) ℓ) : Prop :=
  True

def Pre_KernelDXnBIdeal (m : (ℓ : Loc Cert.KernelDXnBIdeal.nD Cert.KernelDXnBIdeal.τ Cert.KernelDXnBIdeal.sig) → Buf (Elt Ideal) ℓ) : Prop :=
  True

def Pre_ReferenceDXnBIdeal (m : (ℓ : Loc Cert.ReferenceDXnBIdeal.nD Cert.ReferenceDXnBIdeal.τ Cert.ReferenceDXnBIdeal.sig) → Buf (Elt Ideal) ℓ) : Prop :=
  True

def Pre_KernelY (m : (ℓ : Loc Cert.KernelY.nD Cert.KernelY.τ Cert.KernelY.sig) → Buf (Elt Bits) ℓ) : Prop :=
  True

def Pre_KernelYIdeal (m : (ℓ : Loc Cert.KernelYIdeal.nD Cert.KernelYIdeal.τ Cert.KernelYIdeal.sig) → Buf (Elt Ideal) ℓ) : Prop :=
  True

def Pre_ReferenceYIdeal (m : (ℓ : Loc Cert.ReferenceYIdeal.nD Cert.ReferenceYIdeal.τ Cert.ReferenceYIdeal.sig) → Buf (Elt Ideal) ℓ) : Prop :=
  True

def Pre_KernelYZ (m : (ℓ : Loc Cert.KernelYZ.nD Cert.KernelYZ.τ Cert.KernelYZ.sig) → Buf (Elt Bits) ℓ) : Prop :=
  True

def Pre_KernelYZIdeal (m : (ℓ : Loc Cert.KernelYZIdeal.nD Cert.KernelYZIdeal.τ Cert.KernelYZIdeal.sig) → Buf (Elt Ideal) ℓ) : Prop :=
  True

def Pre_ReferenceYZIdeal (m : (ℓ : Loc Cert.ReferenceYZIdeal.nD Cert.ReferenceYZIdeal.τ Cert.ReferenceYZIdeal.sig) → Buf (Elt Ideal) ℓ) : Prop :=
  True

def Pre_KernelYXbc (m : (ℓ : Loc Cert.KernelYXbc.nD Cert.KernelYXbc.τ Cert.KernelYXbc.sig) → Buf (Elt Bits) ℓ) : Prop :=
  True

def Pre_KernelYXbcIdeal (m : (ℓ : Loc Cert.KernelYXbcIdeal.nD Cert.KernelYXbcIdeal.τ Cert.KernelYXbcIdeal.sig) → Buf (Elt Ideal) ℓ) : Prop :=
  True

def Pre_ReferenceYXbcIdeal (m : (ℓ : Loc Cert.ReferenceYXbcIdeal.nD Cert.ReferenceYXbcIdeal.τ Cert.ReferenceYXbcIdeal.sig) → Buf (Elt Ideal) ℓ) : Prop :=
  True

def Pre_KernelYDt (m : (ℓ : Loc Cert.KernelYDt.nD Cert.KernelYDt.τ Cert.KernelYDt.sig) → Buf (Elt Bits) ℓ) : Prop :=
  True

def Pre_KernelYDtIdeal (m : (ℓ : Loc Cert.KernelYDtIdeal.nD Cert.KernelYDtIdeal.τ Cert.KernelYDtIdeal.sig) → Buf (Elt Ideal) ℓ) : Prop :=
  True

def Pre_ReferenceYDtIdeal (m : (ℓ : Loc Cert.ReferenceYDtIdeal.nD Cert.ReferenceYDtIdeal.τ Cert.ReferenceYDtIdeal.sig) → Buf (Elt Ideal) ℓ) : Prop :=
  True

def Pre_KernelYBrb (m : (ℓ : Loc Cert.KernelYBrb.nD Cert.KernelYBrb.τ Cert.KernelYBrb.sig) → Buf (Elt Bits) ℓ) : Prop :=
  True

def Pre_KernelYBrbIdeal (m : (ℓ : Loc Cert.KernelYBrbIdeal.nD Cert.KernelYBrbIdeal.τ Cert.KernelYBrbIdeal.sig) → Buf (Elt Ideal) ℓ) : Prop :=
  True

def Pre_ReferenceYBrbIdeal (m : (ℓ : Loc Cert.ReferenceYBrbIdeal.nD Cert.ReferenceYBrbIdeal.τ Cert.ReferenceYBrbIdeal.sig) → Buf (Elt Ideal) ℓ) : Prop :=
  True

def Pre_KernelYFfnIn (m : (ℓ : Loc Cert.KernelYFfnIn.nD Cert.KernelYFfnIn.τ Cert.KernelYFfnIn.sig) → Buf (Elt Bits) ℓ) : Prop :=
  True

def Pre_KernelYFfnInIdeal (m : (ℓ : Loc Cert.KernelYFfnInIdeal.nD Cert.KernelYFfnInIdeal.τ Cert.KernelYFfnInIdeal.sig) → Buf (Elt Ideal) ℓ) : Prop :=
  True

def Pre_ReferenceYFfnInIdeal (m : (ℓ : Loc Cert.ReferenceYFfnInIdeal.nD Cert.ReferenceYFfnInIdeal.τ Cert.ReferenceYFfnInIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelFfnOut (m : (ℓ : Loc Cert.KernelFfnOut.nD Cert.KernelFfnOut.τ Cert.KernelFfnOut.sig) → Buf (Elt Bits) ℓ) : Prop :=
  True

def Pre_KernelFfnOutIdeal (m : (ℓ : Loc Cert.KernelFfnOutIdeal.nD Cert.KernelFfnOutIdeal.τ Cert.KernelFfnOutIdeal.sig) → Buf (Elt Ideal) ℓ) : Prop :=
  True

def Pre_ReferenceFfnOutIdeal (m : (ℓ : Loc Cert.ReferenceFfnOutIdeal.nD Cert.ReferenceFfnOutIdeal.τ Cert.ReferenceFfnOutIdeal.sig) → Buf (Elt Ideal) ℓ) : Prop :=
  True

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_ReferenceLossIdeal (m : (ℓ : Loc Cert.ReferenceLossIdeal.nD Cert.ReferenceLossIdeal.τ Cert.ReferenceLossIdeal.sig) → Buf (Elt Ideal) ℓ) : Prop :=
  True

def Pre_KernelAdamBranch (m : (ℓ : Loc Cert.KernelAdamBranch.nD Cert.KernelAdamBranch.τ Cert.KernelAdamBranch.sig) → Buf (Elt Bits) ℓ) : Prop :=
  True

def Pre_KernelAdamBranchIdeal (m : (ℓ : Loc Cert.KernelAdamBranchIdeal.nD Cert.KernelAdamBranchIdeal.τ Cert.KernelAdamBranchIdeal.sig) → Buf (Elt Ideal) ℓ) : Prop :=
  True

def Pre_ReferenceAdamBranchIdeal (m : (ℓ : Loc Cert.ReferenceAdamBranchIdeal.nD Cert.ReferenceAdamBranchIdeal.τ Cert.ReferenceAdamBranchIdeal.sig) → Buf (Elt Ideal) ℓ) : Prop :=
  True

def Pre_KernelAdamOut (m : (ℓ : Loc Cert.KernelAdamOut.nD Cert.KernelAdamOut.τ Cert.KernelAdamOut.sig) → Buf (Elt Bits) ℓ) : Prop :=
  True

def Pre_KernelAdamOutIdeal (m : (ℓ : Loc Cert.KernelAdamOutIdeal.nD Cert.KernelAdamOutIdeal.τ Cert.KernelAdamOutIdeal.sig) → Buf (Elt Ideal) ℓ) : Prop :=
  True

def Pre_ReferenceAdamOutIdeal (m : (ℓ : Loc Cert.ReferenceAdamOutIdeal.nD Cert.ReferenceAdamOutIdeal.τ Cert.ReferenceAdamOutIdeal.sig) → Buf (Elt Ideal) ℓ) : Prop :=
  True

def Pre_KernelAdamFfnIn (m : (ℓ : Loc Cert.KernelAdamFfnIn.nD Cert.KernelAdamFfnIn.τ Cert.KernelAdamFfnIn.sig) → Buf (Elt Bits) ℓ) : Prop :=
  True

def Pre_KernelAdamFfnInIdeal (m : (ℓ : Loc Cert.KernelAdamFfnInIdeal.nD Cert.KernelAdamFfnInIdeal.τ Cert.KernelAdamFfnInIdeal.sig) → Buf (Elt Ideal) ℓ) : Prop :=
  True

def Pre_ReferenceAdamFfnInIdeal (m : (ℓ : Loc Cert.ReferenceAdamFfnInIdeal.nD Cert.ReferenceAdamFfnInIdeal.τ Cert.ReferenceAdamFfnInIdeal.sig) → Buf (Elt Ideal) ℓ) : Prop :=
  True

def Pre_KernelAdamFfnOut (m : (ℓ : Loc Cert.KernelAdamFfnOut.nD Cert.KernelAdamFfnOut.τ Cert.KernelAdamFfnOut.sig) → Buf (Elt Bits) ℓ) : Prop :=
  True

def Pre_KernelAdamFfnOutIdeal (m : (ℓ : Loc Cert.KernelAdamFfnOutIdeal.nD Cert.KernelAdamFfnOutIdeal.τ Cert.KernelAdamFfnOutIdeal.sig) → Buf (Elt Ideal) ℓ) : Prop :=
  True

def Pre_ReferenceAdamFfnOutIdeal (m : (ℓ : Loc Cert.ReferenceAdamFfnOutIdeal.nD Cert.ReferenceAdamFfnOutIdeal.τ Cert.ReferenceAdamFfnOutIdeal.sig) → Buf (Elt Ideal) ℓ) : Prop :=
  True

def Pre_KernelAdamSmall (m : (ℓ : Loc Cert.KernelAdamSmall.nD Cert.KernelAdamSmall.τ Cert.KernelAdamSmall.sig) → Buf (Elt Bits) ℓ) : Prop :=
  True

def Pre_KernelAdamSmallIdeal (m : (ℓ : Loc Cert.KernelAdamSmallIdeal.nD Cert.KernelAdamSmallIdeal.τ Cert.KernelAdamSmallIdeal.sig) → Buf (Elt Ideal) ℓ) : Prop :=
  True

def Pre_ReferenceAdamSmallIdeal (m : (ℓ : Loc Cert.ReferenceAdamSmallIdeal.nD Cert.ReferenceAdamSmallIdeal.τ Cert.ReferenceAdamSmallIdeal.sig) → Buf (Elt Ideal) ℓ) : Prop :=
  True

def Pre_KernelSumGrads (m : (ℓ : Loc Cert.KernelSumGrads.nD Cert.KernelSumGrads.τ Cert.KernelSumGrads.sig) → Buf (Elt Bits) ℓ) : Prop :=
  True

def Pre_KernelSumGradsIdeal (m : (ℓ : Loc Cert.KernelSumGradsIdeal.nD Cert.KernelSumGradsIdeal.τ Cert.KernelSumGradsIdeal.sig) → Buf (Elt Ideal) ℓ) : Prop :=
  True

def Pre_ReferenceSumGradsIdeal (m : (ℓ : Loc Cert.ReferenceSumGradsIdeal.nD Cert.ReferenceSumGradsIdeal.τ Cert.ReferenceSumGradsIdeal.sig) → Buf (Elt Ideal) ℓ) : Prop :=
  True

def quiescent_KernelScanBwd [hKernelScanBwd : Cert.KernelScanBwd.Facts] : Prop :=
  ∀ (m : (ℓ : Loc Cert.KernelScanBwd.nD Cert.KernelScanBwd.τ Cert.KernelScanBwd.sig) → Buf (Elt Bits) ℓ) (g : Dev Cert.KernelScanBwd.nD → PrngReg), Pre_KernelScanBwd m →
    θ_run (Cert.KernelScanBwd.defs (F := Bits)) (onTc (τ := Cert.KernelScanBwd.τ) (Cert.KernelScanBwd.main (F := Bits))) ⟨m, fun _ => 0, g⟩ (fun r => (∀ c : Dev Cert.KernelScanBwd.nD,
      r.2.mem ((c.tc : Thread Cert.KernelScanBwd.nD Cert.KernelScanBwd.τ).loc Cert.KernelScanBwd.main_arg0) = m ((c.tc : Thread Cert.KernelScanBwd.nD Cert.KernelScanBwd.τ).loc Cert.KernelScanBwd.main_arg0)
      ∧ r.2.mem ((c.tc : Thread Cert.KernelScanBwd.nD Cert.KernelScanBwd.τ).loc Cert.KernelScanBwd.main_arg1) = m ((c.tc : Thread Cert.KernelScanBwd.nD Cert.KernelScanBwd.τ).loc Cert.KernelScanBwd.main_arg1))
      ∧ r.2.sem = fun _ => 0)

def quiescent_KernelScanBwdIdeal [hKernelScanBwdIdeal : Cert.KernelScanBwdIdeal.Facts] : Prop :=
  ∀ (m : (ℓ : Loc Cert.KernelScanBwdIdeal.nD Cert.KernelScanBwdIdeal.τ Cert.KernelScanBwdIdeal.sig) → Buf (Elt Ideal) ℓ) (g : Dev Cert.KernelScanBwdIdeal.nD → PrngReg), Pre_KernelScanBwdIdeal m →
    θ_run (Cert.KernelScanBwdIdeal.defs (F := Ideal)) (onTc (τ := Cert.KernelScanBwdIdeal.τ) (Cert.KernelScanBwdIdeal.main (F := Ideal))) ⟨m, fun _ => 0, g⟩ (fun r => (∀ c : Dev Cert.KernelScanBwdIdeal.nD,
      r.2.mem ((c.tc : Thread Cert.KernelScanBwdIdeal.nD Cert.KernelScanBwdIdeal.τ).loc Cert.KernelScanBwdIdeal.main_arg0) = m ((c.tc : Thread Cert.KernelScanBwdIdeal.nD Cert.KernelScanBwdIdeal.τ).loc Cert.KernelScanBwdIdeal.main_arg0)
      ∧ r.2.mem ((c.tc : Thread Cert.KernelScanBwdIdeal.nD Cert.KernelScanBwdIdeal.τ).loc Cert.KernelScanBwdIdeal.main_arg1) = m ((c.tc : Thread Cert.KernelScanBwdIdeal.nD Cert.KernelScanBwdIdeal.τ).loc Cert.KernelScanBwdIdeal.main_arg1))
      ∧ r.2.sem = fun _ => 0)

def quiescent_ReferenceScanBwdIdeal [hReferenceScanBwdIdeal : Cert.ReferenceScanBwdIdeal.Facts] : Prop :=
  ∀ (m : (ℓ : Loc Cert.ReferenceScanBwdIdeal.nD Cert.ReferenceScanBwdIdeal.τ Cert.ReferenceScanBwdIdeal.sig) → Buf (Elt Ideal) ℓ) (g : Dev Cert.ReferenceScanBwdIdeal.nD → PrngReg), Pre_ReferenceScanBwdIdeal m →
    θ_run (Cert.ReferenceScanBwdIdeal.defs (F := Ideal)) (onTc (τ := Cert.ReferenceScanBwdIdeal.τ) (Cert.ReferenceScanBwdIdeal.main (F := Ideal))) ⟨m, fun _ => 0, g⟩ (fun r => (∀ c : Dev Cert.ReferenceScanBwdIdeal.nD,
      r.2.mem ((c.tc : Thread Cert.ReferenceScanBwdIdeal.nD Cert.ReferenceScanBwdIdeal.τ).loc Cert.ReferenceScanBwdIdeal.main_arg0) = m ((c.tc : Thread Cert.ReferenceScanBwdIdeal.nD Cert.ReferenceScanBwdIdeal.τ).loc Cert.ReferenceScanBwdIdeal.main_arg0)
      ∧ r.2.mem ((c.tc : Thread Cert.ReferenceScanBwdIdeal.nD Cert.ReferenceScanBwdIdeal.τ).loc Cert.ReferenceScanBwdIdeal.main_arg1) = m ((c.tc : Thread Cert.ReferenceScanBwdIdeal.nD Cert.ReferenceScanBwdIdeal.τ).loc Cert.ReferenceScanBwdIdeal.main_arg1))
      ∧ r.2.sem = fun _ => 0)

def quiescent_KernelScanFwd [hKernelScanFwd : Cert.KernelScanFwd.Facts] : Prop :=
  ∀ (m : (ℓ : Loc Cert.KernelScanFwd.nD Cert.KernelScanFwd.τ Cert.KernelScanFwd.sig) → Buf (Elt Bits) ℓ) (g : Dev Cert.KernelScanFwd.nD → PrngReg), Pre_KernelScanFwd m →
    θ_run (Cert.KernelScanFwd.defs (F := Bits)) (onTc (τ := Cert.KernelScanFwd.τ) (Cert.KernelScanFwd.main (F := Bits))) ⟨m, fun _ => 0, g⟩ (fun r => (∀ c : Dev Cert.KernelScanFwd.nD,
      r.2.mem ((c.tc : Thread Cert.KernelScanFwd.nD Cert.KernelScanFwd.τ).loc Cert.KernelScanFwd.main_arg0) = m ((c.tc : Thread Cert.KernelScanFwd.nD Cert.KernelScanFwd.τ).loc Cert.KernelScanFwd.main_arg0)
      ∧ r.2.mem ((c.tc : Thread Cert.KernelScanFwd.nD Cert.KernelScanFwd.τ).loc Cert.KernelScanFwd.main_arg1) = m ((c.tc : Thread Cert.KernelScanFwd.nD Cert.KernelScanFwd.τ).loc Cert.KernelScanFwd.main_arg1))
      ∧ r.2.sem = fun _ => 0)

def quiescent_KernelScanFwdIdeal [hKernelScanFwdIdeal : Cert.KernelScanFwdIdeal.Facts] : Prop :=
  ∀ (m : (ℓ : Loc Cert.KernelScanFwdIdeal.nD Cert.KernelScanFwdIdeal.τ Cert.KernelScanFwdIdeal.sig) → Buf (Elt Ideal) ℓ) (g : Dev Cert.KernelScanFwdIdeal.nD → PrngReg), Pre_KernelScanFwdIdeal m →
    θ_run (Cert.KernelScanFwdIdeal.defs (F := Ideal)) (onTc (τ := Cert.KernelScanFwdIdeal.τ) (Cert.KernelScanFwdIdeal.main (F := Ideal))) ⟨m, fun _ => 0, g⟩ (fun r => (∀ c : Dev Cert.KernelScanFwdIdeal.nD,
      r.2.mem ((c.tc : Thread Cert.KernelScanFwdIdeal.nD Cert.KernelScanFwdIdeal.τ).loc Cert.KernelScanFwdIdeal.main_arg0) = m ((c.tc : Thread Cert.KernelScanFwdIdeal.nD Cert.KernelScanFwdIdeal.τ).loc Cert.KernelScanFwdIdeal.main_arg0)
      ∧ r.2.mem ((c.tc : Thread Cert.KernelScanFwdIdeal.nD Cert.KernelScanFwdIdeal.τ).loc Cert.KernelScanFwdIdeal.main_arg1) = m ((c.tc : Thread Cert.KernelScanFwdIdeal.nD Cert.KernelScanFwdIdeal.τ).loc Cert.KernelScanFwdIdeal.main_arg1))
      ∧ r.2.sem = fun _ => 0)

def quiescent_ReferenceScanFwdIdeal [hReferenceScanFwdIdeal : Cert.ReferenceScanFwdIdeal.Facts] : Prop :=
  ∀ (m : (ℓ : Loc Cert.ReferenceScanFwdIdeal.nD Cert.ReferenceScanFwdIdeal.τ Cert.ReferenceScanFwdIdeal.sig) → Buf (Elt Ideal) ℓ) (g : Dev Cert.ReferenceScanFwdIdeal.nD → PrngReg), Pre_ReferenceScanFwdIdeal m →
    θ_run (Cert.ReferenceScanFwdIdeal.defs (F := Ideal)) (onTc (τ := Cert.ReferenceScanFwdIdeal.τ) (Cert.ReferenceScanFwdIdeal.main (F := Ideal))) ⟨m, fun _ => 0, g⟩ (fun r => (∀ c : Dev Cert.ReferenceScanFwdIdeal.nD,
      r.2.mem ((c.tc : Thread Cert.ReferenceScanFwdIdeal.nD Cert.ReferenceScanFwdIdeal.τ).loc Cert.ReferenceScanFwdIdeal.main_arg0) = m ((c.tc : Thread Cert.ReferenceScanFwdIdeal.nD Cert.ReferenceScanFwdIdeal.τ).loc Cert.ReferenceScanFwdIdeal.main_arg0)
      ∧ r.2.mem ((c.tc : Thread Cert.ReferenceScanFwdIdeal.nD Cert.ReferenceScanFwdIdeal.τ).loc Cert.ReferenceScanFwdIdeal.main_arg1) = m ((c.tc : Thread Cert.ReferenceScanFwdIdeal.nD Cert.ReferenceScanFwdIdeal.τ).loc Cert.ReferenceScanFwdIdeal.main_arg1))
      ∧ r.2.sem = fun _ => 0)

def quiescent_KernelConvBwd [hKernelConvBwd : Cert.KernelConvBwd.Facts] : Prop :=
  ∀ (m : (ℓ : Loc Cert.KernelConvBwd.nD Cert.KernelConvBwd.τ Cert.KernelConvBwd.sig) → Buf (Elt Bits) ℓ) (g : Dev Cert.KernelConvBwd.nD → PrngReg), Pre_KernelConvBwd m →
    θ_run (Cert.KernelConvBwd.defs (F := Bits)) (onTc (τ := Cert.KernelConvBwd.τ) (Cert.KernelConvBwd.main (F := Bits))) ⟨m, fun _ => 0, g⟩ (fun r => (∀ c : Dev Cert.KernelConvBwd.nD,
      r.2.mem ((c.tc : Thread Cert.KernelConvBwd.nD Cert.KernelConvBwd.τ).loc Cert.KernelConvBwd.main_arg0) = m ((c.tc : Thread Cert.KernelConvBwd.nD Cert.KernelConvBwd.τ).loc Cert.KernelConvBwd.main_arg0)
      ∧ r.2.mem ((c.tc : Thread Cert.KernelConvBwd.nD Cert.KernelConvBwd.τ).loc Cert.KernelConvBwd.main_arg1) = m ((c.tc : Thread Cert.KernelConvBwd.nD Cert.KernelConvBwd.τ).loc Cert.KernelConvBwd.main_arg1)
      ∧ r.2.mem ((c.tc : Thread Cert.KernelConvBwd.nD Cert.KernelConvBwd.τ).loc Cert.KernelConvBwd.main_arg2) = m ((c.tc : Thread Cert.KernelConvBwd.nD Cert.KernelConvBwd.τ).loc Cert.KernelConvBwd.main_arg2))
      ∧ r.2.sem = fun _ => 0)

def quiescent_KernelConvBwdIdeal [hKernelConvBwdIdeal : Cert.KernelConvBwdIdeal.Facts] : Prop :=
  ∀ (m : (ℓ : Loc Cert.KernelConvBwdIdeal.nD Cert.KernelConvBwdIdeal.τ Cert.KernelConvBwdIdeal.sig) → Buf (Elt Ideal) ℓ) (g : Dev Cert.KernelConvBwdIdeal.nD → PrngReg), Pre_KernelConvBwdIdeal m →
    θ_run (Cert.KernelConvBwdIdeal.defs (F := Ideal)) (onTc (τ := Cert.KernelConvBwdIdeal.τ) (Cert.KernelConvBwdIdeal.main (F := Ideal))) ⟨m, fun _ => 0, g⟩ (fun r => (∀ c : Dev Cert.KernelConvBwdIdeal.nD,
      r.2.mem ((c.tc : Thread Cert.KernelConvBwdIdeal.nD Cert.KernelConvBwdIdeal.τ).loc Cert.KernelConvBwdIdeal.main_arg0) = m ((c.tc : Thread Cert.KernelConvBwdIdeal.nD Cert.KernelConvBwdIdeal.τ).loc Cert.KernelConvBwdIdeal.main_arg0)
      ∧ r.2.mem ((c.tc : Thread Cert.KernelConvBwdIdeal.nD Cert.KernelConvBwdIdeal.τ).loc Cert.KernelConvBwdIdeal.main_arg1) = m ((c.tc : Thread Cert.KernelConvBwdIdeal.nD Cert.KernelConvBwdIdeal.τ).loc Cert.KernelConvBwdIdeal.main_arg1)
      ∧ r.2.mem ((c.tc : Thread Cert.KernelConvBwdIdeal.nD Cert.KernelConvBwdIdeal.τ).loc Cert.KernelConvBwdIdeal.main_arg2) = m ((c.tc : Thread Cert.KernelConvBwdIdeal.nD Cert.KernelConvBwdIdeal.τ).loc Cert.KernelConvBwdIdeal.main_arg2))
      ∧ r.2.sem = fun _ => 0)

def quiescent_ReferenceConvBwdIdeal [hReferenceConvBwdIdeal : Cert.ReferenceConvBwdIdeal.Facts] : Prop :=
  ∀ (m : (ℓ : Loc Cert.ReferenceConvBwdIdeal.nD Cert.ReferenceConvBwdIdeal.τ Cert.ReferenceConvBwdIdeal.sig) → Buf (Elt Ideal) ℓ) (g : Dev Cert.ReferenceConvBwdIdeal.nD → PrngReg), Pre_ReferenceConvBwdIdeal m →
    θ_run (Cert.ReferenceConvBwdIdeal.defs (F := Ideal)) (onTc (τ := Cert.ReferenceConvBwdIdeal.τ) (Cert.ReferenceConvBwdIdeal.main (F := Ideal))) ⟨m, fun _ => 0, g⟩ (fun r => (∀ c : Dev Cert.ReferenceConvBwdIdeal.nD,
      r.2.mem ((c.tc : Thread Cert.ReferenceConvBwdIdeal.nD Cert.ReferenceConvBwdIdeal.τ).loc Cert.ReferenceConvBwdIdeal.main_arg0) = m ((c.tc : Thread Cert.ReferenceConvBwdIdeal.nD Cert.ReferenceConvBwdIdeal.τ).loc Cert.ReferenceConvBwdIdeal.main_arg0)
      ∧ r.2.mem ((c.tc : Thread Cert.ReferenceConvBwdIdeal.nD Cert.ReferenceConvBwdIdeal.τ).loc Cert.ReferenceConvBwdIdeal.main_arg1) = m ((c.tc : Thread Cert.ReferenceConvBwdIdeal.nD Cert.ReferenceConvBwdIdeal.τ).loc Cert.ReferenceConvBwdIdeal.main_arg1)
      ∧ r.2.mem ((c.tc : Thread Cert.ReferenceConvBwdIdeal.nD Cert.ReferenceConvBwdIdeal.τ).loc Cert.ReferenceConvBwdIdeal.main_arg2) = m ((c.tc : Thread Cert.ReferenceConvBwdIdeal.nD Cert.ReferenceConvBwdIdeal.τ).loc Cert.ReferenceConvBwdIdeal.main_arg2))
      ∧ r.2.sem = fun _ => 0)

def quiescent_KernelConvBwdX [hKernelConvBwdX : Cert.KernelConvBwdX.Facts] : Prop :=
  ∀ (m : (ℓ : Loc Cert.KernelConvBwdX.nD Cert.KernelConvBwdX.τ Cert.KernelConvBwdX.sig) → Buf (Elt Bits) ℓ) (g : Dev Cert.KernelConvBwdX.nD → PrngReg), Pre_KernelConvBwdX m →
    θ_run (Cert.KernelConvBwdX.defs (F := Bits)) (onTc (τ := Cert.KernelConvBwdX.τ) (Cert.KernelConvBwdX.main (F := Bits))) ⟨m, fun _ => 0, g⟩ (fun r => (∀ c : Dev Cert.KernelConvBwdX.nD,
      r.2.mem ((c.tc : Thread Cert.KernelConvBwdX.nD Cert.KernelConvBwdX.τ).loc Cert.KernelConvBwdX.main_arg0) = m ((c.tc : Thread Cert.KernelConvBwdX.nD Cert.KernelConvBwdX.τ).loc Cert.KernelConvBwdX.main_arg0)
      ∧ r.2.mem ((c.tc : Thread Cert.KernelConvBwdX.nD Cert.KernelConvBwdX.τ).loc Cert.KernelConvBwdX.main_arg1) = m ((c.tc : Thread Cert.KernelConvBwdX.nD Cert.KernelConvBwdX.τ).loc Cert.KernelConvBwdX.main_arg1)
      ∧ r.2.mem ((c.tc : Thread Cert.KernelConvBwdX.nD Cert.KernelConvBwdX.τ).loc Cert.KernelConvBwdX.main_arg2) = m ((c.tc : Thread Cert.KernelConvBwdX.nD Cert.KernelConvBwdX.τ).loc Cert.KernelConvBwdX.main_arg2))
      ∧ r.2.sem = fun _ => 0)

def quiescent_KernelConvBwdXIdeal [hKernelConvBwdXIdeal : Cert.KernelConvBwdXIdeal.Facts] : Prop :=
  ∀ (m : (ℓ : Loc Cert.KernelConvBwdXIdeal.nD Cert.KernelConvBwdXIdeal.τ Cert.KernelConvBwdXIdeal.sig) → Buf (Elt Ideal) ℓ) (g : Dev Cert.KernelConvBwdXIdeal.nD → PrngReg), Pre_KernelConvBwdXIdeal m →
    θ_run (Cert.KernelConvBwdXIdeal.defs (F := Ideal)) (onTc (τ := Cert.KernelConvBwdXIdeal.τ) (Cert.KernelConvBwdXIdeal.main (F := Ideal))) ⟨m, fun _ => 0, g⟩ (fun r => (∀ c : Dev Cert.KernelConvBwdXIdeal.nD,
      r.2.mem ((c.tc : Thread Cert.KernelConvBwdXIdeal.nD Cert.KernelConvBwdXIdeal.τ).loc Cert.KernelConvBwdXIdeal.main_arg0) = m ((c.tc : Thread Cert.KernelConvBwdXIdeal.nD Cert.KernelConvBwdXIdeal.τ).loc Cert.KernelConvBwdXIdeal.main_arg0)
      ∧ r.2.mem ((c.tc : Thread Cert.KernelConvBwdXIdeal.nD Cert.KernelConvBwdXIdeal.τ).loc Cert.KernelConvBwdXIdeal.main_arg1) = m ((c.tc : Thread Cert.KernelConvBwdXIdeal.nD Cert.KernelConvBwdXIdeal.τ).loc Cert.KernelConvBwdXIdeal.main_arg1)
      ∧ r.2.mem ((c.tc : Thread Cert.KernelConvBwdXIdeal.nD Cert.KernelConvBwdXIdeal.τ).loc Cert.KernelConvBwdXIdeal.main_arg2) = m ((c.tc : Thread Cert.KernelConvBwdXIdeal.nD Cert.KernelConvBwdXIdeal.τ).loc Cert.KernelConvBwdXIdeal.main_arg2))
      ∧ r.2.sem = fun _ => 0)

def quiescent_ReferenceConvBwdXIdeal [hReferenceConvBwdXIdeal : Cert.ReferenceConvBwdXIdeal.Facts] : Prop :=
  ∀ (m : (ℓ : Loc Cert.ReferenceConvBwdXIdeal.nD Cert.ReferenceConvBwdXIdeal.τ Cert.ReferenceConvBwdXIdeal.sig) → Buf (Elt Ideal) ℓ) (g : Dev Cert.ReferenceConvBwdXIdeal.nD → PrngReg), Pre_ReferenceConvBwdXIdeal m →
    θ_run (Cert.ReferenceConvBwdXIdeal.defs (F := Ideal)) (onTc (τ := Cert.ReferenceConvBwdXIdeal.τ) (Cert.ReferenceConvBwdXIdeal.main (F := Ideal))) ⟨m, fun _ => 0, g⟩ (fun r => (∀ c : Dev Cert.ReferenceConvBwdXIdeal.nD,
      r.2.mem ((c.tc : Thread Cert.ReferenceConvBwdXIdeal.nD Cert.ReferenceConvBwdXIdeal.τ).loc Cert.ReferenceConvBwdXIdeal.main_arg0) = m ((c.tc : Thread Cert.ReferenceConvBwdXIdeal.nD Cert.ReferenceConvBwdXIdeal.τ).loc Cert.ReferenceConvBwdXIdeal.main_arg0)
      ∧ r.2.mem ((c.tc : Thread Cert.ReferenceConvBwdXIdeal.nD Cert.ReferenceConvBwdXIdeal.τ).loc Cert.ReferenceConvBwdXIdeal.main_arg1) = m ((c.tc : Thread Cert.ReferenceConvBwdXIdeal.nD Cert.ReferenceConvBwdXIdeal.τ).loc Cert.ReferenceConvBwdXIdeal.main_arg1)
      ∧ r.2.mem ((c.tc : Thread Cert.ReferenceConvBwdXIdeal.nD Cert.ReferenceConvBwdXIdeal.τ).loc Cert.ReferenceConvBwdXIdeal.main_arg2) = m ((c.tc : Thread Cert.ReferenceConvBwdXIdeal.nD Cert.ReferenceConvBwdXIdeal.τ).loc Cert.ReferenceConvBwdXIdeal.main_arg2))
      ∧ r.2.sem = fun _ => 0)

def quiescent_KernelConvFwd [hKernelConvFwd : Cert.KernelConvFwd.Facts] : Prop :=
  ∀ (m : (ℓ : Loc Cert.KernelConvFwd.nD Cert.KernelConvFwd.τ Cert.KernelConvFwd.sig) → Buf (Elt Bits) ℓ) (g : Dev Cert.KernelConvFwd.nD → PrngReg), Pre_KernelConvFwd m →
    θ_run (Cert.KernelConvFwd.defs (F := Bits)) (onTc (τ := Cert.KernelConvFwd.τ) (Cert.KernelConvFwd.main (F := Bits))) ⟨m, fun _ => 0, g⟩ (fun r => (∀ c : Dev Cert.KernelConvFwd.nD,
      r.2.mem ((c.tc : Thread Cert.KernelConvFwd.nD Cert.KernelConvFwd.τ).loc Cert.KernelConvFwd.main_arg0) = m ((c.tc : Thread Cert.KernelConvFwd.nD Cert.KernelConvFwd.τ).loc Cert.KernelConvFwd.main_arg0)
      ∧ r.2.mem ((c.tc : Thread Cert.KernelConvFwd.nD Cert.KernelConvFwd.τ).loc Cert.KernelConvFwd.main_arg1) = m ((c.tc : Thread Cert.KernelConvFwd.nD Cert.KernelConvFwd.τ).loc Cert.KernelConvFwd.main_arg1)
      ∧ r.2.mem ((c.tc : Thread Cert.KernelConvFwd.nD Cert.KernelConvFwd.τ).loc Cert.KernelConvFwd.main_arg2) = m ((c.tc : Thread Cert.KernelConvFwd.nD Cert.KernelConvFwd.τ).loc Cert.KernelConvFwd.main_arg2))
      ∧ r.2.sem = fun _ => 0)

def quiescent_KernelConvFwdIdeal [hKernelConvFwdIdeal : Cert.KernelConvFwdIdeal.Facts] : Prop :=
  ∀ (m : (ℓ : Loc Cert.KernelConvFwdIdeal.nD Cert.KernelConvFwdIdeal.τ Cert.KernelConvFwdIdeal.sig) → Buf (Elt Ideal) ℓ) (g : Dev Cert.KernelConvFwdIdeal.nD → PrngReg), Pre_KernelConvFwdIdeal m →
    θ_run (Cert.KernelConvFwdIdeal.defs (F := Ideal)) (onTc (τ := Cert.KernelConvFwdIdeal.τ) (Cert.KernelConvFwdIdeal.main (F := Ideal))) ⟨m, fun _ => 0, g⟩ (fun r => (∀ c : Dev Cert.KernelConvFwdIdeal.nD,
      r.2.mem ((c.tc : Thread Cert.KernelConvFwdIdeal.nD Cert.KernelConvFwdIdeal.τ).loc Cert.KernelConvFwdIdeal.main_arg0) = m ((c.tc : Thread Cert.KernelConvFwdIdeal.nD Cert.KernelConvFwdIdeal.τ).loc Cert.KernelConvFwdIdeal.main_arg0)
      ∧ r.2.mem ((c.tc : Thread Cert.KernelConvFwdIdeal.nD Cert.KernelConvFwdIdeal.τ).loc Cert.KernelConvFwdIdeal.main_arg1) = m ((c.tc : Thread Cert.KernelConvFwdIdeal.nD Cert.KernelConvFwdIdeal.τ).loc Cert.KernelConvFwdIdeal.main_arg1)
      ∧ r.2.mem ((c.tc : Thread Cert.KernelConvFwdIdeal.nD Cert.KernelConvFwdIdeal.τ).loc Cert.KernelConvFwdIdeal.main_arg2) = m ((c.tc : Thread Cert.KernelConvFwdIdeal.nD Cert.KernelConvFwdIdeal.τ).loc Cert.KernelConvFwdIdeal.main_arg2))
      ∧ r.2.sem = fun _ => 0)

def quiescent_ReferenceConvFwdIdeal [hReferenceConvFwdIdeal : Cert.ReferenceConvFwdIdeal.Facts] : Prop :=
  ∀ (m : (ℓ : Loc Cert.ReferenceConvFwdIdeal.nD Cert.ReferenceConvFwdIdeal.τ Cert.ReferenceConvFwdIdeal.sig) → Buf (Elt Ideal) ℓ) (g : Dev Cert.ReferenceConvFwdIdeal.nD → PrngReg), Pre_ReferenceConvFwdIdeal m →
    θ_run (Cert.ReferenceConvFwdIdeal.defs (F := Ideal)) (onTc (τ := Cert.ReferenceConvFwdIdeal.τ) (Cert.ReferenceConvFwdIdeal.main (F := Ideal))) ⟨m, fun _ => 0, g⟩ (fun r => (∀ c : Dev Cert.ReferenceConvFwdIdeal.nD,
      r.2.mem ((c.tc : Thread Cert.ReferenceConvFwdIdeal.nD Cert.ReferenceConvFwdIdeal.τ).loc Cert.ReferenceConvFwdIdeal.main_arg0) = m ((c.tc : Thread Cert.ReferenceConvFwdIdeal.nD Cert.ReferenceConvFwdIdeal.τ).loc Cert.ReferenceConvFwdIdeal.main_arg0)
      ∧ r.2.mem ((c.tc : Thread Cert.ReferenceConvFwdIdeal.nD Cert.ReferenceConvFwdIdeal.τ).loc Cert.ReferenceConvFwdIdeal.main_arg1) = m ((c.tc : Thread Cert.ReferenceConvFwdIdeal.nD Cert.ReferenceConvFwdIdeal.τ).loc Cert.ReferenceConvFwdIdeal.main_arg1)
      ∧ r.2.mem ((c.tc : Thread Cert.ReferenceConvFwdIdeal.nD Cert.ReferenceConvFwdIdeal.τ).loc Cert.ReferenceConvFwdIdeal.main_arg2) = m ((c.tc : Thread Cert.ReferenceConvFwdIdeal.nD Cert.ReferenceConvFwdIdeal.τ).loc Cert.ReferenceConvFwdIdeal.main_arg2))
      ∧ r.2.sem = fun _ => 0)

def quiescent_KernelConvFwdX [hKernelConvFwdX : Cert.KernelConvFwdX.Facts] : Prop :=
  ∀ (m : (ℓ : Loc Cert.KernelConvFwdX.nD Cert.KernelConvFwdX.τ Cert.KernelConvFwdX.sig) → Buf (Elt Bits) ℓ) (g : Dev Cert.KernelConvFwdX.nD → PrngReg), Pre_KernelConvFwdX m →
    θ_run (Cert.KernelConvFwdX.defs (F := Bits)) (onTc (τ := Cert.KernelConvFwdX.τ) (Cert.KernelConvFwdX.main (F := Bits))) ⟨m, fun _ => 0, g⟩ (fun r => (∀ c : Dev Cert.KernelConvFwdX.nD,
      r.2.mem ((c.tc : Thread Cert.KernelConvFwdX.nD Cert.KernelConvFwdX.τ).loc Cert.KernelConvFwdX.main_arg0) = m ((c.tc : Thread Cert.KernelConvFwdX.nD Cert.KernelConvFwdX.τ).loc Cert.KernelConvFwdX.main_arg0)
      ∧ r.2.mem ((c.tc : Thread Cert.KernelConvFwdX.nD Cert.KernelConvFwdX.τ).loc Cert.KernelConvFwdX.main_arg1) = m ((c.tc : Thread Cert.KernelConvFwdX.nD Cert.KernelConvFwdX.τ).loc Cert.KernelConvFwdX.main_arg1)
      ∧ r.2.mem ((c.tc : Thread Cert.KernelConvFwdX.nD Cert.KernelConvFwdX.τ).loc Cert.KernelConvFwdX.main_arg2) = m ((c.tc : Thread Cert.KernelConvFwdX.nD Cert.KernelConvFwdX.τ).loc Cert.KernelConvFwdX.main_arg2))
      ∧ r.2.sem = fun _ => 0)

def quiescent_KernelConvFwdXIdeal [hKernelConvFwdXIdeal : Cert.KernelConvFwdXIdeal.Facts] : Prop :=
  ∀ (m : (ℓ : Loc Cert.KernelConvFwdXIdeal.nD Cert.KernelConvFwdXIdeal.τ Cert.KernelConvFwdXIdeal.sig) → Buf (Elt Ideal) ℓ) (g : Dev Cert.KernelConvFwdXIdeal.nD → PrngReg), Pre_KernelConvFwdXIdeal m →
    θ_run (Cert.KernelConvFwdXIdeal.defs (F := Ideal)) (onTc (τ := Cert.KernelConvFwdXIdeal.τ) (Cert.KernelConvFwdXIdeal.main (F := Ideal))) ⟨m, fun _ => 0, g⟩ (fun r => (∀ c : Dev Cert.KernelConvFwdXIdeal.nD,
      r.2.mem ((c.tc : Thread Cert.KernelConvFwdXIdeal.nD Cert.KernelConvFwdXIdeal.τ).loc Cert.KernelConvFwdXIdeal.main_arg0) = m ((c.tc : Thread Cert.KernelConvFwdXIdeal.nD Cert.KernelConvFwdXIdeal.τ).loc Cert.KernelConvFwdXIdeal.main_arg0)
      ∧ r.2.mem ((c.tc : Thread Cert.KernelConvFwdXIdeal.nD Cert.KernelConvFwdXIdeal.τ).loc Cert.KernelConvFwdXIdeal.main_arg1) = m ((c.tc : Thread Cert.KernelConvFwdXIdeal.nD Cert.KernelConvFwdXIdeal.τ).loc Cert.KernelConvFwdXIdeal.main_arg1)
      ∧ r.2.mem ((c.tc : Thread Cert.KernelConvFwdXIdeal.nD Cert.KernelConvFwdXIdeal.τ).loc Cert.KernelConvFwdXIdeal.main_arg2) = m ((c.tc : Thread Cert.KernelConvFwdXIdeal.nD Cert.KernelConvFwdXIdeal.τ).loc Cert.KernelConvFwdXIdeal.main_arg2))
      ∧ r.2.sem = fun _ => 0)

def quiescent_ReferenceConvFwdXIdeal [hReferenceConvFwdXIdeal : Cert.ReferenceConvFwdXIdeal.Facts] : Prop :=
  ∀ (m : (ℓ : Loc Cert.ReferenceConvFwdXIdeal.nD Cert.ReferenceConvFwdXIdeal.τ Cert.ReferenceConvFwdXIdeal.sig) → Buf (Elt Ideal) ℓ) (g : Dev Cert.ReferenceConvFwdXIdeal.nD → PrngReg), Pre_ReferenceConvFwdXIdeal m →
    θ_run (Cert.ReferenceConvFwdXIdeal.defs (F := Ideal)) (onTc (τ := Cert.ReferenceConvFwdXIdeal.τ) (Cert.ReferenceConvFwdXIdeal.main (F := Ideal))) ⟨m, fun _ => 0, g⟩ (fun r => (∀ c : Dev Cert.ReferenceConvFwdXIdeal.nD,
      r.2.mem ((c.tc : Thread Cert.ReferenceConvFwdXIdeal.nD Cert.ReferenceConvFwdXIdeal.τ).loc Cert.ReferenceConvFwdXIdeal.main_arg0) = m ((c.tc : Thread Cert.ReferenceConvFwdXIdeal.nD Cert.ReferenceConvFwdXIdeal.τ).loc Cert.ReferenceConvFwdXIdeal.main_arg0)
      ∧ r.2.mem ((c.tc : Thread Cert.ReferenceConvFwdXIdeal.nD Cert.ReferenceConvFwdXIdeal.τ).loc Cert.ReferenceConvFwdXIdeal.main_arg1) = m ((c.tc : Thread Cert.ReferenceConvFwdXIdeal.nD Cert.ReferenceConvFwdXIdeal.τ).loc Cert.ReferenceConvFwdXIdeal.main_arg1)
      ∧ r.2.mem ((c.tc : Thread Cert.ReferenceConvFwdXIdeal.nD Cert.ReferenceConvFwdXIdeal.τ).loc Cert.ReferenceConvFwdXIdeal.main_arg2) = m ((c.tc : Thread Cert.ReferenceConvFwdXIdeal.nD Cert.ReferenceConvFwdXIdeal.τ).loc Cert.ReferenceConvFwdXIdeal.main_arg2))
      ∧ r.2.sem = fun _ => 0)

def quiescent_KernelMergeBwd [hKernelMergeBwd : Cert.KernelMergeBwd.Facts] : Prop :=
  ∀ (m : (ℓ : Loc Cert.KernelMergeBwd.nD Cert.KernelMergeBwd.τ Cert.KernelMergeBwd.sig) → Buf (Elt Bits) ℓ) (g : Dev Cert.KernelMergeBwd.nD → PrngReg), Pre_KernelMergeBwd m →
    θ_run (Cert.KernelMergeBwd.defs (F := Bits)) (onTc (τ := Cert.KernelMergeBwd.τ) (Cert.KernelMergeBwd.main (F := Bits))) ⟨m, fun _ => 0, g⟩ (fun r => (∀ c : Dev Cert.KernelMergeBwd.nD,
      r.2.mem ((c.tc : Thread Cert.KernelMergeBwd.nD Cert.KernelMergeBwd.τ).loc Cert.KernelMergeBwd.main_arg0) = m ((c.tc : Thread Cert.KernelMergeBwd.nD Cert.KernelMergeBwd.τ).loc Cert.KernelMergeBwd.main_arg0)
      ∧ r.2.mem ((c.tc : Thread Cert.KernelMergeBwd.nD Cert.KernelMergeBwd.τ).loc Cert.KernelMergeBwd.main_arg1) = m ((c.tc : Thread Cert.KernelMergeBwd.nD Cert.KernelMergeBwd.τ).loc Cert.KernelMergeBwd.main_arg1)
      ∧ r.2.mem ((c.tc : Thread Cert.KernelMergeBwd.nD Cert.KernelMergeBwd.τ).loc Cert.KernelMergeBwd.main_arg2) = m ((c.tc : Thread Cert.KernelMergeBwd.nD Cert.KernelMergeBwd.τ).loc Cert.KernelMergeBwd.main_arg2)
      ∧ r.2.mem ((c.tc : Thread Cert.KernelMergeBwd.nD Cert.KernelMergeBwd.τ).loc Cert.KernelMergeBwd.main_arg3) = m ((c.tc : Thread Cert.KernelMergeBwd.nD Cert.KernelMergeBwd.τ).loc Cert.KernelMergeBwd.main_arg3)
      ∧ r.2.mem ((c.tc : Thread Cert.KernelMergeBwd.nD Cert.KernelMergeBwd.τ).loc Cert.KernelMergeBwd.main_arg4) = m ((c.tc : Thread Cert.KernelMergeBwd.nD Cert.KernelMergeBwd.τ).loc Cert.KernelMergeBwd.main_arg4))
      ∧ r.2.sem = fun _ => 0)

def quiescent_KernelMergeBwdIdeal [hKernelMergeBwdIdeal : Cert.KernelMergeBwdIdeal.Facts] : Prop :=
  ∀ (m : (ℓ : Loc Cert.KernelMergeBwdIdeal.nD Cert.KernelMergeBwdIdeal.τ Cert.KernelMergeBwdIdeal.sig) → Buf (Elt Ideal) ℓ) (g : Dev Cert.KernelMergeBwdIdeal.nD → PrngReg), Pre_KernelMergeBwdIdeal m →
    θ_run (Cert.KernelMergeBwdIdeal.defs (F := Ideal)) (onTc (τ := Cert.KernelMergeBwdIdeal.τ) (Cert.KernelMergeBwdIdeal.main (F := Ideal))) ⟨m, fun _ => 0, g⟩ (fun r => (∀ c : Dev Cert.KernelMergeBwdIdeal.nD,
      r.2.mem ((c.tc : Thread Cert.KernelMergeBwdIdeal.nD Cert.KernelMergeBwdIdeal.τ).loc Cert.KernelMergeBwdIdeal.main_arg0) = m ((c.tc : Thread Cert.KernelMergeBwdIdeal.nD Cert.KernelMergeBwdIdeal.τ).loc Cert.KernelMergeBwdIdeal.main_arg0)
      ∧ r.2.mem ((c.tc : Thread Cert.KernelMergeBwdIdeal.nD Cert.KernelMergeBwdIdeal.τ).loc Cert.KernelMergeBwdIdeal.main_arg1) = m ((c.tc : Thread Cert.KernelMergeBwdIdeal.nD Cert.KernelMergeBwdIdeal.τ).loc Cert.KernelMergeBwdIdeal.main_arg1)
      ∧ r.2.mem ((c.tc : Thread Cert.KernelMergeBwdIdeal.nD Cert.KernelMergeBwdIdeal.τ).loc Cert.KernelMergeBwdIdeal.main_arg2) = m ((c.tc : Thread Cert.KernelMergeBwdIdeal.nD Cert.KernelMergeBwdIdeal.τ).loc Cert.KernelMergeBwdIdeal.main_arg2)
      ∧ r.2.mem ((c.tc : Thread Cert.KernelMergeBwdIdeal.nD Cert.KernelMergeBwdIdeal.τ).loc Cert.KernelMergeBwdIdeal.main_arg3) = m ((c.tc : Thread Cert.KernelMergeBwdIdeal.nD Cert.KernelMergeBwdIdeal.τ).loc Cert.KernelMergeBwdIdeal.main_arg3)
      ∧ r.2.mem ((c.tc : Thread Cert.KernelMergeBwdIdeal.nD Cert.KernelMergeBwdIdeal.τ).loc Cert.KernelMergeBwdIdeal.main_arg4) = m ((c.tc : Thread Cert.KernelMergeBwdIdeal.nD Cert.KernelMergeBwdIdeal.τ).loc Cert.KernelMergeBwdIdeal.main_arg4))
      ∧ r.2.sem = fun _ => 0)

def quiescent_ReferenceMergeBwdIdeal [hReferenceMergeBwdIdeal : Cert.ReferenceMergeBwdIdeal.Facts] : Prop :=
  ∀ (m : (ℓ : Loc Cert.ReferenceMergeBwdIdeal.nD Cert.ReferenceMergeBwdIdeal.τ Cert.ReferenceMergeBwdIdeal.sig) → Buf (Elt Ideal) ℓ) (g : Dev Cert.ReferenceMergeBwdIdeal.nD → PrngReg), Pre_ReferenceMergeBwdIdeal m →
    θ_run (Cert.ReferenceMergeBwdIdeal.defs (F := Ideal)) (onTc (τ := Cert.ReferenceMergeBwdIdeal.τ) (Cert.ReferenceMergeBwdIdeal.main (F := Ideal))) ⟨m, fun _ => 0, g⟩ (fun r => (∀ c : Dev Cert.ReferenceMergeBwdIdeal.nD,
      r.2.mem ((c.tc : Thread Cert.ReferenceMergeBwdIdeal.nD Cert.ReferenceMergeBwdIdeal.τ).loc Cert.ReferenceMergeBwdIdeal.main_arg0) = m ((c.tc : Thread Cert.ReferenceMergeBwdIdeal.nD Cert.ReferenceMergeBwdIdeal.τ).loc Cert.ReferenceMergeBwdIdeal.main_arg0)
      ∧ r.2.mem ((c.tc : Thread Cert.ReferenceMergeBwdIdeal.nD Cert.ReferenceMergeBwdIdeal.τ).loc Cert.ReferenceMergeBwdIdeal.main_arg1) = m ((c.tc : Thread Cert.ReferenceMergeBwdIdeal.nD Cert.ReferenceMergeBwdIdeal.τ).loc Cert.ReferenceMergeBwdIdeal.main_arg1)
      ∧ r.2.mem ((c.tc : Thread Cert.ReferenceMergeBwdIdeal.nD Cert.ReferenceMergeBwdIdeal.τ).loc Cert.ReferenceMergeBwdIdeal.main_arg2) = m ((c.tc : Thread Cert.ReferenceMergeBwdIdeal.nD Cert.ReferenceMergeBwdIdeal.τ).loc Cert.ReferenceMergeBwdIdeal.main_arg2)
      ∧ r.2.mem ((c.tc : Thread Cert.ReferenceMergeBwdIdeal.nD Cert.ReferenceMergeBwdIdeal.τ).loc Cert.ReferenceMergeBwdIdeal.main_arg3) = m ((c.tc : Thread Cert.ReferenceMergeBwdIdeal.nD Cert.ReferenceMergeBwdIdeal.τ).loc Cert.ReferenceMergeBwdIdeal.main_arg3)
      ∧ r.2.mem ((c.tc : Thread Cert.ReferenceMergeBwdIdeal.nD Cert.ReferenceMergeBwdIdeal.τ).loc Cert.ReferenceMergeBwdIdeal.main_arg4) = m ((c.tc : Thread Cert.ReferenceMergeBwdIdeal.nD Cert.ReferenceMergeBwdIdeal.τ).loc Cert.ReferenceMergeBwdIdeal.main_arg4))
      ∧ r.2.sem = fun _ => 0)

def quiescent_KernelMergeFwd [hKernelMergeFwd : Cert.KernelMergeFwd.Facts] : Prop :=
  ∀ (m : (ℓ : Loc Cert.KernelMergeFwd.nD Cert.KernelMergeFwd.τ Cert.KernelMergeFwd.sig) → Buf (Elt Bits) ℓ) (g : Dev Cert.KernelMergeFwd.nD → PrngReg), Pre_KernelMergeFwd m →
    θ_run (Cert.KernelMergeFwd.defs (F := Bits)) (onTc (τ := Cert.KernelMergeFwd.τ) (Cert.KernelMergeFwd.main (F := Bits))) ⟨m, fun _ => 0, g⟩ (fun r => (∀ c : Dev Cert.KernelMergeFwd.nD,
      r.2.mem ((c.tc : Thread Cert.KernelMergeFwd.nD Cert.KernelMergeFwd.τ).loc Cert.KernelMergeFwd.main_arg0) = m ((c.tc : Thread Cert.KernelMergeFwd.nD Cert.KernelMergeFwd.τ).loc Cert.KernelMergeFwd.main_arg0)
      ∧ r.2.mem ((c.tc : Thread Cert.KernelMergeFwd.nD Cert.KernelMergeFwd.τ).loc Cert.KernelMergeFwd.main_arg1) = m ((c.tc : Thread Cert.KernelMergeFwd.nD Cert.KernelMergeFwd.τ).loc Cert.KernelMergeFwd.main_arg1)
      ∧ r.2.mem ((c.tc : Thread Cert.KernelMergeFwd.nD Cert.KernelMergeFwd.τ).loc Cert.KernelMergeFwd.main_arg2) = m ((c.tc : Thread Cert.KernelMergeFwd.nD Cert.KernelMergeFwd.τ).loc Cert.KernelMergeFwd.main_arg2)
      ∧ r.2.mem ((c.tc : Thread Cert.KernelMergeFwd.nD Cert.KernelMergeFwd.τ).loc Cert.KernelMergeFwd.main_arg3) = m ((c.tc : Thread Cert.KernelMergeFwd.nD Cert.KernelMergeFwd.τ).loc Cert.KernelMergeFwd.main_arg3))
      ∧ r.2.sem = fun _ => 0)

def quiescent_KernelMergeFwdIdeal [hKernelMergeFwdIdeal : Cert.KernelMergeFwdIdeal.Facts] : Prop :=
  ∀ (m : (ℓ : Loc Cert.KernelMergeFwdIdeal.nD Cert.KernelMergeFwdIdeal.τ Cert.KernelMergeFwdIdeal.sig) → Buf (Elt Ideal) ℓ) (g : Dev Cert.KernelMergeFwdIdeal.nD → PrngReg), Pre_KernelMergeFwdIdeal m →
    θ_run (Cert.KernelMergeFwdIdeal.defs (F := Ideal)) (onTc (τ := Cert.KernelMergeFwdIdeal.τ) (Cert.KernelMergeFwdIdeal.main (F := Ideal))) ⟨m, fun _ => 0, g⟩ (fun r => (∀ c : Dev Cert.KernelMergeFwdIdeal.nD,
      r.2.mem ((c.tc : Thread Cert.KernelMergeFwdIdeal.nD Cert.KernelMergeFwdIdeal.τ).loc Cert.KernelMergeFwdIdeal.main_arg0) = m ((c.tc : Thread Cert.KernelMergeFwdIdeal.nD Cert.KernelMergeFwdIdeal.τ).loc Cert.KernelMergeFwdIdeal.main_arg0)
      ∧ r.2.mem ((c.tc : Thread Cert.KernelMergeFwdIdeal.nD Cert.KernelMergeFwdIdeal.τ).loc Cert.KernelMergeFwdIdeal.main_arg1) = m ((c.tc : Thread Cert.KernelMergeFwdIdeal.nD Cert.KernelMergeFwdIdeal.τ).loc Cert.KernelMergeFwdIdeal.main_arg1)
      ∧ r.2.mem ((c.tc : Thread Cert.KernelMergeFwdIdeal.nD Cert.KernelMergeFwdIdeal.τ).loc Cert.KernelMergeFwdIdeal.main_arg2) = m ((c.tc : Thread Cert.KernelMergeFwdIdeal.nD Cert.KernelMergeFwdIdeal.τ).loc Cert.KernelMergeFwdIdeal.main_arg2)
      ∧ r.2.mem ((c.tc : Thread Cert.KernelMergeFwdIdeal.nD Cert.KernelMergeFwdIdeal.τ).loc Cert.KernelMergeFwdIdeal.main_arg3) = m ((c.tc : Thread Cert.KernelMergeFwdIdeal.nD Cert.KernelMergeFwdIdeal.τ).loc Cert.KernelMergeFwdIdeal.main_arg3))
      ∧ r.2.sem = fun _ => 0)

def quiescent_ReferenceMergeFwdIdeal [hReferenceMergeFwdIdeal : Cert.ReferenceMergeFwdIdeal.Facts] : Prop :=
  ∀ (m : (ℓ : Loc Cert.ReferenceMergeFwdIdeal.nD Cert.ReferenceMergeFwdIdeal.τ Cert.ReferenceMergeFwdIdeal.sig) → Buf (Elt Ideal) ℓ) (g : Dev Cert.ReferenceMergeFwdIdeal.nD → PrngReg), Pre_ReferenceMergeFwdIdeal m →
    θ_run (Cert.ReferenceMergeFwdIdeal.defs (F := Ideal)) (onTc (τ := Cert.ReferenceMergeFwdIdeal.τ) (Cert.ReferenceMergeFwdIdeal.main (F := Ideal))) ⟨m, fun _ => 0, g⟩ (fun r => (∀ c : Dev Cert.ReferenceMergeFwdIdeal.nD,
      r.2.mem ((c.tc : Thread Cert.ReferenceMergeFwdIdeal.nD Cert.ReferenceMergeFwdIdeal.τ).loc Cert.ReferenceMergeFwdIdeal.main_arg0) = m ((c.tc : Thread Cert.ReferenceMergeFwdIdeal.nD Cert.ReferenceMergeFwdIdeal.τ).loc Cert.ReferenceMergeFwdIdeal.main_arg0)
      ∧ r.2.mem ((c.tc : Thread Cert.ReferenceMergeFwdIdeal.nD Cert.ReferenceMergeFwdIdeal.τ).loc Cert.ReferenceMergeFwdIdeal.main_arg1) = m ((c.tc : Thread Cert.ReferenceMergeFwdIdeal.nD Cert.ReferenceMergeFwdIdeal.τ).loc Cert.ReferenceMergeFwdIdeal.main_arg1)
      ∧ r.2.mem ((c.tc : Thread Cert.ReferenceMergeFwdIdeal.nD Cert.ReferenceMergeFwdIdeal.τ).loc Cert.ReferenceMergeFwdIdeal.main_arg2) = m ((c.tc : Thread Cert.ReferenceMergeFwdIdeal.nD Cert.ReferenceMergeFwdIdeal.τ).loc Cert.ReferenceMergeFwdIdeal.main_arg2)
      ∧ r.2.mem ((c.tc : Thread Cert.ReferenceMergeFwdIdeal.nD Cert.ReferenceMergeFwdIdeal.τ).loc Cert.ReferenceMergeFwdIdeal.main_arg3) = m ((c.tc : Thread Cert.ReferenceMergeFwdIdeal.nD Cert.ReferenceMergeFwdIdeal.τ).loc Cert.ReferenceMergeFwdIdeal.main_arg3))
      ∧ r.2.sem = fun _ => 0)

def quiescent_KernelActBwd [hKernelActBwd : Cert.KernelActBwd.Facts] : Prop :=
  ∀ (m : (ℓ : Loc Cert.KernelActBwd.nD Cert.KernelActBwd.τ Cert.KernelActBwd.sig) → Buf (Elt Bits) ℓ) (g : Dev Cert.KernelActBwd.nD → PrngReg), Pre_KernelActBwd m →
    θ_run (Cert.KernelActBwd.defs (F := Bits)) (onTc (τ := Cert.KernelActBwd.τ) (Cert.KernelActBwd.main (F := Bits))) ⟨m, fun _ => 0, g⟩ (fun r => (∀ c : Dev Cert.KernelActBwd.nD,
      r.2.mem ((c.tc : Thread Cert.KernelActBwd.nD Cert.KernelActBwd.τ).loc Cert.KernelActBwd.main_arg0) = m ((c.tc : Thread Cert.KernelActBwd.nD Cert.KernelActBwd.τ).loc Cert.KernelActBwd.main_arg0)
      ∧ r.2.mem ((c.tc : Thread Cert.KernelActBwd.nD Cert.KernelActBwd.τ).loc Cert.KernelActBwd.main_arg1) = m ((c.tc : Thread Cert.KernelActBwd.nD Cert.KernelActBwd.τ).loc Cert.KernelActBwd.main_arg1))
      ∧ r.2.sem = fun _ => 0)

def quiescent_KernelActBwdIdeal [hKernelActBwdIdeal : Cert.KernelActBwdIdeal.Facts] : Prop :=
  ∀ (m : (ℓ : Loc Cert.KernelActBwdIdeal.nD Cert.KernelActBwdIdeal.τ Cert.KernelActBwdIdeal.sig) → Buf (Elt Ideal) ℓ) (g : Dev Cert.KernelActBwdIdeal.nD → PrngReg), Pre_KernelActBwdIdeal m →
    θ_run (Cert.KernelActBwdIdeal.defs (F := Ideal)) (onTc (τ := Cert.KernelActBwdIdeal.τ) (Cert.KernelActBwdIdeal.main (F := Ideal))) ⟨m, fun _ => 0, g⟩ (fun r => (∀ c : Dev Cert.KernelActBwdIdeal.nD,
      r.2.mem ((c.tc : Thread Cert.KernelActBwdIdeal.nD Cert.KernelActBwdIdeal.τ).loc Cert.KernelActBwdIdeal.main_arg0) = m ((c.tc : Thread Cert.KernelActBwdIdeal.nD Cert.KernelActBwdIdeal.τ).loc Cert.KernelActBwdIdeal.main_arg0)
      ∧ r.2.mem ((c.tc : Thread Cert.KernelActBwdIdeal.nD Cert.KernelActBwdIdeal.τ).loc Cert.KernelActBwdIdeal.main_arg1) = m ((c.tc : Thread Cert.KernelActBwdIdeal.nD Cert.KernelActBwdIdeal.τ).loc Cert.KernelActBwdIdeal.main_arg1))
      ∧ r.2.sem = fun _ => 0)

def quiescent_ReferenceActBwdIdeal [hReferenceActBwdIdeal : Cert.ReferenceActBwdIdeal.Facts] : Prop :=
  ∀ (m : (ℓ : Loc Cert.ReferenceActBwdIdeal.nD Cert.ReferenceActBwdIdeal.τ Cert.ReferenceActBwdIdeal.sig) → Buf (Elt Ideal) ℓ) (g : Dev Cert.ReferenceActBwdIdeal.nD → PrngReg), Pre_ReferenceActBwdIdeal m →
    θ_run (Cert.ReferenceActBwdIdeal.defs (F := Ideal)) (onTc (τ := Cert.ReferenceActBwdIdeal.τ) (Cert.ReferenceActBwdIdeal.main (F := Ideal))) ⟨m, fun _ => 0, g⟩ (fun r => (∀ c : Dev Cert.ReferenceActBwdIdeal.nD,
      r.2.mem ((c.tc : Thread Cert.ReferenceActBwdIdeal.nD Cert.ReferenceActBwdIdeal.τ).loc Cert.ReferenceActBwdIdeal.main_arg0) = m ((c.tc : Thread Cert.ReferenceActBwdIdeal.nD Cert.ReferenceActBwdIdeal.τ).loc Cert.ReferenceActBwdIdeal.main_arg0)
      ∧ r.2.mem ((c.tc : Thread Cert.ReferenceActBwdIdeal.nD Cert.ReferenceActBwdIdeal.τ).loc Cert.ReferenceActBwdIdeal.main_arg1) = m ((c.tc : Thread Cert.ReferenceActBwdIdeal.nD Cert.ReferenceActBwdIdeal.τ).loc Cert.ReferenceActBwdIdeal.main_arg1))
      ∧ r.2.sem = fun _ => 0)

def quiescent_KernelRmsBwd [hKernelRmsBwd : Cert.KernelRmsBwd.Facts] : Prop :=
  ∀ (m : (ℓ : Loc Cert.KernelRmsBwd.nD Cert.KernelRmsBwd.τ Cert.KernelRmsBwd.sig) → Buf (Elt Bits) ℓ) (g : Dev Cert.KernelRmsBwd.nD → PrngReg), Pre_KernelRmsBwd m →
    θ_run (Cert.KernelRmsBwd.defs (F := Bits)) (onTc (τ := Cert.KernelRmsBwd.τ) (Cert.KernelRmsBwd.main (F := Bits))) ⟨m, fun _ => 0, g⟩ (fun r => (∀ c : Dev Cert.KernelRmsBwd.nD,
      r.2.mem ((c.tc : Thread Cert.KernelRmsBwd.nD Cert.KernelRmsBwd.τ).loc Cert.KernelRmsBwd.main_arg0) = m ((c.tc : Thread Cert.KernelRmsBwd.nD Cert.KernelRmsBwd.τ).loc Cert.KernelRmsBwd.main_arg0)
      ∧ r.2.mem ((c.tc : Thread Cert.KernelRmsBwd.nD Cert.KernelRmsBwd.τ).loc Cert.KernelRmsBwd.main_arg1) = m ((c.tc : Thread Cert.KernelRmsBwd.nD Cert.KernelRmsBwd.τ).loc Cert.KernelRmsBwd.main_arg1)
      ∧ r.2.mem ((c.tc : Thread Cert.KernelRmsBwd.nD Cert.KernelRmsBwd.τ).loc Cert.KernelRmsBwd.main_arg2) = m ((c.tc : Thread Cert.KernelRmsBwd.nD Cert.KernelRmsBwd.τ).loc Cert.KernelRmsBwd.main_arg2)
      ∧ r.2.mem ((c.tc : Thread Cert.KernelRmsBwd.nD Cert.KernelRmsBwd.τ).loc Cert.KernelRmsBwd.main_arg3) = m ((c.tc : Thread Cert.KernelRmsBwd.nD Cert.KernelRmsBwd.τ).loc Cert.KernelRmsBwd.main_arg3))
      ∧ r.2.sem = fun _ => 0)

def quiescent_KernelRmsBwdIdeal [hKernelRmsBwdIdeal : Cert.KernelRmsBwdIdeal.Facts] : Prop :=
  ∀ (m : (ℓ : Loc Cert.KernelRmsBwdIdeal.nD Cert.KernelRmsBwdIdeal.τ Cert.KernelRmsBwdIdeal.sig) → Buf (Elt Ideal) ℓ) (g : Dev Cert.KernelRmsBwdIdeal.nD → PrngReg), Pre_KernelRmsBwdIdeal m →
    θ_run (Cert.KernelRmsBwdIdeal.defs (F := Ideal)) (onTc (τ := Cert.KernelRmsBwdIdeal.τ) (Cert.KernelRmsBwdIdeal.main (F := Ideal))) ⟨m, fun _ => 0, g⟩ (fun r => (∀ c : Dev Cert.KernelRmsBwdIdeal.nD,
      r.2.mem ((c.tc : Thread Cert.KernelRmsBwdIdeal.nD Cert.KernelRmsBwdIdeal.τ).loc Cert.KernelRmsBwdIdeal.main_arg0) = m ((c.tc : Thread Cert.KernelRmsBwdIdeal.nD Cert.KernelRmsBwdIdeal.τ).loc Cert.KernelRmsBwdIdeal.main_arg0)
      ∧ r.2.mem ((c.tc : Thread Cert.KernelRmsBwdIdeal.nD Cert.KernelRmsBwdIdeal.τ).loc Cert.KernelRmsBwdIdeal.main_arg1) = m ((c.tc : Thread Cert.KernelRmsBwdIdeal.nD Cert.KernelRmsBwdIdeal.τ).loc Cert.KernelRmsBwdIdeal.main_arg1)
      ∧ r.2.mem ((c.tc : Thread Cert.KernelRmsBwdIdeal.nD Cert.KernelRmsBwdIdeal.τ).loc Cert.KernelRmsBwdIdeal.main_arg2) = m ((c.tc : Thread Cert.KernelRmsBwdIdeal.nD Cert.KernelRmsBwdIdeal.τ).loc Cert.KernelRmsBwdIdeal.main_arg2)
      ∧ r.2.mem ((c.tc : Thread Cert.KernelRmsBwdIdeal.nD Cert.KernelRmsBwdIdeal.τ).loc Cert.KernelRmsBwdIdeal.main_arg3) = m ((c.tc : Thread Cert.KernelRmsBwdIdeal.nD Cert.KernelRmsBwdIdeal.τ).loc Cert.KernelRmsBwdIdeal.main_arg3))
      ∧ r.2.sem = fun _ => 0)

def quiescent_ReferenceRmsBwdIdeal [hReferenceRmsBwdIdeal : Cert.ReferenceRmsBwdIdeal.Facts] : Prop :=
  ∀ (m : (ℓ : Loc Cert.ReferenceRmsBwdIdeal.nD Cert.ReferenceRmsBwdIdeal.τ Cert.ReferenceRmsBwdIdeal.sig) → Buf (Elt Ideal) ℓ) (g : Dev Cert.ReferenceRmsBwdIdeal.nD → PrngReg), Pre_ReferenceRmsBwdIdeal m →
    θ_run (Cert.ReferenceRmsBwdIdeal.defs (F := Ideal)) (onTc (τ := Cert.ReferenceRmsBwdIdeal.τ) (Cert.ReferenceRmsBwdIdeal.main (F := Ideal))) ⟨m, fun _ => 0, g⟩ (fun r => (∀ c : Dev Cert.ReferenceRmsBwdIdeal.nD,
      r.2.mem ((c.tc : Thread Cert.ReferenceRmsBwdIdeal.nD Cert.ReferenceRmsBwdIdeal.τ).loc Cert.ReferenceRmsBwdIdeal.main_arg0) = m ((c.tc : Thread Cert.ReferenceRmsBwdIdeal.nD Cert.ReferenceRmsBwdIdeal.τ).loc Cert.ReferenceRmsBwdIdeal.main_arg0)
      ∧ r.2.mem ((c.tc : Thread Cert.ReferenceRmsBwdIdeal.nD Cert.ReferenceRmsBwdIdeal.τ).loc Cert.ReferenceRmsBwdIdeal.main_arg1) = m ((c.tc : Thread Cert.ReferenceRmsBwdIdeal.nD Cert.ReferenceRmsBwdIdeal.τ).loc Cert.ReferenceRmsBwdIdeal.main_arg1)
      ∧ r.2.mem ((c.tc : Thread Cert.ReferenceRmsBwdIdeal.nD Cert.ReferenceRmsBwdIdeal.τ).loc Cert.ReferenceRmsBwdIdeal.main_arg2) = m ((c.tc : Thread Cert.ReferenceRmsBwdIdeal.nD Cert.ReferenceRmsBwdIdeal.τ).loc Cert.ReferenceRmsBwdIdeal.main_arg2)
      ∧ r.2.mem ((c.tc : Thread Cert.ReferenceRmsBwdIdeal.nD Cert.ReferenceRmsBwdIdeal.τ).loc Cert.ReferenceRmsBwdIdeal.main_arg3) = m ((c.tc : Thread Cert.ReferenceRmsBwdIdeal.nD Cert.ReferenceRmsBwdIdeal.τ).loc Cert.ReferenceRmsBwdIdeal.main_arg3))
      ∧ r.2.sem = fun _ => 0)

def quiescent_KernelRmsFwd [hKernelRmsFwd : Cert.KernelRmsFwd.Facts] : Prop :=
  ∀ (m : (ℓ : Loc Cert.KernelRmsFwd.nD Cert.KernelRmsFwd.τ Cert.KernelRmsFwd.sig) → Buf (Elt Bits) ℓ) (g : Dev Cert.KernelRmsFwd.nD → PrngReg), Pre_KernelRmsFwd m →
    θ_run (Cert.KernelRmsFwd.defs (F := Bits)) (onTc (τ := Cert.KernelRmsFwd.τ) (Cert.KernelRmsFwd.main (F := Bits))) ⟨m, fun _ => 0, g⟩ (fun r => (∀ c : Dev Cert.KernelRmsFwd.nD,
      r.2.mem ((c.tc : Thread Cert.KernelRmsFwd.nD Cert.KernelRmsFwd.τ).loc Cert.KernelRmsFwd.main_arg0) = m ((c.tc : Thread Cert.KernelRmsFwd.nD Cert.KernelRmsFwd.τ).loc Cert.KernelRmsFwd.main_arg0)
      ∧ r.2.mem ((c.tc : Thread Cert.KernelRmsFwd.nD Cert.KernelRmsFwd.τ).loc Cert.KernelRmsFwd.main_arg1) = m ((c.tc : Thread Cert.KernelRmsFwd.nD Cert.KernelRmsFwd.τ).loc Cert.KernelRmsFwd.main_arg1))
      ∧ r.2.sem = fun _ => 0)

def quiescent_KernelRmsFwdIdeal [hKernelRmsFwdIdeal : Cert.KernelRmsFwdIdeal.Facts] : Prop :=
  ∀ (m : (ℓ : Loc Cert.KernelRmsFwdIdeal.nD Cert.KernelRmsFwdIdeal.τ Cert.KernelRmsFwdIdeal.sig) → Buf (Elt Ideal) ℓ) (g : Dev Cert.KernelRmsFwdIdeal.nD → PrngReg), Pre_KernelRmsFwdIdeal m →
    θ_run (Cert.KernelRmsFwdIdeal.defs (F := Ideal)) (onTc (τ := Cert.KernelRmsFwdIdeal.τ) (Cert.KernelRmsFwdIdeal.main (F := Ideal))) ⟨m, fun _ => 0, g⟩ (fun r => (∀ c : Dev Cert.KernelRmsFwdIdeal.nD,
      r.2.mem ((c.tc : Thread Cert.KernelRmsFwdIdeal.nD Cert.KernelRmsFwdIdeal.τ).loc Cert.KernelRmsFwdIdeal.main_arg0) = m ((c.tc : Thread Cert.KernelRmsFwdIdeal.nD Cert.KernelRmsFwdIdeal.τ).loc Cert.KernelRmsFwdIdeal.main_arg0)
      ∧ r.2.mem ((c.tc : Thread Cert.KernelRmsFwdIdeal.nD Cert.KernelRmsFwdIdeal.τ).loc Cert.KernelRmsFwdIdeal.main_arg1) = m ((c.tc : Thread Cert.KernelRmsFwdIdeal.nD Cert.KernelRmsFwdIdeal.τ).loc Cert.KernelRmsFwdIdeal.main_arg1))
      ∧ r.2.sem = fun _ => 0)

def quiescent_ReferenceRmsFwdIdeal [hReferenceRmsFwdIdeal : Cert.ReferenceRmsFwdIdeal.Facts] : Prop :=
  ∀ (m : (ℓ : Loc Cert.ReferenceRmsFwdIdeal.nD Cert.ReferenceRmsFwdIdeal.τ Cert.ReferenceRmsFwdIdeal.sig) → Buf (Elt Ideal) ℓ) (g : Dev Cert.ReferenceRmsFwdIdeal.nD → PrngReg), Pre_ReferenceRmsFwdIdeal m →
    θ_run (Cert.ReferenceRmsFwdIdeal.defs (F := Ideal)) (onTc (τ := Cert.ReferenceRmsFwdIdeal.τ) (Cert.ReferenceRmsFwdIdeal.main (F := Ideal))) ⟨m, fun _ => 0, g⟩ (fun r => (∀ c : Dev Cert.ReferenceRmsFwdIdeal.nD,
      r.2.mem ((c.tc : Thread Cert.ReferenceRmsFwdIdeal.nD Cert.ReferenceRmsFwdIdeal.τ).loc Cert.ReferenceRmsFwdIdeal.main_arg0) = m ((c.tc : Thread Cert.ReferenceRmsFwdIdeal.nD Cert.ReferenceRmsFwdIdeal.τ).loc Cert.ReferenceRmsFwdIdeal.main_arg0)
      ∧ r.2.mem ((c.tc : Thread Cert.ReferenceRmsFwdIdeal.nD Cert.ReferenceRmsFwdIdeal.τ).loc Cert.ReferenceRmsFwdIdeal.main_arg1) = m ((c.tc : Thread Cert.ReferenceRmsFwdIdeal.nD Cert.ReferenceRmsFwdIdeal.τ).loc Cert.ReferenceRmsFwdIdeal.main_arg1))
      ∧ r.2.sem = fun _ => 0)

def quiescent_KernelPostBwd [hKernelPostBwd : Cert.KernelPostBwd.Facts] : Prop :=
  ∀ (m : (ℓ : Loc Cert.KernelPostBwd.nD Cert.KernelPostBwd.τ Cert.KernelPostBwd.sig) → Buf (Elt Bits) ℓ) (g : Dev Cert.KernelPostBwd.nD → PrngReg), Pre_KernelPostBwd m →
    θ_run (Cert.KernelPostBwd.defs (F := Bits)) (onTc (τ := Cert.KernelPostBwd.τ) (Cert.KernelPostBwd.main (F := Bits))) ⟨m, fun _ => 0, g⟩ (fun r => (∀ c : Dev Cert.KernelPostBwd.nD,
      r.2.mem ((c.tc : Thread Cert.KernelPostBwd.nD Cert.KernelPostBwd.τ).loc Cert.KernelPostBwd.main_arg0) = m ((c.tc : Thread Cert.KernelPostBwd.nD Cert.KernelPostBwd.τ).loc Cert.KernelPostBwd.main_arg0)
      ∧ r.2.mem ((c.tc : Thread Cert.KernelPostBwd.nD Cert.KernelPostBwd.τ).loc Cert.KernelPostBwd.main_arg1) = m ((c.tc : Thread Cert.KernelPostBwd.nD Cert.KernelPostBwd.τ).loc Cert.KernelPostBwd.main_arg1)
      ∧ r.2.mem ((c.tc : Thread Cert.KernelPostBwd.nD Cert.KernelPostBwd.τ).loc Cert.KernelPostBwd.main_arg2) = m ((c.tc : Thread Cert.KernelPostBwd.nD Cert.KernelPostBwd.τ).loc Cert.KernelPostBwd.main_arg2)
      ∧ r.2.mem ((c.tc : Thread Cert.KernelPostBwd.nD Cert.KernelPostBwd.τ).loc Cert.KernelPostBwd.main_arg3) = m ((c.tc : Thread Cert.KernelPostBwd.nD Cert.KernelPostBwd.τ).loc Cert.KernelPostBwd.main_arg3)
      ∧ r.2.mem ((c.tc : Thread Cert.KernelPostBwd.nD Cert.KernelPostBwd.τ).loc Cert.KernelPostBwd.main_arg4) = m ((c.tc : Thread Cert.KernelPostBwd.nD Cert.KernelPostBwd.τ).loc Cert.KernelPostBwd.main_arg4)
      ∧ r.2.mem ((c.tc : Thread Cert.KernelPostBwd.nD Cert.KernelPostBwd.τ).loc Cert.KernelPostBwd.main_arg5) = m ((c.tc : Thread Cert.KernelPostBwd.nD Cert.KernelPostBwd.τ).loc Cert.KernelPostBwd.main_arg5)
      ∧ r.2.mem ((c.tc : Thread Cert.KernelPostBwd.nD Cert.KernelPostBwd.τ).loc Cert.KernelPostBwd.main_arg6) = m ((c.tc : Thread Cert.KernelPostBwd.nD Cert.KernelPostBwd.τ).loc Cert.KernelPostBwd.main_arg6)
      ∧ r.2.mem ((c.tc : Thread Cert.KernelPostBwd.nD Cert.KernelPostBwd.τ).loc Cert.KernelPostBwd.main_arg7) = m ((c.tc : Thread Cert.KernelPostBwd.nD Cert.KernelPostBwd.τ).loc Cert.KernelPostBwd.main_arg7)
      ∧ r.2.mem ((c.tc : Thread Cert.KernelPostBwd.nD Cert.KernelPostBwd.τ).loc Cert.KernelPostBwd.main_arg8) = m ((c.tc : Thread Cert.KernelPostBwd.nD Cert.KernelPostBwd.τ).loc Cert.KernelPostBwd.main_arg8))
      ∧ r.2.sem = fun _ => 0)

def quiescent_KernelPostBwdIdeal [hKernelPostBwdIdeal : Cert.KernelPostBwdIdeal.Facts] : Prop :=
  ∀ (m : (ℓ : Loc Cert.KernelPostBwdIdeal.nD Cert.KernelPostBwdIdeal.τ Cert.KernelPostBwdIdeal.sig) → Buf (Elt Ideal) ℓ) (g : Dev Cert.KernelPostBwdIdeal.nD → PrngReg), Pre_KernelPostBwdIdeal m →
    θ_run (Cert.KernelPostBwdIdeal.defs (F := Ideal)) (onTc (τ := Cert.KernelPostBwdIdeal.τ) (Cert.KernelPostBwdIdeal.main (F := Ideal))) ⟨m, fun _ => 0, g⟩ (fun r => (∀ c : Dev Cert.KernelPostBwdIdeal.nD,
      r.2.mem ((c.tc : Thread Cert.KernelPostBwdIdeal.nD Cert.KernelPostBwdIdeal.τ).loc Cert.KernelPostBwdIdeal.main_arg0) = m ((c.tc : Thread Cert.KernelPostBwdIdeal.nD Cert.KernelPostBwdIdeal.τ).loc Cert.KernelPostBwdIdeal.main_arg0)
      ∧ r.2.mem ((c.tc : Thread Cert.KernelPostBwdIdeal.nD Cert.KernelPostBwdIdeal.τ).loc Cert.KernelPostBwdIdeal.main_arg1) = m ((c.tc : Thread Cert.KernelPostBwdIdeal.nD Cert.KernelPostBwdIdeal.τ).loc Cert.KernelPostBwdIdeal.main_arg1)
      ∧ r.2.mem ((c.tc : Thread Cert.KernelPostBwdIdeal.nD Cert.KernelPostBwdIdeal.τ).loc Cert.KernelPostBwdIdeal.main_arg2) = m ((c.tc : Thread Cert.KernelPostBwdIdeal.nD Cert.KernelPostBwdIdeal.τ).loc Cert.KernelPostBwdIdeal.main_arg2)
      ∧ r.2.mem ((c.tc : Thread Cert.KernelPostBwdIdeal.nD Cert.KernelPostBwdIdeal.τ).loc Cert.KernelPostBwdIdeal.main_arg3) = m ((c.tc : Thread Cert.KernelPostBwdIdeal.nD Cert.KernelPostBwdIdeal.τ).loc Cert.KernelPostBwdIdeal.main_arg3)
      ∧ r.2.mem ((c.tc : Thread Cert.KernelPostBwdIdeal.nD Cert.KernelPostBwdIdeal.τ).loc Cert.KernelPostBwdIdeal.main_arg4) = m ((c.tc : Thread Cert.KernelPostBwdIdeal.nD Cert.KernelPostBwdIdeal.τ).loc Cert.KernelPostBwdIdeal.main_arg4)
      ∧ r.2.mem ((c.tc : Thread Cert.KernelPostBwdIdeal.nD Cert.KernelPostBwdIdeal.τ).loc Cert.KernelPostBwdIdeal.main_arg5) = m ((c.tc : Thread Cert.KernelPostBwdIdeal.nD Cert.KernelPostBwdIdeal.τ).loc Cert.KernelPostBwdIdeal.main_arg5)
      ∧ r.2.mem ((c.tc : Thread Cert.KernelPostBwdIdeal.nD Cert.KernelPostBwdIdeal.τ).loc Cert.KernelPostBwdIdeal.main_arg6) = m ((c.tc : Thread Cert.KernelPostBwdIdeal.nD Cert.KernelPostBwdIdeal.τ).loc Cert.KernelPostBwdIdeal.main_arg6)
      ∧ r.2.mem ((c.tc : Thread Cert.KernelPostBwdIdeal.nD Cert.KernelPostBwdIdeal.τ).loc Cert.KernelPostBwdIdeal.main_arg7) = m ((c.tc : Thread Cert.KernelPostBwdIdeal.nD Cert.KernelPostBwdIdeal.τ).loc Cert.KernelPostBwdIdeal.main_arg7)
      ∧ r.2.mem ((c.tc : Thread Cert.KernelPostBwdIdeal.nD Cert.KernelPostBwdIdeal.τ).loc Cert.KernelPostBwdIdeal.main_arg8) = m ((c.tc : Thread Cert.KernelPostBwdIdeal.nD Cert.KernelPostBwdIdeal.τ).loc Cert.KernelPostBwdIdeal.main_arg8))
      ∧ r.2.sem = fun _ => 0)

def quiescent_ReferencePostBwdIdeal [hReferencePostBwdIdeal : Cert.ReferencePostBwdIdeal.Facts] : Prop :=
  ∀ (m : (ℓ : Loc Cert.ReferencePostBwdIdeal.nD Cert.ReferencePostBwdIdeal.τ Cert.ReferencePostBwdIdeal.sig) → Buf (Elt Ideal) ℓ) (g : Dev Cert.ReferencePostBwdIdeal.nD → PrngReg), Pre_ReferencePostBwdIdeal m →
    θ_run (Cert.ReferencePostBwdIdeal.defs (F := Ideal)) (onTc (τ := Cert.ReferencePostBwdIdeal.τ) (Cert.ReferencePostBwdIdeal.main (F := Ideal))) ⟨m, fun _ => 0, g⟩ (fun r => (∀ c : Dev Cert.ReferencePostBwdIdeal.nD,
      r.2.mem ((c.tc : Thread Cert.ReferencePostBwdIdeal.nD Cert.ReferencePostBwdIdeal.τ).loc Cert.ReferencePostBwdIdeal.main_arg0) = m ((c.tc : Thread Cert.ReferencePostBwdIdeal.nD Cert.ReferencePostBwdIdeal.τ).loc Cert.ReferencePostBwdIdeal.main_arg0)
      ∧ r.2.mem ((c.tc : Thread Cert.ReferencePostBwdIdeal.nD Cert.ReferencePostBwdIdeal.τ).loc Cert.ReferencePostBwdIdeal.main_arg1) = m ((c.tc : Thread Cert.ReferencePostBwdIdeal.nD Cert.ReferencePostBwdIdeal.τ).loc Cert.ReferencePostBwdIdeal.main_arg1)
      ∧ r.2.mem ((c.tc : Thread Cert.ReferencePostBwdIdeal.nD Cert.ReferencePostBwdIdeal.τ).loc Cert.ReferencePostBwdIdeal.main_arg2) = m ((c.tc : Thread Cert.ReferencePostBwdIdeal.nD Cert.ReferencePostBwdIdeal.τ).loc Cert.ReferencePostBwdIdeal.main_arg2)
      ∧ r.2.mem ((c.tc : Thread Cert.ReferencePostBwdIdeal.nD Cert.ReferencePostBwdIdeal.τ).loc Cert.ReferencePostBwdIdeal.main_arg3) = m ((c.tc : Thread Cert.ReferencePostBwdIdeal.nD Cert.ReferencePostBwdIdeal.τ).loc Cert.ReferencePostBwdIdeal.main_arg3)
      ∧ r.2.mem ((c.tc : Thread Cert.ReferencePostBwdIdeal.nD Cert.ReferencePostBwdIdeal.τ).loc Cert.ReferencePostBwdIdeal.main_arg4) = m ((c.tc : Thread Cert.ReferencePostBwdIdeal.nD Cert.ReferencePostBwdIdeal.τ).loc Cert.ReferencePostBwdIdeal.main_arg4)
      ∧ r.2.mem ((c.tc : Thread Cert.ReferencePostBwdIdeal.nD Cert.ReferencePostBwdIdeal.τ).loc Cert.ReferencePostBwdIdeal.main_arg5) = m ((c.tc : Thread Cert.ReferencePostBwdIdeal.nD Cert.ReferencePostBwdIdeal.τ).loc Cert.ReferencePostBwdIdeal.main_arg5)
      ∧ r.2.mem ((c.tc : Thread Cert.ReferencePostBwdIdeal.nD Cert.ReferencePostBwdIdeal.τ).loc Cert.ReferencePostBwdIdeal.main_arg6) = m ((c.tc : Thread Cert.ReferencePostBwdIdeal.nD Cert.ReferencePostBwdIdeal.τ).loc Cert.ReferencePostBwdIdeal.main_arg6)
      ∧ r.2.mem ((c.tc : Thread Cert.ReferencePostBwdIdeal.nD Cert.ReferencePostBwdIdeal.τ).loc Cert.ReferencePostBwdIdeal.main_arg7) = m ((c.tc : Thread Cert.ReferencePostBwdIdeal.nD Cert.ReferencePostBwdIdeal.τ).loc Cert.ReferencePostBwdIdeal.main_arg7)
      ∧ r.2.mem ((c.tc : Thread Cert.ReferencePostBwdIdeal.nD Cert.ReferencePostBwdIdeal.τ).loc Cert.ReferencePostBwdIdeal.main_arg8) = m ((c.tc : Thread Cert.ReferencePostBwdIdeal.nD Cert.ReferencePostBwdIdeal.τ).loc Cert.ReferencePostBwdIdeal.main_arg8))
      ∧ r.2.sem = fun _ => 0)

def quiescent_KernelPostFwd [hKernelPostFwd : Cert.KernelPostFwd.Facts] : Prop :=
  ∀ (m : (ℓ : Loc Cert.KernelPostFwd.nD Cert.KernelPostFwd.τ Cert.KernelPostFwd.sig) → Buf (Elt Bits) ℓ) (g : Dev Cert.KernelPostFwd.nD → PrngReg), Pre_KernelPostFwd m →
    θ_run (Cert.KernelPostFwd.defs (F := Bits)) (onTc (τ := Cert.KernelPostFwd.τ) (Cert.KernelPostFwd.main (F := Bits))) ⟨m, fun _ => 0, g⟩ (fun r => (∀ c : Dev Cert.KernelPostFwd.nD,
      r.2.mem ((c.tc : Thread Cert.KernelPostFwd.nD Cert.KernelPostFwd.τ).loc Cert.KernelPostFwd.main_arg0) = m ((c.tc : Thread Cert.KernelPostFwd.nD Cert.KernelPostFwd.τ).loc Cert.KernelPostFwd.main_arg0)
      ∧ r.2.mem ((c.tc : Thread Cert.KernelPostFwd.nD Cert.KernelPostFwd.τ).loc Cert.KernelPostFwd.main_arg1) = m ((c.tc : Thread Cert.KernelPostFwd.nD Cert.KernelPostFwd.τ).loc Cert.KernelPostFwd.main_arg1)
      ∧ r.2.mem ((c.tc : Thread Cert.KernelPostFwd.nD Cert.KernelPostFwd.τ).loc Cert.KernelPostFwd.main_arg2) = m ((c.tc : Thread Cert.KernelPostFwd.nD Cert.KernelPostFwd.τ).loc Cert.KernelPostFwd.main_arg2)
      ∧ r.2.mem ((c.tc : Thread Cert.KernelPostFwd.nD Cert.KernelPostFwd.τ).loc Cert.KernelPostFwd.main_arg3) = m ((c.tc : Thread Cert.KernelPostFwd.nD Cert.KernelPostFwd.τ).loc Cert.KernelPostFwd.main_arg3)
      ∧ r.2.mem ((c.tc : Thread Cert.KernelPostFwd.nD Cert.KernelPostFwd.τ).loc Cert.KernelPostFwd.main_arg4) = m ((c.tc : Thread Cert.KernelPostFwd.nD Cert.KernelPostFwd.τ).loc Cert.KernelPostFwd.main_arg4)
      ∧ r.2.mem ((c.tc : Thread Cert.KernelPostFwd.nD Cert.KernelPostFwd.τ).loc Cert.KernelPostFwd.main_arg5) = m ((c.tc : Thread Cert.KernelPostFwd.nD Cert.KernelPostFwd.τ).loc Cert.KernelPostFwd.main_arg5)
      ∧ r.2.mem ((c.tc : Thread Cert.KernelPostFwd.nD Cert.KernelPostFwd.τ).loc Cert.KernelPostFwd.main_arg6) = m ((c.tc : Thread Cert.KernelPostFwd.nD Cert.KernelPostFwd.τ).loc Cert.KernelPostFwd.main_arg6))
      ∧ r.2.sem = fun _ => 0)

def quiescent_KernelPostFwdIdeal [hKernelPostFwdIdeal : Cert.KernelPostFwdIdeal.Facts] : Prop :=
  ∀ (m : (ℓ : Loc Cert.KernelPostFwdIdeal.nD Cert.KernelPostFwdIdeal.τ Cert.KernelPostFwdIdeal.sig) → Buf (Elt Ideal) ℓ) (g : Dev Cert.KernelPostFwdIdeal.nD → PrngReg), Pre_KernelPostFwdIdeal m →
    θ_run (Cert.KernelPostFwdIdeal.defs (F := Ideal)) (onTc (τ := Cert.KernelPostFwdIdeal.τ) (Cert.KernelPostFwdIdeal.main (F := Ideal))) ⟨m, fun _ => 0, g⟩ (fun r => (∀ c : Dev Cert.KernelPostFwdIdeal.nD,
      r.2.mem ((c.tc : Thread Cert.KernelPostFwdIdeal.nD Cert.KernelPostFwdIdeal.τ).loc Cert.KernelPostFwdIdeal.main_arg0) = m ((c.tc : Thread Cert.KernelPostFwdIdeal.nD Cert.KernelPostFwdIdeal.τ).loc Cert.KernelPostFwdIdeal.main_arg0)
      ∧ r.2.mem ((c.tc : Thread Cert.KernelPostFwdIdeal.nD Cert.KernelPostFwdIdeal.τ).loc Cert.KernelPostFwdIdeal.main_arg1) = m ((c.tc : Thread Cert.KernelPostFwdIdeal.nD Cert.KernelPostFwdIdeal.τ).loc Cert.KernelPostFwdIdeal.main_arg1)
      ∧ r.2.mem ((c.tc : Thread Cert.KernelPostFwdIdeal.nD Cert.KernelPostFwdIdeal.τ).loc Cert.KernelPostFwdIdeal.main_arg2) = m ((c.tc : Thread Cert.KernelPostFwdIdeal.nD Cert.KernelPostFwdIdeal.τ).loc Cert.KernelPostFwdIdeal.main_arg2)
      ∧ r.2.mem ((c.tc : Thread Cert.KernelPostFwdIdeal.nD Cert.KernelPostFwdIdeal.τ).loc Cert.KernelPostFwdIdeal.main_arg3) = m ((c.tc : Thread Cert.KernelPostFwdIdeal.nD Cert.KernelPostFwdIdeal.τ).loc Cert.KernelPostFwdIdeal.main_arg3)
      ∧ r.2.mem ((c.tc : Thread Cert.KernelPostFwdIdeal.nD Cert.KernelPostFwdIdeal.τ).loc Cert.KernelPostFwdIdeal.main_arg4) = m ((c.tc : Thread Cert.KernelPostFwdIdeal.nD Cert.KernelPostFwdIdeal.τ).loc Cert.KernelPostFwdIdeal.main_arg4)
      ∧ r.2.mem ((c.tc : Thread Cert.KernelPostFwdIdeal.nD Cert.KernelPostFwdIdeal.τ).loc Cert.KernelPostFwdIdeal.main_arg5) = m ((c.tc : Thread Cert.KernelPostFwdIdeal.nD Cert.KernelPostFwdIdeal.τ).loc Cert.KernelPostFwdIdeal.main_arg5)
      ∧ r.2.mem ((c.tc : Thread Cert.KernelPostFwdIdeal.nD Cert.KernelPostFwdIdeal.τ).loc Cert.KernelPostFwdIdeal.main_arg6) = m ((c.tc : Thread Cert.KernelPostFwdIdeal.nD Cert.KernelPostFwdIdeal.τ).loc Cert.KernelPostFwdIdeal.main_arg6))
      ∧ r.2.sem = fun _ => 0)

def quiescent_ReferencePostFwdIdeal [hReferencePostFwdIdeal : Cert.ReferencePostFwdIdeal.Facts] : Prop :=
  ∀ (m : (ℓ : Loc Cert.ReferencePostFwdIdeal.nD Cert.ReferencePostFwdIdeal.τ Cert.ReferencePostFwdIdeal.sig) → Buf (Elt Ideal) ℓ) (g : Dev Cert.ReferencePostFwdIdeal.nD → PrngReg), Pre_ReferencePostFwdIdeal m →
    θ_run (Cert.ReferencePostFwdIdeal.defs (F := Ideal)) (onTc (τ := Cert.ReferencePostFwdIdeal.τ) (Cert.ReferencePostFwdIdeal.main (F := Ideal))) ⟨m, fun _ => 0, g⟩ (fun r => (∀ c : Dev Cert.ReferencePostFwdIdeal.nD,
      r.2.mem ((c.tc : Thread Cert.ReferencePostFwdIdeal.nD Cert.ReferencePostFwdIdeal.τ).loc Cert.ReferencePostFwdIdeal.main_arg0) = m ((c.tc : Thread Cert.ReferencePostFwdIdeal.nD Cert.ReferencePostFwdIdeal.τ).loc Cert.ReferencePostFwdIdeal.main_arg0)
      ∧ r.2.mem ((c.tc : Thread Cert.ReferencePostFwdIdeal.nD Cert.ReferencePostFwdIdeal.τ).loc Cert.ReferencePostFwdIdeal.main_arg1) = m ((c.tc : Thread Cert.ReferencePostFwdIdeal.nD Cert.ReferencePostFwdIdeal.τ).loc Cert.ReferencePostFwdIdeal.main_arg1)
      ∧ r.2.mem ((c.tc : Thread Cert.ReferencePostFwdIdeal.nD Cert.ReferencePostFwdIdeal.τ).loc Cert.ReferencePostFwdIdeal.main_arg2) = m ((c.tc : Thread Cert.ReferencePostFwdIdeal.nD Cert.ReferencePostFwdIdeal.τ).loc Cert.ReferencePostFwdIdeal.main_arg2)
      ∧ r.2.mem ((c.tc : Thread Cert.ReferencePostFwdIdeal.nD Cert.ReferencePostFwdIdeal.τ).loc Cert.ReferencePostFwdIdeal.main_arg3) = m ((c.tc : Thread Cert.ReferencePostFwdIdeal.nD Cert.ReferencePostFwdIdeal.τ).loc Cert.ReferencePostFwdIdeal.main_arg3)
      ∧ r.2.mem ((c.tc : Thread Cert.ReferencePostFwdIdeal.nD Cert.ReferencePostFwdIdeal.τ).loc Cert.ReferencePostFwdIdeal.main_arg4) = m ((c.tc : Thread Cert.ReferencePostFwdIdeal.nD Cert.ReferencePostFwdIdeal.τ).loc Cert.ReferencePostFwdIdeal.main_arg4)
      ∧ r.2.mem ((c.tc : Thread Cert.ReferencePostFwdIdeal.nD Cert.ReferencePostFwdIdeal.τ).loc Cert.ReferencePostFwdIdeal.main_arg5) = m ((c.tc : Thread Cert.ReferencePostFwdIdeal.nD Cert.ReferencePostFwdIdeal.τ).loc Cert.ReferencePostFwdIdeal.main_arg5)
      ∧ r.2.mem ((c.tc : Thread Cert.ReferencePostFwdIdeal.nD Cert.ReferencePostFwdIdeal.τ).loc Cert.ReferencePostFwdIdeal.main_arg6) = m ((c.tc : Thread Cert.ReferencePostFwdIdeal.nD Cert.ReferencePostFwdIdeal.τ).loc Cert.ReferencePostFwdIdeal.main_arg6))
      ∧ r.2.sem = fun _ => 0)

def quiescent_KernelGatesFwd [hKernelGatesFwd : Cert.KernelGatesFwd.Facts] : Prop :=
  ∀ (m : (ℓ : Loc Cert.KernelGatesFwd.nD Cert.KernelGatesFwd.τ Cert.KernelGatesFwd.sig) → Buf (Elt Bits) ℓ) (g : Dev Cert.KernelGatesFwd.nD → PrngReg), Pre_KernelGatesFwd m →
    θ_run (Cert.KernelGatesFwd.defs (F := Bits)) (onTc (τ := Cert.KernelGatesFwd.τ) (Cert.KernelGatesFwd.main (F := Bits))) ⟨m, fun _ => 0, g⟩ (fun r => (∀ c : Dev Cert.KernelGatesFwd.nD,
      r.2.mem ((c.tc : Thread Cert.KernelGatesFwd.nD Cert.KernelGatesFwd.τ).loc Cert.KernelGatesFwd.main_arg0) = m ((c.tc : Thread Cert.KernelGatesFwd.nD Cert.KernelGatesFwd.τ).loc Cert.KernelGatesFwd.main_arg0)
      ∧ r.2.mem ((c.tc : Thread Cert.KernelGatesFwd.nD Cert.KernelGatesFwd.τ).loc Cert.KernelGatesFwd.main_arg1) = m ((c.tc : Thread Cert.KernelGatesFwd.nD Cert.KernelGatesFwd.τ).loc Cert.KernelGatesFwd.main_arg1)
      ∧ r.2.mem ((c.tc : Thread Cert.KernelGatesFwd.nD Cert.KernelGatesFwd.τ).loc Cert.KernelGatesFwd.main_arg2) = m ((c.tc : Thread Cert.KernelGatesFwd.nD Cert.KernelGatesFwd.τ).loc Cert.KernelGatesFwd.main_arg2)
      ∧ r.2.mem ((c.tc : Thread Cert.KernelGatesFwd.nD Cert.KernelGatesFwd.τ).loc Cert.KernelGatesFwd.main_arg3) = m ((c.tc : Thread Cert.KernelGatesFwd.nD Cert.KernelGatesFwd.τ).loc Cert.KernelGatesFwd.main_arg3)
      ∧ r.2.mem ((c.tc : Thread Cert.KernelGatesFwd.nD Cert.KernelGatesFwd.τ).loc Cert.KernelGatesFwd.main_arg4) = m ((c.tc : Thread Cert.KernelGatesFwd.nD Cert.KernelGatesFwd.τ).loc Cert.KernelGatesFwd.main_arg4)
      ∧ r.2.mem ((c.tc : Thread Cert.KernelGatesFwd.nD Cert.KernelGatesFwd.τ).loc Cert.KernelGatesFwd.main_arg5) = m ((c.tc : Thread Cert.KernelGatesFwd.nD Cert.KernelGatesFwd.τ).loc Cert.KernelGatesFwd.main_arg5))
      ∧ r.2.sem = fun _ => 0)

def quiescent_KernelGatesFwdIdeal [hKernelGatesFwdIdeal : Cert.KernelGatesFwdIdeal.Facts] : Prop :=
  ∀ (m : (ℓ : Loc Cert.KernelGatesFwdIdeal.nD Cert.KernelGatesFwdIdeal.τ Cert.KernelGatesFwdIdeal.sig) → Buf (Elt Ideal) ℓ) (g : Dev Cert.KernelGatesFwdIdeal.nD → PrngReg), Pre_KernelGatesFwdIdeal m →
    θ_run (Cert.KernelGatesFwdIdeal.defs (F := Ideal)) (onTc (τ := Cert.KernelGatesFwdIdeal.τ) (Cert.KernelGatesFwdIdeal.main (F := Ideal))) ⟨m, fun _ => 0, g⟩ (fun r => (∀ c : Dev Cert.KernelGatesFwdIdeal.nD,
      r.2.mem ((c.tc : Thread Cert.KernelGatesFwdIdeal.nD Cert.KernelGatesFwdIdeal.τ).loc Cert.KernelGatesFwdIdeal.main_arg0) = m ((c.tc : Thread Cert.KernelGatesFwdIdeal.nD Cert.KernelGatesFwdIdeal.τ).loc Cert.KernelGatesFwdIdeal.main_arg0)
      ∧ r.2.mem ((c.tc : Thread Cert.KernelGatesFwdIdeal.nD Cert.KernelGatesFwdIdeal.τ).loc Cert.KernelGatesFwdIdeal.main_arg1) = m ((c.tc : Thread Cert.KernelGatesFwdIdeal.nD Cert.KernelGatesFwdIdeal.τ).loc Cert.KernelGatesFwdIdeal.main_arg1)
      ∧ r.2.mem ((c.tc : Thread Cert.KernelGatesFwdIdeal.nD Cert.KernelGatesFwdIdeal.τ).loc Cert.KernelGatesFwdIdeal.main_arg2) = m ((c.tc : Thread Cert.KernelGatesFwdIdeal.nD Cert.KernelGatesFwdIdeal.τ).loc Cert.KernelGatesFwdIdeal.main_arg2)
      ∧ r.2.mem ((c.tc : Thread Cert.KernelGatesFwdIdeal.nD Cert.KernelGatesFwdIdeal.τ).loc Cert.KernelGatesFwdIdeal.main_arg3) = m ((c.tc : Thread Cert.KernelGatesFwdIdeal.nD Cert.KernelGatesFwdIdeal.τ).loc Cert.KernelGatesFwdIdeal.main_arg3)
      ∧ r.2.mem ((c.tc : Thread Cert.KernelGatesFwdIdeal.nD Cert.KernelGatesFwdIdeal.τ).loc Cert.KernelGatesFwdIdeal.main_arg4) = m ((c.tc : Thread Cert.KernelGatesFwdIdeal.nD Cert.KernelGatesFwdIdeal.τ).loc Cert.KernelGatesFwdIdeal.main_arg4)
      ∧ r.2.mem ((c.tc : Thread Cert.KernelGatesFwdIdeal.nD Cert.KernelGatesFwdIdeal.τ).loc Cert.KernelGatesFwdIdeal.main_arg5) = m ((c.tc : Thread Cert.KernelGatesFwdIdeal.nD Cert.KernelGatesFwdIdeal.τ).loc Cert.KernelGatesFwdIdeal.main_arg5))
      ∧ r.2.sem = fun _ => 0)

def quiescent_ReferenceGatesFwdIdeal [hReferenceGatesFwdIdeal : Cert.ReferenceGatesFwdIdeal.Facts] : Prop :=
  ∀ (m : (ℓ : Loc Cert.ReferenceGatesFwdIdeal.nD Cert.ReferenceGatesFwdIdeal.τ Cert.ReferenceGatesFwdIdeal.sig) → Buf (Elt Ideal) ℓ) (g : Dev Cert.ReferenceGatesFwdIdeal.nD → PrngReg), Pre_ReferenceGatesFwdIdeal m →
    θ_run (Cert.ReferenceGatesFwdIdeal.defs (F := Ideal)) (onTc (τ := Cert.ReferenceGatesFwdIdeal.τ) (Cert.ReferenceGatesFwdIdeal.main (F := Ideal))) ⟨m, fun _ => 0, g⟩ (fun r => (∀ c : Dev Cert.ReferenceGatesFwdIdeal.nD,
      r.2.mem ((c.tc : Thread Cert.ReferenceGatesFwdIdeal.nD Cert.ReferenceGatesFwdIdeal.τ).loc Cert.ReferenceGatesFwdIdeal.main_arg0) = m ((c.tc : Thread Cert.ReferenceGatesFwdIdeal.nD Cert.ReferenceGatesFwdIdeal.τ).loc Cert.ReferenceGatesFwdIdeal.main_arg0)
      ∧ r.2.mem ((c.tc : Thread Cert.ReferenceGatesFwdIdeal.nD Cert.ReferenceGatesFwdIdeal.τ).loc Cert.ReferenceGatesFwdIdeal.main_arg1) = m ((c.tc : Thread Cert.ReferenceGatesFwdIdeal.nD Cert.ReferenceGatesFwdIdeal.τ).loc Cert.ReferenceGatesFwdIdeal.main_arg1)
      ∧ r.2.mem ((c.tc : Thread Cert.ReferenceGatesFwdIdeal.nD Cert.ReferenceGatesFwdIdeal.τ).loc Cert.ReferenceGatesFwdIdeal.main_arg2) = m ((c.tc : Thread Cert.ReferenceGatesFwdIdeal.nD Cert.ReferenceGatesFwdIdeal.τ).loc Cert.ReferenceGatesFwdIdeal.main_arg2)
      ∧ r.2.mem ((c.tc : Thread Cert.ReferenceGatesFwdIdeal.nD Cert.ReferenceGatesFwdIdeal.τ).loc Cert.ReferenceGatesFwdIdeal.main_arg3) = m ((c.tc : Thread Cert.ReferenceGatesFwdIdeal.nD Cert.ReferenceGatesFwdIdeal.τ).loc Cert.ReferenceGatesFwdIdeal.main_arg3)
      ∧ r.2.mem ((c.tc : Thread Cert.ReferenceGatesFwdIdeal.nD Cert.ReferenceGatesFwdIdeal.τ).loc Cert.ReferenceGatesFwdIdeal.main_arg4) = m ((c.tc : Thread Cert.ReferenceGatesFwdIdeal.nD Cert.ReferenceGatesFwdIdeal.τ).loc Cert.ReferenceGatesFwdIdeal.main_arg4)
      ∧ r.2.mem ((c.tc : Thread Cert.ReferenceGatesFwdIdeal.nD Cert.ReferenceGatesFwdIdeal.τ).loc Cert.ReferenceGatesFwdIdeal.main_arg5) = m ((c.tc : Thread Cert.ReferenceGatesFwdIdeal.nD Cert.ReferenceGatesFwdIdeal.τ).loc Cert.ReferenceGatesFwdIdeal.main_arg5))
      ∧ r.2.sem = fun _ => 0)

def quiescent_KernelDw [hKernelDw : Cert.KernelDw.Facts] : Prop :=
  ∀ (m : (ℓ : Loc Cert.KernelDw.nD Cert.KernelDw.τ Cert.KernelDw.sig) → Buf (Elt Bits) ℓ) (g : Dev Cert.KernelDw.nD → PrngReg), Pre_KernelDw m →
    θ_run (Cert.KernelDw.defs (F := Bits)) (onTc (τ := Cert.KernelDw.τ) (Cert.KernelDw.main (F := Bits))) ⟨m, fun _ => 0, g⟩ (fun r => (∀ c : Dev Cert.KernelDw.nD,
      r.2.mem ((c.tc : Thread Cert.KernelDw.nD Cert.KernelDw.τ).loc Cert.KernelDw.main_arg0) = m ((c.tc : Thread Cert.KernelDw.nD Cert.KernelDw.τ).loc Cert.KernelDw.main_arg0)
      ∧ r.2.mem ((c.tc : Thread Cert.KernelDw.nD Cert.KernelDw.τ).loc Cert.KernelDw.main_arg1) = m ((c.tc : Thread Cert.KernelDw.nD Cert.KernelDw.τ).loc Cert.KernelDw.main_arg1))
      ∧ r.2.sem = fun _ => 0)

def quiescent_KernelDwIdeal [hKernelDwIdeal : Cert.KernelDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg), Pre_KernelDwIdeal m →
    θ_run (Cert.KernelDwIdeal.defs (F := Ideal)) (onTc (τ := Cert.KernelDwIdeal.τ) (Cert.KernelDwIdeal.main (F := Ideal))) ⟨m, fun _ => 0, g⟩ (fun r => (∀ c : Dev Cert.KernelDwIdeal.nD,
      r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
      ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1))
      ∧ r.2.sem = fun _ => 0)

def quiescent_ReferenceDwIdeal [hReferenceDwIdeal : Cert.ReferenceDwIdeal.Facts] : Prop :=
  ∀ (m : (ℓ : Loc Cert.ReferenceDwIdeal.nD Cert.ReferenceDwIdeal.τ Cert.ReferenceDwIdeal.sig) → Buf (Elt Ideal) ℓ) (g : Dev Cert.ReferenceDwIdeal.nD → PrngReg), Pre_ReferenceDwIdeal m →
    θ_run (Cert.ReferenceDwIdeal.defs (F := Ideal)) (onTc (τ := Cert.ReferenceDwIdeal.τ) (Cert.ReferenceDwIdeal.main (F := Ideal))) ⟨m, fun _ => 0, g⟩ (fun r => (∀ c : Dev Cert.ReferenceDwIdeal.nD,
      r.2.mem ((c.tc : Thread Cert.ReferenceDwIdeal.nD Cert.ReferenceDwIdeal.τ).loc Cert.ReferenceDwIdeal.main_arg0) = m ((c.tc : Thread Cert.ReferenceDwIdeal.nD Cert.ReferenceDwIdeal.τ).loc Cert.ReferenceDwIdeal.main_arg0)
      ∧ r.2.mem ((c.tc : Thread Cert.ReferenceDwIdeal.nD Cert.ReferenceDwIdeal.τ).loc Cert.ReferenceDwIdeal.main_arg1) = m ((c.tc : Thread Cert.ReferenceDwIdeal.nD Cert.ReferenceDwIdeal.τ).loc Cert.ReferenceDwIdeal.main_arg1))
      ∧ r.2.sem = fun _ => 0)

def quiescent_KernelDwZ [hKernelDwZ : Cert.KernelDwZ.Facts] : Prop :=
  ∀ (m : (ℓ : Loc Cert.KernelDwZ.nD Cert.KernelDwZ.τ Cert.KernelDwZ.sig) → Buf (Elt Bits) ℓ) (g : Dev Cert.KernelDwZ.nD → PrngReg), Pre_KernelDwZ m →
    θ_run (Cert.KernelDwZ.defs (F := Bits)) (onTc (τ := Cert.KernelDwZ.τ) (Cert.KernelDwZ.main (F := Bits))) ⟨m, fun _ => 0, g⟩ (fun r => (∀ c : Dev Cert.KernelDwZ.nD,
      r.2.mem ((c.tc : Thread Cert.KernelDwZ.nD Cert.KernelDwZ.τ).loc Cert.KernelDwZ.main_arg0) = m ((c.tc : Thread Cert.KernelDwZ.nD Cert.KernelDwZ.τ).loc Cert.KernelDwZ.main_arg0)
      ∧ r.2.mem ((c.tc : Thread Cert.KernelDwZ.nD Cert.KernelDwZ.τ).loc Cert.KernelDwZ.main_arg1) = m ((c.tc : Thread Cert.KernelDwZ.nD Cert.KernelDwZ.τ).loc Cert.KernelDwZ.main_arg1))
      ∧ r.2.sem = fun _ => 0)

def quiescent_KernelDwZIdeal [hKernelDwZIdeal : Cert.KernelDwZIdeal.Facts] : Prop :=
  ∀ (m : (ℓ : Loc Cert.KernelDwZIdeal.nD Cert.KernelDwZIdeal.τ Cert.KernelDwZIdeal.sig) → Buf (Elt Ideal) ℓ) (g : Dev Cert.KernelDwZIdeal.nD → PrngReg), Pre_KernelDwZIdeal m →
    θ_run (Cert.KernelDwZIdeal.defs (F := Ideal)) (onTc (τ := Cert.KernelDwZIdeal.τ) (Cert.KernelDwZIdeal.main (F := Ideal))) ⟨m, fun _ => 0, g⟩ (fun r => (∀ c : Dev Cert.KernelDwZIdeal.nD,
      r.2.mem ((c.tc : Thread Cert.KernelDwZIdeal.nD Cert.KernelDwZIdeal.τ).loc Cert.KernelDwZIdeal.main_arg0) = m ((c.tc : Thread Cert.KernelDwZIdeal.nD Cert.KernelDwZIdeal.τ).loc Cert.KernelDwZIdeal.main_arg0)
      ∧ r.2.mem ((c.tc : Thread Cert.KernelDwZIdeal.nD Cert.KernelDwZIdeal.τ).loc Cert.KernelDwZIdeal.main_arg1) = m ((c.tc : Thread Cert.KernelDwZIdeal.nD Cert.KernelDwZIdeal.τ).loc Cert.KernelDwZIdeal.main_arg1))
      ∧ r.2.sem = fun _ => 0)

def quiescent_ReferenceDwZIdeal [hReferenceDwZIdeal : Cert.ReferenceDwZIdeal.Facts] : Prop :=
  ∀ (m : (ℓ : Loc Cert.ReferenceDwZIdeal.nD Cert.ReferenceDwZIdeal.τ Cert.ReferenceDwZIdeal.sig) → Buf (Elt Ideal) ℓ) (g : Dev Cert.ReferenceDwZIdeal.nD → PrngReg), Pre_ReferenceDwZIdeal m →
    θ_run (Cert.ReferenceDwZIdeal.defs (F := Ideal)) (onTc (τ := Cert.ReferenceDwZIdeal.τ) (Cert.ReferenceDwZIdeal.main (F := Ideal))) ⟨m, fun _ => 0, g⟩ (fun r => (∀ c : Dev Cert.ReferenceDwZIdeal.nD,
      r.2.mem ((c.tc : Thread Cert.ReferenceDwZIdeal.nD Cert.ReferenceDwZIdeal.τ).loc Cert.ReferenceDwZIdeal.main_arg0) = m ((c.tc : Thread Cert.ReferenceDwZIdeal.nD Cert.ReferenceDwZIdeal.τ).loc Cert.ReferenceDwZIdeal.main_arg0)
      ∧ r.2.mem ((c.tc : Thread Cert.ReferenceDwZIdeal.nD Cert.ReferenceDwZIdeal.τ).loc Cert.ReferenceDwZIdeal.main_arg1) = m ((c.tc : Thread Cert.ReferenceDwZIdeal.nD Cert.ReferenceDwZIdeal.τ).loc Cert.ReferenceDwZIdeal.main_arg1))
      ∧ r.2.sem = fun _ => 0)

def quiescent_KernelDwXbc [hKernelDwXbc : Cert.KernelDwXbc.Facts] : Prop :=
  ∀ (m : (ℓ : Loc Cert.KernelDwXbc.nD Cert.KernelDwXbc.τ Cert.KernelDwXbc.sig) → Buf (Elt Bits) ℓ) (g : Dev Cert.KernelDwXbc.nD → PrngReg), Pre_KernelDwXbc m →
    θ_run (Cert.KernelDwXbc.defs (F := Bits)) (onTc (τ := Cert.KernelDwXbc.τ) (Cert.KernelDwXbc.main (F := Bits))) ⟨m, fun _ => 0, g⟩ (fun r => (∀ c : Dev Cert.KernelDwXbc.nD,
      r.2.mem ((c.tc : Thread Cert.KernelDwXbc.nD Cert.KernelDwXbc.τ).loc Cert.KernelDwXbc.main_arg0) = m ((c.tc : Thread Cert.KernelDwXbc.nD Cert.KernelDwXbc.τ).loc Cert.KernelDwXbc.main_arg0)
      ∧ r.2.mem ((c.tc : Thread Cert.KernelDwXbc.nD Cert.KernelDwXbc.τ).loc Cert.KernelDwXbc.main_arg1) = m ((c.tc : Thread Cert.KernelDwXbc.nD Cert.KernelDwXbc.τ).loc Cert.KernelDwXbc.main_arg1))
      ∧ r.2.sem = fun _ => 0)

def quiescent_KernelDwXbcIdeal [hKernelDwXbcIdeal : Cert.KernelDwXbcIdeal.Facts] : Prop :=
  ∀ (m : (ℓ : Loc Cert.KernelDwXbcIdeal.nD Cert.KernelDwXbcIdeal.τ Cert.KernelDwXbcIdeal.sig) → Buf (Elt Ideal) ℓ) (g : Dev Cert.KernelDwXbcIdeal.nD → PrngReg), Pre_KernelDwXbcIdeal m →
    θ_run (Cert.KernelDwXbcIdeal.defs (F := Ideal)) (onTc (τ := Cert.KernelDwXbcIdeal.τ) (Cert.KernelDwXbcIdeal.main (F := Ideal))) ⟨m, fun _ => 0, g⟩ (fun r => (∀ c : Dev Cert.KernelDwXbcIdeal.nD,
      r.2.mem ((c.tc : Thread Cert.KernelDwXbcIdeal.nD Cert.KernelDwXbcIdeal.τ).loc Cert.KernelDwXbcIdeal.main_arg0) = m ((c.tc : Thread Cert.KernelDwXbcIdeal.nD Cert.KernelDwXbcIdeal.τ).loc Cert.KernelDwXbcIdeal.main_arg0)
      ∧ r.2.mem ((c.tc : Thread Cert.KernelDwXbcIdeal.nD Cert.KernelDwXbcIdeal.τ).loc Cert.KernelDwXbcIdeal.main_arg1) = m ((c.tc : Thread Cert.KernelDwXbcIdeal.nD Cert.KernelDwXbcIdeal.τ).loc Cert.KernelDwXbcIdeal.main_arg1))
      ∧ r.2.sem = fun _ => 0)

def quiescent_ReferenceDwXbcIdeal [hReferenceDwXbcIdeal : Cert.ReferenceDwXbcIdeal.Facts] : Prop :=
  ∀ (m : (ℓ : Loc Cert.ReferenceDwXbcIdeal.nD Cert.ReferenceDwXbcIdeal.τ Cert.ReferenceDwXbcIdeal.sig) → Buf (Elt Ideal) ℓ) (g : Dev Cert.ReferenceDwXbcIdeal.nD → PrngReg), Pre_ReferenceDwXbcIdeal m →
    θ_run (Cert.ReferenceDwXbcIdeal.defs (F := Ideal)) (onTc (τ := Cert.ReferenceDwXbcIdeal.τ) (Cert.ReferenceDwXbcIdeal.main (F := Ideal))) ⟨m, fun _ => 0, g⟩ (fun r => (∀ c : Dev Cert.ReferenceDwXbcIdeal.nD,
      r.2.mem ((c.tc : Thread Cert.ReferenceDwXbcIdeal.nD Cert.ReferenceDwXbcIdeal.τ).loc Cert.ReferenceDwXbcIdeal.main_arg0) = m ((c.tc : Thread Cert.ReferenceDwXbcIdeal.nD Cert.ReferenceDwXbcIdeal.τ).loc Cert.ReferenceDwXbcIdeal.main_arg0)
      ∧ r.2.mem ((c.tc : Thread Cert.ReferenceDwXbcIdeal.nD Cert.ReferenceDwXbcIdeal.τ).loc Cert.ReferenceDwXbcIdeal.main_arg1) = m ((c.tc : Thread Cert.ReferenceDwXbcIdeal.nD Cert.ReferenceDwXbcIdeal.τ).loc Cert.ReferenceDwXbcIdeal.main_arg1))
      ∧ r.2.sem = fun _ => 0)

def quiescent_KernelDwDt [hKernelDwDt : Cert.KernelDwDt.Facts] : Prop :=
  ∀ (m : (ℓ : Loc Cert.KernelDwDt.nD Cert.KernelDwDt.τ Cert.KernelDwDt.sig) → Buf (Elt Bits) ℓ) (g : Dev Cert.KernelDwDt.nD → PrngReg), Pre_KernelDwDt m →
    θ_run (Cert.KernelDwDt.defs (F := Bits)) (onTc (τ := Cert.KernelDwDt.τ) (Cert.KernelDwDt.main (F := Bits))) ⟨m, fun _ => 0, g⟩ (fun r => (∀ c : Dev Cert.KernelDwDt.nD,
      r.2.mem ((c.tc : Thread Cert.KernelDwDt.nD Cert.KernelDwDt.τ).loc Cert.KernelDwDt.main_arg0) = m ((c.tc : Thread Cert.KernelDwDt.nD Cert.KernelDwDt.τ).loc Cert.KernelDwDt.main_arg0)
      ∧ r.2.mem ((c.tc : Thread Cert.KernelDwDt.nD Cert.KernelDwDt.τ).loc Cert.KernelDwDt.main_arg1) = m ((c.tc : Thread Cert.KernelDwDt.nD Cert.KernelDwDt.τ).loc Cert.KernelDwDt.main_arg1))
      ∧ r.2.sem = fun _ => 0)

def quiescent_KernelDwDtIdeal [hKernelDwDtIdeal : Cert.KernelDwDtIdeal.Facts] : Prop :=
  ∀ (m : (ℓ : Loc Cert.KernelDwDtIdeal.nD Cert.KernelDwDtIdeal.τ Cert.KernelDwDtIdeal.sig) → Buf (Elt Ideal) ℓ) (g : Dev Cert.KernelDwDtIdeal.nD → PrngReg), Pre_KernelDwDtIdeal m →
    θ_run (Cert.KernelDwDtIdeal.defs (F := Ideal)) (onTc (τ := Cert.KernelDwDtIdeal.τ) (Cert.KernelDwDtIdeal.main (F := Ideal))) ⟨m, fun _ => 0, g⟩ (fun r => (∀ c : Dev Cert.KernelDwDtIdeal.nD,
      r.2.mem ((c.tc : Thread Cert.KernelDwDtIdeal.nD Cert.KernelDwDtIdeal.τ).loc Cert.KernelDwDtIdeal.main_arg0) = m ((c.tc : Thread Cert.KernelDwDtIdeal.nD Cert.KernelDwDtIdeal.τ).loc Cert.KernelDwDtIdeal.main_arg0)
      ∧ r.2.mem ((c.tc : Thread Cert.KernelDwDtIdeal.nD Cert.KernelDwDtIdeal.τ).loc Cert.KernelDwDtIdeal.main_arg1) = m ((c.tc : Thread Cert.KernelDwDtIdeal.nD Cert.KernelDwDtIdeal.τ).loc Cert.KernelDwDtIdeal.main_arg1))
      ∧ r.2.sem = fun _ => 0)

def quiescent_ReferenceDwDtIdeal [hReferenceDwDtIdeal : Cert.ReferenceDwDtIdeal.Facts] : Prop :=
  ∀ (m : (ℓ : Loc Cert.ReferenceDwDtIdeal.nD Cert.ReferenceDwDtIdeal.τ Cert.ReferenceDwDtIdeal.sig) → Buf (Elt Ideal) ℓ) (g : Dev Cert.ReferenceDwDtIdeal.nD → PrngReg), Pre_ReferenceDwDtIdeal m →
    θ_run (Cert.ReferenceDwDtIdeal.defs (F := Ideal)) (onTc (τ := Cert.ReferenceDwDtIdeal.τ) (Cert.ReferenceDwDtIdeal.main (F := Ideal))) ⟨m, fun _ => 0, g⟩ (fun r => (∀ c : Dev Cert.ReferenceDwDtIdeal.nD,
      r.2.mem ((c.tc : Thread Cert.ReferenceDwDtIdeal.nD Cert.ReferenceDwDtIdeal.τ).loc Cert.ReferenceDwDtIdeal.main_arg0) = m ((c.tc : Thread Cert.ReferenceDwDtIdeal.nD Cert.ReferenceDwDtIdeal.τ).loc Cert.ReferenceDwDtIdeal.main_arg0)
      ∧ r.2.mem ((c.tc : Thread Cert.ReferenceDwDtIdeal.nD Cert.ReferenceDwDtIdeal.τ).loc Cert.ReferenceDwDtIdeal.main_arg1) = m ((c.tc : Thread Cert.ReferenceDwDtIdeal.nD Cert.ReferenceDwDtIdeal.τ).loc Cert.ReferenceDwDtIdeal.main_arg1))
      ∧ r.2.sem = fun _ => 0)

def quiescent_KernelDwFfnOut [hKernelDwFfnOut : Cert.KernelDwFfnOut.Facts] : Prop :=
  ∀ (m : (ℓ : Loc Cert.KernelDwFfnOut.nD Cert.KernelDwFfnOut.τ Cert.KernelDwFfnOut.sig) → Buf (Elt Bits) ℓ) (g : Dev Cert.KernelDwFfnOut.nD → PrngReg), Pre_KernelDwFfnOut m →
    θ_run (Cert.KernelDwFfnOut.defs (F := Bits)) (onTc (τ := Cert.KernelDwFfnOut.τ) (Cert.KernelDwFfnOut.main (F := Bits))) ⟨m, fun _ => 0, g⟩ (fun r => (∀ c : Dev Cert.KernelDwFfnOut.nD,
      r.2.mem ((c.tc : Thread Cert.KernelDwFfnOut.nD Cert.KernelDwFfnOut.τ).loc Cert.KernelDwFfnOut.main_arg0) = m ((c.tc : Thread Cert.KernelDwFfnOut.nD Cert.KernelDwFfnOut.τ).loc Cert.KernelDwFfnOut.main_arg0)
      ∧ r.2.mem ((c.tc : Thread Cert.KernelDwFfnOut.nD Cert.KernelDwFfnOut.τ).loc Cert.KernelDwFfnOut.main_arg1) = m ((c.tc : Thread Cert.KernelDwFfnOut.nD Cert.KernelDwFfnOut.τ).loc Cert.KernelDwFfnOut.main_arg1))
      ∧ r.2.sem = fun _ => 0)

def quiescent_KernelDwFfnOutIdeal [hKernelDwFfnOutIdeal : Cert.KernelDwFfnOutIdeal.Facts] : Prop :=
  ∀ (m : (ℓ : Loc Cert.KernelDwFfnOutIdeal.nD Cert.KernelDwFfnOutIdeal.τ Cert.KernelDwFfnOutIdeal.sig) → Buf (Elt Ideal) ℓ) (g : Dev Cert.KernelDwFfnOutIdeal.nD → PrngReg), Pre_KernelDwFfnOutIdeal m →
    θ_run (Cert.KernelDwFfnOutIdeal.defs (F := Ideal)) (onTc (τ := Cert.KernelDwFfnOutIdeal.τ) (Cert.KernelDwFfnOutIdeal.main (F := Ideal))) ⟨m, fun _ => 0, g⟩ (fun r => (∀ c : Dev Cert.KernelDwFfnOutIdeal.nD,
      r.2.mem ((c.tc : Thread Cert.KernelDwFfnOutIdeal.nD Cert.KernelDwFfnOutIdeal.τ).loc Cert.KernelDwFfnOutIdeal.main_arg0) = m ((c.tc : Thread Cert.KernelDwFfnOutIdeal.nD Cert.KernelDwFfnOutIdeal.τ).loc Cert.KernelDwFfnOutIdeal.main_arg0)
      ∧ r.2.mem ((c.tc : Thread Cert.KernelDwFfnOutIdeal.nD Cert.KernelDwFfnOutIdeal.τ).loc Cert.KernelDwFfnOutIdeal.main_arg1) = m ((c.tc : Thread Cert.KernelDwFfnOutIdeal.nD Cert.KernelDwFfnOutIdeal.τ).loc Cert.KernelDwFfnOutIdeal.main_arg1))
      ∧ r.2.sem = fun _ => 0)

def quiescent_ReferenceDwFfnOutIdeal [hReferenceDwFfnOutIdeal : Cert.ReferenceDwFfnOutIdeal.Facts] : Prop :=
  ∀ (m : (ℓ : Loc Cert.ReferenceDwFfnOutIdeal.nD Cert.ReferenceDwFfnOutIdeal.τ Cert.ReferenceDwFfnOutIdeal.sig) → Buf (Elt Ideal) ℓ) (g : Dev Cert.ReferenceDwFfnOutIdeal.nD → PrngReg), Pre_ReferenceDwFfnOutIdeal m →
    θ_run (Cert.ReferenceDwFfnOutIdeal.defs (F := Ideal)) (onTc (τ := Cert.ReferenceDwFfnOutIdeal.τ) (Cert.ReferenceDwFfnOutIdeal.main (F := Ideal))) ⟨m, fun _ => 0, g⟩ (fun r => (∀ c : Dev Cert.ReferenceDwFfnOutIdeal.nD,
      r.2.mem ((c.tc : Thread Cert.ReferenceDwFfnOutIdeal.nD Cert.ReferenceDwFfnOutIdeal.τ).loc Cert.ReferenceDwFfnOutIdeal.main_arg0) = m ((c.tc : Thread Cert.ReferenceDwFfnOutIdeal.nD Cert.ReferenceDwFfnOutIdeal.τ).loc Cert.ReferenceDwFfnOutIdeal.main_arg0)
      ∧ r.2.mem ((c.tc : Thread Cert.ReferenceDwFfnOutIdeal.nD Cert.ReferenceDwFfnOutIdeal.τ).loc Cert.ReferenceDwFfnOutIdeal.main_arg1) = m ((c.tc : Thread Cert.ReferenceDwFfnOutIdeal.nD Cert.ReferenceDwFfnOutIdeal.τ).loc Cert.ReferenceDwFfnOutIdeal.main_arg1))
      ∧ r.2.sem = fun _ => 0)

def quiescent_KernelDwFfnIn [hKernelDwFfnIn : Cert.KernelDwFfnIn.Facts] : Prop :=
  ∀ (m : (ℓ : Loc Cert.KernelDwFfnIn.nD Cert.KernelDwFfnIn.τ Cert.KernelDwFfnIn.sig) → Buf (Elt Bits) ℓ) (g : Dev Cert.KernelDwFfnIn.nD → PrngReg), Pre_KernelDwFfnIn m →
    θ_run (Cert.KernelDwFfnIn.defs (F := Bits)) (onTc (τ := Cert.KernelDwFfnIn.τ) (Cert.KernelDwFfnIn.main (F := Bits))) ⟨m, fun _ => 0, g⟩ (fun r => (∀ c : Dev Cert.KernelDwFfnIn.nD,
      r.2.mem ((c.tc : Thread Cert.KernelDwFfnIn.nD Cert.KernelDwFfnIn.τ).loc Cert.KernelDwFfnIn.main_arg0) = m ((c.tc : Thread Cert.KernelDwFfnIn.nD Cert.KernelDwFfnIn.τ).loc Cert.KernelDwFfnIn.main_arg0)
      ∧ r.2.mem ((c.tc : Thread Cert.KernelDwFfnIn.nD Cert.KernelDwFfnIn.τ).loc Cert.KernelDwFfnIn.main_arg1) = m ((c.tc : Thread Cert.KernelDwFfnIn.nD Cert.KernelDwFfnIn.τ).loc Cert.KernelDwFfnIn.main_arg1))
      ∧ r.2.sem = fun _ => 0)

def quiescent_KernelDwFfnInIdeal [hKernelDwFfnInIdeal : Cert.KernelDwFfnInIdeal.Facts] : Prop :=
  ∀ (m : (ℓ : Loc Cert.KernelDwFfnInIdeal.nD Cert.KernelDwFfnInIdeal.τ Cert.KernelDwFfnInIdeal.sig) → Buf (Elt Ideal) ℓ) (g : Dev Cert.KernelDwFfnInIdeal.nD → PrngReg), Pre_KernelDwFfnInIdeal m →
    θ_run (Cert.KernelDwFfnInIdeal.defs (F := Ideal)) (onTc (τ := Cert.KernelDwFfnInIdeal.τ) (Cert.KernelDwFfnInIdeal.main (F := Ideal))) ⟨m, fun _ => 0, g⟩ (fun r => (∀ c : Dev Cert.KernelDwFfnInIdeal.nD,
      r.2.mem ((c.tc : Thread Cert.KernelDwFfnInIdeal.nD Cert.KernelDwFfnInIdeal.τ).loc Cert.KernelDwFfnInIdeal.main_arg0) = m ((c.tc : Thread Cert.KernelDwFfnInIdeal.nD Cert.KernelDwFfnInIdeal.τ).loc Cert.KernelDwFfnInIdeal.main_arg0)
      ∧ r.2.mem ((c.tc : Thread Cert.KernelDwFfnInIdeal.nD Cert.KernelDwFfnInIdeal.τ).loc Cert.KernelDwFfnInIdeal.main_arg1) = m ((c.tc : Thread Cert.KernelDwFfnInIdeal.nD Cert.KernelDwFfnInIdeal.τ).loc Cert.KernelDwFfnInIdeal.main_arg1))
      ∧ r.2.sem = fun _ => 0)

def quiescent_ReferenceDwFfnInIdeal [hReferenceDwFfnInIdeal : Cert.ReferenceDwFfnInIdeal.Facts] : Prop :=
  ∀ (m : (ℓ : Loc Cert.ReferenceDwFfnInIdeal.nD Cert.ReferenceDwFfnInIdeal.τ Cert.ReferenceDwFfnInIdeal.sig) → Buf (Elt Ideal) ℓ) (g : Dev Cert.ReferenceDwFfnInIdeal.nD → PrngReg), Pre_ReferenceDwFfnInIdeal m →
    θ_run (Cert.ReferenceDwFfnInIdeal.defs (F := Ideal)) (onTc (τ := Cert.ReferenceDwFfnInIdeal.τ) (Cert.ReferenceDwFfnInIdeal.main (F := Ideal))) ⟨m, fun _ => 0, g⟩ (fun r => (∀ c : Dev Cert.ReferenceDwFfnInIdeal.nD,
      r.2.mem ((c.tc : Thread Cert.ReferenceDwFfnInIdeal.nD Cert.ReferenceDwFfnInIdeal.τ).loc Cert.ReferenceDwFfnInIdeal.main_arg0) = m ((c.tc : Thread Cert.ReferenceDwFfnInIdeal.nD Cert.ReferenceDwFfnInIdeal.τ).loc Cert.ReferenceDwFfnInIdeal.main_arg0)
      ∧ r.2.mem ((c.tc : Thread Cert.ReferenceDwFfnInIdeal.nD Cert.ReferenceDwFfnInIdeal.τ).loc Cert.ReferenceDwFfnInIdeal.main_arg1) = m ((c.tc : Thread Cert.ReferenceDwFfnInIdeal.nD Cert.ReferenceDwFfnInIdeal.τ).loc Cert.ReferenceDwFfnInIdeal.main_arg1))
      ∧ r.2.sem = fun _ => 0)

def quiescent_KernelDwBrb [hKernelDwBrb : Cert.KernelDwBrb.Facts] : Prop :=
  ∀ (m : (ℓ : Loc Cert.KernelDwBrb.nD Cert.KernelDwBrb.τ Cert.KernelDwBrb.sig) → Buf (Elt Bits) ℓ) (g : Dev Cert.KernelDwBrb.nD → PrngReg), Pre_KernelDwBrb m →
    θ_run (Cert.KernelDwBrb.defs (F := Bits)) (onTc (τ := Cert.KernelDwBrb.τ) (Cert.KernelDwBrb.main (F := Bits))) ⟨m, fun _ => 0, g⟩ (fun r => (∀ c : Dev Cert.KernelDwBrb.nD,
      r.2.mem ((c.tc : Thread Cert.KernelDwBrb.nD Cert.KernelDwBrb.τ).loc Cert.KernelDwBrb.main_arg0) = m ((c.tc : Thread Cert.KernelDwBrb.nD Cert.KernelDwBrb.τ).loc Cert.KernelDwBrb.main_arg0)
      ∧ r.2.mem ((c.tc : Thread Cert.KernelDwBrb.nD Cert.KernelDwBrb.τ).loc Cert.KernelDwBrb.main_arg1) = m ((c.tc : Thread Cert.KernelDwBrb.nD Cert.KernelDwBrb.τ).loc Cert.KernelDwBrb.main_arg1))
      ∧ r.2.sem = fun _ => 0)

def quiescent_KernelDwBrbIdeal [hKernelDwBrbIdeal : Cert.KernelDwBrbIdeal.Facts] : Prop :=
  ∀ (m : (ℓ : Loc Cert.KernelDwBrbIdeal.nD Cert.KernelDwBrbIdeal.τ Cert.KernelDwBrbIdeal.sig) → Buf (Elt Ideal) ℓ) (g : Dev Cert.KernelDwBrbIdeal.nD → PrngReg), Pre_KernelDwBrbIdeal m →
    θ_run (Cert.KernelDwBrbIdeal.defs (F := Ideal)) (onTc (τ := Cert.KernelDwBrbIdeal.τ) (Cert.KernelDwBrbIdeal.main (F := Ideal))) ⟨m, fun _ => 0, g⟩ (fun r => (∀ c : Dev Cert.KernelDwBrbIdeal.nD,
      r.2.mem ((c.tc : Thread Cert.KernelDwBrbIdeal.nD Cert.KernelDwBrbIdeal.τ).loc Cert.KernelDwBrbIdeal.main_arg0) = m ((c.tc : Thread Cert.KernelDwBrbIdeal.nD Cert.KernelDwBrbIdeal.τ).loc Cert.KernelDwBrbIdeal.main_arg0)
      ∧ r.2.mem ((c.tc : Thread Cert.KernelDwBrbIdeal.nD Cert.KernelDwBrbIdeal.τ).loc Cert.KernelDwBrbIdeal.main_arg1) = m ((c.tc : Thread Cert.KernelDwBrbIdeal.nD Cert.KernelDwBrbIdeal.τ).loc Cert.KernelDwBrbIdeal.main_arg1))
      ∧ r.2.sem = fun _ => 0)

def quiescent_ReferenceDwBrbIdeal [hReferenceDwBrbIdeal : Cert.ReferenceDwBrbIdeal.Facts] : Prop :=
  ∀ (m : (ℓ : Loc Cert.ReferenceDwBrbIdeal.nD Cert.ReferenceDwBrbIdeal.τ Cert.ReferenceDwBrbIdeal.sig) → Buf (Elt Ideal) ℓ) (g : Dev Cert.ReferenceDwBrbIdeal.nD → PrngReg), Pre_ReferenceDwBrbIdeal m →
    θ_run (Cert.ReferenceDwBrbIdeal.defs (F := Ideal)) (onTc (τ := Cert.ReferenceDwBrbIdeal.τ) (Cert.ReferenceDwBrbIdeal.main (F := Ideal))) ⟨m, fun _ => 0, g⟩ (fun r => (∀ c : Dev Cert.ReferenceDwBrbIdeal.nD,
      r.2.mem ((c.tc : Thread Cert.ReferenceDwBrbIdeal.nD Cert.ReferenceDwBrbIdeal.τ).loc Cert.ReferenceDwBrbIdeal.main_arg0) = m ((c.tc : Thread Cert.ReferenceDwBrbIdeal.nD Cert.ReferenceDwBrbIdeal.τ).loc Cert.ReferenceDwBrbIdeal.main_arg0)
      ∧ r.2.mem ((c.tc : Thread Cert.ReferenceDwBrbIdeal.nD Cert.ReferenceDwBrbIdeal.τ).loc Cert.ReferenceDwBrbIdeal.main_arg1) = m ((c.tc : Thread Cert.ReferenceDwBrbIdeal.nD Cert.ReferenceDwBrbIdeal.τ).loc Cert.ReferenceDwBrbIdeal.main_arg1))
      ∧ r.2.sem = fun _ => 0)

def quiescent_KernelDAct [hKernelDAct : Cert.KernelDAct.Facts] : Prop :=
  ∀ (m : (ℓ : Loc Cert.KernelDAct.nD Cert.KernelDAct.τ Cert.KernelDAct.sig) → Buf (Elt Bits) ℓ) (g : Dev Cert.KernelDAct.nD → PrngReg), Pre_KernelDAct m →
    θ_run (Cert.KernelDAct.defs (F := Bits)) (onTc (τ := Cert.KernelDAct.τ) (Cert.KernelDAct.main (F := Bits))) ⟨m, fun _ => 0, g⟩ (fun r => (∀ c : Dev Cert.KernelDAct.nD,
      r.2.mem ((c.tc : Thread Cert.KernelDAct.nD Cert.KernelDAct.τ).loc Cert.KernelDAct.main_arg0) = m ((c.tc : Thread Cert.KernelDAct.nD Cert.KernelDAct.τ).loc Cert.KernelDAct.main_arg0)
      ∧ r.2.mem ((c.tc : Thread Cert.KernelDAct.nD Cert.KernelDAct.τ).loc Cert.KernelDAct.main_arg1) = m ((c.tc : Thread Cert.KernelDAct.nD Cert.KernelDAct.τ).loc Cert.KernelDAct.main_arg1))
      ∧ r.2.sem = fun _ => 0)

def quiescent_KernelDActIdeal [hKernelDActIdeal : Cert.KernelDActIdeal.Facts] : Prop :=
  ∀ (m : (ℓ : Loc Cert.KernelDActIdeal.nD Cert.KernelDActIdeal.τ Cert.KernelDActIdeal.sig) → Buf (Elt Ideal) ℓ) (g : Dev Cert.KernelDActIdeal.nD → PrngReg), Pre_KernelDActIdeal m →
    θ_run (Cert.KernelDActIdeal.defs (F := Ideal)) (onTc (τ := Cert.KernelDActIdeal.τ) (Cert.KernelDActIdeal.main (F := Ideal))) ⟨m, fun _ => 0, g⟩ (fun r => (∀ c : Dev Cert.KernelDActIdeal.nD,
      r.2.mem ((c.tc : Thread Cert.KernelDActIdeal.nD Cert.KernelDActIdeal.τ).loc Cert.KernelDActIdeal.main_arg0) = m ((c.tc : Thread Cert.KernelDActIdeal.nD Cert.KernelDActIdeal.τ).loc Cert.KernelDActIdeal.main_arg0)
      ∧ r.2.mem ((c.tc : Thread Cert.KernelDActIdeal.nD Cert.KernelDActIdeal.τ).loc Cert.KernelDActIdeal.main_arg1) = m ((c.tc : Thread Cert.KernelDActIdeal.nD Cert.KernelDActIdeal.τ).loc Cert.KernelDActIdeal.main_arg1))
      ∧ r.2.sem = fun _ => 0)

def quiescent_ReferenceDActIdeal [hReferenceDActIdeal : Cert.ReferenceDActIdeal.Facts] : Prop :=
  ∀ (m : (ℓ : Loc Cert.ReferenceDActIdeal.nD Cert.ReferenceDActIdeal.τ Cert.ReferenceDActIdeal.sig) → Buf (Elt Ideal) ℓ) (g : Dev Cert.ReferenceDActIdeal.nD → PrngReg), Pre_ReferenceDActIdeal m →
    θ_run (Cert.ReferenceDActIdeal.defs (F := Ideal)) (onTc (τ := Cert.ReferenceDActIdeal.τ) (Cert.ReferenceDActIdeal.main (F := Ideal))) ⟨m, fun _ => 0, g⟩ (fun r => (∀ c : Dev Cert.ReferenceDActIdeal.nD,
      r.2.mem ((c.tc : Thread Cert.ReferenceDActIdeal.nD Cert.ReferenceDActIdeal.τ).loc Cert.ReferenceDActIdeal.main_arg0) = m ((c.tc : Thread Cert.ReferenceDActIdeal.nD Cert.ReferenceDActIdeal.τ).loc Cert.ReferenceDActIdeal.main_arg0)
      ∧ r.2.mem ((c.tc : Thread Cert.ReferenceDActIdeal.nD Cert.ReferenceDActIdeal.τ).loc Cert.ReferenceDActIdeal.main_arg1) = m ((c.tc : Thread Cert.ReferenceDActIdeal.nD Cert.ReferenceDActIdeal.τ).loc Cert.ReferenceDActIdeal.main_arg1))
      ∧ r.2.sem = fun _ => 0)

def quiescent_KernelDx [hKernelDx : Cert.KernelDx.Facts] : Prop :=
  ∀ (m : (ℓ : Loc Cert.KernelDx.nD Cert.KernelDx.τ Cert.KernelDx.sig) → Buf (Elt Bits) ℓ) (g : Dev Cert.KernelDx.nD → PrngReg), Pre_KernelDx m →
    θ_run (Cert.KernelDx.defs (F := Bits)) (onTc (τ := Cert.KernelDx.τ) (Cert.KernelDx.main (F := Bits))) ⟨m, fun _ => 0, g⟩ (fun r => (∀ c : Dev Cert.KernelDx.nD,
      r.2.mem ((c.tc : Thread Cert.KernelDx.nD Cert.KernelDx.τ).loc Cert.KernelDx.main_arg0) = m ((c.tc : Thread Cert.KernelDx.nD Cert.KernelDx.τ).loc Cert.KernelDx.main_arg0)
      ∧ r.2.mem ((c.tc : Thread Cert.KernelDx.nD Cert.KernelDx.τ).loc Cert.KernelDx.main_arg1) = m ((c.tc : Thread Cert.KernelDx.nD Cert.KernelDx.τ).loc Cert.KernelDx.main_arg1))
      ∧ r.2.sem = fun _ => 0)

def quiescent_KernelDxIdeal [hKernelDxIdeal : Cert.KernelDxIdeal.Facts] : Prop :=
  ∀ (m : (ℓ : Loc Cert.KernelDxIdeal.nD Cert.KernelDxIdeal.τ Cert.KernelDxIdeal.sig) → Buf (Elt Ideal) ℓ) (g : Dev Cert.KernelDxIdeal.nD → PrngReg), Pre_KernelDxIdeal m →
    θ_run (Cert.KernelDxIdeal.defs (F := Ideal)) (onTc (τ := Cert.KernelDxIdeal.τ) (Cert.KernelDxIdeal.main (F := Ideal))) ⟨m, fun _ => 0, g⟩ (fun r => (∀ c : Dev Cert.KernelDxIdeal.nD,
      r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
      ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1))
      ∧ r.2.sem = fun _ => 0)

def quiescent_ReferenceDxIdeal [hReferenceDxIdeal : Cert.ReferenceDxIdeal.Facts] : Prop :=
  ∀ (m : (ℓ : Loc Cert.ReferenceDxIdeal.nD Cert.ReferenceDxIdeal.τ Cert.ReferenceDxIdeal.sig) → Buf (Elt Ideal) ℓ) (g : Dev Cert.ReferenceDxIdeal.nD → PrngReg), Pre_ReferenceDxIdeal m →
    θ_run (Cert.ReferenceDxIdeal.defs (F := Ideal)) (onTc (τ := Cert.ReferenceDxIdeal.τ) (Cert.ReferenceDxIdeal.main (F := Ideal))) ⟨m, fun _ => 0, g⟩ (fun r => (∀ c : Dev Cert.ReferenceDxIdeal.nD,
      r.2.mem ((c.tc : Thread Cert.ReferenceDxIdeal.nD Cert.ReferenceDxIdeal.τ).loc Cert.ReferenceDxIdeal.main_arg0) = m ((c.tc : Thread Cert.ReferenceDxIdeal.nD Cert.ReferenceDxIdeal.τ).loc Cert.ReferenceDxIdeal.main_arg0)
      ∧ r.2.mem ((c.tc : Thread Cert.ReferenceDxIdeal.nD Cert.ReferenceDxIdeal.τ).loc Cert.ReferenceDxIdeal.main_arg1) = m ((c.tc : Thread Cert.ReferenceDxIdeal.nD Cert.ReferenceDxIdeal.τ).loc Cert.ReferenceDxIdeal.main_arg1))
      ∧ r.2.sem = fun _ => 0)

def quiescent_KernelDYb [hKernelDYb : Cert.KernelDYb.Facts] : Prop :=
  ∀ (m : (ℓ : Loc Cert.KernelDYb.nD Cert.KernelDYb.τ Cert.KernelDYb.sig) → Buf (Elt Bits) ℓ) (g : Dev Cert.KernelDYb.nD → PrngReg), Pre_KernelDYb m →
    θ_run (Cert.KernelDYb.defs (F := Bits)) (onTc (τ := Cert.KernelDYb.τ) (Cert.KernelDYb.main (F := Bits))) ⟨m, fun _ => 0, g⟩ (fun r => (∀ c : Dev Cert.KernelDYb.nD,
      r.2.mem ((c.tc : Thread Cert.KernelDYb.nD Cert.KernelDYb.τ).loc Cert.KernelDYb.main_arg0) = m ((c.tc : Thread Cert.KernelDYb.nD Cert.KernelDYb.τ).loc Cert.KernelDYb.main_arg0)
      ∧ r.2.mem ((c.tc : Thread Cert.KernelDYb.nD Cert.KernelDYb.τ).loc Cert.KernelDYb.main_arg1) = m ((c.tc : Thread Cert.KernelDYb.nD Cert.KernelDYb.τ).loc Cert.KernelDYb.main_arg1))
      ∧ r.2.sem = fun _ => 0)

def quiescent_KernelDYbIdeal [hKernelDYbIdeal : Cert.KernelDYbIdeal.Facts] : Prop :=
  ∀ (m : (ℓ : Loc Cert.KernelDYbIdeal.nD Cert.KernelDYbIdeal.τ Cert.KernelDYbIdeal.sig) → Buf (Elt Ideal) ℓ) (g : Dev Cert.KernelDYbIdeal.nD → PrngReg), Pre_KernelDYbIdeal m →
    θ_run (Cert.KernelDYbIdeal.defs (F := Ideal)) (onTc (τ := Cert.KernelDYbIdeal.τ) (Cert.KernelDYbIdeal.main (F := Ideal))) ⟨m, fun _ => 0, g⟩ (fun r => (∀ c : Dev Cert.KernelDYbIdeal.nD,
      r.2.mem ((c.tc : Thread Cert.KernelDYbIdeal.nD Cert.KernelDYbIdeal.τ).loc Cert.KernelDYbIdeal.main_arg0) = m ((c.tc : Thread Cert.KernelDYbIdeal.nD Cert.KernelDYbIdeal.τ).loc Cert.KernelDYbIdeal.main_arg0)
      ∧ r.2.mem ((c.tc : Thread Cert.KernelDYbIdeal.nD Cert.KernelDYbIdeal.τ).loc Cert.KernelDYbIdeal.main_arg1) = m ((c.tc : Thread Cert.KernelDYbIdeal.nD Cert.KernelDYbIdeal.τ).loc Cert.KernelDYbIdeal.main_arg1))
      ∧ r.2.sem = fun _ => 0)

def quiescent_ReferenceDYbIdeal [hReferenceDYbIdeal : Cert.ReferenceDYbIdeal.Facts] : Prop :=
  ∀ (m : (ℓ : Loc Cert.ReferenceDYbIdeal.nD Cert.ReferenceDYbIdeal.τ Cert.ReferenceDYbIdeal.sig) → Buf (Elt Ideal) ℓ) (g : Dev Cert.ReferenceDYbIdeal.nD → PrngReg), Pre_ReferenceDYbIdeal m →
    θ_run (Cert.ReferenceDYbIdeal.defs (F := Ideal)) (onTc (τ := Cert.ReferenceDYbIdeal.τ) (Cert.ReferenceDYbIdeal.main (F := Ideal))) ⟨m, fun _ => 0, g⟩ (fun r => (∀ c : Dev Cert.ReferenceDYbIdeal.nD,
      r.2.mem ((c.tc : Thread Cert.ReferenceDYbIdeal.nD Cert.ReferenceDYbIdeal.τ).loc Cert.ReferenceDYbIdeal.main_arg0) = m ((c.tc : Thread Cert.ReferenceDYbIdeal.nD Cert.ReferenceDYbIdeal.τ).loc Cert.ReferenceDYbIdeal.main_arg0)
      ∧ r.2.mem ((c.tc : Thread Cert.ReferenceDYbIdeal.nD Cert.ReferenceDYbIdeal.τ).loc Cert.ReferenceDYbIdeal.main_arg1) = m ((c.tc : Thread Cert.ReferenceDYbIdeal.nD Cert.ReferenceDYbIdeal.τ).loc Cert.ReferenceDYbIdeal.main_arg1))
      ∧ r.2.sem = fun _ => 0)

def quiescent_KernelDXn2 [hKernelDXn2 : Cert.KernelDXn2.Facts] : Prop :=
  ∀ (m : (ℓ : Loc Cert.KernelDXn2.nD Cert.KernelDXn2.τ Cert.KernelDXn2.sig) → Buf (Elt Bits) ℓ) (g : Dev Cert.KernelDXn2.nD → PrngReg), Pre_KernelDXn2 m →
    θ_run (Cert.KernelDXn2.defs (F := Bits)) (onTc (τ := Cert.KernelDXn2.τ) (Cert.KernelDXn2.main (F := Bits))) ⟨m, fun _ => 0, g⟩ (fun r => (∀ c : Dev Cert.KernelDXn2.nD,
      r.2.mem ((c.tc : Thread Cert.KernelDXn2.nD Cert.KernelDXn2.τ).loc Cert.KernelDXn2.main_arg0) = m ((c.tc : Thread Cert.KernelDXn2.nD Cert.KernelDXn2.τ).loc Cert.KernelDXn2.main_arg0)
      ∧ r.2.mem ((c.tc : Thread Cert.KernelDXn2.nD Cert.KernelDXn2.τ).loc Cert.KernelDXn2.main_arg1) = m ((c.tc : Thread Cert.KernelDXn2.nD Cert.KernelDXn2.τ).loc Cert.KernelDXn2.main_arg1))
      ∧ r.2.sem = fun _ => 0)

def quiescent_KernelDXn2Ideal [hKernelDXn2Ideal : Cert.KernelDXn2Ideal.Facts] : Prop :=
  ∀ (m : (ℓ : Loc Cert.KernelDXn2Ideal.nD Cert.KernelDXn2Ideal.τ Cert.KernelDXn2Ideal.sig) → Buf (Elt Ideal) ℓ) (g : Dev Cert.KernelDXn2Ideal.nD → PrngReg), Pre_KernelDXn2Ideal m →
    θ_run (Cert.KernelDXn2Ideal.defs (F := Ideal)) (onTc (τ := Cert.KernelDXn2Ideal.τ) (Cert.KernelDXn2Ideal.main (F := Ideal))) ⟨m, fun _ => 0, g⟩ (fun r => (∀ c : Dev Cert.KernelDXn2Ideal.nD,
      r.2.mem ((c.tc : Thread Cert.KernelDXn2Ideal.nD Cert.KernelDXn2Ideal.τ).loc Cert.KernelDXn2Ideal.main_arg0) = m ((c.tc : Thread Cert.KernelDXn2Ideal.nD Cert.KernelDXn2Ideal.τ).loc Cert.KernelDXn2Ideal.main_arg0)
      ∧ r.2.mem ((c.tc : Thread Cert.KernelDXn2Ideal.nD Cert.KernelDXn2Ideal.τ).loc Cert.KernelDXn2Ideal.main_arg1) = m ((c.tc : Thread Cert.KernelDXn2Ideal.nD Cert.KernelDXn2Ideal.τ).loc Cert.KernelDXn2Ideal.main_arg1))
      ∧ r.2.sem = fun _ => 0)

def quiescent_ReferenceDXn2Ideal [hReferenceDXn2Ideal : Cert.ReferenceDXn2Ideal.Facts] : Prop :=
  ∀ (m : (ℓ : Loc Cert.ReferenceDXn2Ideal.nD Cert.ReferenceDXn2Ideal.τ Cert.ReferenceDXn2Ideal.sig) → Buf (Elt Ideal) ℓ) (g : Dev Cert.ReferenceDXn2Ideal.nD → PrngReg), Pre_ReferenceDXn2Ideal m →
    θ_run (Cert.ReferenceDXn2Ideal.defs (F := Ideal)) (onTc (τ := Cert.ReferenceDXn2Ideal.τ) (Cert.ReferenceDXn2Ideal.main (F := Ideal))) ⟨m, fun _ => 0, g⟩ (fun r => (∀ c : Dev Cert.ReferenceDXn2Ideal.nD,
      r.2.mem ((c.tc : Thread Cert.ReferenceDXn2Ideal.nD Cert.ReferenceDXn2Ideal.τ).loc Cert.ReferenceDXn2Ideal.main_arg0) = m ((c.tc : Thread Cert.ReferenceDXn2Ideal.nD Cert.ReferenceDXn2Ideal.τ).loc Cert.ReferenceDXn2Ideal.main_arg0)
      ∧ r.2.mem ((c.tc : Thread Cert.ReferenceDXn2Ideal.nD Cert.ReferenceDXn2Ideal.τ).loc Cert.ReferenceDXn2Ideal.main_arg1) = m ((c.tc : Thread Cert.ReferenceDXn2Ideal.nD Cert.ReferenceDXn2Ideal.τ).loc Cert.ReferenceDXn2Ideal.main_arg1))
      ∧ r.2.sem = fun _ => 0)

def quiescent_KernelDXnA [hKernelDXnA : Cert.KernelDXnA.Facts] : Prop :=
  ∀ (m : (ℓ : Loc Cert.KernelDXnA.nD Cert.KernelDXnA.τ Cert.KernelDXnA.sig) → Buf (Elt Bits) ℓ) (g : Dev Cert.KernelDXnA.nD → PrngReg), Pre_KernelDXnA m →
    θ_run (Cert.KernelDXnA.defs (F := Bits)) (onTc (τ := Cert.KernelDXnA.τ) (Cert.KernelDXnA.main (F := Bits))) ⟨m, fun _ => 0, g⟩ (fun r => (∀ c : Dev Cert.KernelDXnA.nD,
      r.2.mem ((c.tc : Thread Cert.KernelDXnA.nD Cert.KernelDXnA.τ).loc Cert.KernelDXnA.main_arg0) = m ((c.tc : Thread Cert.KernelDXnA.nD Cert.KernelDXnA.τ).loc Cert.KernelDXnA.main_arg0)
      ∧ r.2.mem ((c.tc : Thread Cert.KernelDXnA.nD Cert.KernelDXnA.τ).loc Cert.KernelDXnA.main_arg1) = m ((c.tc : Thread Cert.KernelDXnA.nD Cert.KernelDXnA.τ).loc Cert.KernelDXnA.main_arg1)
      ∧ r.2.mem ((c.tc : Thread Cert.KernelDXnA.nD Cert.KernelDXnA.τ).loc Cert.KernelDXnA.main_arg2) = m ((c.tc : Thread Cert.KernelDXnA.nD Cert.KernelDXnA.τ).loc Cert.KernelDXnA.main_arg2)
      ∧ r.2.mem ((c.tc : Thread Cert.KernelDXnA.nD Cert.KernelDXnA.τ).loc Cert.KernelDXnA.main_arg3) = m ((c.tc : Thread Cert.KernelDXnA.nD Cert.KernelDXnA.τ).loc Cert.KernelDXnA.main_arg3)
      ∧ r.2.mem ((c.tc : Thread Cert.KernelDXnA.nD Cert.KernelDXnA.τ).loc Cert.KernelDXnA.main_arg4) = m ((c.tc : Thread Cert.KernelDXnA.nD Cert.KernelDXnA.τ).loc Cert.KernelDXnA.main_arg4)
      ∧ r.2.mem ((c.tc : Thread Cert.KernelDXnA.nD Cert.KernelDXnA.τ).loc Cert.KernelDXnA.main_arg5) = m ((c.tc : Thread Cert.KernelDXnA.nD Cert.KernelDXnA.τ).loc Cert.KernelDXnA.main_arg5))
      ∧ r.2.sem = fun _ => 0)

def quiescent_KernelDXnAIdeal [hKernelDXnAIdeal : Cert.KernelDXnAIdeal.Facts] : Prop :=
  ∀ (m : (ℓ : Loc Cert.KernelDXnAIdeal.nD Cert.KernelDXnAIdeal.τ Cert.KernelDXnAIdeal.sig) → Buf (Elt Ideal) ℓ) (g : Dev Cert.KernelDXnAIdeal.nD → PrngReg), Pre_KernelDXnAIdeal m →
    θ_run (Cert.KernelDXnAIdeal.defs (F := Ideal)) (onTc (τ := Cert.KernelDXnAIdeal.τ) (Cert.KernelDXnAIdeal.main (F := Ideal))) ⟨m, fun _ => 0, g⟩ (fun r => (∀ c : Dev Cert.KernelDXnAIdeal.nD,
      r.2.mem ((c.tc : Thread Cert.KernelDXnAIdeal.nD Cert.KernelDXnAIdeal.τ).loc Cert.KernelDXnAIdeal.main_arg0) = m ((c.tc : Thread Cert.KernelDXnAIdeal.nD Cert.KernelDXnAIdeal.τ).loc Cert.KernelDXnAIdeal.main_arg0)
      ∧ r.2.mem ((c.tc : Thread Cert.KernelDXnAIdeal.nD Cert.KernelDXnAIdeal.τ).loc Cert.KernelDXnAIdeal.main_arg1) = m ((c.tc : Thread Cert.KernelDXnAIdeal.nD Cert.KernelDXnAIdeal.τ).loc Cert.KernelDXnAIdeal.main_arg1)
      ∧ r.2.mem ((c.tc : Thread Cert.KernelDXnAIdeal.nD Cert.KernelDXnAIdeal.τ).loc Cert.KernelDXnAIdeal.main_arg2) = m ((c.tc : Thread Cert.KernelDXnAIdeal.nD Cert.KernelDXnAIdeal.τ).loc Cert.KernelDXnAIdeal.main_arg2)
      ∧ r.2.mem ((c.tc : Thread Cert.KernelDXnAIdeal.nD Cert.KernelDXnAIdeal.τ).loc Cert.KernelDXnAIdeal.main_arg3) = m ((c.tc : Thread Cert.KernelDXnAIdeal.nD Cert.KernelDXnAIdeal.τ).loc Cert.KernelDXnAIdeal.main_arg3)
      ∧ r.2.mem ((c.tc : Thread Cert.KernelDXnAIdeal.nD Cert.KernelDXnAIdeal.τ).loc Cert.KernelDXnAIdeal.main_arg4) = m ((c.tc : Thread Cert.KernelDXnAIdeal.nD Cert.KernelDXnAIdeal.τ).loc Cert.KernelDXnAIdeal.main_arg4)
      ∧ r.2.mem ((c.tc : Thread Cert.KernelDXnAIdeal.nD Cert.KernelDXnAIdeal.τ).loc Cert.KernelDXnAIdeal.main_arg5) = m ((c.tc : Thread Cert.KernelDXnAIdeal.nD Cert.KernelDXnAIdeal.τ).loc Cert.KernelDXnAIdeal.main_arg5))
      ∧ r.2.sem = fun _ => 0)

def quiescent_ReferenceDXnAIdeal [hReferenceDXnAIdeal : Cert.ReferenceDXnAIdeal.Facts] : Prop :=
  ∀ (m : (ℓ : Loc Cert.ReferenceDXnAIdeal.nD Cert.ReferenceDXnAIdeal.τ Cert.ReferenceDXnAIdeal.sig) → Buf (Elt Ideal) ℓ) (g : Dev Cert.ReferenceDXnAIdeal.nD → PrngReg), Pre_ReferenceDXnAIdeal m →
    θ_run (Cert.ReferenceDXnAIdeal.defs (F := Ideal)) (onTc (τ := Cert.ReferenceDXnAIdeal.τ) (Cert.ReferenceDXnAIdeal.main (F := Ideal))) ⟨m, fun _ => 0, g⟩ (fun r => (∀ c : Dev Cert.ReferenceDXnAIdeal.nD,
      r.2.mem ((c.tc : Thread Cert.ReferenceDXnAIdeal.nD Cert.ReferenceDXnAIdeal.τ).loc Cert.ReferenceDXnAIdeal.main_arg0) = m ((c.tc : Thread Cert.ReferenceDXnAIdeal.nD Cert.ReferenceDXnAIdeal.τ).loc Cert.ReferenceDXnAIdeal.main_arg0)
      ∧ r.2.mem ((c.tc : Thread Cert.ReferenceDXnAIdeal.nD Cert.ReferenceDXnAIdeal.τ).loc Cert.ReferenceDXnAIdeal.main_arg1) = m ((c.tc : Thread Cert.ReferenceDXnAIdeal.nD Cert.ReferenceDXnAIdeal.τ).loc Cert.ReferenceDXnAIdeal.main_arg1)
      ∧ r.2.mem ((c.tc : Thread Cert.ReferenceDXnAIdeal.nD Cert.ReferenceDXnAIdeal.τ).loc Cert.ReferenceDXnAIdeal.main_arg2) = m ((c.tc : Thread Cert.ReferenceDXnAIdeal.nD Cert.ReferenceDXnAIdeal.τ).loc Cert.ReferenceDXnAIdeal.main_arg2)
      ∧ r.2.mem ((c.tc : Thread Cert.ReferenceDXnAIdeal.nD Cert.ReferenceDXnAIdeal.τ).loc Cert.ReferenceDXnAIdeal.main_arg3) = m ((c.tc : Thread Cert.ReferenceDXnAIdeal.nD Cert.ReferenceDXnAIdeal.τ).loc Cert.ReferenceDXnAIdeal.main_arg3)
      ∧ r.2.mem ((c.tc : Thread Cert.ReferenceDXnAIdeal.nD Cert.ReferenceDXnAIdeal.τ).loc Cert.ReferenceDXnAIdeal.main_arg4) = m ((c.tc : Thread Cert.ReferenceDXnAIdeal.nD Cert.ReferenceDXnAIdeal.τ).loc Cert.ReferenceDXnAIdeal.main_arg4)
      ∧ r.2.mem ((c.tc : Thread Cert.ReferenceDXnAIdeal.nD Cert.ReferenceDXnAIdeal.τ).loc Cert.ReferenceDXnAIdeal.main_arg5) = m ((c.tc : Thread Cert.ReferenceDXnAIdeal.nD Cert.ReferenceDXnAIdeal.τ).loc Cert.ReferenceDXnAIdeal.main_arg5))
      ∧ r.2.sem = fun _ => 0)

def quiescent_KernelDXnB [hKernelDXnB : Cert.KernelDXnB.Facts] : Prop :=
  ∀ (m : (ℓ : Loc Cert.KernelDXnB.nD Cert.KernelDXnB.τ Cert.KernelDXnB.sig) → Buf (Elt Bits) ℓ) (g : Dev Cert.KernelDXnB.nD → PrngReg), Pre_KernelDXnB m →
    θ_run (Cert.KernelDXnB.defs (F := Bits)) (onTc (τ := Cert.KernelDXnB.τ) (Cert.KernelDXnB.main (F := Bits))) ⟨m, fun _ => 0, g⟩ (fun r => (∀ c : Dev Cert.KernelDXnB.nD,
      r.2.mem ((c.tc : Thread Cert.KernelDXnB.nD Cert.KernelDXnB.τ).loc Cert.KernelDXnB.main_arg0) = m ((c.tc : Thread Cert.KernelDXnB.nD Cert.KernelDXnB.τ).loc Cert.KernelDXnB.main_arg0)
      ∧ r.2.mem ((c.tc : Thread Cert.KernelDXnB.nD Cert.KernelDXnB.τ).loc Cert.KernelDXnB.main_arg1) = m ((c.tc : Thread Cert.KernelDXnB.nD Cert.KernelDXnB.τ).loc Cert.KernelDXnB.main_arg1)
      ∧ r.2.mem ((c.tc : Thread Cert.KernelDXnB.nD Cert.KernelDXnB.τ).loc Cert.KernelDXnB.main_arg2) = m ((c.tc : Thread Cert.KernelDXnB.nD Cert.KernelDXnB.τ).loc Cert.KernelDXnB.main_arg2)
      ∧ r.2.mem ((c.tc : Thread Cert.KernelDXnB.nD Cert.KernelDXnB.τ).loc Cert.KernelDXnB.main_arg3) = m ((c.tc : Thread Cert.KernelDXnB.nD Cert.KernelDXnB.τ).loc Cert.KernelDXnB.main_arg3)
      ∧ r.2.mem ((c.tc : Thread Cert.KernelDXnB.nD Cert.KernelDXnB.τ).loc Cert.KernelDXnB.main_arg4) = m ((c.tc : Thread Cert.KernelDXnB.nD Cert.KernelDXnB.τ).loc Cert.KernelDXnB.main_arg4)
      ∧ r.2.mem ((c.tc : Thread Cert.KernelDXnB.nD Cert.KernelDXnB.τ).loc Cert.KernelDXnB.main_arg5) = m ((c.tc : Thread Cert.KernelDXnB.nD Cert.KernelDXnB.τ).loc Cert.KernelDXnB.main_arg5)
      ∧ r.2.mem ((c.tc : Thread Cert.KernelDXnB.nD Cert.KernelDXnB.τ).loc Cert.KernelDXnB.main_arg6) = m ((c.tc : Thread Cert.KernelDXnB.nD Cert.KernelDXnB.τ).loc Cert.KernelDXnB.main_arg6))
      ∧ r.2.sem = fun _ => 0)

def quiescent_KernelDXnBIdeal [hKernelDXnBIdeal : Cert.KernelDXnBIdeal.Facts] : Prop :=
  ∀ (m : (ℓ : Loc Cert.KernelDXnBIdeal.nD Cert.KernelDXnBIdeal.τ Cert.KernelDXnBIdeal.sig) → Buf (Elt Ideal) ℓ) (g : Dev Cert.KernelDXnBIdeal.nD → PrngReg), Pre_KernelDXnBIdeal m →
    θ_run (Cert.KernelDXnBIdeal.defs (F := Ideal)) (onTc (τ := Cert.KernelDXnBIdeal.τ) (Cert.KernelDXnBIdeal.main (F := Ideal))) ⟨m, fun _ => 0, g⟩ (fun r => (∀ c : Dev Cert.KernelDXnBIdeal.nD,
      r.2.mem ((c.tc : Thread Cert.KernelDXnBIdeal.nD Cert.KernelDXnBIdeal.τ).loc Cert.KernelDXnBIdeal.main_arg0) = m ((c.tc : Thread Cert.KernelDXnBIdeal.nD Cert.KernelDXnBIdeal.τ).loc Cert.KernelDXnBIdeal.main_arg0)
      ∧ r.2.mem ((c.tc : Thread Cert.KernelDXnBIdeal.nD Cert.KernelDXnBIdeal.τ).loc Cert.KernelDXnBIdeal.main_arg1) = m ((c.tc : Thread Cert.KernelDXnBIdeal.nD Cert.KernelDXnBIdeal.τ).loc Cert.KernelDXnBIdeal.main_arg1)
      ∧ r.2.mem ((c.tc : Thread Cert.KernelDXnBIdeal.nD Cert.KernelDXnBIdeal.τ).loc Cert.KernelDXnBIdeal.main_arg2) = m ((c.tc : Thread Cert.KernelDXnBIdeal.nD Cert.KernelDXnBIdeal.τ).loc Cert.KernelDXnBIdeal.main_arg2)
      ∧ r.2.mem ((c.tc : Thread Cert.KernelDXnBIdeal.nD Cert.KernelDXnBIdeal.τ).loc Cert.KernelDXnBIdeal.main_arg3) = m ((c.tc : Thread Cert.KernelDXnBIdeal.nD Cert.KernelDXnBIdeal.τ).loc Cert.KernelDXnBIdeal.main_arg3)
      ∧ r.2.mem ((c.tc : Thread Cert.KernelDXnBIdeal.nD Cert.KernelDXnBIdeal.τ).loc Cert.KernelDXnBIdeal.main_arg4) = m ((c.tc : Thread Cert.KernelDXnBIdeal.nD Cert.KernelDXnBIdeal.τ).loc Cert.KernelDXnBIdeal.main_arg4)
      ∧ r.2.mem ((c.tc : Thread Cert.KernelDXnBIdeal.nD Cert.KernelDXnBIdeal.τ).loc Cert.KernelDXnBIdeal.main_arg5) = m ((c.tc : Thread Cert.KernelDXnBIdeal.nD Cert.KernelDXnBIdeal.τ).loc Cert.KernelDXnBIdeal.main_arg5)
      ∧ r.2.mem ((c.tc : Thread Cert.KernelDXnBIdeal.nD Cert.KernelDXnBIdeal.τ).loc Cert.KernelDXnBIdeal.main_arg6) = m ((c.tc : Thread Cert.KernelDXnBIdeal.nD Cert.KernelDXnBIdeal.τ).loc Cert.KernelDXnBIdeal.main_arg6))
      ∧ r.2.sem = fun _ => 0)

def quiescent_ReferenceDXnBIdeal [hReferenceDXnBIdeal : Cert.ReferenceDXnBIdeal.Facts] : Prop :=
  ∀ (m : (ℓ : Loc Cert.ReferenceDXnBIdeal.nD Cert.ReferenceDXnBIdeal.τ Cert.ReferenceDXnBIdeal.sig) → Buf (Elt Ideal) ℓ) (g : Dev Cert.ReferenceDXnBIdeal.nD → PrngReg), Pre_ReferenceDXnBIdeal m →
    θ_run (Cert.ReferenceDXnBIdeal.defs (F := Ideal)) (onTc (τ := Cert.ReferenceDXnBIdeal.τ) (Cert.ReferenceDXnBIdeal.main (F := Ideal))) ⟨m, fun _ => 0, g⟩ (fun r => (∀ c : Dev Cert.ReferenceDXnBIdeal.nD,
      r.2.mem ((c.tc : Thread Cert.ReferenceDXnBIdeal.nD Cert.ReferenceDXnBIdeal.τ).loc Cert.ReferenceDXnBIdeal.main_arg0) = m ((c.tc : Thread Cert.ReferenceDXnBIdeal.nD Cert.ReferenceDXnBIdeal.τ).loc Cert.ReferenceDXnBIdeal.main_arg0)
      ∧ r.2.mem ((c.tc : Thread Cert.ReferenceDXnBIdeal.nD Cert.ReferenceDXnBIdeal.τ).loc Cert.ReferenceDXnBIdeal.main_arg1) = m ((c.tc : Thread Cert.ReferenceDXnBIdeal.nD Cert.ReferenceDXnBIdeal.τ).loc Cert.ReferenceDXnBIdeal.main_arg1)
      ∧ r.2.mem ((c.tc : Thread Cert.ReferenceDXnBIdeal.nD Cert.ReferenceDXnBIdeal.τ).loc Cert.ReferenceDXnBIdeal.main_arg2) = m ((c.tc : Thread Cert.ReferenceDXnBIdeal.nD Cert.ReferenceDXnBIdeal.τ).loc Cert.ReferenceDXnBIdeal.main_arg2)
      ∧ r.2.mem ((c.tc : Thread Cert.ReferenceDXnBIdeal.nD Cert.ReferenceDXnBIdeal.τ).loc Cert.ReferenceDXnBIdeal.main_arg3) = m ((c.tc : Thread Cert.ReferenceDXnBIdeal.nD Cert.ReferenceDXnBIdeal.τ).loc Cert.ReferenceDXnBIdeal.main_arg3)
      ∧ r.2.mem ((c.tc : Thread Cert.ReferenceDXnBIdeal.nD Cert.ReferenceDXnBIdeal.τ).loc Cert.ReferenceDXnBIdeal.main_arg4) = m ((c.tc : Thread Cert.ReferenceDXnBIdeal.nD Cert.ReferenceDXnBIdeal.τ).loc Cert.ReferenceDXnBIdeal.main_arg4)
      ∧ r.2.mem ((c.tc : Thread Cert.ReferenceDXnBIdeal.nD Cert.ReferenceDXnBIdeal.τ).loc Cert.ReferenceDXnBIdeal.main_arg5) = m ((c.tc : Thread Cert.ReferenceDXnBIdeal.nD Cert.ReferenceDXnBIdeal.τ).loc Cert.ReferenceDXnBIdeal.main_arg5)
      ∧ r.2.mem ((c.tc : Thread Cert.ReferenceDXnBIdeal.nD Cert.ReferenceDXnBIdeal.τ).loc Cert.ReferenceDXnBIdeal.main_arg6) = m ((c.tc : Thread Cert.ReferenceDXnBIdeal.nD Cert.ReferenceDXnBIdeal.τ).loc Cert.ReferenceDXnBIdeal.main_arg6))
      ∧ r.2.sem = fun _ => 0)

def quiescent_KernelY [hKernelY : Cert.KernelY.Facts] : Prop :=
  ∀ (m : (ℓ : Loc Cert.KernelY.nD Cert.KernelY.τ Cert.KernelY.sig) → Buf (Elt Bits) ℓ) (g : Dev Cert.KernelY.nD → PrngReg), Pre_KernelY m →
    θ_run (Cert.KernelY.defs (F := Bits)) (onTc (τ := Cert.KernelY.τ) (Cert.KernelY.main (F := Bits))) ⟨m, fun _ => 0, g⟩ (fun r => (∀ c : Dev Cert.KernelY.nD,
      r.2.mem ((c.tc : Thread Cert.KernelY.nD Cert.KernelY.τ).loc Cert.KernelY.main_arg0) = m ((c.tc : Thread Cert.KernelY.nD Cert.KernelY.τ).loc Cert.KernelY.main_arg0)
      ∧ r.2.mem ((c.tc : Thread Cert.KernelY.nD Cert.KernelY.τ).loc Cert.KernelY.main_arg1) = m ((c.tc : Thread Cert.KernelY.nD Cert.KernelY.τ).loc Cert.KernelY.main_arg1))
      ∧ r.2.sem = fun _ => 0)

def quiescent_KernelYIdeal [hKernelYIdeal : Cert.KernelYIdeal.Facts] : Prop :=
  ∀ (m : (ℓ : Loc Cert.KernelYIdeal.nD Cert.KernelYIdeal.τ Cert.KernelYIdeal.sig) → Buf (Elt Ideal) ℓ) (g : Dev Cert.KernelYIdeal.nD → PrngReg), Pre_KernelYIdeal m →
    θ_run (Cert.KernelYIdeal.defs (F := Ideal)) (onTc (τ := Cert.KernelYIdeal.τ) (Cert.KernelYIdeal.main (F := Ideal))) ⟨m, fun _ => 0, g⟩ (fun r => (∀ c : Dev Cert.KernelYIdeal.nD,
      r.2.mem ((c.tc : Thread Cert.KernelYIdeal.nD Cert.KernelYIdeal.τ).loc Cert.KernelYIdeal.main_arg0) = m ((c.tc : Thread Cert.KernelYIdeal.nD Cert.KernelYIdeal.τ).loc Cert.KernelYIdeal.main_arg0)
      ∧ r.2.mem ((c.tc : Thread Cert.KernelYIdeal.nD Cert.KernelYIdeal.τ).loc Cert.KernelYIdeal.main_arg1) = m ((c.tc : Thread Cert.KernelYIdeal.nD Cert.KernelYIdeal.τ).loc Cert.KernelYIdeal.main_arg1))
      ∧ r.2.sem = fun _ => 0)

def quiescent_ReferenceYIdeal [hReferenceYIdeal : Cert.ReferenceYIdeal.Facts] : Prop :=
  ∀ (m : (ℓ : Loc Cert.ReferenceYIdeal.nD Cert.ReferenceYIdeal.τ Cert.ReferenceYIdeal.sig) → Buf (Elt Ideal) ℓ) (g : Dev Cert.ReferenceYIdeal.nD → PrngReg), Pre_ReferenceYIdeal m →
    θ_run (Cert.ReferenceYIdeal.defs (F := Ideal)) (onTc (τ := Cert.ReferenceYIdeal.τ) (Cert.ReferenceYIdeal.main (F := Ideal))) ⟨m, fun _ => 0, g⟩ (fun r => (∀ c : Dev Cert.ReferenceYIdeal.nD,
      r.2.mem ((c.tc : Thread Cert.ReferenceYIdeal.nD Cert.ReferenceYIdeal.τ).loc Cert.ReferenceYIdeal.main_arg0) = m ((c.tc : Thread Cert.ReferenceYIdeal.nD Cert.ReferenceYIdeal.τ).loc Cert.ReferenceYIdeal.main_arg0)
      ∧ r.2.mem ((c.tc : Thread Cert.ReferenceYIdeal.nD Cert.ReferenceYIdeal.τ).loc Cert.ReferenceYIdeal.main_arg1) = m ((c.tc : Thread Cert.ReferenceYIdeal.nD Cert.ReferenceYIdeal.τ).loc Cert.ReferenceYIdeal.main_arg1))
      ∧ r.2.sem = fun _ => 0)

def quiescent_KernelYZ [hKernelYZ : Cert.KernelYZ.Facts] : Prop :=
  ∀ (m : (ℓ : Loc Cert.KernelYZ.nD Cert.KernelYZ.τ Cert.KernelYZ.sig) → Buf (Elt Bits) ℓ) (g : Dev Cert.KernelYZ.nD → PrngReg), Pre_KernelYZ m →
    θ_run (Cert.KernelYZ.defs (F := Bits)) (onTc (τ := Cert.KernelYZ.τ) (Cert.KernelYZ.main (F := Bits))) ⟨m, fun _ => 0, g⟩ (fun r => (∀ c : Dev Cert.KernelYZ.nD,
      r.2.mem ((c.tc : Thread Cert.KernelYZ.nD Cert.KernelYZ.τ).loc Cert.KernelYZ.main_arg0) = m ((c.tc : Thread Cert.KernelYZ.nD Cert.KernelYZ.τ).loc Cert.KernelYZ.main_arg0)
      ∧ r.2.mem ((c.tc : Thread Cert.KernelYZ.nD Cert.KernelYZ.τ).loc Cert.KernelYZ.main_arg1) = m ((c.tc : Thread Cert.KernelYZ.nD Cert.KernelYZ.τ).loc Cert.KernelYZ.main_arg1))
      ∧ r.2.sem = fun _ => 0)

def quiescent_KernelYZIdeal [hKernelYZIdeal : Cert.KernelYZIdeal.Facts] : Prop :=
  ∀ (m : (ℓ : Loc Cert.KernelYZIdeal.nD Cert.KernelYZIdeal.τ Cert.KernelYZIdeal.sig) → Buf (Elt Ideal) ℓ) (g : Dev Cert.KernelYZIdeal.nD → PrngReg), Pre_KernelYZIdeal m →
    θ_run (Cert.KernelYZIdeal.defs (F := Ideal)) (onTc (τ := Cert.KernelYZIdeal.τ) (Cert.KernelYZIdeal.main (F := Ideal))) ⟨m, fun _ => 0, g⟩ (fun r => (∀ c : Dev Cert.KernelYZIdeal.nD,
      r.2.mem ((c.tc : Thread Cert.KernelYZIdeal.nD Cert.KernelYZIdeal.τ).loc Cert.KernelYZIdeal.main_arg0) = m ((c.tc : Thread Cert.KernelYZIdeal.nD Cert.KernelYZIdeal.τ).loc Cert.KernelYZIdeal.main_arg0)
      ∧ r.2.mem ((c.tc : Thread Cert.KernelYZIdeal.nD Cert.KernelYZIdeal.τ).loc Cert.KernelYZIdeal.main_arg1) = m ((c.tc : Thread Cert.KernelYZIdeal.nD Cert.KernelYZIdeal.τ).loc Cert.KernelYZIdeal.main_arg1))
      ∧ r.2.sem = fun _ => 0)

def quiescent_ReferenceYZIdeal [hReferenceYZIdeal : Cert.ReferenceYZIdeal.Facts] : Prop :=
  ∀ (m : (ℓ : Loc Cert.ReferenceYZIdeal.nD Cert.ReferenceYZIdeal.τ Cert.ReferenceYZIdeal.sig) → Buf (Elt Ideal) ℓ) (g : Dev Cert.ReferenceYZIdeal.nD → PrngReg), Pre_ReferenceYZIdeal m →
    θ_run (Cert.ReferenceYZIdeal.defs (F := Ideal)) (onTc (τ := Cert.ReferenceYZIdeal.τ) (Cert.ReferenceYZIdeal.main (F := Ideal))) ⟨m, fun _ => 0, g⟩ (fun r => (∀ c : Dev Cert.ReferenceYZIdeal.nD,
      r.2.mem ((c.tc : Thread Cert.ReferenceYZIdeal.nD Cert.ReferenceYZIdeal.τ).loc Cert.ReferenceYZIdeal.main_arg0) = m ((c.tc : Thread Cert.ReferenceYZIdeal.nD Cert.ReferenceYZIdeal.τ).loc Cert.ReferenceYZIdeal.main_arg0)
      ∧ r.2.mem ((c.tc : Thread Cert.ReferenceYZIdeal.nD Cert.ReferenceYZIdeal.τ).loc Cert.ReferenceYZIdeal.main_arg1) = m ((c.tc : Thread Cert.ReferenceYZIdeal.nD Cert.ReferenceYZIdeal.τ).loc Cert.ReferenceYZIdeal.main_arg1))
      ∧ r.2.sem = fun _ => 0)

def quiescent_KernelYXbc [hKernelYXbc : Cert.KernelYXbc.Facts] : Prop :=
  ∀ (m : (ℓ : Loc Cert.KernelYXbc.nD Cert.KernelYXbc.τ Cert.KernelYXbc.sig) → Buf (Elt Bits) ℓ) (g : Dev Cert.KernelYXbc.nD → PrngReg), Pre_KernelYXbc m →
    θ_run (Cert.KernelYXbc.defs (F := Bits)) (onTc (τ := Cert.KernelYXbc.τ) (Cert.KernelYXbc.main (F := Bits))) ⟨m, fun _ => 0, g⟩ (fun r => (∀ c : Dev Cert.KernelYXbc.nD,
      r.2.mem ((c.tc : Thread Cert.KernelYXbc.nD Cert.KernelYXbc.τ).loc Cert.KernelYXbc.main_arg0) = m ((c.tc : Thread Cert.KernelYXbc.nD Cert.KernelYXbc.τ).loc Cert.KernelYXbc.main_arg0)
      ∧ r.2.mem ((c.tc : Thread Cert.KernelYXbc.nD Cert.KernelYXbc.τ).loc Cert.KernelYXbc.main_arg1) = m ((c.tc : Thread Cert.KernelYXbc.nD Cert.KernelYXbc.τ).loc Cert.KernelYXbc.main_arg1))
      ∧ r.2.sem = fun _ => 0)

def quiescent_KernelYXbcIdeal [hKernelYXbcIdeal : Cert.KernelYXbcIdeal.Facts] : Prop :=
  ∀ (m : (ℓ : Loc Cert.KernelYXbcIdeal.nD Cert.KernelYXbcIdeal.τ Cert.KernelYXbcIdeal.sig) → Buf (Elt Ideal) ℓ) (g : Dev Cert.KernelYXbcIdeal.nD → PrngReg), Pre_KernelYXbcIdeal m →
    θ_run (Cert.KernelYXbcIdeal.defs (F := Ideal)) (onTc (τ := Cert.KernelYXbcIdeal.τ) (Cert.KernelYXbcIdeal.main (F := Ideal))) ⟨m, fun _ => 0, g⟩ (fun r => (∀ c : Dev Cert.KernelYXbcIdeal.nD,
      r.2.mem ((c.tc : Thread Cert.KernelYXbcIdeal.nD Cert.KernelYXbcIdeal.τ).loc Cert.KernelYXbcIdeal.main_arg0) = m ((c.tc : Thread Cert.KernelYXbcIdeal.nD Cert.KernelYXbcIdeal.τ).loc Cert.KernelYXbcIdeal.main_arg0)
      ∧ r.2.mem ((c.tc : Thread Cert.KernelYXbcIdeal.nD Cert.KernelYXbcIdeal.τ).loc Cert.KernelYXbcIdeal.main_arg1) = m ((c.tc : Thread Cert.KernelYXbcIdeal.nD Cert.KernelYXbcIdeal.τ).loc Cert.KernelYXbcIdeal.main_arg1))
      ∧ r.2.sem = fun _ => 0)

def quiescent_ReferenceYXbcIdeal [hReferenceYXbcIdeal : Cert.ReferenceYXbcIdeal.Facts] : Prop :=
  ∀ (m : (ℓ : Loc Cert.ReferenceYXbcIdeal.nD Cert.ReferenceYXbcIdeal.τ Cert.ReferenceYXbcIdeal.sig) → Buf (Elt Ideal) ℓ) (g : Dev Cert.ReferenceYXbcIdeal.nD → PrngReg), Pre_ReferenceYXbcIdeal m →
    θ_run (Cert.ReferenceYXbcIdeal.defs (F := Ideal)) (onTc (τ := Cert.ReferenceYXbcIdeal.τ) (Cert.ReferenceYXbcIdeal.main (F := Ideal))) ⟨m, fun _ => 0, g⟩ (fun r => (∀ c : Dev Cert.ReferenceYXbcIdeal.nD,
      r.2.mem ((c.tc : Thread Cert.ReferenceYXbcIdeal.nD Cert.ReferenceYXbcIdeal.τ).loc Cert.ReferenceYXbcIdeal.main_arg0) = m ((c.tc : Thread Cert.ReferenceYXbcIdeal.nD Cert.ReferenceYXbcIdeal.τ).loc Cert.ReferenceYXbcIdeal.main_arg0)
      ∧ r.2.mem ((c.tc : Thread Cert.ReferenceYXbcIdeal.nD Cert.ReferenceYXbcIdeal.τ).loc Cert.ReferenceYXbcIdeal.main_arg1) = m ((c.tc : Thread Cert.ReferenceYXbcIdeal.nD Cert.ReferenceYXbcIdeal.τ).loc Cert.ReferenceYXbcIdeal.main_arg1))
      ∧ r.2.sem = fun _ => 0)

def quiescent_KernelYDt [hKernelYDt : Cert.KernelYDt.Facts] : Prop :=
  ∀ (m : (ℓ : Loc Cert.KernelYDt.nD Cert.KernelYDt.τ Cert.KernelYDt.sig) → Buf (Elt Bits) ℓ) (g : Dev Cert.KernelYDt.nD → PrngReg), Pre_KernelYDt m →
    θ_run (Cert.KernelYDt.defs (F := Bits)) (onTc (τ := Cert.KernelYDt.τ) (Cert.KernelYDt.main (F := Bits))) ⟨m, fun _ => 0, g⟩ (fun r => (∀ c : Dev Cert.KernelYDt.nD,
      r.2.mem ((c.tc : Thread Cert.KernelYDt.nD Cert.KernelYDt.τ).loc Cert.KernelYDt.main_arg0) = m ((c.tc : Thread Cert.KernelYDt.nD Cert.KernelYDt.τ).loc Cert.KernelYDt.main_arg0)
      ∧ r.2.mem ((c.tc : Thread Cert.KernelYDt.nD Cert.KernelYDt.τ).loc Cert.KernelYDt.main_arg1) = m ((c.tc : Thread Cert.KernelYDt.nD Cert.KernelYDt.τ).loc Cert.KernelYDt.main_arg1))
      ∧ r.2.sem = fun _ => 0)

def quiescent_KernelYDtIdeal [hKernelYDtIdeal : Cert.KernelYDtIdeal.Facts] : Prop :=
  ∀ (m : (ℓ : Loc Cert.KernelYDtIdeal.nD Cert.KernelYDtIdeal.τ Cert.KernelYDtIdeal.sig) → Buf (Elt Ideal) ℓ) (g : Dev Cert.KernelYDtIdeal.nD → PrngReg), Pre_KernelYDtIdeal m →
    θ_run (Cert.KernelYDtIdeal.defs (F := Ideal)) (onTc (τ := Cert.KernelYDtIdeal.τ) (Cert.KernelYDtIdeal.main (F := Ideal))) ⟨m, fun _ => 0, g⟩ (fun r => (∀ c : Dev Cert.KernelYDtIdeal.nD,
      r.2.mem ((c.tc : Thread Cert.KernelYDtIdeal.nD Cert.KernelYDtIdeal.τ).loc Cert.KernelYDtIdeal.main_arg0) = m ((c.tc : Thread Cert.KernelYDtIdeal.nD Cert.KernelYDtIdeal.τ).loc Cert.KernelYDtIdeal.main_arg0)
      ∧ r.2.mem ((c.tc : Thread Cert.KernelYDtIdeal.nD Cert.KernelYDtIdeal.τ).loc Cert.KernelYDtIdeal.main_arg1) = m ((c.tc : Thread Cert.KernelYDtIdeal.nD Cert.KernelYDtIdeal.τ).loc Cert.KernelYDtIdeal.main_arg1))
      ∧ r.2.sem = fun _ => 0)

def quiescent_ReferenceYDtIdeal [hReferenceYDtIdeal : Cert.ReferenceYDtIdeal.Facts] : Prop :=
  ∀ (m : (ℓ : Loc Cert.ReferenceYDtIdeal.nD Cert.ReferenceYDtIdeal.τ Cert.ReferenceYDtIdeal.sig) → Buf (Elt Ideal) ℓ) (g : Dev Cert.ReferenceYDtIdeal.nD → PrngReg), Pre_ReferenceYDtIdeal m →
    θ_run (Cert.ReferenceYDtIdeal.defs (F := Ideal)) (onTc (τ := Cert.ReferenceYDtIdeal.τ) (Cert.ReferenceYDtIdeal.main (F := Ideal))) ⟨m, fun _ => 0, g⟩ (fun r => (∀ c : Dev Cert.ReferenceYDtIdeal.nD,
      r.2.mem ((c.tc : Thread Cert.ReferenceYDtIdeal.nD Cert.ReferenceYDtIdeal.τ).loc Cert.ReferenceYDtIdeal.main_arg0) = m ((c.tc : Thread Cert.ReferenceYDtIdeal.nD Cert.ReferenceYDtIdeal.τ).loc Cert.ReferenceYDtIdeal.main_arg0)
      ∧ r.2.mem ((c.tc : Thread Cert.ReferenceYDtIdeal.nD Cert.ReferenceYDtIdeal.τ).loc Cert.ReferenceYDtIdeal.main_arg1) = m ((c.tc : Thread Cert.ReferenceYDtIdeal.nD Cert.ReferenceYDtIdeal.τ).loc Cert.ReferenceYDtIdeal.main_arg1))
      ∧ r.2.sem = fun _ => 0)

def quiescent_KernelYBrb [hKernelYBrb : Cert.KernelYBrb.Facts] : Prop :=
  ∀ (m : (ℓ : Loc Cert.KernelYBrb.nD Cert.KernelYBrb.τ Cert.KernelYBrb.sig) → Buf (Elt Bits) ℓ) (g : Dev Cert.KernelYBrb.nD → PrngReg), Pre_KernelYBrb m →
    θ_run (Cert.KernelYBrb.defs (F := Bits)) (onTc (τ := Cert.KernelYBrb.τ) (Cert.KernelYBrb.main (F := Bits))) ⟨m, fun _ => 0, g⟩ (fun r => (∀ c : Dev Cert.KernelYBrb.nD,
      r.2.mem ((c.tc : Thread Cert.KernelYBrb.nD Cert.KernelYBrb.τ).loc Cert.KernelYBrb.main_arg0) = m ((c.tc : Thread Cert.KernelYBrb.nD Cert.KernelYBrb.τ).loc Cert.KernelYBrb.main_arg0)
      ∧ r.2.mem ((c.tc : Thread Cert.KernelYBrb.nD Cert.KernelYBrb.τ).loc Cert.KernelYBrb.main_arg1) = m ((c.tc : Thread Cert.KernelYBrb.nD Cert.KernelYBrb.τ).loc Cert.KernelYBrb.main_arg1))
      ∧ r.2.sem = fun _ => 0)

def quiescent_KernelYBrbIdeal [hKernelYBrbIdeal : Cert.KernelYBrbIdeal.Facts] : Prop :=
  ∀ (m : (ℓ : Loc Cert.KernelYBrbIdeal.nD Cert.KernelYBrbIdeal.τ Cert.KernelYBrbIdeal.sig) → Buf (Elt Ideal) ℓ) (g : Dev Cert.KernelYBrbIdeal.nD → PrngReg), Pre_KernelYBrbIdeal m →
    θ_run (Cert.KernelYBrbIdeal.defs (F := Ideal)) (onTc (τ := Cert.KernelYBrbIdeal.τ) (Cert.KernelYBrbIdeal.main (F := Ideal))) ⟨m, fun _ => 0, g⟩ (fun r => (∀ c : Dev Cert.KernelYBrbIdeal.nD,
      r.2.mem ((c.tc : Thread Cert.KernelYBrbIdeal.nD Cert.KernelYBrbIdeal.τ).loc Cert.KernelYBrbIdeal.main_arg0) = m ((c.tc : Thread Cert.KernelYBrbIdeal.nD Cert.KernelYBrbIdeal.τ).loc Cert.KernelYBrbIdeal.main_arg0)
      ∧ r.2.mem ((c.tc : Thread Cert.KernelYBrbIdeal.nD Cert.KernelYBrbIdeal.τ).loc Cert.KernelYBrbIdeal.main_arg1) = m ((c.tc : Thread Cert.KernelYBrbIdeal.nD Cert.KernelYBrbIdeal.τ).loc Cert.KernelYBrbIdeal.main_arg1))
      ∧ r.2.sem = fun _ => 0)

def quiescent_ReferenceYBrbIdeal [hReferenceYBrbIdeal : Cert.ReferenceYBrbIdeal.Facts] : Prop :=
  ∀ (m : (ℓ : Loc Cert.ReferenceYBrbIdeal.nD Cert.ReferenceYBrbIdeal.τ Cert.ReferenceYBrbIdeal.sig) → Buf (Elt Ideal) ℓ) (g : Dev Cert.ReferenceYBrbIdeal.nD → PrngReg), Pre_ReferenceYBrbIdeal m →
    θ_run (Cert.ReferenceYBrbIdeal.defs (F := Ideal)) (onTc (τ := Cert.ReferenceYBrbIdeal.τ) (Cert.ReferenceYBrbIdeal.main (F := Ideal))) ⟨m, fun _ => 0, g⟩ (fun r => (∀ c : Dev Cert.ReferenceYBrbIdeal.nD,
      r.2.mem ((c.tc : Thread Cert.ReferenceYBrbIdeal.nD Cert.ReferenceYBrbIdeal.τ).loc Cert.ReferenceYBrbIdeal.main_arg0) = m ((c.tc : Thread Cert.ReferenceYBrbIdeal.nD Cert.ReferenceYBrbIdeal.τ).loc Cert.ReferenceYBrbIdeal.main_arg0)
      ∧ r.2.mem ((c.tc : Thread Cert.ReferenceYBrbIdeal.nD Cert.ReferenceYBrbIdeal.τ).loc Cert.ReferenceYBrbIdeal.main_arg1) = m ((c.tc : Thread Cert.ReferenceYBrbIdeal.nD Cert.ReferenceYBrbIdeal.τ).loc Cert.ReferenceYBrbIdeal.main_arg1))
      ∧ r.2.sem = fun _ => 0)

def quiescent_KernelYFfnIn [hKernelYFfnIn : Cert.KernelYFfnIn.Facts] : Prop :=
  ∀ (m : (ℓ : Loc Cert.KernelYFfnIn.nD Cert.KernelYFfnIn.τ Cert.KernelYFfnIn.sig) → Buf (Elt Bits) ℓ) (g : Dev Cert.KernelYFfnIn.nD → PrngReg), Pre_KernelYFfnIn m →
    θ_run (Cert.KernelYFfnIn.defs (F := Bits)) (onTc (τ := Cert.KernelYFfnIn.τ) (Cert.KernelYFfnIn.main (F := Bits))) ⟨m, fun _ => 0, g⟩ (fun r => (∀ c : Dev Cert.KernelYFfnIn.nD,
      r.2.mem ((c.tc : Thread Cert.KernelYFfnIn.nD Cert.KernelYFfnIn.τ).loc Cert.KernelYFfnIn.main_arg0) = m ((c.tc : Thread Cert.KernelYFfnIn.nD Cert.KernelYFfnIn.τ).loc Cert.KernelYFfnIn.main_arg0)
      ∧ r.2.mem ((c.tc : Thread Cert.KernelYFfnIn.nD Cert.KernelYFfnIn.τ).loc Cert.KernelYFfnIn.main_arg1) = m ((c.tc : Thread Cert.KernelYFfnIn.nD Cert.KernelYFfnIn.τ).loc Cert.KernelYFfnIn.main_arg1))
      ∧ r.2.sem = fun _ => 0)

def quiescent_KernelYFfnInIdeal [hKernelYFfnInIdeal : Cert.KernelYFfnInIdeal.Facts] : Prop :=
  ∀ (m : (ℓ : Loc Cert.KernelYFfnInIdeal.nD Cert.KernelYFfnInIdeal.τ Cert.KernelYFfnInIdeal.sig) → Buf (Elt Ideal) ℓ) (g : Dev Cert.KernelYFfnInIdeal.nD → PrngReg), Pre_KernelYFfnInIdeal m →
    θ_run (Cert.KernelYFfnInIdeal.defs (F := Ideal)) (onTc (τ := Cert.KernelYFfnInIdeal.τ) (Cert.KernelYFfnInIdeal.main (F := Ideal))) ⟨m, fun _ => 0, g⟩ (fun r => (∀ c : Dev Cert.KernelYFfnInIdeal.nD,
      r.2.mem ((c.tc : Thread Cert.KernelYFfnInIdeal.nD Cert.KernelYFfnInIdeal.τ).loc Cert.KernelYFfnInIdeal.main_arg0) = m ((c.tc : Thread Cert.KernelYFfnInIdeal.nD Cert.KernelYFfnInIdeal.τ).loc Cert.KernelYFfnInIdeal.main_arg0)
      ∧ r.2.mem ((c.tc : Thread Cert.KernelYFfnInIdeal.nD Cert.KernelYFfnInIdeal.τ).loc Cert.KernelYFfnInIdeal.main_arg1) = m ((c.tc : Thread Cert.KernelYFfnInIdeal.nD Cert.KernelYFfnInIdeal.τ).loc Cert.KernelYFfnInIdeal.main_arg1))
      ∧ r.2.sem = fun _ => 0)

def quiescent_ReferenceYFfnInIdeal [hReferenceYFfnInIdeal : Cert.ReferenceYFfnInIdeal.Facts] : Prop :=
  ∀ (m : (ℓ : Loc Cert.ReferenceYFfnInIdeal.nD Cert.ReferenceYFfnInIdeal.τ Cert.ReferenceYFfnInIdeal.sig) → Buf (Elt Ideal) ℓ) (g : Dev Cert.ReferenceYFfnInIdeal.nD → PrngReg), Pre_ReferenceYFfnInIdeal m →
    θ_run (Cert.ReferenceYFfnInIdeal.defs (F := Ideal)) (onTc (τ := Cert.ReferenceYFfnInIdeal.τ) (Cert.ReferenceYFfnInIdeal.main (F := Ideal))) ⟨m, fun _ => 0, g⟩ (fun r => (∀ c : Dev Cert.ReferenceYFfnInIdeal.nD,
      r.2.mem ((c.tc : Thread Cert.ReferenceYFfnInIdeal.nD Cert.ReferenceYFfnInIdeal.τ).loc Cert.ReferenceYFfnInIdeal.main_arg0) = m ((c.tc : Thread Cert.ReferenceYFfnInIdeal.nD Cert.ReferenceYFfnInIdeal.τ).loc Cert.ReferenceYFfnInIdeal.main_arg0)
      ∧ r.2.mem ((c.tc : Thread Cert.ReferenceYFfnInIdeal.nD Cert.ReferenceYFfnInIdeal.τ).loc Cert.ReferenceYFfnInIdeal.main_arg1) = m ((c.tc : Thread Cert.ReferenceYFfnInIdeal.nD Cert.ReferenceYFfnInIdeal.τ).loc Cert.ReferenceYFfnInIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2))
      ∧ r.2.sem = fun _ => 0)

def quiescent_KernelFfnOut [hKernelFfnOut : Cert.KernelFfnOut.Facts] : Prop :=
  ∀ (m : (ℓ : Loc Cert.KernelFfnOut.nD Cert.KernelFfnOut.τ Cert.KernelFfnOut.sig) → Buf (Elt Bits) ℓ) (g : Dev Cert.KernelFfnOut.nD → PrngReg), Pre_KernelFfnOut m →
    θ_run (Cert.KernelFfnOut.defs (F := Bits)) (onTc (τ := Cert.KernelFfnOut.τ) (Cert.KernelFfnOut.main (F := Bits))) ⟨m, fun _ => 0, g⟩ (fun r => (∀ c : Dev Cert.KernelFfnOut.nD,
      r.2.mem ((c.tc : Thread Cert.KernelFfnOut.nD Cert.KernelFfnOut.τ).loc Cert.KernelFfnOut.main_arg0) = m ((c.tc : Thread Cert.KernelFfnOut.nD Cert.KernelFfnOut.τ).loc Cert.KernelFfnOut.main_arg0)
      ∧ r.2.mem ((c.tc : Thread Cert.KernelFfnOut.nD Cert.KernelFfnOut.τ).loc Cert.KernelFfnOut.main_arg1) = m ((c.tc : Thread Cert.KernelFfnOut.nD Cert.KernelFfnOut.τ).loc Cert.KernelFfnOut.main_arg1)
      ∧ r.2.mem ((c.tc : Thread Cert.KernelFfnOut.nD Cert.KernelFfnOut.τ).loc Cert.KernelFfnOut.main_arg2) = m ((c.tc : Thread Cert.KernelFfnOut.nD Cert.KernelFfnOut.τ).loc Cert.KernelFfnOut.main_arg2))
      ∧ r.2.sem = fun _ => 0)

def quiescent_KernelFfnOutIdeal [hKernelFfnOutIdeal : Cert.KernelFfnOutIdeal.Facts] : Prop :=
  ∀ (m : (ℓ : Loc Cert.KernelFfnOutIdeal.nD Cert.KernelFfnOutIdeal.τ Cert.KernelFfnOutIdeal.sig) → Buf (Elt Ideal) ℓ) (g : Dev Cert.KernelFfnOutIdeal.nD → PrngReg), Pre_KernelFfnOutIdeal m →
    θ_run (Cert.KernelFfnOutIdeal.defs (F := Ideal)) (onTc (τ := Cert.KernelFfnOutIdeal.τ) (Cert.KernelFfnOutIdeal.main (F := Ideal))) ⟨m, fun _ => 0, g⟩ (fun r => (∀ c : Dev Cert.KernelFfnOutIdeal.nD,
      r.2.mem ((c.tc : Thread Cert.KernelFfnOutIdeal.nD Cert.KernelFfnOutIdeal.τ).loc Cert.KernelFfnOutIdeal.main_arg0) = m ((c.tc : Thread Cert.KernelFfnOutIdeal.nD Cert.KernelFfnOutIdeal.τ).loc Cert.KernelFfnOutIdeal.main_arg0)
      ∧ r.2.mem ((c.tc : Thread Cert.KernelFfnOutIdeal.nD Cert.KernelFfnOutIdeal.τ).loc Cert.KernelFfnOutIdeal.main_arg1) = m ((c.tc : Thread Cert.KernelFfnOutIdeal.nD Cert.KernelFfnOutIdeal.τ).loc Cert.KernelFfnOutIdeal.main_arg1)
      ∧ r.2.mem ((c.tc : Thread Cert.KernelFfnOutIdeal.nD Cert.KernelFfnOutIdeal.τ).loc Cert.KernelFfnOutIdeal.main_arg2) = m ((c.tc : Thread Cert.KernelFfnOutIdeal.nD Cert.KernelFfnOutIdeal.τ).loc Cert.KernelFfnOutIdeal.main_arg2))
      ∧ r.2.sem = fun _ => 0)

def quiescent_ReferenceFfnOutIdeal [hReferenceFfnOutIdeal : Cert.ReferenceFfnOutIdeal.Facts] : Prop :=
  ∀ (m : (ℓ : Loc Cert.ReferenceFfnOutIdeal.nD Cert.ReferenceFfnOutIdeal.τ Cert.ReferenceFfnOutIdeal.sig) → Buf (Elt Ideal) ℓ) (g : Dev Cert.ReferenceFfnOutIdeal.nD → PrngReg), Pre_ReferenceFfnOutIdeal m →
    θ_run (Cert.ReferenceFfnOutIdeal.defs (F := Ideal)) (onTc (τ := Cert.ReferenceFfnOutIdeal.τ) (Cert.ReferenceFfnOutIdeal.main (F := Ideal))) ⟨m, fun _ => 0, g⟩ (fun r => (∀ c : Dev Cert.ReferenceFfnOutIdeal.nD,
      r.2.mem ((c.tc : Thread Cert.ReferenceFfnOutIdeal.nD Cert.ReferenceFfnOutIdeal.τ).loc Cert.ReferenceFfnOutIdeal.main_arg0) = m ((c.tc : Thread Cert.ReferenceFfnOutIdeal.nD Cert.ReferenceFfnOutIdeal.τ).loc Cert.ReferenceFfnOutIdeal.main_arg0)
      ∧ r.2.mem ((c.tc : Thread Cert.ReferenceFfnOutIdeal.nD Cert.ReferenceFfnOutIdeal.τ).loc Cert.ReferenceFfnOutIdeal.main_arg1) = m ((c.tc : Thread Cert.ReferenceFfnOutIdeal.nD Cert.ReferenceFfnOutIdeal.τ).loc Cert.ReferenceFfnOutIdeal.main_arg1)
      ∧ r.2.mem ((c.tc : Thread Cert.ReferenceFfnOutIdeal.nD Cert.ReferenceFfnOutIdeal.τ).loc Cert.ReferenceFfnOutIdeal.main_arg2) = m ((c.tc : Thread Cert.ReferenceFfnOutIdeal.nD Cert.ReferenceFfnOutIdeal.τ).loc Cert.ReferenceFfnOutIdeal.main_arg2))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2))
      ∧ r.2.sem = fun _ => 0)

def quiescent_KernelAdamBranch [hKernelAdamBranch : Cert.KernelAdamBranch.Facts] : Prop :=
  ∀ (m : (ℓ : Loc Cert.KernelAdamBranch.nD Cert.KernelAdamBranch.τ Cert.KernelAdamBranch.sig) → Buf (Elt Bits) ℓ) (g : Dev Cert.KernelAdamBranch.nD → PrngReg), Pre_KernelAdamBranch m →
    θ_run (Cert.KernelAdamBranch.defs (F := Bits)) (onTc (τ := Cert.KernelAdamBranch.τ) (Cert.KernelAdamBranch.main (F := Bits))) ⟨m, fun _ => 0, g⟩ (fun r => (∀ c : Dev Cert.KernelAdamBranch.nD,
      r.2.mem ((c.tc : Thread Cert.KernelAdamBranch.nD Cert.KernelAdamBranch.τ).loc Cert.KernelAdamBranch.main_arg0) = m ((c.tc : Thread Cert.KernelAdamBranch.nD Cert.KernelAdamBranch.τ).loc Cert.KernelAdamBranch.main_arg0)
      ∧ r.2.mem ((c.tc : Thread Cert.KernelAdamBranch.nD Cert.KernelAdamBranch.τ).loc Cert.KernelAdamBranch.main_arg1) = m ((c.tc : Thread Cert.KernelAdamBranch.nD Cert.KernelAdamBranch.τ).loc Cert.KernelAdamBranch.main_arg1)
      ∧ r.2.mem ((c.tc : Thread Cert.KernelAdamBranch.nD Cert.KernelAdamBranch.τ).loc Cert.KernelAdamBranch.main_arg2) = m ((c.tc : Thread Cert.KernelAdamBranch.nD Cert.KernelAdamBranch.τ).loc Cert.KernelAdamBranch.main_arg2)
      ∧ r.2.mem ((c.tc : Thread Cert.KernelAdamBranch.nD Cert.KernelAdamBranch.τ).loc Cert.KernelAdamBranch.main_arg3) = m ((c.tc : Thread Cert.KernelAdamBranch.nD Cert.KernelAdamBranch.τ).loc Cert.KernelAdamBranch.main_arg3)
      ∧ r.2.mem ((c.tc : Thread Cert.KernelAdamBranch.nD Cert.KernelAdamBranch.τ).loc Cert.KernelAdamBranch.main_arg4) = m ((c.tc : Thread Cert.KernelAdamBranch.nD Cert.KernelAdamBranch.τ).loc Cert.KernelAdamBranch.main_arg4))
      ∧ r.2.sem = fun _ => 0)

def quiescent_KernelAdamBranchIdeal [hKernelAdamBranchIdeal : Cert.KernelAdamBranchIdeal.Facts] : Prop :=
  ∀ (m : (ℓ : Loc Cert.KernelAdamBranchIdeal.nD Cert.KernelAdamBranchIdeal.τ Cert.KernelAdamBranchIdeal.sig) → Buf (Elt Ideal) ℓ) (g : Dev Cert.KernelAdamBranchIdeal.nD → PrngReg), Pre_KernelAdamBranchIdeal m →
    θ_run (Cert.KernelAdamBranchIdeal.defs (F := Ideal)) (onTc (τ := Cert.KernelAdamBranchIdeal.τ) (Cert.KernelAdamBranchIdeal.main (F := Ideal))) ⟨m, fun _ => 0, g⟩ (fun r => (∀ c : Dev Cert.KernelAdamBranchIdeal.nD,
      r.2.mem ((c.tc : Thread Cert.KernelAdamBranchIdeal.nD Cert.KernelAdamBranchIdeal.τ).loc Cert.KernelAdamBranchIdeal.main_arg0) = m ((c.tc : Thread Cert.KernelAdamBranchIdeal.nD Cert.KernelAdamBranchIdeal.τ).loc Cert.KernelAdamBranchIdeal.main_arg0)
      ∧ r.2.mem ((c.tc : Thread Cert.KernelAdamBranchIdeal.nD Cert.KernelAdamBranchIdeal.τ).loc Cert.KernelAdamBranchIdeal.main_arg1) = m ((c.tc : Thread Cert.KernelAdamBranchIdeal.nD Cert.KernelAdamBranchIdeal.τ).loc Cert.KernelAdamBranchIdeal.main_arg1)
      ∧ r.2.mem ((c.tc : Thread Cert.KernelAdamBranchIdeal.nD Cert.KernelAdamBranchIdeal.τ).loc Cert.KernelAdamBranchIdeal.main_arg2) = m ((c.tc : Thread Cert.KernelAdamBranchIdeal.nD Cert.KernelAdamBranchIdeal.τ).loc Cert.KernelAdamBranchIdeal.main_arg2)
      ∧ r.2.mem ((c.tc : Thread Cert.KernelAdamBranchIdeal.nD Cert.KernelAdamBranchIdeal.τ).loc Cert.KernelAdamBranchIdeal.main_arg3) = m ((c.tc : Thread Cert.KernelAdamBranchIdeal.nD Cert.KernelAdamBranchIdeal.τ).loc Cert.KernelAdamBranchIdeal.main_arg3)
      ∧ r.2.mem ((c.tc : Thread Cert.KernelAdamBranchIdeal.nD Cert.KernelAdamBranchIdeal.τ).loc Cert.KernelAdamBranchIdeal.main_arg4) = m ((c.tc : Thread Cert.KernelAdamBranchIdeal.nD Cert.KernelAdamBranchIdeal.τ).loc Cert.KernelAdamBranchIdeal.main_arg4))
      ∧ r.2.sem = fun _ => 0)

def quiescent_ReferenceAdamBranchIdeal [hReferenceAdamBranchIdeal : Cert.ReferenceAdamBranchIdeal.Facts] : Prop :=
  ∀ (m : (ℓ : Loc Cert.ReferenceAdamBranchIdeal.nD Cert.ReferenceAdamBranchIdeal.τ Cert.ReferenceAdamBranchIdeal.sig) → Buf (Elt Ideal) ℓ) (g : Dev Cert.ReferenceAdamBranchIdeal.nD → PrngReg), Pre_ReferenceAdamBranchIdeal m →
    θ_run (Cert.ReferenceAdamBranchIdeal.defs (F := Ideal)) (onTc (τ := Cert.ReferenceAdamBranchIdeal.τ) (Cert.ReferenceAdamBranchIdeal.main (F := Ideal))) ⟨m, fun _ => 0, g⟩ (fun r => (∀ c : Dev Cert.ReferenceAdamBranchIdeal.nD,
      r.2.mem ((c.tc : Thread Cert.ReferenceAdamBranchIdeal.nD Cert.ReferenceAdamBranchIdeal.τ).loc Cert.ReferenceAdamBranchIdeal.main_arg0) = m ((c.tc : Thread Cert.ReferenceAdamBranchIdeal.nD Cert.ReferenceAdamBranchIdeal.τ).loc Cert.ReferenceAdamBranchIdeal.main_arg0)
      ∧ r.2.mem ((c.tc : Thread Cert.ReferenceAdamBranchIdeal.nD Cert.ReferenceAdamBranchIdeal.τ).loc Cert.ReferenceAdamBranchIdeal.main_arg1) = m ((c.tc : Thread Cert.ReferenceAdamBranchIdeal.nD Cert.ReferenceAdamBranchIdeal.τ).loc Cert.ReferenceAdamBranchIdeal.main_arg1)
      ∧ r.2.mem ((c.tc : Thread Cert.ReferenceAdamBranchIdeal.nD Cert.ReferenceAdamBranchIdeal.τ).loc Cert.ReferenceAdamBranchIdeal.main_arg2) = m ((c.tc : Thread Cert.ReferenceAdamBranchIdeal.nD Cert.ReferenceAdamBranchIdeal.τ).loc Cert.ReferenceAdamBranchIdeal.main_arg2)
      ∧ r.2.mem ((c.tc : Thread Cert.ReferenceAdamBranchIdeal.nD Cert.ReferenceAdamBranchIdeal.τ).loc Cert.ReferenceAdamBranchIdeal.main_arg3) = m ((c.tc : Thread Cert.ReferenceAdamBranchIdeal.nD Cert.ReferenceAdamBranchIdeal.τ).loc Cert.ReferenceAdamBranchIdeal.main_arg3)
      ∧ r.2.mem ((c.tc : Thread Cert.ReferenceAdamBranchIdeal.nD Cert.ReferenceAdamBranchIdeal.τ).loc Cert.ReferenceAdamBranchIdeal.main_arg4) = m ((c.tc : Thread Cert.ReferenceAdamBranchIdeal.nD Cert.ReferenceAdamBranchIdeal.τ).loc Cert.ReferenceAdamBranchIdeal.main_arg4))
      ∧ r.2.sem = fun _ => 0)

def quiescent_KernelAdamOut [hKernelAdamOut : Cert.KernelAdamOut.Facts] : Prop :=
  ∀ (m : (ℓ : Loc Cert.KernelAdamOut.nD Cert.KernelAdamOut.τ Cert.KernelAdamOut.sig) → Buf (Elt Bits) ℓ) (g : Dev Cert.KernelAdamOut.nD → PrngReg), Pre_KernelAdamOut m →
    θ_run (Cert.KernelAdamOut.defs (F := Bits)) (onTc (τ := Cert.KernelAdamOut.τ) (Cert.KernelAdamOut.main (F := Bits))) ⟨m, fun _ => 0, g⟩ (fun r => (∀ c : Dev Cert.KernelAdamOut.nD,
      r.2.mem ((c.tc : Thread Cert.KernelAdamOut.nD Cert.KernelAdamOut.τ).loc Cert.KernelAdamOut.main_arg0) = m ((c.tc : Thread Cert.KernelAdamOut.nD Cert.KernelAdamOut.τ).loc Cert.KernelAdamOut.main_arg0)
      ∧ r.2.mem ((c.tc : Thread Cert.KernelAdamOut.nD Cert.KernelAdamOut.τ).loc Cert.KernelAdamOut.main_arg1) = m ((c.tc : Thread Cert.KernelAdamOut.nD Cert.KernelAdamOut.τ).loc Cert.KernelAdamOut.main_arg1)
      ∧ r.2.mem ((c.tc : Thread Cert.KernelAdamOut.nD Cert.KernelAdamOut.τ).loc Cert.KernelAdamOut.main_arg2) = m ((c.tc : Thread Cert.KernelAdamOut.nD Cert.KernelAdamOut.τ).loc Cert.KernelAdamOut.main_arg2)
      ∧ r.2.mem ((c.tc : Thread Cert.KernelAdamOut.nD Cert.KernelAdamOut.τ).loc Cert.KernelAdamOut.main_arg3) = m ((c.tc : Thread Cert.KernelAdamOut.nD Cert.KernelAdamOut.τ).loc Cert.KernelAdamOut.main_arg3)
      ∧ r.2.mem ((c.tc : Thread Cert.KernelAdamOut.nD Cert.KernelAdamOut.τ).loc Cert.KernelAdamOut.main_arg4) = m ((c.tc : Thread Cert.KernelAdamOut.nD Cert.KernelAdamOut.τ).loc Cert.KernelAdamOut.main_arg4))
      ∧ r.2.sem = fun _ => 0)

def quiescent_KernelAdamOutIdeal [hKernelAdamOutIdeal : Cert.KernelAdamOutIdeal.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg), Pre_KernelAdamOutIdeal m →
    θ_run (Cert.KernelAdamOutIdeal.defs (F := Ideal)) (onTc (τ := Cert.KernelAdamOutIdeal.τ) (Cert.KernelAdamOutIdeal.main (F := Ideal))) ⟨m, fun _ => 0, g⟩ (fun r => (∀ c : Dev Cert.KernelAdamOutIdeal.nD,
      r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
      ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
      ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
      ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3)
      ∧ r.2.mem ((c.tc : Thread Cert.KernelAdamOutIdeal.nD Cert.KernelAdamOutIdeal.τ).loc Cert.KernelAdamOutIdeal.main_arg4) = m ((c.tc : Thread Cert.KernelAdamOutIdeal.nD Cert.KernelAdamOutIdeal.τ).loc Cert.KernelAdamOutIdeal.main_arg4))
      ∧ r.2.sem = fun _ => 0)

def quiescent_ReferenceAdamOutIdeal [hReferenceAdamOutIdeal : Cert.ReferenceAdamOutIdeal.Facts] : Prop :=
  ∀ (m : (ℓ : Loc Cert.ReferenceAdamOutIdeal.nD Cert.ReferenceAdamOutIdeal.τ Cert.ReferenceAdamOutIdeal.sig) → Buf (Elt Ideal) ℓ) (g : Dev Cert.ReferenceAdamOutIdeal.nD → PrngReg), Pre_ReferenceAdamOutIdeal m →
    θ_run (Cert.ReferenceAdamOutIdeal.defs (F := Ideal)) (onTc (τ := Cert.ReferenceAdamOutIdeal.τ) (Cert.ReferenceAdamOutIdeal.main (F := Ideal))) ⟨m, fun _ => 0, g⟩ (fun r => (∀ c : Dev Cert.ReferenceAdamOutIdeal.nD,
      r.2.mem ((c.tc : Thread Cert.ReferenceAdamOutIdeal.nD Cert.ReferenceAdamOutIdeal.τ).loc Cert.ReferenceAdamOutIdeal.main_arg0) = m ((c.tc : Thread Cert.ReferenceAdamOutIdeal.nD Cert.ReferenceAdamOutIdeal.τ).loc Cert.ReferenceAdamOutIdeal.main_arg0)
      ∧ r.2.mem ((c.tc : Thread Cert.ReferenceAdamOutIdeal.nD Cert.ReferenceAdamOutIdeal.τ).loc Cert.ReferenceAdamOutIdeal.main_arg1) = m ((c.tc : Thread Cert.ReferenceAdamOutIdeal.nD Cert.ReferenceAdamOutIdeal.τ).loc Cert.ReferenceAdamOutIdeal.main_arg1)
      ∧ r.2.mem ((c.tc : Thread Cert.ReferenceAdamOutIdeal.nD Cert.ReferenceAdamOutIdeal.τ).loc Cert.ReferenceAdamOutIdeal.main_arg2) = m ((c.tc : Thread Cert.ReferenceAdamOutIdeal.nD Cert.ReferenceAdamOutIdeal.τ).loc Cert.ReferenceAdamOutIdeal.main_arg2)
      ∧ r.2.mem ((c.tc : Thread Cert.ReferenceAdamOutIdeal.nD Cert.ReferenceAdamOutIdeal.τ).loc Cert.ReferenceAdamOutIdeal.main_arg3) = m ((c.tc : Thread Cert.ReferenceAdamOutIdeal.nD Cert.ReferenceAdamOutIdeal.τ).loc Cert.ReferenceAdamOutIdeal.main_arg3)
      ∧ r.2.mem ((c.tc : Thread Cert.ReferenceAdamOutIdeal.nD Cert.ReferenceAdamOutIdeal.τ).loc Cert.ReferenceAdamOutIdeal.main_arg4) = m ((c.tc : Thread Cert.ReferenceAdamOutIdeal.nD Cert.ReferenceAdamOutIdeal.τ).loc Cert.ReferenceAdamOutIdeal.main_arg4))
      ∧ r.2.sem = fun _ => 0)

def quiescent_KernelAdamFfnIn [hKernelAdamFfnIn : Cert.KernelAdamFfnIn.Facts] : Prop :=
  ∀ (m : (ℓ : Loc Cert.KernelAdamFfnIn.nD Cert.KernelAdamFfnIn.τ Cert.KernelAdamFfnIn.sig) → Buf (Elt Bits) ℓ) (g : Dev Cert.KernelAdamFfnIn.nD → PrngReg), Pre_KernelAdamFfnIn m →
    θ_run (Cert.KernelAdamFfnIn.defs (F := Bits)) (onTc (τ := Cert.KernelAdamFfnIn.τ) (Cert.KernelAdamFfnIn.main (F := Bits))) ⟨m, fun _ => 0, g⟩ (fun r => (∀ c : Dev Cert.KernelAdamFfnIn.nD,
      r.2.mem ((c.tc : Thread Cert.KernelAdamFfnIn.nD Cert.KernelAdamFfnIn.τ).loc Cert.KernelAdamFfnIn.main_arg0) = m ((c.tc : Thread Cert.KernelAdamFfnIn.nD Cert.KernelAdamFfnIn.τ).loc Cert.KernelAdamFfnIn.main_arg0)
      ∧ r.2.mem ((c.tc : Thread Cert.KernelAdamFfnIn.nD Cert.KernelAdamFfnIn.τ).loc Cert.KernelAdamFfnIn.main_arg1) = m ((c.tc : Thread Cert.KernelAdamFfnIn.nD Cert.KernelAdamFfnIn.τ).loc Cert.KernelAdamFfnIn.main_arg1)
      ∧ r.2.mem ((c.tc : Thread Cert.KernelAdamFfnIn.nD Cert.KernelAdamFfnIn.τ).loc Cert.KernelAdamFfnIn.main_arg2) = m ((c.tc : Thread Cert.KernelAdamFfnIn.nD Cert.KernelAdamFfnIn.τ).loc Cert.KernelAdamFfnIn.main_arg2)
      ∧ r.2.mem ((c.tc : Thread Cert.KernelAdamFfnIn.nD Cert.KernelAdamFfnIn.τ).loc Cert.KernelAdamFfnIn.main_arg3) = m ((c.tc : Thread Cert.KernelAdamFfnIn.nD Cert.KernelAdamFfnIn.τ).loc Cert.KernelAdamFfnIn.main_arg3)
      ∧ r.2.mem ((c.tc : Thread Cert.KernelAdamFfnIn.nD Cert.KernelAdamFfnIn.τ).loc Cert.KernelAdamFfnIn.main_arg4) = m ((c.tc : Thread Cert.KernelAdamFfnIn.nD Cert.KernelAdamFfnIn.τ).loc Cert.KernelAdamFfnIn.main_arg4))
      ∧ r.2.sem = fun _ => 0)

def quiescent_KernelAdamFfnInIdeal [hKernelAdamFfnInIdeal : Cert.KernelAdamFfnInIdeal.Facts] : Prop :=
  ∀ (m : (ℓ : Loc Cert.KernelAdamFfnInIdeal.nD Cert.KernelAdamFfnInIdeal.τ Cert.KernelAdamFfnInIdeal.sig) → Buf (Elt Ideal) ℓ) (g : Dev Cert.KernelAdamFfnInIdeal.nD → PrngReg), Pre_KernelAdamFfnInIdeal m →
    θ_run (Cert.KernelAdamFfnInIdeal.defs (F := Ideal)) (onTc (τ := Cert.KernelAdamFfnInIdeal.τ) (Cert.KernelAdamFfnInIdeal.main (F := Ideal))) ⟨m, fun _ => 0, g⟩ (fun r => (∀ c : Dev Cert.KernelAdamFfnInIdeal.nD,
      r.2.mem ((c.tc : Thread Cert.KernelAdamFfnInIdeal.nD Cert.KernelAdamFfnInIdeal.τ).loc Cert.KernelAdamFfnInIdeal.main_arg0) = m ((c.tc : Thread Cert.KernelAdamFfnInIdeal.nD Cert.KernelAdamFfnInIdeal.τ).loc Cert.KernelAdamFfnInIdeal.main_arg0)
      ∧ r.2.mem ((c.tc : Thread Cert.KernelAdamFfnInIdeal.nD Cert.KernelAdamFfnInIdeal.τ).loc Cert.KernelAdamFfnInIdeal.main_arg1) = m ((c.tc : Thread Cert.KernelAdamFfnInIdeal.nD Cert.KernelAdamFfnInIdeal.τ).loc Cert.KernelAdamFfnInIdeal.main_arg1)
      ∧ r.2.mem ((c.tc : Thread Cert.KernelAdamFfnInIdeal.nD Cert.KernelAdamFfnInIdeal.τ).loc Cert.KernelAdamFfnInIdeal.main_arg2) = m ((c.tc : Thread Cert.KernelAdamFfnInIdeal.nD Cert.KernelAdamFfnInIdeal.τ).loc Cert.KernelAdamFfnInIdeal.main_arg2)
      ∧ r.2.mem ((c.tc : Thread Cert.KernelAdamFfnInIdeal.nD Cert.KernelAdamFfnInIdeal.τ).loc Cert.KernelAdamFfnInIdeal.main_arg3) = m ((c.tc : Thread Cert.KernelAdamFfnInIdeal.nD Cert.KernelAdamFfnInIdeal.τ).loc Cert.KernelAdamFfnInIdeal.main_arg3)
      ∧ r.2.mem ((c.tc : Thread Cert.KernelAdamFfnInIdeal.nD Cert.KernelAdamFfnInIdeal.τ).loc Cert.KernelAdamFfnInIdeal.main_arg4) = m ((c.tc : Thread Cert.KernelAdamFfnInIdeal.nD Cert.KernelAdamFfnInIdeal.τ).loc Cert.KernelAdamFfnInIdeal.main_arg4))
      ∧ r.2.sem = fun _ => 0)

def quiescent_ReferenceAdamFfnInIdeal [hReferenceAdamFfnInIdeal : Cert.ReferenceAdamFfnInIdeal.Facts] : Prop :=
  ∀ (m : (ℓ : Loc Cert.ReferenceAdamFfnInIdeal.nD Cert.ReferenceAdamFfnInIdeal.τ Cert.ReferenceAdamFfnInIdeal.sig) → Buf (Elt Ideal) ℓ) (g : Dev Cert.ReferenceAdamFfnInIdeal.nD → PrngReg), Pre_ReferenceAdamFfnInIdeal m →
    θ_run (Cert.ReferenceAdamFfnInIdeal.defs (F := Ideal)) (onTc (τ := Cert.ReferenceAdamFfnInIdeal.τ) (Cert.ReferenceAdamFfnInIdeal.main (F := Ideal))) ⟨m, fun _ => 0, g⟩ (fun r => (∀ c : Dev Cert.ReferenceAdamFfnInIdeal.nD,
      r.2.mem ((c.tc : Thread Cert.ReferenceAdamFfnInIdeal.nD Cert.ReferenceAdamFfnInIdeal.τ).loc Cert.ReferenceAdamFfnInIdeal.main_arg0) = m ((c.tc : Thread Cert.ReferenceAdamFfnInIdeal.nD Cert.ReferenceAdamFfnInIdeal.τ).loc Cert.ReferenceAdamFfnInIdeal.main_arg0)
      ∧ r.2.mem ((c.tc : Thread Cert.ReferenceAdamFfnInIdeal.nD Cert.ReferenceAdamFfnInIdeal.τ).loc Cert.ReferenceAdamFfnInIdeal.main_arg1) = m ((c.tc : Thread Cert.ReferenceAdamFfnInIdeal.nD Cert.ReferenceAdamFfnInIdeal.τ).loc Cert.ReferenceAdamFfnInIdeal.main_arg1)
      ∧ r.2.mem ((c.tc : Thread Cert.ReferenceAdamFfnInIdeal.nD Cert.ReferenceAdamFfnInIdeal.τ).loc Cert.ReferenceAdamFfnInIdeal.main_arg2) = m ((c.tc : Thread Cert.ReferenceAdamFfnInIdeal.nD Cert.ReferenceAdamFfnInIdeal.τ).loc Cert.ReferenceAdamFfnInIdeal.main_arg2)
      ∧ r.2.mem ((c.tc : Thread Cert.ReferenceAdamFfnInIdeal.nD Cert.ReferenceAdamFfnInIdeal.τ).loc Cert.ReferenceAdamFfnInIdeal.main_arg3) = m ((c.tc : Thread Cert.ReferenceAdamFfnInIdeal.nD Cert.ReferenceAdamFfnInIdeal.τ).loc Cert.ReferenceAdamFfnInIdeal.main_arg3)
      ∧ r.2.mem ((c.tc : Thread Cert.ReferenceAdamFfnInIdeal.nD Cert.ReferenceAdamFfnInIdeal.τ).loc Cert.ReferenceAdamFfnInIdeal.main_arg4) = m ((c.tc : Thread Cert.ReferenceAdamFfnInIdeal.nD Cert.ReferenceAdamFfnInIdeal.τ).loc Cert.ReferenceAdamFfnInIdeal.main_arg4))
      ∧ r.2.sem = fun _ => 0)

def quiescent_KernelAdamFfnOut [hKernelAdamFfnOut : Cert.KernelAdamFfnOut.Facts] : Prop :=
  ∀ (m : (ℓ : Loc Cert.KernelAdamFfnOut.nD Cert.KernelAdamFfnOut.τ Cert.KernelAdamFfnOut.sig) → Buf (Elt Bits) ℓ) (g : Dev Cert.KernelAdamFfnOut.nD → PrngReg), Pre_KernelAdamFfnOut m →
    θ_run (Cert.KernelAdamFfnOut.defs (F := Bits)) (onTc (τ := Cert.KernelAdamFfnOut.τ) (Cert.KernelAdamFfnOut.main (F := Bits))) ⟨m, fun _ => 0, g⟩ (fun r => (∀ c : Dev Cert.KernelAdamFfnOut.nD,
      r.2.mem ((c.tc : Thread Cert.KernelAdamFfnOut.nD Cert.KernelAdamFfnOut.τ).loc Cert.KernelAdamFfnOut.main_arg0) = m ((c.tc : Thread Cert.KernelAdamFfnOut.nD Cert.KernelAdamFfnOut.τ).loc Cert.KernelAdamFfnOut.main_arg0)
      ∧ r.2.mem ((c.tc : Thread Cert.KernelAdamFfnOut.nD Cert.KernelAdamFfnOut.τ).loc Cert.KernelAdamFfnOut.main_arg1) = m ((c.tc : Thread Cert.KernelAdamFfnOut.nD Cert.KernelAdamFfnOut.τ).loc Cert.KernelAdamFfnOut.main_arg1)
      ∧ r.2.mem ((c.tc : Thread Cert.KernelAdamFfnOut.nD Cert.KernelAdamFfnOut.τ).loc Cert.KernelAdamFfnOut.main_arg2) = m ((c.tc : Thread Cert.KernelAdamFfnOut.nD Cert.KernelAdamFfnOut.τ).loc Cert.KernelAdamFfnOut.main_arg2)
      ∧ r.2.mem ((c.tc : Thread Cert.KernelAdamFfnOut.nD Cert.KernelAdamFfnOut.τ).loc Cert.KernelAdamFfnOut.main_arg3) = m ((c.tc : Thread Cert.KernelAdamFfnOut.nD Cert.KernelAdamFfnOut.τ).loc Cert.KernelAdamFfnOut.main_arg3)
      ∧ r.2.mem ((c.tc : Thread Cert.KernelAdamFfnOut.nD Cert.KernelAdamFfnOut.τ).loc Cert.KernelAdamFfnOut.main_arg4) = m ((c.tc : Thread Cert.KernelAdamFfnOut.nD Cert.KernelAdamFfnOut.τ).loc Cert.KernelAdamFfnOut.main_arg4))
      ∧ r.2.sem = fun _ => 0)

def quiescent_KernelAdamFfnOutIdeal [hKernelAdamFfnOutIdeal : Cert.KernelAdamFfnOutIdeal.Facts] : Prop :=
  ∀ (m : (ℓ : Loc Cert.KernelAdamFfnOutIdeal.nD Cert.KernelAdamFfnOutIdeal.τ Cert.KernelAdamFfnOutIdeal.sig) → Buf (Elt Ideal) ℓ) (g : Dev Cert.KernelAdamFfnOutIdeal.nD → PrngReg), Pre_KernelAdamFfnOutIdeal m →
    θ_run (Cert.KernelAdamFfnOutIdeal.defs (F := Ideal)) (onTc (τ := Cert.KernelAdamFfnOutIdeal.τ) (Cert.KernelAdamFfnOutIdeal.main (F := Ideal))) ⟨m, fun _ => 0, g⟩ (fun r => (∀ c : Dev Cert.KernelAdamFfnOutIdeal.nD,
      r.2.mem ((c.tc : Thread Cert.KernelAdamFfnOutIdeal.nD Cert.KernelAdamFfnOutIdeal.τ).loc Cert.KernelAdamFfnOutIdeal.main_arg0) = m ((c.tc : Thread Cert.KernelAdamFfnOutIdeal.nD Cert.KernelAdamFfnOutIdeal.τ).loc Cert.KernelAdamFfnOutIdeal.main_arg0)
      ∧ r.2.mem ((c.tc : Thread Cert.KernelAdamFfnOutIdeal.nD Cert.KernelAdamFfnOutIdeal.τ).loc Cert.KernelAdamFfnOutIdeal.main_arg1) = m ((c.tc : Thread Cert.KernelAdamFfnOutIdeal.nD Cert.KernelAdamFfnOutIdeal.τ).loc Cert.KernelAdamFfnOutIdeal.main_arg1)
      ∧ r.2.mem ((c.tc : Thread Cert.KernelAdamFfnOutIdeal.nD Cert.KernelAdamFfnOutIdeal.τ).loc Cert.KernelAdamFfnOutIdeal.main_arg2) = m ((c.tc : Thread Cert.KernelAdamFfnOutIdeal.nD Cert.KernelAdamFfnOutIdeal.τ).loc Cert.KernelAdamFfnOutIdeal.main_arg2)
      ∧ r.2.mem ((c.tc : Thread Cert.KernelAdamFfnOutIdeal.nD Cert.KernelAdamFfnOutIdeal.τ).loc Cert.KernelAdamFfnOutIdeal.main_arg3) = m ((c.tc : Thread Cert.KernelAdamFfnOutIdeal.nD Cert.KernelAdamFfnOutIdeal.τ).loc Cert.KernelAdamFfnOutIdeal.main_arg3)
      ∧ r.2.mem ((c.tc : Thread Cert.KernelAdamFfnOutIdeal.nD Cert.KernelAdamFfnOutIdeal.τ).loc Cert.KernelAdamFfnOutIdeal.main_arg4) = m ((c.tc : Thread Cert.KernelAdamFfnOutIdeal.nD Cert.KernelAdamFfnOutIdeal.τ).loc Cert.KernelAdamFfnOutIdeal.main_arg4))
      ∧ r.2.sem = fun _ => 0)

def quiescent_ReferenceAdamFfnOutIdeal [hReferenceAdamFfnOutIdeal : Cert.ReferenceAdamFfnOutIdeal.Facts] : Prop :=
  ∀ (m : (ℓ : Loc Cert.ReferenceAdamFfnOutIdeal.nD Cert.ReferenceAdamFfnOutIdeal.τ Cert.ReferenceAdamFfnOutIdeal.sig) → Buf (Elt Ideal) ℓ) (g : Dev Cert.ReferenceAdamFfnOutIdeal.nD → PrngReg), Pre_ReferenceAdamFfnOutIdeal m →
    θ_run (Cert.ReferenceAdamFfnOutIdeal.defs (F := Ideal)) (onTc (τ := Cert.ReferenceAdamFfnOutIdeal.τ) (Cert.ReferenceAdamFfnOutIdeal.main (F := Ideal))) ⟨m, fun _ => 0, g⟩ (fun r => (∀ c : Dev Cert.ReferenceAdamFfnOutIdeal.nD,
      r.2.mem ((c.tc : Thread Cert.ReferenceAdamFfnOutIdeal.nD Cert.ReferenceAdamFfnOutIdeal.τ).loc Cert.ReferenceAdamFfnOutIdeal.main_arg0) = m ((c.tc : Thread Cert.ReferenceAdamFfnOutIdeal.nD Cert.ReferenceAdamFfnOutIdeal.τ).loc Cert.ReferenceAdamFfnOutIdeal.main_arg0)
      ∧ r.2.mem ((c.tc : Thread Cert.ReferenceAdamFfnOutIdeal.nD Cert.ReferenceAdamFfnOutIdeal.τ).loc Cert.ReferenceAdamFfnOutIdeal.main_arg1) = m ((c.tc : Thread Cert.ReferenceAdamFfnOutIdeal.nD Cert.ReferenceAdamFfnOutIdeal.τ).loc Cert.ReferenceAdamFfnOutIdeal.main_arg1)
      ∧ r.2.mem ((c.tc : Thread Cert.ReferenceAdamFfnOutIdeal.nD Cert.ReferenceAdamFfnOutIdeal.τ).loc Cert.ReferenceAdamFfnOutIdeal.main_arg2) = m ((c.tc : Thread Cert.ReferenceAdamFfnOutIdeal.nD Cert.ReferenceAdamFfnOutIdeal.τ).loc Cert.ReferenceAdamFfnOutIdeal.main_arg2)
      ∧ r.2.mem ((c.tc : Thread Cert.ReferenceAdamFfnOutIdeal.nD Cert.ReferenceAdamFfnOutIdeal.τ).loc Cert.ReferenceAdamFfnOutIdeal.main_arg3) = m ((c.tc : Thread Cert.ReferenceAdamFfnOutIdeal.nD Cert.ReferenceAdamFfnOutIdeal.τ).loc Cert.ReferenceAdamFfnOutIdeal.main_arg3)
      ∧ r.2.mem ((c.tc : Thread Cert.ReferenceAdamFfnOutIdeal.nD Cert.ReferenceAdamFfnOutIdeal.τ).loc Cert.ReferenceAdamFfnOutIdeal.main_arg4) = m ((c.tc : Thread Cert.ReferenceAdamFfnOutIdeal.nD Cert.ReferenceAdamFfnOutIdeal.τ).loc Cert.ReferenceAdamFfnOutIdeal.main_arg4))
      ∧ r.2.sem = fun _ => 0)

def quiescent_KernelAdamSmall [hKernelAdamSmall : Cert.KernelAdamSmall.Facts] : Prop :=
  ∀ (m : (ℓ : Loc Cert.KernelAdamSmall.nD Cert.KernelAdamSmall.τ Cert.KernelAdamSmall.sig) → Buf (Elt Bits) ℓ) (g : Dev Cert.KernelAdamSmall.nD → PrngReg), Pre_KernelAdamSmall m →
    θ_run (Cert.KernelAdamSmall.defs (F := Bits)) (onTc (τ := Cert.KernelAdamSmall.τ) (Cert.KernelAdamSmall.main (F := Bits))) ⟨m, fun _ => 0, g⟩ (fun r => (∀ c : Dev Cert.KernelAdamSmall.nD,
      r.2.mem ((c.tc : Thread Cert.KernelAdamSmall.nD Cert.KernelAdamSmall.τ).loc Cert.KernelAdamSmall.main_arg0) = m ((c.tc : Thread Cert.KernelAdamSmall.nD Cert.KernelAdamSmall.τ).loc Cert.KernelAdamSmall.main_arg0)
      ∧ r.2.mem ((c.tc : Thread Cert.KernelAdamSmall.nD Cert.KernelAdamSmall.τ).loc Cert.KernelAdamSmall.main_arg1) = m ((c.tc : Thread Cert.KernelAdamSmall.nD Cert.KernelAdamSmall.τ).loc Cert.KernelAdamSmall.main_arg1)
      ∧ r.2.mem ((c.tc : Thread Cert.KernelAdamSmall.nD Cert.KernelAdamSmall.τ).loc Cert.KernelAdamSmall.main_arg2) = m ((c.tc : Thread Cert.KernelAdamSmall.nD Cert.KernelAdamSmall.τ).loc Cert.KernelAdamSmall.main_arg2)
      ∧ r.2.mem ((c.tc : Thread Cert.KernelAdamSmall.nD Cert.KernelAdamSmall.τ).loc Cert.KernelAdamSmall.main_arg3) = m ((c.tc : Thread Cert.KernelAdamSmall.nD Cert.KernelAdamSmall.τ).loc Cert.KernelAdamSmall.main_arg3))
      ∧ r.2.sem = fun _ => 0)

def quiescent_KernelAdamSmallIdeal [hKernelAdamSmallIdeal : Cert.KernelAdamSmallIdeal.Facts] : Prop :=
  ∀ (m : (ℓ : Loc Cert.KernelAdamSmallIdeal.nD Cert.KernelAdamSmallIdeal.τ Cert.KernelAdamSmallIdeal.sig) → Buf (Elt Ideal) ℓ) (g : Dev Cert.KernelAdamSmallIdeal.nD → PrngReg), Pre_KernelAdamSmallIdeal m →
    θ_run (Cert.KernelAdamSmallIdeal.defs (F := Ideal)) (onTc (τ := Cert.KernelAdamSmallIdeal.τ) (Cert.KernelAdamSmallIdeal.main (F := Ideal))) ⟨m, fun _ => 0, g⟩ (fun r => (∀ c : Dev Cert.KernelAdamSmallIdeal.nD,
      r.2.mem ((c.tc : Thread Cert.KernelAdamSmallIdeal.nD Cert.KernelAdamSmallIdeal.τ).loc Cert.KernelAdamSmallIdeal.main_arg0) = m ((c.tc : Thread Cert.KernelAdamSmallIdeal.nD Cert.KernelAdamSmallIdeal.τ).loc Cert.KernelAdamSmallIdeal.main_arg0)
      ∧ r.2.mem ((c.tc : Thread Cert.KernelAdamSmallIdeal.nD Cert.KernelAdamSmallIdeal.τ).loc Cert.KernelAdamSmallIdeal.main_arg1) = m ((c.tc : Thread Cert.KernelAdamSmallIdeal.nD Cert.KernelAdamSmallIdeal.τ).loc Cert.KernelAdamSmallIdeal.main_arg1)
      ∧ r.2.mem ((c.tc : Thread Cert.KernelAdamSmallIdeal.nD Cert.KernelAdamSmallIdeal.τ).loc Cert.KernelAdamSmallIdeal.main_arg2) = m ((c.tc : Thread Cert.KernelAdamSmallIdeal.nD Cert.KernelAdamSmallIdeal.τ).loc Cert.KernelAdamSmallIdeal.main_arg2)
      ∧ r.2.mem ((c.tc : Thread Cert.KernelAdamSmallIdeal.nD Cert.KernelAdamSmallIdeal.τ).loc Cert.KernelAdamSmallIdeal.main_arg3) = m ((c.tc : Thread Cert.KernelAdamSmallIdeal.nD Cert.KernelAdamSmallIdeal.τ).loc Cert.KernelAdamSmallIdeal.main_arg3))
      ∧ r.2.sem = fun _ => 0)

def quiescent_ReferenceAdamSmallIdeal [hReferenceAdamSmallIdeal : Cert.ReferenceAdamSmallIdeal.Facts] : Prop :=
  ∀ (m : (ℓ : Loc Cert.ReferenceAdamSmallIdeal.nD Cert.ReferenceAdamSmallIdeal.τ Cert.ReferenceAdamSmallIdeal.sig) → Buf (Elt Ideal) ℓ) (g : Dev Cert.ReferenceAdamSmallIdeal.nD → PrngReg), Pre_ReferenceAdamSmallIdeal m →
    θ_run (Cert.ReferenceAdamSmallIdeal.defs (F := Ideal)) (onTc (τ := Cert.ReferenceAdamSmallIdeal.τ) (Cert.ReferenceAdamSmallIdeal.main (F := Ideal))) ⟨m, fun _ => 0, g⟩ (fun r => (∀ c : Dev Cert.ReferenceAdamSmallIdeal.nD,
      r.2.mem ((c.tc : Thread Cert.ReferenceAdamSmallIdeal.nD Cert.ReferenceAdamSmallIdeal.τ).loc Cert.ReferenceAdamSmallIdeal.main_arg0) = m ((c.tc : Thread Cert.ReferenceAdamSmallIdeal.nD Cert.ReferenceAdamSmallIdeal.τ).loc Cert.ReferenceAdamSmallIdeal.main_arg0)
      ∧ r.2.mem ((c.tc : Thread Cert.ReferenceAdamSmallIdeal.nD Cert.ReferenceAdamSmallIdeal.τ).loc Cert.ReferenceAdamSmallIdeal.main_arg1) = m ((c.tc : Thread Cert.ReferenceAdamSmallIdeal.nD Cert.ReferenceAdamSmallIdeal.τ).loc Cert.ReferenceAdamSmallIdeal.main_arg1)
      ∧ r.2.mem ((c.tc : Thread Cert.ReferenceAdamSmallIdeal.nD Cert.ReferenceAdamSmallIdeal.τ).loc Cert.ReferenceAdamSmallIdeal.main_arg2) = m ((c.tc : Thread Cert.ReferenceAdamSmallIdeal.nD Cert.ReferenceAdamSmallIdeal.τ).loc Cert.ReferenceAdamSmallIdeal.main_arg2)
      ∧ r.2.mem ((c.tc : Thread Cert.ReferenceAdamSmallIdeal.nD Cert.ReferenceAdamSmallIdeal.τ).loc Cert.ReferenceAdamSmallIdeal.main_arg3) = m ((c.tc : Thread Cert.ReferenceAdamSmallIdeal.nD Cert.ReferenceAdamSmallIdeal.τ).loc Cert.ReferenceAdamSmallIdeal.main_arg3))
      ∧ r.2.sem = fun _ => 0)

def quiescent_KernelSumGrads [hKernelSumGrads : Cert.KernelSumGrads.Facts] : Prop :=
  ∀ (m : (ℓ : Loc Cert.KernelSumGrads.nD Cert.KernelSumGrads.τ Cert.KernelSumGrads.sig) → Buf (Elt Bits) ℓ) (g : Dev Cert.KernelSumGrads.nD → PrngReg), Pre_KernelSumGrads m →
    θ_run (Cert.KernelSumGrads.defs (F := Bits)) (onTc (τ := Cert.KernelSumGrads.τ) (Cert.KernelSumGrads.main (F := Bits))) ⟨m, fun _ => 0, g⟩ (fun r => (∀ c : Dev Cert.KernelSumGrads.nD,
      r.2.mem ((c.tc : Thread Cert.KernelSumGrads.nD Cert.KernelSumGrads.τ).loc Cert.KernelSumGrads.main_arg0) = m ((c.tc : Thread Cert.KernelSumGrads.nD Cert.KernelSumGrads.τ).loc Cert.KernelSumGrads.main_arg0))
      ∧ r.2.sem = fun _ => 0)

def quiescent_KernelSumGradsIdeal [hKernelSumGradsIdeal : Cert.KernelSumGradsIdeal.Facts] : Prop :=
  ∀ (m : (ℓ : Loc Cert.KernelSumGradsIdeal.nD Cert.KernelSumGradsIdeal.τ Cert.KernelSumGradsIdeal.sig) → Buf (Elt Ideal) ℓ) (g : Dev Cert.KernelSumGradsIdeal.nD → PrngReg), Pre_KernelSumGradsIdeal m →
    θ_run (Cert.KernelSumGradsIdeal.defs (F := Ideal)) (onTc (τ := Cert.KernelSumGradsIdeal.τ) (Cert.KernelSumGradsIdeal.main (F := Ideal))) ⟨m, fun _ => 0, g⟩ (fun r => (∀ c : Dev Cert.KernelSumGradsIdeal.nD,
      r.2.mem ((c.tc : Thread Cert.KernelSumGradsIdeal.nD Cert.KernelSumGradsIdeal.τ).loc Cert.KernelSumGradsIdeal.main_arg0) = m ((c.tc : Thread Cert.KernelSumGradsIdeal.nD Cert.KernelSumGradsIdeal.τ).loc Cert.KernelSumGradsIdeal.main_arg0))
      ∧ r.2.sem = fun _ => 0)

def quiescent_ReferenceSumGradsIdeal [hReferenceSumGradsIdeal : Cert.ReferenceSumGradsIdeal.Facts] : Prop :=
  ∀ (m : (ℓ : Loc Cert.ReferenceSumGradsIdeal.nD Cert.ReferenceSumGradsIdeal.τ Cert.ReferenceSumGradsIdeal.sig) → Buf (Elt Ideal) ℓ) (g : Dev Cert.ReferenceSumGradsIdeal.nD → PrngReg), Pre_ReferenceSumGradsIdeal m →
    θ_run (Cert.ReferenceSumGradsIdeal.defs (F := Ideal)) (onTc (τ := Cert.ReferenceSumGradsIdeal.τ) (Cert.ReferenceSumGradsIdeal.main (F := Ideal))) ⟨m, fun _ => 0, g⟩ (fun r => (∀ c : Dev Cert.ReferenceSumGradsIdeal.nD,
      r.2.mem ((c.tc : Thread Cert.ReferenceSumGradsIdeal.nD Cert.ReferenceSumGradsIdeal.τ).loc Cert.ReferenceSumGradsIdeal.main_arg0) = m ((c.tc : Thread Cert.ReferenceSumGradsIdeal.nD Cert.ReferenceSumGradsIdeal.τ).loc Cert.ReferenceSumGradsIdeal.main_arg0))
      ∧ r.2.sem = fun _ => 0)

def preserves_KernelScanBwd_KernelScanBwdIdeal : Prop :=
  True

def algebraic_KernelScanBwdIdeal_ReferenceScanBwdIdeal [hKernelScanBwdIdeal : Cert.KernelScanBwdIdeal.Facts] [hReferenceScanBwdIdeal : Cert.ReferenceScanBwdIdeal.Facts] : Prop :=
  ∀ (m : (ℓ : Loc Cert.KernelScanBwdIdeal.nD Cert.KernelScanBwdIdeal.τ Cert.KernelScanBwdIdeal.sig) → Buf (Elt Ideal) ℓ) (g : Dev Cert.KernelScanBwdIdeal.nD → PrngReg)
    (m' : (ℓ : Loc Cert.ReferenceScanBwdIdeal.nD Cert.ReferenceScanBwdIdeal.τ Cert.ReferenceScanBwdIdeal.sig) → Buf (Elt Ideal) ℓ) (g' : Dev Cert.ReferenceScanBwdIdeal.nD → PrngReg), Pre_KernelScanBwdIdeal m →
    (∀ c : Dev Cert.KernelScanBwdIdeal.nD,
      m' ((c.tc : Thread Cert.ReferenceScanBwdIdeal.nD Cert.ReferenceScanBwdIdeal.τ).loc Cert.ReferenceScanBwdIdeal.main_arg0) = m ((c.tc : Thread Cert.KernelScanBwdIdeal.nD Cert.KernelScanBwdIdeal.τ).loc Cert.KernelScanBwdIdeal.main_arg0)
      ∧ m' ((c.tc : Thread Cert.ReferenceScanBwdIdeal.nD Cert.ReferenceScanBwdIdeal.τ).loc Cert.ReferenceScanBwdIdeal.main_arg1) = m ((c.tc : Thread Cert.KernelScanBwdIdeal.nD Cert.KernelScanBwdIdeal.τ).loc Cert.KernelScanBwdIdeal.main_arg1)) →
    ∃ (v0 : (c : Dev Cert.KernelScanBwdIdeal.nD) → Buf (Elt Ideal) ((c.tc : Thread Cert.KernelScanBwdIdeal.nD Cert.KernelScanBwdIdeal.τ).loc Cert.KernelScanBwdIdeal.main_v0)),
      θ_run (Cert.KernelScanBwdIdeal.defs (F := Ideal)) (onTc (τ := Cert.KernelScanBwdIdeal.τ) (Cert.KernelScanBwdIdeal.main (F := Ideal))) ⟨m, fun _ => 0, g⟩ (fun r => ∀ c : Dev Cert.KernelScanBwdIdeal.nD,
          r.2.mem ((c.tc : Thread Cert.KernelScanBwdIdeal.nD Cert.KernelScanBwdIdeal.τ).loc Cert.KernelScanBwdIdeal.main_v0) = v0 c
          ∧ r.2.mem ((c.tc : Thread Cert.KernelScanBwdIdeal.nD Cert.KernelScanBwdIdeal.τ).loc Cert.KernelScanBwdIdeal.main_arg0) = m ((c.tc : Thread Cert.KernelScanBwdIdeal.nD Cert.KernelScanBwdIdeal.τ).loc Cert.KernelScanBwdIdeal.main_arg0)
          ∧ r.2.mem ((c.tc : Thread Cert.KernelScanBwdIdeal.nD Cert.KernelScanBwdIdeal.τ).loc Cert.KernelScanBwdIdeal.main_arg1) = m ((c.tc : Thread Cert.KernelScanBwdIdeal.nD Cert.KernelScanBwdIdeal.τ).loc Cert.KernelScanBwdIdeal.main_arg1))
      ∧ θ_run (Cert.ReferenceScanBwdIdeal.defs (F := Ideal)) (onTc (τ := Cert.ReferenceScanBwdIdeal.τ) (Cert.ReferenceScanBwdIdeal.main (F := Ideal))) ⟨m', fun _ => 0, g'⟩ (fun r => ∀ c : Dev Cert.ReferenceScanBwdIdeal.nD,
          r.2.mem ((c.tc : Thread Cert.ReferenceScanBwdIdeal.nD Cert.ReferenceScanBwdIdeal.τ).loc Cert.ReferenceScanBwdIdeal.main_v3_4) = v0 c
          ∧ r.2.mem ((c.tc : Thread Cert.ReferenceScanBwdIdeal.nD Cert.ReferenceScanBwdIdeal.τ).loc Cert.ReferenceScanBwdIdeal.main_arg0) = m' ((c.tc : Thread Cert.ReferenceScanBwdIdeal.nD Cert.ReferenceScanBwdIdeal.τ).loc Cert.ReferenceScanBwdIdeal.main_arg0)
          ∧ r.2.mem ((c.tc : Thread Cert.ReferenceScanBwdIdeal.nD Cert.ReferenceScanBwdIdeal.τ).loc Cert.ReferenceScanBwdIdeal.main_arg1) = m' ((c.tc : Thread Cert.ReferenceScanBwdIdeal.nD Cert.ReferenceScanBwdIdeal.τ).loc Cert.ReferenceScanBwdIdeal.main_arg1))

def preserves_KernelScanFwd_KernelScanFwdIdeal : Prop :=
  True

def algebraic_KernelScanFwdIdeal_ReferenceScanFwdIdeal [hKernelScanFwdIdeal : Cert.KernelScanFwdIdeal.Facts] [hReferenceScanFwdIdeal : Cert.ReferenceScanFwdIdeal.Facts] : Prop :=
  ∀ (m : (ℓ : Loc Cert.KernelScanFwdIdeal.nD Cert.KernelScanFwdIdeal.τ Cert.KernelScanFwdIdeal.sig) → Buf (Elt Ideal) ℓ) (g : Dev Cert.KernelScanFwdIdeal.nD → PrngReg)
    (m' : (ℓ : Loc Cert.ReferenceScanFwdIdeal.nD Cert.ReferenceScanFwdIdeal.τ Cert.ReferenceScanFwdIdeal.sig) → Buf (Elt Ideal) ℓ) (g' : Dev Cert.ReferenceScanFwdIdeal.nD → PrngReg), Pre_KernelScanFwdIdeal m →
    (∀ c : Dev Cert.KernelScanFwdIdeal.nD,
      m' ((c.tc : Thread Cert.ReferenceScanFwdIdeal.nD Cert.ReferenceScanFwdIdeal.τ).loc Cert.ReferenceScanFwdIdeal.main_arg0) = m ((c.tc : Thread Cert.KernelScanFwdIdeal.nD Cert.KernelScanFwdIdeal.τ).loc Cert.KernelScanFwdIdeal.main_arg0)
      ∧ m' ((c.tc : Thread Cert.ReferenceScanFwdIdeal.nD Cert.ReferenceScanFwdIdeal.τ).loc Cert.ReferenceScanFwdIdeal.main_arg1) = m ((c.tc : Thread Cert.KernelScanFwdIdeal.nD Cert.KernelScanFwdIdeal.τ).loc Cert.KernelScanFwdIdeal.main_arg1)) →
    ∃ (v0 : (c : Dev Cert.KernelScanFwdIdeal.nD) → Buf (Elt Ideal) ((c.tc : Thread Cert.KernelScanFwdIdeal.nD Cert.KernelScanFwdIdeal.τ).loc Cert.KernelScanFwdIdeal.main_v0_0)) (v1 : (c : Dev Cert.KernelScanFwdIdeal.nD) → Buf (Elt Ideal) ((c.tc : Thread Cert.KernelScanFwdIdeal.nD Cert.KernelScanFwdIdeal.τ).loc Cert.KernelScanFwdIdeal.main_v0_1)),
      θ_run (Cert.KernelScanFwdIdeal.defs (F := Ideal)) (onTc (τ := Cert.KernelScanFwdIdeal.τ) (Cert.KernelScanFwdIdeal.main (F := Ideal))) ⟨m, fun _ => 0, g⟩ (fun r => ∀ c : Dev Cert.KernelScanFwdIdeal.nD,
          r.2.mem ((c.tc : Thread Cert.KernelScanFwdIdeal.nD Cert.KernelScanFwdIdeal.τ).loc Cert.KernelScanFwdIdeal.main_v0_0) = v0 c
          ∧ r.2.mem ((c.tc : Thread Cert.KernelScanFwdIdeal.nD Cert.KernelScanFwdIdeal.τ).loc Cert.KernelScanFwdIdeal.main_v0_1) = v1 c
          ∧ r.2.mem ((c.tc : Thread Cert.KernelScanFwdIdeal.nD Cert.KernelScanFwdIdeal.τ).loc Cert.KernelScanFwdIdeal.main_arg0) = m ((c.tc : Thread Cert.KernelScanFwdIdeal.nD Cert.KernelScanFwdIdeal.τ).loc Cert.KernelScanFwdIdeal.main_arg0)
          ∧ r.2.mem ((c.tc : Thread Cert.KernelScanFwdIdeal.nD Cert.KernelScanFwdIdeal.τ).loc Cert.KernelScanFwdIdeal.main_arg1) = m ((c.tc : Thread Cert.KernelScanFwdIdeal.nD Cert.KernelScanFwdIdeal.τ).loc Cert.KernelScanFwdIdeal.main_arg1))
      ∧ θ_run (Cert.ReferenceScanFwdIdeal.defs (F := Ideal)) (onTc (τ := Cert.ReferenceScanFwdIdeal.τ) (Cert.ReferenceScanFwdIdeal.main (F := Ideal))) ⟨m', fun _ => 0, g'⟩ (fun r => ∀ c : Dev Cert.ReferenceScanFwdIdeal.nD,
          r.2.mem ((c.tc : Thread Cert.ReferenceScanFwdIdeal.nD Cert.ReferenceScanFwdIdeal.τ).loc Cert.ReferenceScanFwdIdeal.main_v2_4) = v0 c
          ∧ r.2.mem ((c.tc : Thread Cert.ReferenceScanFwdIdeal.nD Cert.ReferenceScanFwdIdeal.τ).loc Cert.ReferenceScanFwdIdeal.main_v5) = v1 c
          ∧ r.2.mem ((c.tc : Thread Cert.ReferenceScanFwdIdeal.nD Cert.ReferenceScanFwdIdeal.τ).loc Cert.ReferenceScanFwdIdeal.main_arg0) = m' ((c.tc : Thread Cert.ReferenceScanFwdIdeal.nD Cert.ReferenceScanFwdIdeal.τ).loc Cert.ReferenceScanFwdIdeal.main_arg0)
          ∧ r.2.mem ((c.tc : Thread Cert.ReferenceScanFwdIdeal.nD Cert.ReferenceScanFwdIdeal.τ).loc Cert.ReferenceScanFwdIdeal.main_arg1) = m' ((c.tc : Thread Cert.ReferenceScanFwdIdeal.nD Cert.ReferenceScanFwdIdeal.τ).loc Cert.ReferenceScanFwdIdeal.main_arg1))

def preserves_KernelConvBwd_KernelConvBwdIdeal : Prop :=
  True

def algebraic_KernelConvBwdIdeal_ReferenceConvBwdIdeal [hKernelConvBwdIdeal : Cert.KernelConvBwdIdeal.Facts] [hReferenceConvBwdIdeal : Cert.ReferenceConvBwdIdeal.Facts] : Prop :=
  ∀ (m : (ℓ : Loc Cert.KernelConvBwdIdeal.nD Cert.KernelConvBwdIdeal.τ Cert.KernelConvBwdIdeal.sig) → Buf (Elt Ideal) ℓ) (g : Dev Cert.KernelConvBwdIdeal.nD → PrngReg)
    (m' : (ℓ : Loc Cert.ReferenceConvBwdIdeal.nD Cert.ReferenceConvBwdIdeal.τ Cert.ReferenceConvBwdIdeal.sig) → Buf (Elt Ideal) ℓ) (g' : Dev Cert.ReferenceConvBwdIdeal.nD → PrngReg), Pre_KernelConvBwdIdeal m →
    (∀ c : Dev Cert.KernelConvBwdIdeal.nD,
      m' ((c.tc : Thread Cert.ReferenceConvBwdIdeal.nD Cert.ReferenceConvBwdIdeal.τ).loc Cert.ReferenceConvBwdIdeal.main_arg0) = m ((c.tc : Thread Cert.KernelConvBwdIdeal.nD Cert.KernelConvBwdIdeal.τ).loc Cert.KernelConvBwdIdeal.main_arg0)
      ∧ m' ((c.tc : Thread Cert.ReferenceConvBwdIdeal.nD Cert.ReferenceConvBwdIdeal.τ).loc Cert.ReferenceConvBwdIdeal.main_arg1) = m ((c.tc : Thread Cert.KernelConvBwdIdeal.nD Cert.KernelConvBwdIdeal.τ).loc Cert.KernelConvBwdIdeal.main_arg1)
      ∧ m' ((c.tc : Thread Cert.ReferenceConvBwdIdeal.nD Cert.ReferenceConvBwdIdeal.τ).loc Cert.ReferenceConvBwdIdeal.main_arg2) = m ((c.tc : Thread Cert.KernelConvBwdIdeal.nD Cert.KernelConvBwdIdeal.τ).loc Cert.KernelConvBwdIdeal.main_arg2)) →
    ∃ (v0 : (c : Dev Cert.KernelConvBwdIdeal.nD) → Buf (Elt Ideal) ((c.tc : Thread Cert.KernelConvBwdIdeal.nD Cert.KernelConvBwdIdeal.τ).loc Cert.KernelConvBwdIdeal.main_v0_0)) (v1 : (c : Dev Cert.KernelConvBwdIdeal.nD) → Buf (Elt Ideal) ((c.tc : Thread Cert.KernelConvBwdIdeal.nD Cert.KernelConvBwdIdeal.τ).loc Cert.KernelConvBwdIdeal.main_v0_1)),
      θ_run (Cert.KernelConvBwdIdeal.defs (F := Ideal)) (onTc (τ := Cert.KernelConvBwdIdeal.τ) (Cert.KernelConvBwdIdeal.main (F := Ideal))) ⟨m, fun _ => 0, g⟩ (fun r => ∀ c : Dev Cert.KernelConvBwdIdeal.nD,
          r.2.mem ((c.tc : Thread Cert.KernelConvBwdIdeal.nD Cert.KernelConvBwdIdeal.τ).loc Cert.KernelConvBwdIdeal.main_v0_0) = v0 c
          ∧ r.2.mem ((c.tc : Thread Cert.KernelConvBwdIdeal.nD Cert.KernelConvBwdIdeal.τ).loc Cert.KernelConvBwdIdeal.main_v0_1) = v1 c
          ∧ r.2.mem ((c.tc : Thread Cert.KernelConvBwdIdeal.nD Cert.KernelConvBwdIdeal.τ).loc Cert.KernelConvBwdIdeal.main_arg0) = m ((c.tc : Thread Cert.KernelConvBwdIdeal.nD Cert.KernelConvBwdIdeal.τ).loc Cert.KernelConvBwdIdeal.main_arg0)
          ∧ r.2.mem ((c.tc : Thread Cert.KernelConvBwdIdeal.nD Cert.KernelConvBwdIdeal.τ).loc Cert.KernelConvBwdIdeal.main_arg1) = m ((c.tc : Thread Cert.KernelConvBwdIdeal.nD Cert.KernelConvBwdIdeal.τ).loc Cert.KernelConvBwdIdeal.main_arg1)
          ∧ r.2.mem ((c.tc : Thread Cert.KernelConvBwdIdeal.nD Cert.KernelConvBwdIdeal.τ).loc Cert.KernelConvBwdIdeal.main_arg2) = m ((c.tc : Thread Cert.KernelConvBwdIdeal.nD Cert.KernelConvBwdIdeal.τ).loc Cert.KernelConvBwdIdeal.main_arg2))
      ∧ θ_run (Cert.ReferenceConvBwdIdeal.defs (F := Ideal)) (onTc (τ := Cert.ReferenceConvBwdIdeal.τ) (Cert.ReferenceConvBwdIdeal.main (F := Ideal))) ⟨m', fun _ => 0, g'⟩ (fun r => ∀ c : Dev Cert.ReferenceConvBwdIdeal.nD,
          r.2.mem ((c.tc : Thread Cert.ReferenceConvBwdIdeal.nD Cert.ReferenceConvBwdIdeal.τ).loc Cert.ReferenceConvBwdIdeal.main_v87) = v0 c
          ∧ r.2.mem ((c.tc : Thread Cert.ReferenceConvBwdIdeal.nD Cert.ReferenceConvBwdIdeal.τ).loc Cert.ReferenceConvBwdIdeal.main_v90) = v1 c
          ∧ r.2.mem ((c.tc : Thread Cert.ReferenceConvBwdIdeal.nD Cert.ReferenceConvBwdIdeal.τ).loc Cert.ReferenceConvBwdIdeal.main_arg0) = m' ((c.tc : Thread Cert.ReferenceConvBwdIdeal.nD Cert.ReferenceConvBwdIdeal.τ).loc Cert.ReferenceConvBwdIdeal.main_arg0)
          ∧ r.2.mem ((c.tc : Thread Cert.ReferenceConvBwdIdeal.nD Cert.ReferenceConvBwdIdeal.τ).loc Cert.ReferenceConvBwdIdeal.main_arg1) = m' ((c.tc : Thread Cert.ReferenceConvBwdIdeal.nD Cert.ReferenceConvBwdIdeal.τ).loc Cert.ReferenceConvBwdIdeal.main_arg1)
          ∧ r.2.mem ((c.tc : Thread Cert.ReferenceConvBwdIdeal.nD Cert.ReferenceConvBwdIdeal.τ).loc Cert.ReferenceConvBwdIdeal.main_arg2) = m' ((c.tc : Thread Cert.ReferenceConvBwdIdeal.nD Cert.ReferenceConvBwdIdeal.τ).loc Cert.ReferenceConvBwdIdeal.main_arg2))

def preserves_KernelConvBwdX_KernelConvBwdXIdeal : Prop :=
  True

def algebraic_KernelConvBwdXIdeal_ReferenceConvBwdXIdeal [hKernelConvBwdXIdeal : Cert.KernelConvBwdXIdeal.Facts] [hReferenceConvBwdXIdeal : Cert.ReferenceConvBwdXIdeal.Facts] : Prop :=
  ∀ (m : (ℓ : Loc Cert.KernelConvBwdXIdeal.nD Cert.KernelConvBwdXIdeal.τ Cert.KernelConvBwdXIdeal.sig) → Buf (Elt Ideal) ℓ) (g : Dev Cert.KernelConvBwdXIdeal.nD → PrngReg)
    (m' : (ℓ : Loc Cert.ReferenceConvBwdXIdeal.nD Cert.ReferenceConvBwdXIdeal.τ Cert.ReferenceConvBwdXIdeal.sig) → Buf (Elt Ideal) ℓ) (g' : Dev Cert.ReferenceConvBwdXIdeal.nD → PrngReg), Pre_KernelConvBwdXIdeal m →
    (∀ c : Dev Cert.KernelConvBwdXIdeal.nD,
      m' ((c.tc : Thread Cert.ReferenceConvBwdXIdeal.nD Cert.ReferenceConvBwdXIdeal.τ).loc Cert.ReferenceConvBwdXIdeal.main_arg0) = m ((c.tc : Thread Cert.KernelConvBwdXIdeal.nD Cert.KernelConvBwdXIdeal.τ).loc Cert.KernelConvBwdXIdeal.main_arg0)
      ∧ m' ((c.tc : Thread Cert.ReferenceConvBwdXIdeal.nD Cert.ReferenceConvBwdXIdeal.τ).loc Cert.ReferenceConvBwdXIdeal.main_arg1) = m ((c.tc : Thread Cert.KernelConvBwdXIdeal.nD Cert.KernelConvBwdXIdeal.τ).loc Cert.KernelConvBwdXIdeal.main_arg1)
      ∧ m' ((c.tc : Thread Cert.ReferenceConvBwdXIdeal.nD Cert.ReferenceConvBwdXIdeal.τ).loc Cert.ReferenceConvBwdXIdeal.main_arg2) = m ((c.tc : Thread Cert.KernelConvBwdXIdeal.nD Cert.KernelConvBwdXIdeal.τ).loc Cert.KernelConvBwdXIdeal.main_arg2)) →
    ∃ (v0 : (c : Dev Cert.KernelConvBwdXIdeal.nD) → Buf (Elt Ideal) ((c.tc : Thread Cert.KernelConvBwdXIdeal.nD Cert.KernelConvBwdXIdeal.τ).loc Cert.KernelConvBwdXIdeal.main_v0_0)) (v1 : (c : Dev Cert.KernelConvBwdXIdeal.nD) → Buf (Elt Ideal) ((c.tc : Thread Cert.KernelConvBwdXIdeal.nD Cert.KernelConvBwdXIdeal.τ).loc Cert.KernelConvBwdXIdeal.main_v0_1)),
      θ_run (Cert.KernelConvBwdXIdeal.defs (F := Ideal)) (onTc (τ := Cert.KernelConvBwdXIdeal.τ) (Cert.KernelConvBwdXIdeal.main (F := Ideal))) ⟨m, fun _ => 0, g⟩ (fun r => ∀ c : Dev Cert.KernelConvBwdXIdeal.nD,
          r.2.mem ((c.tc : Thread Cert.KernelConvBwdXIdeal.nD Cert.KernelConvBwdXIdeal.τ).loc Cert.KernelConvBwdXIdeal.main_v0_0) = v0 c
          ∧ r.2.mem ((c.tc : Thread Cert.KernelConvBwdXIdeal.nD Cert.KernelConvBwdXIdeal.τ).loc Cert.KernelConvBwdXIdeal.main_v0_1) = v1 c
          ∧ r.2.mem ((c.tc : Thread Cert.KernelConvBwdXIdeal.nD Cert.KernelConvBwdXIdeal.τ).loc Cert.KernelConvBwdXIdeal.main_arg0) = m ((c.tc : Thread Cert.KernelConvBwdXIdeal.nD Cert.KernelConvBwdXIdeal.τ).loc Cert.KernelConvBwdXIdeal.main_arg0)
          ∧ r.2.mem ((c.tc : Thread Cert.KernelConvBwdXIdeal.nD Cert.KernelConvBwdXIdeal.τ).loc Cert.KernelConvBwdXIdeal.main_arg1) = m ((c.tc : Thread Cert.KernelConvBwdXIdeal.nD Cert.KernelConvBwdXIdeal.τ).loc Cert.KernelConvBwdXIdeal.main_arg1)
          ∧ r.2.mem ((c.tc : Thread Cert.KernelConvBwdXIdeal.nD Cert.KernelConvBwdXIdeal.τ).loc Cert.KernelConvBwdXIdeal.main_arg2) = m ((c.tc : Thread Cert.KernelConvBwdXIdeal.nD Cert.KernelConvBwdXIdeal.τ).loc Cert.KernelConvBwdXIdeal.main_arg2))
      ∧ θ_run (Cert.ReferenceConvBwdXIdeal.defs (F := Ideal)) (onTc (τ := Cert.ReferenceConvBwdXIdeal.τ) (Cert.ReferenceConvBwdXIdeal.main (F := Ideal))) ⟨m', fun _ => 0, g'⟩ (fun r => ∀ c : Dev Cert.ReferenceConvBwdXIdeal.nD,
          r.2.mem ((c.tc : Thread Cert.ReferenceConvBwdXIdeal.nD Cert.ReferenceConvBwdXIdeal.τ).loc Cert.ReferenceConvBwdXIdeal.main_v87) = v0 c
          ∧ r.2.mem ((c.tc : Thread Cert.ReferenceConvBwdXIdeal.nD Cert.ReferenceConvBwdXIdeal.τ).loc Cert.ReferenceConvBwdXIdeal.main_v90) = v1 c
          ∧ r.2.mem ((c.tc : Thread Cert.ReferenceConvBwdXIdeal.nD Cert.ReferenceConvBwdXIdeal.τ).loc Cert.ReferenceConvBwdXIdeal.main_arg0) = m' ((c.tc : Thread Cert.ReferenceConvBwdXIdeal.nD Cert.ReferenceConvBwdXIdeal.τ).loc Cert.ReferenceConvBwdXIdeal.main_arg0)
          ∧ r.2.mem ((c.tc : Thread Cert.ReferenceConvBwdXIdeal.nD Cert.ReferenceConvBwdXIdeal.τ).loc Cert.ReferenceConvBwdXIdeal.main_arg1) = m' ((c.tc : Thread Cert.ReferenceConvBwdXIdeal.nD Cert.ReferenceConvBwdXIdeal.τ).loc Cert.ReferenceConvBwdXIdeal.main_arg1)
          ∧ r.2.mem ((c.tc : Thread Cert.ReferenceConvBwdXIdeal.nD Cert.ReferenceConvBwdXIdeal.τ).loc Cert.ReferenceConvBwdXIdeal.main_arg2) = m' ((c.tc : Thread Cert.ReferenceConvBwdXIdeal.nD Cert.ReferenceConvBwdXIdeal.τ).loc Cert.ReferenceConvBwdXIdeal.main_arg2))

def preserves_KernelConvFwd_KernelConvFwdIdeal : Prop :=
  True

def algebraic_KernelConvFwdIdeal_ReferenceConvFwdIdeal [hKernelConvFwdIdeal : Cert.KernelConvFwdIdeal.Facts] [hReferenceConvFwdIdeal : Cert.ReferenceConvFwdIdeal.Facts] : Prop :=
  ∀ (m : (ℓ : Loc Cert.KernelConvFwdIdeal.nD Cert.KernelConvFwdIdeal.τ Cert.KernelConvFwdIdeal.sig) → Buf (Elt Ideal) ℓ) (g : Dev Cert.KernelConvFwdIdeal.nD → PrngReg)
    (m' : (ℓ : Loc Cert.ReferenceConvFwdIdeal.nD Cert.ReferenceConvFwdIdeal.τ Cert.ReferenceConvFwdIdeal.sig) → Buf (Elt Ideal) ℓ) (g' : Dev Cert.ReferenceConvFwdIdeal.nD → PrngReg), Pre_KernelConvFwdIdeal m →
    (∀ c : Dev Cert.KernelConvFwdIdeal.nD,
      m' ((c.tc : Thread Cert.ReferenceConvFwdIdeal.nD Cert.ReferenceConvFwdIdeal.τ).loc Cert.ReferenceConvFwdIdeal.main_arg0) = m ((c.tc : Thread Cert.KernelConvFwdIdeal.nD Cert.KernelConvFwdIdeal.τ).loc Cert.KernelConvFwdIdeal.main_arg0)
      ∧ m' ((c.tc : Thread Cert.ReferenceConvFwdIdeal.nD Cert.ReferenceConvFwdIdeal.τ).loc Cert.ReferenceConvFwdIdeal.main_arg1) = m ((c.tc : Thread Cert.KernelConvFwdIdeal.nD Cert.KernelConvFwdIdeal.τ).loc Cert.KernelConvFwdIdeal.main_arg1)
      ∧ m' ((c.tc : Thread Cert.ReferenceConvFwdIdeal.nD Cert.ReferenceConvFwdIdeal.τ).loc Cert.ReferenceConvFwdIdeal.main_arg2) = m ((c.tc : Thread Cert.KernelConvFwdIdeal.nD Cert.KernelConvFwdIdeal.τ).loc Cert.KernelConvFwdIdeal.main_arg2)) →
    ∃ (v0 : (c : Dev Cert.KernelConvFwdIdeal.nD) → Buf (Elt Ideal) ((c.tc : Thread Cert.KernelConvFwdIdeal.nD Cert.KernelConvFwdIdeal.τ).loc Cert.KernelConvFwdIdeal.main_v0)),
      θ_run (Cert.KernelConvFwdIdeal.defs (F := Ideal)) (onTc (τ := Cert.KernelConvFwdIdeal.τ) (Cert.KernelConvFwdIdeal.main (F := Ideal))) ⟨m, fun _ => 0, g⟩ (fun r => ∀ c : Dev Cert.KernelConvFwdIdeal.nD,
          r.2.mem ((c.tc : Thread Cert.KernelConvFwdIdeal.nD Cert.KernelConvFwdIdeal.τ).loc Cert.KernelConvFwdIdeal.main_v0) = v0 c
          ∧ r.2.mem ((c.tc : Thread Cert.KernelConvFwdIdeal.nD Cert.KernelConvFwdIdeal.τ).loc Cert.KernelConvFwdIdeal.main_arg0) = m ((c.tc : Thread Cert.KernelConvFwdIdeal.nD Cert.KernelConvFwdIdeal.τ).loc Cert.KernelConvFwdIdeal.main_arg0)
          ∧ r.2.mem ((c.tc : Thread Cert.KernelConvFwdIdeal.nD Cert.KernelConvFwdIdeal.τ).loc Cert.KernelConvFwdIdeal.main_arg1) = m ((c.tc : Thread Cert.KernelConvFwdIdeal.nD Cert.KernelConvFwdIdeal.τ).loc Cert.KernelConvFwdIdeal.main_arg1)
          ∧ r.2.mem ((c.tc : Thread Cert.KernelConvFwdIdeal.nD Cert.KernelConvFwdIdeal.τ).loc Cert.KernelConvFwdIdeal.main_arg2) = m ((c.tc : Thread Cert.KernelConvFwdIdeal.nD Cert.KernelConvFwdIdeal.τ).loc Cert.KernelConvFwdIdeal.main_arg2))
      ∧ θ_run (Cert.ReferenceConvFwdIdeal.defs (F := Ideal)) (onTc (τ := Cert.ReferenceConvFwdIdeal.τ) (Cert.ReferenceConvFwdIdeal.main (F := Ideal))) ⟨m', fun _ => 0, g'⟩ (fun r => ∀ c : Dev Cert.ReferenceConvFwdIdeal.nD,
          r.2.mem ((c.tc : Thread Cert.ReferenceConvFwdIdeal.nD Cert.ReferenceConvFwdIdeal.τ).loc Cert.ReferenceConvFwdIdeal.main_v36) = v0 c
          ∧ r.2.mem ((c.tc : Thread Cert.ReferenceConvFwdIdeal.nD Cert.ReferenceConvFwdIdeal.τ).loc Cert.ReferenceConvFwdIdeal.main_arg0) = m' ((c.tc : Thread Cert.ReferenceConvFwdIdeal.nD Cert.ReferenceConvFwdIdeal.τ).loc Cert.ReferenceConvFwdIdeal.main_arg0)
          ∧ r.2.mem ((c.tc : Thread Cert.ReferenceConvFwdIdeal.nD Cert.ReferenceConvFwdIdeal.τ).loc Cert.ReferenceConvFwdIdeal.main_arg1) = m' ((c.tc : Thread Cert.ReferenceConvFwdIdeal.nD Cert.ReferenceConvFwdIdeal.τ).loc Cert.ReferenceConvFwdIdeal.main_arg1)
          ∧ r.2.mem ((c.tc : Thread Cert.ReferenceConvFwdIdeal.nD Cert.ReferenceConvFwdIdeal.τ).loc Cert.ReferenceConvFwdIdeal.main_arg2) = m' ((c.tc : Thread Cert.ReferenceConvFwdIdeal.nD Cert.ReferenceConvFwdIdeal.τ).loc Cert.ReferenceConvFwdIdeal.main_arg2))

def preserves_KernelConvFwdX_KernelConvFwdXIdeal : Prop :=
  True

def algebraic_KernelConvFwdXIdeal_ReferenceConvFwdXIdeal [hKernelConvFwdXIdeal : Cert.KernelConvFwdXIdeal.Facts] [hReferenceConvFwdXIdeal : Cert.ReferenceConvFwdXIdeal.Facts] : Prop :=
  ∀ (m : (ℓ : Loc Cert.KernelConvFwdXIdeal.nD Cert.KernelConvFwdXIdeal.τ Cert.KernelConvFwdXIdeal.sig) → Buf (Elt Ideal) ℓ) (g : Dev Cert.KernelConvFwdXIdeal.nD → PrngReg)
    (m' : (ℓ : Loc Cert.ReferenceConvFwdXIdeal.nD Cert.ReferenceConvFwdXIdeal.τ Cert.ReferenceConvFwdXIdeal.sig) → Buf (Elt Ideal) ℓ) (g' : Dev Cert.ReferenceConvFwdXIdeal.nD → PrngReg), Pre_KernelConvFwdXIdeal m →
    (∀ c : Dev Cert.KernelConvFwdXIdeal.nD,
      m' ((c.tc : Thread Cert.ReferenceConvFwdXIdeal.nD Cert.ReferenceConvFwdXIdeal.τ).loc Cert.ReferenceConvFwdXIdeal.main_arg0) = m ((c.tc : Thread Cert.KernelConvFwdXIdeal.nD Cert.KernelConvFwdXIdeal.τ).loc Cert.KernelConvFwdXIdeal.main_arg0)
      ∧ m' ((c.tc : Thread Cert.ReferenceConvFwdXIdeal.nD Cert.ReferenceConvFwdXIdeal.τ).loc Cert.ReferenceConvFwdXIdeal.main_arg1) = m ((c.tc : Thread Cert.KernelConvFwdXIdeal.nD Cert.KernelConvFwdXIdeal.τ).loc Cert.KernelConvFwdXIdeal.main_arg1)
      ∧ m' ((c.tc : Thread Cert.ReferenceConvFwdXIdeal.nD Cert.ReferenceConvFwdXIdeal.τ).loc Cert.ReferenceConvFwdXIdeal.main_arg2) = m ((c.tc : Thread Cert.KernelConvFwdXIdeal.nD Cert.KernelConvFwdXIdeal.τ).loc Cert.KernelConvFwdXIdeal.main_arg2)) →
    ∃ (v0 : (c : Dev Cert.KernelConvFwdXIdeal.nD) → Buf (Elt Ideal) ((c.tc : Thread Cert.KernelConvFwdXIdeal.nD Cert.KernelConvFwdXIdeal.τ).loc Cert.KernelConvFwdXIdeal.main_v0)),
      θ_run (Cert.KernelConvFwdXIdeal.defs (F := Ideal)) (onTc (τ := Cert.KernelConvFwdXIdeal.τ) (Cert.KernelConvFwdXIdeal.main (F := Ideal))) ⟨m, fun _ => 0, g⟩ (fun r => ∀ c : Dev Cert.KernelConvFwdXIdeal.nD,
          r.2.mem ((c.tc : Thread Cert.KernelConvFwdXIdeal.nD Cert.KernelConvFwdXIdeal.τ).loc Cert.KernelConvFwdXIdeal.main_v0) = v0 c
          ∧ r.2.mem ((c.tc : Thread Cert.KernelConvFwdXIdeal.nD Cert.KernelConvFwdXIdeal.τ).loc Cert.KernelConvFwdXIdeal.main_arg0) = m ((c.tc : Thread Cert.KernelConvFwdXIdeal.nD Cert.KernelConvFwdXIdeal.τ).loc Cert.KernelConvFwdXIdeal.main_arg0)
          ∧ r.2.mem ((c.tc : Thread Cert.KernelConvFwdXIdeal.nD Cert.KernelConvFwdXIdeal.τ).loc Cert.KernelConvFwdXIdeal.main_arg1) = m ((c.tc : Thread Cert.KernelConvFwdXIdeal.nD Cert.KernelConvFwdXIdeal.τ).loc Cert.KernelConvFwdXIdeal.main_arg1)
          ∧ r.2.mem ((c.tc : Thread Cert.KernelConvFwdXIdeal.nD Cert.KernelConvFwdXIdeal.τ).loc Cert.KernelConvFwdXIdeal.main_arg2) = m ((c.tc : Thread Cert.KernelConvFwdXIdeal.nD Cert.KernelConvFwdXIdeal.τ).loc Cert.KernelConvFwdXIdeal.main_arg2))
      ∧ θ_run (Cert.ReferenceConvFwdXIdeal.defs (F := Ideal)) (onTc (τ := Cert.ReferenceConvFwdXIdeal.τ) (Cert.ReferenceConvFwdXIdeal.main (F := Ideal))) ⟨m', fun _ => 0, g'⟩ (fun r => ∀ c : Dev Cert.ReferenceConvFwdXIdeal.nD,
          r.2.mem ((c.tc : Thread Cert.ReferenceConvFwdXIdeal.nD Cert.ReferenceConvFwdXIdeal.τ).loc Cert.ReferenceConvFwdXIdeal.main_v36) = v0 c
          ∧ r.2.mem ((c.tc : Thread Cert.ReferenceConvFwdXIdeal.nD Cert.ReferenceConvFwdXIdeal.τ).loc Cert.ReferenceConvFwdXIdeal.main_arg0) = m' ((c.tc : Thread Cert.ReferenceConvFwdXIdeal.nD Cert.ReferenceConvFwdXIdeal.τ).loc Cert.ReferenceConvFwdXIdeal.main_arg0)
          ∧ r.2.mem ((c.tc : Thread Cert.ReferenceConvFwdXIdeal.nD Cert.ReferenceConvFwdXIdeal.τ).loc Cert.ReferenceConvFwdXIdeal.main_arg1) = m' ((c.tc : Thread Cert.ReferenceConvFwdXIdeal.nD Cert.ReferenceConvFwdXIdeal.τ).loc Cert.ReferenceConvFwdXIdeal.main_arg1)
          ∧ r.2.mem ((c.tc : Thread Cert.ReferenceConvFwdXIdeal.nD Cert.ReferenceConvFwdXIdeal.τ).loc Cert.ReferenceConvFwdXIdeal.main_arg2) = m' ((c.tc : Thread Cert.ReferenceConvFwdXIdeal.nD Cert.ReferenceConvFwdXIdeal.τ).loc Cert.ReferenceConvFwdXIdeal.main_arg2))

def preserves_KernelMergeBwd_KernelMergeBwdIdeal : Prop :=
  True

def algebraic_KernelMergeBwdIdeal_ReferenceMergeBwdIdeal [hKernelMergeBwdIdeal : Cert.KernelMergeBwdIdeal.Facts] [hReferenceMergeBwdIdeal : Cert.ReferenceMergeBwdIdeal.Facts] : Prop :=
  ∀ (m : (ℓ : Loc Cert.KernelMergeBwdIdeal.nD Cert.KernelMergeBwdIdeal.τ Cert.KernelMergeBwdIdeal.sig) → Buf (Elt Ideal) ℓ) (g : Dev Cert.KernelMergeBwdIdeal.nD → PrngReg)
    (m' : (ℓ : Loc Cert.ReferenceMergeBwdIdeal.nD Cert.ReferenceMergeBwdIdeal.τ Cert.ReferenceMergeBwdIdeal.sig) → Buf (Elt Ideal) ℓ) (g' : Dev Cert.ReferenceMergeBwdIdeal.nD → PrngReg), Pre_KernelMergeBwdIdeal m →
    (∀ c : Dev Cert.KernelMergeBwdIdeal.nD,
      m' ((c.tc : Thread Cert.ReferenceMergeBwdIdeal.nD Cert.ReferenceMergeBwdIdeal.τ).loc Cert.ReferenceMergeBwdIdeal.main_arg0) = m ((c.tc : Thread Cert.KernelMergeBwdIdeal.nD Cert.KernelMergeBwdIdeal.τ).loc Cert.KernelMergeBwdIdeal.main_arg0)
      ∧ m' ((c.tc : Thread Cert.ReferenceMergeBwdIdeal.nD Cert.ReferenceMergeBwdIdeal.τ).loc Cert.ReferenceMergeBwdIdeal.main_arg1) = m ((c.tc : Thread Cert.KernelMergeBwdIdeal.nD Cert.KernelMergeBwdIdeal.τ).loc Cert.KernelMergeBwdIdeal.main_arg1)
      ∧ m' ((c.tc : Thread Cert.ReferenceMergeBwdIdeal.nD Cert.ReferenceMergeBwdIdeal.τ).loc Cert.ReferenceMergeBwdIdeal.main_arg2) = m ((c.tc : Thread Cert.KernelMergeBwdIdeal.nD Cert.KernelMergeBwdIdeal.τ).loc Cert.KernelMergeBwdIdeal.main_arg2)
      ∧ m' ((c.tc : Thread Cert.ReferenceMergeBwdIdeal.nD Cert.ReferenceMergeBwdIdeal.τ).loc Cert.ReferenceMergeBwdIdeal.main_arg3) = m ((c.tc : Thread Cert.KernelMergeBwdIdeal.nD Cert.KernelMergeBwdIdeal.τ).loc Cert.KernelMergeBwdIdeal.main_arg3)
      ∧ m' ((c.tc : Thread Cert.ReferenceMergeBwdIdeal.nD Cert.ReferenceMergeBwdIdeal.τ).loc Cert.ReferenceMergeBwdIdeal.main_arg4) = m ((c.tc : Thread Cert.KernelMergeBwdIdeal.nD Cert.KernelMergeBwdIdeal.τ).loc Cert.KernelMergeBwdIdeal.main_arg4)) →
    ∃ (v0 : (c : Dev Cert.KernelMergeBwdIdeal.nD) → Buf (Elt Ideal) ((c.tc : Thread Cert.KernelMergeBwdIdeal.nD Cert.KernelMergeBwdIdeal.τ).loc Cert.KernelMergeBwdIdeal.main_v0_0)) (v1 : (c : Dev Cert.KernelMergeBwdIdeal.nD) → Buf (Elt Ideal) ((c.tc : Thread Cert.KernelMergeBwdIdeal.nD Cert.KernelMergeBwdIdeal.τ).loc Cert.KernelMergeBwdIdeal.main_v0_1)) (v2 : (c : Dev Cert.KernelMergeBwdIdeal.nD) → Buf (Elt Ideal) ((c.tc : Thread Cert.KernelMergeBwdIdeal.nD Cert.KernelMergeBwdIdeal.τ).loc Cert.KernelMergeBwdIdeal.main_v0_2)) (v3 : (c : Dev Cert.KernelMergeBwdIdeal.nD) → Buf (Elt Ideal) ((c.tc : Thread Cert.KernelMergeBwdIdeal.nD Cert.KernelMergeBwdIdeal.τ).loc Cert.KernelMergeBwdIdeal.main_v0_3)),
      θ_run (Cert.KernelMergeBwdIdeal.defs (F := Ideal)) (onTc (τ := Cert.KernelMergeBwdIdeal.τ) (Cert.KernelMergeBwdIdeal.main (F := Ideal))) ⟨m, fun _ => 0, g⟩ (fun r => ∀ c : Dev Cert.KernelMergeBwdIdeal.nD,
          r.2.mem ((c.tc : Thread Cert.KernelMergeBwdIdeal.nD Cert.KernelMergeBwdIdeal.τ).loc Cert.KernelMergeBwdIdeal.main_v0_0) = v0 c
          ∧ r.2.mem ((c.tc : Thread Cert.KernelMergeBwdIdeal.nD Cert.KernelMergeBwdIdeal.τ).loc Cert.KernelMergeBwdIdeal.main_v0_1) = v1 c
          ∧ r.2.mem ((c.tc : Thread Cert.KernelMergeBwdIdeal.nD Cert.KernelMergeBwdIdeal.τ).loc Cert.KernelMergeBwdIdeal.main_v0_2) = v2 c
          ∧ r.2.mem ((c.tc : Thread Cert.KernelMergeBwdIdeal.nD Cert.KernelMergeBwdIdeal.τ).loc Cert.KernelMergeBwdIdeal.main_v0_3) = v3 c
          ∧ r.2.mem ((c.tc : Thread Cert.KernelMergeBwdIdeal.nD Cert.KernelMergeBwdIdeal.τ).loc Cert.KernelMergeBwdIdeal.main_arg0) = m ((c.tc : Thread Cert.KernelMergeBwdIdeal.nD Cert.KernelMergeBwdIdeal.τ).loc Cert.KernelMergeBwdIdeal.main_arg0)
          ∧ r.2.mem ((c.tc : Thread Cert.KernelMergeBwdIdeal.nD Cert.KernelMergeBwdIdeal.τ).loc Cert.KernelMergeBwdIdeal.main_arg1) = m ((c.tc : Thread Cert.KernelMergeBwdIdeal.nD Cert.KernelMergeBwdIdeal.τ).loc Cert.KernelMergeBwdIdeal.main_arg1)
          ∧ r.2.mem ((c.tc : Thread Cert.KernelMergeBwdIdeal.nD Cert.KernelMergeBwdIdeal.τ).loc Cert.KernelMergeBwdIdeal.main_arg2) = m ((c.tc : Thread Cert.KernelMergeBwdIdeal.nD Cert.KernelMergeBwdIdeal.τ).loc Cert.KernelMergeBwdIdeal.main_arg2)
          ∧ r.2.mem ((c.tc : Thread Cert.KernelMergeBwdIdeal.nD Cert.KernelMergeBwdIdeal.τ).loc Cert.KernelMergeBwdIdeal.main_arg3) = m ((c.tc : Thread Cert.KernelMergeBwdIdeal.nD Cert.KernelMergeBwdIdeal.τ).loc Cert.KernelMergeBwdIdeal.main_arg3)
          ∧ r.2.mem ((c.tc : Thread Cert.KernelMergeBwdIdeal.nD Cert.KernelMergeBwdIdeal.τ).loc Cert.KernelMergeBwdIdeal.main_arg4) = m ((c.tc : Thread Cert.KernelMergeBwdIdeal.nD Cert.KernelMergeBwdIdeal.τ).loc Cert.KernelMergeBwdIdeal.main_arg4))
      ∧ θ_run (Cert.ReferenceMergeBwdIdeal.defs (F := Ideal)) (onTc (τ := Cert.ReferenceMergeBwdIdeal.τ) (Cert.ReferenceMergeBwdIdeal.main (F := Ideal))) ⟨m', fun _ => 0, g'⟩ (fun r => ∀ c : Dev Cert.ReferenceMergeBwdIdeal.nD,
          r.2.mem ((c.tc : Thread Cert.ReferenceMergeBwdIdeal.nD Cert.ReferenceMergeBwdIdeal.τ).loc Cert.ReferenceMergeBwdIdeal.main_v28) = v0 c
          ∧ r.2.mem ((c.tc : Thread Cert.ReferenceMergeBwdIdeal.nD Cert.ReferenceMergeBwdIdeal.τ).loc Cert.ReferenceMergeBwdIdeal.main_v29) = v1 c
          ∧ r.2.mem ((c.tc : Thread Cert.ReferenceMergeBwdIdeal.nD Cert.ReferenceMergeBwdIdeal.τ).loc Cert.ReferenceMergeBwdIdeal.main_v30) = v2 c
          ∧ r.2.mem ((c.tc : Thread Cert.ReferenceMergeBwdIdeal.nD Cert.ReferenceMergeBwdIdeal.τ).loc Cert.ReferenceMergeBwdIdeal.main_v27) = v3 c
          ∧ r.2.mem ((c.tc : Thread Cert.ReferenceMergeBwdIdeal.nD Cert.ReferenceMergeBwdIdeal.τ).loc Cert.ReferenceMergeBwdIdeal.main_arg0) = m' ((c.tc : Thread Cert.ReferenceMergeBwdIdeal.nD Cert.ReferenceMergeBwdIdeal.τ).loc Cert.ReferenceMergeBwdIdeal.main_arg0)
          ∧ r.2.mem ((c.tc : Thread Cert.ReferenceMergeBwdIdeal.nD Cert.ReferenceMergeBwdIdeal.τ).loc Cert.ReferenceMergeBwdIdeal.main_arg1) = m' ((c.tc : Thread Cert.ReferenceMergeBwdIdeal.nD Cert.ReferenceMergeBwdIdeal.τ).loc Cert.ReferenceMergeBwdIdeal.main_arg1)
          ∧ r.2.mem ((c.tc : Thread Cert.ReferenceMergeBwdIdeal.nD Cert.ReferenceMergeBwdIdeal.τ).loc Cert.ReferenceMergeBwdIdeal.main_arg2) = m' ((c.tc : Thread Cert.ReferenceMergeBwdIdeal.nD Cert.ReferenceMergeBwdIdeal.τ).loc Cert.ReferenceMergeBwdIdeal.main_arg2)
          ∧ r.2.mem ((c.tc : Thread Cert.ReferenceMergeBwdIdeal.nD Cert.ReferenceMergeBwdIdeal.τ).loc Cert.ReferenceMergeBwdIdeal.main_arg3) = m' ((c.tc : Thread Cert.ReferenceMergeBwdIdeal.nD Cert.ReferenceMergeBwdIdeal.τ).loc Cert.ReferenceMergeBwdIdeal.main_arg3)
          ∧ r.2.mem ((c.tc : Thread Cert.ReferenceMergeBwdIdeal.nD Cert.ReferenceMergeBwdIdeal.τ).loc Cert.ReferenceMergeBwdIdeal.main_arg4) = m' ((c.tc : Thread Cert.ReferenceMergeBwdIdeal.nD Cert.ReferenceMergeBwdIdeal.τ).loc Cert.ReferenceMergeBwdIdeal.main_arg4))

def preserves_KernelMergeFwd_KernelMergeFwdIdeal : Prop :=
  True

def algebraic_KernelMergeFwdIdeal_ReferenceMergeFwdIdeal [hKernelMergeFwdIdeal : Cert.KernelMergeFwdIdeal.Facts] [hReferenceMergeFwdIdeal : Cert.ReferenceMergeFwdIdeal.Facts] : Prop :=
  ∀ (m : (ℓ : Loc Cert.KernelMergeFwdIdeal.nD Cert.KernelMergeFwdIdeal.τ Cert.KernelMergeFwdIdeal.sig) → Buf (Elt Ideal) ℓ) (g : Dev Cert.KernelMergeFwdIdeal.nD → PrngReg)
    (m' : (ℓ : Loc Cert.ReferenceMergeFwdIdeal.nD Cert.ReferenceMergeFwdIdeal.τ Cert.ReferenceMergeFwdIdeal.sig) → Buf (Elt Ideal) ℓ) (g' : Dev Cert.ReferenceMergeFwdIdeal.nD → PrngReg), Pre_KernelMergeFwdIdeal m →
    (∀ c : Dev Cert.KernelMergeFwdIdeal.nD,
      m' ((c.tc : Thread Cert.ReferenceMergeFwdIdeal.nD Cert.ReferenceMergeFwdIdeal.τ).loc Cert.ReferenceMergeFwdIdeal.main_arg0) = m ((c.tc : Thread Cert.KernelMergeFwdIdeal.nD Cert.KernelMergeFwdIdeal.τ).loc Cert.KernelMergeFwdIdeal.main_arg0)
      ∧ m' ((c.tc : Thread Cert.ReferenceMergeFwdIdeal.nD Cert.ReferenceMergeFwdIdeal.τ).loc Cert.ReferenceMergeFwdIdeal.main_arg1) = m ((c.tc : Thread Cert.KernelMergeFwdIdeal.nD Cert.KernelMergeFwdIdeal.τ).loc Cert.KernelMergeFwdIdeal.main_arg1)
      ∧ m' ((c.tc : Thread Cert.ReferenceMergeFwdIdeal.nD Cert.ReferenceMergeFwdIdeal.τ).loc Cert.ReferenceMergeFwdIdeal.main_arg2) = m ((c.tc : Thread Cert.KernelMergeFwdIdeal.nD Cert.KernelMergeFwdIdeal.τ).loc Cert.KernelMergeFwdIdeal.main_arg2)
      ∧ m' ((c.tc : Thread Cert.ReferenceMergeFwdIdeal.nD Cert.ReferenceMergeFwdIdeal.τ).loc Cert.ReferenceMergeFwdIdeal.main_arg3) = m ((c.tc : Thread Cert.KernelMergeFwdIdeal.nD Cert.KernelMergeFwdIdeal.τ).loc Cert.KernelMergeFwdIdeal.main_arg3)) →
    ∃ (v0 : (c : Dev Cert.KernelMergeFwdIdeal.nD) → Buf (Elt Ideal) ((c.tc : Thread Cert.KernelMergeFwdIdeal.nD Cert.KernelMergeFwdIdeal.τ).loc Cert.KernelMergeFwdIdeal.main_v0)),
      θ_run (Cert.KernelMergeFwdIdeal.defs (F := Ideal)) (onTc (τ := Cert.KernelMergeFwdIdeal.τ) (Cert.KernelMergeFwdIdeal.main (F := Ideal))) ⟨m, fun _ => 0, g⟩ (fun r => ∀ c : Dev Cert.KernelMergeFwdIdeal.nD,
          r.2.mem ((c.tc : Thread Cert.KernelMergeFwdIdeal.nD Cert.KernelMergeFwdIdeal.τ).loc Cert.KernelMergeFwdIdeal.main_v0) = v0 c
          ∧ r.2.mem ((c.tc : Thread Cert.KernelMergeFwdIdeal.nD Cert.KernelMergeFwdIdeal.τ).loc Cert.KernelMergeFwdIdeal.main_arg0) = m ((c.tc : Thread Cert.KernelMergeFwdIdeal.nD Cert.KernelMergeFwdIdeal.τ).loc Cert.KernelMergeFwdIdeal.main_arg0)
          ∧ r.2.mem ((c.tc : Thread Cert.KernelMergeFwdIdeal.nD Cert.KernelMergeFwdIdeal.τ).loc Cert.KernelMergeFwdIdeal.main_arg1) = m ((c.tc : Thread Cert.KernelMergeFwdIdeal.nD Cert.KernelMergeFwdIdeal.τ).loc Cert.KernelMergeFwdIdeal.main_arg1)
          ∧ r.2.mem ((c.tc : Thread Cert.KernelMergeFwdIdeal.nD Cert.KernelMergeFwdIdeal.τ).loc Cert.KernelMergeFwdIdeal.main_arg2) = m ((c.tc : Thread Cert.KernelMergeFwdIdeal.nD Cert.KernelMergeFwdIdeal.τ).loc Cert.KernelMergeFwdIdeal.main_arg2)
          ∧ r.2.mem ((c.tc : Thread Cert.KernelMergeFwdIdeal.nD Cert.KernelMergeFwdIdeal.τ).loc Cert.KernelMergeFwdIdeal.main_arg3) = m ((c.tc : Thread Cert.KernelMergeFwdIdeal.nD Cert.KernelMergeFwdIdeal.τ).loc Cert.KernelMergeFwdIdeal.main_arg3))
      ∧ θ_run (Cert.ReferenceMergeFwdIdeal.defs (F := Ideal)) (onTc (τ := Cert.ReferenceMergeFwdIdeal.τ) (Cert.ReferenceMergeFwdIdeal.main (F := Ideal))) ⟨m', fun _ => 0, g'⟩ (fun r => ∀ c : Dev Cert.ReferenceMergeFwdIdeal.nD,
          r.2.mem ((c.tc : Thread Cert.ReferenceMergeFwdIdeal.nD Cert.ReferenceMergeFwdIdeal.τ).loc Cert.ReferenceMergeFwdIdeal.main_v16) = v0 c
          ∧ r.2.mem ((c.tc : Thread Cert.ReferenceMergeFwdIdeal.nD Cert.ReferenceMergeFwdIdeal.τ).loc Cert.ReferenceMergeFwdIdeal.main_arg0) = m' ((c.tc : Thread Cert.ReferenceMergeFwdIdeal.nD Cert.ReferenceMergeFwdIdeal.τ).loc Cert.ReferenceMergeFwdIdeal.main_arg0)
          ∧ r.2.mem ((c.tc : Thread Cert.ReferenceMergeFwdIdeal.nD Cert.ReferenceMergeFwdIdeal.τ).loc Cert.ReferenceMergeFwdIdeal.main_arg1) = m' ((c.tc : Thread Cert.ReferenceMergeFwdIdeal.nD Cert.ReferenceMergeFwdIdeal.τ).loc Cert.ReferenceMergeFwdIdeal.main_arg1)
          ∧ r.2.mem ((c.tc : Thread Cert.ReferenceMergeFwdIdeal.nD Cert.ReferenceMergeFwdIdeal.τ).loc Cert.ReferenceMergeFwdIdeal.main_arg2) = m' ((c.tc : Thread Cert.ReferenceMergeFwdIdeal.nD Cert.ReferenceMergeFwdIdeal.τ).loc Cert.ReferenceMergeFwdIdeal.main_arg2)
          ∧ r.2.mem ((c.tc : Thread Cert.ReferenceMergeFwdIdeal.nD Cert.ReferenceMergeFwdIdeal.τ).loc Cert.ReferenceMergeFwdIdeal.main_arg3) = m' ((c.tc : Thread Cert.ReferenceMergeFwdIdeal.nD Cert.ReferenceMergeFwdIdeal.τ).loc Cert.ReferenceMergeFwdIdeal.main_arg3))

def preserves_KernelActBwd_KernelActBwdIdeal : Prop :=
  True

def algebraic_KernelActBwdIdeal_ReferenceActBwdIdeal [hKernelActBwdIdeal : Cert.KernelActBwdIdeal.Facts] [hReferenceActBwdIdeal : Cert.ReferenceActBwdIdeal.Facts] : Prop :=
  ∀ (m : (ℓ : Loc Cert.KernelActBwdIdeal.nD Cert.KernelActBwdIdeal.τ Cert.KernelActBwdIdeal.sig) → Buf (Elt Ideal) ℓ) (g : Dev Cert.KernelActBwdIdeal.nD → PrngReg)
    (m' : (ℓ : Loc Cert.ReferenceActBwdIdeal.nD Cert.ReferenceActBwdIdeal.τ Cert.ReferenceActBwdIdeal.sig) → Buf (Elt Ideal) ℓ) (g' : Dev Cert.ReferenceActBwdIdeal.nD → PrngReg), Pre_KernelActBwdIdeal m →
    (∀ c : Dev Cert.KernelActBwdIdeal.nD,
      m' ((c.tc : Thread Cert.ReferenceActBwdIdeal.nD Cert.ReferenceActBwdIdeal.τ).loc Cert.ReferenceActBwdIdeal.main_arg0) = m ((c.tc : Thread Cert.KernelActBwdIdeal.nD Cert.KernelActBwdIdeal.τ).loc Cert.KernelActBwdIdeal.main_arg0)
      ∧ m' ((c.tc : Thread Cert.ReferenceActBwdIdeal.nD Cert.ReferenceActBwdIdeal.τ).loc Cert.ReferenceActBwdIdeal.main_arg1) = m ((c.tc : Thread Cert.KernelActBwdIdeal.nD Cert.KernelActBwdIdeal.τ).loc Cert.KernelActBwdIdeal.main_arg1)) →
    ∃ (v0 : (c : Dev Cert.KernelActBwdIdeal.nD) → Buf (Elt Ideal) ((c.tc : Thread Cert.KernelActBwdIdeal.nD Cert.KernelActBwdIdeal.τ).loc Cert.KernelActBwdIdeal.main_v0)),
      θ_run (Cert.KernelActBwdIdeal.defs (F := Ideal)) (onTc (τ := Cert.KernelActBwdIdeal.τ) (Cert.KernelActBwdIdeal.main (F := Ideal))) ⟨m, fun _ => 0, g⟩ (fun r => ∀ c : Dev Cert.KernelActBwdIdeal.nD,
          r.2.mem ((c.tc : Thread Cert.KernelActBwdIdeal.nD Cert.KernelActBwdIdeal.τ).loc Cert.KernelActBwdIdeal.main_v0) = v0 c
          ∧ r.2.mem ((c.tc : Thread Cert.KernelActBwdIdeal.nD Cert.KernelActBwdIdeal.τ).loc Cert.KernelActBwdIdeal.main_arg0) = m ((c.tc : Thread Cert.KernelActBwdIdeal.nD Cert.KernelActBwdIdeal.τ).loc Cert.KernelActBwdIdeal.main_arg0)
          ∧ r.2.mem ((c.tc : Thread Cert.KernelActBwdIdeal.nD Cert.KernelActBwdIdeal.τ).loc Cert.KernelActBwdIdeal.main_arg1) = m ((c.tc : Thread Cert.KernelActBwdIdeal.nD Cert.KernelActBwdIdeal.τ).loc Cert.KernelActBwdIdeal.main_arg1))
      ∧ θ_run (Cert.ReferenceActBwdIdeal.defs (F := Ideal)) (onTc (τ := Cert.ReferenceActBwdIdeal.τ) (Cert.ReferenceActBwdIdeal.main (F := Ideal))) ⟨m', fun _ => 0, g'⟩ (fun r => ∀ c : Dev Cert.ReferenceActBwdIdeal.nD,
          r.2.mem ((c.tc : Thread Cert.ReferenceActBwdIdeal.nD Cert.ReferenceActBwdIdeal.τ).loc Cert.ReferenceActBwdIdeal.main_v10) = v0 c
          ∧ r.2.mem ((c.tc : Thread Cert.ReferenceActBwdIdeal.nD Cert.ReferenceActBwdIdeal.τ).loc Cert.ReferenceActBwdIdeal.main_arg0) = m' ((c.tc : Thread Cert.ReferenceActBwdIdeal.nD Cert.ReferenceActBwdIdeal.τ).loc Cert.ReferenceActBwdIdeal.main_arg0)
          ∧ r.2.mem ((c.tc : Thread Cert.ReferenceActBwdIdeal.nD Cert.ReferenceActBwdIdeal.τ).loc Cert.ReferenceActBwdIdeal.main_arg1) = m' ((c.tc : Thread Cert.ReferenceActBwdIdeal.nD Cert.ReferenceActBwdIdeal.τ).loc Cert.ReferenceActBwdIdeal.main_arg1))

def preserves_KernelRmsBwd_KernelRmsBwdIdeal : Prop :=
  True

def algebraic_KernelRmsBwdIdeal_ReferenceRmsBwdIdeal [hKernelRmsBwdIdeal : Cert.KernelRmsBwdIdeal.Facts] [hReferenceRmsBwdIdeal : Cert.ReferenceRmsBwdIdeal.Facts] : Prop :=
  ∀ (m : (ℓ : Loc Cert.KernelRmsBwdIdeal.nD Cert.KernelRmsBwdIdeal.τ Cert.KernelRmsBwdIdeal.sig) → Buf (Elt Ideal) ℓ) (g : Dev Cert.KernelRmsBwdIdeal.nD → PrngReg)
    (m' : (ℓ : Loc Cert.ReferenceRmsBwdIdeal.nD Cert.ReferenceRmsBwdIdeal.τ Cert.ReferenceRmsBwdIdeal.sig) → Buf (Elt Ideal) ℓ) (g' : Dev Cert.ReferenceRmsBwdIdeal.nD → PrngReg), Pre_KernelRmsBwdIdeal m →
    (∀ c : Dev Cert.KernelRmsBwdIdeal.nD,
      m' ((c.tc : Thread Cert.ReferenceRmsBwdIdeal.nD Cert.ReferenceRmsBwdIdeal.τ).loc Cert.ReferenceRmsBwdIdeal.main_arg0) = m ((c.tc : Thread Cert.KernelRmsBwdIdeal.nD Cert.KernelRmsBwdIdeal.τ).loc Cert.KernelRmsBwdIdeal.main_arg0)
      ∧ m' ((c.tc : Thread Cert.ReferenceRmsBwdIdeal.nD Cert.ReferenceRmsBwdIdeal.τ).loc Cert.ReferenceRmsBwdIdeal.main_arg1) = m ((c.tc : Thread Cert.KernelRmsBwdIdeal.nD Cert.KernelRmsBwdIdeal.τ).loc Cert.KernelRmsBwdIdeal.main_arg1)
      ∧ m' ((c.tc : Thread Cert.ReferenceRmsBwdIdeal.nD Cert.ReferenceRmsBwdIdeal.τ).loc Cert.ReferenceRmsBwdIdeal.main_arg2) = m ((c.tc : Thread Cert.KernelRmsBwdIdeal.nD Cert.KernelRmsBwdIdeal.τ).loc Cert.KernelRmsBwdIdeal.main_arg2)
      ∧ m' ((c.tc : Thread Cert.ReferenceRmsBwdIdeal.nD Cert.ReferenceRmsBwdIdeal.τ).loc Cert.ReferenceRmsBwdIdeal.main_arg3) = m ((c.tc : Thread Cert.KernelRmsBwdIdeal.nD Cert.KernelRmsBwdIdeal.τ).loc Cert.KernelRmsBwdIdeal.main_arg3)) →
    ∃ (v0 : (c : Dev Cert.KernelRmsBwdIdeal.nD) → Buf (Elt Ideal) ((c.tc : Thread Cert.KernelRmsBwdIdeal.nD Cert.KernelRmsBwdIdeal.τ).loc Cert.KernelRmsBwdIdeal.main_v0_0)) (v1 : (c : Dev Cert.KernelRmsBwdIdeal.nD) → Buf (Elt Ideal) ((c.tc : Thread Cert.KernelRmsBwdIdeal.nD Cert.KernelRmsBwdIdeal.τ).loc Cert.KernelRmsBwdIdeal.main_v0_1)) (v2 : (c : Dev Cert.KernelRmsBwdIdeal.nD) → Buf (Elt Ideal) ((c.tc : Thread Cert.KernelRmsBwdIdeal.nD Cert.KernelRmsBwdIdeal.τ).loc Cert.KernelRmsBwdIdeal.main_v0_2)),
      θ_run (Cert.KernelRmsBwdIdeal.defs (F := Ideal)) (onTc (τ := Cert.KernelRmsBwdIdeal.τ) (Cert.KernelRmsBwdIdeal.main (F := Ideal))) ⟨m, fun _ => 0, g⟩ (fun r => ∀ c : Dev Cert.KernelRmsBwdIdeal.nD,
          r.2.mem ((c.tc : Thread Cert.KernelRmsBwdIdeal.nD Cert.KernelRmsBwdIdeal.τ).loc Cert.KernelRmsBwdIdeal.main_v0_0) = v0 c
          ∧ r.2.mem ((c.tc : Thread Cert.KernelRmsBwdIdeal.nD Cert.KernelRmsBwdIdeal.τ).loc Cert.KernelRmsBwdIdeal.main_v0_1) = v1 c
          ∧ r.2.mem ((c.tc : Thread Cert.KernelRmsBwdIdeal.nD Cert.KernelRmsBwdIdeal.τ).loc Cert.KernelRmsBwdIdeal.main_v0_2) = v2 c
          ∧ r.2.mem ((c.tc : Thread Cert.KernelRmsBwdIdeal.nD Cert.KernelRmsBwdIdeal.τ).loc Cert.KernelRmsBwdIdeal.main_arg0) = m ((c.tc : Thread Cert.KernelRmsBwdIdeal.nD Cert.KernelRmsBwdIdeal.τ).loc Cert.KernelRmsBwdIdeal.main_arg0)
          ∧ r.2.mem ((c.tc : Thread Cert.KernelRmsBwdIdeal.nD Cert.KernelRmsBwdIdeal.τ).loc Cert.KernelRmsBwdIdeal.main_arg1) = m ((c.tc : Thread Cert.KernelRmsBwdIdeal.nD Cert.KernelRmsBwdIdeal.τ).loc Cert.KernelRmsBwdIdeal.main_arg1)
          ∧ r.2.mem ((c.tc : Thread Cert.KernelRmsBwdIdeal.nD Cert.KernelRmsBwdIdeal.τ).loc Cert.KernelRmsBwdIdeal.main_arg2) = m ((c.tc : Thread Cert.KernelRmsBwdIdeal.nD Cert.KernelRmsBwdIdeal.τ).loc Cert.KernelRmsBwdIdeal.main_arg2)
          ∧ r.2.mem ((c.tc : Thread Cert.KernelRmsBwdIdeal.nD Cert.KernelRmsBwdIdeal.τ).loc Cert.KernelRmsBwdIdeal.main_arg3) = m ((c.tc : Thread Cert.KernelRmsBwdIdeal.nD Cert.KernelRmsBwdIdeal.τ).loc Cert.KernelRmsBwdIdeal.main_arg3))
      ∧ θ_run (Cert.ReferenceRmsBwdIdeal.defs (F := Ideal)) (onTc (τ := Cert.ReferenceRmsBwdIdeal.τ) (Cert.ReferenceRmsBwdIdeal.main (F := Ideal))) ⟨m', fun _ => 0, g'⟩ (fun r => ∀ c : Dev Cert.ReferenceRmsBwdIdeal.nD,
          r.2.mem ((c.tc : Thread Cert.ReferenceRmsBwdIdeal.nD Cert.ReferenceRmsBwdIdeal.τ).loc Cert.ReferenceRmsBwdIdeal.main_v34) = v0 c
          ∧ r.2.mem ((c.tc : Thread Cert.ReferenceRmsBwdIdeal.nD Cert.ReferenceRmsBwdIdeal.τ).loc Cert.ReferenceRmsBwdIdeal.main_v35) = v1 c
          ∧ r.2.mem ((c.tc : Thread Cert.ReferenceRmsBwdIdeal.nD Cert.ReferenceRmsBwdIdeal.τ).loc Cert.ReferenceRmsBwdIdeal.main_v17) = v2 c
          ∧ r.2.mem ((c.tc : Thread Cert.ReferenceRmsBwdIdeal.nD Cert.ReferenceRmsBwdIdeal.τ).loc Cert.ReferenceRmsBwdIdeal.main_arg0) = m' ((c.tc : Thread Cert.ReferenceRmsBwdIdeal.nD Cert.ReferenceRmsBwdIdeal.τ).loc Cert.ReferenceRmsBwdIdeal.main_arg0)
          ∧ r.2.mem ((c.tc : Thread Cert.ReferenceRmsBwdIdeal.nD Cert.ReferenceRmsBwdIdeal.τ).loc Cert.ReferenceRmsBwdIdeal.main_arg1) = m' ((c.tc : Thread Cert.ReferenceRmsBwdIdeal.nD Cert.ReferenceRmsBwdIdeal.τ).loc Cert.ReferenceRmsBwdIdeal.main_arg1)
          ∧ r.2.mem ((c.tc : Thread Cert.ReferenceRmsBwdIdeal.nD Cert.ReferenceRmsBwdIdeal.τ).loc Cert.ReferenceRmsBwdIdeal.main_arg2) = m' ((c.tc : Thread Cert.ReferenceRmsBwdIdeal.nD Cert.ReferenceRmsBwdIdeal.τ).loc Cert.ReferenceRmsBwdIdeal.main_arg2)
          ∧ r.2.mem ((c.tc : Thread Cert.ReferenceRmsBwdIdeal.nD Cert.ReferenceRmsBwdIdeal.τ).loc Cert.ReferenceRmsBwdIdeal.main_arg3) = m' ((c.tc : Thread Cert.ReferenceRmsBwdIdeal.nD Cert.ReferenceRmsBwdIdeal.τ).loc Cert.ReferenceRmsBwdIdeal.main_arg3))

def preserves_KernelRmsFwd_KernelRmsFwdIdeal : Prop :=
  True

def algebraic_KernelRmsFwdIdeal_ReferenceRmsFwdIdeal [hKernelRmsFwdIdeal : Cert.KernelRmsFwdIdeal.Facts] [hReferenceRmsFwdIdeal : Cert.ReferenceRmsFwdIdeal.Facts] : Prop :=
  ∀ (m : (ℓ : Loc Cert.KernelRmsFwdIdeal.nD Cert.KernelRmsFwdIdeal.τ Cert.KernelRmsFwdIdeal.sig) → Buf (Elt Ideal) ℓ) (g : Dev Cert.KernelRmsFwdIdeal.nD → PrngReg)
    (m' : (ℓ : Loc Cert.ReferenceRmsFwdIdeal.nD Cert.ReferenceRmsFwdIdeal.τ Cert.ReferenceRmsFwdIdeal.sig) → Buf (Elt Ideal) ℓ) (g' : Dev Cert.ReferenceRmsFwdIdeal.nD → PrngReg), Pre_KernelRmsFwdIdeal m →
    (∀ c : Dev Cert.KernelRmsFwdIdeal.nD,
      m' ((c.tc : Thread Cert.ReferenceRmsFwdIdeal.nD Cert.ReferenceRmsFwdIdeal.τ).loc Cert.ReferenceRmsFwdIdeal.main_arg0) = m ((c.tc : Thread Cert.KernelRmsFwdIdeal.nD Cert.KernelRmsFwdIdeal.τ).loc Cert.KernelRmsFwdIdeal.main_arg0)
      ∧ m' ((c.tc : Thread Cert.ReferenceRmsFwdIdeal.nD Cert.ReferenceRmsFwdIdeal.τ).loc Cert.ReferenceRmsFwdIdeal.main_arg1) = m ((c.tc : Thread Cert.KernelRmsFwdIdeal.nD Cert.KernelRmsFwdIdeal.τ).loc Cert.KernelRmsFwdIdeal.main_arg1)) →
    ∃ (v0 : (c : Dev Cert.KernelRmsFwdIdeal.nD) → Buf (Elt Ideal) ((c.tc : Thread Cert.KernelRmsFwdIdeal.nD Cert.KernelRmsFwdIdeal.τ).loc Cert.KernelRmsFwdIdeal.main_v0)),
      θ_run (Cert.KernelRmsFwdIdeal.defs (F := Ideal)) (onTc (τ := Cert.KernelRmsFwdIdeal.τ) (Cert.KernelRmsFwdIdeal.main (F := Ideal))) ⟨m, fun _ => 0, g⟩ (fun r => ∀ c : Dev Cert.KernelRmsFwdIdeal.nD,
          r.2.mem ((c.tc : Thread Cert.KernelRmsFwdIdeal.nD Cert.KernelRmsFwdIdeal.τ).loc Cert.KernelRmsFwdIdeal.main_v0) = v0 c
          ∧ r.2.mem ((c.tc : Thread Cert.KernelRmsFwdIdeal.nD Cert.KernelRmsFwdIdeal.τ).loc Cert.KernelRmsFwdIdeal.main_arg0) = m ((c.tc : Thread Cert.KernelRmsFwdIdeal.nD Cert.KernelRmsFwdIdeal.τ).loc Cert.KernelRmsFwdIdeal.main_arg0)
          ∧ r.2.mem ((c.tc : Thread Cert.KernelRmsFwdIdeal.nD Cert.KernelRmsFwdIdeal.τ).loc Cert.KernelRmsFwdIdeal.main_arg1) = m ((c.tc : Thread Cert.KernelRmsFwdIdeal.nD Cert.KernelRmsFwdIdeal.τ).loc Cert.KernelRmsFwdIdeal.main_arg1))
      ∧ θ_run (Cert.ReferenceRmsFwdIdeal.defs (F := Ideal)) (onTc (τ := Cert.ReferenceRmsFwdIdeal.τ) (Cert.ReferenceRmsFwdIdeal.main (F := Ideal))) ⟨m', fun _ => 0, g'⟩ (fun r => ∀ c : Dev Cert.ReferenceRmsFwdIdeal.nD,
          r.2.mem ((c.tc : Thread Cert.ReferenceRmsFwdIdeal.nD Cert.ReferenceRmsFwdIdeal.τ).loc Cert.ReferenceRmsFwdIdeal.main_v12) = v0 c
          ∧ r.2.mem ((c.tc : Thread Cert.ReferenceRmsFwdIdeal.nD Cert.ReferenceRmsFwdIdeal.τ).loc Cert.ReferenceRmsFwdIdeal.main_arg0) = m' ((c.tc : Thread Cert.ReferenceRmsFwdIdeal.nD Cert.ReferenceRmsFwdIdeal.τ).loc Cert.ReferenceRmsFwdIdeal.main_arg0)
          ∧ r.2.mem ((c.tc : Thread Cert.ReferenceRmsFwdIdeal.nD Cert.ReferenceRmsFwdIdeal.τ).loc Cert.ReferenceRmsFwdIdeal.main_arg1) = m' ((c.tc : Thread Cert.ReferenceRmsFwdIdeal.nD Cert.ReferenceRmsFwdIdeal.τ).loc Cert.ReferenceRmsFwdIdeal.main_arg1))

def preserves_KernelPostBwd_KernelPostBwdIdeal : Prop :=
  True

def algebraic_KernelPostBwdIdeal_ReferencePostBwdIdeal [hKernelPostBwdIdeal : Cert.KernelPostBwdIdeal.Facts] [hReferencePostBwdIdeal : Cert.ReferencePostBwdIdeal.Facts] : Prop :=
  ∀ (m : (ℓ : Loc Cert.KernelPostBwdIdeal.nD Cert.KernelPostBwdIdeal.τ Cert.KernelPostBwdIdeal.sig) → Buf (Elt Ideal) ℓ) (g : Dev Cert.KernelPostBwdIdeal.nD → PrngReg)
    (m' : (ℓ : Loc Cert.ReferencePostBwdIdeal.nD Cert.ReferencePostBwdIdeal.τ Cert.ReferencePostBwdIdeal.sig) → Buf (Elt Ideal) ℓ) (g' : Dev Cert.ReferencePostBwdIdeal.nD → PrngReg), Pre_KernelPostBwdIdeal m →
    (∀ c : Dev Cert.KernelPostBwdIdeal.nD,
      m' ((c.tc : Thread Cert.ReferencePostBwdIdeal.nD Cert.ReferencePostBwdIdeal.τ).loc Cert.ReferencePostBwdIdeal.main_arg0) = m ((c.tc : Thread Cert.KernelPostBwdIdeal.nD Cert.KernelPostBwdIdeal.τ).loc Cert.KernelPostBwdIdeal.main_arg0)
      ∧ m' ((c.tc : Thread Cert.ReferencePostBwdIdeal.nD Cert.ReferencePostBwdIdeal.τ).loc Cert.ReferencePostBwdIdeal.main_arg1) = m ((c.tc : Thread Cert.KernelPostBwdIdeal.nD Cert.KernelPostBwdIdeal.τ).loc Cert.KernelPostBwdIdeal.main_arg1)
      ∧ m' ((c.tc : Thread Cert.ReferencePostBwdIdeal.nD Cert.ReferencePostBwdIdeal.τ).loc Cert.ReferencePostBwdIdeal.main_arg2) = m ((c.tc : Thread Cert.KernelPostBwdIdeal.nD Cert.KernelPostBwdIdeal.τ).loc Cert.KernelPostBwdIdeal.main_arg2)
      ∧ m' ((c.tc : Thread Cert.ReferencePostBwdIdeal.nD Cert.ReferencePostBwdIdeal.τ).loc Cert.ReferencePostBwdIdeal.main_arg3) = m ((c.tc : Thread Cert.KernelPostBwdIdeal.nD Cert.KernelPostBwdIdeal.τ).loc Cert.KernelPostBwdIdeal.main_arg3)
      ∧ m' ((c.tc : Thread Cert.ReferencePostBwdIdeal.nD Cert.ReferencePostBwdIdeal.τ).loc Cert.ReferencePostBwdIdeal.main_arg4) = m ((c.tc : Thread Cert.KernelPostBwdIdeal.nD Cert.KernelPostBwdIdeal.τ).loc Cert.KernelPostBwdIdeal.main_arg4)
      ∧ m' ((c.tc : Thread Cert.ReferencePostBwdIdeal.nD Cert.ReferencePostBwdIdeal.τ).loc Cert.ReferencePostBwdIdeal.main_arg5) = m ((c.tc : Thread Cert.KernelPostBwdIdeal.nD Cert.KernelPostBwdIdeal.τ).loc Cert.KernelPostBwdIdeal.main_arg5)
      ∧ m' ((c.tc : Thread Cert.ReferencePostBwdIdeal.nD Cert.ReferencePostBwdIdeal.τ).loc Cert.ReferencePostBwdIdeal.main_arg6) = m ((c.tc : Thread Cert.KernelPostBwdIdeal.nD Cert.KernelPostBwdIdeal.τ).loc Cert.KernelPostBwdIdeal.main_arg6)
      ∧ m' ((c.tc : Thread Cert.ReferencePostBwdIdeal.nD Cert.ReferencePostBwdIdeal.τ).loc Cert.ReferencePostBwdIdeal.main_arg7) = m ((c.tc : Thread Cert.KernelPostBwdIdeal.nD Cert.KernelPostBwdIdeal.τ).loc Cert.KernelPostBwdIdeal.main_arg7)
      ∧ m' ((c.tc : Thread Cert.ReferencePostBwdIdeal.nD Cert.ReferencePostBwdIdeal.τ).loc Cert.ReferencePostBwdIdeal.main_arg8) = m ((c.tc : Thread Cert.KernelPostBwdIdeal.nD Cert.KernelPostBwdIdeal.τ).loc Cert.KernelPostBwdIdeal.main_arg8)) →
    ∃ (v0 : (c : Dev Cert.KernelPostBwdIdeal.nD) → Buf (Elt Ideal) ((c.tc : Thread Cert.KernelPostBwdIdeal.nD Cert.KernelPostBwdIdeal.τ).loc Cert.KernelPostBwdIdeal.main_v0_0)) (v1 : (c : Dev Cert.KernelPostBwdIdeal.nD) → Buf (Elt Ideal) ((c.tc : Thread Cert.KernelPostBwdIdeal.nD Cert.KernelPostBwdIdeal.τ).loc Cert.KernelPostBwdIdeal.main_v0_1)) (v2 : (c : Dev Cert.KernelPostBwdIdeal.nD) → Buf (Elt Ideal) ((c.tc : Thread Cert.KernelPostBwdIdeal.nD Cert.KernelPostBwdIdeal.τ).loc Cert.KernelPostBwdIdeal.main_v0_2)) (v3 : (c : Dev Cert.KernelPostBwdIdeal.nD) → Buf (Elt Ideal) ((c.tc : Thread Cert.KernelPostBwdIdeal.nD Cert.KernelPostBwdIdeal.τ).loc Cert.KernelPostBwdIdeal.main_v0_3)) (v4 : (c : Dev Cert.KernelPostBwdIdeal.nD) → Buf (Elt Ideal) ((c.tc : Thread Cert.KernelPostBwdIdeal.nD Cert.KernelPostBwdIdeal.τ).loc Cert.KernelPostBwdIdeal.main_v0_4)) (v5 : (c : Dev Cert.KernelPostBwdIdeal.nD) → Buf (Elt Ideal) ((c.tc : Thread Cert.KernelPostBwdIdeal.nD Cert.KernelPostBwdIdeal.τ).loc Cert.KernelPostBwdIdeal.main_v0_5)) (v6 : (c : Dev Cert.KernelPostBwdIdeal.nD) → Buf (Elt Ideal) ((c.tc : Thread Cert.KernelPostBwdIdeal.nD Cert.KernelPostBwdIdeal.τ).loc Cert.KernelPostBwdIdeal.main_v0_6)),
      θ_run (Cert.KernelPostBwdIdeal.defs (F := Ideal)) (onTc (τ := Cert.KernelPostBwdIdeal.τ) (Cert.KernelPostBwdIdeal.main (F := Ideal))) ⟨m, fun _ => 0, g⟩ (fun r => ∀ c : Dev Cert.KernelPostBwdIdeal.nD,
          r.2.mem ((c.tc : Thread Cert.KernelPostBwdIdeal.nD Cert.KernelPostBwdIdeal.τ).loc Cert.KernelPostBwdIdeal.main_v0_0) = v0 c
          ∧ r.2.mem ((c.tc : Thread Cert.KernelPostBwdIdeal.nD Cert.KernelPostBwdIdeal.τ).loc Cert.KernelPostBwdIdeal.main_v0_1) = v1 c
          ∧ r.2.mem ((c.tc : Thread Cert.KernelPostBwdIdeal.nD Cert.KernelPostBwdIdeal.τ).loc Cert.KernelPostBwdIdeal.main_v0_2) = v2 c
          ∧ r.2.mem ((c.tc : Thread Cert.KernelPostBwdIdeal.nD Cert.KernelPostBwdIdeal.τ).loc Cert.KernelPostBwdIdeal.main_v0_3) = v3 c
          ∧ r.2.mem ((c.tc : Thread Cert.KernelPostBwdIdeal.nD Cert.KernelPostBwdIdeal.τ).loc Cert.KernelPostBwdIdeal.main_v0_4) = v4 c
          ∧ r.2.mem ((c.tc : Thread Cert.KernelPostBwdIdeal.nD Cert.KernelPostBwdIdeal.τ).loc Cert.KernelPostBwdIdeal.main_v0_5) = v5 c
          ∧ r.2.mem ((c.tc : Thread Cert.KernelPostBwdIdeal.nD Cert.KernelPostBwdIdeal.τ).loc Cert.KernelPostBwdIdeal.main_v0_6) = v6 c
          ∧ r.2.mem ((c.tc : Thread Cert.KernelPostBwdIdeal.nD Cert.KernelPostBwdIdeal.τ).loc Cert.KernelPostBwdIdeal.main_arg0) = m ((c.tc : Thread Cert.KernelPostBwdIdeal.nD Cert.KernelPostBwdIdeal.τ).loc Cert.KernelPostBwdIdeal.main_arg0)
          ∧ r.2.mem ((c.tc : Thread Cert.KernelPostBwdIdeal.nD Cert.KernelPostBwdIdeal.τ).loc Cert.KernelPostBwdIdeal.main_arg1) = m ((c.tc : Thread Cert.KernelPostBwdIdeal.nD Cert.KernelPostBwdIdeal.τ).loc Cert.KernelPostBwdIdeal.main_arg1)
          ∧ r.2.mem ((c.tc : Thread Cert.KernelPostBwdIdeal.nD Cert.KernelPostBwdIdeal.τ).loc Cert.KernelPostBwdIdeal.main_arg2) = m ((c.tc : Thread Cert.KernelPostBwdIdeal.nD Cert.KernelPostBwdIdeal.τ).loc Cert.KernelPostBwdIdeal.main_arg2)
          ∧ r.2.mem ((c.tc : Thread Cert.KernelPostBwdIdeal.nD Cert.KernelPostBwdIdeal.τ).loc Cert.KernelPostBwdIdeal.main_arg3) = m ((c.tc : Thread Cert.KernelPostBwdIdeal.nD Cert.KernelPostBwdIdeal.τ).loc Cert.KernelPostBwdIdeal.main_arg3)
          ∧ r.2.mem ((c.tc : Thread Cert.KernelPostBwdIdeal.nD Cert.KernelPostBwdIdeal.τ).loc Cert.KernelPostBwdIdeal.main_arg4) = m ((c.tc : Thread Cert.KernelPostBwdIdeal.nD Cert.KernelPostBwdIdeal.τ).loc Cert.KernelPostBwdIdeal.main_arg4)
          ∧ r.2.mem ((c.tc : Thread Cert.KernelPostBwdIdeal.nD Cert.KernelPostBwdIdeal.τ).loc Cert.KernelPostBwdIdeal.main_arg5) = m ((c.tc : Thread Cert.KernelPostBwdIdeal.nD Cert.KernelPostBwdIdeal.τ).loc Cert.KernelPostBwdIdeal.main_arg5)
          ∧ r.2.mem ((c.tc : Thread Cert.KernelPostBwdIdeal.nD Cert.KernelPostBwdIdeal.τ).loc Cert.KernelPostBwdIdeal.main_arg6) = m ((c.tc : Thread Cert.KernelPostBwdIdeal.nD Cert.KernelPostBwdIdeal.τ).loc Cert.KernelPostBwdIdeal.main_arg6)
          ∧ r.2.mem ((c.tc : Thread Cert.KernelPostBwdIdeal.nD Cert.KernelPostBwdIdeal.τ).loc Cert.KernelPostBwdIdeal.main_arg7) = m ((c.tc : Thread Cert.KernelPostBwdIdeal.nD Cert.KernelPostBwdIdeal.τ).loc Cert.KernelPostBwdIdeal.main_arg7)
          ∧ r.2.mem ((c.tc : Thread Cert.KernelPostBwdIdeal.nD Cert.KernelPostBwdIdeal.τ).loc Cert.KernelPostBwdIdeal.main_arg8) = m ((c.tc : Thread Cert.KernelPostBwdIdeal.nD Cert.KernelPostBwdIdeal.τ).loc Cert.KernelPostBwdIdeal.main_arg8))
      ∧ θ_run (Cert.ReferencePostBwdIdeal.defs (F := Ideal)) (onTc (τ := Cert.ReferencePostBwdIdeal.τ) (Cert.ReferencePostBwdIdeal.main (F := Ideal))) ⟨m', fun _ => 0, g'⟩ (fun r => ∀ c : Dev Cert.ReferencePostBwdIdeal.nD,
          r.2.mem ((c.tc : Thread Cert.ReferencePostBwdIdeal.nD Cert.ReferencePostBwdIdeal.τ).loc Cert.ReferencePostBwdIdeal.main_v80) = v0 c
          ∧ r.2.mem ((c.tc : Thread Cert.ReferencePostBwdIdeal.nD Cert.ReferencePostBwdIdeal.τ).loc Cert.ReferencePostBwdIdeal.main_v94) = v1 c
          ∧ r.2.mem ((c.tc : Thread Cert.ReferencePostBwdIdeal.nD Cert.ReferencePostBwdIdeal.τ).loc Cert.ReferencePostBwdIdeal.main_v72) = v2 c
          ∧ r.2.mem ((c.tc : Thread Cert.ReferencePostBwdIdeal.nD Cert.ReferencePostBwdIdeal.τ).loc Cert.ReferencePostBwdIdeal.main_v79) = v3 c
          ∧ r.2.mem ((c.tc : Thread Cert.ReferencePostBwdIdeal.nD Cert.ReferencePostBwdIdeal.τ).loc Cert.ReferencePostBwdIdeal.main_v95) = v4 c
          ∧ r.2.mem ((c.tc : Thread Cert.ReferencePostBwdIdeal.nD Cert.ReferencePostBwdIdeal.τ).loc Cert.ReferencePostBwdIdeal.main_v78) = v5 c
          ∧ r.2.mem ((c.tc : Thread Cert.ReferencePostBwdIdeal.nD Cert.ReferencePostBwdIdeal.τ).loc Cert.ReferencePostBwdIdeal.main_v52) = v6 c
          ∧ r.2.mem ((c.tc : Thread Cert.ReferencePostBwdIdeal.nD Cert.ReferencePostBwdIdeal.τ).loc Cert.ReferencePostBwdIdeal.main_arg0) = m' ((c.tc : Thread Cert.ReferencePostBwdIdeal.nD Cert.ReferencePostBwdIdeal.τ).loc Cert.ReferencePostBwdIdeal.main_arg0)
          ∧ r.2.mem ((c.tc : Thread Cert.ReferencePostBwdIdeal.nD Cert.ReferencePostBwdIdeal.τ).loc Cert.ReferencePostBwdIdeal.main_arg1) = m' ((c.tc : Thread Cert.ReferencePostBwdIdeal.nD Cert.ReferencePostBwdIdeal.τ).loc Cert.ReferencePostBwdIdeal.main_arg1)
          ∧ r.2.mem ((c.tc : Thread Cert.ReferencePostBwdIdeal.nD Cert.ReferencePostBwdIdeal.τ).loc Cert.ReferencePostBwdIdeal.main_arg2) = m' ((c.tc : Thread Cert.ReferencePostBwdIdeal.nD Cert.ReferencePostBwdIdeal.τ).loc Cert.ReferencePostBwdIdeal.main_arg2)
          ∧ r.2.mem ((c.tc : Thread Cert.ReferencePostBwdIdeal.nD Cert.ReferencePostBwdIdeal.τ).loc Cert.ReferencePostBwdIdeal.main_arg3) = m' ((c.tc : Thread Cert.ReferencePostBwdIdeal.nD Cert.ReferencePostBwdIdeal.τ).loc Cert.ReferencePostBwdIdeal.main_arg3)
          ∧ r.2.mem ((c.tc : Thread Cert.ReferencePostBwdIdeal.nD Cert.ReferencePostBwdIdeal.τ).loc Cert.ReferencePostBwdIdeal.main_arg4) = m' ((c.tc : Thread Cert.ReferencePostBwdIdeal.nD Cert.ReferencePostBwdIdeal.τ).loc Cert.ReferencePostBwdIdeal.main_arg4)
          ∧ r.2.mem ((c.tc : Thread Cert.ReferencePostBwdIdeal.nD Cert.ReferencePostBwdIdeal.τ).loc Cert.ReferencePostBwdIdeal.main_arg5) = m' ((c.tc : Thread Cert.ReferencePostBwdIdeal.nD Cert.ReferencePostBwdIdeal.τ).loc Cert.ReferencePostBwdIdeal.main_arg5)
          ∧ r.2.mem ((c.tc : Thread Cert.ReferencePostBwdIdeal.nD Cert.ReferencePostBwdIdeal.τ).loc Cert.ReferencePostBwdIdeal.main_arg6) = m' ((c.tc : Thread Cert.ReferencePostBwdIdeal.nD Cert.ReferencePostBwdIdeal.τ).loc Cert.ReferencePostBwdIdeal.main_arg6)
          ∧ r.2.mem ((c.tc : Thread Cert.ReferencePostBwdIdeal.nD Cert.ReferencePostBwdIdeal.τ).loc Cert.ReferencePostBwdIdeal.main_arg7) = m' ((c.tc : Thread Cert.ReferencePostBwdIdeal.nD Cert.ReferencePostBwdIdeal.τ).loc Cert.ReferencePostBwdIdeal.main_arg7)
          ∧ r.2.mem ((c.tc : Thread Cert.ReferencePostBwdIdeal.nD Cert.ReferencePostBwdIdeal.τ).loc Cert.ReferencePostBwdIdeal.main_arg8) = m' ((c.tc : Thread Cert.ReferencePostBwdIdeal.nD Cert.ReferencePostBwdIdeal.τ).loc Cert.ReferencePostBwdIdeal.main_arg8))

def preserves_KernelPostFwd_KernelPostFwdIdeal : Prop :=
  True

def algebraic_KernelPostFwdIdeal_ReferencePostFwdIdeal [hKernelPostFwdIdeal : Cert.KernelPostFwdIdeal.Facts] [hReferencePostFwdIdeal : Cert.ReferencePostFwdIdeal.Facts] : Prop :=
  ∀ (m : (ℓ : Loc Cert.KernelPostFwdIdeal.nD Cert.KernelPostFwdIdeal.τ Cert.KernelPostFwdIdeal.sig) → Buf (Elt Ideal) ℓ) (g : Dev Cert.KernelPostFwdIdeal.nD → PrngReg)
    (m' : (ℓ : Loc Cert.ReferencePostFwdIdeal.nD Cert.ReferencePostFwdIdeal.τ Cert.ReferencePostFwdIdeal.sig) → Buf (Elt Ideal) ℓ) (g' : Dev Cert.ReferencePostFwdIdeal.nD → PrngReg), Pre_KernelPostFwdIdeal m →
    (∀ c : Dev Cert.KernelPostFwdIdeal.nD,
      m' ((c.tc : Thread Cert.ReferencePostFwdIdeal.nD Cert.ReferencePostFwdIdeal.τ).loc Cert.ReferencePostFwdIdeal.main_arg0) = m ((c.tc : Thread Cert.KernelPostFwdIdeal.nD Cert.KernelPostFwdIdeal.τ).loc Cert.KernelPostFwdIdeal.main_arg0)
      ∧ m' ((c.tc : Thread Cert.ReferencePostFwdIdeal.nD Cert.ReferencePostFwdIdeal.τ).loc Cert.ReferencePostFwdIdeal.main_arg1) = m ((c.tc : Thread Cert.KernelPostFwdIdeal.nD Cert.KernelPostFwdIdeal.τ).loc Cert.KernelPostFwdIdeal.main_arg1)
      ∧ m' ((c.tc : Thread Cert.ReferencePostFwdIdeal.nD Cert.ReferencePostFwdIdeal.τ).loc Cert.ReferencePostFwdIdeal.main_arg2) = m ((c.tc : Thread Cert.KernelPostFwdIdeal.nD Cert.KernelPostFwdIdeal.τ).loc Cert.KernelPostFwdIdeal.main_arg2)
      ∧ m' ((c.tc : Thread Cert.ReferencePostFwdIdeal.nD Cert.ReferencePostFwdIdeal.τ).loc Cert.ReferencePostFwdIdeal.main_arg3) = m ((c.tc : Thread Cert.KernelPostFwdIdeal.nD Cert.KernelPostFwdIdeal.τ).loc Cert.KernelPostFwdIdeal.main_arg3)
      ∧ m' ((c.tc : Thread Cert.ReferencePostFwdIdeal.nD Cert.ReferencePostFwdIdeal.τ).loc Cert.ReferencePostFwdIdeal.main_arg4) = m ((c.tc : Thread Cert.KernelPostFwdIdeal.nD Cert.KernelPostFwdIdeal.τ).loc Cert.KernelPostFwdIdeal.main_arg4)
      ∧ m' ((c.tc : Thread Cert.ReferencePostFwdIdeal.nD Cert.ReferencePostFwdIdeal.τ).loc Cert.ReferencePostFwdIdeal.main_arg5) = m ((c.tc : Thread Cert.KernelPostFwdIdeal.nD Cert.KernelPostFwdIdeal.τ).loc Cert.KernelPostFwdIdeal.main_arg5)
      ∧ m' ((c.tc : Thread Cert.ReferencePostFwdIdeal.nD Cert.ReferencePostFwdIdeal.τ).loc Cert.ReferencePostFwdIdeal.main_arg6) = m ((c.tc : Thread Cert.KernelPostFwdIdeal.nD Cert.KernelPostFwdIdeal.τ).loc Cert.KernelPostFwdIdeal.main_arg6)) →
    ∃ (v0 : (c : Dev Cert.KernelPostFwdIdeal.nD) → Buf (Elt Ideal) ((c.tc : Thread Cert.KernelPostFwdIdeal.nD Cert.KernelPostFwdIdeal.τ).loc Cert.KernelPostFwdIdeal.main_v0_0)) (v1 : (c : Dev Cert.KernelPostFwdIdeal.nD) → Buf (Elt Ideal) ((c.tc : Thread Cert.KernelPostFwdIdeal.nD Cert.KernelPostFwdIdeal.τ).loc Cert.KernelPostFwdIdeal.main_v0_1)),
      θ_run (Cert.KernelPostFwdIdeal.defs (F := Ideal)) (onTc (τ := Cert.KernelPostFwdIdeal.τ) (Cert.KernelPostFwdIdeal.main (F := Ideal))) ⟨m, fun _ => 0, g⟩ (fun r => ∀ c : Dev Cert.KernelPostFwdIdeal.nD,
          r.2.mem ((c.tc : Thread Cert.KernelPostFwdIdeal.nD Cert.KernelPostFwdIdeal.τ).loc Cert.KernelPostFwdIdeal.main_v0_0) = v0 c
          ∧ r.2.mem ((c.tc : Thread Cert.KernelPostFwdIdeal.nD Cert.KernelPostFwdIdeal.τ).loc Cert.KernelPostFwdIdeal.main_v0_1) = v1 c
          ∧ r.2.mem ((c.tc : Thread Cert.KernelPostFwdIdeal.nD Cert.KernelPostFwdIdeal.τ).loc Cert.KernelPostFwdIdeal.main_arg0) = m ((c.tc : Thread Cert.KernelPostFwdIdeal.nD Cert.KernelPostFwdIdeal.τ).loc Cert.KernelPostFwdIdeal.main_arg0)
          ∧ r.2.mem ((c.tc : Thread Cert.KernelPostFwdIdeal.nD Cert.KernelPostFwdIdeal.τ).loc Cert.KernelPostFwdIdeal.main_arg1) = m ((c.tc : Thread Cert.KernelPostFwdIdeal.nD Cert.KernelPostFwdIdeal.τ).loc Cert.KernelPostFwdIdeal.main_arg1)
          ∧ r.2.mem ((c.tc : Thread Cert.KernelPostFwdIdeal.nD Cert.KernelPostFwdIdeal.τ).loc Cert.KernelPostFwdIdeal.main_arg2) = m ((c.tc : Thread Cert.KernelPostFwdIdeal.nD Cert.KernelPostFwdIdeal.τ).loc Cert.KernelPostFwdIdeal.main_arg2)
          ∧ r.2.mem ((c.tc : Thread Cert.KernelPostFwdIdeal.nD Cert.KernelPostFwdIdeal.τ).loc Cert.KernelPostFwdIdeal.main_arg3) = m ((c.tc : Thread Cert.KernelPostFwdIdeal.nD Cert.KernelPostFwdIdeal.τ).loc Cert.KernelPostFwdIdeal.main_arg3)
          ∧ r.2.mem ((c.tc : Thread Cert.KernelPostFwdIdeal.nD Cert.KernelPostFwdIdeal.τ).loc Cert.KernelPostFwdIdeal.main_arg4) = m ((c.tc : Thread Cert.KernelPostFwdIdeal.nD Cert.KernelPostFwdIdeal.τ).loc Cert.KernelPostFwdIdeal.main_arg4)
          ∧ r.2.mem ((c.tc : Thread Cert.KernelPostFwdIdeal.nD Cert.KernelPostFwdIdeal.τ).loc Cert.KernelPostFwdIdeal.main_arg5) = m ((c.tc : Thread Cert.KernelPostFwdIdeal.nD Cert.KernelPostFwdIdeal.τ).loc Cert.KernelPostFwdIdeal.main_arg5)
          ∧ r.2.mem ((c.tc : Thread Cert.KernelPostFwdIdeal.nD Cert.KernelPostFwdIdeal.τ).loc Cert.KernelPostFwdIdeal.main_arg6) = m ((c.tc : Thread Cert.KernelPostFwdIdeal.nD Cert.KernelPostFwdIdeal.τ).loc Cert.KernelPostFwdIdeal.main_arg6))
      ∧ θ_run (Cert.ReferencePostFwdIdeal.defs (F := Ideal)) (onTc (τ := Cert.ReferencePostFwdIdeal.τ) (Cert.ReferencePostFwdIdeal.main (F := Ideal))) ⟨m', fun _ => 0, g'⟩ (fun r => ∀ c : Dev Cert.ReferencePostFwdIdeal.nD,
          r.2.mem ((c.tc : Thread Cert.ReferencePostFwdIdeal.nD Cert.ReferencePostFwdIdeal.τ).loc Cert.ReferencePostFwdIdeal.main_v37) = v0 c
          ∧ r.2.mem ((c.tc : Thread Cert.ReferencePostFwdIdeal.nD Cert.ReferencePostFwdIdeal.τ).loc Cert.ReferencePostFwdIdeal.main_v38) = v1 c
          ∧ r.2.mem ((c.tc : Thread Cert.ReferencePostFwdIdeal.nD Cert.ReferencePostFwdIdeal.τ).loc Cert.ReferencePostFwdIdeal.main_arg0) = m' ((c.tc : Thread Cert.ReferencePostFwdIdeal.nD Cert.ReferencePostFwdIdeal.τ).loc Cert.ReferencePostFwdIdeal.main_arg0)
          ∧ r.2.mem ((c.tc : Thread Cert.ReferencePostFwdIdeal.nD Cert.ReferencePostFwdIdeal.τ).loc Cert.ReferencePostFwdIdeal.main_arg1) = m' ((c.tc : Thread Cert.ReferencePostFwdIdeal.nD Cert.ReferencePostFwdIdeal.τ).loc Cert.ReferencePostFwdIdeal.main_arg1)
          ∧ r.2.mem ((c.tc : Thread Cert.ReferencePostFwdIdeal.nD Cert.ReferencePostFwdIdeal.τ).loc Cert.ReferencePostFwdIdeal.main_arg2) = m' ((c.tc : Thread Cert.ReferencePostFwdIdeal.nD Cert.ReferencePostFwdIdeal.τ).loc Cert.ReferencePostFwdIdeal.main_arg2)
          ∧ r.2.mem ((c.tc : Thread Cert.ReferencePostFwdIdeal.nD Cert.ReferencePostFwdIdeal.τ).loc Cert.ReferencePostFwdIdeal.main_arg3) = m' ((c.tc : Thread Cert.ReferencePostFwdIdeal.nD Cert.ReferencePostFwdIdeal.τ).loc Cert.ReferencePostFwdIdeal.main_arg3)
          ∧ r.2.mem ((c.tc : Thread Cert.ReferencePostFwdIdeal.nD Cert.ReferencePostFwdIdeal.τ).loc Cert.ReferencePostFwdIdeal.main_arg4) = m' ((c.tc : Thread Cert.ReferencePostFwdIdeal.nD Cert.ReferencePostFwdIdeal.τ).loc Cert.ReferencePostFwdIdeal.main_arg4)
          ∧ r.2.mem ((c.tc : Thread Cert.ReferencePostFwdIdeal.nD Cert.ReferencePostFwdIdeal.τ).loc Cert.ReferencePostFwdIdeal.main_arg5) = m' ((c.tc : Thread Cert.ReferencePostFwdIdeal.nD Cert.ReferencePostFwdIdeal.τ).loc Cert.ReferencePostFwdIdeal.main_arg5)
          ∧ r.2.mem ((c.tc : Thread Cert.ReferencePostFwdIdeal.nD Cert.ReferencePostFwdIdeal.τ).loc Cert.ReferencePostFwdIdeal.main_arg6) = m' ((c.tc : Thread Cert.ReferencePostFwdIdeal.nD Cert.ReferencePostFwdIdeal.τ).loc Cert.ReferencePostFwdIdeal.main_arg6))

def preserves_KernelGatesFwd_KernelGatesFwdIdeal : Prop :=
  True

def algebraic_KernelGatesFwdIdeal_ReferenceGatesFwdIdeal [hKernelGatesFwdIdeal : Cert.KernelGatesFwdIdeal.Facts] [hReferenceGatesFwdIdeal : Cert.ReferenceGatesFwdIdeal.Facts] : Prop :=
  ∀ (m : (ℓ : Loc Cert.KernelGatesFwdIdeal.nD Cert.KernelGatesFwdIdeal.τ Cert.KernelGatesFwdIdeal.sig) → Buf (Elt Ideal) ℓ) (g : Dev Cert.KernelGatesFwdIdeal.nD → PrngReg)
    (m' : (ℓ : Loc Cert.ReferenceGatesFwdIdeal.nD Cert.ReferenceGatesFwdIdeal.τ Cert.ReferenceGatesFwdIdeal.sig) → Buf (Elt Ideal) ℓ) (g' : Dev Cert.ReferenceGatesFwdIdeal.nD → PrngReg), Pre_KernelGatesFwdIdeal m →
    (∀ c : Dev Cert.KernelGatesFwdIdeal.nD,
      m' ((c.tc : Thread Cert.ReferenceGatesFwdIdeal.nD Cert.ReferenceGatesFwdIdeal.τ).loc Cert.ReferenceGatesFwdIdeal.main_arg0) = m ((c.tc : Thread Cert.KernelGatesFwdIdeal.nD Cert.KernelGatesFwdIdeal.τ).loc Cert.KernelGatesFwdIdeal.main_arg0)
      ∧ m' ((c.tc : Thread Cert.ReferenceGatesFwdIdeal.nD Cert.ReferenceGatesFwdIdeal.τ).loc Cert.ReferenceGatesFwdIdeal.main_arg1) = m ((c.tc : Thread Cert.KernelGatesFwdIdeal.nD Cert.KernelGatesFwdIdeal.τ).loc Cert.KernelGatesFwdIdeal.main_arg1)
      ∧ m' ((c.tc : Thread Cert.ReferenceGatesFwdIdeal.nD Cert.ReferenceGatesFwdIdeal.τ).loc Cert.ReferenceGatesFwdIdeal.main_arg2) = m ((c.tc : Thread Cert.KernelGatesFwdIdeal.nD Cert.KernelGatesFwdIdeal.τ).loc Cert.KernelGatesFwdIdeal.main_arg2)
      ∧ m' ((c.tc : Thread Cert.ReferenceGatesFwdIdeal.nD Cert.ReferenceGatesFwdIdeal.τ).loc Cert.ReferenceGatesFwdIdeal.main_arg3) = m ((c.tc : Thread Cert.KernelGatesFwdIdeal.nD Cert.KernelGatesFwdIdeal.τ).loc Cert.KernelGatesFwdIdeal.main_arg3)
      ∧ m' ((c.tc : Thread Cert.ReferenceGatesFwdIdeal.nD Cert.ReferenceGatesFwdIdeal.τ).loc Cert.ReferenceGatesFwdIdeal.main_arg4) = m ((c.tc : Thread Cert.KernelGatesFwdIdeal.nD Cert.KernelGatesFwdIdeal.τ).loc Cert.KernelGatesFwdIdeal.main_arg4)
      ∧ m' ((c.tc : Thread Cert.ReferenceGatesFwdIdeal.nD Cert.ReferenceGatesFwdIdeal.τ).loc Cert.ReferenceGatesFwdIdeal.main_arg5) = m ((c.tc : Thread Cert.KernelGatesFwdIdeal.nD Cert.KernelGatesFwdIdeal.τ).loc Cert.KernelGatesFwdIdeal.main_arg5)) →
    ∃ (v0 : (c : Dev Cert.KernelGatesFwdIdeal.nD) → Buf (Elt Ideal) ((c.tc : Thread Cert.KernelGatesFwdIdeal.nD Cert.KernelGatesFwdIdeal.τ).loc Cert.KernelGatesFwdIdeal.main_v18_0)) (v1 : (c : Dev Cert.KernelGatesFwdIdeal.nD) → Buf (Elt Ideal) ((c.tc : Thread Cert.KernelGatesFwdIdeal.nD Cert.KernelGatesFwdIdeal.τ).loc Cert.KernelGatesFwdIdeal.main_v18_1)),
      θ_run (Cert.KernelGatesFwdIdeal.defs (F := Ideal)) (onTc (τ := Cert.KernelGatesFwdIdeal.τ) (Cert.KernelGatesFwdIdeal.main (F := Ideal))) ⟨m, fun _ => 0, g⟩ (fun r => ∀ c : Dev Cert.KernelGatesFwdIdeal.nD,
          r.2.mem ((c.tc : Thread Cert.KernelGatesFwdIdeal.nD Cert.KernelGatesFwdIdeal.τ).loc Cert.KernelGatesFwdIdeal.main_v18_0) = v0 c
          ∧ r.2.mem ((c.tc : Thread Cert.KernelGatesFwdIdeal.nD Cert.KernelGatesFwdIdeal.τ).loc Cert.KernelGatesFwdIdeal.main_v18_1) = v1 c
          ∧ r.2.mem ((c.tc : Thread Cert.KernelGatesFwdIdeal.nD Cert.KernelGatesFwdIdeal.τ).loc Cert.KernelGatesFwdIdeal.main_arg0) = m ((c.tc : Thread Cert.KernelGatesFwdIdeal.nD Cert.KernelGatesFwdIdeal.τ).loc Cert.KernelGatesFwdIdeal.main_arg0)
          ∧ r.2.mem ((c.tc : Thread Cert.KernelGatesFwdIdeal.nD Cert.KernelGatesFwdIdeal.τ).loc Cert.KernelGatesFwdIdeal.main_arg1) = m ((c.tc : Thread Cert.KernelGatesFwdIdeal.nD Cert.KernelGatesFwdIdeal.τ).loc Cert.KernelGatesFwdIdeal.main_arg1)
          ∧ r.2.mem ((c.tc : Thread Cert.KernelGatesFwdIdeal.nD Cert.KernelGatesFwdIdeal.τ).loc Cert.KernelGatesFwdIdeal.main_arg2) = m ((c.tc : Thread Cert.KernelGatesFwdIdeal.nD Cert.KernelGatesFwdIdeal.τ).loc Cert.KernelGatesFwdIdeal.main_arg2)
          ∧ r.2.mem ((c.tc : Thread Cert.KernelGatesFwdIdeal.nD Cert.KernelGatesFwdIdeal.τ).loc Cert.KernelGatesFwdIdeal.main_arg3) = m ((c.tc : Thread Cert.KernelGatesFwdIdeal.nD Cert.KernelGatesFwdIdeal.τ).loc Cert.KernelGatesFwdIdeal.main_arg3)
          ∧ r.2.mem ((c.tc : Thread Cert.KernelGatesFwdIdeal.nD Cert.KernelGatesFwdIdeal.τ).loc Cert.KernelGatesFwdIdeal.main_arg4) = m ((c.tc : Thread Cert.KernelGatesFwdIdeal.nD Cert.KernelGatesFwdIdeal.τ).loc Cert.KernelGatesFwdIdeal.main_arg4)
          ∧ r.2.mem ((c.tc : Thread Cert.KernelGatesFwdIdeal.nD Cert.KernelGatesFwdIdeal.τ).loc Cert.KernelGatesFwdIdeal.main_arg5) = m ((c.tc : Thread Cert.KernelGatesFwdIdeal.nD Cert.KernelGatesFwdIdeal.τ).loc Cert.KernelGatesFwdIdeal.main_arg5))
      ∧ θ_run (Cert.ReferenceGatesFwdIdeal.defs (F := Ideal)) (onTc (τ := Cert.ReferenceGatesFwdIdeal.τ) (Cert.ReferenceGatesFwdIdeal.main (F := Ideal))) ⟨m', fun _ => 0, g'⟩ (fun r => ∀ c : Dev Cert.ReferenceGatesFwdIdeal.nD,
          r.2.mem ((c.tc : Thread Cert.ReferenceGatesFwdIdeal.nD Cert.ReferenceGatesFwdIdeal.τ).loc Cert.ReferenceGatesFwdIdeal.main_v29) = v0 c
          ∧ r.2.mem ((c.tc : Thread Cert.ReferenceGatesFwdIdeal.nD Cert.ReferenceGatesFwdIdeal.τ).loc Cert.ReferenceGatesFwdIdeal.main_v36) = v1 c
          ∧ r.2.mem ((c.tc : Thread Cert.ReferenceGatesFwdIdeal.nD Cert.ReferenceGatesFwdIdeal.τ).loc Cert.ReferenceGatesFwdIdeal.main_arg0) = m' ((c.tc : Thread Cert.ReferenceGatesFwdIdeal.nD Cert.ReferenceGatesFwdIdeal.τ).loc Cert.ReferenceGatesFwdIdeal.main_arg0)
          ∧ r.2.mem ((c.tc : Thread Cert.ReferenceGatesFwdIdeal.nD Cert.ReferenceGatesFwdIdeal.τ).loc Cert.ReferenceGatesFwdIdeal.main_arg1) = m' ((c.tc : Thread Cert.ReferenceGatesFwdIdeal.nD Cert.ReferenceGatesFwdIdeal.τ).loc Cert.ReferenceGatesFwdIdeal.main_arg1)
          ∧ r.2.mem ((c.tc : Thread Cert.ReferenceGatesFwdIdeal.nD Cert.ReferenceGatesFwdIdeal.τ).loc Cert.ReferenceGatesFwdIdeal.main_arg2) = m' ((c.tc : Thread Cert.ReferenceGatesFwdIdeal.nD Cert.ReferenceGatesFwdIdeal.τ).loc Cert.ReferenceGatesFwdIdeal.main_arg2)
          ∧ r.2.mem ((c.tc : Thread Cert.ReferenceGatesFwdIdeal.nD Cert.ReferenceGatesFwdIdeal.τ).loc Cert.ReferenceGatesFwdIdeal.main_arg3) = m' ((c.tc : Thread Cert.ReferenceGatesFwdIdeal.nD Cert.ReferenceGatesFwdIdeal.τ).loc Cert.ReferenceGatesFwdIdeal.main_arg3)
          ∧ r.2.mem ((c.tc : Thread Cert.ReferenceGatesFwdIdeal.nD Cert.ReferenceGatesFwdIdeal.τ).loc Cert.ReferenceGatesFwdIdeal.main_arg4) = m' ((c.tc : Thread Cert.ReferenceGatesFwdIdeal.nD Cert.ReferenceGatesFwdIdeal.τ).loc Cert.ReferenceGatesFwdIdeal.main_arg4)
          ∧ r.2.mem ((c.tc : Thread Cert.ReferenceGatesFwdIdeal.nD Cert.ReferenceGatesFwdIdeal.τ).loc Cert.ReferenceGatesFwdIdeal.main_arg5) = m' ((c.tc : Thread Cert.ReferenceGatesFwdIdeal.nD Cert.ReferenceGatesFwdIdeal.τ).loc Cert.ReferenceGatesFwdIdeal.main_arg5))

def preserves_KernelDw_KernelDwIdeal : Prop :=
  True

def algebraic_KernelDwIdeal_ReferenceDwIdeal [hKernelDwIdeal : Cert.KernelDwIdeal.Facts] [hReferenceDwIdeal : Cert.ReferenceDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg)
    (m' : (ℓ : Loc Cert.ReferenceDwIdeal.nD Cert.ReferenceDwIdeal.τ Cert.ReferenceDwIdeal.sig) → Buf (Elt Ideal) ℓ) (g' : Dev Cert.ReferenceDwIdeal.nD → PrngReg), Pre_KernelDwIdeal m →
    (∀ c : Dev Cert.KernelDwIdeal.nD,
      m' ((c.tc : Thread Cert.ReferenceDwIdeal.nD Cert.ReferenceDwIdeal.τ).loc Cert.ReferenceDwIdeal.main_arg0) = m ((c.tc : Thread Cert.KernelDwIdeal.nD Cert.KernelDwIdeal.τ).loc Cert.KernelDwIdeal.main_arg0)
      ∧ m' ((c.tc : Thread Cert.ReferenceDwIdeal.nD Cert.ReferenceDwIdeal.τ).loc Cert.ReferenceDwIdeal.main_arg1) = m ((c.tc : Thread Cert.KernelDwIdeal.nD Cert.KernelDwIdeal.τ).loc Cert.KernelDwIdeal.main_arg1)) →
    ∃ (v0 : (c : Dev Cert.KernelDwIdeal.nD) → Buf (Elt Ideal) ((c.tc : Thread Cert.KernelDwIdeal.nD Cert.KernelDwIdeal.τ).loc Cert.KernelDwIdeal.main_v0)),
      θ_run (Cert.KernelDwIdeal.defs (F := Ideal)) (onTc (τ := Cert.KernelDwIdeal.τ) (Cert.KernelDwIdeal.main (F := Ideal))) ⟨m, fun _ => 0, g⟩ (fun r => ∀ c : Dev Cert.KernelDwIdeal.nD,
          r.2.mem ((c.tc : Thread Cert.KernelDwIdeal.nD Cert.KernelDwIdeal.τ).loc Cert.KernelDwIdeal.main_v0) = v0 c
          ∧ r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
          ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1))
      ∧ θ_run (Cert.ReferenceDwIdeal.defs (F := Ideal)) (onTc (τ := Cert.ReferenceDwIdeal.τ) (Cert.ReferenceDwIdeal.main (F := Ideal))) ⟨m', fun _ => 0, g'⟩ (fun r => ∀ c : Dev Cert.ReferenceDwIdeal.nD,
          r.2.mem ((c.tc : Thread Cert.ReferenceDwIdeal.nD Cert.ReferenceDwIdeal.τ).loc Cert.ReferenceDwIdeal.main_v6) = v0 c
          ∧ r.2.mem ((c.tc : Thread Cert.ReferenceDwIdeal.nD Cert.ReferenceDwIdeal.τ).loc Cert.ReferenceDwIdeal.main_arg0) = m' ((c.tc : Thread Cert.ReferenceDwIdeal.nD Cert.ReferenceDwIdeal.τ).loc Cert.ReferenceDwIdeal.main_arg0)
          ∧ r.2.mem ((c.tc : Thread Cert.ReferenceDwIdeal.nD Cert.ReferenceDwIdeal.τ).loc Cert.ReferenceDwIdeal.main_arg1) = m' ((c.tc : Thread Cert.ReferenceDwIdeal.nD Cert.ReferenceDwIdeal.τ).loc Cert.ReferenceDwIdeal.main_arg1))

def preserves_KernelDwZ_KernelDwZIdeal : Prop :=
  True

def algebraic_KernelDwZIdeal_ReferenceDwZIdeal [hKernelDwZIdeal : Cert.KernelDwZIdeal.Facts] [hReferenceDwZIdeal : Cert.ReferenceDwZIdeal.Facts] : Prop :=
  ∀ (m : (ℓ : Loc Cert.KernelDwZIdeal.nD Cert.KernelDwZIdeal.τ Cert.KernelDwZIdeal.sig) → Buf (Elt Ideal) ℓ) (g : Dev Cert.KernelDwZIdeal.nD → PrngReg)
    (m' : (ℓ : Loc Cert.ReferenceDwZIdeal.nD Cert.ReferenceDwZIdeal.τ Cert.ReferenceDwZIdeal.sig) → Buf (Elt Ideal) ℓ) (g' : Dev Cert.ReferenceDwZIdeal.nD → PrngReg), Pre_KernelDwZIdeal m →
    (∀ c : Dev Cert.KernelDwZIdeal.nD,
      m' ((c.tc : Thread Cert.ReferenceDwZIdeal.nD Cert.ReferenceDwZIdeal.τ).loc Cert.ReferenceDwZIdeal.main_arg0) = m ((c.tc : Thread Cert.KernelDwZIdeal.nD Cert.KernelDwZIdeal.τ).loc Cert.KernelDwZIdeal.main_arg0)
      ∧ m' ((c.tc : Thread Cert.ReferenceDwZIdeal.nD Cert.ReferenceDwZIdeal.τ).loc Cert.ReferenceDwZIdeal.main_arg1) = m ((c.tc : Thread Cert.KernelDwZIdeal.nD Cert.KernelDwZIdeal.τ).loc Cert.KernelDwZIdeal.main_arg1)) →
    ∃ (v0 : (c : Dev Cert.KernelDwZIdeal.nD) → Buf (Elt Ideal) ((c.tc : Thread Cert.KernelDwZIdeal.nD Cert.KernelDwZIdeal.τ).loc Cert.KernelDwZIdeal.main_v0)),
      θ_run (Cert.KernelDwZIdeal.defs (F := Ideal)) (onTc (τ := Cert.KernelDwZIdeal.τ) (Cert.KernelDwZIdeal.main (F := Ideal))) ⟨m, fun _ => 0, g⟩ (fun r => ∀ c : Dev Cert.KernelDwZIdeal.nD,
          r.2.mem ((c.tc : Thread Cert.KernelDwZIdeal.nD Cert.KernelDwZIdeal.τ).loc Cert.KernelDwZIdeal.main_v0) = v0 c
          ∧ r.2.mem ((c.tc : Thread Cert.KernelDwZIdeal.nD Cert.KernelDwZIdeal.τ).loc Cert.KernelDwZIdeal.main_arg0) = m ((c.tc : Thread Cert.KernelDwZIdeal.nD Cert.KernelDwZIdeal.τ).loc Cert.KernelDwZIdeal.main_arg0)
          ∧ r.2.mem ((c.tc : Thread Cert.KernelDwZIdeal.nD Cert.KernelDwZIdeal.τ).loc Cert.KernelDwZIdeal.main_arg1) = m ((c.tc : Thread Cert.KernelDwZIdeal.nD Cert.KernelDwZIdeal.τ).loc Cert.KernelDwZIdeal.main_arg1))
      ∧ θ_run (Cert.ReferenceDwZIdeal.defs (F := Ideal)) (onTc (τ := Cert.ReferenceDwZIdeal.τ) (Cert.ReferenceDwZIdeal.main (F := Ideal))) ⟨m', fun _ => 0, g'⟩ (fun r => ∀ c : Dev Cert.ReferenceDwZIdeal.nD,
          r.2.mem ((c.tc : Thread Cert.ReferenceDwZIdeal.nD Cert.ReferenceDwZIdeal.τ).loc Cert.ReferenceDwZIdeal.main_v6) = v0 c
          ∧ r.2.mem ((c.tc : Thread Cert.ReferenceDwZIdeal.nD Cert.ReferenceDwZIdeal.τ).loc Cert.ReferenceDwZIdeal.main_arg0) = m' ((c.tc : Thread Cert.ReferenceDwZIdeal.nD Cert.ReferenceDwZIdeal.τ).loc Cert.ReferenceDwZIdeal.main_arg0)
          ∧ r.2.mem ((c.tc : Thread Cert.ReferenceDwZIdeal.nD Cert.ReferenceDwZIdeal.τ).loc Cert.ReferenceDwZIdeal.main_arg1) = m' ((c.tc : Thread Cert.ReferenceDwZIdeal.nD Cert.ReferenceDwZIdeal.τ).loc Cert.ReferenceDwZIdeal.main_arg1))

def preserves_KernelDwXbc_KernelDwXbcIdeal : Prop :=
  True

def algebraic_KernelDwXbcIdeal_ReferenceDwXbcIdeal [hKernelDwXbcIdeal : Cert.KernelDwXbcIdeal.Facts] [hReferenceDwXbcIdeal : Cert.ReferenceDwXbcIdeal.Facts] : Prop :=
  ∀ (m : (ℓ : Loc Cert.KernelDwXbcIdeal.nD Cert.KernelDwXbcIdeal.τ Cert.KernelDwXbcIdeal.sig) → Buf (Elt Ideal) ℓ) (g : Dev Cert.KernelDwXbcIdeal.nD → PrngReg)
    (m' : (ℓ : Loc Cert.ReferenceDwXbcIdeal.nD Cert.ReferenceDwXbcIdeal.τ Cert.ReferenceDwXbcIdeal.sig) → Buf (Elt Ideal) ℓ) (g' : Dev Cert.ReferenceDwXbcIdeal.nD → PrngReg), Pre_KernelDwXbcIdeal m →
    (∀ c : Dev Cert.KernelDwXbcIdeal.nD,
      m' ((c.tc : Thread Cert.ReferenceDwXbcIdeal.nD Cert.ReferenceDwXbcIdeal.τ).loc Cert.ReferenceDwXbcIdeal.main_arg0) = m ((c.tc : Thread Cert.KernelDwXbcIdeal.nD Cert.KernelDwXbcIdeal.τ).loc Cert.KernelDwXbcIdeal.main_arg0)
      ∧ m' ((c.tc : Thread Cert.ReferenceDwXbcIdeal.nD Cert.ReferenceDwXbcIdeal.τ).loc Cert.ReferenceDwXbcIdeal.main_arg1) = m ((c.tc : Thread Cert.KernelDwXbcIdeal.nD Cert.KernelDwXbcIdeal.τ).loc Cert.KernelDwXbcIdeal.main_arg1)) →
    ∃ (v0 : (c : Dev Cert.KernelDwXbcIdeal.nD) → Buf (Elt Ideal) ((c.tc : Thread Cert.KernelDwXbcIdeal.nD Cert.KernelDwXbcIdeal.τ).loc Cert.KernelDwXbcIdeal.main_v0)),
      θ_run (Cert.KernelDwXbcIdeal.defs (F := Ideal)) (onTc (τ := Cert.KernelDwXbcIdeal.τ) (Cert.KernelDwXbcIdeal.main (F := Ideal))) ⟨m, fun _ => 0, g⟩ (fun r => ∀ c : Dev Cert.KernelDwXbcIdeal.nD,
          r.2.mem ((c.tc : Thread Cert.KernelDwXbcIdeal.nD Cert.KernelDwXbcIdeal.τ).loc Cert.KernelDwXbcIdeal.main_v0) = v0 c
          ∧ r.2.mem ((c.tc : Thread Cert.KernelDwXbcIdeal.nD Cert.KernelDwXbcIdeal.τ).loc Cert.KernelDwXbcIdeal.main_arg0) = m ((c.tc : Thread Cert.KernelDwXbcIdeal.nD Cert.KernelDwXbcIdeal.τ).loc Cert.KernelDwXbcIdeal.main_arg0)
          ∧ r.2.mem ((c.tc : Thread Cert.KernelDwXbcIdeal.nD Cert.KernelDwXbcIdeal.τ).loc Cert.KernelDwXbcIdeal.main_arg1) = m ((c.tc : Thread Cert.KernelDwXbcIdeal.nD Cert.KernelDwXbcIdeal.τ).loc Cert.KernelDwXbcIdeal.main_arg1))
      ∧ θ_run (Cert.ReferenceDwXbcIdeal.defs (F := Ideal)) (onTc (τ := Cert.ReferenceDwXbcIdeal.τ) (Cert.ReferenceDwXbcIdeal.main (F := Ideal))) ⟨m', fun _ => 0, g'⟩ (fun r => ∀ c : Dev Cert.ReferenceDwXbcIdeal.nD,
          r.2.mem ((c.tc : Thread Cert.ReferenceDwXbcIdeal.nD Cert.ReferenceDwXbcIdeal.τ).loc Cert.ReferenceDwXbcIdeal.main_v6) = v0 c
          ∧ r.2.mem ((c.tc : Thread Cert.ReferenceDwXbcIdeal.nD Cert.ReferenceDwXbcIdeal.τ).loc Cert.ReferenceDwXbcIdeal.main_arg0) = m' ((c.tc : Thread Cert.ReferenceDwXbcIdeal.nD Cert.ReferenceDwXbcIdeal.τ).loc Cert.ReferenceDwXbcIdeal.main_arg0)
          ∧ r.2.mem ((c.tc : Thread Cert.ReferenceDwXbcIdeal.nD Cert.ReferenceDwXbcIdeal.τ).loc Cert.ReferenceDwXbcIdeal.main_arg1) = m' ((c.tc : Thread Cert.ReferenceDwXbcIdeal.nD Cert.ReferenceDwXbcIdeal.τ).loc Cert.ReferenceDwXbcIdeal.main_arg1))

def preserves_KernelDwDt_KernelDwDtIdeal : Prop :=
  True

def algebraic_KernelDwDtIdeal_ReferenceDwDtIdeal [hKernelDwDtIdeal : Cert.KernelDwDtIdeal.Facts] [hReferenceDwDtIdeal : Cert.ReferenceDwDtIdeal.Facts] : Prop :=
  ∀ (m : (ℓ : Loc Cert.KernelDwDtIdeal.nD Cert.KernelDwDtIdeal.τ Cert.KernelDwDtIdeal.sig) → Buf (Elt Ideal) ℓ) (g : Dev Cert.KernelDwDtIdeal.nD → PrngReg)
    (m' : (ℓ : Loc Cert.ReferenceDwDtIdeal.nD Cert.ReferenceDwDtIdeal.τ Cert.ReferenceDwDtIdeal.sig) → Buf (Elt Ideal) ℓ) (g' : Dev Cert.ReferenceDwDtIdeal.nD → PrngReg), Pre_KernelDwDtIdeal m →
    (∀ c : Dev Cert.KernelDwDtIdeal.nD,
      m' ((c.tc : Thread Cert.ReferenceDwDtIdeal.nD Cert.ReferenceDwDtIdeal.τ).loc Cert.ReferenceDwDtIdeal.main_arg0) = m ((c.tc : Thread Cert.KernelDwDtIdeal.nD Cert.KernelDwDtIdeal.τ).loc Cert.KernelDwDtIdeal.main_arg0)
      ∧ m' ((c.tc : Thread Cert.ReferenceDwDtIdeal.nD Cert.ReferenceDwDtIdeal.τ).loc Cert.ReferenceDwDtIdeal.main_arg1) = m ((c.tc : Thread Cert.KernelDwDtIdeal.nD Cert.KernelDwDtIdeal.τ).loc Cert.KernelDwDtIdeal.main_arg1)) →
    ∃ (v0 : (c : Dev Cert.KernelDwDtIdeal.nD) → Buf (Elt Ideal) ((c.tc : Thread Cert.KernelDwDtIdeal.nD Cert.KernelDwDtIdeal.τ).loc Cert.KernelDwDtIdeal.main_v0)),
      θ_run (Cert.KernelDwDtIdeal.defs (F := Ideal)) (onTc (τ := Cert.KernelDwDtIdeal.τ) (Cert.KernelDwDtIdeal.main (F := Ideal))) ⟨m, fun _ => 0, g⟩ (fun r => ∀ c : Dev Cert.KernelDwDtIdeal.nD,
          r.2.mem ((c.tc : Thread Cert.KernelDwDtIdeal.nD Cert.KernelDwDtIdeal.τ).loc Cert.KernelDwDtIdeal.main_v0) = v0 c
          ∧ r.2.mem ((c.tc : Thread Cert.KernelDwDtIdeal.nD Cert.KernelDwDtIdeal.τ).loc Cert.KernelDwDtIdeal.main_arg0) = m ((c.tc : Thread Cert.KernelDwDtIdeal.nD Cert.KernelDwDtIdeal.τ).loc Cert.KernelDwDtIdeal.main_arg0)
          ∧ r.2.mem ((c.tc : Thread Cert.KernelDwDtIdeal.nD Cert.KernelDwDtIdeal.τ).loc Cert.KernelDwDtIdeal.main_arg1) = m ((c.tc : Thread Cert.KernelDwDtIdeal.nD Cert.KernelDwDtIdeal.τ).loc Cert.KernelDwDtIdeal.main_arg1))
      ∧ θ_run (Cert.ReferenceDwDtIdeal.defs (F := Ideal)) (onTc (τ := Cert.ReferenceDwDtIdeal.τ) (Cert.ReferenceDwDtIdeal.main (F := Ideal))) ⟨m', fun _ => 0, g'⟩ (fun r => ∀ c : Dev Cert.ReferenceDwDtIdeal.nD,
          r.2.mem ((c.tc : Thread Cert.ReferenceDwDtIdeal.nD Cert.ReferenceDwDtIdeal.τ).loc Cert.ReferenceDwDtIdeal.main_v6) = v0 c
          ∧ r.2.mem ((c.tc : Thread Cert.ReferenceDwDtIdeal.nD Cert.ReferenceDwDtIdeal.τ).loc Cert.ReferenceDwDtIdeal.main_arg0) = m' ((c.tc : Thread Cert.ReferenceDwDtIdeal.nD Cert.ReferenceDwDtIdeal.τ).loc Cert.ReferenceDwDtIdeal.main_arg0)
          ∧ r.2.mem ((c.tc : Thread Cert.ReferenceDwDtIdeal.nD Cert.ReferenceDwDtIdeal.τ).loc Cert.ReferenceDwDtIdeal.main_arg1) = m' ((c.tc : Thread Cert.ReferenceDwDtIdeal.nD Cert.ReferenceDwDtIdeal.τ).loc Cert.ReferenceDwDtIdeal.main_arg1))

def preserves_KernelDwFfnOut_KernelDwFfnOutIdeal : Prop :=
  True

def algebraic_KernelDwFfnOutIdeal_ReferenceDwFfnOutIdeal [hKernelDwFfnOutIdeal : Cert.KernelDwFfnOutIdeal.Facts] [hReferenceDwFfnOutIdeal : Cert.ReferenceDwFfnOutIdeal.Facts] : Prop :=
  ∀ (m : (ℓ : Loc Cert.KernelDwFfnOutIdeal.nD Cert.KernelDwFfnOutIdeal.τ Cert.KernelDwFfnOutIdeal.sig) → Buf (Elt Ideal) ℓ) (g : Dev Cert.KernelDwFfnOutIdeal.nD → PrngReg)
    (m' : (ℓ : Loc Cert.ReferenceDwFfnOutIdeal.nD Cert.ReferenceDwFfnOutIdeal.τ Cert.ReferenceDwFfnOutIdeal.sig) → Buf (Elt Ideal) ℓ) (g' : Dev Cert.ReferenceDwFfnOutIdeal.nD → PrngReg), Pre_KernelDwFfnOutIdeal m →
    (∀ c : Dev Cert.KernelDwFfnOutIdeal.nD,
      m' ((c.tc : Thread Cert.ReferenceDwFfnOutIdeal.nD Cert.ReferenceDwFfnOutIdeal.τ).loc Cert.ReferenceDwFfnOutIdeal.main_arg0) = m ((c.tc : Thread Cert.KernelDwFfnOutIdeal.nD Cert.KernelDwFfnOutIdeal.τ).loc Cert.KernelDwFfnOutIdeal.main_arg0)
      ∧ m' ((c.tc : Thread Cert.ReferenceDwFfnOutIdeal.nD Cert.ReferenceDwFfnOutIdeal.τ).loc Cert.ReferenceDwFfnOutIdeal.main_arg1) = m ((c.tc : Thread Cert.KernelDwFfnOutIdeal.nD Cert.KernelDwFfnOutIdeal.τ).loc Cert.KernelDwFfnOutIdeal.main_arg1)) →
    ∃ (v0 : (c : Dev Cert.KernelDwFfnOutIdeal.nD) → Buf (Elt Ideal) ((c.tc : Thread Cert.KernelDwFfnOutIdeal.nD Cert.KernelDwFfnOutIdeal.τ).loc Cert.KernelDwFfnOutIdeal.main_v0)),
      θ_run (Cert.KernelDwFfnOutIdeal.defs (F := Ideal)) (onTc (τ := Cert.KernelDwFfnOutIdeal.τ) (Cert.KernelDwFfnOutIdeal.main (F := Ideal))) ⟨m, fun _ => 0, g⟩ (fun r => ∀ c : Dev Cert.KernelDwFfnOutIdeal.nD,
          r.2.mem ((c.tc : Thread Cert.KernelDwFfnOutIdeal.nD Cert.KernelDwFfnOutIdeal.τ).loc Cert.KernelDwFfnOutIdeal.main_v0) = v0 c
          ∧ r.2.mem ((c.tc : Thread Cert.KernelDwFfnOutIdeal.nD Cert.KernelDwFfnOutIdeal.τ).loc Cert.KernelDwFfnOutIdeal.main_arg0) = m ((c.tc : Thread Cert.KernelDwFfnOutIdeal.nD Cert.KernelDwFfnOutIdeal.τ).loc Cert.KernelDwFfnOutIdeal.main_arg0)
          ∧ r.2.mem ((c.tc : Thread Cert.KernelDwFfnOutIdeal.nD Cert.KernelDwFfnOutIdeal.τ).loc Cert.KernelDwFfnOutIdeal.main_arg1) = m ((c.tc : Thread Cert.KernelDwFfnOutIdeal.nD Cert.KernelDwFfnOutIdeal.τ).loc Cert.KernelDwFfnOutIdeal.main_arg1))
      ∧ θ_run (Cert.ReferenceDwFfnOutIdeal.defs (F := Ideal)) (onTc (τ := Cert.ReferenceDwFfnOutIdeal.τ) (Cert.ReferenceDwFfnOutIdeal.main (F := Ideal))) ⟨m', fun _ => 0, g'⟩ (fun r => ∀ c : Dev Cert.ReferenceDwFfnOutIdeal.nD,
          r.2.mem ((c.tc : Thread Cert.ReferenceDwFfnOutIdeal.nD Cert.ReferenceDwFfnOutIdeal.τ).loc Cert.ReferenceDwFfnOutIdeal.main_v6) = v0 c
          ∧ r.2.mem ((c.tc : Thread Cert.ReferenceDwFfnOutIdeal.nD Cert.ReferenceDwFfnOutIdeal.τ).loc Cert.ReferenceDwFfnOutIdeal.main_arg0) = m' ((c.tc : Thread Cert.ReferenceDwFfnOutIdeal.nD Cert.ReferenceDwFfnOutIdeal.τ).loc Cert.ReferenceDwFfnOutIdeal.main_arg0)
          ∧ r.2.mem ((c.tc : Thread Cert.ReferenceDwFfnOutIdeal.nD Cert.ReferenceDwFfnOutIdeal.τ).loc Cert.ReferenceDwFfnOutIdeal.main_arg1) = m' ((c.tc : Thread Cert.ReferenceDwFfnOutIdeal.nD Cert.ReferenceDwFfnOutIdeal.τ).loc Cert.ReferenceDwFfnOutIdeal.main_arg1))

def preserves_KernelDwFfnIn_KernelDwFfnInIdeal : Prop :=
  True

def algebraic_KernelDwFfnInIdeal_ReferenceDwFfnInIdeal [hKernelDwFfnInIdeal : Cert.KernelDwFfnInIdeal.Facts] [hReferenceDwFfnInIdeal : Cert.ReferenceDwFfnInIdeal.Facts] : Prop :=
  ∀ (m : (ℓ : Loc Cert.KernelDwFfnInIdeal.nD Cert.KernelDwFfnInIdeal.τ Cert.KernelDwFfnInIdeal.sig) → Buf (Elt Ideal) ℓ) (g : Dev Cert.KernelDwFfnInIdeal.nD → PrngReg)
    (m' : (ℓ : Loc Cert.ReferenceDwFfnInIdeal.nD Cert.ReferenceDwFfnInIdeal.τ Cert.ReferenceDwFfnInIdeal.sig) → Buf (Elt Ideal) ℓ) (g' : Dev Cert.ReferenceDwFfnInIdeal.nD → PrngReg), Pre_KernelDwFfnInIdeal m →
    (∀ c : Dev Cert.KernelDwFfnInIdeal.nD,
      m' ((c.tc : Thread Cert.ReferenceDwFfnInIdeal.nD Cert.ReferenceDwFfnInIdeal.τ).loc Cert.ReferenceDwFfnInIdeal.main_arg0) = m ((c.tc : Thread Cert.KernelDwFfnInIdeal.nD Cert.KernelDwFfnInIdeal.τ).loc Cert.KernelDwFfnInIdeal.main_arg0)
      ∧ m' ((c.tc : Thread Cert.ReferenceDwFfnInIdeal.nD Cert.ReferenceDwFfnInIdeal.τ).loc Cert.ReferenceDwFfnInIdeal.main_arg1) = m ((c.tc : Thread Cert.KernelDwFfnInIdeal.nD Cert.KernelDwFfnInIdeal.τ).loc Cert.KernelDwFfnInIdeal.main_arg1)) →
    ∃ (v0 : (c : Dev Cert.KernelDwFfnInIdeal.nD) → Buf (Elt Ideal) ((c.tc : Thread Cert.KernelDwFfnInIdeal.nD Cert.KernelDwFfnInIdeal.τ).loc Cert.KernelDwFfnInIdeal.main_v0)),
      θ_run (Cert.KernelDwFfnInIdeal.defs (F := Ideal)) (onTc (τ := Cert.KernelDwFfnInIdeal.τ) (Cert.KernelDwFfnInIdeal.main (F := Ideal))) ⟨m, fun _ => 0, g⟩ (fun r => ∀ c : Dev Cert.KernelDwFfnInIdeal.nD,
          r.2.mem ((c.tc : Thread Cert.KernelDwFfnInIdeal.nD Cert.KernelDwFfnInIdeal.τ).loc Cert.KernelDwFfnInIdeal.main_v0) = v0 c
          ∧ r.2.mem ((c.tc : Thread Cert.KernelDwFfnInIdeal.nD Cert.KernelDwFfnInIdeal.τ).loc Cert.KernelDwFfnInIdeal.main_arg0) = m ((c.tc : Thread Cert.KernelDwFfnInIdeal.nD Cert.KernelDwFfnInIdeal.τ).loc Cert.KernelDwFfnInIdeal.main_arg0)
          ∧ r.2.mem ((c.tc : Thread Cert.KernelDwFfnInIdeal.nD Cert.KernelDwFfnInIdeal.τ).loc Cert.KernelDwFfnInIdeal.main_arg1) = m ((c.tc : Thread Cert.KernelDwFfnInIdeal.nD Cert.KernelDwFfnInIdeal.τ).loc Cert.KernelDwFfnInIdeal.main_arg1))
      ∧ θ_run (Cert.ReferenceDwFfnInIdeal.defs (F := Ideal)) (onTc (τ := Cert.ReferenceDwFfnInIdeal.τ) (Cert.ReferenceDwFfnInIdeal.main (F := Ideal))) ⟨m', fun _ => 0, g'⟩ (fun r => ∀ c : Dev Cert.ReferenceDwFfnInIdeal.nD,
          r.2.mem ((c.tc : Thread Cert.ReferenceDwFfnInIdeal.nD Cert.ReferenceDwFfnInIdeal.τ).loc Cert.ReferenceDwFfnInIdeal.main_v7) = v0 c
          ∧ r.2.mem ((c.tc : Thread Cert.ReferenceDwFfnInIdeal.nD Cert.ReferenceDwFfnInIdeal.τ).loc Cert.ReferenceDwFfnInIdeal.main_arg0) = m' ((c.tc : Thread Cert.ReferenceDwFfnInIdeal.nD Cert.ReferenceDwFfnInIdeal.τ).loc Cert.ReferenceDwFfnInIdeal.main_arg0)
          ∧ r.2.mem ((c.tc : Thread Cert.ReferenceDwFfnInIdeal.nD Cert.ReferenceDwFfnInIdeal.τ).loc Cert.ReferenceDwFfnInIdeal.main_arg1) = m' ((c.tc : Thread Cert.ReferenceDwFfnInIdeal.nD Cert.ReferenceDwFfnInIdeal.τ).loc Cert.ReferenceDwFfnInIdeal.main_arg1))

def preserves_KernelDwBrb_KernelDwBrbIdeal : Prop :=
  True

def algebraic_KernelDwBrbIdeal_ReferenceDwBrbIdeal [hKernelDwBrbIdeal : Cert.KernelDwBrbIdeal.Facts] [hReferenceDwBrbIdeal : Cert.ReferenceDwBrbIdeal.Facts] : Prop :=
  ∀ (m : (ℓ : Loc Cert.KernelDwBrbIdeal.nD Cert.KernelDwBrbIdeal.τ Cert.KernelDwBrbIdeal.sig) → Buf (Elt Ideal) ℓ) (g : Dev Cert.KernelDwBrbIdeal.nD → PrngReg)
    (m' : (ℓ : Loc Cert.ReferenceDwBrbIdeal.nD Cert.ReferenceDwBrbIdeal.τ Cert.ReferenceDwBrbIdeal.sig) → Buf (Elt Ideal) ℓ) (g' : Dev Cert.ReferenceDwBrbIdeal.nD → PrngReg), Pre_KernelDwBrbIdeal m →
    (∀ c : Dev Cert.KernelDwBrbIdeal.nD,
      m' ((c.tc : Thread Cert.ReferenceDwBrbIdeal.nD Cert.ReferenceDwBrbIdeal.τ).loc Cert.ReferenceDwBrbIdeal.main_arg0) = m ((c.tc : Thread Cert.KernelDwBrbIdeal.nD Cert.KernelDwBrbIdeal.τ).loc Cert.KernelDwBrbIdeal.main_arg0)
      ∧ m' ((c.tc : Thread Cert.ReferenceDwBrbIdeal.nD Cert.ReferenceDwBrbIdeal.τ).loc Cert.ReferenceDwBrbIdeal.main_arg1) = m ((c.tc : Thread Cert.KernelDwBrbIdeal.nD Cert.KernelDwBrbIdeal.τ).loc Cert.KernelDwBrbIdeal.main_arg1)) →
    ∃ (v0 : (c : Dev Cert.KernelDwBrbIdeal.nD) → Buf (Elt Ideal) ((c.tc : Thread Cert.KernelDwBrbIdeal.nD Cert.KernelDwBrbIdeal.τ).loc Cert.KernelDwBrbIdeal.main_v0)),
      θ_run (Cert.KernelDwBrbIdeal.defs (F := Ideal)) (onTc (τ := Cert.KernelDwBrbIdeal.τ) (Cert.KernelDwBrbIdeal.main (F := Ideal))) ⟨m, fun _ => 0, g⟩ (fun r => ∀ c : Dev Cert.KernelDwBrbIdeal.nD,
          r.2.mem ((c.tc : Thread Cert.KernelDwBrbIdeal.nD Cert.KernelDwBrbIdeal.τ).loc Cert.KernelDwBrbIdeal.main_v0) = v0 c
          ∧ r.2.mem ((c.tc : Thread Cert.KernelDwBrbIdeal.nD Cert.KernelDwBrbIdeal.τ).loc Cert.KernelDwBrbIdeal.main_arg0) = m ((c.tc : Thread Cert.KernelDwBrbIdeal.nD Cert.KernelDwBrbIdeal.τ).loc Cert.KernelDwBrbIdeal.main_arg0)
          ∧ r.2.mem ((c.tc : Thread Cert.KernelDwBrbIdeal.nD Cert.KernelDwBrbIdeal.τ).loc Cert.KernelDwBrbIdeal.main_arg1) = m ((c.tc : Thread Cert.KernelDwBrbIdeal.nD Cert.KernelDwBrbIdeal.τ).loc Cert.KernelDwBrbIdeal.main_arg1))
      ∧ θ_run (Cert.ReferenceDwBrbIdeal.defs (F := Ideal)) (onTc (τ := Cert.ReferenceDwBrbIdeal.τ) (Cert.ReferenceDwBrbIdeal.main (F := Ideal))) ⟨m', fun _ => 0, g'⟩ (fun r => ∀ c : Dev Cert.ReferenceDwBrbIdeal.nD,
          r.2.mem ((c.tc : Thread Cert.ReferenceDwBrbIdeal.nD Cert.ReferenceDwBrbIdeal.τ).loc Cert.ReferenceDwBrbIdeal.main_v6) = v0 c
          ∧ r.2.mem ((c.tc : Thread Cert.ReferenceDwBrbIdeal.nD Cert.ReferenceDwBrbIdeal.τ).loc Cert.ReferenceDwBrbIdeal.main_arg0) = m' ((c.tc : Thread Cert.ReferenceDwBrbIdeal.nD Cert.ReferenceDwBrbIdeal.τ).loc Cert.ReferenceDwBrbIdeal.main_arg0)
          ∧ r.2.mem ((c.tc : Thread Cert.ReferenceDwBrbIdeal.nD Cert.ReferenceDwBrbIdeal.τ).loc Cert.ReferenceDwBrbIdeal.main_arg1) = m' ((c.tc : Thread Cert.ReferenceDwBrbIdeal.nD Cert.ReferenceDwBrbIdeal.τ).loc Cert.ReferenceDwBrbIdeal.main_arg1))

def preserves_KernelDAct_KernelDActIdeal : Prop :=
  True

def algebraic_KernelDActIdeal_ReferenceDActIdeal [hKernelDActIdeal : Cert.KernelDActIdeal.Facts] [hReferenceDActIdeal : Cert.ReferenceDActIdeal.Facts] : Prop :=
  ∀ (m : (ℓ : Loc Cert.KernelDActIdeal.nD Cert.KernelDActIdeal.τ Cert.KernelDActIdeal.sig) → Buf (Elt Ideal) ℓ) (g : Dev Cert.KernelDActIdeal.nD → PrngReg)
    (m' : (ℓ : Loc Cert.ReferenceDActIdeal.nD Cert.ReferenceDActIdeal.τ Cert.ReferenceDActIdeal.sig) → Buf (Elt Ideal) ℓ) (g' : Dev Cert.ReferenceDActIdeal.nD → PrngReg), Pre_KernelDActIdeal m →
    (∀ c : Dev Cert.KernelDActIdeal.nD,
      m' ((c.tc : Thread Cert.ReferenceDActIdeal.nD Cert.ReferenceDActIdeal.τ).loc Cert.ReferenceDActIdeal.main_arg0) = m ((c.tc : Thread Cert.KernelDActIdeal.nD Cert.KernelDActIdeal.τ).loc Cert.KernelDActIdeal.main_arg0)
      ∧ m' ((c.tc : Thread Cert.ReferenceDActIdeal.nD Cert.ReferenceDActIdeal.τ).loc Cert.ReferenceDActIdeal.main_arg1) = m ((c.tc : Thread Cert.KernelDActIdeal.nD Cert.KernelDActIdeal.τ).loc Cert.KernelDActIdeal.main_arg1)) →
    ∃ (v0 : (c : Dev Cert.KernelDActIdeal.nD) → Buf (Elt Ideal) ((c.tc : Thread Cert.KernelDActIdeal.nD Cert.KernelDActIdeal.τ).loc Cert.KernelDActIdeal.main_v0)),
      θ_run (Cert.KernelDActIdeal.defs (F := Ideal)) (onTc (τ := Cert.KernelDActIdeal.τ) (Cert.KernelDActIdeal.main (F := Ideal))) ⟨m, fun _ => 0, g⟩ (fun r => ∀ c : Dev Cert.KernelDActIdeal.nD,
          r.2.mem ((c.tc : Thread Cert.KernelDActIdeal.nD Cert.KernelDActIdeal.τ).loc Cert.KernelDActIdeal.main_v0) = v0 c
          ∧ r.2.mem ((c.tc : Thread Cert.KernelDActIdeal.nD Cert.KernelDActIdeal.τ).loc Cert.KernelDActIdeal.main_arg0) = m ((c.tc : Thread Cert.KernelDActIdeal.nD Cert.KernelDActIdeal.τ).loc Cert.KernelDActIdeal.main_arg0)
          ∧ r.2.mem ((c.tc : Thread Cert.KernelDActIdeal.nD Cert.KernelDActIdeal.τ).loc Cert.KernelDActIdeal.main_arg1) = m ((c.tc : Thread Cert.KernelDActIdeal.nD Cert.KernelDActIdeal.τ).loc Cert.KernelDActIdeal.main_arg1))
      ∧ θ_run (Cert.ReferenceDActIdeal.defs (F := Ideal)) (onTc (τ := Cert.ReferenceDActIdeal.τ) (Cert.ReferenceDActIdeal.main (F := Ideal))) ⟨m', fun _ => 0, g'⟩ (fun r => ∀ c : Dev Cert.ReferenceDActIdeal.nD,
          r.2.mem ((c.tc : Thread Cert.ReferenceDActIdeal.nD Cert.ReferenceDActIdeal.τ).loc Cert.ReferenceDActIdeal.main_v5) = v0 c
          ∧ r.2.mem ((c.tc : Thread Cert.ReferenceDActIdeal.nD Cert.ReferenceDActIdeal.τ).loc Cert.ReferenceDActIdeal.main_arg0) = m' ((c.tc : Thread Cert.ReferenceDActIdeal.nD Cert.ReferenceDActIdeal.τ).loc Cert.ReferenceDActIdeal.main_arg0)
          ∧ r.2.mem ((c.tc : Thread Cert.ReferenceDActIdeal.nD Cert.ReferenceDActIdeal.τ).loc Cert.ReferenceDActIdeal.main_arg1) = m' ((c.tc : Thread Cert.ReferenceDActIdeal.nD Cert.ReferenceDActIdeal.τ).loc Cert.ReferenceDActIdeal.main_arg1))

def preserves_KernelDx_KernelDxIdeal : Prop :=
  True

def algebraic_KernelDxIdeal_ReferenceDxIdeal [hKernelDxIdeal : Cert.KernelDxIdeal.Facts] [hReferenceDxIdeal : Cert.ReferenceDxIdeal.Facts] : Prop :=
  ∀ (m : (ℓ : Loc Cert.KernelDxIdeal.nD Cert.KernelDxIdeal.τ Cert.KernelDxIdeal.sig) → Buf (Elt Ideal) ℓ) (g : Dev Cert.KernelDxIdeal.nD → PrngReg)
    (m' : (ℓ : Loc Cert.ReferenceDxIdeal.nD Cert.ReferenceDxIdeal.τ Cert.ReferenceDxIdeal.sig) → Buf (Elt Ideal) ℓ) (g' : Dev Cert.ReferenceDxIdeal.nD → PrngReg), Pre_KernelDxIdeal m →
    (∀ c : Dev Cert.KernelDxIdeal.nD,
      m' ((c.tc : Thread Cert.ReferenceDxIdeal.nD Cert.ReferenceDxIdeal.τ).loc Cert.ReferenceDxIdeal.main_arg0) = m ((c.tc : Thread Cert.KernelDxIdeal.nD Cert.KernelDxIdeal.τ).loc Cert.KernelDxIdeal.main_arg0)
      ∧ m' ((c.tc : Thread Cert.ReferenceDxIdeal.nD Cert.ReferenceDxIdeal.τ).loc Cert.ReferenceDxIdeal.main_arg1) = m ((c.tc : Thread Cert.KernelDxIdeal.nD Cert.KernelDxIdeal.τ).loc Cert.KernelDxIdeal.main_arg1)) →
    ∃ (v0 : (c : Dev Cert.KernelDxIdeal.nD) → Buf (Elt Ideal) ((c.tc : Thread Cert.KernelDxIdeal.nD Cert.KernelDxIdeal.τ).loc Cert.KernelDxIdeal.main_v0)),
      θ_run (Cert.KernelDxIdeal.defs (F := Ideal)) (onTc (τ := Cert.KernelDxIdeal.τ) (Cert.KernelDxIdeal.main (F := Ideal))) ⟨m, fun _ => 0, g⟩ (fun r => ∀ c : Dev Cert.KernelDxIdeal.nD,
          r.2.mem ((c.tc : Thread Cert.KernelDxIdeal.nD Cert.KernelDxIdeal.τ).loc Cert.KernelDxIdeal.main_v0) = v0 c
          ∧ r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
          ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1))
      ∧ θ_run (Cert.ReferenceDxIdeal.defs (F := Ideal)) (onTc (τ := Cert.ReferenceDxIdeal.τ) (Cert.ReferenceDxIdeal.main (F := Ideal))) ⟨m', fun _ => 0, g'⟩ (fun r => ∀ c : Dev Cert.ReferenceDxIdeal.nD,
          r.2.mem ((c.tc : Thread Cert.ReferenceDxIdeal.nD Cert.ReferenceDxIdeal.τ).loc Cert.ReferenceDxIdeal.main_v5) = v0 c
          ∧ r.2.mem ((c.tc : Thread Cert.ReferenceDxIdeal.nD Cert.ReferenceDxIdeal.τ).loc Cert.ReferenceDxIdeal.main_arg0) = m' ((c.tc : Thread Cert.ReferenceDxIdeal.nD Cert.ReferenceDxIdeal.τ).loc Cert.ReferenceDxIdeal.main_arg0)
          ∧ r.2.mem ((c.tc : Thread Cert.ReferenceDxIdeal.nD Cert.ReferenceDxIdeal.τ).loc Cert.ReferenceDxIdeal.main_arg1) = m' ((c.tc : Thread Cert.ReferenceDxIdeal.nD Cert.ReferenceDxIdeal.τ).loc Cert.ReferenceDxIdeal.main_arg1))

def preserves_KernelDYb_KernelDYbIdeal : Prop :=
  True

def algebraic_KernelDYbIdeal_ReferenceDYbIdeal [hKernelDYbIdeal : Cert.KernelDYbIdeal.Facts] [hReferenceDYbIdeal : Cert.ReferenceDYbIdeal.Facts] : Prop :=
  ∀ (m : (ℓ : Loc Cert.KernelDYbIdeal.nD Cert.KernelDYbIdeal.τ Cert.KernelDYbIdeal.sig) → Buf (Elt Ideal) ℓ) (g : Dev Cert.KernelDYbIdeal.nD → PrngReg)
    (m' : (ℓ : Loc Cert.ReferenceDYbIdeal.nD Cert.ReferenceDYbIdeal.τ Cert.ReferenceDYbIdeal.sig) → Buf (Elt Ideal) ℓ) (g' : Dev Cert.ReferenceDYbIdeal.nD → PrngReg), Pre_KernelDYbIdeal m →
    (∀ c : Dev Cert.KernelDYbIdeal.nD,
      m' ((c.tc : Thread Cert.ReferenceDYbIdeal.nD Cert.ReferenceDYbIdeal.τ).loc Cert.ReferenceDYbIdeal.main_arg0) = m ((c.tc : Thread Cert.KernelDYbIdeal.nD Cert.KernelDYbIdeal.τ).loc Cert.KernelDYbIdeal.main_arg0)
      ∧ m' ((c.tc : Thread Cert.ReferenceDYbIdeal.nD Cert.ReferenceDYbIdeal.τ).loc Cert.ReferenceDYbIdeal.main_arg1) = m ((c.tc : Thread Cert.KernelDYbIdeal.nD Cert.KernelDYbIdeal.τ).loc Cert.KernelDYbIdeal.main_arg1)) →
    ∃ (v0 : (c : Dev Cert.KernelDYbIdeal.nD) → Buf (Elt Ideal) ((c.tc : Thread Cert.KernelDYbIdeal.nD Cert.KernelDYbIdeal.τ).loc Cert.KernelDYbIdeal.main_v0)),
      θ_run (Cert.KernelDYbIdeal.defs (F := Ideal)) (onTc (τ := Cert.KernelDYbIdeal.τ) (Cert.KernelDYbIdeal.main (F := Ideal))) ⟨m, fun _ => 0, g⟩ (fun r => ∀ c : Dev Cert.KernelDYbIdeal.nD,
          r.2.mem ((c.tc : Thread Cert.KernelDYbIdeal.nD Cert.KernelDYbIdeal.τ).loc Cert.KernelDYbIdeal.main_v0) = v0 c
          ∧ r.2.mem ((c.tc : Thread Cert.KernelDYbIdeal.nD Cert.KernelDYbIdeal.τ).loc Cert.KernelDYbIdeal.main_arg0) = m ((c.tc : Thread Cert.KernelDYbIdeal.nD Cert.KernelDYbIdeal.τ).loc Cert.KernelDYbIdeal.main_arg0)
          ∧ r.2.mem ((c.tc : Thread Cert.KernelDYbIdeal.nD Cert.KernelDYbIdeal.τ).loc Cert.KernelDYbIdeal.main_arg1) = m ((c.tc : Thread Cert.KernelDYbIdeal.nD Cert.KernelDYbIdeal.τ).loc Cert.KernelDYbIdeal.main_arg1))
      ∧ θ_run (Cert.ReferenceDYbIdeal.defs (F := Ideal)) (onTc (τ := Cert.ReferenceDYbIdeal.τ) (Cert.ReferenceDYbIdeal.main (F := Ideal))) ⟨m', fun _ => 0, g'⟩ (fun r => ∀ c : Dev Cert.ReferenceDYbIdeal.nD,
          r.2.mem ((c.tc : Thread Cert.ReferenceDYbIdeal.nD Cert.ReferenceDYbIdeal.τ).loc Cert.ReferenceDYbIdeal.main_v5) = v0 c
          ∧ r.2.mem ((c.tc : Thread Cert.ReferenceDYbIdeal.nD Cert.ReferenceDYbIdeal.τ).loc Cert.ReferenceDYbIdeal.main_arg0) = m' ((c.tc : Thread Cert.ReferenceDYbIdeal.nD Cert.ReferenceDYbIdeal.τ).loc Cert.ReferenceDYbIdeal.main_arg0)
          ∧ r.2.mem ((c.tc : Thread Cert.ReferenceDYbIdeal.nD Cert.ReferenceDYbIdeal.τ).loc Cert.ReferenceDYbIdeal.main_arg1) = m' ((c.tc : Thread Cert.ReferenceDYbIdeal.nD Cert.ReferenceDYbIdeal.τ).loc Cert.ReferenceDYbIdeal.main_arg1))

def preserves_KernelDXn2_KernelDXn2Ideal : Prop :=
  True

def algebraic_KernelDXn2Ideal_ReferenceDXn2Ideal [hKernelDXn2Ideal : Cert.KernelDXn2Ideal.Facts] [hReferenceDXn2Ideal : Cert.ReferenceDXn2Ideal.Facts] : Prop :=
  ∀ (m : (ℓ : Loc Cert.KernelDXn2Ideal.nD Cert.KernelDXn2Ideal.τ Cert.KernelDXn2Ideal.sig) → Buf (Elt Ideal) ℓ) (g : Dev Cert.KernelDXn2Ideal.nD → PrngReg)
    (m' : (ℓ : Loc Cert.ReferenceDXn2Ideal.nD Cert.ReferenceDXn2Ideal.τ Cert.ReferenceDXn2Ideal.sig) → Buf (Elt Ideal) ℓ) (g' : Dev Cert.ReferenceDXn2Ideal.nD → PrngReg), Pre_KernelDXn2Ideal m →
    (∀ c : Dev Cert.KernelDXn2Ideal.nD,
      m' ((c.tc : Thread Cert.ReferenceDXn2Ideal.nD Cert.ReferenceDXn2Ideal.τ).loc Cert.ReferenceDXn2Ideal.main_arg0) = m ((c.tc : Thread Cert.KernelDXn2Ideal.nD Cert.KernelDXn2Ideal.τ).loc Cert.KernelDXn2Ideal.main_arg0)
      ∧ m' ((c.tc : Thread Cert.ReferenceDXn2Ideal.nD Cert.ReferenceDXn2Ideal.τ).loc Cert.ReferenceDXn2Ideal.main_arg1) = m ((c.tc : Thread Cert.KernelDXn2Ideal.nD Cert.KernelDXn2Ideal.τ).loc Cert.KernelDXn2Ideal.main_arg1)) →
    ∃ (v0 : (c : Dev Cert.KernelDXn2Ideal.nD) → Buf (Elt Ideal) ((c.tc : Thread Cert.KernelDXn2Ideal.nD Cert.KernelDXn2Ideal.τ).loc Cert.KernelDXn2Ideal.main_v0)),
      θ_run (Cert.KernelDXn2Ideal.defs (F := Ideal)) (onTc (τ := Cert.KernelDXn2Ideal.τ) (Cert.KernelDXn2Ideal.main (F := Ideal))) ⟨m, fun _ => 0, g⟩ (fun r => ∀ c : Dev Cert.KernelDXn2Ideal.nD,
          r.2.mem ((c.tc : Thread Cert.KernelDXn2Ideal.nD Cert.KernelDXn2Ideal.τ).loc Cert.KernelDXn2Ideal.main_v0) = v0 c
          ∧ r.2.mem ((c.tc : Thread Cert.KernelDXn2Ideal.nD Cert.KernelDXn2Ideal.τ).loc Cert.KernelDXn2Ideal.main_arg0) = m ((c.tc : Thread Cert.KernelDXn2Ideal.nD Cert.KernelDXn2Ideal.τ).loc Cert.KernelDXn2Ideal.main_arg0)
          ∧ r.2.mem ((c.tc : Thread Cert.KernelDXn2Ideal.nD Cert.KernelDXn2Ideal.τ).loc Cert.KernelDXn2Ideal.main_arg1) = m ((c.tc : Thread Cert.KernelDXn2Ideal.nD Cert.KernelDXn2Ideal.τ).loc Cert.KernelDXn2Ideal.main_arg1))
      ∧ θ_run (Cert.ReferenceDXn2Ideal.defs (F := Ideal)) (onTc (τ := Cert.ReferenceDXn2Ideal.τ) (Cert.ReferenceDXn2Ideal.main (F := Ideal))) ⟨m', fun _ => 0, g'⟩ (fun r => ∀ c : Dev Cert.ReferenceDXn2Ideal.nD,
          r.2.mem ((c.tc : Thread Cert.ReferenceDXn2Ideal.nD Cert.ReferenceDXn2Ideal.τ).loc Cert.ReferenceDXn2Ideal.main_v5) = v0 c
          ∧ r.2.mem ((c.tc : Thread Cert.ReferenceDXn2Ideal.nD Cert.ReferenceDXn2Ideal.τ).loc Cert.ReferenceDXn2Ideal.main_arg0) = m' ((c.tc : Thread Cert.ReferenceDXn2Ideal.nD Cert.ReferenceDXn2Ideal.τ).loc Cert.ReferenceDXn2Ideal.main_arg0)
          ∧ r.2.mem ((c.tc : Thread Cert.ReferenceDXn2Ideal.nD Cert.ReferenceDXn2Ideal.τ).loc Cert.ReferenceDXn2Ideal.main_arg1) = m' ((c.tc : Thread Cert.ReferenceDXn2Ideal.nD Cert.ReferenceDXn2Ideal.τ).loc Cert.ReferenceDXn2Ideal.main_arg1))

def preserves_KernelDXnA_KernelDXnAIdeal : Prop :=
  True

def algebraic_KernelDXnAIdeal_ReferenceDXnAIdeal [hKernelDXnAIdeal : Cert.KernelDXnAIdeal.Facts] [hReferenceDXnAIdeal : Cert.ReferenceDXnAIdeal.Facts] : Prop :=
  ∀ (m : (ℓ : Loc Cert.KernelDXnAIdeal.nD Cert.KernelDXnAIdeal.τ Cert.KernelDXnAIdeal.sig) → Buf (Elt Ideal) ℓ) (g : Dev Cert.KernelDXnAIdeal.nD → PrngReg)
    (m' : (ℓ : Loc Cert.ReferenceDXnAIdeal.nD Cert.ReferenceDXnAIdeal.τ Cert.ReferenceDXnAIdeal.sig) → Buf (Elt Ideal) ℓ) (g' : Dev Cert.ReferenceDXnAIdeal.nD → PrngReg), Pre_KernelDXnAIdeal m →
    (∀ c : Dev Cert.KernelDXnAIdeal.nD,
      m' ((c.tc : Thread Cert.ReferenceDXnAIdeal.nD Cert.ReferenceDXnAIdeal.τ).loc Cert.ReferenceDXnAIdeal.main_arg0) = m ((c.tc : Thread Cert.KernelDXnAIdeal.nD Cert.KernelDXnAIdeal.τ).loc Cert.KernelDXnAIdeal.main_arg0)
      ∧ m' ((c.tc : Thread Cert.ReferenceDXnAIdeal.nD Cert.ReferenceDXnAIdeal.τ).loc Cert.ReferenceDXnAIdeal.main_arg1) = m ((c.tc : Thread Cert.KernelDXnAIdeal.nD Cert.KernelDXnAIdeal.τ).loc Cert.KernelDXnAIdeal.main_arg1)
      ∧ m' ((c.tc : Thread Cert.ReferenceDXnAIdeal.nD Cert.ReferenceDXnAIdeal.τ).loc Cert.ReferenceDXnAIdeal.main_arg2) = m ((c.tc : Thread Cert.KernelDXnAIdeal.nD Cert.KernelDXnAIdeal.τ).loc Cert.KernelDXnAIdeal.main_arg2)
      ∧ m' ((c.tc : Thread Cert.ReferenceDXnAIdeal.nD Cert.ReferenceDXnAIdeal.τ).loc Cert.ReferenceDXnAIdeal.main_arg3) = m ((c.tc : Thread Cert.KernelDXnAIdeal.nD Cert.KernelDXnAIdeal.τ).loc Cert.KernelDXnAIdeal.main_arg3)
      ∧ m' ((c.tc : Thread Cert.ReferenceDXnAIdeal.nD Cert.ReferenceDXnAIdeal.τ).loc Cert.ReferenceDXnAIdeal.main_arg4) = m ((c.tc : Thread Cert.KernelDXnAIdeal.nD Cert.KernelDXnAIdeal.τ).loc Cert.KernelDXnAIdeal.main_arg4)
      ∧ m' ((c.tc : Thread Cert.ReferenceDXnAIdeal.nD Cert.ReferenceDXnAIdeal.τ).loc Cert.ReferenceDXnAIdeal.main_arg5) = m ((c.tc : Thread Cert.KernelDXnAIdeal.nD Cert.KernelDXnAIdeal.τ).loc Cert.KernelDXnAIdeal.main_arg5)) →
    ∃ (v0 : (c : Dev Cert.KernelDXnAIdeal.nD) → Buf (Elt Ideal) ((c.tc : Thread Cert.KernelDXnAIdeal.nD Cert.KernelDXnAIdeal.τ).loc Cert.KernelDXnAIdeal.main_v0)),
      θ_run (Cert.KernelDXnAIdeal.defs (F := Ideal)) (onTc (τ := Cert.KernelDXnAIdeal.τ) (Cert.KernelDXnAIdeal.main (F := Ideal))) ⟨m, fun _ => 0, g⟩ (fun r => ∀ c : Dev Cert.KernelDXnAIdeal.nD,
          r.2.mem ((c.tc : Thread Cert.KernelDXnAIdeal.nD Cert.KernelDXnAIdeal.τ).loc Cert.KernelDXnAIdeal.main_v0) = v0 c
          ∧ r.2.mem ((c.tc : Thread Cert.KernelDXnAIdeal.nD Cert.KernelDXnAIdeal.τ).loc Cert.KernelDXnAIdeal.main_arg0) = m ((c.tc : Thread Cert.KernelDXnAIdeal.nD Cert.KernelDXnAIdeal.τ).loc Cert.KernelDXnAIdeal.main_arg0)
          ∧ r.2.mem ((c.tc : Thread Cert.KernelDXnAIdeal.nD Cert.KernelDXnAIdeal.τ).loc Cert.KernelDXnAIdeal.main_arg1) = m ((c.tc : Thread Cert.KernelDXnAIdeal.nD Cert.KernelDXnAIdeal.τ).loc Cert.KernelDXnAIdeal.main_arg1)
          ∧ r.2.mem ((c.tc : Thread Cert.KernelDXnAIdeal.nD Cert.KernelDXnAIdeal.τ).loc Cert.KernelDXnAIdeal.main_arg2) = m ((c.tc : Thread Cert.KernelDXnAIdeal.nD Cert.KernelDXnAIdeal.τ).loc Cert.KernelDXnAIdeal.main_arg2)
          ∧ r.2.mem ((c.tc : Thread Cert.KernelDXnAIdeal.nD Cert.KernelDXnAIdeal.τ).loc Cert.KernelDXnAIdeal.main_arg3) = m ((c.tc : Thread Cert.KernelDXnAIdeal.nD Cert.KernelDXnAIdeal.τ).loc Cert.KernelDXnAIdeal.main_arg3)
          ∧ r.2.mem ((c.tc : Thread Cert.KernelDXnAIdeal.nD Cert.KernelDXnAIdeal.τ).loc Cert.KernelDXnAIdeal.main_arg4) = m ((c.tc : Thread Cert.KernelDXnAIdeal.nD Cert.KernelDXnAIdeal.τ).loc Cert.KernelDXnAIdeal.main_arg4)
          ∧ r.2.mem ((c.tc : Thread Cert.KernelDXnAIdeal.nD Cert.KernelDXnAIdeal.τ).loc Cert.KernelDXnAIdeal.main_arg5) = m ((c.tc : Thread Cert.KernelDXnAIdeal.nD Cert.KernelDXnAIdeal.τ).loc Cert.KernelDXnAIdeal.main_arg5))
      ∧ θ_run (Cert.ReferenceDXnAIdeal.defs (F := Ideal)) (onTc (τ := Cert.ReferenceDXnAIdeal.τ) (Cert.ReferenceDXnAIdeal.main (F := Ideal))) ⟨m', fun _ => 0, g'⟩ (fun r => ∀ c : Dev Cert.ReferenceDXnAIdeal.nD,
          r.2.mem ((c.tc : Thread Cert.ReferenceDXnAIdeal.nD Cert.ReferenceDXnAIdeal.τ).loc Cert.ReferenceDXnAIdeal.main_v14) = v0 c
          ∧ r.2.mem ((c.tc : Thread Cert.ReferenceDXnAIdeal.nD Cert.ReferenceDXnAIdeal.τ).loc Cert.ReferenceDXnAIdeal.main_arg0) = m' ((c.tc : Thread Cert.ReferenceDXnAIdeal.nD Cert.ReferenceDXnAIdeal.τ).loc Cert.ReferenceDXnAIdeal.main_arg0)
          ∧ r.2.mem ((c.tc : Thread Cert.ReferenceDXnAIdeal.nD Cert.ReferenceDXnAIdeal.τ).loc Cert.ReferenceDXnAIdeal.main_arg1) = m' ((c.tc : Thread Cert.ReferenceDXnAIdeal.nD Cert.ReferenceDXnAIdeal.τ).loc Cert.ReferenceDXnAIdeal.main_arg1)
          ∧ r.2.mem ((c.tc : Thread Cert.ReferenceDXnAIdeal.nD Cert.ReferenceDXnAIdeal.τ).loc Cert.ReferenceDXnAIdeal.main_arg2) = m' ((c.tc : Thread Cert.ReferenceDXnAIdeal.nD Cert.ReferenceDXnAIdeal.τ).loc Cert.ReferenceDXnAIdeal.main_arg2)
          ∧ r.2.mem ((c.tc : Thread Cert.ReferenceDXnAIdeal.nD Cert.ReferenceDXnAIdeal.τ).loc Cert.ReferenceDXnAIdeal.main_arg3) = m' ((c.tc : Thread Cert.ReferenceDXnAIdeal.nD Cert.ReferenceDXnAIdeal.τ).loc Cert.ReferenceDXnAIdeal.main_arg3)
          ∧ r.2.mem ((c.tc : Thread Cert.ReferenceDXnAIdeal.nD Cert.ReferenceDXnAIdeal.τ).loc Cert.ReferenceDXnAIdeal.main_arg4) = m' ((c.tc : Thread Cert.ReferenceDXnAIdeal.nD Cert.ReferenceDXnAIdeal.τ).loc Cert.ReferenceDXnAIdeal.main_arg4)
          ∧ r.2.mem ((c.tc : Thread Cert.ReferenceDXnAIdeal.nD Cert.ReferenceDXnAIdeal.τ).loc Cert.ReferenceDXnAIdeal.main_arg5) = m' ((c.tc : Thread Cert.ReferenceDXnAIdeal.nD Cert.ReferenceDXnAIdeal.τ).loc Cert.ReferenceDXnAIdeal.main_arg5))

def preserves_KernelDXnB_KernelDXnBIdeal : Prop :=
  True

def algebraic_KernelDXnBIdeal_ReferenceDXnBIdeal [hKernelDXnBIdeal : Cert.KernelDXnBIdeal.Facts] [hReferenceDXnBIdeal : Cert.ReferenceDXnBIdeal.Facts] : Prop :=
  ∀ (m : (ℓ : Loc Cert.KernelDXnBIdeal.nD Cert.KernelDXnBIdeal.τ Cert.KernelDXnBIdeal.sig) → Buf (Elt Ideal) ℓ) (g : Dev Cert.KernelDXnBIdeal.nD → PrngReg)
    (m' : (ℓ : Loc Cert.ReferenceDXnBIdeal.nD Cert.ReferenceDXnBIdeal.τ Cert.ReferenceDXnBIdeal.sig) → Buf (Elt Ideal) ℓ) (g' : Dev Cert.ReferenceDXnBIdeal.nD → PrngReg), Pre_KernelDXnBIdeal m →
    (∀ c : Dev Cert.KernelDXnBIdeal.nD,
      m' ((c.tc : Thread Cert.ReferenceDXnBIdeal.nD Cert.ReferenceDXnBIdeal.τ).loc Cert.ReferenceDXnBIdeal.main_arg0) = m ((c.tc : Thread Cert.KernelDXnBIdeal.nD Cert.KernelDXnBIdeal.τ).loc Cert.KernelDXnBIdeal.main_arg0)
      ∧ m' ((c.tc : Thread Cert.ReferenceDXnBIdeal.nD Cert.ReferenceDXnBIdeal.τ).loc Cert.ReferenceDXnBIdeal.main_arg1) = m ((c.tc : Thread Cert.KernelDXnBIdeal.nD Cert.KernelDXnBIdeal.τ).loc Cert.KernelDXnBIdeal.main_arg1)
      ∧ m' ((c.tc : Thread Cert.ReferenceDXnBIdeal.nD Cert.ReferenceDXnBIdeal.τ).loc Cert.ReferenceDXnBIdeal.main_arg2) = m ((c.tc : Thread Cert.KernelDXnBIdeal.nD Cert.KernelDXnBIdeal.τ).loc Cert.KernelDXnBIdeal.main_arg2)
      ∧ m' ((c.tc : Thread Cert.ReferenceDXnBIdeal.nD Cert.ReferenceDXnBIdeal.τ).loc Cert.ReferenceDXnBIdeal.main_arg3) = m ((c.tc : Thread Cert.KernelDXnBIdeal.nD Cert.KernelDXnBIdeal.τ).loc Cert.KernelDXnBIdeal.main_arg3)
      ∧ m' ((c.tc : Thread Cert.ReferenceDXnBIdeal.nD Cert.ReferenceDXnBIdeal.τ).loc Cert.ReferenceDXnBIdeal.main_arg4) = m ((c.tc : Thread Cert.KernelDXnBIdeal.nD Cert.KernelDXnBIdeal.τ).loc Cert.KernelDXnBIdeal.main_arg4)
      ∧ m' ((c.tc : Thread Cert.ReferenceDXnBIdeal.nD Cert.ReferenceDXnBIdeal.τ).loc Cert.ReferenceDXnBIdeal.main_arg5) = m ((c.tc : Thread Cert.KernelDXnBIdeal.nD Cert.KernelDXnBIdeal.τ).loc Cert.KernelDXnBIdeal.main_arg5)
      ∧ m' ((c.tc : Thread Cert.ReferenceDXnBIdeal.nD Cert.ReferenceDXnBIdeal.τ).loc Cert.ReferenceDXnBIdeal.main_arg6) = m ((c.tc : Thread Cert.KernelDXnBIdeal.nD Cert.KernelDXnBIdeal.τ).loc Cert.KernelDXnBIdeal.main_arg6)) →
    ∃ (v0 : (c : Dev Cert.KernelDXnBIdeal.nD) → Buf (Elt Ideal) ((c.tc : Thread Cert.KernelDXnBIdeal.nD Cert.KernelDXnBIdeal.τ).loc Cert.KernelDXnBIdeal.main_v0)),
      θ_run (Cert.KernelDXnBIdeal.defs (F := Ideal)) (onTc (τ := Cert.KernelDXnBIdeal.τ) (Cert.KernelDXnBIdeal.main (F := Ideal))) ⟨m, fun _ => 0, g⟩ (fun r => ∀ c : Dev Cert.KernelDXnBIdeal.nD,
          r.2.mem ((c.tc : Thread Cert.KernelDXnBIdeal.nD Cert.KernelDXnBIdeal.τ).loc Cert.KernelDXnBIdeal.main_v0) = v0 c
          ∧ r.2.mem ((c.tc : Thread Cert.KernelDXnBIdeal.nD Cert.KernelDXnBIdeal.τ).loc Cert.KernelDXnBIdeal.main_arg0) = m ((c.tc : Thread Cert.KernelDXnBIdeal.nD Cert.KernelDXnBIdeal.τ).loc Cert.KernelDXnBIdeal.main_arg0)
          ∧ r.2.mem ((c.tc : Thread Cert.KernelDXnBIdeal.nD Cert.KernelDXnBIdeal.τ).loc Cert.KernelDXnBIdeal.main_arg1) = m ((c.tc : Thread Cert.KernelDXnBIdeal.nD Cert.KernelDXnBIdeal.τ).loc Cert.KernelDXnBIdeal.main_arg1)
          ∧ r.2.mem ((c.tc : Thread Cert.KernelDXnBIdeal.nD Cert.KernelDXnBIdeal.τ).loc Cert.KernelDXnBIdeal.main_arg2) = m ((c.tc : Thread Cert.KernelDXnBIdeal.nD Cert.KernelDXnBIdeal.τ).loc Cert.KernelDXnBIdeal.main_arg2)
          ∧ r.2.mem ((c.tc : Thread Cert.KernelDXnBIdeal.nD Cert.KernelDXnBIdeal.τ).loc Cert.KernelDXnBIdeal.main_arg3) = m ((c.tc : Thread Cert.KernelDXnBIdeal.nD Cert.KernelDXnBIdeal.τ).loc Cert.KernelDXnBIdeal.main_arg3)
          ∧ r.2.mem ((c.tc : Thread Cert.KernelDXnBIdeal.nD Cert.KernelDXnBIdeal.τ).loc Cert.KernelDXnBIdeal.main_arg4) = m ((c.tc : Thread Cert.KernelDXnBIdeal.nD Cert.KernelDXnBIdeal.τ).loc Cert.KernelDXnBIdeal.main_arg4)
          ∧ r.2.mem ((c.tc : Thread Cert.KernelDXnBIdeal.nD Cert.KernelDXnBIdeal.τ).loc Cert.KernelDXnBIdeal.main_arg5) = m ((c.tc : Thread Cert.KernelDXnBIdeal.nD Cert.KernelDXnBIdeal.τ).loc Cert.KernelDXnBIdeal.main_arg5)
          ∧ r.2.mem ((c.tc : Thread Cert.KernelDXnBIdeal.nD Cert.KernelDXnBIdeal.τ).loc Cert.KernelDXnBIdeal.main_arg6) = m ((c.tc : Thread Cert.KernelDXnBIdeal.nD Cert.KernelDXnBIdeal.τ).loc Cert.KernelDXnBIdeal.main_arg6))
      ∧ θ_run (Cert.ReferenceDXnBIdeal.defs (F := Ideal)) (onTc (τ := Cert.ReferenceDXnBIdeal.τ) (Cert.ReferenceDXnBIdeal.main (F := Ideal))) ⟨m', fun _ => 0, g'⟩ (fun r => ∀ c : Dev Cert.ReferenceDXnBIdeal.nD,
          r.2.mem ((c.tc : Thread Cert.ReferenceDXnBIdeal.nD Cert.ReferenceDXnBIdeal.τ).loc Cert.ReferenceDXnBIdeal.main_v15) = v0 c
          ∧ r.2.mem ((c.tc : Thread Cert.ReferenceDXnBIdeal.nD Cert.ReferenceDXnBIdeal.τ).loc Cert.ReferenceDXnBIdeal.main_arg0) = m' ((c.tc : Thread Cert.ReferenceDXnBIdeal.nD Cert.ReferenceDXnBIdeal.τ).loc Cert.ReferenceDXnBIdeal.main_arg0)
          ∧ r.2.mem ((c.tc : Thread Cert.ReferenceDXnBIdeal.nD Cert.ReferenceDXnBIdeal.τ).loc Cert.ReferenceDXnBIdeal.main_arg1) = m' ((c.tc : Thread Cert.ReferenceDXnBIdeal.nD Cert.ReferenceDXnBIdeal.τ).loc Cert.ReferenceDXnBIdeal.main_arg1)
          ∧ r.2.mem ((c.tc : Thread Cert.ReferenceDXnBIdeal.nD Cert.ReferenceDXnBIdeal.τ).loc Cert.ReferenceDXnBIdeal.main_arg2) = m' ((c.tc : Thread Cert.ReferenceDXnBIdeal.nD Cert.ReferenceDXnBIdeal.τ).loc Cert.ReferenceDXnBIdeal.main_arg2)
          ∧ r.2.mem ((c.tc : Thread Cert.ReferenceDXnBIdeal.nD Cert.ReferenceDXnBIdeal.τ).loc Cert.ReferenceDXnBIdeal.main_arg3) = m' ((c.tc : Thread Cert.ReferenceDXnBIdeal.nD Cert.ReferenceDXnBIdeal.τ).loc Cert.ReferenceDXnBIdeal.main_arg3)
          ∧ r.2.mem ((c.tc : Thread Cert.ReferenceDXnBIdeal.nD Cert.ReferenceDXnBIdeal.τ).loc Cert.ReferenceDXnBIdeal.main_arg4) = m' ((c.tc : Thread Cert.ReferenceDXnBIdeal.nD Cert.ReferenceDXnBIdeal.τ).loc Cert.ReferenceDXnBIdeal.main_arg4)
          ∧ r.2.mem ((c.tc : Thread Cert.ReferenceDXnBIdeal.nD Cert.ReferenceDXnBIdeal.τ).loc Cert.ReferenceDXnBIdeal.main_arg5) = m' ((c.tc : Thread Cert.ReferenceDXnBIdeal.nD Cert.ReferenceDXnBIdeal.τ).loc Cert.ReferenceDXnBIdeal.main_arg5)
          ∧ r.2.mem ((c.tc : Thread Cert.ReferenceDXnBIdeal.nD Cert.ReferenceDXnBIdeal.τ).loc Cert.ReferenceDXnBIdeal.main_arg6) = m' ((c.tc : Thread Cert.ReferenceDXnBIdeal.nD Cert.ReferenceDXnBIdeal.τ).loc Cert.ReferenceDXnBIdeal.main_arg6))

def preserves_KernelY_KernelYIdeal : Prop :=
  True

def algebraic_KernelYIdeal_ReferenceYIdeal [hKernelYIdeal : Cert.KernelYIdeal.Facts] [hReferenceYIdeal : Cert.ReferenceYIdeal.Facts] : Prop :=
  ∀ (m : (ℓ : Loc Cert.KernelYIdeal.nD Cert.KernelYIdeal.τ Cert.KernelYIdeal.sig) → Buf (Elt Ideal) ℓ) (g : Dev Cert.KernelYIdeal.nD → PrngReg)
    (m' : (ℓ : Loc Cert.ReferenceYIdeal.nD Cert.ReferenceYIdeal.τ Cert.ReferenceYIdeal.sig) → Buf (Elt Ideal) ℓ) (g' : Dev Cert.ReferenceYIdeal.nD → PrngReg), Pre_KernelYIdeal m →
    (∀ c : Dev Cert.KernelYIdeal.nD,
      m' ((c.tc : Thread Cert.ReferenceYIdeal.nD Cert.ReferenceYIdeal.τ).loc Cert.ReferenceYIdeal.main_arg0) = m ((c.tc : Thread Cert.KernelYIdeal.nD Cert.KernelYIdeal.τ).loc Cert.KernelYIdeal.main_arg0)
      ∧ m' ((c.tc : Thread Cert.ReferenceYIdeal.nD Cert.ReferenceYIdeal.τ).loc Cert.ReferenceYIdeal.main_arg1) = m ((c.tc : Thread Cert.KernelYIdeal.nD Cert.KernelYIdeal.τ).loc Cert.KernelYIdeal.main_arg1)) →
    ∃ (v0 : (c : Dev Cert.KernelYIdeal.nD) → Buf (Elt Ideal) ((c.tc : Thread Cert.KernelYIdeal.nD Cert.KernelYIdeal.τ).loc Cert.KernelYIdeal.main_v0)),
      θ_run (Cert.KernelYIdeal.defs (F := Ideal)) (onTc (τ := Cert.KernelYIdeal.τ) (Cert.KernelYIdeal.main (F := Ideal))) ⟨m, fun _ => 0, g⟩ (fun r => ∀ c : Dev Cert.KernelYIdeal.nD,
          r.2.mem ((c.tc : Thread Cert.KernelYIdeal.nD Cert.KernelYIdeal.τ).loc Cert.KernelYIdeal.main_v0) = v0 c
          ∧ r.2.mem ((c.tc : Thread Cert.KernelYIdeal.nD Cert.KernelYIdeal.τ).loc Cert.KernelYIdeal.main_arg0) = m ((c.tc : Thread Cert.KernelYIdeal.nD Cert.KernelYIdeal.τ).loc Cert.KernelYIdeal.main_arg0)
          ∧ r.2.mem ((c.tc : Thread Cert.KernelYIdeal.nD Cert.KernelYIdeal.τ).loc Cert.KernelYIdeal.main_arg1) = m ((c.tc : Thread Cert.KernelYIdeal.nD Cert.KernelYIdeal.τ).loc Cert.KernelYIdeal.main_arg1))
      ∧ θ_run (Cert.ReferenceYIdeal.defs (F := Ideal)) (onTc (τ := Cert.ReferenceYIdeal.τ) (Cert.ReferenceYIdeal.main (F := Ideal))) ⟨m', fun _ => 0, g'⟩ (fun r => ∀ c : Dev Cert.ReferenceYIdeal.nD,
          r.2.mem ((c.tc : Thread Cert.ReferenceYIdeal.nD Cert.ReferenceYIdeal.τ).loc Cert.ReferenceYIdeal.main_v3) = v0 c
          ∧ r.2.mem ((c.tc : Thread Cert.ReferenceYIdeal.nD Cert.ReferenceYIdeal.τ).loc Cert.ReferenceYIdeal.main_arg0) = m' ((c.tc : Thread Cert.ReferenceYIdeal.nD Cert.ReferenceYIdeal.τ).loc Cert.ReferenceYIdeal.main_arg0)
          ∧ r.2.mem ((c.tc : Thread Cert.ReferenceYIdeal.nD Cert.ReferenceYIdeal.τ).loc Cert.ReferenceYIdeal.main_arg1) = m' ((c.tc : Thread Cert.ReferenceYIdeal.nD Cert.ReferenceYIdeal.τ).loc Cert.ReferenceYIdeal.main_arg1))

def preserves_KernelYZ_KernelYZIdeal : Prop :=
  True

def algebraic_KernelYZIdeal_ReferenceYZIdeal [hKernelYZIdeal : Cert.KernelYZIdeal.Facts] [hReferenceYZIdeal : Cert.ReferenceYZIdeal.Facts] : Prop :=
  ∀ (m : (ℓ : Loc Cert.KernelYZIdeal.nD Cert.KernelYZIdeal.τ Cert.KernelYZIdeal.sig) → Buf (Elt Ideal) ℓ) (g : Dev Cert.KernelYZIdeal.nD → PrngReg)
    (m' : (ℓ : Loc Cert.ReferenceYZIdeal.nD Cert.ReferenceYZIdeal.τ Cert.ReferenceYZIdeal.sig) → Buf (Elt Ideal) ℓ) (g' : Dev Cert.ReferenceYZIdeal.nD → PrngReg), Pre_KernelYZIdeal m →
    (∀ c : Dev Cert.KernelYZIdeal.nD,
      m' ((c.tc : Thread Cert.ReferenceYZIdeal.nD Cert.ReferenceYZIdeal.τ).loc Cert.ReferenceYZIdeal.main_arg0) = m ((c.tc : Thread Cert.KernelYZIdeal.nD Cert.KernelYZIdeal.τ).loc Cert.KernelYZIdeal.main_arg0)
      ∧ m' ((c.tc : Thread Cert.ReferenceYZIdeal.nD Cert.ReferenceYZIdeal.τ).loc Cert.ReferenceYZIdeal.main_arg1) = m ((c.tc : Thread Cert.KernelYZIdeal.nD Cert.KernelYZIdeal.τ).loc Cert.KernelYZIdeal.main_arg1)) →
    ∃ (v0 : (c : Dev Cert.KernelYZIdeal.nD) → Buf (Elt Ideal) ((c.tc : Thread Cert.KernelYZIdeal.nD Cert.KernelYZIdeal.τ).loc Cert.KernelYZIdeal.main_v0)),
      θ_run (Cert.KernelYZIdeal.defs (F := Ideal)) (onTc (τ := Cert.KernelYZIdeal.τ) (Cert.KernelYZIdeal.main (F := Ideal))) ⟨m, fun _ => 0, g⟩ (fun r => ∀ c : Dev Cert.KernelYZIdeal.nD,
          r.2.mem ((c.tc : Thread Cert.KernelYZIdeal.nD Cert.KernelYZIdeal.τ).loc Cert.KernelYZIdeal.main_v0) = v0 c
          ∧ r.2.mem ((c.tc : Thread Cert.KernelYZIdeal.nD Cert.KernelYZIdeal.τ).loc Cert.KernelYZIdeal.main_arg0) = m ((c.tc : Thread Cert.KernelYZIdeal.nD Cert.KernelYZIdeal.τ).loc Cert.KernelYZIdeal.main_arg0)
          ∧ r.2.mem ((c.tc : Thread Cert.KernelYZIdeal.nD Cert.KernelYZIdeal.τ).loc Cert.KernelYZIdeal.main_arg1) = m ((c.tc : Thread Cert.KernelYZIdeal.nD Cert.KernelYZIdeal.τ).loc Cert.KernelYZIdeal.main_arg1))
      ∧ θ_run (Cert.ReferenceYZIdeal.defs (F := Ideal)) (onTc (τ := Cert.ReferenceYZIdeal.τ) (Cert.ReferenceYZIdeal.main (F := Ideal))) ⟨m', fun _ => 0, g'⟩ (fun r => ∀ c : Dev Cert.ReferenceYZIdeal.nD,
          r.2.mem ((c.tc : Thread Cert.ReferenceYZIdeal.nD Cert.ReferenceYZIdeal.τ).loc Cert.ReferenceYZIdeal.main_v3) = v0 c
          ∧ r.2.mem ((c.tc : Thread Cert.ReferenceYZIdeal.nD Cert.ReferenceYZIdeal.τ).loc Cert.ReferenceYZIdeal.main_arg0) = m' ((c.tc : Thread Cert.ReferenceYZIdeal.nD Cert.ReferenceYZIdeal.τ).loc Cert.ReferenceYZIdeal.main_arg0)
          ∧ r.2.mem ((c.tc : Thread Cert.ReferenceYZIdeal.nD Cert.ReferenceYZIdeal.τ).loc Cert.ReferenceYZIdeal.main_arg1) = m' ((c.tc : Thread Cert.ReferenceYZIdeal.nD Cert.ReferenceYZIdeal.τ).loc Cert.ReferenceYZIdeal.main_arg1))

def preserves_KernelYXbc_KernelYXbcIdeal : Prop :=
  True

def algebraic_KernelYXbcIdeal_ReferenceYXbcIdeal [hKernelYXbcIdeal : Cert.KernelYXbcIdeal.Facts] [hReferenceYXbcIdeal : Cert.ReferenceYXbcIdeal.Facts] : Prop :=
  ∀ (m : (ℓ : Loc Cert.KernelYXbcIdeal.nD Cert.KernelYXbcIdeal.τ Cert.KernelYXbcIdeal.sig) → Buf (Elt Ideal) ℓ) (g : Dev Cert.KernelYXbcIdeal.nD → PrngReg)
    (m' : (ℓ : Loc Cert.ReferenceYXbcIdeal.nD Cert.ReferenceYXbcIdeal.τ Cert.ReferenceYXbcIdeal.sig) → Buf (Elt Ideal) ℓ) (g' : Dev Cert.ReferenceYXbcIdeal.nD → PrngReg), Pre_KernelYXbcIdeal m →
    (∀ c : Dev Cert.KernelYXbcIdeal.nD,
      m' ((c.tc : Thread Cert.ReferenceYXbcIdeal.nD Cert.ReferenceYXbcIdeal.τ).loc Cert.ReferenceYXbcIdeal.main_arg0) = m ((c.tc : Thread Cert.KernelYXbcIdeal.nD Cert.KernelYXbcIdeal.τ).loc Cert.KernelYXbcIdeal.main_arg0)
      ∧ m' ((c.tc : Thread Cert.ReferenceYXbcIdeal.nD Cert.ReferenceYXbcIdeal.τ).loc Cert.ReferenceYXbcIdeal.main_arg1) = m ((c.tc : Thread Cert.KernelYXbcIdeal.nD Cert.KernelYXbcIdeal.τ).loc Cert.KernelYXbcIdeal.main_arg1)) →
    ∃ (v0 : (c : Dev Cert.KernelYXbcIdeal.nD) → Buf (Elt Ideal) ((c.tc : Thread Cert.KernelYXbcIdeal.nD Cert.KernelYXbcIdeal.τ).loc Cert.KernelYXbcIdeal.main_v0)),
      θ_run (Cert.KernelYXbcIdeal.defs (F := Ideal)) (onTc (τ := Cert.KernelYXbcIdeal.τ) (Cert.KernelYXbcIdeal.main (F := Ideal))) ⟨m, fun _ => 0, g⟩ (fun r => ∀ c : Dev Cert.KernelYXbcIdeal.nD,
          r.2.mem ((c.tc : Thread Cert.KernelYXbcIdeal.nD Cert.KernelYXbcIdeal.τ).loc Cert.KernelYXbcIdeal.main_v0) = v0 c
          ∧ r.2.mem ((c.tc : Thread Cert.KernelYXbcIdeal.nD Cert.KernelYXbcIdeal.τ).loc Cert.KernelYXbcIdeal.main_arg0) = m ((c.tc : Thread Cert.KernelYXbcIdeal.nD Cert.KernelYXbcIdeal.τ).loc Cert.KernelYXbcIdeal.main_arg0)
          ∧ r.2.mem ((c.tc : Thread Cert.KernelYXbcIdeal.nD Cert.KernelYXbcIdeal.τ).loc Cert.KernelYXbcIdeal.main_arg1) = m ((c.tc : Thread Cert.KernelYXbcIdeal.nD Cert.KernelYXbcIdeal.τ).loc Cert.KernelYXbcIdeal.main_arg1))
      ∧ θ_run (Cert.ReferenceYXbcIdeal.defs (F := Ideal)) (onTc (τ := Cert.ReferenceYXbcIdeal.τ) (Cert.ReferenceYXbcIdeal.main (F := Ideal))) ⟨m', fun _ => 0, g'⟩ (fun r => ∀ c : Dev Cert.ReferenceYXbcIdeal.nD,
          r.2.mem ((c.tc : Thread Cert.ReferenceYXbcIdeal.nD Cert.ReferenceYXbcIdeal.τ).loc Cert.ReferenceYXbcIdeal.main_v3) = v0 c
          ∧ r.2.mem ((c.tc : Thread Cert.ReferenceYXbcIdeal.nD Cert.ReferenceYXbcIdeal.τ).loc Cert.ReferenceYXbcIdeal.main_arg0) = m' ((c.tc : Thread Cert.ReferenceYXbcIdeal.nD Cert.ReferenceYXbcIdeal.τ).loc Cert.ReferenceYXbcIdeal.main_arg0)
          ∧ r.2.mem ((c.tc : Thread Cert.ReferenceYXbcIdeal.nD Cert.ReferenceYXbcIdeal.τ).loc Cert.ReferenceYXbcIdeal.main_arg1) = m' ((c.tc : Thread Cert.ReferenceYXbcIdeal.nD Cert.ReferenceYXbcIdeal.τ).loc Cert.ReferenceYXbcIdeal.main_arg1))

def preserves_KernelYDt_KernelYDtIdeal : Prop :=
  True

def algebraic_KernelYDtIdeal_ReferenceYDtIdeal [hKernelYDtIdeal : Cert.KernelYDtIdeal.Facts] [hReferenceYDtIdeal : Cert.ReferenceYDtIdeal.Facts] : Prop :=
  ∀ (m : (ℓ : Loc Cert.KernelYDtIdeal.nD Cert.KernelYDtIdeal.τ Cert.KernelYDtIdeal.sig) → Buf (Elt Ideal) ℓ) (g : Dev Cert.KernelYDtIdeal.nD → PrngReg)
    (m' : (ℓ : Loc Cert.ReferenceYDtIdeal.nD Cert.ReferenceYDtIdeal.τ Cert.ReferenceYDtIdeal.sig) → Buf (Elt Ideal) ℓ) (g' : Dev Cert.ReferenceYDtIdeal.nD → PrngReg), Pre_KernelYDtIdeal m →
    (∀ c : Dev Cert.KernelYDtIdeal.nD,
      m' ((c.tc : Thread Cert.ReferenceYDtIdeal.nD Cert.ReferenceYDtIdeal.τ).loc Cert.ReferenceYDtIdeal.main_arg0) = m ((c.tc : Thread Cert.KernelYDtIdeal.nD Cert.KernelYDtIdeal.τ).loc Cert.KernelYDtIdeal.main_arg0)
      ∧ m' ((c.tc : Thread Cert.ReferenceYDtIdeal.nD Cert.ReferenceYDtIdeal.τ).loc Cert.ReferenceYDtIdeal.main_arg1) = m ((c.tc : Thread Cert.KernelYDtIdeal.nD Cert.KernelYDtIdeal.τ).loc Cert.KernelYDtIdeal.main_arg1)) →
    ∃ (v0 : (c : Dev Cert.KernelYDtIdeal.nD) → Buf (Elt Ideal) ((c.tc : Thread Cert.KernelYDtIdeal.nD Cert.KernelYDtIdeal.τ).loc Cert.KernelYDtIdeal.main_v0)),
      θ_run (Cert.KernelYDtIdeal.defs (F := Ideal)) (onTc (τ := Cert.KernelYDtIdeal.τ) (Cert.KernelYDtIdeal.main (F := Ideal))) ⟨m, fun _ => 0, g⟩ (fun r => ∀ c : Dev Cert.KernelYDtIdeal.nD,
          r.2.mem ((c.tc : Thread Cert.KernelYDtIdeal.nD Cert.KernelYDtIdeal.τ).loc Cert.KernelYDtIdeal.main_v0) = v0 c
          ∧ r.2.mem ((c.tc : Thread Cert.KernelYDtIdeal.nD Cert.KernelYDtIdeal.τ).loc Cert.KernelYDtIdeal.main_arg0) = m ((c.tc : Thread Cert.KernelYDtIdeal.nD Cert.KernelYDtIdeal.τ).loc Cert.KernelYDtIdeal.main_arg0)
          ∧ r.2.mem ((c.tc : Thread Cert.KernelYDtIdeal.nD Cert.KernelYDtIdeal.τ).loc Cert.KernelYDtIdeal.main_arg1) = m ((c.tc : Thread Cert.KernelYDtIdeal.nD Cert.KernelYDtIdeal.τ).loc Cert.KernelYDtIdeal.main_arg1))
      ∧ θ_run (Cert.ReferenceYDtIdeal.defs (F := Ideal)) (onTc (τ := Cert.ReferenceYDtIdeal.τ) (Cert.ReferenceYDtIdeal.main (F := Ideal))) ⟨m', fun _ => 0, g'⟩ (fun r => ∀ c : Dev Cert.ReferenceYDtIdeal.nD,
          r.2.mem ((c.tc : Thread Cert.ReferenceYDtIdeal.nD Cert.ReferenceYDtIdeal.τ).loc Cert.ReferenceYDtIdeal.main_v2) = v0 c
          ∧ r.2.mem ((c.tc : Thread Cert.ReferenceYDtIdeal.nD Cert.ReferenceYDtIdeal.τ).loc Cert.ReferenceYDtIdeal.main_arg0) = m' ((c.tc : Thread Cert.ReferenceYDtIdeal.nD Cert.ReferenceYDtIdeal.τ).loc Cert.ReferenceYDtIdeal.main_arg0)
          ∧ r.2.mem ((c.tc : Thread Cert.ReferenceYDtIdeal.nD Cert.ReferenceYDtIdeal.τ).loc Cert.ReferenceYDtIdeal.main_arg1) = m' ((c.tc : Thread Cert.ReferenceYDtIdeal.nD Cert.ReferenceYDtIdeal.τ).loc Cert.ReferenceYDtIdeal.main_arg1))

def preserves_KernelYBrb_KernelYBrbIdeal : Prop :=
  True

def algebraic_KernelYBrbIdeal_ReferenceYBrbIdeal [hKernelYBrbIdeal : Cert.KernelYBrbIdeal.Facts] [hReferenceYBrbIdeal : Cert.ReferenceYBrbIdeal.Facts] : Prop :=
  ∀ (m : (ℓ : Loc Cert.KernelYBrbIdeal.nD Cert.KernelYBrbIdeal.τ Cert.KernelYBrbIdeal.sig) → Buf (Elt Ideal) ℓ) (g : Dev Cert.KernelYBrbIdeal.nD → PrngReg)
    (m' : (ℓ : Loc Cert.ReferenceYBrbIdeal.nD Cert.ReferenceYBrbIdeal.τ Cert.ReferenceYBrbIdeal.sig) → Buf (Elt Ideal) ℓ) (g' : Dev Cert.ReferenceYBrbIdeal.nD → PrngReg), Pre_KernelYBrbIdeal m →
    (∀ c : Dev Cert.KernelYBrbIdeal.nD,
      m' ((c.tc : Thread Cert.ReferenceYBrbIdeal.nD Cert.ReferenceYBrbIdeal.τ).loc Cert.ReferenceYBrbIdeal.main_arg0) = m ((c.tc : Thread Cert.KernelYBrbIdeal.nD Cert.KernelYBrbIdeal.τ).loc Cert.KernelYBrbIdeal.main_arg0)
      ∧ m' ((c.tc : Thread Cert.ReferenceYBrbIdeal.nD Cert.ReferenceYBrbIdeal.τ).loc Cert.ReferenceYBrbIdeal.main_arg1) = m ((c.tc : Thread Cert.KernelYBrbIdeal.nD Cert.KernelYBrbIdeal.τ).loc Cert.KernelYBrbIdeal.main_arg1)) →
    ∃ (v0 : (c : Dev Cert.KernelYBrbIdeal.nD) → Buf (Elt Ideal) ((c.tc : Thread Cert.KernelYBrbIdeal.nD Cert.KernelYBrbIdeal.τ).loc Cert.KernelYBrbIdeal.main_v0)),
      θ_run (Cert.KernelYBrbIdeal.defs (F := Ideal)) (onTc (τ := Cert.KernelYBrbIdeal.τ) (Cert.KernelYBrbIdeal.main (F := Ideal))) ⟨m, fun _ => 0, g⟩ (fun r => ∀ c : Dev Cert.KernelYBrbIdeal.nD,
          r.2.mem ((c.tc : Thread Cert.KernelYBrbIdeal.nD Cert.KernelYBrbIdeal.τ).loc Cert.KernelYBrbIdeal.main_v0) = v0 c
          ∧ r.2.mem ((c.tc : Thread Cert.KernelYBrbIdeal.nD Cert.KernelYBrbIdeal.τ).loc Cert.KernelYBrbIdeal.main_arg0) = m ((c.tc : Thread Cert.KernelYBrbIdeal.nD Cert.KernelYBrbIdeal.τ).loc Cert.KernelYBrbIdeal.main_arg0)
          ∧ r.2.mem ((c.tc : Thread Cert.KernelYBrbIdeal.nD Cert.KernelYBrbIdeal.τ).loc Cert.KernelYBrbIdeal.main_arg1) = m ((c.tc : Thread Cert.KernelYBrbIdeal.nD Cert.KernelYBrbIdeal.τ).loc Cert.KernelYBrbIdeal.main_arg1))
      ∧ θ_run (Cert.ReferenceYBrbIdeal.defs (F := Ideal)) (onTc (τ := Cert.ReferenceYBrbIdeal.τ) (Cert.ReferenceYBrbIdeal.main (F := Ideal))) ⟨m', fun _ => 0, g'⟩ (fun r => ∀ c : Dev Cert.ReferenceYBrbIdeal.nD,
          r.2.mem ((c.tc : Thread Cert.ReferenceYBrbIdeal.nD Cert.ReferenceYBrbIdeal.τ).loc Cert.ReferenceYBrbIdeal.main_v3) = v0 c
          ∧ r.2.mem ((c.tc : Thread Cert.ReferenceYBrbIdeal.nD Cert.ReferenceYBrbIdeal.τ).loc Cert.ReferenceYBrbIdeal.main_arg0) = m' ((c.tc : Thread Cert.ReferenceYBrbIdeal.nD Cert.ReferenceYBrbIdeal.τ).loc Cert.ReferenceYBrbIdeal.main_arg0)
          ∧ r.2.mem ((c.tc : Thread Cert.ReferenceYBrbIdeal.nD Cert.ReferenceYBrbIdeal.τ).loc Cert.ReferenceYBrbIdeal.main_arg1) = m' ((c.tc : Thread Cert.ReferenceYBrbIdeal.nD Cert.ReferenceYBrbIdeal.τ).loc Cert.ReferenceYBrbIdeal.main_arg1))

def preserves_KernelYFfnIn_KernelYFfnInIdeal : Prop :=
  True

def algebraic_KernelYFfnInIdeal_ReferenceYFfnInIdeal [hKernelYFfnInIdeal : Cert.KernelYFfnInIdeal.Facts] [hReferenceYFfnInIdeal : Cert.ReferenceYFfnInIdeal.Facts] : Prop :=
  ∀ (m : (ℓ : Loc Cert.KernelYFfnInIdeal.nD Cert.KernelYFfnInIdeal.τ Cert.KernelYFfnInIdeal.sig) → Buf (Elt Ideal) ℓ) (g : Dev Cert.KernelYFfnInIdeal.nD → PrngReg)
    (m' : (ℓ : Loc Cert.ReferenceYFfnInIdeal.nD Cert.ReferenceYFfnInIdeal.τ Cert.ReferenceYFfnInIdeal.sig) → Buf (Elt Ideal) ℓ) (g' : Dev Cert.ReferenceYFfnInIdeal.nD → PrngReg), Pre_KernelYFfnInIdeal m →
    (∀ c : Dev Cert.KernelYFfnInIdeal.nD,
      m' ((c.tc : Thread Cert.ReferenceYFfnInIdeal.nD Cert.ReferenceYFfnInIdeal.τ).loc Cert.ReferenceYFfnInIdeal.main_arg0) = m ((c.tc : Thread Cert.KernelYFfnInIdeal.nD Cert.KernelYFfnInIdeal.τ).loc Cert.KernelYFfnInIdeal.main_arg0)
      ∧ m' ((c.tc : Thread Cert.ReferenceYFfnInIdeal.nD Cert.ReferenceYFfnInIdeal.τ).loc Cert.ReferenceYFfnInIdeal.main_arg1) = m ((c.tc : Thread Cert.KernelYFfnInIdeal.nD Cert.KernelYFfnInIdeal.τ).loc Cert.KernelYFfnInIdeal.main_arg1)) →
    ∃ (v0 : (c : Dev Cert.KernelYFfnInIdeal.nD) → Buf (Elt Ideal) ((c.tc : Thread Cert.KernelYFfnInIdeal.nD Cert.KernelYFfnInIdeal.τ).loc Cert.KernelYFfnInIdeal.main_v0)),
      θ_run (Cert.KernelYFfnInIdeal.defs (F := Ideal)) (onTc (τ := Cert.KernelYFfnInIdeal.τ) (Cert.KernelYFfnInIdeal.main (F := Ideal))) ⟨m, fun _ => 0, g⟩ (fun r => ∀ c : Dev Cert.KernelYFfnInIdeal.nD,
          r.2.mem ((c.tc : Thread Cert.KernelYFfnInIdeal.nD Cert.KernelYFfnInIdeal.τ).loc Cert.KernelYFfnInIdeal.main_v0) = v0 c
          ∧ r.2.mem ((c.tc : Thread Cert.KernelYFfnInIdeal.nD Cert.KernelYFfnInIdeal.τ).loc Cert.KernelYFfnInIdeal.main_arg0) = m ((c.tc : Thread Cert.KernelYFfnInIdeal.nD Cert.KernelYFfnInIdeal.τ).loc Cert.KernelYFfnInIdeal.main_arg0)
          ∧ r.2.mem ((c.tc : Thread Cert.KernelYFfnInIdeal.nD Cert.KernelYFfnInIdeal.τ).loc Cert.KernelYFfnInIdeal.main_arg1) = m ((c.tc : Thread Cert.KernelYFfnInIdeal.nD Cert.KernelYFfnInIdeal.τ).loc Cert.KernelYFfnInIdeal.main_arg1))
      ∧ θ_run (Cert.ReferenceYFfnInIdeal.defs (F := Ideal)) (onTc (τ := Cert.ReferenceYFfnInIdeal.τ) (Cert.ReferenceYFfnInIdeal.main (F := Ideal))) ⟨m', fun _ => 0, g'⟩ (fun r => ∀ c : Dev Cert.ReferenceYFfnInIdeal.nD,
          r.2.mem ((c.tc : Thread Cert.ReferenceYFfnInIdeal.nD Cert.ReferenceYFfnInIdeal.τ).loc Cert.ReferenceYFfnInIdeal.main_v4) = v0 c
          ∧ r.2.mem ((c.tc : Thread Cert.ReferenceYFfnInIdeal.nD Cert.ReferenceYFfnInIdeal.τ).loc Cert.ReferenceYFfnInIdeal.main_arg0) = m' ((c.tc : Thread Cert.ReferenceYFfnInIdeal.nD Cert.ReferenceYFfnInIdeal.τ).loc Cert.ReferenceYFfnInIdeal.main_arg0)
          ∧ r.2.mem ((c.tc : Thread Cert.ReferenceYFfnInIdeal.nD Cert.ReferenceYFfnInIdeal.τ).loc Cert.ReferenceYFfnInIdeal.main_arg1) = m' ((c.tc : Thread Cert.ReferenceYFfnInIdeal.nD Cert.ReferenceYFfnInIdeal.τ).loc Cert.ReferenceYFfnInIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)) →
    ∃ (v0 : (c : Dev Cert.KernelOutIdeal.nD) → Buf (Elt Ideal) ((c.tc : Thread Cert.KernelOutIdeal.nD Cert.KernelOutIdeal.τ).loc Cert.KernelOutIdeal.main_v0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v3) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2))

def preserves_KernelFfnOut_KernelFfnOutIdeal : Prop :=
  True

def algebraic_KernelFfnOutIdeal_ReferenceFfnOutIdeal [hKernelFfnOutIdeal : Cert.KernelFfnOutIdeal.Facts] [hReferenceFfnOutIdeal : Cert.ReferenceFfnOutIdeal.Facts] : Prop :=
  ∀ (m : (ℓ : Loc Cert.KernelFfnOutIdeal.nD Cert.KernelFfnOutIdeal.τ Cert.KernelFfnOutIdeal.sig) → Buf (Elt Ideal) ℓ) (g : Dev Cert.KernelFfnOutIdeal.nD → PrngReg)
    (m' : (ℓ : Loc Cert.ReferenceFfnOutIdeal.nD Cert.ReferenceFfnOutIdeal.τ Cert.ReferenceFfnOutIdeal.sig) → Buf (Elt Ideal) ℓ) (g' : Dev Cert.ReferenceFfnOutIdeal.nD → PrngReg), Pre_KernelFfnOutIdeal m →
    (∀ c : Dev Cert.KernelFfnOutIdeal.nD,
      m' ((c.tc : Thread Cert.ReferenceFfnOutIdeal.nD Cert.ReferenceFfnOutIdeal.τ).loc Cert.ReferenceFfnOutIdeal.main_arg0) = m ((c.tc : Thread Cert.KernelFfnOutIdeal.nD Cert.KernelFfnOutIdeal.τ).loc Cert.KernelFfnOutIdeal.main_arg0)
      ∧ m' ((c.tc : Thread Cert.ReferenceFfnOutIdeal.nD Cert.ReferenceFfnOutIdeal.τ).loc Cert.ReferenceFfnOutIdeal.main_arg1) = m ((c.tc : Thread Cert.KernelFfnOutIdeal.nD Cert.KernelFfnOutIdeal.τ).loc Cert.KernelFfnOutIdeal.main_arg1)
      ∧ m' ((c.tc : Thread Cert.ReferenceFfnOutIdeal.nD Cert.ReferenceFfnOutIdeal.τ).loc Cert.ReferenceFfnOutIdeal.main_arg2) = m ((c.tc : Thread Cert.KernelFfnOutIdeal.nD Cert.KernelFfnOutIdeal.τ).loc Cert.KernelFfnOutIdeal.main_arg2)) →
    ∃ (v0 : (c : Dev Cert.KernelFfnOutIdeal.nD) → Buf (Elt Ideal) ((c.tc : Thread Cert.KernelFfnOutIdeal.nD Cert.KernelFfnOutIdeal.τ).loc Cert.KernelFfnOutIdeal.main_v0_0)) (v1 : (c : Dev Cert.KernelFfnOutIdeal.nD) → Buf (Elt Ideal) ((c.tc : Thread Cert.KernelFfnOutIdeal.nD Cert.KernelFfnOutIdeal.τ).loc Cert.KernelFfnOutIdeal.main_v0_1)),
      θ_run (Cert.KernelFfnOutIdeal.defs (F := Ideal)) (onTc (τ := Cert.KernelFfnOutIdeal.τ) (Cert.KernelFfnOutIdeal.main (F := Ideal))) ⟨m, fun _ => 0, g⟩ (fun r => ∀ c : Dev Cert.KernelFfnOutIdeal.nD,
          r.2.mem ((c.tc : Thread Cert.KernelFfnOutIdeal.nD Cert.KernelFfnOutIdeal.τ).loc Cert.KernelFfnOutIdeal.main_v0_0) = v0 c
          ∧ r.2.mem ((c.tc : Thread Cert.KernelFfnOutIdeal.nD Cert.KernelFfnOutIdeal.τ).loc Cert.KernelFfnOutIdeal.main_v0_1) = v1 c
          ∧ r.2.mem ((c.tc : Thread Cert.KernelFfnOutIdeal.nD Cert.KernelFfnOutIdeal.τ).loc Cert.KernelFfnOutIdeal.main_arg0) = m ((c.tc : Thread Cert.KernelFfnOutIdeal.nD Cert.KernelFfnOutIdeal.τ).loc Cert.KernelFfnOutIdeal.main_arg0)
          ∧ r.2.mem ((c.tc : Thread Cert.KernelFfnOutIdeal.nD Cert.KernelFfnOutIdeal.τ).loc Cert.KernelFfnOutIdeal.main_arg1) = m ((c.tc : Thread Cert.KernelFfnOutIdeal.nD Cert.KernelFfnOutIdeal.τ).loc Cert.KernelFfnOutIdeal.main_arg1)
          ∧ r.2.mem ((c.tc : Thread Cert.KernelFfnOutIdeal.nD Cert.KernelFfnOutIdeal.τ).loc Cert.KernelFfnOutIdeal.main_arg2) = m ((c.tc : Thread Cert.KernelFfnOutIdeal.nD Cert.KernelFfnOutIdeal.τ).loc Cert.KernelFfnOutIdeal.main_arg2))
      ∧ θ_run (Cert.ReferenceFfnOutIdeal.defs (F := Ideal)) (onTc (τ := Cert.ReferenceFfnOutIdeal.τ) (Cert.ReferenceFfnOutIdeal.main (F := Ideal))) ⟨m', fun _ => 0, g'⟩ (fun r => ∀ c : Dev Cert.ReferenceFfnOutIdeal.nD,
          r.2.mem ((c.tc : Thread Cert.ReferenceFfnOutIdeal.nD Cert.ReferenceFfnOutIdeal.τ).loc Cert.ReferenceFfnOutIdeal.main_v9) = v0 c
          ∧ r.2.mem ((c.tc : Thread Cert.ReferenceFfnOutIdeal.nD Cert.ReferenceFfnOutIdeal.τ).loc Cert.ReferenceFfnOutIdeal.main_v6) = v1 c
          ∧ r.2.mem ((c.tc : Thread Cert.ReferenceFfnOutIdeal.nD Cert.ReferenceFfnOutIdeal.τ).loc Cert.ReferenceFfnOutIdeal.main_arg0) = m' ((c.tc : Thread Cert.ReferenceFfnOutIdeal.nD Cert.ReferenceFfnOutIdeal.τ).loc Cert.ReferenceFfnOutIdeal.main_arg0)
          ∧ r.2.mem ((c.tc : Thread Cert.ReferenceFfnOutIdeal.nD Cert.ReferenceFfnOutIdeal.τ).loc Cert.ReferenceFfnOutIdeal.main_arg1) = m' ((c.tc : Thread Cert.ReferenceFfnOutIdeal.nD Cert.ReferenceFfnOutIdeal.τ).loc Cert.ReferenceFfnOutIdeal.main_arg1)
          ∧ r.2.mem ((c.tc : Thread Cert.ReferenceFfnOutIdeal.nD Cert.ReferenceFfnOutIdeal.τ).loc Cert.ReferenceFfnOutIdeal.main_arg2) = m' ((c.tc : Thread Cert.ReferenceFfnOutIdeal.nD Cert.ReferenceFfnOutIdeal.τ).loc Cert.ReferenceFfnOutIdeal.main_arg2))

def preserves_KernelLoss_KernelLossIdeal : Prop :=
  True

def algebraic_KernelLossIdeal_ReferenceLossIdeal [hKernelLossIdeal : Cert.KernelLossIdeal.Facts] [hReferenceLossIdeal : Cert.ReferenceLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)) →
    ∃ (v0 : (c : Dev Cert.KernelLossIdeal.nD) → Buf (Elt Ideal) ((c.tc : Thread Cert.KernelLossIdeal.nD Cert.KernelLossIdeal.τ).loc Cert.KernelLossIdeal.main_v0_0)) (v1 : (c : Dev Cert.KernelLossIdeal.nD) → Buf (Elt Ideal) ((c.tc : Thread Cert.KernelLossIdeal.nD Cert.KernelLossIdeal.τ).loc Cert.KernelLossIdeal.main_v0_1)) (v2 : (c : Dev Cert.KernelLossIdeal.nD) → Buf (Elt Ideal) ((c.tc : Thread Cert.KernelLossIdeal.nD Cert.KernelLossIdeal.τ).loc Cert.KernelLossIdeal.main_v0_2)) (v3 : (c : Dev Cert.KernelLossIdeal.nD) → Buf (Elt Ideal) ((c.tc : Thread Cert.KernelLossIdeal.nD Cert.KernelLossIdeal.τ).loc Cert.KernelLossIdeal.main_v0_3)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v0_0) = v0 c
          ∧ r.2.mem ((c.tc : Thread Cert.KernelLossIdeal.nD Cert.KernelLossIdeal.τ).loc Cert.KernelLossIdeal.main_v0_1) = v1 c
          ∧ r.2.mem ((c.tc : Thread Cert.KernelLossIdeal.nD Cert.KernelLossIdeal.τ).loc Cert.KernelLossIdeal.main_v0_2) = v2 c
          ∧ r.2.mem ((c.tc : Thread Cert.KernelLossIdeal.nD Cert.KernelLossIdeal.τ).loc Cert.KernelLossIdeal.main_v0_3) = v3 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v48) = v0 c
          ∧ r.2.mem ((c.tc : Thread Cert.ReferenceLossIdeal.nD Cert.ReferenceLossIdeal.τ).loc Cert.ReferenceLossIdeal.main_v32) = v1 c
          ∧ r.2.mem ((c.tc : Thread Cert.ReferenceLossIdeal.nD Cert.ReferenceLossIdeal.τ).loc Cert.ReferenceLossIdeal.main_v49) = v2 c
          ∧ r.2.mem ((c.tc : Thread Cert.ReferenceLossIdeal.nD Cert.ReferenceLossIdeal.τ).loc Cert.ReferenceLossIdeal.main_v50) = v3 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2))

def preserves_KernelAdamBranch_KernelAdamBranchIdeal : Prop :=
  True

def algebraic_KernelAdamBranchIdeal_ReferenceAdamBranchIdeal [hKernelAdamBranchIdeal : Cert.KernelAdamBranchIdeal.Facts] [hReferenceAdamBranchIdeal : Cert.ReferenceAdamBranchIdeal.Facts] : Prop :=
  ∀ (m : (ℓ : Loc Cert.KernelAdamBranchIdeal.nD Cert.KernelAdamBranchIdeal.τ Cert.KernelAdamBranchIdeal.sig) → Buf (Elt Ideal) ℓ) (g : Dev Cert.KernelAdamBranchIdeal.nD → PrngReg)
    (m' : (ℓ : Loc Cert.ReferenceAdamBranchIdeal.nD Cert.ReferenceAdamBranchIdeal.τ Cert.ReferenceAdamBranchIdeal.sig) → Buf (Elt Ideal) ℓ) (g' : Dev Cert.ReferenceAdamBranchIdeal.nD → PrngReg), Pre_KernelAdamBranchIdeal m →
    (∀ c : Dev Cert.KernelAdamBranchIdeal.nD,
      m' ((c.tc : Thread Cert.ReferenceAdamBranchIdeal.nD Cert.ReferenceAdamBranchIdeal.τ).loc Cert.ReferenceAdamBranchIdeal.main_arg0) = m ((c.tc : Thread Cert.KernelAdamBranchIdeal.nD Cert.KernelAdamBranchIdeal.τ).loc Cert.KernelAdamBranchIdeal.main_arg0)
      ∧ m' ((c.tc : Thread Cert.ReferenceAdamBranchIdeal.nD Cert.ReferenceAdamBranchIdeal.τ).loc Cert.ReferenceAdamBranchIdeal.main_arg1) = m ((c.tc : Thread Cert.KernelAdamBranchIdeal.nD Cert.KernelAdamBranchIdeal.τ).loc Cert.KernelAdamBranchIdeal.main_arg1)
      ∧ m' ((c.tc : Thread Cert.ReferenceAdamBranchIdeal.nD Cert.ReferenceAdamBranchIdeal.τ).loc Cert.ReferenceAdamBranchIdeal.main_arg2) = m ((c.tc : Thread Cert.KernelAdamBranchIdeal.nD Cert.KernelAdamBranchIdeal.τ).loc Cert.KernelAdamBranchIdeal.main_arg2)
      ∧ m' ((c.tc : Thread Cert.ReferenceAdamBranchIdeal.nD Cert.ReferenceAdamBranchIdeal.τ).loc Cert.ReferenceAdamBranchIdeal.main_arg3) = m ((c.tc : Thread Cert.KernelAdamBranchIdeal.nD Cert.KernelAdamBranchIdeal.τ).loc Cert.KernelAdamBranchIdeal.main_arg3)
      ∧ m' ((c.tc : Thread Cert.ReferenceAdamBranchIdeal.nD Cert.ReferenceAdamBranchIdeal.τ).loc Cert.ReferenceAdamBranchIdeal.main_arg4) = m ((c.tc : Thread Cert.KernelAdamBranchIdeal.nD Cert.KernelAdamBranchIdeal.τ).loc Cert.KernelAdamBranchIdeal.main_arg4)) →
    ∃ (v0 : (c : Dev Cert.KernelAdamBranchIdeal.nD) → Buf (Elt Ideal) ((c.tc : Thread Cert.KernelAdamBranchIdeal.nD Cert.KernelAdamBranchIdeal.τ).loc Cert.KernelAdamBranchIdeal.main_v0_0)) (v1 : (c : Dev Cert.KernelAdamBranchIdeal.nD) → Buf (Elt Ideal) ((c.tc : Thread Cert.KernelAdamBranchIdeal.nD Cert.KernelAdamBranchIdeal.τ).loc Cert.KernelAdamBranchIdeal.main_v0_1)) (v2 : (c : Dev Cert.KernelAdamBranchIdeal.nD) → Buf (Elt Ideal) ((c.tc : Thread Cert.KernelAdamBranchIdeal.nD Cert.KernelAdamBranchIdeal.τ).loc Cert.KernelAdamBranchIdeal.main_v0_2)) (v3 : (c : Dev Cert.KernelAdamBranchIdeal.nD) → Buf (Elt Ideal) ((c.tc : Thread Cert.KernelAdamBranchIdeal.nD Cert.KernelAdamBranchIdeal.τ).loc Cert.KernelAdamBranchIdeal.main_v0_3)),
      θ_run (Cert.KernelAdamBranchIdeal.defs (F := Ideal)) (onTc (τ := Cert.KernelAdamBranchIdeal.τ) (Cert.KernelAdamBranchIdeal.main (F := Ideal))) ⟨m, fun _ => 0, g⟩ (fun r => ∀ c : Dev Cert.KernelAdamBranchIdeal.nD,
          r.2.mem ((c.tc : Thread Cert.KernelAdamBranchIdeal.nD Cert.KernelAdamBranchIdeal.τ).loc Cert.KernelAdamBranchIdeal.main_v0_0) = v0 c
          ∧ r.2.mem ((c.tc : Thread Cert.KernelAdamBranchIdeal.nD Cert.KernelAdamBranchIdeal.τ).loc Cert.KernelAdamBranchIdeal.main_v0_1) = v1 c
          ∧ r.2.mem ((c.tc : Thread Cert.KernelAdamBranchIdeal.nD Cert.KernelAdamBranchIdeal.τ).loc Cert.KernelAdamBranchIdeal.main_v0_2) = v2 c
          ∧ r.2.mem ((c.tc : Thread Cert.KernelAdamBranchIdeal.nD Cert.KernelAdamBranchIdeal.τ).loc Cert.KernelAdamBranchIdeal.main_v0_3) = v3 c
          ∧ r.2.mem ((c.tc : Thread Cert.KernelAdamBranchIdeal.nD Cert.KernelAdamBranchIdeal.τ).loc Cert.KernelAdamBranchIdeal.main_arg0) = m ((c.tc : Thread Cert.KernelAdamBranchIdeal.nD Cert.KernelAdamBranchIdeal.τ).loc Cert.KernelAdamBranchIdeal.main_arg0)
          ∧ r.2.mem ((c.tc : Thread Cert.KernelAdamBranchIdeal.nD Cert.KernelAdamBranchIdeal.τ).loc Cert.KernelAdamBranchIdeal.main_arg1) = m ((c.tc : Thread Cert.KernelAdamBranchIdeal.nD Cert.KernelAdamBranchIdeal.τ).loc Cert.KernelAdamBranchIdeal.main_arg1)
          ∧ r.2.mem ((c.tc : Thread Cert.KernelAdamBranchIdeal.nD Cert.KernelAdamBranchIdeal.τ).loc Cert.KernelAdamBranchIdeal.main_arg2) = m ((c.tc : Thread Cert.KernelAdamBranchIdeal.nD Cert.KernelAdamBranchIdeal.τ).loc Cert.KernelAdamBranchIdeal.main_arg2)
          ∧ r.2.mem ((c.tc : Thread Cert.KernelAdamBranchIdeal.nD Cert.KernelAdamBranchIdeal.τ).loc Cert.KernelAdamBranchIdeal.main_arg3) = m ((c.tc : Thread Cert.KernelAdamBranchIdeal.nD Cert.KernelAdamBranchIdeal.τ).loc Cert.KernelAdamBranchIdeal.main_arg3)
          ∧ r.2.mem ((c.tc : Thread Cert.KernelAdamBranchIdeal.nD Cert.KernelAdamBranchIdeal.τ).loc Cert.KernelAdamBranchIdeal.main_arg4) = m ((c.tc : Thread Cert.KernelAdamBranchIdeal.nD Cert.KernelAdamBranchIdeal.τ).loc Cert.KernelAdamBranchIdeal.main_arg4))
      ∧ θ_run (Cert.ReferenceAdamBranchIdeal.defs (F := Ideal)) (onTc (τ := Cert.ReferenceAdamBranchIdeal.τ) (Cert.ReferenceAdamBranchIdeal.main (F := Ideal))) ⟨m', fun _ => 0, g'⟩ (fun r => ∀ c : Dev Cert.ReferenceAdamBranchIdeal.nD,
          r.2.mem ((c.tc : Thread Cert.ReferenceAdamBranchIdeal.nD Cert.ReferenceAdamBranchIdeal.τ).loc Cert.ReferenceAdamBranchIdeal.main_v6) = v0 c
          ∧ r.2.mem ((c.tc : Thread Cert.ReferenceAdamBranchIdeal.nD Cert.ReferenceAdamBranchIdeal.τ).loc Cert.ReferenceAdamBranchIdeal.main_v30) = v1 c
          ∧ r.2.mem ((c.tc : Thread Cert.ReferenceAdamBranchIdeal.nD Cert.ReferenceAdamBranchIdeal.τ).loc Cert.ReferenceAdamBranchIdeal.main_v11) = v2 c
          ∧ r.2.mem ((c.tc : Thread Cert.ReferenceAdamBranchIdeal.nD Cert.ReferenceAdamBranchIdeal.τ).loc Cert.ReferenceAdamBranchIdeal.main_v17) = v3 c
          ∧ r.2.mem ((c.tc : Thread Cert.ReferenceAdamBranchIdeal.nD Cert.ReferenceAdamBranchIdeal.τ).loc Cert.ReferenceAdamBranchIdeal.main_arg0) = m' ((c.tc : Thread Cert.ReferenceAdamBranchIdeal.nD Cert.ReferenceAdamBranchIdeal.τ).loc Cert.ReferenceAdamBranchIdeal.main_arg0)
          ∧ r.2.mem ((c.tc : Thread Cert.ReferenceAdamBranchIdeal.nD Cert.ReferenceAdamBranchIdeal.τ).loc Cert.ReferenceAdamBranchIdeal.main_arg1) = m' ((c.tc : Thread Cert.ReferenceAdamBranchIdeal.nD Cert.ReferenceAdamBranchIdeal.τ).loc Cert.ReferenceAdamBranchIdeal.main_arg1)
          ∧ r.2.mem ((c.tc : Thread Cert.ReferenceAdamBranchIdeal.nD Cert.ReferenceAdamBranchIdeal.τ).loc Cert.ReferenceAdamBranchIdeal.main_arg2) = m' ((c.tc : Thread Cert.ReferenceAdamBranchIdeal.nD Cert.ReferenceAdamBranchIdeal.τ).loc Cert.ReferenceAdamBranchIdeal.main_arg2)
          ∧ r.2.mem ((c.tc : Thread Cert.ReferenceAdamBranchIdeal.nD Cert.ReferenceAdamBranchIdeal.τ).loc Cert.ReferenceAdamBranchIdeal.main_arg3) = m' ((c.tc : Thread Cert.ReferenceAdamBranchIdeal.nD Cert.ReferenceAdamBranchIdeal.τ).loc Cert.ReferenceAdamBranchIdeal.main_arg3)
          ∧ r.2.mem ((c.tc : Thread Cert.ReferenceAdamBranchIdeal.nD Cert.ReferenceAdamBranchIdeal.τ).loc Cert.ReferenceAdamBranchIdeal.main_arg4) = m' ((c.tc : Thread Cert.ReferenceAdamBranchIdeal.nD Cert.ReferenceAdamBranchIdeal.τ).loc Cert.ReferenceAdamBranchIdeal.main_arg4))

def preserves_KernelAdamOut_KernelAdamOutIdeal : Prop :=
  True

def algebraic_KernelAdamOutIdeal_ReferenceAdamOutIdeal [hKernelAdamOutIdeal : Cert.KernelAdamOutIdeal.Facts] [hReferenceAdamOutIdeal : Cert.ReferenceAdamOutIdeal.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg)
    (m' : (ℓ : Loc Cert.ReferenceAdamOutIdeal.nD Cert.ReferenceAdamOutIdeal.τ Cert.ReferenceAdamOutIdeal.sig) → Buf (Elt Ideal) ℓ) (g' : Dev Cert.ReferenceAdamOutIdeal.nD → PrngReg), Pre_KernelAdamOutIdeal m →
    (∀ c : Dev Cert.KernelAdamOutIdeal.nD,
      m' ((c.tc : Thread Cert.ReferenceAdamOutIdeal.nD Cert.ReferenceAdamOutIdeal.τ).loc Cert.ReferenceAdamOutIdeal.main_arg0) = m ((c.tc : Thread Cert.KernelAdamOutIdeal.nD Cert.KernelAdamOutIdeal.τ).loc Cert.KernelAdamOutIdeal.main_arg0)
      ∧ m' ((c.tc : Thread Cert.ReferenceAdamOutIdeal.nD Cert.ReferenceAdamOutIdeal.τ).loc Cert.ReferenceAdamOutIdeal.main_arg1) = m ((c.tc : Thread Cert.KernelAdamOutIdeal.nD Cert.KernelAdamOutIdeal.τ).loc Cert.KernelAdamOutIdeal.main_arg1)
      ∧ m' ((c.tc : Thread Cert.ReferenceAdamOutIdeal.nD Cert.ReferenceAdamOutIdeal.τ).loc Cert.ReferenceAdamOutIdeal.main_arg2) = m ((c.tc : Thread Cert.KernelAdamOutIdeal.nD Cert.KernelAdamOutIdeal.τ).loc Cert.KernelAdamOutIdeal.main_arg2)
      ∧ m' ((c.tc : Thread Cert.ReferenceAdamOutIdeal.nD Cert.ReferenceAdamOutIdeal.τ).loc Cert.ReferenceAdamOutIdeal.main_arg3) = m ((c.tc : Thread Cert.KernelAdamOutIdeal.nD Cert.KernelAdamOutIdeal.τ).loc Cert.KernelAdamOutIdeal.main_arg3)
      ∧ m' ((c.tc : Thread Cert.ReferenceAdamOutIdeal.nD Cert.ReferenceAdamOutIdeal.τ).loc Cert.ReferenceAdamOutIdeal.main_arg4) = m ((c.tc : Thread Cert.KernelAdamOutIdeal.nD Cert.KernelAdamOutIdeal.τ).loc Cert.KernelAdamOutIdeal.main_arg4)) →
    ∃ (v0 : (c : Dev Cert.KernelAdamOutIdeal.nD) → Buf (Elt Ideal) ((c.tc : Thread Cert.KernelAdamOutIdeal.nD Cert.KernelAdamOutIdeal.τ).loc Cert.KernelAdamOutIdeal.main_v0_0)) (v1 : (c : Dev Cert.KernelAdamOutIdeal.nD) → Buf (Elt Ideal) ((c.tc : Thread Cert.KernelAdamOutIdeal.nD Cert.KernelAdamOutIdeal.τ).loc Cert.KernelAdamOutIdeal.main_v0_1)) (v2 : (c : Dev Cert.KernelAdamOutIdeal.nD) → Buf (Elt Ideal) ((c.tc : Thread Cert.KernelAdamOutIdeal.nD Cert.KernelAdamOutIdeal.τ).loc Cert.KernelAdamOutIdeal.main_v0_2)) (v3 : (c : Dev Cert.KernelAdamOutIdeal.nD) → Buf (Elt Ideal) ((c.tc : Thread Cert.KernelAdamOutIdeal.nD Cert.KernelAdamOutIdeal.τ).loc Cert.KernelAdamOutIdeal.main_v0_3)),
      θ_run (Cert.KernelAdamOutIdeal.defs (F := Ideal)) (onTc (τ := Cert.KernelAdamOutIdeal.τ) (Cert.KernelAdamOutIdeal.main (F := Ideal))) ⟨m, fun _ => 0, g⟩ (fun r => ∀ c : Dev Cert.KernelAdamOutIdeal.nD,
          r.2.mem ((c.tc : Thread Cert.KernelAdamOutIdeal.nD Cert.KernelAdamOutIdeal.τ).loc Cert.KernelAdamOutIdeal.main_v0_0) = v0 c
          ∧ r.2.mem ((c.tc : Thread Cert.KernelAdamOutIdeal.nD Cert.KernelAdamOutIdeal.τ).loc Cert.KernelAdamOutIdeal.main_v0_1) = v1 c
          ∧ r.2.mem ((c.tc : Thread Cert.KernelAdamOutIdeal.nD Cert.KernelAdamOutIdeal.τ).loc Cert.KernelAdamOutIdeal.main_v0_2) = v2 c
          ∧ r.2.mem ((c.tc : Thread Cert.KernelAdamOutIdeal.nD Cert.KernelAdamOutIdeal.τ).loc Cert.KernelAdamOutIdeal.main_v0_3) = v3 c
          ∧ r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
          ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
          ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
          ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3)
          ∧ r.2.mem ((c.tc : Thread Cert.KernelAdamOutIdeal.nD Cert.KernelAdamOutIdeal.τ).loc Cert.KernelAdamOutIdeal.main_arg4) = m ((c.tc : Thread Cert.KernelAdamOutIdeal.nD Cert.KernelAdamOutIdeal.τ).loc Cert.KernelAdamOutIdeal.main_arg4))
      ∧ θ_run (Cert.ReferenceAdamOutIdeal.defs (F := Ideal)) (onTc (τ := Cert.ReferenceAdamOutIdeal.τ) (Cert.ReferenceAdamOutIdeal.main (F := Ideal))) ⟨m', fun _ => 0, g'⟩ (fun r => ∀ c : Dev Cert.ReferenceAdamOutIdeal.nD,
          r.2.mem ((c.tc : Thread Cert.ReferenceAdamOutIdeal.nD Cert.ReferenceAdamOutIdeal.τ).loc Cert.ReferenceAdamOutIdeal.main_v6) = v0 c
          ∧ r.2.mem ((c.tc : Thread Cert.ReferenceAdamOutIdeal.nD Cert.ReferenceAdamOutIdeal.τ).loc Cert.ReferenceAdamOutIdeal.main_v30) = v1 c
          ∧ r.2.mem ((c.tc : Thread Cert.ReferenceAdamOutIdeal.nD Cert.ReferenceAdamOutIdeal.τ).loc Cert.ReferenceAdamOutIdeal.main_v11) = v2 c
          ∧ r.2.mem ((c.tc : Thread Cert.ReferenceAdamOutIdeal.nD Cert.ReferenceAdamOutIdeal.τ).loc Cert.ReferenceAdamOutIdeal.main_v17) = v3 c
          ∧ r.2.mem ((c.tc : Thread Cert.ReferenceAdamOutIdeal.nD Cert.ReferenceAdamOutIdeal.τ).loc Cert.ReferenceAdamOutIdeal.main_arg0) = m' ((c.tc : Thread Cert.ReferenceAdamOutIdeal.nD Cert.ReferenceAdamOutIdeal.τ).loc Cert.ReferenceAdamOutIdeal.main_arg0)
          ∧ r.2.mem ((c.tc : Thread Cert.ReferenceAdamOutIdeal.nD Cert.ReferenceAdamOutIdeal.τ).loc Cert.ReferenceAdamOutIdeal.main_arg1) = m' ((c.tc : Thread Cert.ReferenceAdamOutIdeal.nD Cert.ReferenceAdamOutIdeal.τ).loc Cert.ReferenceAdamOutIdeal.main_arg1)
          ∧ r.2.mem ((c.tc : Thread Cert.ReferenceAdamOutIdeal.nD Cert.ReferenceAdamOutIdeal.τ).loc Cert.ReferenceAdamOutIdeal.main_arg2) = m' ((c.tc : Thread Cert.ReferenceAdamOutIdeal.nD Cert.ReferenceAdamOutIdeal.τ).loc Cert.ReferenceAdamOutIdeal.main_arg2)
          ∧ r.2.mem ((c.tc : Thread Cert.ReferenceAdamOutIdeal.nD Cert.ReferenceAdamOutIdeal.τ).loc Cert.ReferenceAdamOutIdeal.main_arg3) = m' ((c.tc : Thread Cert.ReferenceAdamOutIdeal.nD Cert.ReferenceAdamOutIdeal.τ).loc Cert.ReferenceAdamOutIdeal.main_arg3)
          ∧ r.2.mem ((c.tc : Thread Cert.ReferenceAdamOutIdeal.nD Cert.ReferenceAdamOutIdeal.τ).loc Cert.ReferenceAdamOutIdeal.main_arg4) = m' ((c.tc : Thread Cert.ReferenceAdamOutIdeal.nD Cert.ReferenceAdamOutIdeal.τ).loc Cert.ReferenceAdamOutIdeal.main_arg4))

def preserves_KernelAdamFfnIn_KernelAdamFfnInIdeal : Prop :=
  True

def algebraic_KernelAdamFfnInIdeal_ReferenceAdamFfnInIdeal [hKernelAdamFfnInIdeal : Cert.KernelAdamFfnInIdeal.Facts] [hReferenceAdamFfnInIdeal : Cert.ReferenceAdamFfnInIdeal.Facts] : Prop :=
  ∀ (m : (ℓ : Loc Cert.KernelAdamFfnInIdeal.nD Cert.KernelAdamFfnInIdeal.τ Cert.KernelAdamFfnInIdeal.sig) → Buf (Elt Ideal) ℓ) (g : Dev Cert.KernelAdamFfnInIdeal.nD → PrngReg)
    (m' : (ℓ : Loc Cert.ReferenceAdamFfnInIdeal.nD Cert.ReferenceAdamFfnInIdeal.τ Cert.ReferenceAdamFfnInIdeal.sig) → Buf (Elt Ideal) ℓ) (g' : Dev Cert.ReferenceAdamFfnInIdeal.nD → PrngReg), Pre_KernelAdamFfnInIdeal m →
    (∀ c : Dev Cert.KernelAdamFfnInIdeal.nD,
      m' ((c.tc : Thread Cert.ReferenceAdamFfnInIdeal.nD Cert.ReferenceAdamFfnInIdeal.τ).loc Cert.ReferenceAdamFfnInIdeal.main_arg0) = m ((c.tc : Thread Cert.KernelAdamFfnInIdeal.nD Cert.KernelAdamFfnInIdeal.τ).loc Cert.KernelAdamFfnInIdeal.main_arg0)
      ∧ m' ((c.tc : Thread Cert.ReferenceAdamFfnInIdeal.nD Cert.ReferenceAdamFfnInIdeal.τ).loc Cert.ReferenceAdamFfnInIdeal.main_arg1) = m ((c.tc : Thread Cert.KernelAdamFfnInIdeal.nD Cert.KernelAdamFfnInIdeal.τ).loc Cert.KernelAdamFfnInIdeal.main_arg1)
      ∧ m' ((c.tc : Thread Cert.ReferenceAdamFfnInIdeal.nD Cert.ReferenceAdamFfnInIdeal.τ).loc Cert.ReferenceAdamFfnInIdeal.main_arg2) = m ((c.tc : Thread Cert.KernelAdamFfnInIdeal.nD Cert.KernelAdamFfnInIdeal.τ).loc Cert.KernelAdamFfnInIdeal.main_arg2)
      ∧ m' ((c.tc : Thread Cert.ReferenceAdamFfnInIdeal.nD Cert.ReferenceAdamFfnInIdeal.τ).loc Cert.ReferenceAdamFfnInIdeal.main_arg3) = m ((c.tc : Thread Cert.KernelAdamFfnInIdeal.nD Cert.KernelAdamFfnInIdeal.τ).loc Cert.KernelAdamFfnInIdeal.main_arg3)
      ∧ m' ((c.tc : Thread Cert.ReferenceAdamFfnInIdeal.nD Cert.ReferenceAdamFfnInIdeal.τ).loc Cert.ReferenceAdamFfnInIdeal.main_arg4) = m ((c.tc : Thread Cert.KernelAdamFfnInIdeal.nD Cert.KernelAdamFfnInIdeal.τ).loc Cert.KernelAdamFfnInIdeal.main_arg4)) →
    ∃ (v0 : (c : Dev Cert.KernelAdamFfnInIdeal.nD) → Buf (Elt Ideal) ((c.tc : Thread Cert.KernelAdamFfnInIdeal.nD Cert.KernelAdamFfnInIdeal.τ).loc Cert.KernelAdamFfnInIdeal.main_v0_0)) (v1 : (c : Dev Cert.KernelAdamFfnInIdeal.nD) → Buf (Elt Ideal) ((c.tc : Thread Cert.KernelAdamFfnInIdeal.nD Cert.KernelAdamFfnInIdeal.τ).loc Cert.KernelAdamFfnInIdeal.main_v0_1)) (v2 : (c : Dev Cert.KernelAdamFfnInIdeal.nD) → Buf (Elt Ideal) ((c.tc : Thread Cert.KernelAdamFfnInIdeal.nD Cert.KernelAdamFfnInIdeal.τ).loc Cert.KernelAdamFfnInIdeal.main_v0_2)) (v3 : (c : Dev Cert.KernelAdamFfnInIdeal.nD) → Buf (Elt Ideal) ((c.tc : Thread Cert.KernelAdamFfnInIdeal.nD Cert.KernelAdamFfnInIdeal.τ).loc Cert.KernelAdamFfnInIdeal.main_v0_3)),
      θ_run (Cert.KernelAdamFfnInIdeal.defs (F := Ideal)) (onTc (τ := Cert.KernelAdamFfnInIdeal.τ) (Cert.KernelAdamFfnInIdeal.main (F := Ideal))) ⟨m, fun _ => 0, g⟩ (fun r => ∀ c : Dev Cert.KernelAdamFfnInIdeal.nD,
          r.2.mem ((c.tc : Thread Cert.KernelAdamFfnInIdeal.nD Cert.KernelAdamFfnInIdeal.τ).loc Cert.KernelAdamFfnInIdeal.main_v0_0) = v0 c
          ∧ r.2.mem ((c.tc : Thread Cert.KernelAdamFfnInIdeal.nD Cert.KernelAdamFfnInIdeal.τ).loc Cert.KernelAdamFfnInIdeal.main_v0_1) = v1 c
          ∧ r.2.mem ((c.tc : Thread Cert.KernelAdamFfnInIdeal.nD Cert.KernelAdamFfnInIdeal.τ).loc Cert.KernelAdamFfnInIdeal.main_v0_2) = v2 c
          ∧ r.2.mem ((c.tc : Thread Cert.KernelAdamFfnInIdeal.nD Cert.KernelAdamFfnInIdeal.τ).loc Cert.KernelAdamFfnInIdeal.main_v0_3) = v3 c
          ∧ r.2.mem ((c.tc : Thread Cert.KernelAdamFfnInIdeal.nD Cert.KernelAdamFfnInIdeal.τ).loc Cert.KernelAdamFfnInIdeal.main_arg0) = m ((c.tc : Thread Cert.KernelAdamFfnInIdeal.nD Cert.KernelAdamFfnInIdeal.τ).loc Cert.KernelAdamFfnInIdeal.main_arg0)
          ∧ r.2.mem ((c.tc : Thread Cert.KernelAdamFfnInIdeal.nD Cert.KernelAdamFfnInIdeal.τ).loc Cert.KernelAdamFfnInIdeal.main_arg1) = m ((c.tc : Thread Cert.KernelAdamFfnInIdeal.nD Cert.KernelAdamFfnInIdeal.τ).loc Cert.KernelAdamFfnInIdeal.main_arg1)
          ∧ r.2.mem ((c.tc : Thread Cert.KernelAdamFfnInIdeal.nD Cert.KernelAdamFfnInIdeal.τ).loc Cert.KernelAdamFfnInIdeal.main_arg2) = m ((c.tc : Thread Cert.KernelAdamFfnInIdeal.nD Cert.KernelAdamFfnInIdeal.τ).loc Cert.KernelAdamFfnInIdeal.main_arg2)
          ∧ r.2.mem ((c.tc : Thread Cert.KernelAdamFfnInIdeal.nD Cert.KernelAdamFfnInIdeal.τ).loc Cert.KernelAdamFfnInIdeal.main_arg3) = m ((c.tc : Thread Cert.KernelAdamFfnInIdeal.nD Cert.KernelAdamFfnInIdeal.τ).loc Cert.KernelAdamFfnInIdeal.main_arg3)
          ∧ r.2.mem ((c.tc : Thread Cert.KernelAdamFfnInIdeal.nD Cert.KernelAdamFfnInIdeal.τ).loc Cert.KernelAdamFfnInIdeal.main_arg4) = m ((c.tc : Thread Cert.KernelAdamFfnInIdeal.nD Cert.KernelAdamFfnInIdeal.τ).loc Cert.KernelAdamFfnInIdeal.main_arg4))
      ∧ θ_run (Cert.ReferenceAdamFfnInIdeal.defs (F := Ideal)) (onTc (τ := Cert.ReferenceAdamFfnInIdeal.τ) (Cert.ReferenceAdamFfnInIdeal.main (F := Ideal))) ⟨m', fun _ => 0, g'⟩ (fun r => ∀ c : Dev Cert.ReferenceAdamFfnInIdeal.nD,
          r.2.mem ((c.tc : Thread Cert.ReferenceAdamFfnInIdeal.nD Cert.ReferenceAdamFfnInIdeal.τ).loc Cert.ReferenceAdamFfnInIdeal.main_v6) = v0 c
          ∧ r.2.mem ((c.tc : Thread Cert.ReferenceAdamFfnInIdeal.nD Cert.ReferenceAdamFfnInIdeal.τ).loc Cert.ReferenceAdamFfnInIdeal.main_v30) = v1 c
          ∧ r.2.mem ((c.tc : Thread Cert.ReferenceAdamFfnInIdeal.nD Cert.ReferenceAdamFfnInIdeal.τ).loc Cert.ReferenceAdamFfnInIdeal.main_v11) = v2 c
          ∧ r.2.mem ((c.tc : Thread Cert.ReferenceAdamFfnInIdeal.nD Cert.ReferenceAdamFfnInIdeal.τ).loc Cert.ReferenceAdamFfnInIdeal.main_v17) = v3 c
          ∧ r.2.mem ((c.tc : Thread Cert.ReferenceAdamFfnInIdeal.nD Cert.ReferenceAdamFfnInIdeal.τ).loc Cert.ReferenceAdamFfnInIdeal.main_arg0) = m' ((c.tc : Thread Cert.ReferenceAdamFfnInIdeal.nD Cert.ReferenceAdamFfnInIdeal.τ).loc Cert.ReferenceAdamFfnInIdeal.main_arg0)
          ∧ r.2.mem ((c.tc : Thread Cert.ReferenceAdamFfnInIdeal.nD Cert.ReferenceAdamFfnInIdeal.τ).loc Cert.ReferenceAdamFfnInIdeal.main_arg1) = m' ((c.tc : Thread Cert.ReferenceAdamFfnInIdeal.nD Cert.ReferenceAdamFfnInIdeal.τ).loc Cert.ReferenceAdamFfnInIdeal.main_arg1)
          ∧ r.2.mem ((c.tc : Thread Cert.ReferenceAdamFfnInIdeal.nD Cert.ReferenceAdamFfnInIdeal.τ).loc Cert.ReferenceAdamFfnInIdeal.main_arg2) = m' ((c.tc : Thread Cert.ReferenceAdamFfnInIdeal.nD Cert.ReferenceAdamFfnInIdeal.τ).loc Cert.ReferenceAdamFfnInIdeal.main_arg2)
          ∧ r.2.mem ((c.tc : Thread Cert.ReferenceAdamFfnInIdeal.nD Cert.ReferenceAdamFfnInIdeal.τ).loc Cert.ReferenceAdamFfnInIdeal.main_arg3) = m' ((c.tc : Thread Cert.ReferenceAdamFfnInIdeal.nD Cert.ReferenceAdamFfnInIdeal.τ).loc Cert.ReferenceAdamFfnInIdeal.main_arg3)
          ∧ r.2.mem ((c.tc : Thread Cert.ReferenceAdamFfnInIdeal.nD Cert.ReferenceAdamFfnInIdeal.τ).loc Cert.ReferenceAdamFfnInIdeal.main_arg4) = m' ((c.tc : Thread Cert.ReferenceAdamFfnInIdeal.nD Cert.ReferenceAdamFfnInIdeal.τ).loc Cert.ReferenceAdamFfnInIdeal.main_arg4))

def preserves_KernelAdamFfnOut_KernelAdamFfnOutIdeal : Prop :=
  True

def algebraic_KernelAdamFfnOutIdeal_ReferenceAdamFfnOutIdeal [hKernelAdamFfnOutIdeal : Cert.KernelAdamFfnOutIdeal.Facts] [hReferenceAdamFfnOutIdeal : Cert.ReferenceAdamFfnOutIdeal.Facts] : Prop :=
  ∀ (m : (ℓ : Loc Cert.KernelAdamFfnOutIdeal.nD Cert.KernelAdamFfnOutIdeal.τ Cert.KernelAdamFfnOutIdeal.sig) → Buf (Elt Ideal) ℓ) (g : Dev Cert.KernelAdamFfnOutIdeal.nD → PrngReg)
    (m' : (ℓ : Loc Cert.ReferenceAdamFfnOutIdeal.nD Cert.ReferenceAdamFfnOutIdeal.τ Cert.ReferenceAdamFfnOutIdeal.sig) → Buf (Elt Ideal) ℓ) (g' : Dev Cert.ReferenceAdamFfnOutIdeal.nD → PrngReg), Pre_KernelAdamFfnOutIdeal m →
    (∀ c : Dev Cert.KernelAdamFfnOutIdeal.nD,
      m' ((c.tc : Thread Cert.ReferenceAdamFfnOutIdeal.nD Cert.ReferenceAdamFfnOutIdeal.τ).loc Cert.ReferenceAdamFfnOutIdeal.main_arg0) = m ((c.tc : Thread Cert.KernelAdamFfnOutIdeal.nD Cert.KernelAdamFfnOutIdeal.τ).loc Cert.KernelAdamFfnOutIdeal.main_arg0)
      ∧ m' ((c.tc : Thread Cert.ReferenceAdamFfnOutIdeal.nD Cert.ReferenceAdamFfnOutIdeal.τ).loc Cert.ReferenceAdamFfnOutIdeal.main_arg1) = m ((c.tc : Thread Cert.KernelAdamFfnOutIdeal.nD Cert.KernelAdamFfnOutIdeal.τ).loc Cert.KernelAdamFfnOutIdeal.main_arg1)
      ∧ m' ((c.tc : Thread Cert.ReferenceAdamFfnOutIdeal.nD Cert.ReferenceAdamFfnOutIdeal.τ).loc Cert.ReferenceAdamFfnOutIdeal.main_arg2) = m ((c.tc : Thread Cert.KernelAdamFfnOutIdeal.nD Cert.KernelAdamFfnOutIdeal.τ).loc Cert.KernelAdamFfnOutIdeal.main_arg2)
      ∧ m' ((c.tc : Thread Cert.ReferenceAdamFfnOutIdeal.nD Cert.ReferenceAdamFfnOutIdeal.τ).loc Cert.ReferenceAdamFfnOutIdeal.main_arg3) = m ((c.tc : Thread Cert.KernelAdamFfnOutIdeal.nD Cert.KernelAdamFfnOutIdeal.τ).loc Cert.KernelAdamFfnOutIdeal.main_arg3)
      ∧ m' ((c.tc : Thread Cert.ReferenceAdamFfnOutIdeal.nD Cert.ReferenceAdamFfnOutIdeal.τ).loc Cert.ReferenceAdamFfnOutIdeal.main_arg4) = m ((c.tc : Thread Cert.KernelAdamFfnOutIdeal.nD Cert.KernelAdamFfnOutIdeal.τ).loc Cert.KernelAdamFfnOutIdeal.main_arg4)) →
    ∃ (v0 : (c : Dev Cert.KernelAdamFfnOutIdeal.nD) → Buf (Elt Ideal) ((c.tc : Thread Cert.KernelAdamFfnOutIdeal.nD Cert.KernelAdamFfnOutIdeal.τ).loc Cert.KernelAdamFfnOutIdeal.main_v0_0)) (v1 : (c : Dev Cert.KernelAdamFfnOutIdeal.nD) → Buf (Elt Ideal) ((c.tc : Thread Cert.KernelAdamFfnOutIdeal.nD Cert.KernelAdamFfnOutIdeal.τ).loc Cert.KernelAdamFfnOutIdeal.main_v0_1)) (v2 : (c : Dev Cert.KernelAdamFfnOutIdeal.nD) → Buf (Elt Ideal) ((c.tc : Thread Cert.KernelAdamFfnOutIdeal.nD Cert.KernelAdamFfnOutIdeal.τ).loc Cert.KernelAdamFfnOutIdeal.main_v0_2)) (v3 : (c : Dev Cert.KernelAdamFfnOutIdeal.nD) → Buf (Elt Ideal) ((c.tc : Thread Cert.KernelAdamFfnOutIdeal.nD Cert.KernelAdamFfnOutIdeal.τ).loc Cert.KernelAdamFfnOutIdeal.main_v0_3)),
      θ_run (Cert.KernelAdamFfnOutIdeal.defs (F := Ideal)) (onTc (τ := Cert.KernelAdamFfnOutIdeal.τ) (Cert.KernelAdamFfnOutIdeal.main (F := Ideal))) ⟨m, fun _ => 0, g⟩ (fun r => ∀ c : Dev Cert.KernelAdamFfnOutIdeal.nD,
          r.2.mem ((c.tc : Thread Cert.KernelAdamFfnOutIdeal.nD Cert.KernelAdamFfnOutIdeal.τ).loc Cert.KernelAdamFfnOutIdeal.main_v0_0) = v0 c
          ∧ r.2.mem ((c.tc : Thread Cert.KernelAdamFfnOutIdeal.nD Cert.KernelAdamFfnOutIdeal.τ).loc Cert.KernelAdamFfnOutIdeal.main_v0_1) = v1 c
          ∧ r.2.mem ((c.tc : Thread Cert.KernelAdamFfnOutIdeal.nD Cert.KernelAdamFfnOutIdeal.τ).loc Cert.KernelAdamFfnOutIdeal.main_v0_2) = v2 c
          ∧ r.2.mem ((c.tc : Thread Cert.KernelAdamFfnOutIdeal.nD Cert.KernelAdamFfnOutIdeal.τ).loc Cert.KernelAdamFfnOutIdeal.main_v0_3) = v3 c
          ∧ r.2.mem ((c.tc : Thread Cert.KernelAdamFfnOutIdeal.nD Cert.KernelAdamFfnOutIdeal.τ).loc Cert.KernelAdamFfnOutIdeal.main_arg0) = m ((c.tc : Thread Cert.KernelAdamFfnOutIdeal.nD Cert.KernelAdamFfnOutIdeal.τ).loc Cert.KernelAdamFfnOutIdeal.main_arg0)
          ∧ r.2.mem ((c.tc : Thread Cert.KernelAdamFfnOutIdeal.nD Cert.KernelAdamFfnOutIdeal.τ).loc Cert.KernelAdamFfnOutIdeal.main_arg1) = m ((c.tc : Thread Cert.KernelAdamFfnOutIdeal.nD Cert.KernelAdamFfnOutIdeal.τ).loc Cert.KernelAdamFfnOutIdeal.main_arg1)
          ∧ r.2.mem ((c.tc : Thread Cert.KernelAdamFfnOutIdeal.nD Cert.KernelAdamFfnOutIdeal.τ).loc Cert.KernelAdamFfnOutIdeal.main_arg2) = m ((c.tc : Thread Cert.KernelAdamFfnOutIdeal.nD Cert.KernelAdamFfnOutIdeal.τ).loc Cert.KernelAdamFfnOutIdeal.main_arg2)
          ∧ r.2.mem ((c.tc : Thread Cert.KernelAdamFfnOutIdeal.nD Cert.KernelAdamFfnOutIdeal.τ).loc Cert.KernelAdamFfnOutIdeal.main_arg3) = m ((c.tc : Thread Cert.KernelAdamFfnOutIdeal.nD Cert.KernelAdamFfnOutIdeal.τ).loc Cert.KernelAdamFfnOutIdeal.main_arg3)
          ∧ r.2.mem ((c.tc : Thread Cert.KernelAdamFfnOutIdeal.nD Cert.KernelAdamFfnOutIdeal.τ).loc Cert.KernelAdamFfnOutIdeal.main_arg4) = m ((c.tc : Thread Cert.KernelAdamFfnOutIdeal.nD Cert.KernelAdamFfnOutIdeal.τ).loc Cert.KernelAdamFfnOutIdeal.main_arg4))
      ∧ θ_run (Cert.ReferenceAdamFfnOutIdeal.defs (F := Ideal)) (onTc (τ := Cert.ReferenceAdamFfnOutIdeal.τ) (Cert.ReferenceAdamFfnOutIdeal.main (F := Ideal))) ⟨m', fun _ => 0, g'⟩ (fun r => ∀ c : Dev Cert.ReferenceAdamFfnOutIdeal.nD,
          r.2.mem ((c.tc : Thread Cert.ReferenceAdamFfnOutIdeal.nD Cert.ReferenceAdamFfnOutIdeal.τ).loc Cert.ReferenceAdamFfnOutIdeal.main_v6) = v0 c
          ∧ r.2.mem ((c.tc : Thread Cert.ReferenceAdamFfnOutIdeal.nD Cert.ReferenceAdamFfnOutIdeal.τ).loc Cert.ReferenceAdamFfnOutIdeal.main_v30) = v1 c
          ∧ r.2.mem ((c.tc : Thread Cert.ReferenceAdamFfnOutIdeal.nD Cert.ReferenceAdamFfnOutIdeal.τ).loc Cert.ReferenceAdamFfnOutIdeal.main_v11) = v2 c
          ∧ r.2.mem ((c.tc : Thread Cert.ReferenceAdamFfnOutIdeal.nD Cert.ReferenceAdamFfnOutIdeal.τ).loc Cert.ReferenceAdamFfnOutIdeal.main_v17) = v3 c
          ∧ r.2.mem ((c.tc : Thread Cert.ReferenceAdamFfnOutIdeal.nD Cert.ReferenceAdamFfnOutIdeal.τ).loc Cert.ReferenceAdamFfnOutIdeal.main_arg0) = m' ((c.tc : Thread Cert.ReferenceAdamFfnOutIdeal.nD Cert.ReferenceAdamFfnOutIdeal.τ).loc Cert.ReferenceAdamFfnOutIdeal.main_arg0)
          ∧ r.2.mem ((c.tc : Thread Cert.ReferenceAdamFfnOutIdeal.nD Cert.ReferenceAdamFfnOutIdeal.τ).loc Cert.ReferenceAdamFfnOutIdeal.main_arg1) = m' ((c.tc : Thread Cert.ReferenceAdamFfnOutIdeal.nD Cert.ReferenceAdamFfnOutIdeal.τ).loc Cert.ReferenceAdamFfnOutIdeal.main_arg1)
          ∧ r.2.mem ((c.tc : Thread Cert.ReferenceAdamFfnOutIdeal.nD Cert.ReferenceAdamFfnOutIdeal.τ).loc Cert.ReferenceAdamFfnOutIdeal.main_arg2) = m' ((c.tc : Thread Cert.ReferenceAdamFfnOutIdeal.nD Cert.ReferenceAdamFfnOutIdeal.τ).loc Cert.ReferenceAdamFfnOutIdeal.main_arg2)
          ∧ r.2.mem ((c.tc : Thread Cert.ReferenceAdamFfnOutIdeal.nD Cert.ReferenceAdamFfnOutIdeal.τ).loc Cert.ReferenceAdamFfnOutIdeal.main_arg3) = m' ((c.tc : Thread Cert.ReferenceAdamFfnOutIdeal.nD Cert.ReferenceAdamFfnOutIdeal.τ).loc Cert.ReferenceAdamFfnOutIdeal.main_arg3)
          ∧ r.2.mem ((c.tc : Thread Cert.ReferenceAdamFfnOutIdeal.nD Cert.ReferenceAdamFfnOutIdeal.τ).loc Cert.ReferenceAdamFfnOutIdeal.main_arg4) = m' ((c.tc : Thread Cert.ReferenceAdamFfnOutIdeal.nD Cert.ReferenceAdamFfnOutIdeal.τ).loc Cert.ReferenceAdamFfnOutIdeal.main_arg4))

def preserves_KernelAdamSmall_KernelAdamSmallIdeal : Prop :=
  True

def algebraic_KernelAdamSmallIdeal_ReferenceAdamSmallIdeal [hKernelAdamSmallIdeal : Cert.KernelAdamSmallIdeal.Facts] [hReferenceAdamSmallIdeal : Cert.ReferenceAdamSmallIdeal.Facts] : Prop :=
  ∀ (m : (ℓ : Loc Cert.KernelAdamSmallIdeal.nD Cert.KernelAdamSmallIdeal.τ Cert.KernelAdamSmallIdeal.sig) → Buf (Elt Ideal) ℓ) (g : Dev Cert.KernelAdamSmallIdeal.nD → PrngReg)
    (m' : (ℓ : Loc Cert.ReferenceAdamSmallIdeal.nD Cert.ReferenceAdamSmallIdeal.τ Cert.ReferenceAdamSmallIdeal.sig) → Buf (Elt Ideal) ℓ) (g' : Dev Cert.ReferenceAdamSmallIdeal.nD → PrngReg), Pre_KernelAdamSmallIdeal m →
    (∀ c : Dev Cert.KernelAdamSmallIdeal.nD,
      m' ((c.tc : Thread Cert.ReferenceAdamSmallIdeal.nD Cert.ReferenceAdamSmallIdeal.τ).loc Cert.ReferenceAdamSmallIdeal.main_arg0) = m ((c.tc : Thread Cert.KernelAdamSmallIdeal.nD Cert.KernelAdamSmallIdeal.τ).loc Cert.KernelAdamSmallIdeal.main_arg0)
      ∧ m' ((c.tc : Thread Cert.ReferenceAdamSmallIdeal.nD Cert.ReferenceAdamSmallIdeal.τ).loc Cert.ReferenceAdamSmallIdeal.main_arg1) = m ((c.tc : Thread Cert.KernelAdamSmallIdeal.nD Cert.KernelAdamSmallIdeal.τ).loc Cert.KernelAdamSmallIdeal.main_arg1)
      ∧ m' ((c.tc : Thread Cert.ReferenceAdamSmallIdeal.nD Cert.ReferenceAdamSmallIdeal.τ).loc Cert.ReferenceAdamSmallIdeal.main_arg2) = m ((c.tc : Thread Cert.KernelAdamSmallIdeal.nD Cert.KernelAdamSmallIdeal.τ).loc Cert.KernelAdamSmallIdeal.main_arg2)
      ∧ m' ((c.tc : Thread Cert.ReferenceAdamSmallIdeal.nD Cert.ReferenceAdamSmallIdeal.τ).loc Cert.ReferenceAdamSmallIdeal.main_arg3) = m ((c.tc : Thread Cert.KernelAdamSmallIdeal.nD Cert.KernelAdamSmallIdeal.τ).loc Cert.KernelAdamSmallIdeal.main_arg3)) →
    ∃ (v0 : (c : Dev Cert.KernelAdamSmallIdeal.nD) → Buf (Elt Ideal) ((c.tc : Thread Cert.KernelAdamSmallIdeal.nD Cert.KernelAdamSmallIdeal.τ).loc Cert.KernelAdamSmallIdeal.main_v0_0)) (v1 : (c : Dev Cert.KernelAdamSmallIdeal.nD) → Buf (Elt Ideal) ((c.tc : Thread Cert.KernelAdamSmallIdeal.nD Cert.KernelAdamSmallIdeal.τ).loc Cert.KernelAdamSmallIdeal.main_v0_1)) (v2 : (c : Dev Cert.KernelAdamSmallIdeal.nD) → Buf (Elt Ideal) ((c.tc : Thread Cert.KernelAdamSmallIdeal.nD Cert.KernelAdamSmallIdeal.τ).loc Cert.KernelAdamSmallIdeal.main_v0_2)),
      θ_run (Cert.KernelAdamSmallIdeal.defs (F := Ideal)) (onTc (τ := Cert.KernelAdamSmallIdeal.τ) (Cert.KernelAdamSmallIdeal.main (F := Ideal))) ⟨m, fun _ => 0, g⟩ (fun r => ∀ c : Dev Cert.KernelAdamSmallIdeal.nD,
          r.2.mem ((c.tc : Thread Cert.KernelAdamSmallIdeal.nD Cert.KernelAdamSmallIdeal.τ).loc Cert.KernelAdamSmallIdeal.main_v0_0) = v0 c
          ∧ r.2.mem ((c.tc : Thread Cert.KernelAdamSmallIdeal.nD Cert.KernelAdamSmallIdeal.τ).loc Cert.KernelAdamSmallIdeal.main_v0_1) = v1 c
          ∧ r.2.mem ((c.tc : Thread Cert.KernelAdamSmallIdeal.nD Cert.KernelAdamSmallIdeal.τ).loc Cert.KernelAdamSmallIdeal.main_v0_2) = v2 c
          ∧ r.2.mem ((c.tc : Thread Cert.KernelAdamSmallIdeal.nD Cert.KernelAdamSmallIdeal.τ).loc Cert.KernelAdamSmallIdeal.main_arg0) = m ((c.tc : Thread Cert.KernelAdamSmallIdeal.nD Cert.KernelAdamSmallIdeal.τ).loc Cert.KernelAdamSmallIdeal.main_arg0)
          ∧ r.2.mem ((c.tc : Thread Cert.KernelAdamSmallIdeal.nD Cert.KernelAdamSmallIdeal.τ).loc Cert.KernelAdamSmallIdeal.main_arg1) = m ((c.tc : Thread Cert.KernelAdamSmallIdeal.nD Cert.KernelAdamSmallIdeal.τ).loc Cert.KernelAdamSmallIdeal.main_arg1)
          ∧ r.2.mem ((c.tc : Thread Cert.KernelAdamSmallIdeal.nD Cert.KernelAdamSmallIdeal.τ).loc Cert.KernelAdamSmallIdeal.main_arg2) = m ((c.tc : Thread Cert.KernelAdamSmallIdeal.nD Cert.KernelAdamSmallIdeal.τ).loc Cert.KernelAdamSmallIdeal.main_arg2)
          ∧ r.2.mem ((c.tc : Thread Cert.KernelAdamSmallIdeal.nD Cert.KernelAdamSmallIdeal.τ).loc Cert.KernelAdamSmallIdeal.main_arg3) = m ((c.tc : Thread Cert.KernelAdamSmallIdeal.nD Cert.KernelAdamSmallIdeal.τ).loc Cert.KernelAdamSmallIdeal.main_arg3))
      ∧ θ_run (Cert.ReferenceAdamSmallIdeal.defs (F := Ideal)) (onTc (τ := Cert.ReferenceAdamSmallIdeal.τ) (Cert.ReferenceAdamSmallIdeal.main (F := Ideal))) ⟨m', fun _ => 0, g'⟩ (fun r => ∀ c : Dev Cert.ReferenceAdamSmallIdeal.nD,
          r.2.mem ((c.tc : Thread Cert.ReferenceAdamSmallIdeal.nD Cert.ReferenceAdamSmallIdeal.τ).loc Cert.ReferenceAdamSmallIdeal.main_v23) = v0 c
          ∧ r.2.mem ((c.tc : Thread Cert.ReferenceAdamSmallIdeal.nD Cert.ReferenceAdamSmallIdeal.τ).loc Cert.ReferenceAdamSmallIdeal.main_v4) = v1 c
          ∧ r.2.mem ((c.tc : Thread Cert.ReferenceAdamSmallIdeal.nD Cert.ReferenceAdamSmallIdeal.τ).loc Cert.ReferenceAdamSmallIdeal.main_v10) = v2 c
          ∧ r.2.mem ((c.tc : Thread Cert.ReferenceAdamSmallIdeal.nD Cert.ReferenceAdamSmallIdeal.τ).loc Cert.ReferenceAdamSmallIdeal.main_arg0) = m' ((c.tc : Thread Cert.ReferenceAdamSmallIdeal.nD Cert.ReferenceAdamSmallIdeal.τ).loc Cert.ReferenceAdamSmallIdeal.main_arg0)
          ∧ r.2.mem ((c.tc : Thread Cert.ReferenceAdamSmallIdeal.nD Cert.ReferenceAdamSmallIdeal.τ).loc Cert.ReferenceAdamSmallIdeal.main_arg1) = m' ((c.tc : Thread Cert.ReferenceAdamSmallIdeal.nD Cert.ReferenceAdamSmallIdeal.τ).loc Cert.ReferenceAdamSmallIdeal.main_arg1)
          ∧ r.2.mem ((c.tc : Thread Cert.ReferenceAdamSmallIdeal.nD Cert.ReferenceAdamSmallIdeal.τ).loc Cert.ReferenceAdamSmallIdeal.main_arg2) = m' ((c.tc : Thread Cert.ReferenceAdamSmallIdeal.nD Cert.ReferenceAdamSmallIdeal.τ).loc Cert.ReferenceAdamSmallIdeal.main_arg2)
          ∧ r.2.mem ((c.tc : Thread Cert.ReferenceAdamSmallIdeal.nD Cert.ReferenceAdamSmallIdeal.τ).loc Cert.ReferenceAdamSmallIdeal.main_arg3) = m' ((c.tc : Thread Cert.ReferenceAdamSmallIdeal.nD Cert.ReferenceAdamSmallIdeal.τ).loc Cert.ReferenceAdamSmallIdeal.main_arg3))

def preserves_KernelSumGrads_KernelSumGradsIdeal : Prop :=
  True

def algebraic_KernelSumGradsIdeal_ReferenceSumGradsIdeal [hKernelSumGradsIdeal : Cert.KernelSumGradsIdeal.Facts] [hReferenceSumGradsIdeal : Cert.ReferenceSumGradsIdeal.Facts] : Prop :=
  ∀ (m : (ℓ : Loc Cert.KernelSumGradsIdeal.nD Cert.KernelSumGradsIdeal.τ Cert.KernelSumGradsIdeal.sig) → Buf (Elt Ideal) ℓ) (g : Dev Cert.KernelSumGradsIdeal.nD → PrngReg)
    (m' : (ℓ : Loc Cert.ReferenceSumGradsIdeal.nD Cert.ReferenceSumGradsIdeal.τ Cert.ReferenceSumGradsIdeal.sig) → Buf (Elt Ideal) ℓ) (g' : Dev Cert.ReferenceSumGradsIdeal.nD → PrngReg), Pre_KernelSumGradsIdeal m →
    (∀ c : Dev Cert.KernelSumGradsIdeal.nD,
      m' ((c.tc : Thread Cert.ReferenceSumGradsIdeal.nD Cert.ReferenceSumGradsIdeal.τ).loc Cert.ReferenceSumGradsIdeal.main_arg0) = m ((c.tc : Thread Cert.KernelSumGradsIdeal.nD Cert.KernelSumGradsIdeal.τ).loc Cert.KernelSumGradsIdeal.main_arg0)) →
    ∃ (v0 : (c : Dev Cert.KernelSumGradsIdeal.nD) → Buf (Elt Ideal) ((c.tc : Thread Cert.KernelSumGradsIdeal.nD Cert.KernelSumGradsIdeal.τ).loc Cert.KernelSumGradsIdeal.main_v0)),
      θ_run (Cert.KernelSumGradsIdeal.defs (F := Ideal)) (onTc (τ := Cert.KernelSumGradsIdeal.τ) (Cert.KernelSumGradsIdeal.main (F := Ideal))) ⟨m, fun _ => 0, g⟩ (fun r => ∀ c : Dev Cert.KernelSumGradsIdeal.nD,
          r.2.mem ((c.tc : Thread Cert.KernelSumGradsIdeal.nD Cert.KernelSumGradsIdeal.τ).loc Cert.KernelSumGradsIdeal.main_v0) = v0 c
          ∧ r.2.mem ((c.tc : Thread Cert.KernelSumGradsIdeal.nD Cert.KernelSumGradsIdeal.τ).loc Cert.KernelSumGradsIdeal.main_arg0) = m ((c.tc : Thread Cert.KernelSumGradsIdeal.nD Cert.KernelSumGradsIdeal.τ).loc Cert.KernelSumGradsIdeal.main_arg0))
      ∧ θ_run (Cert.ReferenceSumGradsIdeal.defs (F := Ideal)) (onTc (τ := Cert.ReferenceSumGradsIdeal.τ) (Cert.ReferenceSumGradsIdeal.main (F := Ideal))) ⟨m', fun _ => 0, g'⟩ (fun r => ∀ c : Dev Cert.ReferenceSumGradsIdeal.nD,
          r.2.mem ((c.tc : Thread Cert.ReferenceSumGradsIdeal.nD Cert.ReferenceSumGradsIdeal.τ).loc Cert.ReferenceSumGradsIdeal.main_v1) = v0 c
          ∧ r.2.mem ((c.tc : Thread Cert.ReferenceSumGradsIdeal.nD Cert.ReferenceSumGradsIdeal.τ).loc Cert.ReferenceSumGradsIdeal.main_arg0) = m' ((c.tc : Thread Cert.ReferenceSumGradsIdeal.nD Cert.ReferenceSumGradsIdeal.τ).loc Cert.ReferenceSumGradsIdeal.main_arg0))

def Claim : Prop :=
  ∃ (hKernelScanBwd : Cert.KernelScanBwd.Facts) (hKernelScanBwdIdeal : Cert.KernelScanBwdIdeal.Facts) (hReferenceScanBwdIdeal : Cert.ReferenceScanBwdIdeal.Facts) (hKernelScanFwd : Cert.KernelScanFwd.Facts) (hKernelScanFwdIdeal : Cert.KernelScanFwdIdeal.Facts) (hReferenceScanFwdIdeal : Cert.ReferenceScanFwdIdeal.Facts) (hKernelConvBwd : Cert.KernelConvBwd.Facts) (hKernelConvBwdIdeal : Cert.KernelConvBwdIdeal.Facts) (hReferenceConvBwdIdeal : Cert.ReferenceConvBwdIdeal.Facts) (hKernelConvBwdX : Cert.KernelConvBwdX.Facts) (hKernelConvBwdXIdeal : Cert.KernelConvBwdXIdeal.Facts) (hReferenceConvBwdXIdeal : Cert.ReferenceConvBwdXIdeal.Facts) (hKernelConvFwd : Cert.KernelConvFwd.Facts) (hKernelConvFwdIdeal : Cert.KernelConvFwdIdeal.Facts) (hReferenceConvFwdIdeal : Cert.ReferenceConvFwdIdeal.Facts) (hKernelConvFwdX : Cert.KernelConvFwdX.Facts) (hKernelConvFwdXIdeal : Cert.KernelConvFwdXIdeal.Facts) (hReferenceConvFwdXIdeal : Cert.ReferenceConvFwdXIdeal.Facts) (hKernelMergeBwd : Cert.KernelMergeBwd.Facts) (hKernelMergeBwdIdeal : Cert.KernelMergeBwdIdeal.Facts) (hReferenceMergeBwdIdeal : Cert.ReferenceMergeBwdIdeal.Facts) (hKernelMergeFwd : Cert.KernelMergeFwd.Facts) (hKernelMergeFwdIdeal : Cert.KernelMergeFwdIdeal.Facts) (hReferenceMergeFwdIdeal : Cert.ReferenceMergeFwdIdeal.Facts) (hKernelActBwd : Cert.KernelActBwd.Facts) (hKernelActBwdIdeal : Cert.KernelActBwdIdeal.Facts) (hReferenceActBwdIdeal : Cert.ReferenceActBwdIdeal.Facts) (hKernelRmsBwd : Cert.KernelRmsBwd.Facts) (hKernelRmsBwdIdeal : Cert.KernelRmsBwdIdeal.Facts) (hReferenceRmsBwdIdeal : Cert.ReferenceRmsBwdIdeal.Facts) (hKernelRmsFwd : Cert.KernelRmsFwd.Facts) (hKernelRmsFwdIdeal : Cert.KernelRmsFwdIdeal.Facts) (hReferenceRmsFwdIdeal : Cert.ReferenceRmsFwdIdeal.Facts) (hKernelPostBwd : Cert.KernelPostBwd.Facts) (hKernelPostBwdIdeal : Cert.KernelPostBwdIdeal.Facts) (hReferencePostBwdIdeal : Cert.ReferencePostBwdIdeal.Facts) (hKernelPostFwd : Cert.KernelPostFwd.Facts) (hKernelPostFwdIdeal : Cert.KernelPostFwdIdeal.Facts) (hReferencePostFwdIdeal : Cert.ReferencePostFwdIdeal.Facts) (hKernelGatesFwd : Cert.KernelGatesFwd.Facts) (hKernelGatesFwdIdeal : Cert.KernelGatesFwdIdeal.Facts) (hReferenceGatesFwdIdeal : Cert.ReferenceGatesFwdIdeal.Facts) (hKernelDw : Cert.KernelDw.Facts) (hKernelDwIdeal : Cert.KernelDwIdeal.Facts) (hReferenceDwIdeal : Cert.ReferenceDwIdeal.Facts) (hKernelDwZ : Cert.KernelDwZ.Facts) (hKernelDwZIdeal : Cert.KernelDwZIdeal.Facts) (hReferenceDwZIdeal : Cert.ReferenceDwZIdeal.Facts) (hKernelDwXbc : Cert.KernelDwXbc.Facts) (hKernelDwXbcIdeal : Cert.KernelDwXbcIdeal.Facts) (hReferenceDwXbcIdeal : Cert.ReferenceDwXbcIdeal.Facts) (hKernelDwDt : Cert.KernelDwDt.Facts) (hKernelDwDtIdeal : Cert.KernelDwDtIdeal.Facts) (hReferenceDwDtIdeal : Cert.ReferenceDwDtIdeal.Facts) (hKernelDwFfnOut : Cert.KernelDwFfnOut.Facts) (hKernelDwFfnOutIdeal : Cert.KernelDwFfnOutIdeal.Facts) (hReferenceDwFfnOutIdeal : Cert.ReferenceDwFfnOutIdeal.Facts) (hKernelDwFfnIn : Cert.KernelDwFfnIn.Facts) (hKernelDwFfnInIdeal : Cert.KernelDwFfnInIdeal.Facts) (hReferenceDwFfnInIdeal : Cert.ReferenceDwFfnInIdeal.Facts) (hKernelDwBrb : Cert.KernelDwBrb.Facts) (hKernelDwBrbIdeal : Cert.KernelDwBrbIdeal.Facts) (hReferenceDwBrbIdeal : Cert.ReferenceDwBrbIdeal.Facts) (hKernelDAct : Cert.KernelDAct.Facts) (hKernelDActIdeal : Cert.KernelDActIdeal.Facts) (hReferenceDActIdeal : Cert.ReferenceDActIdeal.Facts) (hKernelDx : Cert.KernelDx.Facts) (hKernelDxIdeal : Cert.KernelDxIdeal.Facts) (hReferenceDxIdeal : Cert.ReferenceDxIdeal.Facts) (hKernelDYb : Cert.KernelDYb.Facts) (hKernelDYbIdeal : Cert.KernelDYbIdeal.Facts) (hReferenceDYbIdeal : Cert.ReferenceDYbIdeal.Facts) (hKernelDXn2 : Cert.KernelDXn2.Facts) (hKernelDXn2Ideal : Cert.KernelDXn2Ideal.Facts) (hReferenceDXn2Ideal : Cert.ReferenceDXn2Ideal.Facts) (hKernelDXnA : Cert.KernelDXnA.Facts) (hKernelDXnAIdeal : Cert.KernelDXnAIdeal.Facts) (hReferenceDXnAIdeal : Cert.ReferenceDXnAIdeal.Facts) (hKernelDXnB : Cert.KernelDXnB.Facts) (hKernelDXnBIdeal : Cert.KernelDXnBIdeal.Facts) (hReferenceDXnBIdeal : Cert.ReferenceDXnBIdeal.Facts) (hKernelY : Cert.KernelY.Facts) (hKernelYIdeal : Cert.KernelYIdeal.Facts) (hReferenceYIdeal : Cert.ReferenceYIdeal.Facts) (hKernelYZ : Cert.KernelYZ.Facts) (hKernelYZIdeal : Cert.KernelYZIdeal.Facts) (hReferenceYZIdeal : Cert.ReferenceYZIdeal.Facts) (hKernelYXbc : Cert.KernelYXbc.Facts) (hKernelYXbcIdeal : Cert.KernelYXbcIdeal.Facts) (hReferenceYXbcIdeal : Cert.ReferenceYXbcIdeal.Facts) (hKernelYDt : Cert.KernelYDt.Facts) (hKernelYDtIdeal : Cert.KernelYDtIdeal.Facts) (hReferenceYDtIdeal : Cert.ReferenceYDtIdeal.Facts) (hKernelYBrb : Cert.KernelYBrb.Facts) (hKernelYBrbIdeal : Cert.KernelYBrbIdeal.Facts) (hReferenceYBrbIdeal : Cert.ReferenceYBrbIdeal.Facts) (hKernelYFfnIn : Cert.KernelYFfnIn.Facts) (hKernelYFfnInIdeal : Cert.KernelYFfnInIdeal.Facts) (hReferenceYFfnInIdeal : Cert.ReferenceYFfnInIdeal.Facts) (hKernelOut : Cert.KernelOut.Facts) (hKernelOutIdeal : Cert.KernelOutIdeal.Facts) (hReferenceOutIdeal : Cert.ReferenceOutIdeal.Facts) (hKernelFfnOut : Cert.KernelFfnOut.Facts) (hKernelFfnOutIdeal : Cert.KernelFfnOutIdeal.Facts) (hReferenceFfnOutIdeal : Cert.ReferenceFfnOutIdeal.Facts) (hKernelLoss : Cert.KernelLoss.Facts) (hKernelLossIdeal : Cert.KernelLossIdeal.Facts) (hReferenceLossIdeal : Cert.ReferenceLossIdeal.Facts) (hKernelAdamBranch : Cert.KernelAdamBranch.Facts) (hKernelAdamBranchIdeal : Cert.KernelAdamBranchIdeal.Facts) (hReferenceAdamBranchIdeal : Cert.ReferenceAdamBranchIdeal.Facts) (hKernelAdamOut : Cert.KernelAdamOut.Facts) (hKernelAdamOutIdeal : Cert.KernelAdamOutIdeal.Facts) (hReferenceAdamOutIdeal : Cert.ReferenceAdamOutIdeal.Facts) (hKernelAdamFfnIn : Cert.KernelAdamFfnIn.Facts) (hKernelAdamFfnInIdeal : Cert.KernelAdamFfnInIdeal.Facts) (hReferenceAdamFfnInIdeal : Cert.ReferenceAdamFfnInIdeal.Facts) (hKernelAdamFfnOut : Cert.KernelAdamFfnOut.Facts) (hKernelAdamFfnOutIdeal : Cert.KernelAdamFfnOutIdeal.Facts) (hReferenceAdamFfnOutIdeal : Cert.ReferenceAdamFfnOutIdeal.Facts) (hKernelAdamSmall : Cert.KernelAdamSmall.Facts) (hKernelAdamSmallIdeal : Cert.KernelAdamSmallIdeal.Facts) (hReferenceAdamSmallIdeal : Cert.ReferenceAdamSmallIdeal.Facts) (hKernelSumGrads : Cert.KernelSumGrads.Facts) (hKernelSumGradsIdeal : Cert.KernelSumGradsIdeal.Facts) (hReferenceSumGradsIdeal : Cert.ReferenceSumGradsIdeal.Facts),
    quiescent_KernelScanBwd (hKernelScanBwd := hKernelScanBwd)
    ∧ quiescent_KernelScanBwdIdeal (hKernelScanBwdIdeal := hKernelScanBwdIdeal)
    ∧ quiescent_ReferenceScanBwdIdeal (hReferenceScanBwdIdeal := hReferenceScanBwdIdeal)
    ∧ quiescent_KernelScanFwd (hKernelScanFwd := hKernelScanFwd)
    ∧ quiescent_KernelScanFwdIdeal (hKernelScanFwdIdeal := hKernelScanFwdIdeal)
    ∧ quiescent_ReferenceScanFwdIdeal (hReferenceScanFwdIdeal := hReferenceScanFwdIdeal)
    ∧ quiescent_KernelConvBwd (hKernelConvBwd := hKernelConvBwd)
    ∧ quiescent_KernelConvBwdIdeal (hKernelConvBwdIdeal := hKernelConvBwdIdeal)
    ∧ quiescent_ReferenceConvBwdIdeal (hReferenceConvBwdIdeal := hReferenceConvBwdIdeal)
    ∧ quiescent_KernelConvBwdX (hKernelConvBwdX := hKernelConvBwdX)
    ∧ quiescent_KernelConvBwdXIdeal (hKernelConvBwdXIdeal := hKernelConvBwdXIdeal)
    ∧ quiescent_ReferenceConvBwdXIdeal (hReferenceConvBwdXIdeal := hReferenceConvBwdXIdeal)
    ∧ quiescent_KernelConvFwd (hKernelConvFwd := hKernelConvFwd)
    ∧ quiescent_KernelConvFwdIdeal (hKernelConvFwdIdeal := hKernelConvFwdIdeal)
    ∧ quiescent_ReferenceConvFwdIdeal (hReferenceConvFwdIdeal := hReferenceConvFwdIdeal)
    ∧ quiescent_KernelConvFwdX (hKernelConvFwdX := hKernelConvFwdX)
    ∧ quiescent_KernelConvFwdXIdeal (hKernelConvFwdXIdeal := hKernelConvFwdXIdeal)
    ∧ quiescent_ReferenceConvFwdXIdeal (hReferenceConvFwdXIdeal := hReferenceConvFwdXIdeal)
    ∧ quiescent_KernelMergeBwd (hKernelMergeBwd := hKernelMergeBwd)
    ∧ quiescent_KernelMergeBwdIdeal (hKernelMergeBwdIdeal := hKernelMergeBwdIdeal)
    ∧ quiescent_ReferenceMergeBwdIdeal (hReferenceMergeBwdIdeal := hReferenceMergeBwdIdeal)
    ∧ quiescent_KernelMergeFwd (hKernelMergeFwd := hKernelMergeFwd)
    ∧ quiescent_KernelMergeFwdIdeal (hKernelMergeFwdIdeal := hKernelMergeFwdIdeal)
    ∧ quiescent_ReferenceMergeFwdIdeal (hReferenceMergeFwdIdeal := hReferenceMergeFwdIdeal)
    ∧ quiescent_KernelActBwd (hKernelActBwd := hKernelActBwd)
    ∧ quiescent_KernelActBwdIdeal (hKernelActBwdIdeal := hKernelActBwdIdeal)
    ∧ quiescent_ReferenceActBwdIdeal (hReferenceActBwdIdeal := hReferenceActBwdIdeal)
    ∧ quiescent_KernelRmsBwd (hKernelRmsBwd := hKernelRmsBwd)
    ∧ quiescent_KernelRmsBwdIdeal (hKernelRmsBwdIdeal := hKernelRmsBwdIdeal)
    ∧ quiescent_ReferenceRmsBwdIdeal (hReferenceRmsBwdIdeal := hReferenceRmsBwdIdeal)
    ∧ quiescent_KernelRmsFwd (hKernelRmsFwd := hKernelRmsFwd)
    ∧ quiescent_KernelRmsFwdIdeal (hKernelRmsFwdIdeal := hKernelRmsFwdIdeal)
    ∧ quiescent_ReferenceRmsFwdIdeal (hReferenceRmsFwdIdeal := hReferenceRmsFwdIdeal)
    ∧ quiescent_KernelPostBwd (hKernelPostBwd := hKernelPostBwd)
    ∧ quiescent_KernelPostBwdIdeal (hKernelPostBwdIdeal := hKernelPostBwdIdeal)
    ∧ quiescent_ReferencePostBwdIdeal (hReferencePostBwdIdeal := hReferencePostBwdIdeal)
    ∧ quiescent_KernelPostFwd (hKernelPostFwd := hKernelPostFwd)
    ∧ quiescent_KernelPostFwdIdeal (hKernelPostFwdIdeal := hKernelPostFwdIdeal)
    ∧ quiescent_ReferencePostFwdIdeal (hReferencePostFwdIdeal := hReferencePostFwdIdeal)
    ∧ quiescent_KernelGatesFwd (hKernelGatesFwd := hKernelGatesFwd)
    ∧ quiescent_KernelGatesFwdIdeal (hKernelGatesFwdIdeal := hKernelGatesFwdIdeal)
    ∧ quiescent_ReferenceGatesFwdIdeal (hReferenceGatesFwdIdeal := hReferenceGatesFwdIdeal)
    ∧ quiescent_KernelDw (hKernelDw := hKernelDw)
    ∧ quiescent_KernelDwIdeal (hKernelDwIdeal := hKernelDwIdeal)
    ∧ quiescent_ReferenceDwIdeal (hReferenceDwIdeal := hReferenceDwIdeal)
    ∧ quiescent_KernelDwZ (hKernelDwZ := hKernelDwZ)
    ∧ quiescent_KernelDwZIdeal (hKernelDwZIdeal := hKernelDwZIdeal)
    ∧ quiescent_ReferenceDwZIdeal (hReferenceDwZIdeal := hReferenceDwZIdeal)
    ∧ quiescent_KernelDwXbc (hKernelDwXbc := hKernelDwXbc)
    ∧ quiescent_KernelDwXbcIdeal (hKernelDwXbcIdeal := hKernelDwXbcIdeal)
    ∧ quiescent_ReferenceDwXbcIdeal (hReferenceDwXbcIdeal := hReferenceDwXbcIdeal)
    ∧ quiescent_KernelDwDt (hKernelDwDt := hKernelDwDt)
    ∧ quiescent_KernelDwDtIdeal (hKernelDwDtIdeal := hKernelDwDtIdeal)
    ∧ quiescent_ReferenceDwDtIdeal (hReferenceDwDtIdeal := hReferenceDwDtIdeal)
    ∧ quiescent_KernelDwFfnOut (hKernelDwFfnOut := hKernelDwFfnOut)
    ∧ quiescent_KernelDwFfnOutIdeal (hKernelDwFfnOutIdeal := hKernelDwFfnOutIdeal)
    ∧ quiescent_ReferenceDwFfnOutIdeal (hReferenceDwFfnOutIdeal := hReferenceDwFfnOutIdeal)
    ∧ quiescent_KernelDwFfnIn (hKernelDwFfnIn := hKernelDwFfnIn)
    ∧ quiescent_KernelDwFfnInIdeal (hKernelDwFfnInIdeal := hKernelDwFfnInIdeal)
    ∧ quiescent_ReferenceDwFfnInIdeal (hReferenceDwFfnInIdeal := hReferenceDwFfnInIdeal)
    ∧ quiescent_KernelDwBrb (hKernelDwBrb := hKernelDwBrb)
    ∧ quiescent_KernelDwBrbIdeal (hKernelDwBrbIdeal := hKernelDwBrbIdeal)
    ∧ quiescent_ReferenceDwBrbIdeal (hReferenceDwBrbIdeal := hReferenceDwBrbIdeal)
    ∧ quiescent_KernelDAct (hKernelDAct := hKernelDAct)
    ∧ quiescent_KernelDActIdeal (hKernelDActIdeal := hKernelDActIdeal)
    ∧ quiescent_ReferenceDActIdeal (hReferenceDActIdeal := hReferenceDActIdeal)
    ∧ quiescent_KernelDx (hKernelDx := hKernelDx)
    ∧ quiescent_KernelDxIdeal (hKernelDxIdeal := hKernelDxIdeal)
    ∧ quiescent_ReferenceDxIdeal (hReferenceDxIdeal := hReferenceDxIdeal)
    ∧ quiescent_KernelDYb (hKernelDYb := hKernelDYb)
    ∧ quiescent_KernelDYbIdeal (hKernelDYbIdeal := hKernelDYbIdeal)
    ∧ quiescent_ReferenceDYbIdeal (hReferenceDYbIdeal := hReferenceDYbIdeal)
    ∧ quiescent_KernelDXn2 (hKernelDXn2 := hKernelDXn2)
    ∧ quiescent_KernelDXn2Ideal (hKernelDXn2Ideal := hKernelDXn2Ideal)
    ∧ quiescent_ReferenceDXn2Ideal (hReferenceDXn2Ideal := hReferenceDXn2Ideal)
    ∧ quiescent_KernelDXnA (hKernelDXnA := hKernelDXnA)
    ∧ quiescent_KernelDXnAIdeal (hKernelDXnAIdeal := hKernelDXnAIdeal)
    ∧ quiescent_ReferenceDXnAIdeal (hReferenceDXnAIdeal := hReferenceDXnAIdeal)
    ∧ quiescent_KernelDXnB (hKernelDXnB := hKernelDXnB)
    ∧ quiescent_KernelDXnBIdeal (hKernelDXnBIdeal := hKernelDXnBIdeal)
    ∧ quiescent_ReferenceDXnBIdeal (hReferenceDXnBIdeal := hReferenceDXnBIdeal)
    ∧ quiescent_KernelY (hKernelY := hKernelY)
    ∧ quiescent_KernelYIdeal (hKernelYIdeal := hKernelYIdeal)
    ∧ quiescent_ReferenceYIdeal (hReferenceYIdeal := hReferenceYIdeal)
    ∧ quiescent_KernelYZ (hKernelYZ := hKernelYZ)
    ∧ quiescent_KernelYZIdeal (hKernelYZIdeal := hKernelYZIdeal)
    ∧ quiescent_ReferenceYZIdeal (hReferenceYZIdeal := hReferenceYZIdeal)
    ∧ quiescent_KernelYXbc (hKernelYXbc := hKernelYXbc)
    ∧ quiescent_KernelYXbcIdeal (hKernelYXbcIdeal := hKernelYXbcIdeal)
    ∧ quiescent_ReferenceYXbcIdeal (hReferenceYXbcIdeal := hReferenceYXbcIdeal)
    ∧ quiescent_KernelYDt (hKernelYDt := hKernelYDt)
    ∧ quiescent_KernelYDtIdeal (hKernelYDtIdeal := hKernelYDtIdeal)
    ∧ quiescent_ReferenceYDtIdeal (hReferenceYDtIdeal := hReferenceYDtIdeal)
    ∧ quiescent_KernelYBrb (hKernelYBrb := hKernelYBrb)
    ∧ quiescent_KernelYBrbIdeal (hKernelYBrbIdeal := hKernelYBrbIdeal)
    ∧ quiescent_ReferenceYBrbIdeal (hReferenceYBrbIdeal := hReferenceYBrbIdeal)
    ∧ quiescent_KernelYFfnIn (hKernelYFfnIn := hKernelYFfnIn)
    ∧ quiescent_KernelYFfnInIdeal (hKernelYFfnInIdeal := hKernelYFfnInIdeal)
    ∧ quiescent_ReferenceYFfnInIdeal (hReferenceYFfnInIdeal := hReferenceYFfnInIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelFfnOut (hKernelFfnOut := hKernelFfnOut)
    ∧ quiescent_KernelFfnOutIdeal (hKernelFfnOutIdeal := hKernelFfnOutIdeal)
    ∧ quiescent_ReferenceFfnOutIdeal (hReferenceFfnOutIdeal := hReferenceFfnOutIdeal)
    ∧ quiescent_KernelLoss (hKernelLoss := hKernelLoss)
    ∧ quiescent_KernelLossIdeal (hKernelLossIdeal := hKernelLossIdeal)
    ∧ quiescent_ReferenceLossIdeal (hReferenceLossIdeal := hReferenceLossIdeal)
    ∧ quiescent_KernelAdamBranch (hKernelAdamBranch := hKernelAdamBranch)
    ∧ quiescent_KernelAdamBranchIdeal (hKernelAdamBranchIdeal := hKernelAdamBranchIdeal)
    ∧ quiescent_ReferenceAdamBranchIdeal (hReferenceAdamBranchIdeal := hReferenceAdamBranchIdeal)
    ∧ quiescent_KernelAdamOut (hKernelAdamOut := hKernelAdamOut)
    ∧ quiescent_KernelAdamOutIdeal (hKernelAdamOutIdeal := hKernelAdamOutIdeal)
    ∧ quiescent_ReferenceAdamOutIdeal (hReferenceAdamOutIdeal := hReferenceAdamOutIdeal)
    ∧ quiescent_KernelAdamFfnIn (hKernelAdamFfnIn := hKernelAdamFfnIn)
    ∧ quiescent_KernelAdamFfnInIdeal (hKernelAdamFfnInIdeal := hKernelAdamFfnInIdeal)
    ∧ quiescent_ReferenceAdamFfnInIdeal (hReferenceAdamFfnInIdeal := hReferenceAdamFfnInIdeal)
    ∧ quiescent_KernelAdamFfnOut (hKernelAdamFfnOut := hKernelAdamFfnOut)
    ∧ quiescent_KernelAdamFfnOutIdeal (hKernelAdamFfnOutIdeal := hKernelAdamFfnOutIdeal)
    ∧ quiescent_ReferenceAdamFfnOutIdeal (hReferenceAdamFfnOutIdeal := hReferenceAdamFfnOutIdeal)
    ∧ quiescent_KernelAdamSmall (hKernelAdamSmall := hKernelAdamSmall)
    ∧ quiescent_KernelAdamSmallIdeal (hKernelAdamSmallIdeal := hKernelAdamSmallIdeal)
    ∧ quiescent_ReferenceAdamSmallIdeal (hReferenceAdamSmallIdeal := hReferenceAdamSmallIdeal)
    ∧ quiescent_KernelSumGrads (hKernelSumGrads := hKernelSumGrads)
    ∧ quiescent_KernelSumGradsIdeal (hKernelSumGradsIdeal := hKernelSumGradsIdeal)
    ∧ quiescent_ReferenceSumGradsIdeal (hReferenceSumGradsIdeal := hReferenceSumGradsIdeal)
    ∧ preserves_KernelScanBwd_KernelScanBwdIdeal
    ∧ algebraic_KernelScanBwdIdeal_ReferenceScanBwdIdeal (hKernelScanBwdIdeal := hKernelScanBwdIdeal) (hReferenceScanBwdIdeal := hReferenceScanBwdIdeal)
    ∧ preserves_KernelScanFwd_KernelScanFwdIdeal
    ∧ algebraic_KernelScanFwdIdeal_ReferenceScanFwdIdeal (hKernelScanFwdIdeal := hKernelScanFwdIdeal) (hReferenceScanFwdIdeal := hReferenceScanFwdIdeal)
    ∧ preserves_KernelConvBwd_KernelConvBwdIdeal
    ∧ algebraic_KernelConvBwdIdeal_ReferenceConvBwdIdeal (hKernelConvBwdIdeal := hKernelConvBwdIdeal) (hReferenceConvBwdIdeal := hReferenceConvBwdIdeal)
    ∧ preserves_KernelConvBwdX_KernelConvBwdXIdeal
    ∧ algebraic_KernelConvBwdXIdeal_ReferenceConvBwdXIdeal (hKernelConvBwdXIdeal := hKernelConvBwdXIdeal) (hReferenceConvBwdXIdeal := hReferenceConvBwdXIdeal)
    ∧ preserves_KernelConvFwd_KernelConvFwdIdeal
    ∧ algebraic_KernelConvFwdIdeal_ReferenceConvFwdIdeal (hKernelConvFwdIdeal := hKernelConvFwdIdeal) (hReferenceConvFwdIdeal := hReferenceConvFwdIdeal)
    ∧ preserves_KernelConvFwdX_KernelConvFwdXIdeal
    ∧ algebraic_KernelConvFwdXIdeal_ReferenceConvFwdXIdeal (hKernelConvFwdXIdeal := hKernelConvFwdXIdeal) (hReferenceConvFwdXIdeal := hReferenceConvFwdXIdeal)
    ∧ preserves_KernelMergeBwd_KernelMergeBwdIdeal
    ∧ algebraic_KernelMergeBwdIdeal_ReferenceMergeBwdIdeal (hKernelMergeBwdIdeal := hKernelMergeBwdIdeal) (hReferenceMergeBwdIdeal := hReferenceMergeBwdIdeal)
    ∧ preserves_KernelMergeFwd_KernelMergeFwdIdeal
    ∧ algebraic_KernelMergeFwdIdeal_ReferenceMergeFwdIdeal (hKernelMergeFwdIdeal := hKernelMergeFwdIdeal) (hReferenceMergeFwdIdeal := hReferenceMergeFwdIdeal)
    ∧ preserves_KernelActBwd_KernelActBwdIdeal
    ∧ algebraic_KernelActBwdIdeal_ReferenceActBwdIdeal (hKernelActBwdIdeal := hKernelActBwdIdeal) (hReferenceActBwdIdeal := hReferenceActBwdIdeal)
    ∧ preserves_KernelRmsBwd_KernelRmsBwdIdeal
    ∧ algebraic_KernelRmsBwdIdeal_ReferenceRmsBwdIdeal (hKernelRmsBwdIdeal := hKernelRmsBwdIdeal) (hReferenceRmsBwdIdeal := hReferenceRmsBwdIdeal)
    ∧ preserves_KernelRmsFwd_KernelRmsFwdIdeal
    ∧ algebraic_KernelRmsFwdIdeal_ReferenceRmsFwdIdeal (hKernelRmsFwdIdeal := hKernelRmsFwdIdeal) (hReferenceRmsFwdIdeal := hReferenceRmsFwdIdeal)
    ∧ preserves_KernelPostBwd_KernelPostBwdIdeal
    ∧ algebraic_KernelPostBwdIdeal_ReferencePostBwdIdeal (hKernelPostBwdIdeal := hKernelPostBwdIdeal) (hReferencePostBwdIdeal := hReferencePostBwdIdeal)
    ∧ preserves_KernelPostFwd_KernelPostFwdIdeal
    ∧ algebraic_KernelPostFwdIdeal_ReferencePostFwdIdeal (hKernelPostFwdIdeal := hKernelPostFwdIdeal) (hReferencePostFwdIdeal := hReferencePostFwdIdeal)
    ∧ preserves_KernelGatesFwd_KernelGatesFwdIdeal
    ∧ algebraic_KernelGatesFwdIdeal_ReferenceGatesFwdIdeal (hKernelGatesFwdIdeal := hKernelGatesFwdIdeal) (hReferenceGatesFwdIdeal := hReferenceGatesFwdIdeal)
    ∧ preserves_KernelDw_KernelDwIdeal
    ∧ algebraic_KernelDwIdeal_ReferenceDwIdeal (hKernelDwIdeal := hKernelDwIdeal) (hReferenceDwIdeal := hReferenceDwIdeal)
    ∧ preserves_KernelDwZ_KernelDwZIdeal
    ∧ algebraic_KernelDwZIdeal_ReferenceDwZIdeal (hKernelDwZIdeal := hKernelDwZIdeal) (hReferenceDwZIdeal := hReferenceDwZIdeal)
    ∧ preserves_KernelDwXbc_KernelDwXbcIdeal
    ∧ algebraic_KernelDwXbcIdeal_ReferenceDwXbcIdeal (hKernelDwXbcIdeal := hKernelDwXbcIdeal) (hReferenceDwXbcIdeal := hReferenceDwXbcIdeal)
    ∧ preserves_KernelDwDt_KernelDwDtIdeal
    ∧ algebraic_KernelDwDtIdeal_ReferenceDwDtIdeal (hKernelDwDtIdeal := hKernelDwDtIdeal) (hReferenceDwDtIdeal := hReferenceDwDtIdeal)
    ∧ preserves_KernelDwFfnOut_KernelDwFfnOutIdeal
    ∧ algebraic_KernelDwFfnOutIdeal_ReferenceDwFfnOutIdeal (hKernelDwFfnOutIdeal := hKernelDwFfnOutIdeal) (hReferenceDwFfnOutIdeal := hReferenceDwFfnOutIdeal)
    ∧ preserves_KernelDwFfnIn_KernelDwFfnInIdeal
    ∧ algebraic_KernelDwFfnInIdeal_ReferenceDwFfnInIdeal (hKernelDwFfnInIdeal := hKernelDwFfnInIdeal) (hReferenceDwFfnInIdeal := hReferenceDwFfnInIdeal)
    ∧ preserves_KernelDwBrb_KernelDwBrbIdeal
    ∧ algebraic_KernelDwBrbIdeal_ReferenceDwBrbIdeal (hKernelDwBrbIdeal := hKernelDwBrbIdeal) (hReferenceDwBrbIdeal := hReferenceDwBrbIdeal)
    ∧ preserves_KernelDAct_KernelDActIdeal
    ∧ algebraic_KernelDActIdeal_ReferenceDActIdeal (hKernelDActIdeal := hKernelDActIdeal) (hReferenceDActIdeal := hReferenceDActIdeal)
    ∧ preserves_KernelDx_KernelDxIdeal
    ∧ algebraic_KernelDxIdeal_ReferenceDxIdeal (hKernelDxIdeal := hKernelDxIdeal) (hReferenceDxIdeal := hReferenceDxIdeal)
    ∧ preserves_KernelDYb_KernelDYbIdeal
    ∧ algebraic_KernelDYbIdeal_ReferenceDYbIdeal (hKernelDYbIdeal := hKernelDYbIdeal) (hReferenceDYbIdeal := hReferenceDYbIdeal)
    ∧ preserves_KernelDXn2_KernelDXn2Ideal
    ∧ algebraic_KernelDXn2Ideal_ReferenceDXn2Ideal (hKernelDXn2Ideal := hKernelDXn2Ideal) (hReferenceDXn2Ideal := hReferenceDXn2Ideal)
    ∧ preserves_KernelDXnA_KernelDXnAIdeal
    ∧ algebraic_KernelDXnAIdeal_ReferenceDXnAIdeal (hKernelDXnAIdeal := hKernelDXnAIdeal) (hReferenceDXnAIdeal := hReferenceDXnAIdeal)
    ∧ preserves_KernelDXnB_KernelDXnBIdeal
    ∧ algebraic_KernelDXnBIdeal_ReferenceDXnBIdeal (hKernelDXnBIdeal := hKernelDXnBIdeal) (hReferenceDXnBIdeal := hReferenceDXnBIdeal)
    ∧ preserves_KernelY_KernelYIdeal
    ∧ algebraic_KernelYIdeal_ReferenceYIdeal (hKernelYIdeal := hKernelYIdeal) (hReferenceYIdeal := hReferenceYIdeal)
    ∧ preserves_KernelYZ_KernelYZIdeal
    ∧ algebraic_KernelYZIdeal_ReferenceYZIdeal (hKernelYZIdeal := hKernelYZIdeal) (hReferenceYZIdeal := hReferenceYZIdeal)
    ∧ preserves_KernelYXbc_KernelYXbcIdeal
    ∧ algebraic_KernelYXbcIdeal_ReferenceYXbcIdeal (hKernelYXbcIdeal := hKernelYXbcIdeal) (hReferenceYXbcIdeal := hReferenceYXbcIdeal)
    ∧ preserves_KernelYDt_KernelYDtIdeal
    ∧ algebraic_KernelYDtIdeal_ReferenceYDtIdeal (hKernelYDtIdeal := hKernelYDtIdeal) (hReferenceYDtIdeal := hReferenceYDtIdeal)
    ∧ preserves_KernelYBrb_KernelYBrbIdeal
    ∧ algebraic_KernelYBrbIdeal_ReferenceYBrbIdeal (hKernelYBrbIdeal := hKernelYBrbIdeal) (hReferenceYBrbIdeal := hReferenceYBrbIdeal)
    ∧ preserves_KernelYFfnIn_KernelYFfnInIdeal
    ∧ algebraic_KernelYFfnInIdeal_ReferenceYFfnInIdeal (hKernelYFfnInIdeal := hKernelYFfnInIdeal) (hReferenceYFfnInIdeal := hReferenceYFfnInIdeal)
    ∧ preserves_KernelOut_KernelOutIdeal
    ∧ algebraic_KernelOutIdeal_ReferenceOutIdeal (hKernelOutIdeal := hKernelOutIdeal) (hReferenceOutIdeal := hReferenceOutIdeal)
    ∧ preserves_KernelFfnOut_KernelFfnOutIdeal
    ∧ algebraic_KernelFfnOutIdeal_ReferenceFfnOutIdeal (hKernelFfnOutIdeal := hKernelFfnOutIdeal) (hReferenceFfnOutIdeal := hReferenceFfnOutIdeal)
    ∧ preserves_KernelLoss_KernelLossIdeal
    ∧ algebraic_KernelLossIdeal_ReferenceLossIdeal (hKernelLossIdeal := hKernelLossIdeal) (hReferenceLossIdeal := hReferenceLossIdeal)
    ∧ preserves_KernelAdamBranch_KernelAdamBranchIdeal
    ∧ algebraic_KernelAdamBranchIdeal_ReferenceAdamBranchIdeal (hKernelAdamBranchIdeal := hKernelAdamBranchIdeal) (hReferenceAdamBranchIdeal := hReferenceAdamBranchIdeal)
    ∧ preserves_KernelAdamOut_KernelAdamOutIdeal
    ∧ algebraic_KernelAdamOutIdeal_ReferenceAdamOutIdeal (hKernelAdamOutIdeal := hKernelAdamOutIdeal) (hReferenceAdamOutIdeal := hReferenceAdamOutIdeal)
    ∧ preserves_KernelAdamFfnIn_KernelAdamFfnInIdeal
    ∧ algebraic_KernelAdamFfnInIdeal_ReferenceAdamFfnInIdeal (hKernelAdamFfnInIdeal := hKernelAdamFfnInIdeal) (hReferenceAdamFfnInIdeal := hReferenceAdamFfnInIdeal)
    ∧ preserves_KernelAdamFfnOut_KernelAdamFfnOutIdeal
    ∧ algebraic_KernelAdamFfnOutIdeal_ReferenceAdamFfnOutIdeal (hKernelAdamFfnOutIdeal := hKernelAdamFfnOutIdeal) (hReferenceAdamFfnOutIdeal := hReferenceAdamFfnOutIdeal)
    ∧ preserves_KernelAdamSmall_KernelAdamSmallIdeal
    ∧ algebraic_KernelAdamSmallIdeal_ReferenceAdamSmallIdeal (hKernelAdamSmallIdeal := hKernelAdamSmallIdeal) (hReferenceAdamSmallIdeal := hReferenceAdamSmallIdeal)
    ∧ preserves_KernelSumGrads_KernelSumGradsIdeal
    ∧ algebraic_KernelSumGradsIdeal_ReferenceSumGradsIdeal (hKernelSumGradsIdeal := hKernelSumGradsIdeal) (hReferenceSumGradsIdeal := hReferenceSumGradsIdeal)
-- ==== KernelScanBwd.lean ====
abbrev S8192x1024 : Shape := ⟨2, ![8192, 1024]⟩
abbrev S1024x1024 : Shape := ⟨2, ![1024, 1024]⟩
abbrev S8x1024 : Shape := ⟨2, ![8, 1024]⟩
abbrev S1x1024 : Shape := ⟨2, ![1, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_2 : BitVec 32 := 0#32
  let c128_i32 : BitVec 32 := 128#32
  let v4 : BitVec 32 := Scalar.addi c0_i32_2 c128_i32
  let c1_i32 : BitVec 32 := 1#32
  ⟨c0_i32_2, v4, c1_i32⟩
def k0_mult1 (k0_t1 : Fin k0_t1_loop.trips) : BitVec 32 :=
  let c127_i32 : BitVec 32 := 127#32
  let c0_i32_2 : BitVec 32 := 0#32
  let c1_i32 : BitVec 32 := 1#32
  let arg5 : BitVec 32 := Scf.iv c0_i32_2 c1_i32 k0_t1
  let v9 : BitVec 32 := Scalar.subi c127_i32 arg5
  let c8_i32 : BitVec 32 := 8#32
  let v10 : BitVec 32 := Scalar.muli v9 c8_i32
  v10
def k0_off1 (k0_t1 : Fin k0_t1_loop.trips) : Fin 2 → Nat :=
  let c127_i32 : BitVec 32 := 127#32
  let c0_i32_2 : BitVec 32 := 0#32
  let c1_i32 : BitVec 32 := 1#32
  let arg5 : BitVec 32 := Scf.iv c0_i32_2 c1_i32 k0_t1
  let v9 : BitVec 32 := Scalar.subi c127_i32 arg5
  let c8_i32 : BitVec 32 := 8#32
  let v10 : BitVec 32 := Scalar.muli v9 c8_i32
  let v11 : BitVec 32 := v10
  let v12 : Index := Scalar.indexCast v11
  let c0_6 : Index := 0#32
  ![v12.toNat, 0]
def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceScanBwdIdeal.lean ====
abbrev S8192x1024 : Shape := ⟨2, ![8192, 1024]⟩
abbrev S_ : Shape := ⟨0, ![]⟩
abbrev S1024 : Shape := ⟨1, ![1024]⟩
abbrev S1x1024 : Shape := ⟨2, ![1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S_, .f32⟩
  | .hbm, ⟨7, _⟩ => ⟨S8192x1024, .f32⟩
  | .hbm, ⟨8, _⟩ => ⟨S_, .i32⟩
  | .hbm, ⟨9, _⟩ => ⟨S8192x1024, .f32⟩
  | .hbm, ⟨10, _⟩ => ⟨S8192x1024, .f32⟩
  | .hbm, ⟨11, _⟩ => ⟨S_, .i32⟩
  | .hbm, ⟨12, _⟩ => ⟨S1024, .f32⟩
  | .hbm, ⟨13, _⟩ => ⟨S8192x1024, .f32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S1x1024, .f32⟩
  | .hbm, ⟨22, _⟩ => ⟨S1024, .f32⟩
  | .hbm, ⟨23, _⟩ => ⟨S_, .i32⟩
  | .hbm, ⟨24, _⟩ => ⟨S1x1024, .f32⟩
  | .hbm, ⟨25, _⟩ => ⟨S1024, .f32⟩
  | .hbm, ⟨26, _⟩ => ⟨S1024, .f32⟩
  | .hbm, ⟨27, _⟩ => ⟨S1024, .f32⟩
  | .hbm, ⟨28, _⟩ => ⟨S1x1024, .f32⟩
  | .hbm, ⟨29, _⟩ => ⟨S_, .i32⟩
  | .hbm, ⟨30, _⟩ => ⟨S8192x1024, .f32⟩
  | .hbm, ⟨31, _⟩ => ⟨S_, .i32⟩
  | .hbm, ⟨32, _⟩ => ⟨S_, .i32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_c : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_while0c_c_6 : Ref sig .tc := ⟨.hbm, 14, rfl⟩
abbrev main_while0c_v4 : Ref sig .tc := ⟨.hbm, 15, rfl⟩
abbrev main_while0b_c_6 : Ref sig .tc := ⟨.hbm, 16, rfl⟩
abbrev main_while0b_v4 : Ref sig .tc := ⟨.hbm, 17, rfl⟩
abbrev main_while0b_c_7 : Ref sig .tc := ⟨.hbm, 18, rfl⟩
abbrev main_while0b_v5 : Ref sig .tc := ⟨.hbm, 19, rfl⟩
abbrev main_while0b_call0_c : Ref sig .tc := ⟨.hbm, 20, rfl⟩
abbrev main_while0b_call0_v0 : Ref sig .tc := ⟨.hbm, 21, rfl⟩
abbrev main_while0b_v6 : Ref sig .tc := ⟨.hbm, 22, rfl⟩
abbrev main_while0b_call1_c : Ref sig .tc := ⟨.hbm, 23, rfl⟩
abbrev main_while0b_call1_v0 : Ref sig .tc := ⟨.hbm, 24, rfl⟩
abbrev main_while0b_v7 : Ref sig .tc := ⟨.hbm, 25, rfl⟩
abbrev main_while0b_v8 : Ref sig .tc := ⟨.hbm, 26, rfl⟩
abbrev main_while0b_v9 : Ref sig .tc := ⟨.hbm, 27, rfl⟩
abbrev main_while0b_call2_v0 : Ref sig .tc := ⟨.hbm, 28, rfl⟩
abbrev main_while0b_call2_c : Ref sig .tc := ⟨.hbm, 29, rfl⟩
abbrev main_while0b_v10 : Ref sig .tc := ⟨.hbm, 30, rfl⟩
abbrev main_while0b_c_8 : Ref sig .tc := ⟨.hbm, 31, rfl⟩
abbrev main_while0b_v11 : Ref sig .tc := ⟨.hbm, 32, rfl⟩

abbrev nD : Nat := 1
abbrev τ : Topo := Topo.v7x

variable {F : FTy → Type} [FloatOps F]

abbrev main_while0_count : Scf.Loop 32 := ⟨0#32, 8192#32, 1#32⟩
-- ==== KernelScanFwd.lean ====
abbrev S8192x1024 : Shape := ⟨2, ![8192, 1024]⟩
abbrev S1024x1024 : Shape := ⟨2, ![1024, 1024]⟩
abbrev S8x1024 : Shape := ⟨2, ![8, 1024]⟩
abbrev S1x1024 : Shape := ⟨2, ![1, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_2 : BitVec 32 := 0#32
  let c128_i32 : BitVec 32 := 128#32
  let v4 : BitVec 32 := Scalar.addi c0_i32_2 c128_i32
  let c1_i32 : BitVec 32 := 1#32
  ⟨c0_i32_2, v4, c1_i32⟩
def k0_mult1 (k0_t1 : Fin k0_t1_loop.trips) : BitVec 32 :=
  let c0_i32_2 : BitVec 32 := 0#32
  let c1_i32 : BitVec 32 := 1#32
  let arg6 : BitVec 32 := Scf.iv c0_i32_2 c1_i32 k0_t1
  let c8_i32 : BitVec 32 := 8#32
  let v9 : BitVec 32 := Scalar.muli arg6 c8_i32
  v9
def k0_off1 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let c8_i32 : BitVec 32 := 8#32
  let v9 : BitVec 32 := Scalar.muli arg6 c8_i32
  let v10 : BitVec 32 := v9
  let v11 : Index := Scalar.indexCast v10
  let c0_6 : Index := 0#32
  ![v11.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceScanFwdIdeal.lean ====
abbrev S8192x1024 : Shape := ⟨2, ![8192, 1024]⟩
abbrev S_ : Shape := ⟨0, ![]⟩
abbrev S1024 : Shape := ⟨1, ![1024]⟩
abbrev S1x1024 : Shape := ⟨2, ![1, 1024]⟩
abbrev S8191x1024 : Shape := ⟨2, ![8191, 1024]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024, .f32⟩
  | .hbm, ⟨4, _⟩ => ⟨S_, .f32⟩
  | .hbm, ⟨5, _⟩ => ⟨S8192x1024, .f32⟩
  | .hbm, ⟨6, _⟩ => ⟨S_, .i32⟩
  | .hbm, ⟨7, _⟩ => ⟨S8192x1024, .f32⟩
  | .hbm, ⟨8, _⟩ => ⟨S8192x1024, .f32⟩
  | .hbm, ⟨9, _⟩ => ⟨S_, .i32⟩
  | .hbm, ⟨10, _⟩ => ⟨S1024, .f32⟩
  | .hbm, ⟨11, _⟩ => ⟨S8192x1024, .f32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S1x1024, .f32⟩
  | .hbm, ⟨16, _⟩ => ⟨S1024, .f32⟩
  | .hbm, ⟨17, _⟩ => ⟨S_, .i32⟩
  | .hbm, ⟨18, _⟩ => ⟨S1x1024, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1x1024, .f32⟩
  | .hbm, ⟨23, _⟩ => ⟨S_, .i32⟩
  | .hbm, ⟨24, _⟩ => ⟨S8192x1024, .f32⟩
  | .hbm, ⟨25, _⟩ => ⟨S_, .i32⟩
  | .hbm, ⟨26, _⟩ => ⟨S_, .i32⟩
  | .hbm, ⟨27, _⟩ => ⟨S_, .f32⟩
  | .hbm, ⟨28, _⟩ => ⟨S1x1024, .f32⟩
  | .hbm, ⟨29, _⟩ => ⟨S8191x1024, .f32⟩
  | .hbm, ⟨30, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_c : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev main_while0c_c_6 : Ref sig .tc := ⟨.hbm, 12, rfl⟩
abbrev main_while0c_v6 : Ref sig .tc := ⟨.hbm, 13, rfl⟩
abbrev main_while0b_call0_c : Ref sig .tc := ⟨.hbm, 14, rfl⟩
abbrev main_while0b_call0_v0 : Ref sig .tc := ⟨.hbm, 15, rfl⟩
abbrev main_while0b_v6 : Ref sig .tc := ⟨.hbm, 16, rfl⟩
abbrev main_while0b_call1_c : Ref sig .tc := ⟨.hbm, 17, rfl⟩
abbrev main_while0b_call1_v0 : Ref sig .tc := ⟨.hbm, 18, rfl⟩
abbrev main_while0b_v7 : Ref sig .tc := ⟨.hbm, 19, rfl⟩
abbrev main_while0b_v8 : Ref sig .tc := ⟨.hbm, 20, rfl⟩
abbrev main_while0b_v9 : Ref sig .tc := ⟨.hbm, 21, rfl⟩
abbrev main_while0b_call2_v0 : Ref sig .tc := ⟨.hbm, 22, rfl⟩
abbrev main_while0b_call2_c : Ref sig .tc := ⟨.hbm, 23, rfl⟩
abbrev main_while0b_v10 : Ref sig .tc := ⟨.hbm, 24, rfl⟩
abbrev main_while0b_c_6 : Ref sig .tc := ⟨.hbm, 25, rfl⟩
abbrev main_while0b_v11 : Ref sig .tc := ⟨.hbm, 26, rfl⟩
abbrev main_cst_1 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩

abbrev nD : Nat := 1
abbrev τ : Topo := Topo.v7x

variable {F : FTy → Type} [FloatOps F]

abbrev main_while0_count : Scf.Loop 32 := ⟨0#32, 8192#32, 1#32⟩
-- ==== KernelConvBwd.lean ====
abbrev S8192x1024 : Shape := ⟨2, ![8192, 1024]⟩
abbrev S8x1024 : Shape := ⟨2, ![8, 1024]⟩
abbrev S512x1024 : Shape := ⟨2, ![512, 1024]⟩
abbrev S16x1024 : Shape := ⟨2, ![16, 1024]⟩
abbrev S528x1024 : Shape := ⟨2, ![528, 1024]⟩
abbrev S1x1024 : Shape := ⟨2, ![1, 1024]⟩
abbrev S1024 : Shape := ⟨1, ![1024]⟩
abbrev S3x1024 : Shape := ⟨2, ![3, 1024]⟩

abbrev nBuf : Space → Nat
  | .hbm => 5
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8x1024, .f32⟩
  | .hbm, ⟨3, _⟩ => ⟨S8192x1024, .bf16⟩
  | .hbm, ⟨4, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S512x1024, .f32⟩
  | .local _ .vmem, ⟨5, _⟩ => ⟨S512x1024, .f32⟩
  | .local _ .vmem, ⟨6, _⟩ => ⟨S16x1024, .f32⟩
  | .local _ .vmem, ⟨7, _⟩ => ⟨S16x1024, .f32⟩
  | .local _ .vmem, ⟨8, _⟩ => ⟨S8x1024, .f32⟩
  | .local _ .vmem, ⟨9, _⟩ => ⟨S512x1024, .bf16⟩
  | .local _ .vmem, ⟨10, _⟩ => ⟨S512x1024, .bf16⟩
  | .local _ .vmem, ⟨11, _⟩ => ⟨S8x1024, .f32⟩
  | .local _ .vmem, ⟨12, _⟩ => ⟨S528x1024, .f32⟩
  | .local _ .vmem, ⟨13, _⟩ => ⟨S528x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== KernelConvBwdIdeal.lean ====
abbrev S8192x1024 : Shape := ⟨2, ![8192, 1024]⟩
abbrev S8x1024 : Shape := ⟨2, ![8, 1024]⟩
abbrev S512x1024 : Shape := ⟨2, ![512, 1024]⟩
abbrev S16x1024 : Shape := ⟨2, ![16, 1024]⟩
abbrev S528x1024 : Shape := ⟨2, ![528, 1024]⟩
abbrev S1x1024 : Shape := ⟨2, ![1, 1024]⟩
abbrev S1024 : Shape := ⟨1, ![1024]⟩
abbrev S3x1024 : Shape := ⟨2, ![3, 1024]⟩

abbrev nBuf : Space → Nat
  | .hbm => 5
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8x1024, .f32⟩
  | .hbm, ⟨3, _⟩ => ⟨S8192x1024, .bf16⟩
  | .hbm, ⟨4, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S512x1024, .f32⟩
  | .local _ .vmem, ⟨5, _⟩ => ⟨S512x1024, .f32⟩
  | .local _ .vmem, ⟨6, _⟩ => ⟨S16x1024, .f32⟩
  | .local _ .vmem, ⟨7, _⟩ => ⟨S16x1024, .f32⟩
  | .local _ .vmem, ⟨8, _⟩ => ⟨S8x1024, .f32⟩
  | .local _ .vmem, ⟨9, _⟩ => ⟨S512x1024, .bf16⟩
  | .local _ .vmem, ⟨10, _⟩ => ⟨S512x1024, .bf16⟩
  | .local _ .vmem, ⟨11, _⟩ => ⟨S8x1024, .f32⟩
  | .local _ .vmem, ⟨12, _⟩ => ⟨S528x1024, .f32⟩
  | .local _ .vmem, ⟨13, _⟩ => ⟨S528x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== ReferenceConvBwdIdeal.lean ====
abbrev S8192x1024 : Shape := ⟨2, ![8192, 1024]⟩
abbrev S8x1024 : Shape := ⟨2, ![8, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S3x1024 : Shape := ⟨2, ![3, 1024]⟩
abbrev S8195x1024 : Shape := ⟨2, ![8195, 1024]⟩

abbrev nBuf : Space → Nat
  | .hbm => 116
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8x1024, .f32⟩
  | .hbm, ⟨3, _⟩ => ⟨S8192x1024, .f32⟩
  | .hbm, ⟨4, _⟩ => ⟨S4x1024, .f32⟩
  | .hbm, ⟨5, _⟩ => ⟨S1x1024, .f32⟩
  | .hbm, ⟨6, _⟩ => ⟨S1024, .f32⟩
  | .hbm, ⟨7, _⟩ => ⟨S_, .f32⟩
  | .hbm, ⟨8, _⟩ => ⟨S3x1024, .f32⟩
  | .hbm, ⟨9, _⟩ => ⟨S8195x1024, .f32⟩
  | .hbm, ⟨10, _⟩ => ⟨S_, .f32⟩
  | .hbm, ⟨11, _⟩ => ⟨S3x1024, .f32⟩
  | .hbm, ⟨12, _⟩ => ⟨S8192x1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S_, .f32⟩
  | .hbm, ⟨50, _⟩ => ⟨S1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S_, .f32⟩
  | .hbm, ⟨61, _⟩ => ⟨S4x1024, .f32⟩
  | .hbm, ⟨62, _⟩ => ⟨S_, .f32⟩
  | .hbm, ⟨63, _⟩ => ⟨S8195x1024, .f32⟩
  | .hbm, ⟨64, _⟩ => ⟨S8192x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S8192x1024, .f32⟩
  | .hbm, ⟨69, _⟩ => ⟨S8192x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S_, .f32⟩
  | .hbm, ⟨74, _⟩ => ⟨S4x1024, .f32⟩
  | .hbm, ⟨75, _⟩ => ⟨S4x1024, .f32⟩
  | .hbm, ⟨76, _⟩ => ⟨S_, .f32⟩
  | .hbm, ⟨77, _⟩ => ⟨S8195x1024, .f32⟩
  | .hbm, ⟨78, _⟩ => ⟨S8195x1024, .f32⟩
  | .hbm, ⟨79, _⟩ => ⟨S8192x1024, .f32⟩
  | .hbm, ⟨80, _⟩ => ⟨S_, .f32⟩
  | .hbm, ⟨81, _⟩ => ⟨S1024, .f32⟩
  | .hbm, ⟨82, _⟩ => ⟨S1x1024, .f32⟩
  | .hbm, ⟨83, _⟩ => ⟨S8192x1024, .f32⟩
  | .hbm, ⟨84, _⟩ => ⟨S8192x1024, .f32⟩
  | .hbm, ⟨85, _⟩ => ⟨S_, .f32⟩
  | .hbm, ⟨86, _⟩ => ⟨S1024, .f32⟩
  | .hbm, ⟨87, _⟩ => ⟨S1x1024, .f32⟩
  | .hbm, ⟨88, _⟩ => ⟨S_, .f32⟩
  | .hbm, ⟨89, _⟩ => ⟨S4x1024, .f32⟩
  | .hbm, ⟨90, _⟩ => ⟨S4x1024, .f32⟩
  | .hbm, ⟨91, _⟩ => ⟨S_, .f32⟩
  | .hbm, ⟨92, _⟩ => ⟨S8195x1024, .f32⟩
  | .hbm, ⟨93, _⟩ => ⟨S8195x1024, .f32⟩
  | .hbm, ⟨94, _⟩ => ⟨S8192x1024, .f32⟩
  | .hbm, ⟨95, _⟩ => ⟨S_, .f32⟩
  | .hbm, ⟨96, _⟩ => ⟨S1024, .f32⟩
  | .hbm, ⟨97, _⟩ => ⟨S1x1024, .f32⟩
  | .hbm, ⟨98, _⟩ => ⟨S8192x1024, .f32⟩
  | .hbm, ⟨99, _⟩ => ⟨S8192x1024, .f32⟩
  | .hbm, ⟨100, _⟩ => ⟨S_, .f32⟩
  | .hbm, ⟨101, _⟩ => ⟨S1024, .f32⟩
  | .hbm, ⟨102, _⟩ => ⟨S1x1024, .f32⟩
  | .hbm, ⟨103, _⟩ => ⟨S_, .f32⟩
  | .hbm, ⟨104, _⟩ => ⟨S4x1024, .f32⟩
  | .hbm, ⟨105, _⟩ => ⟨S4x1024, .f32⟩
  | .hbm, ⟨106, _⟩ => ⟨S_, .f32⟩
  | .hbm, ⟨107, _⟩ => ⟨S8195x1024, .f32⟩
  | .hbm, ⟨108, _⟩ => ⟨S8195x1024, .f32⟩
  | .hbm, ⟨109, _⟩ => ⟨S3x1024, .f32⟩
  | .hbm, ⟨110, _⟩ => ⟨S8192x1024, .f32⟩
  | .hbm, ⟨111, _⟩ => ⟨S8192x1024, .bf16⟩
  | .hbm, ⟨112, _⟩ => ⟨S1x1024, .f32⟩
  | .hbm, ⟨113, _⟩ => ⟨S_, .f32⟩
  | .hbm, ⟨114, _⟩ => ⟨S3x1024, .f32⟩
  | .hbm, ⟨115, _⟩ => ⟨S8x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_cst_2 : Ref sig .tc := ⟨.hbm, 46, rfl⟩
abbrev main_v40 : Ref sig .tc := ⟨.hbm, 47, rfl⟩
abbrev main_v41 : Ref sig .tc := ⟨.hbm, 48, rfl⟩
abbrev main_cst_3 : Ref sig .tc := ⟨.hbm, 49, rfl⟩
abbrev main_v42 : Ref sig .tc := ⟨.hbm, 50, rfl⟩
abbrev main_v43 : Ref sig .tc := ⟨.hbm, 51, rfl⟩
abbrev main_cst_4 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_5 : Ref sig .tc := ⟨.hbm, 57, rfl⟩
abbrev main_v48 : Ref sig .tc := ⟨.hbm, 58, rfl⟩
abbrev main_v49 : Ref sig .tc := ⟨.hbm, 59, rfl⟩
abbrev main_cst_6 : Ref sig .tc := ⟨.hbm, 60, rfl⟩
abbrev main_v50 : Ref sig .tc := ⟨.hbm, 61, rfl⟩
abbrev main_cst_7 : Ref sig .tc := ⟨.hbm, 62, rfl⟩
abbrev main_v51 : Ref sig .tc := ⟨.hbm, 63, rfl⟩
abbrev main_v52 : Ref sig .tc := ⟨.hbm, 64, rfl⟩
abbrev main_cst_8 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_9 : Ref sig .tc := ⟨.hbm, 70, rfl⟩
abbrev main_v57 : Ref sig .tc := ⟨.hbm, 71, rfl⟩
abbrev main_v58 : Ref sig .tc := ⟨.hbm, 72, rfl⟩
abbrev main_cst_10 : Ref sig .tc := ⟨.hbm, 73, rfl⟩
abbrev main_v59 : Ref sig .tc := ⟨.hbm, 74, rfl⟩
abbrev main_v60 : Ref sig .tc := ⟨.hbm, 75, rfl⟩
abbrev main_cst_11 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_12 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_13 : Ref sig .tc := ⟨.hbm, 85, rfl⟩
abbrev main_v68 : Ref sig .tc := ⟨.hbm, 86, rfl⟩
abbrev main_v69 : Ref sig .tc := ⟨.hbm, 87, rfl⟩
abbrev main_cst_14 : Ref sig .tc := ⟨.hbm, 88, rfl⟩
abbrev main_v70 : Ref sig .tc := ⟨.hbm, 89, rfl⟩
abbrev main_v71 : Ref sig .tc := ⟨.hbm, 90, rfl⟩
abbrev main_cst_15 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_16 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_17 : Ref sig .tc := ⟨.hbm, 100, rfl⟩
abbrev main_v79 : Ref sig .tc := ⟨.hbm, 101, rfl⟩
abbrev main_v80 : Ref sig .tc := ⟨.hbm, 102, rfl⟩
abbrev main_cst_18 : Ref sig .tc := ⟨.hbm, 103, rfl⟩
abbrev main_v81 : Ref sig .tc := ⟨.hbm, 104, rfl⟩
abbrev main_v82 : Ref sig .tc := ⟨.hbm, 105, rfl⟩
abbrev main_cst_19 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_20 : Ref sig .tc := ⟨.hbm, 113, rfl⟩
abbrev main_v89 : Ref sig .tc := ⟨.hbm, 114, rfl⟩
abbrev main_v90 : Ref sig .tc := ⟨.hbm, 115, rfl⟩

abbrev nD : Nat := 1
abbrev τ : Topo := Topo.v7x

variable {F : FTy → Type} [FloatOps F]
-- ==== KernelConvBwdX.lean ====
abbrev S8192x3072 : Shape := ⟨2, ![8192, 3072]⟩
abbrev S8x3072 : Shape := ⟨2, ![8, 3072]⟩
abbrev S512x1024 : Shape := ⟨2, ![512, 1024]⟩
abbrev S16x1024 : Shape := ⟨2, ![16, 1024]⟩
abbrev S8x1024 : Shape := ⟨2, ![8, 1024]⟩
abbrev S528x1024 : Shape := ⟨2, ![528, 1024]⟩
abbrev S1x1024 : Shape := ⟨2, ![1, 1024]⟩
abbrev S1024 : Shape := ⟨1, ![1024]⟩
abbrev S3x1024 : Shape := ⟨2, ![3, 1024]⟩

abbrev nBuf : Space → Nat
  | .hbm => 5
  | .vmem => 16
  | .smem => 0
  | _ => 0

abbrev bufTy : (tb : Table) → Fin (tcTables nBuf tb) → BufTy
  | .hbm, ⟨0, _⟩ => ⟨S8192x3072, .bf16⟩
  | .hbm, ⟨1, _⟩ => ⟨S8192x3072, .f32⟩
  | .hbm, ⟨2, _⟩ => ⟨S8x3072, .f32⟩
  | .hbm, ⟨3, _⟩ => ⟨S8192x3072, .bf16⟩
  | .hbm, ⟨4, _⟩ => ⟨S8x3072, .f32⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S512x1024, .f32⟩
  | .local _ .vmem, ⟨5, _⟩ => ⟨S512x1024, .f32⟩
  | .local _ .vmem, ⟨6, _⟩ => ⟨S16x1024, .f32⟩
  | .local _ .vmem, ⟨7, _⟩ => ⟨S16x1024, .f32⟩
  | .local _ .vmem, ⟨8, _⟩ => ⟨S8x1024, .f32⟩
  | .local _ .vmem, ⟨9, _⟩ => ⟨S8x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | .local _ .vmem, ⟨13, _⟩ => ⟨S8x1024, .f32⟩
  | .local _ .vmem, ⟨14, _⟩ => ⟨S528x1024, .f32⟩
  | .local _ .vmem, ⟨15, _⟩ => ⟨S528x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceConvBwdXIdeal.lean ====
abbrev S8192x3072 : Shape := ⟨2, ![8192, 3072]⟩
abbrev S8x3072 : Shape := ⟨2, ![8, 3072]⟩
abbrev S4x3072 : Shape := ⟨2, ![4, 3072]⟩
abbrev S1x3072 : Shape := ⟨2, ![1, 3072]⟩
abbrev S3072 : Shape := ⟨1, ![3072]⟩
abbrev S_ : Shape := ⟨0, ![]⟩
abbrev S3x3072 : Shape := ⟨2, ![3, 3072]⟩
abbrev S8195x3072 : Shape := ⟨2, ![8195, 3072]⟩

abbrev nBuf : Space → Nat
  | .hbm => 116
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x3072, .f32⟩
  | .hbm, ⟨2, _⟩ => ⟨S8x3072, .f32⟩
  | .hbm, ⟨3, _⟩ => ⟨S8192x3072, .f32⟩
  | .hbm, ⟨4, _⟩ => ⟨S4x3072, .f32⟩
  | .hbm, ⟨5, _⟩ => ⟨S1x3072, .f32⟩
  | .hbm, ⟨6, _⟩ => ⟨S3072, .f32⟩
  | .hbm, ⟨7, _⟩ => ⟨S_, .f32⟩
  | .hbm, ⟨8, _⟩ => ⟨S3x3072, .f32⟩
  | .hbm, ⟨9, _⟩ => ⟨S8195x3072, .f32⟩
  | .hbm, ⟨10, _⟩ => ⟨S_, .f32⟩
  | .hbm, ⟨11, _⟩ => ⟨S3x3072, .f32⟩
  | .hbm, ⟨12, _⟩ => ⟨S8192x3072, .f32⟩
  | .hbm, ⟨13, _⟩ => ⟨S1x3072, .f32⟩
  | .hbm, ⟨14, _⟩ => ⟨S3072, .f32⟩
  | .hbm, ⟨15, _⟩ => ⟨S1x3072, .f32⟩
  | .hbm, ⟨16, _⟩ => ⟨S8192x3072, .f32⟩
  | .hbm, ⟨17, _⟩ => ⟨S8192x3072, .f32⟩
  | .hbm, ⟨18, _⟩ => ⟨S_, .f32⟩
  | .hbm, ⟨19, _⟩ => ⟨S8192x3072, .f32⟩
  | .hbm, ⟨20, _⟩ => ⟨S8192x3072, .f32⟩
  | .hbm, ⟨21, _⟩ => ⟨S8192x3072, .f32⟩
  | .hbm, ⟨22, _⟩ => ⟨S1x3072, .f32⟩
  | .hbm, ⟨23, _⟩ => ⟨S3072, .f32⟩
  | .hbm, ⟨24, _⟩ => ⟨S1x3072, .f32⟩
  | .hbm, ⟨25, _⟩ => ⟨S8192x3072, .f32⟩
  | .hbm, ⟨26, _⟩ => ⟨S8192x3072, .f32⟩
  | .hbm, ⟨27, _⟩ => ⟨S8192x3072, .f32⟩
  | .hbm, ⟨28, _⟩ => ⟨S8192x3072, .f32⟩
  | .hbm, ⟨29, _⟩ => ⟨S1x3072, .f32⟩
  | .hbm, ⟨30, _⟩ => ⟨S3072, .f32⟩
  | .hbm, ⟨31, _⟩ => ⟨S1x3072, .f32⟩
  | .hbm, ⟨32, _⟩ => ⟨S8192x3072, .f32⟩
  | .hbm, ⟨33, _⟩ => ⟨S8192x3072, .f32⟩
  | .hbm, ⟨34, _⟩ => ⟨S8192x3072, .f32⟩
  | .hbm, ⟨35, _⟩ => ⟨S8192x3072, .f32⟩
  | .hbm, ⟨36, _⟩ => ⟨S1x3072, .f32⟩
  | .hbm, ⟨37, _⟩ => ⟨S3072, .f32⟩
  | .hbm, ⟨38, _⟩ => ⟨S1x3072, .f32⟩
  | .hbm, ⟨39, _⟩ => ⟨S8192x3072, .f32⟩
  | .hbm, ⟨40, _⟩ => ⟨S8192x3072, .f32⟩
  | .hbm, ⟨41, _⟩ => ⟨S8192x3072, .f32⟩
  | .hbm, ⟨42, _⟩ => ⟨S1x3072, .f32⟩
  | .hbm, ⟨43, _⟩ => ⟨S8192x3072, .f32⟩
  | .hbm, ⟨44, _⟩ => ⟨S8192x3072, .f32⟩
  | .hbm, ⟨45, _⟩ => ⟨S8192x3072, .f32⟩
  | .hbm, ⟨46, _⟩ => ⟨S_, .f32⟩
  | .hbm, ⟨47, _⟩ => ⟨S3072, .f32⟩
  | .hbm, ⟨48, _⟩ => ⟨S1x3072, .f32⟩
  | .hbm, ⟨49, _⟩ => ⟨S_, .f32⟩
  | .hbm, ⟨50, _⟩ => ⟨S3072, .f32⟩
  | .hbm, ⟨51, _⟩ => ⟨S8192x3072, .f32⟩
  | .hbm, ⟨52, _⟩ => ⟨S_, .f32⟩
  | .hbm, ⟨53, _⟩ => ⟨S3072, .f32⟩
  | .hbm, ⟨54, _⟩ => ⟨S1x3072, .f32⟩
  | .hbm, ⟨55, _⟩ => ⟨S8192x3072, .f32⟩
  | .hbm, ⟨56, _⟩ => ⟨S8192x3072, .f32⟩
  | .hbm, ⟨57, _⟩ => ⟨S_, .f32⟩
  | .hbm, ⟨58, _⟩ => ⟨S3072, .f32⟩
  | .hbm, ⟨59, _⟩ => ⟨S1x3072, .f32⟩
  | .hbm, ⟨60, _⟩ => ⟨S_, .f32⟩
  | .hbm, ⟨61, _⟩ => ⟨S4x3072, .f32⟩
  | .hbm, ⟨62, _⟩ => ⟨S_, .f32⟩
  | .hbm, ⟨63, _⟩ => ⟨S8195x3072, .f32⟩
  | .hbm, ⟨64, _⟩ => ⟨S8192x3072, .f32⟩
  | .hbm, ⟨65, _⟩ => ⟨S_, .f32⟩
  | .hbm, ⟨66, _⟩ => ⟨S3072, .f32⟩
  | .hbm, ⟨67, _⟩ => ⟨S1x3072, .f32⟩
  | .hbm, ⟨68, _⟩ => ⟨S8192x3072, .f32⟩
  | .hbm, ⟨69, _⟩ => ⟨S8192x3072, .f32⟩
  | .hbm, ⟨70, _⟩ => ⟨S_, .f32⟩
  | .hbm, ⟨71, _⟩ => ⟨S3072, .f32⟩
  | .hbm, ⟨72, _⟩ => ⟨S1x3072, .f32⟩
  | .hbm, ⟨73, _⟩ => ⟨S_, .f32⟩
  | .hbm, ⟨74, _⟩ => ⟨S4x3072, .f32⟩
  | .hbm, ⟨75, _⟩ => ⟨S4x3072, .f32⟩
  | .hbm, ⟨76, _⟩ => ⟨S_, .f32⟩
  | .hbm, ⟨77, _⟩ => ⟨S8195x3072, .f32⟩
  | .hbm, ⟨78, _⟩ => ⟨S8195x3072, .f32⟩
  | .hbm, ⟨79, _⟩ => ⟨S8192x3072, .f32⟩
  | .hbm, ⟨80, _⟩ => ⟨S_, .f32⟩
  | .hbm, ⟨81, _⟩ => ⟨S3072, .f32⟩
  | .hbm, ⟨82, _⟩ => ⟨S1x3072, .f32⟩
  | .hbm, ⟨83, _⟩ => ⟨S8192x3072, .f32⟩
  | .hbm, ⟨84, _⟩ => ⟨S8192x3072, .f32⟩
  | .hbm, ⟨85, _⟩ => ⟨S_, .f32⟩
  | .hbm, ⟨86, _⟩ => ⟨S3072, .f32⟩
  | .hbm, ⟨87, _⟩ => ⟨S1x3072, .f32⟩
  | .hbm, ⟨88, _⟩ => ⟨S_, .f32⟩
  | .hbm, ⟨89, _⟩ => ⟨S4x3072, .f32⟩
  | .hbm, ⟨90, _⟩ => ⟨S4x3072, .f32⟩
  | .hbm, ⟨91, _⟩ => ⟨S_, .f32⟩
  | .hbm, ⟨92, _⟩ => ⟨S8195x3072, .f32⟩
  | .hbm, ⟨93, _⟩ => ⟨S8195x3072, .f32⟩
  | .hbm, ⟨94, _⟩ => ⟨S8192x3072, .f32⟩
  | .hbm, ⟨95, _⟩ => ⟨S_, .f32⟩
  | .hbm, ⟨96, _⟩ => ⟨S3072, .f32⟩
  | .hbm, ⟨97, _⟩ => ⟨S1x3072, .f32⟩
  | .hbm, ⟨98, _⟩ => ⟨S8192x3072, .f32⟩
  | .hbm, ⟨99, _⟩ => ⟨S8192x3072, .f32⟩
  | .hbm, ⟨100, _⟩ => ⟨S_, .f32⟩
  | .hbm, ⟨101, _⟩ => ⟨S3072, .f32⟩
  | .hbm, ⟨102, _⟩ => ⟨S1x3072, .f32⟩
  | .hbm, ⟨103, _⟩ => ⟨S_, .f32⟩
  | .hbm, ⟨104, _⟩ => ⟨S4x3072, .f32⟩
  | .hbm, ⟨105, _⟩ => ⟨S4x3072, .f32⟩
  | .hbm, ⟨106, _⟩ => ⟨S_, .f32⟩
  | .hbm, ⟨107, _⟩ => ⟨S8195x3072, .f32⟩
  | .hbm, ⟨108, _⟩ => ⟨S8195x3072, .f32⟩
  | .hbm, ⟨109, _⟩ => ⟨S3x3072, .f32⟩
  | .hbm, ⟨110, _⟩ => ⟨S8192x3072, .f32⟩
  | .hbm, ⟨111, _⟩ => ⟨S8192x3072, .bf16⟩
  | .hbm, ⟨112, _⟩ => ⟨S1x3072, .f32⟩
  | .hbm, ⟨113, _⟩ => ⟨S_, .f32⟩
  | .hbm, ⟨114, _⟩ => ⟨S3x3072, .f32⟩
  | .hbm, ⟨115, _⟩ => ⟨S8x3072, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_cst_2 : Ref sig .tc := ⟨.hbm, 46, rfl⟩
abbrev main_v40 : Ref sig .tc := ⟨.hbm, 47, rfl⟩
abbrev main_v41 : Ref sig .tc := ⟨.hbm, 48, rfl⟩
abbrev main_cst_3 : Ref sig .tc := ⟨.hbm, 49, rfl⟩
abbrev main_v42 : Ref sig .tc := ⟨.hbm, 50, rfl⟩
abbrev main_v43 : Ref sig .tc := ⟨.hbm, 51, rfl⟩
abbrev main_cst_4 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_5 : Ref sig .tc := ⟨.hbm, 57, rfl⟩
abbrev main_v48 : Ref sig .tc := ⟨.hbm, 58, rfl⟩
abbrev main_v49 : Ref sig .tc := ⟨.hbm, 59, rfl⟩
abbrev main_cst_6 : Ref sig .tc := ⟨.hbm, 60, rfl⟩
abbrev main_v50 : Ref sig .tc := ⟨.hbm, 61, rfl⟩
abbrev main_cst_7 : Ref sig .tc := ⟨.hbm, 62, rfl⟩
abbrev main_v51 : Ref sig .tc := ⟨.hbm, 63, rfl⟩
abbrev main_v52 : Ref sig .tc := ⟨.hbm, 64, rfl⟩
abbrev main_cst_8 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_9 : Ref sig .tc := ⟨.hbm, 70, rfl⟩
abbrev main_v57 : Ref sig .tc := ⟨.hbm, 71, rfl⟩
abbrev main_v58 : Ref sig .tc := ⟨.hbm, 72, rfl⟩
abbrev main_cst_10 : Ref sig .tc := ⟨.hbm, 73, rfl⟩
abbrev main_v59 : Ref sig .tc := ⟨.hbm, 74, rfl⟩
abbrev main_v60 : Ref sig .tc := ⟨.hbm, 75, rfl⟩
abbrev main_cst_11 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_12 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_13 : Ref sig .tc := ⟨.hbm, 85, rfl⟩
abbrev main_v68 : Ref sig .tc := ⟨.hbm, 86, rfl⟩
abbrev main_v69 : Ref sig .tc := ⟨.hbm, 87, rfl⟩
abbrev main_cst_14 : Ref sig .tc := ⟨.hbm, 88, rfl⟩
abbrev main_v70 : Ref sig .tc := ⟨.hbm, 89, rfl⟩
abbrev main_v71 : Ref sig .tc := ⟨.hbm, 90, rfl⟩
abbrev main_cst_15 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_16 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_17 : Ref sig .tc := ⟨.hbm, 100, rfl⟩
abbrev main_v79 : Ref sig .tc := ⟨.hbm, 101, rfl⟩
abbrev main_v80 : Ref sig .tc := ⟨.hbm, 102, rfl⟩
abbrev main_cst_18 : Ref sig .tc := ⟨.hbm, 103, rfl⟩
abbrev main_v81 : Ref sig .tc := ⟨.hbm, 104, rfl⟩
abbrev main_v82 : Ref sig .tc := ⟨.hbm, 105, rfl⟩
abbrev main_cst_19 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_20 : Ref sig .tc := ⟨.hbm, 113, rfl⟩
abbrev main_v89 : Ref sig .tc := ⟨.hbm, 114, rfl⟩
abbrev main_v90 : Ref sig .tc := ⟨.hbm, 115, rfl⟩

abbrev nD : Nat := 1
abbrev τ : Topo := Topo.v7x

variable {F : FTy → Type} [FloatOps F]
-- ==== KernelConvFwd.lean ====
abbrev S8192x1024 : Shape := ⟨2, ![8192, 1024]⟩
abbrev S8x1024 : Shape := ⟨2, ![8, 1024]⟩
abbrev S1x1024 : Shape := ⟨2, ![1, 1024]⟩
abbrev S1024x1024 : Shape := ⟨2, ![1024, 1024]⟩
abbrev S16x1024 : Shape := ⟨2, ![16, 1024]⟩
abbrev S1040x1024 : Shape := ⟨2, ![1040, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S8x1024, .f32⟩
  | .hbm, ⟨2, _⟩ => ⟨S1x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S16x1024, .bf16⟩
  | .local _ .vmem, ⟨3, _⟩ => ⟨S16x1024, .bf16⟩
  | .local _ .vmem, ⟨4, _⟩ => ⟨S8x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1040x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelConvFwdIdeal.lean ====
abbrev S8192x1024 : Shape := ⟨2, ![8192, 1024]⟩
abbrev S8x1024 : Shape := ⟨2, ![8, 1024]⟩
abbrev S1x1024 : Shape := ⟨2, ![1, 1024]⟩
abbrev S1024x1024 : Shape := ⟨2, ![1024, 1024]⟩
abbrev S16x1024 : Shape := ⟨2, ![16, 1024]⟩
abbrev S1040x1024 : Shape := ⟨2, ![1040, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S8x1024, .f32⟩
  | .hbm, ⟨2, _⟩ => ⟨S1x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S16x1024, .bf16⟩
  | .local _ .vmem, ⟨3, _⟩ => ⟨S16x1024, .bf16⟩
  | .local _ .vmem, ⟨4, _⟩ => ⟨S8x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1040x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceConvFwdIdeal.lean ====
abbrev S8192x1024 : Shape := ⟨2, ![8192, 1024]⟩
abbrev S8x1024 : Shape := ⟨2, ![8, 1024]⟩
abbrev S1x1024 : Shape := ⟨2, ![1, 1024]⟩
abbrev S4x1024 : Shape := ⟨2, ![4, 1024]⟩
abbrev S1024 : Shape := ⟨1, ![1024]⟩
abbrev S_ : Shape := ⟨0, ![]⟩
abbrev S3x1024 : Shape := ⟨2, ![3, 1024]⟩
abbrev S8195x1024 : Shape := ⟨2, ![8195, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8x1024, .f32⟩
  | .hbm, ⟨2, _⟩ => ⟨S1x1024, .f32⟩
  | .hbm, ⟨3, _⟩ => ⟨S8192x1024, .f32⟩
  | .hbm, ⟨4, _⟩ => ⟨S4x1024, .f32⟩
  | .hbm, ⟨5, _⟩ => ⟨S1024, .f32⟩
  | .hbm, ⟨6, _⟩ => ⟨S_, .f32⟩
  | .hbm, ⟨7, _⟩ => ⟨S3x1024, .f32⟩
  | .hbm, ⟨8, _⟩ => ⟨S8195x1024, .f32⟩
  | .hbm, ⟨9, _⟩ => ⟨S8192x1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩

abbrev nD : Nat := 1
abbrev τ : Topo := Topo.v7x

variable {F : FTy → Type} [FloatOps F]
-- ==== KernelConvFwdX.lean ====
abbrev S8192x3072 : Shape := ⟨2, ![8192, 3072]⟩
abbrev S8x3072 : Shape := ⟨2, ![8, 3072]⟩
abbrev S1x3072 : Shape := ⟨2, ![1, 3072]⟩
abbrev S1024x1024 : Shape := ⟨2, ![1024, 1024]⟩
abbrev S16x1024 : Shape := ⟨2, ![16, 1024]⟩
abbrev S8x1024 : Shape := ⟨2, ![8, 1024]⟩
abbrev S1x1024 : Shape := ⟨2, ![1, 1024]⟩
abbrev S1040x1024 : Shape := ⟨2, ![1040, 1024]⟩

abbrev nBuf : Space → Nat
  | .hbm => 4
  | .vmem => 11
  | .smem => 0
  | _ => 0

abbrev bufTy : (tb : Table) → Fin (tcTables nBuf tb) → BufTy
  | .hbm, ⟨0, _⟩ => ⟨S8192x3072, .bf16⟩
  | .hbm, ⟨1, _⟩ => ⟨S8x3072, .f32⟩
  | .hbm, ⟨2, _⟩ => ⟨S1x3072, .f32⟩
  | .hbm, ⟨3, _⟩ => ⟨S8192x3072, .f32⟩
  | .local _ .vmem, ⟨0, _⟩ => ⟨S1024x1024, .bf16⟩
  | .local _ .vmem, ⟨1, _⟩ => ⟨S1024x1024, .bf16⟩
  | .local _ .vmem, ⟨2, _⟩ => ⟨S16x1024, .bf16⟩
  | .local _ .vmem, ⟨3, _⟩ => ⟨S16x1024, .bf16⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1040x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceConvFwdXIdeal.lean ====
abbrev S8192x3072 : Shape := ⟨2, ![8192, 3072]⟩
abbrev S8x3072 : Shape := ⟨2, ![8, 3072]⟩
abbrev S1x3072 : Shape := ⟨2, ![1, 3072]⟩
abbrev S4x3072 : Shape := ⟨2, ![4, 3072]⟩
abbrev S3072 : Shape := ⟨1, ![3072]⟩
abbrev S_ : Shape := ⟨0, ![]⟩
abbrev S3x3072 : Shape := ⟨2, ![3, 3072]⟩
abbrev S8195x3072 : Shape := ⟨2, ![8195, 3072]⟩

abbrev nBuf : Space → Nat
  | .hbm => 42
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8x3072, .f32⟩
  | .hbm, ⟨2, _⟩ => ⟨S1x3072, .f32⟩
  | .hbm, ⟨3, _⟩ => ⟨S8192x3072, .f32⟩
  | .hbm, ⟨4, _⟩ => ⟨S4x3072, .f32⟩
  | .hbm, ⟨5, _⟩ => ⟨S3072, .f32⟩
  | .hbm, ⟨6, _⟩ => ⟨S_, .f32⟩
  | .hbm, ⟨7, _⟩ => ⟨S3x3072, .f32⟩
  | .hbm, ⟨8, _⟩ => ⟨S8195x3072, .f32⟩
  | .hbm, ⟨9, _⟩ => ⟨S8192x3072, .f32⟩
  | .hbm, ⟨10, _⟩ => ⟨S1x3072, .f32⟩
  | .hbm, ⟨11, _⟩ => ⟨S3072, .f32⟩
  | .hbm, ⟨12, _⟩ => ⟨S1x3072, .f32⟩
  | .hbm, ⟨13, _⟩ => ⟨S8192x3072, .f32⟩
  | .hbm, ⟨14, _⟩ => ⟨S8192x3072, .f32⟩
  | .hbm, ⟨15, _⟩ => ⟨S_, .f32⟩
  | .hbm, ⟨16, _⟩ => ⟨S8192x3072, .f32⟩
  | .hbm, ⟨17, _⟩ => ⟨S8192x3072, .f32⟩
  | .hbm, ⟨18, _⟩ => ⟨S8192x3072, .f32⟩
  | .hbm, ⟨19, _⟩ => ⟨S1x3072, .f32⟩
  | .hbm, ⟨20, _⟩ => ⟨S3072, .f32⟩
  | .hbm, ⟨21, _⟩ => ⟨S1x3072, .f32⟩
  | .hbm, ⟨22, _⟩ => ⟨S8192x3072, .f32⟩
  | .hbm, ⟨23, _⟩ => ⟨S8192x3072, .f32⟩
  | .hbm, ⟨24, _⟩ => ⟨S8192x3072, .f32⟩
  | .hbm, ⟨25, _⟩ => ⟨S8192x3072, .f32⟩
  | .hbm, ⟨26, _⟩ => ⟨S1x3072, .f32⟩
  | .hbm, ⟨27, _⟩ => ⟨S3072, .f32⟩
  | .hbm, ⟨28, _⟩ => ⟨S1x3072, .f32⟩
  | .hbm, ⟨29, _⟩ => ⟨S8192x3072, .f32⟩
  | .hbm, ⟨30, _⟩ => ⟨S8192x3072, .f32⟩
  | .hbm, ⟨31, _⟩ => ⟨S8192x3072, .f32⟩
  | .hbm, ⟨32, _⟩ => ⟨S8192x3072, .f32⟩
  | .hbm, ⟨33, _⟩ => ⟨S1x3072, .f32⟩
  | .hbm, ⟨34, _⟩ => ⟨S3072, .f32⟩
  | .hbm, ⟨35, _⟩ => ⟨S1x3072, .f32⟩
  | .hbm, ⟨36, _⟩ => ⟨S8192x3072, .f32⟩
  | .hbm, ⟨37, _⟩ => ⟨S8192x3072, .f32⟩
  | .hbm, ⟨38, _⟩ => ⟨S8192x3072, .f32⟩
  | .hbm, ⟨39, _⟩ => ⟨S1x3072, .f32⟩
  | .hbm, ⟨40, _⟩ => ⟨S8192x3072, .f32⟩
  | .hbm, ⟨41, _⟩ => ⟨S8192x3072, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩

abbrev nD : Nat := 1
abbrev τ : Topo := Topo.v7x

variable {F : FTy → Type} [FloatOps F]
-- ==== KernelMergeBwd.lean ====
abbrev S8192x1024 : Shape := ⟨2, ![8192, 1024]⟩
abbrev S8192x2048 : Shape := ⟨2, ![8192, 2048]⟩
abbrev S1x2048 : Shape := ⟨2, ![1, 2048]⟩
abbrev S512x1024 : Shape := ⟨2, ![512, 1024]⟩
abbrev S512x2048 : Shape := ⟨2, ![512, 2048]⟩
abbrev S2048 : Shape := ⟨1, ![2048]⟩

abbrev nBuf : Space → Nat
  | .hbm => 9
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x2048, .bf16⟩
  | .hbm, ⟨3, _⟩ => ⟨S1x2048, .f32⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S8192x2048, .bf16⟩
  | .hbm, ⟨8, _⟩ => ⟨S1x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S1x2048, .f32⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x2048, .bf16⟩
  | .local _ .vmem, ⟨14, _⟩ => ⟨S512x2048, .bf16⟩
  | .local _ .vmem, ⟨15, _⟩ => ⟨S1x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceMergeBwdIdeal.lean ====
abbrev S8192x1024 : Shape := ⟨2, ![8192, 1024]⟩
abbrev S8192x2048 : Shape := ⟨2, ![8192, 2048]⟩
abbrev S1x2048 : Shape := ⟨2, ![1, 2048]⟩
abbrev S_ : Shape := ⟨0, ![]⟩
abbrev S2048 : Shape := ⟨1, ![2048]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x2048, .bf16⟩
  | .hbm, ⟨3, _⟩ => ⟨S1x2048, .f32⟩
  | .hbm, ⟨4, _⟩ => ⟨S8192x1024, .bf16⟩
  | .hbm, ⟨5, _⟩ => ⟨S8192x1024, .f32⟩
  | .hbm, ⟨6, _⟩ => ⟨S8192x1024, .f32⟩
  | .hbm, ⟨7, _⟩ => ⟨S8192x2048, .f32⟩
  | .hbm, ⟨8, _⟩ => ⟨S8192x1024, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S8192x1024, .bf16⟩
  | .hbm, ⟨38, _⟩ => ⟨S8192x1024, .bf16⟩
  | .hbm, ⟨39, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== KernelMergeFwd.lean ====
abbrev S8192x1024 : Shape := ⟨2, ![8192, 1024]⟩
abbrev S8192x2048 : Shape := ⟨2, ![8192, 2048]⟩
abbrev S1x2048 : Shape := ⟨2, ![1, 2048]⟩
abbrev S512x1024 : Shape := ⟨2, ![512, 1024]⟩
abbrev S512x2048 : Shape := ⟨2, ![512, 2048]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x2048, .bf16⟩
  | .hbm, ⟨3, _⟩ => ⟨S1x2048, .f32⟩
  | .hbm, ⟨4, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S1x2048, .f32⟩
  | .local _ .vmem, ⟨7, _⟩ => ⟨S512x1024, .bf16⟩
  | .local _ .vmem, ⟨8, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceMergeFwdIdeal.lean ====
abbrev S8192x1024 : Shape := ⟨2, ![8192, 1024]⟩
abbrev S8192x2048 : Shape := ⟨2, ![8192, 2048]⟩
abbrev S1x2048 : Shape := ⟨2, ![1, 2048]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x2048, .bf16⟩
  | .hbm, ⟨3, _⟩ => ⟨S1x2048, .f32⟩
  | .hbm, ⟨4, _⟩ => ⟨S8192x1024, .f32⟩
  | .hbm, ⟨5, _⟩ => ⟨S8192x1024, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== KernelActBwd.lean ====
abbrev S8192x5632 : Shape := ⟨2, ![8192, 5632]⟩
abbrev S8192x2816 : Shape := ⟨2, ![8192, 2816]⟩
abbrev S256x5632 : Shape := ⟨2, ![256, 5632]⟩
abbrev S256x2816 : Shape := ⟨2, ![256, 2816]⟩

abbrev nBuf : Space → Nat
  | .hbm => 3
  | .vmem => 6
  | .smem => 0
  | _ => 0

abbrev bufTy : (tb : Table) → Fin (tcTables nBuf tb) → BufTy
  | .hbm, ⟨0, _⟩ => ⟨S8192x5632, .bf16⟩
  | .hbm, ⟨1, _⟩ => ⟨S8192x2816, .bf16⟩
  | .hbm, ⟨2, _⟩ => ⟨S8192x5632, .bf16⟩
  | .local _ .vmem, ⟨0, _⟩ => ⟨S256x5632, .bf16⟩
  | .local _ .vmem, ⟨1, _⟩ => ⟨S256x5632, .bf16⟩
  | .local _ .vmem, ⟨2, _⟩ => ⟨S256x2816, .bf16⟩
  | .local _ .vmem, ⟨3, _⟩ => ⟨S256x2816, .bf16⟩
  | .local _ .vmem, ⟨4, _⟩ => ⟨S256x5632, .bf16⟩
  | .local _ .vmem, ⟨5, _⟩ => ⟨S256x5632, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceActBwdIdeal.lean ====
abbrev S8192x5632 : Shape := ⟨2, ![8192, 5632]⟩
abbrev S8192x2816 : Shape := ⟨2, ![8192, 2816]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2816, .bf16⟩
  | .hbm, ⟨2, _⟩ => ⟨S8192x5632, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x5632, .f32⟩
  | .hbm, ⟨27, _⟩ => ⟨S8192x5632, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v4_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v4_1 : Ref sig .tc := ⟨.hbm, 17, rfl⟩
abbrev main_v4_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩

abbrev nD : Nat := 1
abbrev τ : Topo := Topo.v7x

variable {F : FTy → Type} [FloatOps F]
-- ==== KernelRmsBwd.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceRmsBwdIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== KernelRmsFwd.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceRmsFwdIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== KernelPostBwd.lean ====
abbrev S8192x1024 : Shape := ⟨2, ![8192, 1024]⟩
abbrev S8192x2048 : Shape := ⟨2, ![8192, 2048]⟩
abbrev S8192x3072 : Shape := ⟨2, ![8192, 3072]⟩
abbrev S1x2048 : Shape := ⟨2, ![1, 2048]⟩
abbrev S128x1024 : Shape := ⟨2, ![128, 1024]⟩
abbrev S128x2048 : Shape := ⟨2, ![128, 2048]⟩
abbrev S128x512 : Shape := ⟨2, ![128, 512]⟩
abbrev S128 : Shape := ⟨1, ![128]⟩
abbrev S128x1 : Shape := ⟨2, ![128, 1]⟩
abbrev S2048 : Shape := ⟨1, ![2048]⟩
abbrev S128x1536 : Shape := ⟨2, ![128, 1536]⟩

abbrev nBuf : Space → Nat
  | .hbm => 16
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x2048, .f32⟩
  | .hbm, ⟨3, _⟩ => ⟨S8192x3072, .f32⟩
  | .hbm, ⟨4, _⟩ => ⟨S8192x2048, .bf16⟩
  | .hbm, ⟨5, _⟩ => ⟨S1x2048, .f32⟩
  | .hbm, ⟨6, _⟩ => ⟨S1x2048, .f32⟩
  | .hbm, ⟨7, _⟩ => ⟨S8192x1024, .bf16⟩
  | .hbm, ⟨8, _⟩ => ⟨S8192x2048, .bf16⟩
  | .hbm, ⟨9, _⟩ => ⟨S8192x1024, .f32⟩
  | .hbm, ⟨10, _⟩ => ⟨S8192x1024, .bf16⟩
  | .hbm, ⟨11, _⟩ => ⟨S8192x2048, .f32⟩
  | .hbm, ⟨12, _⟩ => ⟨S8192x2048, .f32⟩
  | .hbm, ⟨13, _⟩ => ⟨S8192x2048, .bf16⟩
  | .hbm, ⟨14, _⟩ => ⟨S1x2048, .f32⟩
  | .hbm, ⟨15, _⟩ => ⟨S1x2048, .f32⟩
  | .local _ .vmem, ⟨0, _⟩ => ⟨S128x1024, .f32⟩
  | .local _ .vmem, ⟨1, _⟩ => ⟨S128x1024, .f32⟩
  | .local _ .vmem, ⟨2, _⟩ => ⟨S128x1024, .bf16⟩
  | .local _ .vmem, ⟨3, _⟩ => ⟨S128x1024, .bf16⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .bf16⟩
  | .local _ .vmem, ⟨9, _⟩ => ⟨S128x2048, .bf16⟩
  | .local _ .vmem, ⟨10, _⟩ => ⟨S1x2048, .f32⟩
  | .local _ .vmem, ⟨11, _⟩ => ⟨S1x2048, .f32⟩
  | .local _ .vmem, ⟨12, _⟩ => ⟨S128x1024, .bf16⟩
  | .local _ .vmem, ⟨13, _⟩ => ⟨S128x1024, .bf16⟩
  | .local _ .vmem, ⟨14, _⟩ => ⟨S128x2048, .bf16⟩
  | .local _ .vmem, ⟨15, _⟩ => ⟨S128x2048, .bf16⟩
  | .local _ .vmem, ⟨16, _⟩ => ⟨S128x1024, .f32⟩
  | .local _ .vmem, ⟨17, _⟩ => ⟨S128x1024, .f32⟩
  | .local _ .vmem, ⟨18, _⟩ => ⟨S128x1024, .bf16⟩
  | .local _ .vmem, ⟨19, _⟩ => ⟨S128x1024, .bf16⟩
  | .local _ .vmem, ⟨20, _⟩ => ⟨S128x2048, .f32⟩
  | .local _ .vmem, ⟨21, _⟩ => ⟨S128x2048, .f32⟩
  | .local _ .vmem, ⟨22, _⟩ => ⟨S128x2048, .f32⟩
  | .local _ .vmem, ⟨23, _⟩ => ⟨S128x2048, .f32⟩
  | .local _ .vmem, ⟨24, _⟩ => ⟨S128x2048, .bf16⟩
  | .local _ .vmem, ⟨25, _⟩ => ⟨S128x2048, .bf16⟩
  | .local _ .vmem, ⟨26, _⟩ => ⟨S1x2048, .f32⟩
  | .local _ .vmem, ⟨27, _⟩ => ⟨S1x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg15_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem15_0 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferencePostBwdIdeal.lean ====
abbrev S8192x1024 : Shape := ⟨2, ![8192, 1024]⟩
abbrev S8192x2048 : Shape := ⟨2, ![8192, 2048]⟩
abbrev S8192x3072 : Shape := ⟨2, ![8192, 3072]⟩
abbrev S1x2048 : Shape := ⟨2, ![1, 2048]⟩
abbrev S_ : Shape := ⟨0, ![]⟩
abbrev S8192x4x512 : Shape := ⟨3, ![8192, 4, 512]⟩
abbrev S8192x4 : Shape := ⟨2, ![8192, 4]⟩
abbrev S8192x4x1 : Shape := ⟨3, ![8192, 4, 1]⟩
abbrev S2048 : Shape := ⟨1, ![2048]⟩

abbrev nBuf : Space → Nat
  | .hbm => 154
  | .vmem => 0
  | .smem => 0
  | _ => 0

abbrev hbmTy0_0 (i : Nat) : BufTy := match i % 128 with
  | 0 => ⟨S8192x1024, .f32⟩
  | 1 => ⟨S8192x1024, .bf16⟩
  | 2 => ⟨S8192x2048, .f32⟩
  | 3 => ⟨S8192x3072, .f32⟩
  | 4 => ⟨S8192x2048, .bf16⟩
  | 5 => ⟨S1x2048, .f32⟩
  | 6 => ⟨S1x2048, .f32⟩
  | 7 => ⟨S8192x1024, .bf16⟩
  | 8 => ⟨S8192x2048, .bf16⟩
  | 9 => ⟨S8192x1024, .f32⟩
  | 10 => ⟨S8192x2048, .f32⟩
  | 11 => ⟨S8192x1024, .f32⟩
  | 12 => ⟨S8192x2048, .f32⟩
  | 13 => ⟨S8192x2048, .f32⟩
  | 14 => ⟨S8192x1024, .f32⟩
  | 15 => ⟨S8192x1024, .f32⟩
  | 16 => ⟨S8192x1024, .f32⟩
  | 17 => ⟨S_, .f32⟩
  | 18 => ⟨S8192x1024, .f32⟩
  | 19 => ⟨S8192x1024, .f32⟩
  | 20 => ⟨S_, .f32⟩
  | 21 => ⟨S8192x1024, .f32⟩
  | 22 => ⟨S8192x1024, .f32⟩
  | 23 => ⟨S8192x1024, .f32⟩
  | 24 => ⟨S_, .f32⟩
  | 25 => ⟨S8192x1024, .f32⟩
  | 26 => ⟨S8192x1024, .f32⟩
  | 27 => ⟨S8192x1024, .f32⟩
  | 28 => ⟨S_, .f32⟩
  | 29 => ⟨S8192x1024, .f32⟩
  | 30 => ⟨S8192x1024, .f32⟩
  | 31 => ⟨S_, .f32⟩
  | 32 => ⟨S8192x1024, .f32⟩
  | 33 => ⟨S8192x1024, .f32⟩
  | 34 => ⟨S8192x1024, .f32⟩
  | 35 => ⟨S_, .f32⟩
  | 36 => ⟨S8192x1024, .f32⟩
  | 37 => ⟨S8192x1024, .f32⟩
  | 38 => ⟨S_, .f32⟩
  | 39 => ⟨S8192x1024, .f32⟩
  | 40 => ⟨S8192x1024, .f32⟩
  | 41 => ⟨S8192x1024, .f32⟩
  | 42 => ⟨S8192x1024, .f32⟩
  | 43 => ⟨S8192x2048, .f32⟩
  | 44 => ⟨S8192x2048, .f32⟩
  | 45 => ⟨S_, .f32⟩
  | 46 => ⟨S8192x2048, .f32⟩
  | 47 => ⟨S8192x2048, .f32⟩
  | 48 => ⟨S_, .f32⟩
  | 49 => ⟨S8192x2048, .f32⟩
  | 50 => ⟨S8192x2048, .f32⟩
  | 51 => ⟨S_, .f32⟩
  | 52 => ⟨S8192x2048, .f32⟩
  | 53 => ⟨S8192x2048, .f32⟩
  | 54 => ⟨S8192x2048, .f32⟩
  | 55 => ⟨S8192x2048, .f32⟩
  | 56 => ⟨S8192x2048, .f32⟩
  | 57 => ⟨S8192x2048, .f32⟩
  | 58 => ⟨S8192x2048, .f32⟩
  | 59 => ⟨S8192x2048, .f32⟩
  | 60 => ⟨S8192x2048, .f32⟩
  | 61 => ⟨S_, .f32⟩
  | 62 => ⟨S8192x2048, .f32⟩
  | 63 => ⟨S8192x2048, .f32⟩
  | 64 => ⟨S_, .f32⟩
  | 65 => ⟨S8192x2048, .f32⟩
  | 66 => ⟨S8192x2048, .f32⟩
  | 67 => ⟨S_, .f32⟩
  | 68 => ⟨S8192x2048, .f32⟩
  | 69 => ⟨S8192x2048, .f32⟩
  | 70 => ⟨S8192x2048, .f32⟩
  | 71 => ⟨S8192x2048, .f32⟩
  | 72 => ⟨S8192x2048, .f32⟩
  | 73 => ⟨S8192x4x512, .f32⟩
  | 74 => ⟨S8192x4x512, .f32⟩
  | 75 => ⟨S_, .f32⟩
  | 76 => ⟨S8192x4, .f32⟩
  | 77 => ⟨S8192x4x1, .f32⟩
  | 78 => ⟨S_, .f32⟩
  | 79 => ⟨S8192x4x1, .f32⟩
  | 80 => ⟨S8192x4x1, .f32⟩
  | 81 => ⟨S_, .f32⟩
  | 82 => ⟨S8192x4x1, .f32⟩
  | 83 => ⟨S8192x4x1, .f32⟩
  | 84 => ⟨S8192x4x1, .f32⟩
  | 85 => ⟨S8192x4x1, .f32⟩
  | 86 => ⟨S_, .f32⟩
  | 87 => ⟨S8192x4x1, .f32⟩
  | 88 => ⟨S8192x4x1, .f32⟩
  | 89 => ⟨S8192x4x512, .f32⟩
  | 90 => ⟨S8192x4x512, .f32⟩
  | 91 => ⟨S8192x2048, .f32⟩
  | 92 => ⟨S8192x2048, .f32⟩
  | 93 => ⟨S8192x2048, .f32⟩
  | 94 => ⟨S8192x2048, .f32⟩
  | 95 => ⟨S_, .f32⟩
  | 96 => ⟨S2048, .f32⟩
  | 97 => ⟨S1x2048, .f32⟩
  | 98 => ⟨S8192x2048, .f32⟩
  | 99 => ⟨S8192x2048, .f32⟩
  | 100 => ⟨S8192x4x512, .f32⟩
  | 101 => ⟨S8192x4x512, .f32⟩
  | 102 => ⟨S_, .f32⟩
  | 103 => ⟨S8192x4, .f32⟩
  | 104 => ⟨S8192x4x1, .f32⟩
  | 105 => ⟨S8192x4x512, .f32⟩
  | 106 => ⟨S8192x4x512, .f32⟩
  | 107 => ⟨S8192x4x1, .f32⟩
  | 108 => ⟨S_, .f32⟩
  | 109 => ⟨S8192x4x1, .f32⟩
  | 110 => ⟨S8192x4x1, .f32⟩
  | 111 => ⟨S_, .f32⟩
  | 112 => ⟨S8192x4, .f32⟩
  | 113 => ⟨S8192x4x512, .f32⟩
  | 114 => ⟨S8192x4x512, .f32⟩
  | 115 => ⟨S8192x4x512, .f32⟩
  | 116 => ⟨S8192x4x512, .f32⟩
  | 117 => ⟨S8192x4x512, .f32⟩
  | 118 => ⟨S8192x2048, .f32⟩
  | 119 => ⟨S8192x2048, .f32⟩
  | 120 => ⟨S8192x2048, .f32⟩
  | 121 => ⟨S8192x2048, .f32⟩
  | 122 => ⟨S8192x2048, .f32⟩
  | 123 => ⟨S8192x2048, .f32⟩
  | 124 => ⟨S8192x2048, .f32⟩
  | 125 => ⟨S8192x2048, .f32⟩
  | 126 => ⟨S8192x2048, .f32⟩
  | 127 => ⟨S8192x2048, .f32⟩
  | _ => ⟨S8192x1024, .f32⟩

abbrev hbmTy0_1 (i : Nat) : BufTy := match i % 128 with
  | 0 => ⟨S_, .f32⟩
  | 1 => ⟨S2048, .f32⟩
  | 2 => ⟨S1x2048, .f32⟩
  | 3 => ⟨S8192x2048, .f32⟩
  | 4 => ⟨S8192x2048, .f32⟩
  | 5 => ⟨S8192x2048, .f32⟩
  | 6 => ⟨S8192x2048, .f32⟩
  | 7 => ⟨S8192x1024, .f32⟩
  | 8 => ⟨S8192x1024, .f32⟩
  | 9 => ⟨S8192x1024, .f32⟩
  | 10 => ⟨S8192x1024, .f32⟩
  | 11 => ⟨S_, .f32⟩
  | 12 => ⟨S8192x1024, .f32⟩
  | 13 => ⟨S8192x1024, .f32⟩
  | 14 => ⟨S8192x1024, .f32⟩
  | 15 => ⟨S_, .f32⟩
  | 16 => ⟨S8192x1024, .f32⟩
  | 17 => ⟨S8192x1024, .f32⟩
  | 18 => ⟨S8192x1024, .f32⟩
  | 19 => ⟨S_, .f32⟩
  | 20 => ⟨S8192x1024, .f32⟩
  | 21 => ⟨S8192x1024, .f32⟩
  | 22 => ⟨S8192x1024, .f32⟩
  | 23 => ⟨S8192x1024, .f32⟩
  | 24 => ⟨S8192x1024, .bf16⟩
  | 25 => ⟨S8192x2048, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_v27_2 : Ref sig .tc := ⟨.hbm, 50, rfl⟩
abbrev main_call0_cst_1 : Ref sig .tc := ⟨.hbm, 51, rfl⟩
abbrev main_call0_v6 : Ref sig .tc := ⟨.hbm, 52, rfl⟩
abbrev main_call0_v7 : Ref sig .tc := ⟨.hbm, 53, rfl⟩
abbrev main_v27_1 : Ref sig .tc := ⟨.hbm, 54, rfl⟩
abbrev main_v27_0 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_call1_v0 : Ref sig .tc := ⟨.hbm, 59, rfl⟩
abbrev main_call1_v1 : Ref sig .tc := ⟨.hbm, 60, rfl⟩
abbrev main_call1_cst : Ref sig .tc := ⟨.hbm, 61, rfl⟩
abbrev main_call1_v2 : Ref sig .tc := ⟨.hbm, 62, rfl⟩
abbrev main_call1_v3 : Ref sig .tc := ⟨.hbm, 63, rfl⟩
abbrev main_call1_cst_0 : Ref sig .tc := ⟨.hbm, 64, rfl⟩
abbrev main_call1_v4 : Ref sig .tc := ⟨.hbm, 65, rfl⟩
abbrev main_v31_2 : Ref sig .tc := ⟨.hbm, 66, rfl⟩
abbrev main_call1_cst_1 : Ref sig .tc := ⟨.hbm, 67, rfl⟩
abbrev main_call1_v6 : Ref sig .tc := ⟨.hbm, 68, rfl⟩
abbrev main_call1_v7 : Ref sig .tc := ⟨.hbm, 69, rfl⟩
abbrev main_v31_1 : Ref sig .tc := ⟨.hbm, 70, rfl⟩
abbrev main_v31_0 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_cst_6 : Ref sig .tc := ⟨.hbm, 75, rfl⟩
abbrev main_v35 : Ref sig .tc := ⟨.hbm, 76, rfl⟩
abbrev main_v36 : Ref sig .tc := ⟨.hbm, 77, rfl⟩
abbrev main_cst_7 : Ref sig .tc := ⟨.hbm, 78, rfl⟩
abbrev main_v37 : Ref sig .tc := ⟨.hbm, 79, rfl⟩
abbrev main_v38 : Ref sig .tc := ⟨.hbm, 80, rfl⟩
abbrev main_cst_8 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_cst_9 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_cst_10 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_cst_11 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_cst_12 : Ref sig .tc := ⟨.hbm, 108, rfl⟩
abbrev main_v62 : Ref sig .tc := ⟨.hbm, 109, rfl⟩
abbrev main_v63 : Ref sig .tc := ⟨.hbm, 110, rfl⟩
abbrev main_cst_13 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_call2_v0 : Ref sig .tc := ⟨.hbm, 121, rfl⟩
abbrev main_call2_v1 : Ref sig .tc := ⟨.hbm, 122, rfl⟩
abbrev main_call2_v2 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_cst_14 : Ref sig .tc := ⟨.hbm, 128, rfl⟩
abbrev main_v77 : Ref sig .tc := ⟨.hbm, 129, rfl⟩
abbrev main_v78 : Ref sig .tc := ⟨.hbm, 130, rfl⟩
abbrev main_call3_v0 : Ref sig .tc := ⟨.hbm, 131, rfl⟩
abbrev main_call3_v1 : Ref sig .tc := ⟨.hbm, 132, rfl⟩
abbrev main_call3_v2 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_cst_15 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_cst_16 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_cst_17 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩

abbrev nD : Nat := 1
abbrev τ : Topo := Topo.v7x

variable {F : FTy → Type} [FloatOps F]
-- ==== KernelPostFwd.lean ====
abbrev S8192x1024 : Shape := ⟨2, ![8192, 1024]⟩
abbrev S8192x2048 : Shape := ⟨2, ![8192, 2048]⟩
abbrev S8192x3072 : Shape := ⟨2, ![8192, 3072]⟩
abbrev S1x2048 : Shape := ⟨2, ![1, 2048]⟩
abbrev S128x1024 : Shape := ⟨2, ![128, 1024]⟩
abbrev S128x2048 : Shape := ⟨2, ![128, 2048]⟩
abbrev S128x512 : Shape := ⟨2, ![128, 512]⟩
abbrev S128 : Shape := ⟨1, ![128]⟩
abbrev S128x1 : Shape := ⟨2, ![128, 1]⟩

abbrev nBuf : Space → Nat
  | .hbm => 9
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x2048, .f32⟩
  | .hbm, ⟨3, _⟩ => ⟨S8192x3072, .f32⟩
  | .hbm, ⟨4, _⟩ => ⟨S8192x2048, .bf16⟩
  | .hbm, ⟨5, _⟩ => ⟨S1x2048, .f32⟩
  | .hbm, ⟨6, _⟩ => ⟨S1x2048, .f32⟩
  | .hbm, ⟨7, _⟩ => ⟨S8192x1024, .bf16⟩
  | .hbm, ⟨8, _⟩ => ⟨S8192x2048, .bf16⟩
  | .local _ .vmem, ⟨0, _⟩ => ⟨S128x1024, .f32⟩
  | .local _ .vmem, ⟨1, _⟩ => ⟨S128x1024, .f32⟩
  | .local _ .vmem, ⟨2, _⟩ => ⟨S128x1024, .bf16⟩
  | .local _ .vmem, ⟨3, _⟩ => ⟨S128x1024, .bf16⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .bf16⟩
  | .local _ .vmem, ⟨9, _⟩ => ⟨S128x2048, .bf16⟩
  | .local _ .vmem, ⟨10, _⟩ => ⟨S1x2048, .f32⟩
  | .local _ .vmem, ⟨11, _⟩ => ⟨S1x2048, .f32⟩
  | .local _ .vmem, ⟨12, _⟩ => ⟨S128x1024, .bf16⟩
  | .local _ .vmem, ⟨13, _⟩ => ⟨S128x1024, .bf16⟩
  | .local _ .vmem, ⟨14, _⟩ => ⟨S128x2048, .bf16⟩
  | .local _ .vmem, ⟨15, _⟩ => ⟨S128x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferencePostFwdIdeal.lean ====
abbrev S8192x1024 : Shape := ⟨2, ![8192, 1024]⟩
abbrev S8192x2048 : Shape := ⟨2, ![8192, 2048]⟩
abbrev S8192x3072 : Shape := ⟨2, ![8192, 3072]⟩
abbrev S1x2048 : Shape := ⟨2, ![1, 2048]⟩
abbrev S_ : Shape := ⟨0, ![]⟩
abbrev S8192x4x512 : Shape := ⟨3, ![8192, 4, 512]⟩
abbrev S8192x4 : Shape := ⟨2, ![8192, 4]⟩
abbrev S8192x4x1 : Shape := ⟨3, ![8192, 4, 1]⟩

abbrev nBuf : Space → Nat
  | .hbm => 69
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x2048, .f32⟩
  | .hbm, ⟨3, _⟩ => ⟨S8192x3072, .f32⟩
  | .hbm, ⟨4, _⟩ => ⟨S8192x2048, .bf16⟩
  | .hbm, ⟨5, _⟩ => ⟨S1x2048, .f32⟩
  | .hbm, ⟨6, _⟩ => ⟨S1x2048, .f32⟩
  | .hbm, ⟨7, _⟩ => ⟨S8192x1024, .f32⟩
  | .hbm, ⟨8, _⟩ => ⟨S8192x2048, .f32⟩
  | .hbm, ⟨9, _⟩ => ⟨S8192x2048, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S8192x2048, .f32⟩
  | .hbm, ⟨44, _⟩ => ⟨S8192x2048, .f32⟩
  | .hbm, ⟨45, _⟩ => ⟨S_, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x4x512, .f32⟩
  | .hbm, ⟨51, _⟩ => ⟨S8192x4x512, .f32⟩
  | .hbm, ⟨52, _⟩ => ⟨S_, .f32⟩
  | .hbm, ⟨53, _⟩ => ⟨S8192x4, .f32⟩
  | .hbm, ⟨54, _⟩ => ⟨S8192x4x1, .f32⟩
  | .hbm, ⟨55, _⟩ => ⟨S_, .f32⟩
  | .hbm, ⟨56, _⟩ => ⟨S8192x4x1, .f32⟩
  | .hbm, ⟨57, _⟩ => ⟨S8192x4x1, .f32⟩
  | .hbm, ⟨58, _⟩ => ⟨S_, .f32⟩
  | .hbm, ⟨59, _⟩ => ⟨S8192x4x1, .f32⟩
  | .hbm, ⟨60, _⟩ => ⟨S8192x4x1, .f32⟩
  | .hbm, ⟨61, _⟩ => ⟨S8192x4x1, .f32⟩
  | .hbm, ⟨62, _⟩ => ⟨S8192x4x512, .f32⟩
  | .hbm, ⟨63, _⟩ => ⟨S8192x4x512, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x1024, .bf16⟩
  | .hbm, ⟨68, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_3 : Ref sig .tc := ⟨.hbm, 52, rfl⟩
abbrev main_v25 : Ref sig .tc := ⟨.hbm, 53, rfl⟩
abbrev main_v26 : Ref sig .tc := ⟨.hbm, 54, rfl⟩
abbrev main_cst_4 : Ref sig .tc := ⟨.hbm, 55, rfl⟩
abbrev main_v27 : Ref sig .tc := ⟨.hbm, 56, rfl⟩
abbrev main_v28 : Ref sig .tc := ⟨.hbm, 57, rfl⟩
abbrev main_cst_5 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩

abbrev nD : Nat := 1
abbrev τ : Topo := Topo.v7x

variable {F : FTy → Type} [FloatOps F]
-- ==== KernelGatesFwd.lean ====
abbrev S8192x1024 : Shape := ⟨2, ![8192, 1024]⟩
abbrev S16x64x64 : Shape := ⟨3, ![16, 64, 64]⟩
abbrev S1x1024 : Shape := ⟨2, ![1, 1024]⟩
abbrev S_ : Shape := ⟨0, ![]⟩
abbrev S8x64x64 : Shape := ⟨3, ![8, 64, 64]⟩
abbrev S8x2x64x64 : Shape := ⟨4, ![8, 2, 64, 64]⟩
abbrev S8x1x64x64 : Shape := ⟨4, ![8, 1, 64, 64]⟩
abbrev S8x64x128 : Shape := ⟨3, ![8, 64, 128]⟩
abbrev S8x128x128 : Shape := ⟨3, ![8, 128, 128]⟩
abbrev S512x1024 : Shape := ⟨2, ![512, 1024]⟩
abbrev S512x128 : Shape := ⟨2, ![512, 128]⟩
abbrev S1x128x128 : Shape := ⟨3, ![1, 128, 128]⟩
abbrev S128x128 : Shape := ⟨2, ![128, 128]⟩

abbrev nBuf : Space → Nat
  | .hbm => 28
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S16x64x64, .f32⟩
  | .hbm, ⟨2, _⟩ => ⟨S1x1024, .f32⟩
  | .hbm, ⟨3, _⟩ => ⟨S16x64x64, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S8x64x64, .f32⟩
  | .hbm, ⟨8, _⟩ => ⟨S8x2x64x64, .f32⟩
  | .hbm, ⟨9, _⟩ => ⟨S8x1x64x64, .f32⟩
  | .hbm, ⟨10, _⟩ => ⟨S8x64x64, .f32⟩
  | .hbm, ⟨11, _⟩ => ⟨S8x64x128, .f32⟩
  | .hbm, ⟨12, _⟩ => ⟨S8x1x64x64, .f32⟩
  | .hbm, ⟨13, _⟩ => ⟨S8x64x64, .f32⟩
  | .hbm, ⟨14, _⟩ => ⟨S8x64x128, .f32⟩
  | .hbm, ⟨15, _⟩ => ⟨S8x128x128, .f32⟩
  | .hbm, ⟨16, _⟩ => ⟨S_, .f32⟩
  | .hbm, ⟨17, _⟩ => ⟨S8x64x64, .f32⟩
  | .hbm, ⟨18, _⟩ => ⟨S8x2x64x64, .f32⟩
  | .hbm, ⟨19, _⟩ => ⟨S8x1x64x64, .f32⟩
  | .hbm, ⟨20, _⟩ => ⟨S8x64x64, .f32⟩
  | .hbm, ⟨21, _⟩ => ⟨S8x64x128, .f32⟩
  | .hbm, ⟨22, _⟩ => ⟨S8x1x64x64, .f32⟩
  | .hbm, ⟨23, _⟩ => ⟨S8x64x64, .f32⟩
  | .hbm, ⟨24, _⟩ => ⟨S8x64x128, .f32⟩
  | .hbm, ⟨25, _⟩ => ⟨S8x128x128, .f32⟩
  | .hbm, ⟨26, _⟩ => ⟨S8192x1024, .f32⟩
  | .hbm, ⟨27, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S8x128x128, .f32⟩
  | .local _ .vmem, ⟨3, _⟩ => ⟨S1x1024, .f32⟩
  | .local _ .vmem, ⟨4, _⟩ => ⟨S8x128x128, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceGatesFwdIdeal.lean ====
abbrev S8192x1024 : Shape := ⟨2, ![8192, 1024]⟩
abbrev S16x64x64 : Shape := ⟨3, ![16, 64, 64]⟩
abbrev S1x1024 : Shape := ⟨2, ![1, 1024]⟩
abbrev S8192x16x64 : Shape := ⟨3, ![8192, 16, 64]⟩
abbrev S16x64x8192 : Shape := ⟨3, ![16, 64, 8192]⟩
abbrev S_ : Shape := ⟨0, ![]⟩

abbrev nBuf : Space → Nat
  | .hbm => 62
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S16x64x64, .f32⟩
  | .hbm, ⟨2, _⟩ => ⟨S1x1024, .f32⟩
  | .hbm, ⟨3, _⟩ => ⟨S16x64x64, .f32⟩
  | .hbm, ⟨4, _⟩ => ⟨S1x1024, .f32⟩
  | .hbm, ⟨5, _⟩ => ⟨S1x1024, .f32⟩
  | .hbm, ⟨6, _⟩ => ⟨S8192x16x64, .f32⟩
  | .hbm, ⟨7, _⟩ => ⟨S16x64x8192, .f32⟩
  | .hbm, ⟨8, _⟩ => ⟨S8192x16x64, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S16x64x8192, .f32⟩
  | .hbm, ⟨21, _⟩ => ⟨S8192x16x64, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S_, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S1x1024, .i1⟩
  | .hbm, ⟨43, _⟩ => ⟨S1x1024, .f32⟩
  | .hbm, ⟨44, _⟩ => ⟨S1x1024, .f32⟩
  | .hbm, ⟨45, _⟩ => ⟨S1x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_cst : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_4 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩

abbrev nD : Nat := 1
abbrev τ : Topo := Topo.v7x

variable {F : FTy → Type} [FloatOps F]
-- ==== KernelDw.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== KernelDwIdeal.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceDwIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDwZ.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelDwZIdeal.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwZIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x1024, .f32⟩
  | .hbm, ⟨3, _⟩ => ⟨S8192x2048, .f32⟩
  | .hbm, ⟨4, _⟩ => ⟨S_, .f32⟩
  | .hbm, ⟨5, _⟩ => ⟨S1024x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDwXbc.lean ====
abbrev S8192x1024 : Shape := ⟨2, ![8192, 1024]⟩
abbrev S8192x3072 : Shape := ⟨2, ![8192, 3072]⟩
abbrev S1024x3072 : Shape := ⟨2, ![1024, 3072]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelDwXbcIdeal.lean ====
abbrev S8192x1024 : Shape := ⟨2, ![8192, 1024]⟩
abbrev S8192x3072 : Shape := ⟨2, ![8192, 3072]⟩
abbrev S1024x3072 : Shape := ⟨2, ![1024, 3072]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwXbcIdeal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S8192x1024, .f32⟩
  | .hbm, ⟨3, _⟩ => ⟨S8192x3072, .f32⟩
  | .hbm, ⟨4, _⟩ => ⟨S_, .f32⟩
  | .hbm, ⟨5, _⟩ => ⟨S1024x3072, .f32⟩
  | .hbm, ⟨6, _⟩ => ⟨S8192x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDwDt.lean ====
abbrev S8192x1024 : Shape := ⟨2, ![8192, 1024]⟩
abbrev S8192x128 : Shape := ⟨2, ![8192, 128]⟩
abbrev S1024x128 : Shape := ⟨2, ![1024, 128]⟩
abbrev S2048x1024 : Shape := ⟨2, ![2048, 1024]⟩
abbrev S2048x128 : Shape := ⟨2, ![2048, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S1024x128, .bf16⟩
  | .local _ .vmem, ⟨0, _⟩ => ⟨S2048x1024, .bf16⟩
  | .local _ .vmem, ⟨1, _⟩ => ⟨S2048x1024, .bf16⟩
  | .local _ .vmem, ⟨2, _⟩ => ⟨S2048x128, .bf16⟩
  | .local _ .vmem, ⟨3, _⟩ => ⟨S2048x128, .bf16⟩
  | .local _ .vmem, ⟨4, _⟩ => ⟨S1024x128, .bf16⟩
  | .local _ .vmem, ⟨5, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== KernelDwDtIdeal.lean ====
abbrev S8192x1024 : Shape := ⟨2, ![8192, 1024]⟩
abbrev S8192x128 : Shape := ⟨2, ![8192, 128]⟩
abbrev S1024x128 : Shape := ⟨2, ![1024, 128]⟩
abbrev S2048x1024 : Shape := ⟨2, ![2048, 1024]⟩
abbrev S2048x128 : Shape := ⟨2, ![2048, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S1024x128, .bf16⟩
  | .local _ .vmem, ⟨0, _⟩ => ⟨S2048x1024, .bf16⟩
  | .local _ .vmem, ⟨1, _⟩ => ⟨S2048x1024, .bf16⟩
  | .local _ .vmem, ⟨2, _⟩ => ⟨S2048x128, .bf16⟩
  | .local _ .vmem, ⟨3, _⟩ => ⟨S2048x128, .bf16⟩
  | .local _ .vmem, ⟨4, _⟩ => ⟨S1024x128, .bf16⟩
  | .local _ .vmem, ⟨5, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceDwDtIdeal.lean ====
abbrev S8192x1024 : Shape := ⟨2, ![8192, 1024]⟩
abbrev S8192x128 : Shape := ⟨2, ![8192, 128]⟩
abbrev S_ : Shape := ⟨0, ![]⟩
abbrev S1024x128 : Shape := ⟨2, ![1024, 128]⟩
abbrev S128x1024 : Shape := ⟨2, ![128, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S8192x1024, .f32⟩
  | .hbm, ⟨3, _⟩ => ⟨S8192x128, .f32⟩
  | .hbm, ⟨4, _⟩ => ⟨S_, .f32⟩
  | .hbm, ⟨5, _⟩ => ⟨S1024x128, .f32⟩
  | .hbm, ⟨6, _⟩ => ⟨S8192x128, .f32⟩
  | .hbm, ⟨7, _⟩ => ⟨S128x1024, .f32⟩
  | .hbm, ⟨8, _⟩ => ⟨S1024x128, .f32⟩
  | .hbm, ⟨9, _⟩ => ⟨S1024x128, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDwFfnOut.lean ====
abbrev S8192x2816 : Shape := ⟨2, ![8192, 2816]⟩
abbrev S8192x1024 : Shape := ⟨2, ![8192, 1024]⟩
abbrev S2816x1024 : Shape := ⟨2, ![2816, 1024]⟩
abbrev S2048x256 : Shape := ⟨2, ![2048, 256]⟩
abbrev S2048x1024 : Shape := ⟨2, ![2048, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelDwFfnOutIdeal.lean ====
abbrev S8192x2816 : Shape := ⟨2, ![8192, 2816]⟩
abbrev S8192x1024 : Shape := ⟨2, ![8192, 1024]⟩
abbrev S2816x1024 : Shape := ⟨2, ![2816, 1024]⟩
abbrev S2048x256 : Shape := ⟨2, ![2048, 256]⟩
abbrev S2048x1024 : Shape := ⟨2, ![2048, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwFfnOutIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S_, .f32⟩
  | .hbm, ⟨5, _⟩ => ⟨S2816x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDwFfnIn.lean ====
abbrev S8192x5632 : Shape := ⟨2, ![8192, 5632]⟩
abbrev S8192x1024 : Shape := ⟨2, ![8192, 1024]⟩
abbrev S5632x1024 : Shape := ⟨2, ![5632, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S5632x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwFfnInIdeal.lean ====
abbrev S8192x5632 : Shape := ⟨2, ![8192, 5632]⟩
abbrev S8192x1024 : Shape := ⟨2, ![8192, 1024]⟩
abbrev S_ : Shape := ⟨0, ![]⟩
abbrev S1024x5632 : Shape := ⟨2, ![1024, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S8192x1024, .f32⟩
  | .hbm, ⟨3, _⟩ => ⟨S8192x5632, .f32⟩
  | .hbm, ⟨4, _⟩ => ⟨S_, .f32⟩
  | .hbm, ⟨5, _⟩ => ⟨S1024x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | .hbm, ⟨10, _⟩ => ⟨S5632x1024, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelDwBrb.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwBrbIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x2048, .f32⟩
  | .hbm, ⟨3, _⟩ => ⟨S8192x1024, .f32⟩
  | .hbm, ⟨4, _⟩ => ⟨S_, .f32⟩
  | .hbm, ⟨5, _⟩ => ⟨S2048x1024, .f32⟩
  | .hbm, ⟨6, _⟩ => ⟨S8192x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDAct.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelDActIdeal.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDActIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x1024, .f32⟩
  | .hbm, ⟨3, _⟩ => ⟨S2816x1024, .f32⟩
  | .hbm, ⟨4, _⟩ => ⟨S_, .f32⟩
  | .hbm, ⟨5, _⟩ => ⟨S8192x2816, .f32⟩
  | .hbm, ⟨6, _⟩ => ⟨S8192x1024, .f32⟩
  | .hbm, ⟨7, _⟩ => ⟨S8192x2816, .f32⟩
  | .hbm, ⟨8, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDx.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelDxIdeal.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDxIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDYb.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDYbIdeal.lean ====
abbrev S8192x1024 : Shape := ⟨2, ![8192, 1024]⟩
abbrev S2048x1024 : Shape := ⟨2, ![2048, 1024]⟩
abbrev S_ : Shape := ⟨0, ![]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x1024, .f32⟩
  | .hbm, ⟨3, _⟩ => ⟨S2048x1024, .f32⟩
  | .hbm, ⟨4, _⟩ => ⟨S_, .f32⟩
  | .hbm, ⟨5, _⟩ => ⟨S8192x2048, .f32⟩
  | .hbm, ⟨6, _⟩ => ⟨S8192x1024, .f32⟩
  | .hbm, ⟨7, _⟩ => ⟨S8192x2048, .f32⟩
  | .hbm, ⟨8, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDXn2.lean ====
abbrev S8192x5632 : Shape := ⟨2, ![8192, 5632]⟩
abbrev S5632x1024 : Shape := ⟨2, ![5632, 1024]⟩
abbrev S8192x1024 : Shape := ⟨2, ![8192, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S5632x1024, .bf16⟩
  | .hbm, ⟨2, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDXn2Ideal.lean ====
abbrev S8192x5632 : Shape := ⟨2, ![8192, 5632]⟩
abbrev S5632x1024 : Shape := ⟨2, ![5632, 1024]⟩
abbrev S_ : Shape := ⟨0, ![]⟩
abbrev S8192x1024 : Shape := ⟨2, ![8192, 1024]⟩
abbrev S1024x5632 : Shape := ⟨2, ![1024, 5632]⟩

abbrev nBuf : Space → Nat
  | .hbm => 9
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x1024, .bf16⟩
  | .hbm, ⟨2, _⟩ => ⟨S8192x5632, .f32⟩
  | .hbm, ⟨3, _⟩ => ⟨S5632x1024, .f32⟩
  | .hbm, ⟨4, _⟩ => ⟨S_, .f32⟩
  | .hbm, ⟨5, _⟩ => ⟨S8192x1024, .f32⟩
  | .hbm, ⟨6, _⟩ => ⟨S1024x5632, .f32⟩
  | .hbm, ⟨7, _⟩ => ⟨S8192x5632, .f32⟩
  | .hbm, ⟨8, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDXnA.lean ====
abbrev S8192x1024 : Shape := ⟨2, ![8192, 1024]⟩
abbrev S1024x1024 : Shape := ⟨2, ![1024, 1024]⟩
abbrev S8192x2048 : Shape := ⟨2, ![8192, 2048]⟩
abbrev S1024x2048 : Shape := ⟨2, ![1024, 2048]⟩

abbrev nBuf : Space → Nat
  | .hbm => 7
  | .vmem => 15
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S1024x1024, .bf16⟩
  | .hbm, ⟨4, _⟩ => ⟨S8192x2048, .bf16⟩
  | .hbm, ⟨5, _⟩ => ⟨S1024x2048, .bf16⟩
  | .hbm, ⟨6, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 1, 4], ![false, false, false]⟩

def k0_cond5 (i : grid0.Coords) : BitVec 1 :=
  let arg2 : BitVec 32 := BitVec.ofNat 32 (i 2).val
  let c2_i32_3 : BitVec 32 := 2#32
  let v10 : BitVec 1 := Scalar.cmpi .sge arg2 c2_i32_3
  let c4_i32 : BitVec 32 := 4#32
  let v11 : BitVec 1 := Scalar.cmpi .slt arg2 c4_i32
  let v12 : BitVec 1 := Scalar.andi v10 v11
  let v13 : BitVec 32 := Scalar.extui v12
  let c0_i32_4 : BitVec 32 := 0#32
  let v14 : BitVec 1 := Scalar.cmpi .ne v13 c0_i32_4
  v14

def k0_cond6 (i : grid0.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_8 : BitVec 32 := 0#32
  let v20 : BitVec 1 := Scalar.cmpi .ne v19 c0_i32_8
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg1.toNat, v2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== ReferenceDXnAIdeal.lean ====
abbrev S8192x1024 : Shape := ⟨2, ![8192, 1024]⟩
abbrev S1024x1024 : Shape := ⟨2, ![1024, 1024]⟩
abbrev S8192x2048 : Shape := ⟨2, ![8192, 2048]⟩
abbrev S1024x2048 : Shape := ⟨2, ![1024, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S1024x1024, .bf16⟩
  | .hbm, ⟨4, _⟩ => ⟨S8192x2048, .bf16⟩
  | .hbm, ⟨5, _⟩ => ⟨S1024x2048, .bf16⟩
  | .hbm, ⟨6, _⟩ => ⟨S8192x1024, .f32⟩
  | .hbm, ⟨7, _⟩ => ⟨S1024x1024, .f32⟩
  | .hbm, ⟨8, _⟩ => ⟨S8192x1024, .f32⟩
  | .hbm, ⟨9, _⟩ => ⟨S1024x1024, .f32⟩
  | .hbm, ⟨10, _⟩ => ⟨S8192x2048, .f32⟩
  | .hbm, ⟨11, _⟩ => ⟨S1024x2048, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x2048, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== KernelDXnB.lean ====
abbrev S8192x3072 : Shape := ⟨2, ![8192, 3072]⟩
abbrev S1024x3072 : Shape := ⟨2, ![1024, 3072]⟩
abbrev S8192x128 : Shape := ⟨2, ![8192, 128]⟩
abbrev S1024x128 : Shape := ⟨2, ![1024, 128]⟩
abbrev S8192x2048 : Shape := ⟨2, ![8192, 2048]⟩
abbrev S1024x2048 : Shape := ⟨2, ![1024, 2048]⟩
abbrev S8192x1024 : Shape := ⟨2, ![8192, 1024]⟩
abbrev S1024x1536 : Shape := ⟨2, ![1024, 1536]⟩
abbrev S1024x1024 : Shape := ⟨2, ![1024, 1024]⟩

abbrev nBuf : Space → Nat
  | .hbm => 8
  | .vmem => 17
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x128, .bf16⟩
  | .hbm, ⟨3, _⟩ => ⟨S1024x128, .bf16⟩
  | .hbm, ⟨4, _⟩ => ⟨S8192x2048, .bf16⟩
  | .hbm, ⟨5, _⟩ => ⟨S1024x2048, .bf16⟩
  | .hbm, ⟨6, _⟩ => ⟨S8192x1024, .f32⟩
  | .hbm, ⟨7, _⟩ => ⟨S8192x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![8, 1, 5], ![false, false, false]⟩

def k0_cond6 (i : grid0.Coords) : BitVec 1 :=
  let arg2 : BitVec 32 := BitVec.ofNat 32 (i 2).val
  let c3_i32_3 : BitVec 32 := 3#32
  let v10 : BitVec 1 := Scalar.cmpi .sge arg2 c3_i32_3
  let c5_i32 : BitVec 32 := 5#32
  let v11 : BitVec 1 := Scalar.cmpi .slt arg2 c5_i32
  let v12 : BitVec 1 := Scalar.andi v10 v11
  let v13 : BitVec 32 := Scalar.extui v12
  let c0_i32_4 : BitVec 32 := 0#32
  let v14 : BitVec 1 := Scalar.cmpi .ne v13 c0_i32_4
  v14

def k0_cond7 (i : grid0.Coords) : BitVec 1 :=
  let arg2 : BitVec 32 := BitVec.ofNat 32 (i 2).val
  let c4_i32 : BitVec 32 := 4#32
  let v18 : BitVec 1 := Scalar.cmpi .eq arg2 c4_i32
  let v19 : BitVec 32 := Scalar.extui v18
  let c0_i32_8 : BitVec 32 := 0#32
  let v20 : BitVec 1 := Scalar.cmpi .ne v19 c0_i32_8
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi arg2 c3_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi arg2 c3_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg1.toNat, v2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== ReferenceDXnBIdeal.lean ====
abbrev S8192x3072 : Shape := ⟨2, ![8192, 3072]⟩
abbrev S1024x3072 : Shape := ⟨2, ![1024, 3072]⟩
abbrev S8192x128 : Shape := ⟨2, ![8192, 128]⟩
abbrev S1024x128 : Shape := ⟨2, ![1024, 128]⟩
abbrev S8192x2048 : Shape := ⟨2, ![8192, 2048]⟩
abbrev S1024x2048 : Shape := ⟨2, ![1024, 2048]⟩
abbrev S8192x1024 : Shape := ⟨2, ![8192, 1024]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x128, .bf16⟩
  | .hbm, ⟨3, _⟩ => ⟨S1024x128, .bf16⟩
  | .hbm, ⟨4, _⟩ => ⟨S8192x2048, .bf16⟩
  | .hbm, ⟨5, _⟩ => ⟨S1024x2048, .bf16⟩
  | .hbm, ⟨6, _⟩ => ⟨S8192x1024, .f32⟩
  | .hbm, ⟨7, _⟩ => ⟨S8192x3072, .f32⟩
  | .hbm, ⟨8, _⟩ => ⟨S1024x3072, .f32⟩
  | .hbm, ⟨9, _⟩ => ⟨S8192x128, .f32⟩
  | .hbm, ⟨10, _⟩ => ⟨S1024x128, .f32⟩
  | .hbm, ⟨11, _⟩ => ⟨S8192x2048, .f32⟩
  | .hbm, ⟨12, _⟩ => ⟨S1024x2048, .f32⟩
  | .hbm, ⟨13, _⟩ => ⟨S_, .f32⟩
  | .hbm, ⟨14, _⟩ => ⟨S8192x1024, .f32⟩
  | .hbm, ⟨15, _⟩ => ⟨S8192x3072, .f32⟩
  | .hbm, ⟨16, _⟩ => ⟨S8192x128, .f32⟩
  | .hbm, ⟨17, _⟩ => ⟨S8192x2048, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== KernelY.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelYIdeal.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceYIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelYZ.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelYZIdeal.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceYZIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S8192x2048, .f32⟩
  | .hbm, ⟨5, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelYXbc.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .bf16⟩
  | .local _ .vmem, ⟨5, _⟩ => ⟨S1024x1536, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelYXbcIdeal.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .bf16⟩
  | .local _ .vmem, ⟨5, _⟩ => ⟨S1024x1536, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceYXbcIdeal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x1024, .f32⟩
  | .hbm, ⟨3, _⟩ => ⟨S1024x3072, .f32⟩
  | .hbm, ⟨4, _⟩ => ⟨S8192x3072, .f32⟩
  | .hbm, ⟨5, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelYDt.lean ====
abbrev S8192x1024 : Shape := ⟨2, ![8192, 1024]⟩
abbrev S1024x128 : Shape := ⟨2, ![1024, 128]⟩
abbrev S8192x128 : Shape := ⟨2, ![8192, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceYDtIdeal.lean ====
abbrev S8192x1024 : Shape := ⟨2, ![8192, 1024]⟩
abbrev S1024x128 : Shape := ⟨2, ![1024, 128]⟩
abbrev S8192x128 : Shape := ⟨2, ![8192, 128]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S8192x1024, .f32⟩
  | .hbm, ⟨3, _⟩ => ⟨S1024x128, .f32⟩
  | .hbm, ⟨4, _⟩ => ⟨S8192x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelYBrb.lean ====
abbrev S8192x2048 : Shape := ⟨2, ![8192, 2048]⟩
abbrev S2048x1024 : Shape := ⟨2, ![2048, 1024]⟩
abbrev S8192x1024 : Shape := ⟨2, ![8192, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceYBrbIdeal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x2048, .f32⟩
  | .hbm, ⟨3, _⟩ => ⟨S2048x1024, .f32⟩
  | .hbm, ⟨4, _⟩ => ⟨S8192x1024, .f32⟩
  | .hbm, ⟨5, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelYFfnIn.lean ====
abbrev S8192x1024 : Shape := ⟨2, ![8192, 1024]⟩
abbrev S5632x1024 : Shape := ⟨2, ![5632, 1024]⟩
abbrev S8192x5632 : Shape := ⟨2, ![8192, 5632]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S8192x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceYFfnInIdeal.lean ====
abbrev S8192x1024 : Shape := ⟨2, ![8192, 1024]⟩
abbrev S5632x1024 : Shape := ⟨2, ![5632, 1024]⟩
abbrev S1024x5632 : Shape := ⟨2, ![1024, 5632]⟩
abbrev S8192x5632 : Shape := ⟨2, ![8192, 5632]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S1024x5632, .bf16⟩
  | .hbm, ⟨3, _⟩ => ⟨S8192x1024, .f32⟩
  | .hbm, ⟨4, _⟩ => ⟨S1024x5632, .f32⟩
  | .hbm, ⟨5, _⟩ => ⟨S8192x5632, .f32⟩
  | .hbm, ⟨6, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelOut.lean ====
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceOutIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelFfnOut.lean ====
abbrev S8192x5632 : Shape := ⟨2, ![8192, 5632]⟩
abbrev S2816x1024 : Shape := ⟨2, ![2816, 1024]⟩
abbrev S8192x1024 : Shape := ⟨2, ![8192, 1024]⟩
abbrev S8192x2816 : Shape := ⟨2, ![8192, 2816]⟩
abbrev S512x1408 : Shape := ⟨2, ![512, 1408]⟩
abbrev S1408x1024 : Shape := ⟨2, ![1408, 1024]⟩
abbrev S512x1024 : Shape := ⟨2, ![512, 1024]⟩

abbrev nBuf : Space → Nat
  | .hbm => 5
  | .vmem => 13
  | .smem => 0
  | _ => 0

abbrev bufTy : (tb : Table) → Fin (tcTables nBuf tb) → BufTy
  | .hbm, ⟨0, _⟩ => ⟨S8192x5632, .bf16⟩
  | .hbm, ⟨1, _⟩ => ⟨S2816x1024, .bf16⟩
  | .hbm, ⟨2, _⟩ => ⟨S8192x1024, .f32⟩
  | .hbm, ⟨3, _⟩ => ⟨S8192x1024, .f32⟩
  | .hbm, ⟨4, _⟩ => ⟨S8192x2816, .bf16⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S1408x1024, .bf16⟩
  | .local _ .vmem, ⟨5, _⟩ => ⟨S1408x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1408, .bf16⟩
  | .local _ .vmem, ⟨11, _⟩ => ⟨S512x1408, .bf16⟩
  | .local _ .vmem, ⟨12, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 1, 2], ![false, false, false]⟩

def k0_cond3 (i : grid0.Coords) : BitVec 1 :=
  let arg2 : BitVec 32 := BitVec.ofNat 32 (i 2).val
  let c1_i32_10 : BitVec 32 := 1#32
  let v19 : BitVec 1 := Scalar.cmpi .eq arg2 c1_i32_10
  let v20 : BitVec 32 := Scalar.extui v19
  let c0_i32_11 : BitVec 32 := 0#32
  let v21 : BitVec 1 := Scalar.cmpi .ne v20 c0_i32_11
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]
-- ==== ReferenceFfnOutIdeal.lean ====
abbrev S8192x5632 : Shape := ⟨2, ![8192, 5632]⟩
abbrev S2816x1024 : Shape := ⟨2, ![2816, 1024]⟩
abbrev S8192x1024 : Shape := ⟨2, ![8192, 1024]⟩
abbrev S8192x2816 : Shape := ⟨2, ![8192, 2816]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2816x1024, .bf16⟩
  | .hbm, ⟨2, _⟩ => ⟨S8192x1024, .f32⟩
  | .hbm, ⟨3, _⟩ => ⟨S8192x5632, .f32⟩
  | .hbm, ⟨4, _⟩ => ⟨S2816x1024, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .bf16⟩
  | .hbm, ⟨18, _⟩ => ⟨S8192x2816, .f32⟩
  | .hbm, ⟨19, _⟩ => ⟨S8192x1024, .f32⟩
  | .hbm, ⟨20, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== KernelLoss.lean ====
abbrev S8192x1024 : Shape := ⟨2, ![8192, 1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1 : Shape := ⟨1, ![1]⟩
abbrev S1x1 : Shape := ⟨2, ![1, 1]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S1x1024, .f32⟩
  | .hbm, ⟨5, _⟩ => ⟨S8x128, .f32⟩
  | .hbm, ⟨6, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S8x128, .f32⟩
  | .local _ .vmem, ⟨9, _⟩ => ⟨S512x1024, .bf16⟩
  | .local _ .vmem, ⟨10, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceLossIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S8x128 : Shape := ⟨2, ![8, 128]⟩

abbrev nBuf : Space → Nat
  | .hbm => 70
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8x128, .f32⟩
  | .hbm, ⟨69, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== KernelAdamBranch.lean ====
abbrev S2x384x1024 : Shape := ⟨3, ![2, 384, 1024]⟩
abbrev S8x384x1024 : Shape := ⟨3, ![8, 384, 1024]⟩
abbrev S1x384x1024 : Shape := ⟨3, ![1, 384, 1024]⟩
abbrev S384x1024 : Shape := ⟨2, ![384, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x384x1024, .f32⟩
  | .hbm, ⟨1, _⟩ => ⟨S2x384x1024, .f32⟩
  | .hbm, ⟨2, _⟩ => ⟨S2x384x1024, .f32⟩
  | .hbm, ⟨3, _⟩ => ⟨S8x384x1024, .bf16⟩
  | .hbm, ⟨4, _⟩ => ⟨S8x384x1024, .bf16⟩
  | .hbm, ⟨5, _⟩ => ⟨S2x384x1024, .f32⟩
  | .hbm, ⟨6, _⟩ => ⟨S2x384x1024, .f32⟩
  | .hbm, ⟨7, _⟩ => ⟨S2x384x1024, .f32⟩
  | .hbm, ⟨8, _⟩ => ⟨S2x384x1024, .f32⟩
  | .local _ .vmem, ⟨0, _⟩ => ⟨S1x384x1024, .f32⟩
  | .local _ .vmem, ⟨1, _⟩ => ⟨S1x384x1024, .f32⟩
  | .local _ .vmem, ⟨2, _⟩ => ⟨S1x384x1024, .f32⟩
  | .local _ .vmem, ⟨3, _⟩ => ⟨S1x384x1024, .f32⟩
  | .local _ .vmem, ⟨4, _⟩ => ⟨S1x384x1024, .f32⟩
  | .local _ .vmem, ⟨5, _⟩ => ⟨S1x384x1024, .f32⟩
  | .local _ .vmem, ⟨6, _⟩ => ⟨S8x384x1024, .bf16⟩
  | .local _ .vmem, ⟨7, _⟩ => ⟨S8x384x1024, .bf16⟩
  | .local _ .vmem, ⟨8, _⟩ => ⟨S8x384x1024, .bf16⟩
  | .local _ .vmem, ⟨9, _⟩ => ⟨S8x384x1024, .bf16⟩
  | .local _ .vmem, ⟨10, _⟩ => ⟨S1x384x1024, .f32⟩
  | .local _ .vmem, ⟨11, _⟩ => ⟨S1x384x1024, .f32⟩
  | .local _ .vmem, ⟨12, _⟩ => ⟨S1x384x1024, .f32⟩
  | .local _ .vmem, ⟨13, _⟩ => ⟨S1x384x1024, .f32⟩
  | .local _ .vmem, ⟨14, _⟩ => ⟨S1x384x1024, .f32⟩
  | .local _ .vmem, ⟨15, _⟩ => ⟨S1x384x1024, .f32⟩
  | .local _ .vmem, ⟨16, _⟩ => ⟨S1x384x1024, .f32⟩
  | .local _ .vmem, ⟨17, _⟩ => ⟨S1x384x1024, .f32⟩
  | _, _ => ⟨S2x384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x384x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x384x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x384x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x384x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelAdamBranchIdeal.lean ====
abbrev S2x384x1024 : Shape := ⟨3, ![2, 384, 1024]⟩
abbrev S8x384x1024 : Shape := ⟨3, ![8, 384, 1024]⟩
abbrev S1x384x1024 : Shape := ⟨3, ![1, 384, 1024]⟩
abbrev S384x1024 : Shape := ⟨2, ![384, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x384x1024, .f32⟩
  | .hbm, ⟨1, _⟩ => ⟨S2x384x1024, .f32⟩
  | .hbm, ⟨2, _⟩ => ⟨S2x384x1024, .f32⟩
  | .hbm, ⟨3, _⟩ => ⟨S8x384x1024, .bf16⟩
  | .hbm, ⟨4, _⟩ => ⟨S8x384x1024, .bf16⟩
  | .hbm, ⟨5, _⟩ => ⟨S2x384x1024, .f32⟩
  | .hbm, ⟨6, _⟩ => ⟨S2x384x1024, .f32⟩
  | .hbm, ⟨7, _⟩ => ⟨S2x384x1024, .f32⟩
  | .hbm, ⟨8, _⟩ => ⟨S2x384x1024, .f32⟩
  | .local _ .vmem, ⟨0, _⟩ => ⟨S1x384x1024, .f32⟩
  | .local _ .vmem, ⟨1, _⟩ => ⟨S1x384x1024, .f32⟩
  | .local _ .vmem, ⟨2, _⟩ => ⟨S1x384x1024, .f32⟩
  | .local _ .vmem, ⟨3, _⟩ => ⟨S1x384x1024, .f32⟩
  | .local _ .vmem, ⟨4, _⟩ => ⟨S1x384x1024, .f32⟩
  | .local _ .vmem, ⟨5, _⟩ => ⟨S1x384x1024, .f32⟩
  | .local _ .vmem, ⟨6, _⟩ => ⟨S8x384x1024, .bf16⟩
  | .local _ .vmem, ⟨7, _⟩ => ⟨S8x384x1024, .bf16⟩
  | .local _ .vmem, ⟨8, _⟩ => ⟨S8x384x1024, .bf16⟩
  | .local _ .vmem, ⟨9, _⟩ => ⟨S8x384x1024, .bf16⟩
  | .local _ .vmem, ⟨10, _⟩ => ⟨S1x384x1024, .f32⟩
  | .local _ .vmem, ⟨11, _⟩ => ⟨S1x384x1024, .f32⟩
  | .local _ .vmem, ⟨12, _⟩ => ⟨S1x384x1024, .f32⟩
  | .local _ .vmem, ⟨13, _⟩ => ⟨S1x384x1024, .f32⟩
  | .local _ .vmem, ⟨14, _⟩ => ⟨S1x384x1024, .f32⟩
  | .local _ .vmem, ⟨15, _⟩ => ⟨S1x384x1024, .f32⟩
  | .local _ .vmem, ⟨16, _⟩ => ⟨S1x384x1024, .f32⟩
  | .local _ .vmem, ⟨17, _⟩ => ⟨S1x384x1024, .f32⟩
  | _, _ => ⟨S2x384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x384x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x384x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x384x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x384x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceAdamBranchIdeal.lean ====
abbrev S2x384x1024 : Shape := ⟨3, ![2, 384, 1024]⟩
abbrev S8x384x1024 : Shape := ⟨3, ![8, 384, 1024]⟩
abbrev S_ : Shape := ⟨0, ![]⟩
abbrev S384x1024 : Shape := ⟨2, ![384, 1024]⟩
abbrev S1x384x1024 : Shape := ⟨3, ![1, 384, 1024]⟩

abbrev nBuf : Space → Nat
  | .hbm => 47
  | .vmem => 0
  | .smem => 0
  | _ => 0

abbrev bufTy : (tb : Table) → Fin (tcTables nBuf tb) → BufTy
  | .hbm, ⟨0, _⟩ => ⟨S2x384x1024, .f32⟩
  | .hbm, ⟨1, _⟩ => ⟨S2x384x1024, .f32⟩
  | .hbm, ⟨2, _⟩ => ⟨S2x384x1024, .f32⟩
  | .hbm, ⟨3, _⟩ => ⟨S8x384x1024, .bf16⟩
  | .hbm, ⟨4, _⟩ => ⟨S8x384x1024, .bf16⟩
  | .hbm, ⟨5, _⟩ => ⟨S8x384x1024, .f32⟩
  | .hbm, ⟨6, _⟩ => ⟨S_, .f32⟩
  | .hbm, ⟨7, _⟩ => ⟨S384x1024, .f32⟩
  | .hbm, ⟨8, _⟩ => ⟨S8x384x1024, .f32⟩
  | .hbm, ⟨9, _⟩ => ⟨S_, .f32⟩
  | .hbm, ⟨10, _⟩ => ⟨S384x1024, .f32⟩
  | .hbm, ⟨11, _⟩ => ⟨S1x384x1024, .f32⟩
  | .hbm, ⟨12, _⟩ => ⟨S1x384x1024, .f32⟩
  | .hbm, ⟨13, _⟩ => ⟨S2x384x1024, .f32⟩
  | .hbm, ⟨14, _⟩ => ⟨S_, .f32⟩
  | .hbm, ⟨15, _⟩ => ⟨S2x384x1024, .f32⟩
  | .hbm, ⟨16, _⟩ => ⟨S2x384x1024, .f32⟩
  | .hbm, ⟨17, _⟩ => ⟨S_, .f32⟩
  | .hbm, ⟨18, _⟩ => ⟨S2x384x1024, .f32⟩
  | .hbm, ⟨19, _⟩ => ⟨S2x384x1024, .f32⟩
  | .hbm, ⟨20, _⟩ => ⟨S2x384x1024, .f32⟩
  | .hbm, ⟨21, _⟩ => ⟨S_, .f32⟩
  | .hbm, ⟨22, _⟩ => ⟨S2x384x1024, .f32⟩
  | .hbm, ⟨23, _⟩ => ⟨S2x384x1024, .f32⟩
  | .hbm, ⟨24, _⟩ => ⟨S2x384x1024, .f32⟩
  | .hbm, ⟨25, _⟩ => ⟨S_, .f32⟩
  | .hbm, ⟨26, _⟩ => ⟨S2x384x1024, .f32⟩
  | .hbm, ⟨27, _⟩ => ⟨S2x384x1024, .f32⟩
  | .hbm, ⟨28, _⟩ => ⟨S2x384x1024, .f32⟩
  | .hbm, ⟨29, _⟩ => ⟨S_, .f32⟩
  | .hbm, ⟨30, _⟩ => ⟨S2x384x1024, .f32⟩
  | .hbm, ⟨31, _⟩ => ⟨S2x384x1024, .f32⟩
  | .hbm, ⟨32, _⟩ => ⟨S_, .f32⟩
  | .hbm, ⟨33, _⟩ => ⟨S2x384x1024, .f32⟩
  | .hbm, ⟨34, _⟩ => ⟨S2x384x1024, .f32⟩
  | .hbm, ⟨35, _⟩ => ⟨S2x384x1024, .f32⟩
  | .hbm, ⟨36, _⟩ => ⟨S_, .f32⟩
  | .hbm, ⟨37, _⟩ => ⟨S2x384x1024, .f32⟩
  | .hbm, ⟨38, _⟩ => ⟨S2x384x1024, .f32⟩
  | .hbm, ⟨39, _⟩ => ⟨S2x384x1024, .f32⟩
  | .hbm, ⟨40, _⟩ => ⟨S_, .f32⟩
  | .hbm, ⟨41, _⟩ => ⟨S2x384x1024, .f32⟩
  | .hbm, ⟨42, _⟩ => ⟨S2x384x1024, .f32⟩
  | .hbm, ⟨43, _⟩ => ⟨S2x384x1024, .f32⟩
  | .hbm, ⟨44, _⟩ => ⟨S_, .f32⟩
  | .hbm, ⟨45, _⟩ => ⟨S2x384x1024, .f32⟩
  | .hbm, ⟨46, _⟩ => ⟨S2x384x1024, .f32⟩
  | _, _ => ⟨S2x384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== KernelAdamOut.lean ====
abbrev S2x128x1024 : Shape := ⟨3, ![2, 128, 1024]⟩
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S8x128x1024, .bf16⟩
  | .hbm, ⟨4, _⟩ => ⟨S8x128x1024, .bf16⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S8x128x1024, .bf16⟩
  | .local _ .vmem, ⟨7, _⟩ => ⟨S8x128x1024, .bf16⟩
  | .local _ .vmem, ⟨8, _⟩ => ⟨S8x128x1024, .bf16⟩
  | .local _ .vmem, ⟨9, _⟩ => ⟨S8x128x1024, .bf16⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelAdamOutIdeal.lean ====
abbrev S2x128x1024 : Shape := ⟨3, ![2, 128, 1024]⟩
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S8x128x1024, .bf16⟩
  | .hbm, ⟨4, _⟩ => ⟨S8x128x1024, .bf16⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S8x128x1024, .bf16⟩
  | .local _ .vmem, ⟨7, _⟩ => ⟨S8x128x1024, .bf16⟩
  | .local _ .vmem, ⟨8, _⟩ => ⟨S8x128x1024, .bf16⟩
  | .local _ .vmem, ⟨9, _⟩ => ⟨S8x128x1024, .bf16⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceAdamOutIdeal.lean ====
abbrev S2x128x1024 : Shape := ⟨3, ![2, 128, 1024]⟩
abbrev S8x128x1024 : Shape := ⟨3, ![8, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 47
  | .vmem => 0
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S8x128x1024, .bf16⟩
  | .hbm, ⟨4, _⟩ => ⟨S8x128x1024, .bf16⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S8x128x1024, .f32⟩
  | .hbm, ⟨9, _⟩ => ⟨S_, .f32⟩
  | .hbm, ⟨10, _⟩ => ⟨S128x1024, .f32⟩
  | .hbm, ⟨11, _⟩ => ⟨S1x128x1024, .f32⟩
  | .hbm, ⟨12, _⟩ => ⟨S1x128x1024, .f32⟩
  | .hbm, ⟨13, _⟩ => ⟨S2x128x1024, .f32⟩
  | .hbm, ⟨14, _⟩ => ⟨S_, .f32⟩
  | .hbm, ⟨15, _⟩ => ⟨S2x128x1024, .f32⟩
  | .hbm, ⟨16, _⟩ => ⟨S2x128x1024, .f32⟩
  | .hbm, ⟨17, _⟩ => ⟨S_, .f32⟩
  | .hbm, ⟨18, _⟩ => ⟨S2x128x1024, .f32⟩
  | .hbm, ⟨19, _⟩ => ⟨S2x128x1024, .f32⟩
  | .hbm, ⟨20, _⟩ => ⟨S2x128x1024, .f32⟩
  | .hbm, ⟨21, _⟩ => ⟨S_, .f32⟩
  | .hbm, ⟨22, _⟩ => ⟨S2x128x1024, .f32⟩
  | .hbm, ⟨23, _⟩ => ⟨S2x128x1024, .f32⟩
  | .hbm, ⟨24, _⟩ => ⟨S2x128x1024, .f32⟩
  | .hbm, ⟨25, _⟩ => ⟨S_, .f32⟩
  | .hbm, ⟨26, _⟩ => ⟨S2x128x1024, .f32⟩
  | .hbm, ⟨27, _⟩ => ⟨S2x128x1024, .f32⟩
  | .hbm, ⟨28, _⟩ => ⟨S2x128x1024, .f32⟩
  | .hbm, ⟨29, _⟩ => ⟨S_, .f32⟩
  | .hbm, ⟨30, _⟩ => ⟨S2x128x1024, .f32⟩
  | .hbm, ⟨31, _⟩ => ⟨S2x128x1024, .f32⟩
  | .hbm, ⟨32, _⟩ => ⟨S_, .f32⟩
  | .hbm, ⟨33, _⟩ => ⟨S2x128x1024, .f32⟩
  | .hbm, ⟨34, _⟩ => ⟨S2x128x1024, .f32⟩
  | .hbm, ⟨35, _⟩ => ⟨S2x128x1024, .f32⟩
  | .hbm, ⟨36, _⟩ => ⟨S_, .f32⟩
  | .hbm, ⟨37, _⟩ => ⟨S2x128x1024, .f32⟩
  | .hbm, ⟨38, _⟩ => ⟨S2x128x1024, .f32⟩
  | .hbm, ⟨39, _⟩ => ⟨S2x128x1024, .f32⟩
  | .hbm, ⟨40, _⟩ => ⟨S_, .f32⟩
  | .hbm, ⟨41, _⟩ => ⟨S2x128x1024, .f32⟩
  | .hbm, ⟨42, _⟩ => ⟨S2x128x1024, .f32⟩
  | .hbm, ⟨43, _⟩ => ⟨S2x128x1024, .f32⟩
  | .hbm, ⟨44, _⟩ => ⟨S_, .f32⟩
  | .hbm, ⟨45, _⟩ => ⟨S2x128x1024, .f32⟩
  | .hbm, ⟨46, _⟩ => ⟨S2x128x1024, .f32⟩
  | _, _ => ⟨S2x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== KernelAdamFfnIn.lean ====
abbrev S2x704x1024 : Shape := ⟨3, ![2, 704, 1024]⟩
abbrev S8x704x1024 : Shape := ⟨3, ![8, 704, 1024]⟩
abbrev S1x176x1024 : Shape := ⟨3, ![1, 176, 1024]⟩
abbrev S8x176x1024 : Shape := ⟨3, ![8, 176, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S8x704x1024, .bf16⟩
  | .hbm, ⟨4, _⟩ => ⟨S8x704x1024, .bf16⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .local _ .vmem, ⟨0, _⟩ => ⟨S1x176x1024, .f32⟩
  | .local _ .vmem, ⟨1, _⟩ => ⟨S1x176x1024, .f32⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S8x176x1024, .bf16⟩
  | .local _ .vmem, ⟨7, _⟩ => ⟨S8x176x1024, .bf16⟩
  | .local _ .vmem, ⟨8, _⟩ => ⟨S8x176x1024, .bf16⟩
  | .local _ .vmem, ⟨9, _⟩ => ⟨S8x176x1024, .bf16⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c3_i32 : BitVec 32 := 3#32
  let c0_i32_1 : BitVec 32 := 0#32
  let v2 : BitVec 32 := Scalar.select v1 c3_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c3_i32 : BitVec 32 := 3#32
  let c0_i32 : BitVec 32 := 0#32
  let v2 : BitVec 32 := Scalar.select v1 c3_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x176x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelAdamFfnInIdeal.lean ====
abbrev S2x704x1024 : Shape := ⟨3, ![2, 704, 1024]⟩
abbrev S8x704x1024 : Shape := ⟨3, ![8, 704, 1024]⟩
abbrev S1x176x1024 : Shape := ⟨3, ![1, 176, 1024]⟩
abbrev S8x176x1024 : Shape := ⟨3, ![8, 176, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S8x704x1024, .bf16⟩
  | .hbm, ⟨4, _⟩ => ⟨S8x704x1024, .bf16⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .local _ .vmem, ⟨0, _⟩ => ⟨S1x176x1024, .f32⟩
  | .local _ .vmem, ⟨1, _⟩ => ⟨S1x176x1024, .f32⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S8x176x1024, .bf16⟩
  | .local _ .vmem, ⟨7, _⟩ => ⟨S8x176x1024, .bf16⟩
  | .local _ .vmem, ⟨8, _⟩ => ⟨S8x176x1024, .bf16⟩
  | .local _ .vmem, ⟨9, _⟩ => ⟨S8x176x1024, .bf16⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c3_i32 : BitVec 32 := 3#32
  let c0_i32_1 : BitVec 32 := 0#32
  let v2 : BitVec 32 := Scalar.select v1 c3_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c3_i32 : BitVec 32 := 3#32
  let c0_i32 : BitVec 32 := 0#32
  let v2 : BitVec 32 := Scalar.select v1 c3_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x176x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceAdamFfnInIdeal.lean ====
abbrev S2x704x1024 : Shape := ⟨3, ![2, 704, 1024]⟩
abbrev S8x704x1024 : Shape := ⟨3, ![8, 704, 1024]⟩
abbrev S_ : Shape := ⟨0, ![]⟩
abbrev S704x1024 : Shape := ⟨2, ![704, 1024]⟩
abbrev S1x704x1024 : Shape := ⟨3, ![1, 704, 1024]⟩

abbrev nBuf : Space → Nat
  | .hbm => 47
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S8x704x1024, .bf16⟩
  | .hbm, ⟨4, _⟩ => ⟨S8x704x1024, .bf16⟩
  | .hbm, ⟨5, _⟩ => ⟨S8x704x1024, .f32⟩
  | .hbm, ⟨6, _⟩ => ⟨S_, .f32⟩
  | .hbm, ⟨7, _⟩ => ⟨S704x1024, .f32⟩
  | .hbm, ⟨8, _⟩ => ⟨S8x704x1024, .f32⟩
  | .hbm, ⟨9, _⟩ => ⟨S_, .f32⟩
  | .hbm, ⟨10, _⟩ => ⟨S704x1024, .f32⟩
  | .hbm, ⟨11, _⟩ => ⟨S1x704x1024, .f32⟩
  | .hbm, ⟨12, _⟩ => ⟨S1x704x1024, .f32⟩
  | .hbm, ⟨13, _⟩ => ⟨S2x704x1024, .f32⟩
  | .hbm, ⟨14, _⟩ => ⟨S_, .f32⟩
  | .hbm, ⟨15, _⟩ => ⟨S2x704x1024, .f32⟩
  | .hbm, ⟨16, _⟩ => ⟨S2x704x1024, .f32⟩
  | .hbm, ⟨17, _⟩ => ⟨S_, .f32⟩
  | .hbm, ⟨18, _⟩ => ⟨S2x704x1024, .f32⟩
  | .hbm, ⟨19, _⟩ => ⟨S2x704x1024, .f32⟩
  | .hbm, ⟨20, _⟩ => ⟨S2x704x1024, .f32⟩
  | .hbm, ⟨21, _⟩ => ⟨S_, .f32⟩
  | .hbm, ⟨22, _⟩ => ⟨S2x704x1024, .f32⟩
  | .hbm, ⟨23, _⟩ => ⟨S2x704x1024, .f32⟩
  | .hbm, ⟨24, _⟩ => ⟨S2x704x1024, .f32⟩
  | .hbm, ⟨25, _⟩ => ⟨S_, .f32⟩
  | .hbm, ⟨26, _⟩ => ⟨S2x704x1024, .f32⟩
  | .hbm, ⟨27, _⟩ => ⟨S2x704x1024, .f32⟩
  | .hbm, ⟨28, _⟩ => ⟨S2x704x1024, .f32⟩
  | .hbm, ⟨29, _⟩ => ⟨S_, .f32⟩
  | .hbm, ⟨30, _⟩ => ⟨S2x704x1024, .f32⟩
  | .hbm, ⟨31, _⟩ => ⟨S2x704x1024, .f32⟩
  | .hbm, ⟨32, _⟩ => ⟨S_, .f32⟩
  | .hbm, ⟨33, _⟩ => ⟨S2x704x1024, .f32⟩
  | .hbm, ⟨34, _⟩ => ⟨S2x704x1024, .f32⟩
  | .hbm, ⟨35, _⟩ => ⟨S2x704x1024, .f32⟩
  | .hbm, ⟨36, _⟩ => ⟨S_, .f32⟩
  | .hbm, ⟨37, _⟩ => ⟨S2x704x1024, .f32⟩
  | .hbm, ⟨38, _⟩ => ⟨S2x704x1024, .f32⟩
  | .hbm, ⟨39, _⟩ => ⟨S2x704x1024, .f32⟩
  | .hbm, ⟨40, _⟩ => ⟨S_, .f32⟩
  | .hbm, ⟨41, _⟩ => ⟨S2x704x1024, .f32⟩
  | .hbm, ⟨42, _⟩ => ⟨S2x704x1024, .f32⟩
  | .hbm, ⟨43, _⟩ => ⟨S2x704x1024, .f32⟩
  | .hbm, ⟨44, _⟩ => ⟨S_, .f32⟩
  | .hbm, ⟨45, _⟩ => ⟨S2x704x1024, .f32⟩
  | .hbm, ⟨46, _⟩ => ⟨S2x704x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== KernelAdamFfnOut.lean ====
abbrev S2x352x1024 : Shape := ⟨3, ![2, 352, 1024]⟩
abbrev S8x352x1024 : Shape := ⟨3, ![8, 352, 1024]⟩
abbrev S1x352x1024 : Shape := ⟨3, ![1, 352, 1024]⟩
abbrev S352x1024 : Shape := ⟨2, ![352, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x352x1024, .f32⟩
  | .hbm, ⟨1, _⟩ => ⟨S2x352x1024, .f32⟩
  | .hbm, ⟨2, _⟩ => ⟨S2x352x1024, .f32⟩
  | .hbm, ⟨3, _⟩ => ⟨S8x352x1024, .bf16⟩
  | .hbm, ⟨4, _⟩ => ⟨S8x352x1024, .bf16⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S8x352x1024, .bf16⟩
  | .local _ .vmem, ⟨7, _⟩ => ⟨S8x352x1024, .bf16⟩
  | .local _ .vmem, ⟨8, _⟩ => ⟨S8x352x1024, .bf16⟩
  | .local _ .vmem, ⟨9, _⟩ => ⟨S8x352x1024, .bf16⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | _, _ => ⟨S2x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x352x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x352x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceAdamFfnOutIdeal.lean ====
abbrev S2x352x1024 : Shape := ⟨3, ![2, 352, 1024]⟩
abbrev S8x352x1024 : Shape := ⟨3, ![8, 352, 1024]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 47
  | .vmem => 0
  | .smem => 0
  | _ => 0

abbrev bufTy : (tb : Table) → Fin (tcTables nBuf tb) → BufTy
  | .hbm, ⟨0, _⟩ => ⟨S2x352x1024, .f32⟩
  | .hbm, ⟨1, _⟩ => ⟨S2x352x1024, .f32⟩
  | .hbm, ⟨2, _⟩ => ⟨S2x352x1024, .f32⟩
  | .hbm, ⟨3, _⟩ => ⟨S8x352x1024, .bf16⟩
  | .hbm, ⟨4, _⟩ => ⟨S8x352x1024, .bf16⟩
  | .hbm, ⟨5, _⟩ => ⟨S8x352x1024, .f32⟩
  | .hbm, ⟨6, _⟩ => ⟨S_, .f32⟩
  | .hbm, ⟨7, _⟩ => ⟨S352x1024, .f32⟩
  | .hbm, ⟨8, _⟩ => ⟨S8x352x1024, .f32⟩
  | .hbm, ⟨9, _⟩ => ⟨S_, .f32⟩
  | .hbm, ⟨10, _⟩ => ⟨S352x1024, .f32⟩
  | .hbm, ⟨11, _⟩ => ⟨S1x352x1024, .f32⟩
  | .hbm, ⟨12, _⟩ => ⟨S1x352x1024, .f32⟩
  | .hbm, ⟨13, _⟩ => ⟨S2x352x1024, .f32⟩
  | .hbm, ⟨14, _⟩ => ⟨S_, .f32⟩
  | .hbm, ⟨15, _⟩ => ⟨S2x352x1024, .f32⟩
  | .hbm, ⟨16, _⟩ => ⟨S2x352x1024, .f32⟩
  | .hbm, ⟨17, _⟩ => ⟨S_, .f32⟩
  | .hbm, ⟨18, _⟩ => ⟨S2x352x1024, .f32⟩
  | .hbm, ⟨19, _⟩ => ⟨S2x352x1024, .f32⟩
  | .hbm, ⟨20, _⟩ => ⟨S2x352x1024, .f32⟩
  | .hbm, ⟨21, _⟩ => ⟨S_, .f32⟩
  | .hbm, ⟨22, _⟩ => ⟨S2x352x1024, .f32⟩
  | .hbm, ⟨23, _⟩ => ⟨S2x352x1024, .f32⟩
  | .hbm, ⟨24, _⟩ => ⟨S2x352x1024, .f32⟩
  | .hbm, ⟨25, _⟩ => ⟨S_, .f32⟩
  | .hbm, ⟨26, _⟩ => ⟨S2x352x1024, .f32⟩
  | .hbm, ⟨27, _⟩ => ⟨S2x352x1024, .f32⟩
  | .hbm, ⟨28, _⟩ => ⟨S2x352x1024, .f32⟩
  | .hbm, ⟨29, _⟩ => ⟨S_, .f32⟩
  | .hbm, ⟨30, _⟩ => ⟨S2x352x1024, .f32⟩
  | .hbm, ⟨31, _⟩ => ⟨S2x352x1024, .f32⟩
  | .hbm, ⟨32, _⟩ => ⟨S_, .f32⟩
  | .hbm, ⟨33, _⟩ => ⟨S2x352x1024, .f32⟩
  | .hbm, ⟨34, _⟩ => ⟨S2x352x1024, .f32⟩
  | .hbm, ⟨35, _⟩ => ⟨S2x352x1024, .f32⟩
  | .hbm, ⟨36, _⟩ => ⟨S_, .f32⟩
  | .hbm, ⟨37, _⟩ => ⟨S2x352x1024, .f32⟩
  | .hbm, ⟨38, _⟩ => ⟨S2x352x1024, .f32⟩
  | .hbm, ⟨39, _⟩ => ⟨S2x352x1024, .f32⟩
  | .hbm, ⟨40, _⟩ => ⟨S_, .f32⟩
  | .hbm, ⟨41, _⟩ => ⟨S2x352x1024, .f32⟩
  | .hbm, ⟨42, _⟩ => ⟨S2x352x1024, .f32⟩
  | .hbm, ⟨43, _⟩ => ⟨S2x352x1024, .f32⟩
  | .hbm, ⟨44, _⟩ => ⟨S_, .f32⟩
  | .hbm, ⟨45, _⟩ => ⟨S2x352x1024, .f32⟩
  | .hbm, ⟨46, _⟩ => ⟨S2x352x1024, .f32⟩
  | _, _ => ⟨S2x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== KernelAdamSmall.lean ====
abbrev S2304x128 : Shape := ⟨2, ![2304, 128]⟩
abbrev S384x128 : Shape := ⟨2, ![384, 128]⟩

abbrev nBuf : Space → Nat
  | .hbm => 7
  | .vmem => 14
  | .smem => 0
  | _ => 0

abbrev bufTy : (tb : Table) → Fin (tcTables nBuf tb) → BufTy
  | .hbm, ⟨0, _⟩ => ⟨S2304x128, .f32⟩
  | .hbm, ⟨1, _⟩ => ⟨S2304x128, .f32⟩
  | .hbm, ⟨2, _⟩ => ⟨S2304x128, .f32⟩
  | .hbm, ⟨3, _⟩ => ⟨S2304x128, .f32⟩
  | .hbm, ⟨4, _⟩ => ⟨S2304x128, .f32⟩
  | .hbm, ⟨5, _⟩ => ⟨S2304x128, .f32⟩
  | .hbm, ⟨6, _⟩ => ⟨S2304x128, .f32⟩
  | .local _ .vmem, ⟨0, _⟩ => ⟨S384x128, .f32⟩
  | .local _ .vmem, ⟨1, _⟩ => ⟨S384x128, .f32⟩
  | .local _ .vmem, ⟨2, _⟩ => ⟨S384x128, .f32⟩
  | .local _ .vmem, ⟨3, _⟩ => ⟨S384x128, .f32⟩
  | .local _ .vmem, ⟨4, _⟩ => ⟨S384x128, .f32⟩
  | .local _ .vmem, ⟨5, _⟩ => ⟨S384x128, .f32⟩
  | .local _ .vmem, ⟨6, _⟩ => ⟨S384x128, .f32⟩
  | .local _ .vmem, ⟨7, _⟩ => ⟨S384x128, .f32⟩
  | .local _ .vmem, ⟨8, _⟩ => ⟨S384x128, .f32⟩
  | .local _ .vmem, ⟨9, _⟩ => ⟨S384x128, .f32⟩
  | .local _ .vmem, ⟨10, _⟩ => ⟨S384x128, .f32⟩
  | .local _ .vmem, ⟨11, _⟩ => ⟨S384x128, .f32⟩
  | .local _ .vmem, ⟨12, _⟩ => ⟨S384x128, .f32⟩
  | .local _ .vmem, ⟨13, _⟩ => ⟨S384x128, .f32⟩
  | _, _ => ⟨S2304x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamSmallIdeal.lean ====
abbrev S2304x128 : Shape := ⟨2, ![2304, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2304x128, .f32⟩
  | .hbm, ⟨1, _⟩ => ⟨S2304x128, .f32⟩
  | .hbm, ⟨2, _⟩ => ⟨S2304x128, .f32⟩
  | .hbm, ⟨3, _⟩ => ⟨S2304x128, .f32⟩
  | .hbm, ⟨4, _⟩ => ⟨S_, .f32⟩
  | .hbm, ⟨5, _⟩ => ⟨S2304x128, .f32⟩
  | .hbm, ⟨6, _⟩ => ⟨S2304x128, .f32⟩
  | .hbm, ⟨7, _⟩ => ⟨S_, .f32⟩
  | .hbm, ⟨8, _⟩ => ⟨S2304x128, .f32⟩
  | .hbm, ⟨9, _⟩ => ⟨S2304x128, .f32⟩
  | .hbm, ⟨10, _⟩ => ⟨S2304x128, .f32⟩
  | .hbm, ⟨11, _⟩ => ⟨S_, .f32⟩
  | .hbm, ⟨12, _⟩ => ⟨S2304x128, .f32⟩
  | .hbm, ⟨13, _⟩ => ⟨S2304x128, .f32⟩
  | .hbm, ⟨14, _⟩ => ⟨S2304x128, .f32⟩
  | .hbm, ⟨15, _⟩ => ⟨S_, .f32⟩
  | .hbm, ⟨16, _⟩ => ⟨S2304x128, .f32⟩
  | .hbm, ⟨17, _⟩ => ⟨S2304x128, .f32⟩
  | .hbm, ⟨18, _⟩ => ⟨S2304x128, .f32⟩
  | .hbm, ⟨19, _⟩ => ⟨S_, .f32⟩
  | .hbm, ⟨20, _⟩ => ⟨S2304x128, .f32⟩
  | .hbm, ⟨21, _⟩ => ⟨S2304x128, .f32⟩
  | .hbm, ⟨22, _⟩ => ⟨S_, .f32⟩
  | .hbm, ⟨23, _⟩ => ⟨S2304x128, .f32⟩
  | .hbm, ⟨24, _⟩ => ⟨S2304x128, .f32⟩
  | .hbm, ⟨25, _⟩ => ⟨S2304x128, .f32⟩
  | .hbm, ⟨26, _⟩ => ⟨S_, .f32⟩
  | .hbm, ⟨27, _⟩ => ⟨S2304x128, .f32⟩
  | .hbm, ⟨28, _⟩ => ⟨S2304x128, .f32⟩
  | .hbm, ⟨29, _⟩ => ⟨S2304x128, .f32⟩
  | .hbm, ⟨30, _⟩ => ⟨S_, .f32⟩
  | .hbm, ⟨31, _⟩ => ⟨S2304x128, .f32⟩
  | .hbm, ⟨32, _⟩ => ⟨S2304x128, .f32⟩
  | .hbm, ⟨33, _⟩ => ⟨S2304x128, .f32⟩
  | .hbm, ⟨34, _⟩ => ⟨S_, .f32⟩
  | .hbm, ⟨35, _⟩ => ⟨S2304x128, .f32⟩
  | .hbm, ⟨36, _⟩ => ⟨S2304x128, .f32⟩
  | _, _ => ⟨S2304x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelSumGrads.lean ====
abbrev S20480x128 : Shape := ⟨2, ![20480, 128]⟩
abbrev S2560x128 : Shape := ⟨2, ![2560, 128]⟩
abbrev S256x128 : Shape := ⟨2, ![256, 128]⟩

abbrev nBuf : Space → Nat
  | .hbm => 2
  | .vmem => 18
  | .smem => 0
  | _ => 0

abbrev bufTy : (tb : Table) → Fin (tcTables nBuf tb) → BufTy
  | .hbm, ⟨0, _⟩ => ⟨S20480x128, .f32⟩
  | .hbm, ⟨1, _⟩ => ⟨S2560x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | _, _ => ⟨S20480x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c10_i32 : BitVec 32 := 10#32
  let v0 : BitVec 32 := Scalar.addi c10_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c30_i32 : BitVec 32 := 30#32
  let v0 : BitVec 32 := Scalar.addi c30_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c50_i32 : BitVec 32 := 50#32
  let v0 : BitVec 32 := Scalar.addi c50_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c60_i32 : BitVec 32 := 60#32
  let v0 : BitVec 32 := Scalar.addi c60_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c70_i32 : BitVec 32 := 70#32
  let v0 : BitVec 32 := Scalar.addi c70_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceSumGradsIdeal.lean ====
abbrev S20480x128 : Shape := ⟨2, ![20480, 128]⟩
abbrev S8x2560x128 : Shape := ⟨3, ![8, 2560, 128]⟩
abbrev S_ : Shape := ⟨0, ![]⟩
abbrev S2560x128 : Shape := ⟨2, ![2560, 128]⟩

abbrev nBuf : Space → Nat
  | .hbm => 4
  | .vmem => 0
  | .smem => 0
  | _ => 0

abbrev bufTy : (tb : Table) → Fin (tcTables nBuf tb) → BufTy
  | .hbm, ⟨0, _⟩ => ⟨S20480x128, .f32⟩
  | .hbm, ⟨1, _⟩ => ⟨S8x2560x128, .f32⟩
  | .hbm, ⟨2, _⟩ => ⟨S_, .f32⟩
  | .hbm, ⟨3, _⟩ => ⟨S2560x128, .f32⟩
  | _, _ => ⟨S20480x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.ConvRows.lean ====
module

public import Idealize.ShloMosaic.Lib.Pipeline.ValueKit
public import Idealize.ShloMosaic.Lib.Pipeline.ReadBack

/-!
Reading rows of a buffer that was filled by two stores of whole rows.
-/

@[expose] public section

namespace Cert.ConvRows

open Idealize.ShloMosaic

variable {M n : ℕ} {Val : EltTy → Type} [∀ e, Nonempty (Val e)] {sig : RefSig} {κ : Kind} {sp : Space} {e : EltTy}

/-- A row of the load that lies in the rows of the last store is that store's row. -/
theorem read_last (v : View sig κ sp (⟨2, ![M, n]⟩ : Shape) e) {k k₁ o o₁ : ℕ}
    (inb₁ : ∀ a, (![o₁, 0] : Fin 2 → ℕ) a + (⟨2, ![k₁, n]⟩ : Shape).size a ≤ (⟨2, ![M, n]⟩ : Shape).size a)
    (inb : ∀ a, (![o, 0] : Fin 2 → ℕ) a + (⟨2, ![k, n]⟩ : Shape).size a ≤ (⟨2, ![M, n]⟩ : Shape).size a)
    (w₁ : (⟨2, ![k₁, n]⟩ : Shape).Idx → Val e) (L : List (View.Piece Val (⟨2, ![M, n]⟩ : Shape) e))
    (y : (⟨2, ![k, n]⟩ : Shape).Idx) (i : Fin k₁) (h : o₁ + i.val = o + (y 0).val) :
    v.readCov ((⟨Rect.unit (s := (⟨2, ![M, n]⟩ : Shape)) ![o₁, 0] (⟨2, ![k₁, n]⟩ : Shape).size inb₁, w₁⟩ : View.Piece Val (⟨2, ![M, n]⟩ : Shape) e) :: L)
      (Rect.unit (s := (⟨2, ![M, n]⟩ : Shape)) ![o, 0] (⟨2, ![k, n]⟩ : Shape).size inb).toLoadRect y = w₁ (ix2 i (y 1)) := by
  rw [View.readCov_eq_canon']
  have e : (Rect.unit (s := (⟨2, ![M, n]⟩ : Shape)) ![o, 0] (⟨2, ![k, n]⟩ : Shape).size inb).toLoadRect.idx y
      = (Rect.unit (s := (⟨2, ![M, n]⟩ : Shape)) ![o₁, 0] (⟨2, ![k₁, n]⟩ : Shape).size inb₁).emb (ix2 i (y 1)) := by
    funext a; apply Fin.ext
    fin_cases a
    · show o + 1 * (y 0).val = o₁ + 1 * i.val; omega
    · rfl
  show View.canon _ _ = _
  rw [e]
  exact View.canon_cons_emb (Rect.unit (s := (⟨2, ![M, n]⟩ : Shape)) ![o₁, 0] (⟨2, ![k₁, n]⟩ : Shape).size inb₁) w₁ L (ix2 i (y 1))

/-- A row of the load outside the rows of the last store is read from the stores before it. -/
theorem read_before (v : View sig κ sp (⟨2, ![M, n]⟩ : Shape) e) {k k₁ o o₁ : ℕ}
    (inb₁ : ∀ a, (![o₁, 0] : Fin 2 → ℕ) a + (⟨2, ![k₁, n]⟩ : Shape).size a ≤ (⟨2, ![M, n]⟩ : Shape).size a)
    (inb : ∀ a, (![o, 0] : Fin 2 → ℕ) a + (⟨2, ![k, n]⟩ : Shape).size a ≤ (⟨2, ![M, n]⟩ : Shape).size a)
    (w₁ : (⟨2, ![k₁, n]⟩ : Shape).Idx → Val e) (L : List (View.Piece Val (⟨2, ![M, n]⟩ : Shape) e))
    (y : (⟨2, ![k, n]⟩ : Shape).Idx) (h : o + (y 0).val < o₁ ∨ o₁ + k₁ ≤ o + (y 0).val) :
    v.readCov ((⟨Rect.unit (s := (⟨2, ![M, n]⟩ : Shape)) ![o₁, 0] (⟨2, ![k₁, n]⟩ : Shape).size inb₁, w₁⟩ : View.Piece Val (⟨2, ![M, n]⟩ : Shape) e) :: L)
      (Rect.unit (s := (⟨2, ![M, n]⟩ : Shape)) ![o, 0] (⟨2, ![k, n]⟩ : Shape).size inb).toLoadRect y
      = v.readCov L (Rect.unit (s := (⟨2, ![M, n]⟩ : Shape)) ![o, 0] (⟨2, ![k, n]⟩ : Shape).size inb).toLoadRect y := by
  rw [View.readCov_eq_canon', View.readCov_eq_canon']
  refine View.canon_cons_of_not_mem _ L fun hm => ?_
  obtain ⟨x, hx⟩ := LoadRect.exists_idx_of_mem (Rect.toLoadRect _) hm
  have h0 : o₁ + 1 * (x 0).val = o + 1 * (y 0).val := congrArg Fin.val (congrFun hx 0)
  have hk : (x 0).val < k₁ := (x 0).isLt
  omega

end Cert.ConvRows
-- ==== Proof.ConvBwdValue.lean ====
module

public import proofs.«01_k».proof.Proof.Gen.KernelConvBwdIdeal.Frame
public import proofs.«01_k».proof.Proof.Gen.KernelConvBwdIdeal.Points
public import proofs.«01_k».proof.Proof.Gen.KernelConvBwdIdeal.Launch
public import proofs.«01_k».proof.Proof.Gen.ReferenceConvBwdIdeal.Run
public import Idealize.ShloMosaic.Lib.Pipeline.ValueKit
public import Idealize.ShloMosaic.Lib.Pipeline.ReadBack
public import Idealize.ShloMosaic.Lib.Claim
public import proofs.«01_k».proof.Defs
public import proofs.«01_k».proof.Proof.ConvRows

/-!
The gradient of the causal convolution: the products shifted forward in time, and the sums over time
of the weight and offset gradients, added up block by block.
-/

@[expose] public section

set_option maxRecDepth 16384

noncomputable section

namespace Cert.KernelConvBwdIdeal.Array

open Cert.KernelConvBwdIdeal Cert.KernelConvBwdIdeal.Gen
open Idealize.ShloMosaic Idealize.ShloMosaic.TcCoe Idealize.SL.Sem
open Idealize.ShloMosaic.Pipeline (Dat)

variable (m : (ℓ : Loc nD τ sig) → Buf (Elt Ideal) ℓ)

/-- Which block of its array each window holds; the second holds the 16 rows before, the fourth the 16 rows after. -/
theorem blocks : ∀ t : Fin cfg0.N, win0_0.index t = ![t.val % 16, t.val / 16]
    ∧ win0_1.index t = ![32 * (t.val % 16) - 1, t.val / 16]
    ∧ win0_2.index t = ![t.val % 16, t.val / 16]
    ∧ win0_3.index t = ![min (32 * (t.val % 16) + 32) 511, t.val / 16]
    ∧ win0_4.index t = ![0, t.val / 16]
    ∧ win0_5.index t = ![t.val % 16, t.val / 16]
    ∧ win0_6.index t = ![0, t.val / 16] := by
  decide +kernel

/-- Whether a block is the first, or not the last, along time. -/
theorem is_first : ∀ t : Fin cfg0.N, (Scalar.cmpi .sgt (BitVec.ofNat 32 (grid0.coords t 1).val) 0#32 = 1#1 ↔ 0 < t.val % 16) := by
  decide +kernel

theorem not_last : ∀ t : Fin cfg0.N, (Scalar.cmpi .slt (BitVec.ofNat 32 (grid0.coords t 1).val) 15#32 = 1#1 ↔ t.val % 16 < 15) := by
  decide +kernel

/-- Row `r` and column `k` of the block of grid point `t`, counted in the whole array. -/
def row (t : Fin cfg0.N) (r : Fin 512) : Fin 8192 := ⟨512 * (t.val % 16) + r.val, by omega⟩

def col (t : Fin cfg0.N) (k : Fin 1024) : Fin 1024 :=
  ⟨1024 * (t.val / 16) + k.val, by have h : t.val < 16 := t.isLt; omega⟩

/-- Row `i - 3 + k` of a column, zero before the first row. -/
def past (x : FVec Ideal Cert.ReferenceConvBwdIdeal.S8192x1024 .bf16) (i : Fin 8192) (j : Fin 1024) (k : Fin 4) : EReal :=
  if h : k.val + i.val < 3 then 0 else x (ix2 (⟨k.val + i.val - 3, by omega⟩ : Fin 8192) j)

/-- Row `i + k` of a column, zero after the last row. -/
def ahead (d : FVec Ideal Cert.ReferenceConvBwdIdeal.S8192x1024 .f32) (i : Fin 8192) (j : Fin 1024) (k : Fin 4) : EReal :=
  if h : i.val + k.val < 8192 then d (ix2 (⟨i.val + k.val, h⟩ : Fin 8192) j) else 0

theorem body_at (x : FVec Ideal S512x1024 .bf16) (y : S512x1024.Idx) : k0_pay4 (F := Ideal) x y = x y := by
  pointwise [k0_pay3, k0_pay4]

theorem body_at' (d : FVec Ideal S512x1024 .f32) (y : S512x1024.Idx) : k0_pay6 (F := Ideal) d y = d y := by
  pointwise [k0_pay6]

theorem before_at (t : Fin cfg0.N) (x : FVec Ideal S16x1024 .bf16) (y : S16x1024.Idx) :
    (k0_pay5 (F := Ideal) (grid0.coords t) x y : EReal) = if 0 < t.val % 16 then x y else 0 := by
  have hq := is_first t
  by_cases h : 0 < t.val % 16
  · rw [if_pos h]
    have hc := hq.mpr h
    pointwise [k0_pay5, Scalar.select, hc]
    exact congrFun (if_pos rfl) y
  · rw [if_neg h]
    have hc := mt hq.mp h
    pointwise [k0_pay5, Scalar.select, hc]
    exact congrFun (if_neg hc) y

theorem after_at (t : Fin cfg0.N) (x : FVec Ideal S16x1024 .f32) (y : S16x1024.Idx) :
    (k0_pay7 (F := Ideal) (grid0.coords t) x y : EReal) = if t.val % 16 < 15 then x y else 0 := by
  have hq := not_last t
  by_cases h : t.val % 16 < 15
  · rw [if_pos h]
    have hc := hq.mpr h
    pointwise [k0_pay7, Scalar.select, hc]
    exact congrFun (if_pos rfl) y
  · rw [if_neg h]
    have hc := mt hq.mp h
    pointwise [k0_pay7, Scalar.select, hc]
    exact congrFun (if_neg hc) y

/-- The input rows the block's buffer holds: the block after the 16 rows before it. -/
abbrev held (c : Dev nD) (t : Fin cfg0.N) : List (View.Piece (Elt Ideal) S528x1024 .f32) :=
  [⟨Rect.unit ![0, 0] ![16, 1024] inb_S528x1024_S16x1024_0_0, k0_pay5 (grid0.coords t) (iblk m c 1 t)⟩,
    ⟨Rect.unit ![16, 0] ![512, 1024] inb_S528x1024_S512x1024_16_0, k0_pay4 (iblk m c 0 t)⟩]

/-- The gradient rows the block's buffer holds: the block before the 16 rows after it. -/
abbrev held' (c : Dev nD) (t : Fin cfg0.N) : List (View.Piece (Elt Ideal) S528x1024 .f32) :=
  [⟨Rect.unit ![512, 0] ![16, 1024] inb_S528x1024_S16x1024_512_0, k0_pay7 (grid0.coords t) (iblk m c 3 t)⟩,
    ⟨Rect.unit ![0, 0] ![512, 1024] inb_S528x1024_S512x1024_0_0, k0_pay6 (iblk m c 2 t)⟩]

theorem read_past (c : Dev nD) (t : Fin cfg0.N) (k : Fin 4) (hk : k.val < 3)
    (o : ℕ) (ho : o = 13 + k.val)
    (inb : ∀ a, (![o, 0] : Fin 2 → ℕ) a + (![512, 1024] : Fin 2 → ℕ) a ≤ S528x1024.size a) :
    (View.whole cc0_scratch0).readCov (held m c t) (Rect.unit (s := S528x1024) ![o, 0] S512x1024.size inb).toLoadRect
      = fun y => past (m ((c : Thread nD τ).loc main_arg0)) (row t (y 0)) (col t (y 1)) k := by
  funext y
  have hy0 : (y 0).val < 512 := (y 0).isLt
  have hr : (row t (y 0)).val = 512 * (t.val % 16) + (y 0).val := rfl
  have hc : (col t (y 1)).val = 1024 * (t.val / 16) + (y 1).val := rfl
  generalize row t (y 0) = i at hr ⊢
  generalize col t (y 1) = j at hc ⊢
  by_cases h : 3 ≤ (y 0).val + k.val
  · refine ((Cert.ConvRows.read_before (k := 512) (k₁ := 16) _ _ _ _ _ y (Or.inr (by omega))).trans
      (Cert.ConvRows.read_last (k := 512) (k₁ := 512) _ _ _ _ [] y ⟨(y 0).val + k.val - 3, by omega⟩ (by show 16 + ((y 0).val + k.val - 3) = o + (y 0).val; omega))).trans ?_
    refine (body_at _ _).trans ?_
    rw [past, dif_neg (by omega)]
    blk_point [iblk, V, blocks t]
  · refine (Cert.ConvRows.read_last (k := 512) (k₁ := 16) _ _ _ _ _ y ⟨13 + k.val + (y 0).val, by omega⟩ (by show 0 + (13 + k.val + (y 0).val) = o + (y 0).val; omega)).trans ?_
    refine (before_at t _ _).trans ?_
    by_cases hq : 0 < t.val % 16
    · rw [if_pos hq, past, dif_neg (by omega)]
      blk_point [iblk, V, blocks t]
    · rw [if_neg hq, past, dif_pos (by omega)]

theorem read_ahead (c : Dev nD) (t : Fin cfg0.N) (k : Fin 4) (o : ℕ) (ho : o = k.val)
    (inb : ∀ a, (![o, 0] : Fin 2 → ℕ) a + (![512, 1024] : Fin 2 → ℕ) a ≤ S528x1024.size a) :
    (View.whole cc0_scratch1).readCov (held' m c t) (Rect.unit (s := S528x1024) ![o, 0] S512x1024.size inb).toLoadRect
      = fun y => ahead (m ((c : Thread nD τ).loc main_arg1)) (row t (y 0)) (col t (y 1)) k := by
  funext y
  have hy0 : (y 0).val < 512 := (y 0).isLt
  have hr : (row t (y 0)).val = 512 * (t.val % 16) + (y 0).val := rfl
  have hc : (col t (y 1)).val = 1024 * (t.val / 16) + (y 1).val := rfl
  generalize row t (y 0) = i at hr ⊢
  generalize col t (y 1) = j at hc ⊢
  by_cases h : (y 0).val + k.val < 512
  · refine ((Cert.ConvRows.read_before (k := 512) (k₁ := 16) _ _ _ _ _ y (Or.inl (by omega))).trans
      (Cert.ConvRows.read_last (k := 512) (k₁ := 512) _ _ _ _ [] y ⟨(y 0).val + k.val, h⟩ (by show 0 + ((y 0).val + k.val) = o + (y 0).val; omega))).trans ?_
    refine (body_at' _ _).trans ?_
    rw [ahead, dif_pos (by omega)]
    blk_point [iblk, V, blocks t]
  · refine (Cert.ConvRows.read_last (k := 512) (k₁ := 16) _ _ _ _ _ y ⟨(y 0).val + k.val - 512, by omega⟩ (by show 512 + ((y 0).val + k.val - 512) = o + (y 0).val; omega)).trans ?_
    refine (after_at t _ _).trans ?_
    by_cases hq : t.val % 16 < 15
    · rw [if_pos hq, ahead, dif_pos (by omega)]
      blk_point [iblk, V, blocks t]
    · rw [if_neg hq, ahead, dif_neg (by omega)]

theorem in0 (c : Dev nD) (t : Fin cfg0.N) : iblk m c 0 t
    = fun y => m ((c : Thread nD τ).loc main_arg0) (ix2 (row t (y 0)) (col t (y 1))) := by
  funext y
  blk_point [iblk, V, blocks t, row, col]

theorem in2 (c : Dev nD) (t : Fin cfg0.N) : iblk m c 2 t
    = fun y => m ((c : Thread nD τ).loc main_arg1) (ix2 (row t (y 0)) (col t (y 1))) := by
  funext y
  blk_point [iblk, V, blocks t, row, col]

theorem weight (c : Dev nD) (t : Fin cfg0.N) (k : ℕ) (hk : k < 8)
    (inb : ∀ a, (![k, 0] : Fin 2 → ℕ) a + (![1, 1024] : Fin 2 → ℕ) a ≤ S8x1024.size a) :
    View.ld (iblk m c 4 t) (Rect.unit ![k, 0] ![1, 1024] inb)
      = fun y : S1x1024.Idx => m ((c : Thread nD τ).loc main_arg2) (ix2 (⟨k, hk⟩ : Fin 8) (col t (y 1))) := by
  funext y
  blk_point [iblk, V, blocks t, col]

/-- The input gradient at row `i`, column `j`, in the kernel's order. -/
def back (d : FVec Ideal Cert.ReferenceConvBwdIdeal.S8192x1024 .f32) (w : FVec Ideal Cert.ReferenceConvBwdIdeal.S8x1024 .f32) (i : Fin 8192) (j : Fin 1024) : EReal :=
  w (ix2 (3 : Fin 8) j) * d (ix2 i j) + w (ix2 (0 : Fin 8) j) * ahead d i j 3
    + w (ix2 (1 : Fin 8) j) * ahead d i j 2 + w (ix2 (2 : Fin 8) j) * ahead d i j 1

theorem pay_at (d w3 w0 d3 w1 d2 w2 d1) (y : S512x1024.Idx) :
    (k0_pay15 (F := Ideal) (k0_pay8 d w3) w0 d3 w1 d2 w2 d1 y : EReal)
      = (w3 (ix2 (0 : Fin 1) (y 1)) : EReal) * d y + w0 (ix2 (0 : Fin 1) (y 1)) * d3 y + w1 (ix2 (0 : Fin 1) (y 1)) * d2 y
        + w2 (ix2 (0 : Fin 1) (y 1)) * d1 y := by
  pointwise [k0_pay15, k0_pay8]

theorem stored5 (c : Dev nD) (t : Fin cfg0.N) (y : S512x1024.Idx) : ((outsAt0 m c t.val t.isLt).1 y : EReal)
    = back (m ((c : Thread nD τ).loc main_arg1)) (m ((c : Thread nD τ).loc main_arg2)) (row t (y 0)) (col t (y 1)) := by
  by_cases h : t.val % 16 = 0
  · rw [outsAt0_A m c t h]
    frame_out
    refine (pay_at _ _ _ _ _ _ _ _ y).trans ?_
    rw [weight m c t 3 (by decide), weight m c t 0 (by decide), weight m c t 1 (by decide), weight m c t 2 (by decide),
      read_ahead m c t 1 1 rfl, read_ahead m c t 2 2 rfl, read_ahead m c t 3 3 rfl, in2 m c t]
    rfl
  · rw [outsAt0_B m c t h]
    frame_out
    refine (pay_at _ _ _ _ _ _ _ _ y).trans ?_
    rw [weight m c t 3 (by decide), weight m c t 0 (by decide), weight m c t 1 (by decide), weight m c t 2 (by decide),
      read_ahead m c t 1 1 rfl, read_ahead m c t 2 2 rfl, read_ahead m c t 3 3 rfl, in2 m c t]
    rfl

/-- What time row `i` adds to row `r`, column `j` of the weight and offset gradients. -/
def term (x : FVec Ideal Cert.ReferenceConvBwdIdeal.S8192x1024 .bf16) (d : FVec Ideal Cert.ReferenceConvBwdIdeal.S8192x1024 .f32) (r : Fin 8) (i : Fin 8192) (j : Fin 1024) : EReal :=
  if r.val = 0 then past x i j 0 * d (ix2 i j)
  else if r.val = 1 then past x i j 1 * d (ix2 i j)
  else if r.val = 2 then past x i j 2 * d (ix2 i j)
  else if r.val = 3 then x (ix2 i j) * d (ix2 i j)
  else if r.val = 4 then d (ix2 i j)
  else 0

/-- One grid point's addition to the sums, over any rows. -/
theorem step_at (d : FVec Ideal S512x1024 .f32) (x : FVec Ideal S512x1024 .bf16) (p0 p1 p2 : FVec Ideal S512x1024 .f32) (a : FVec Ideal S8x1024 .f32)
    (r : Fin 8) (k : Fin 1024) :
    (k0_pay2 (F := Ideal) (k0_pay9 d p0) (k0_pay10 d p1) (k0_pay11 d p2) (k0_pay12 d (k0_pay3 x)) (k0_pay13 d) k0_pay14 a (ix2 r k) : EReal)
      = a (ix2 r k) + ∑ p : Fin 512,
        ((if r.val = 0 then p0 (ix2 p k) * d (ix2 p k)
          else if r.val = 1 then p1 (ix2 p k) * d (ix2 p k)
          else if r.val = 2 then p2 (ix2 p k) * d (ix2 p k)
          else if r.val = 3 then x (ix2 p k) * d (ix2 p k)
          else if r.val = 4 then d (ix2 p k)
          else 0 : EReal)) := by
  fin_cases r <;> pointwise [k0_pay2, k0_pay9, k0_pay10, k0_pay11, k0_pay12, k0_pay13, k0_pay14, k0_pay3]
  all_goals first
    | done
    | (refine congrArg (_ + ·) (Finset.sum_congr rfl fun p _ => ?_); exact mul_comm (G := EReal) _ _)
    | (rw [Finset.sum_const_zero]; exact (add_zero (_ : EReal)).symm)

/-- What grid point `t` adds to the sums. -/
def part (c : Dev nD) (t : Fin cfg0.N) (y : S8x1024.Idx) : EReal :=
  ∑ p : Fin 512, term (m ((c : Thread nD τ).loc main_arg0)) (m ((c : Thread nD τ).loc main_arg1)) (y 0) (row t p) (col t (y 1))

theorem step (c : Dev nD) (t : Fin cfg0.N) (a : FVec Ideal S8x1024 .f32) (y : S8x1024.Idx) :
    (k0_pay2 (F := Ideal)
      (k0_pay9 (iblk m c 2 t) ((View.whole cc0_scratch0).readCov (held m c t) (Rect.unit (s := S528x1024) ![13, 0] S512x1024.size inb_S528x1024_S512x1024_13_0).toLoadRect))
      (k0_pay10 (iblk m c 2 t) ((View.whole cc0_scratch0).readCov (held m c t) (Rect.unit (s := S528x1024) ![14, 0] S512x1024.size inb_S528x1024_S512x1024_14_0).toLoadRect))
      (k0_pay11 (iblk m c 2 t) ((View.whole cc0_scratch0).readCov (held m c t) (Rect.unit (s := S528x1024) ![15, 0] S512x1024.size inb_S528x1024_S512x1024_15_0).toLoadRect))
      (k0_pay12 (iblk m c 2 t) (k0_pay3 (iblk m c 0 t))) (k0_pay13 (iblk m c 2 t)) k0_pay14 a y : EReal) = a y + part m c t y := by
  obtain ⟨r, k, rfl⟩ : ∃ (r : Fin 8) (k : Fin 1024), y = ix2 r k := ⟨y 0, y 1, by funext a; fin_cases a <;> rfl⟩
  refine (step_at _ _ _ _ _ _ r k).trans (congrArg (_ + ·) (Finset.sum_congr rfl fun p _ => ?_))
  rw [read_past m c t 0 (by decide) 13 rfl, read_past m c t 1 (by decide) 14 rfl, read_past m c t 2 (by decide) 15 rfl,
    in2 m c t, in0 m c t]
  rfl

theorem first6 (c : Dev nD) (t : Fin cfg0.N) (h : t.val % 16 = 0) (y) :
    ((outsAt0 m c t.val t.isLt).2 y : EReal) = 0 + part m c t y := by
  rw [outsAt0_A m c t h]
  frame_out
  refine (step m c t _ y).trans (congrArg (· + _) ?_)
  pointwise [k0_pay1]

theorem next6 (c : Dev nD) (t : Fin cfg0.N) (h : ¬t.val % 16 = 0) (y) :
    ((outsAt0 m c t.val t.isLt).2 y : EReal)
      = ((outsAt0 m c (t.val - 1) (Nat.lt_of_le_of_lt (Nat.sub_le _ _) t.isLt)).2 y : EReal) + part m c t y := by
  rw [outsAt0_B m c t h]
  frame_out
  exact step m c t _ y

/-- After the last time block the sums over all its rows are in place. -/
theorem summed6 (c : Dev nD) (t : Fin cfg0.N) (h : t.val % 16 = 15) (y : S8x1024.Idx) :
    (show FVec Ideal S8x1024 .f32 from (outsAt0 m c t.val t.isLt).2) y
      = ∑ i : Fin 8192, term (m ((c : Thread nD τ).loc main_arg0)) (m ((c : Thread nD τ).loc main_arg1)) (y 0) i (col t (y 1)) := by
  have e := Pipeline.eq_sum_fin_of_reset_step_apply_of_flush
    (fun n h => (show S8x1024.Idx → EReal from (outsAt0 m c n h).2)) 16 (fun _ => 0) (part m c)
    (first6 m c) (next6 m c) t h y
  rw [zero_add] at e
  refine e.trans ?_
  unfold part
  refine Fin.sum_mul_add_congr fun s k hl => ?_
  have ht : t.val < 16 := t.isLt
  have hs := s.isLt
  have hn := Pipeline.run_point_lt_of_flush t h s
  have e1 : row ⟨16 * (t.val / 16) + s.val, hn⟩ k = ⟨s.val * 512 + k.val, hl⟩ :=
    Fin.ext (by show 512 * ((16 * (t.val / 16) + s.val) % 16) + k.val = s.val * 512 + k.val; omega)
  have e2 : col ⟨16 * (t.val / 16) + s.val, hn⟩ (y 1) = col t (y 1) :=
    Fin.ext (by show 1024 * ((16 * (t.val / 16) + s.val) / 16) + (y 1).val = 1024 * (t.val / 16) + (y 1).val; omega)
  rw [e1, e2]

/-- A product shifted forward, in the kernel's and in the reference's form. -/
theorem ahead_mul (d : FVec Ideal Cert.ReferenceConvBwdIdeal.S8192x1024 .f32) (w : EReal) (i : Fin 8192) (j : Fin 1024) (k : Fin 4) (l : ℕ) (hl : k.val + l = 3) :
    w * ahead d i j k = if h : l ≤ 3 + i.val ∧ 3 + i.val - l < 8192 then d (ix2 (⟨3 + i.val - l, h.2⟩ : Fin 8192) j) * w else 0 := by
  unfold ahead
  by_cases h : i.val + k.val < 8192
  · have e : (⟨i.val + k.val, h⟩ : Fin 8192) = ⟨3 + i.val - l, by omega⟩ := Fin.ext (by show i.val + k.val = 3 + i.val - l; omega)
    rw [dif_pos h, dif_pos (⟨by omega, by omega⟩ : l ≤ 3 + i.val ∧ 3 + i.val - l < 8192), mul_comm, e]
  · rw [dif_neg h, dif_neg (fun h' => h (by omega)), mul_zero]

/-- The kernel's order of the additions and the reference's. -/
theorem reorder (p q r s : EReal) : p + q + r + s = p + s + r + q := by
  rw [add_assoc, add_assoc, add_assoc, add_assoc, add_comm r s, ← add_assoc q, add_comm q s, add_assoc s, add_comm q r]

set_option maxHeartbeats 4000000 in
/-- Kernel and reference leave the same arrays. -/
theorem value : Cert.algebraic_KernelConvBwdIdeal_ReferenceConvBwdIdeal := by
  pair_intro
  · run_from Cert.KernelConvBwdIdeal.Gen.run_main m g
  · refine θ_run_mono (Cert.ReferenceConvBwdIdeal.Value.run m' g') ?_
    intro r hr c
    obtain ⟨h0, h1, kept⟩ := hr c
    obtain ⟨a0, a1, a2⟩ := hagree c
    refine ⟨h0.trans ?_, h1.trans ?_, kept⟩
    · clear h0 h1 kept hr
      refine ((dats m 0 c).arrAt_eq_of_covers 5 _ (by decide +kernel) fun t hf y => ?_).symm
      have e : ((cfg0.win 5).blk t).view.emb y = ix2 (row t (y 0)) (col t (y 1)) := by
        blk_ext [blocks t, row, col]
      rw [e]
      blk_simp
      rw [after0_5]
      refine (stored5 m c t y).trans ?_
      generalize row t (y 0) = i
      generalize col t (y 1) = j
      unfold back
      rw [reorder, ahead_mul _ _ i j 1 2 rfl, ahead_mul _ _ i j 2 1 rfl, ahead_mul _ _ i j 3 0 rfl, mul_comm]
      pointwise [a0, a1, a2]
    · clear h0 h1 kept hr
      refine ((dats m 0 c).arrAt_eq_of_covers 6 _ (by decide +kernel) fun t hf y => ?_).symm
      have h := (flush0_6 t).mp hf
      have e : ((cfg0.win 6).blk t).view.emb y = ix2 (y 0) (col t (y 1)) := by
        blk_ext [blocks t, col]
      rw [e]
      blk_simp
      rw [after0_6]
      refine (summed6 m c t h y).trans ?_
      generalize col t (y 1) = j
      generalize (y 0) = r
      fin_cases r <;> pointwise [term, past, a0, a1, a2]
      all_goals first
        | exact Finset.sum_const_zero
        | (simp only [Fin.sum_univ_one]; done)
        | (simp only [Finset.sum_const, Finset.card_univ, Fintype.card_fin, one_smul]; done)

end Cert.KernelConvBwdIdeal.Array

end
-- ==== Proof.ConvBwdXValue.lean ====
module

public import proofs.«01_k».proof.Proof.Gen.KernelConvBwdXIdeal.Frame
public import proofs.«01_k».proof.Proof.Gen.KernelConvBwdXIdeal.Points
public import proofs.«01_k».proof.Proof.Gen.KernelConvBwdXIdeal.Launch
public import proofs.«01_k».proof.Proof.Gen.ReferenceConvBwdXIdeal.Run
public import Idealize.ShloMosaic.Lib.Pipeline.ValueKit
public import Idealize.ShloMosaic.Lib.Pipeline.ReadBack
public import Idealize.ShloMosaic.Lib.Claim
public import proofs.«01_k».proof.Defs
public import proofs.«01_k».proof.Proof.ConvRows

/-!
The gradient of the causal convolution: the products shifted forward in time, and the sums over time
of the weight and offset gradients, added up block by block.
-/

@[expose] public section

set_option maxRecDepth 16384

noncomputable section

namespace Cert.KernelConvBwdXIdeal.Array

open Cert.KernelConvBwdXIdeal Cert.KernelConvBwdXIdeal.Gen
open Idealize.ShloMosaic Idealize.ShloMosaic.TcCoe Idealize.SL.Sem
open Idealize.ShloMosaic.Pipeline (Dat)

variable (m : (ℓ : Loc nD τ sig) → Buf (Elt Ideal) ℓ)

/-- Which block of its array each window holds; the second holds the 16 rows before, the fourth the 16 rows after. -/
theorem blocks : ∀ t : Fin cfg0.N, win0_0.index t = ![t.val % 16, t.val / 16]
    ∧ win0_1.index t = ![32 * (t.val % 16) - 1, t.val / 16]
    ∧ win0_2.index t = ![t.val % 16, t.val / 16]
    ∧ win0_3.index t = ![min (32 * (t.val % 16) + 32) 511, t.val / 16]
    ∧ win0_4.index t = ![0, t.val / 16]
    ∧ win0_5.index t = ![t.val % 16, t.val / 16]
    ∧ win0_6.index t = ![0, t.val / 16] := by
  decide +kernel

/-- Whether a block is the first, or not the last, along time. -/
theorem is_first : ∀ t : Fin cfg0.N, (Scalar.cmpi .sgt (BitVec.ofNat 32 (grid0.coords t 1).val) 0#32 = 1#1 ↔ 0 < t.val % 16) := by
  decide +kernel

theorem not_last : ∀ t : Fin cfg0.N, (Scalar.cmpi .slt (BitVec.ofNat 32 (grid0.coords t 1).val) 15#32 = 1#1 ↔ t.val % 16 < 15) := by
  decide +kernel

/-- Row `r` and column `k` of the block of grid point `t`, counted in the whole array. -/
def row (t : Fin cfg0.N) (r : Fin 512) : Fin 8192 := ⟨512 * (t.val % 16) + r.val, by omega⟩

def col (t : Fin cfg0.N) (k : Fin 1024) : Fin 3072 :=
  ⟨1024 * (t.val / 16) + k.val, by have h : t.val < 48 := t.isLt; omega⟩

/-- Row `i - 3 + k` of a column, zero before the first row. -/
def past (x : FVec Ideal Cert.ReferenceConvBwdXIdeal.S8192x3072 .bf16) (i : Fin 8192) (j : Fin 3072) (k : Fin 4) : EReal :=
  if h : k.val + i.val < 3 then 0 else x (ix2 (⟨k.val + i.val - 3, by omega⟩ : Fin 8192) j)

/-- Row `i + k` of a column, zero after the last row. -/
def ahead (d : FVec Ideal Cert.ReferenceConvBwdXIdeal.S8192x3072 .f32) (i : Fin 8192) (j : Fin 3072) (k : Fin 4) : EReal :=
  if h : i.val + k.val < 8192 then d (ix2 (⟨i.val + k.val, h⟩ : Fin 8192) j) else 0

theorem body_at (x : FVec Ideal S512x1024 .bf16) (y : S512x1024.Idx) : k0_pay4 (F := Ideal) x y = x y := by
  pointwise [k0_pay3, k0_pay4]

theorem body_at' (d : FVec Ideal S512x1024 .f32) (y : S512x1024.Idx) : k0_pay6 (F := Ideal) d y = d y := by
  pointwise [k0_pay6]

theorem before_at (t : Fin cfg0.N) (x : FVec Ideal S16x1024 .bf16) (y : S16x1024.Idx) :
    (k0_pay5 (F := Ideal) (grid0.coords t) x y : EReal) = if 0 < t.val % 16 then x y else 0 := by
  have hq := is_first t
  by_cases h : 0 < t.val % 16
  · rw [if_pos h]
    have hc := hq.mpr h
    pointwise [k0_pay5, Scalar.select, hc]
    exact congrFun (if_pos rfl) y
  · rw [if_neg h]
    have hc := mt hq.mp h
    pointwise [k0_pay5, Scalar.select, hc]
    exact congrFun (if_neg hc) y

theorem after_at (t : Fin cfg0.N) (x : FVec Ideal S16x1024 .f32) (y : S16x1024.Idx) :
    (k0_pay7 (F := Ideal) (grid0.coords t) x y : EReal) = if t.val % 16 < 15 then x y else 0 := by
  have hq := not_last t
  by_cases h : t.val % 16 < 15
  · rw [if_pos h]
    have hc := hq.mpr h
    pointwise [k0_pay7, Scalar.select, hc]
    exact congrFun (if_pos rfl) y
  · rw [if_neg h]
    have hc := mt hq.mp h
    pointwise [k0_pay7, Scalar.select, hc]
    exact congrFun (if_neg hc) y

/-- The input rows the block's buffer holds: the block after the 16 rows before it. -/
abbrev held (c : Dev nD) (t : Fin cfg0.N) : List (View.Piece (Elt Ideal) S528x1024 .f32) :=
  [⟨Rect.unit ![0, 0] ![16, 1024] inb_S528x1024_S16x1024_0_0, k0_pay5 (grid0.coords t) (iblk m c 1 t)⟩,
    ⟨Rect.unit ![16, 0] ![512, 1024] inb_S528x1024_S512x1024_16_0, k0_pay4 (iblk m c 0 t)⟩]

/-- The gradient rows the block's buffer holds: the block before the 16 rows after it. -/
abbrev held' (c : Dev nD) (t : Fin cfg0.N) : List (View.Piece (Elt Ideal) S528x1024 .f32) :=
  [⟨Rect.unit ![512, 0] ![16, 1024] inb_S528x1024_S16x1024_512_0, k0_pay7 (grid0.coords t) (iblk m c 3 t)⟩,
    ⟨Rect.unit ![0, 0] ![512, 1024] inb_S528x1024_S512x1024_0_0, k0_pay6 (iblk m c 2 t)⟩]

theorem read_past (c : Dev nD) (t : Fin cfg0.N) (k : Fin 4) (hk : k.val < 3)
    (o : ℕ) (ho : o = 13 + k.val)
    (inb : ∀ a, (![o, 0] : Fin 2 → ℕ) a + (![512, 1024] : Fin 2 → ℕ) a ≤ S528x1024.size a) :
    (View.whole cc0_scratch0).readCov (held m c t) (Rect.unit (s := S528x1024) ![o, 0] S512x1024.size inb).toLoadRect
      = fun y => past (m ((c : Thread nD τ).loc main_arg0)) (row t (y 0)) (col t (y 1)) k := by
  funext y
  have hy0 : (y 0).val < 512 := (y 0).isLt
  have hr : (row t (y 0)).val = 512 * (t.val % 16) + (y 0).val := rfl
  have hc : (col t (y 1)).val = 1024 * (t.val / 16) + (y 1).val := rfl
  generalize row t (y 0) = i at hr ⊢
  generalize col t (y 1) = j at hc ⊢
  by_cases h : 3 ≤ (y 0).val + k.val
  · refine ((Cert.ConvRows.read_before (k := 512) (k₁ := 16) _ _ _ _ _ y (Or.inr (by omega))).trans
      (Cert.ConvRows.read_last (k := 512) (k₁ := 512) _ _ _ _ [] y ⟨(y 0).val + k.val - 3, by omega⟩ (by show 16 + ((y 0).val + k.val - 3) = o + (y 0).val; omega))).trans ?_
    refine (body_at _ _).trans ?_
    rw [past, dif_neg (by omega)]
    blk_point [iblk, V, blocks t]
  · refine (Cert.ConvRows.read_last (k := 512) (k₁ := 16) _ _ _ _ _ y ⟨13 + k.val + (y 0).val, by omega⟩ (by show 0 + (13 + k.val + (y 0).val) = o + (y 0).val; omega)).trans ?_
    refine (before_at t _ _).trans ?_
    by_cases hq : 0 < t.val % 16
    · rw [if_pos hq, past, dif_neg (by omega)]
      blk_point [iblk, V, blocks t]
    · rw [if_neg hq, past, dif_pos (by omega)]

theorem read_ahead (c : Dev nD) (t : Fin cfg0.N) (k : Fin 4) (o : ℕ) (ho : o = k.val)
    (inb : ∀ a, (![o, 0] : Fin 2 → ℕ) a + (![512, 1024] : Fin 2 → ℕ) a ≤ S528x1024.size a) :
    (View.whole cc0_scratch1).readCov (held' m c t) (Rect.unit (s := S528x1024) ![o, 0] S512x1024.size inb).toLoadRect
      = fun y => ahead (m ((c : Thread nD τ).loc main_arg1)) (row t (y 0)) (col t (y 1)) k := by
  funext y
  have hy0 : (y 0).val < 512 := (y 0).isLt
  have hr : (row t (y 0)).val = 512 * (t.val % 16) + (y 0).val := rfl
  have hc : (col t (y 1)).val = 1024 * (t.val / 16) + (y 1).val := rfl
  generalize row t (y 0) = i at hr ⊢
  generalize col t (y 1) = j at hc ⊢
  by_cases h : (y 0).val + k.val < 512
  · refine ((Cert.ConvRows.read_before (k := 512) (k₁ := 16) _ _ _ _ _ y (Or.inl (by omega))).trans
      (Cert.ConvRows.read_last (k := 512) (k₁ := 512) _ _ _ _ [] y ⟨(y 0).val + k.val, h⟩ (by show 0 + ((y 0).val + k.val) = o + (y 0).val; omega))).trans ?_
    refine (body_at' _ _).trans ?_
    rw [ahead, dif_pos (by omega)]
    blk_point [iblk, V, blocks t]
  · refine (Cert.ConvRows.read_last (k := 512) (k₁ := 16) _ _ _ _ _ y ⟨(y 0).val + k.val - 512, by omega⟩ (by show 512 + ((y 0).val + k.val - 512) = o + (y 0).val; omega)).trans ?_
    refine (after_at t _ _).trans ?_
    by_cases hq : t.val % 16 < 15
    · rw [if_pos hq, ahead, dif_pos (by omega)]
      blk_point [iblk, V, blocks t]
    · rw [if_neg hq, ahead, dif_neg (by omega)]

theorem in0 (c : Dev nD) (t : Fin cfg0.N) : iblk m c 0 t
    = fun y => m ((c : Thread nD τ).loc main_arg0) (ix2 (row t (y 0)) (col t (y 1))) := by
  funext y
  blk_point [iblk, V, blocks t, row, col]

theorem in2 (c : Dev nD) (t : Fin cfg0.N) : iblk m c 2 t
    = fun y => m ((c : Thread nD τ).loc main_arg1) (ix2 (row t (y 0)) (col t (y 1))) := by
  funext y
  blk_point [iblk, V, blocks t, row, col]

theorem weight (c : Dev nD) (t : Fin cfg0.N) (k : ℕ) (hk : k < 8)
    (inb : ∀ a, (![k, 0] : Fin 2 → ℕ) a + (![1, 1024] : Fin 2 → ℕ) a ≤ S8x1024.size a) :
    View.ld (iblk m c 4 t) (Rect.unit ![k, 0] ![1, 1024] inb)
      = fun y : S1x1024.Idx => m ((c : Thread nD τ).loc main_arg2) (ix2 (⟨k, hk⟩ : Fin 8) (col t (y 1))) := by
  funext y
  blk_point [iblk, V, blocks t, col]

/-- The input gradient at row `i`, column `j`, in the kernel's order. -/
def back (d : FVec Ideal Cert.ReferenceConvBwdXIdeal.S8192x3072 .f32) (w : FVec Ideal Cert.ReferenceConvBwdXIdeal.S8x3072 .f32) (i : Fin 8192) (j : Fin 3072) : EReal :=
  w (ix2 (3 : Fin 8) j) * d (ix2 i j) + w (ix2 (0 : Fin 8) j) * ahead d i j 3
    + w (ix2 (1 : Fin 8) j) * ahead d i j 2 + w (ix2 (2 : Fin 8) j) * ahead d i j 1

theorem pay_at (d w3 w0 d3 w1 d2 w2 d1) (y : S512x1024.Idx) :
    (k0_pay15 (F := Ideal) (k0_pay8 d w3) w0 d3 w1 d2 w2 d1 y : EReal)
      = (w3 (ix2 (0 : Fin 1) (y 1)) : EReal) * d y + w0 (ix2 (0 : Fin 1) (y 1)) * d3 y + w1 (ix2 (0 : Fin 1) (y 1)) * d2 y
        + w2 (ix2 (0 : Fin 1) (y 1)) * d1 y := by
  pointwise [k0_pay15, k0_pay8]

theorem stored5 (c : Dev nD) (t : Fin cfg0.N) (y : S512x1024.Idx) : ((outsAt0 m c t.val t.isLt).1 y : EReal)
    = back (m ((c : Thread nD τ).loc main_arg1)) (m ((c : Thread nD τ).loc main_arg2)) (row t (y 0)) (col t (y 1)) := by
  by_cases h : t.val % 16 = 0
  · rw [outsAt0_A m c t h]
    frame_out
    refine (pay_at _ _ _ _ _ _ _ _ y).trans ?_
    rw [weight m c t 3 (by decide), weight m c t 0 (by decide), weight m c t 1 (by decide), weight m c t 2 (by decide),
      read_ahead m c t 1 1 rfl, read_ahead m c t 2 2 rfl, read_ahead m c t 3 3 rfl, in2 m c t]
    rfl
  · rw [outsAt0_B m c t h]
    frame_out
    refine (pay_at _ _ _ _ _ _ _ _ y).trans ?_
    rw [weight m c t 3 (by decide), weight m c t 0 (by decide), weight m c t 1 (by decide), weight m c t 2 (by decide),
      read_ahead m c t 1 1 rfl, read_ahead m c t 2 2 rfl, read_ahead m c t 3 3 rfl, in2 m c t]
    rfl

/-- What time row `i` adds to row `r`, column `j` of the weight and offset gradients. -/
def term (x : FVec Ideal Cert.ReferenceConvBwdXIdeal.S8192x3072 .bf16) (d : FVec Ideal Cert.ReferenceConvBwdXIdeal.S8192x3072 .f32) (r : Fin 8) (i : Fin 8192) (j : Fin 3072) : EReal :=
  if r.val = 0 then past x i j 0 * d (ix2 i j)
  else if r.val = 1 then past x i j 1 * d (ix2 i j)
  else if r.val = 2 then past x i j 2 * d (ix2 i j)
  else if r.val = 3 then x (ix2 i j) * d (ix2 i j)
  else if r.val = 4 then d (ix2 i j)
  else 0

/-- One grid point's addition to the sums, over any rows. -/
theorem step_at (d : FVec Ideal S512x1024 .f32) (x : FVec Ideal S512x1024 .bf16) (p0 p1 p2 : FVec Ideal S512x1024 .f32) (a : FVec Ideal S8x1024 .f32)
    (r : Fin 8) (k : Fin 1024) :
    (k0_pay2 (F := Ideal) (k0_pay9 d p0) (k0_pay10 d p1) (k0_pay11 d p2) (k0_pay12 d (k0_pay3 x)) (k0_pay13 d) k0_pay14 a (ix2 r k) : EReal)
      = a (ix2 r k) + ∑ p : Fin 512,
        ((if r.val = 0 then p0 (ix2 p k) * d (ix2 p k)
          else if r.val = 1 then p1 (ix2 p k) * d (ix2 p k)
          else if r.val = 2 then p2 (ix2 p k) * d (ix2 p k)
          else if r.val = 3 then x (ix2 p k) * d (ix2 p k)
          else if r.val = 4 then d (ix2 p k)
          else 0 : EReal)) := by
  fin_cases r <;> pointwise [k0_pay2, k0_pay9, k0_pay10, k0_pay11, k0_pay12, k0_pay13, k0_pay14, k0_pay3]
  all_goals first
    | done
    | (refine congrArg (_ + ·) (Finset.sum_congr rfl fun p _ => ?_); exact mul_comm (G := EReal) _ _)
    | (rw [Finset.sum_const_zero]; exact (add_zero (_ : EReal)).symm)

/-- What grid point `t` adds to the sums. -/
def part (c : Dev nD) (t : Fin cfg0.N) (y : S8x1024.Idx) : EReal :=
  ∑ p : Fin 512, term (m ((c : Thread nD τ).loc main_arg0)) (m ((c : Thread nD τ).loc main_arg1)) (y 0) (row t p) (col t (y 1))

theorem step (c : Dev nD) (t : Fin cfg0.N) (a : FVec Ideal S8x1024 .f32) (y : S8x1024.Idx) :
    (k0_pay2 (F := Ideal)
      (k0_pay9 (iblk m c 2 t) ((View.whole cc0_scratch0).readCov (held m c t) (Rect.unit (s := S528x1024) ![13, 0] S512x1024.size inb_S528x1024_S512x1024_13_0).toLoadRect))
      (k0_pay10 (iblk m c 2 t) ((View.whole cc0_scratch0).readCov (held m c t) (Rect.unit (s := S528x1024) ![14, 0] S512x1024.size inb_S528x1024_S512x1024_14_0).toLoadRect))
      (k0_pay11 (iblk m c 2 t) ((View.whole cc0_scratch0).readCov (held m c t) (Rect.unit (s := S528x1024) ![15, 0] S512x1024.size inb_S528x1024_S512x1024_15_0).toLoadRect))
      (k0_pay12 (iblk m c 2 t) (k0_pay3 (iblk m c 0 t))) (k0_pay13 (iblk m c 2 t)) k0_pay14 a y : EReal) = a y + part m c t y := by
  obtain ⟨r, k, rfl⟩ : ∃ (r : Fin 8) (k : Fin 1024), y = ix2 r k := ⟨y 0, y 1, by funext a; fin_cases a <;> rfl⟩
  refine (step_at _ _ _ _ _ _ r k).trans (congrArg (_ + ·) (Finset.sum_congr rfl fun p _ => ?_))
  rw [read_past m c t 0 (by decide) 13 rfl, read_past m c t 1 (by decide) 14 rfl, read_past m c t 2 (by decide) 15 rfl,
    in2 m c t, in0 m c t]
  rfl

theorem first6 (c : Dev nD) (t : Fin cfg0.N) (h : t.val % 16 = 0) (y) :
    ((outsAt0 m c t.val t.isLt).2 y : EReal) = 0 + part m c t y := by
  rw [outsAt0_A m c t h]
  frame_out
  refine (step m c t _ y).trans (congrArg (· + _) ?_)
  pointwise [k0_pay1]

theorem next6 (c : Dev nD) (t : Fin cfg0.N) (h : ¬t.val % 16 = 0) (y) :
    ((outsAt0 m c t.val t.isLt).2 y : EReal)
      = ((outsAt0 m c (t.val - 1) (Nat.lt_of_le_of_lt (Nat.sub_le _ _) t.isLt)).2 y : EReal) + part m c t y := by
  rw [outsAt0_B m c t h]
  frame_out
  exact step m c t _ y

/-- After the last time block the sums over all its rows are in place. -/
theorem summed6 (c : Dev nD) (t : Fin cfg0.N) (h : t.val % 16 = 15) (y : S8x1024.Idx) :
    (show FVec Ideal S8x1024 .f32 from (outsAt0 m c t.val t.isLt).2) y
      = ∑ i : Fin 8192, term (m ((c : Thread nD τ).loc main_arg0)) (m ((c : Thread nD τ).loc main_arg1)) (y 0) i (col t (y 1)) := by
  have e := Pipeline.eq_sum_fin_of_reset_step_apply_of_flush
    (fun n h => (show S8x1024.Idx → EReal from (outsAt0 m c n h).2)) 16 (fun _ => 0) (part m c)
    (first6 m c) (next6 m c) t h y
  rw [zero_add] at e
  refine e.trans ?_
  unfold part
  refine Fin.sum_mul_add_congr fun s k hl => ?_
  have ht : t.val < 48 := t.isLt
  have hs := s.isLt
  have hn := Pipeline.run_point_lt_of_flush t h s
  have e1 : row ⟨16 * (t.val / 16) + s.val, hn⟩ k = ⟨s.val * 512 + k.val, hl⟩ :=
    Fin.ext (by show 512 * ((16 * (t.val / 16) + s.val) % 16) + k.val = s.val * 512 + k.val; omega)
  have e2 : col ⟨16 * (t.val / 16) + s.val, hn⟩ (y 1) = col t (y 1) :=
    Fin.ext (by show 1024 * ((16 * (t.val / 16) + s.val) / 16) + (y 1).val = 1024 * (t.val / 16) + (y 1).val; omega)
  rw [e1, e2]

/-- A product shifted forward, in the kernel's and in the reference's form. -/
theorem ahead_mul (d : FVec Ideal Cert.ReferenceConvBwdXIdeal.S8192x3072 .f32) (w : EReal) (i : Fin 8192) (j : Fin 3072) (k : Fin 4) (l : ℕ) (hl : k.val + l = 3) :
    w * ahead d i j k = if h : l ≤ 3 + i.val ∧ 3 + i.val - l < 8192 then d (ix2 (⟨3 + i.val - l, h.2⟩ : Fin 8192) j) * w else 0 := by
  unfold ahead
  by_cases h : i.val + k.val < 8192
  · have e : (⟨i.val + k.val, h⟩ : Fin 8192) = ⟨3 + i.val - l, by omega⟩ := Fin.ext (by show i.val + k.val = 3 + i.val - l; omega)
    rw [dif_pos h, dif_pos (⟨by omega, by omega⟩ : l ≤ 3 + i.val ∧ 3 + i.val - l < 8192), mul_comm, e]
  · rw [dif_neg h, dif_neg (fun h' => h (by omega)), mul_zero]

/-- The kernel's order of the additions and the reference's. -/
theorem reorder (p q r s : EReal) : p + q + r + s = p + s + r + q := by
  rw [add_assoc, add_assoc, add_assoc, add_assoc, add_comm r s, ← add_assoc q, add_comm q s, add_assoc s, add_comm q r]

set_option maxHeartbeats 4000000 in
/-- Kernel and reference leave the same arrays. -/
theorem value : Cert.algebraic_KernelConvBwdXIdeal_ReferenceConvBwdXIdeal := by
  pair_intro
  · run_from Cert.KernelConvBwdXIdeal.Gen.run_main m g
  · refine θ_run_mono (Cert.ReferenceConvBwdXIdeal.Value.run m' g') ?_
    intro r hr c
    obtain ⟨h0, h1, kept⟩ := hr c
    obtain ⟨a0, a1, a2⟩ := hagree c
    refine ⟨h0.trans ?_, h1.trans ?_, kept⟩
    · clear h0 h1 kept hr
      refine ((dats m 0 c).arrAt_eq_of_covers 5 _ (by decide +kernel) fun t hf y => ?_).symm
      have e : ((cfg0.win 5).blk t).view.emb y = ix2 (row t (y 0)) (col t (y 1)) := by
        blk_ext [blocks t, row, col]
      rw [e]
      blk_simp
      rw [after0_5]
      refine (stored5 m c t y).trans ?_
      generalize row t (y 0) = i
      generalize col t (y 1) = j
      unfold back
      rw [reorder, ahead_mul _ _ i j 1 2 rfl, ahead_mul _ _ i j 2 1 rfl, ahead_mul _ _ i j 3 0 rfl, mul_comm]
      pointwise [a0, a1, a2]
    · clear h0 h1 kept hr
      refine ((dats m 0 c).arrAt_eq_of_covers 6 _ (by decide +kernel) fun t hf y => ?_).symm
      have h := (flush0_6 t).mp hf
      have e : ((cfg0.win 6).blk t).view.emb y = ix2 (y 0) (col t (y 1)) := by
        blk_ext [blocks t, col]
      rw [e]
      blk_simp
      rw [after0_6]
      refine (summed6 m c t h y).trans ?_
      generalize col t (y 1) = j
      generalize (y 0) = r
      fin_cases r <;> pointwise [term, past, a0, a1, a2]
      all_goals first
        | exact Finset.sum_const_zero
        | (simp only [Fin.sum_univ_one]; done)
        | (simp only [Finset.sum_const, Finset.card_univ, Fintype.card_fin, one_smul]; done)

end Cert.KernelConvBwdXIdeal.Array

end
-- ==== Proof.ConvFwdValue.lean ====
module

public import proofs.«01_k».proof.Proof.Gen.KernelConvFwdIdeal.Frame
public import proofs.«01_k».proof.Proof.Gen.KernelConvFwdIdeal.Points
public import proofs.«01_k».proof.Proof.Gen.KernelConvFwdIdeal.Launch
public import proofs.«01_k».proof.Proof.Gen.ReferenceConvFwdIdeal.Run
public import Idealize.ShloMosaic.Lib.Pipeline.ValueKit
public import Idealize.ShloMosaic.Lib.Pipeline.ReadBack
public import Idealize.ShloMosaic.Lib.Claim
public import proofs.«01_k».proof.Defs
public import proofs.«01_k».proof.Proof.ConvRows

/-!
The causal convolution over time: four shifted products and the offset.
-/

@[expose] public section

set_option maxRecDepth 16384

noncomputable section

namespace Cert.KernelConvFwdIdeal.Array

open Cert.KernelConvFwdIdeal Cert.KernelConvFwdIdeal.Gen
open Idealize.ShloMosaic Idealize.ShloMosaic.TcCoe Idealize.SL.Sem
open Idealize.ShloMosaic.Pipeline (Dat)

variable (m : (ℓ : Loc nD τ sig) → Buf (Elt Ideal) ℓ)

/-- Row block `q`, column block `s`. -/
abbrev pt (q : Fin 8) (s : Fin 1) : Fin cfg0.N :=
  ⟨1 * q.val + s.val, by have := q.isLt; have := s.isLt; show 1 * q.val + s.val < 8; omega⟩

theorem eq_pt (t : Fin cfg0.N) : ∃ (q : Fin 8) (s : Fin 1), t = pt q s := by
  have ht : t.val < 8 := t.isLt
  exact ⟨⟨t.val / 1, by omega⟩, ⟨t.val % 1, by omega⟩, Fin.ext (by show t.val = 1 * (t.val / 1) + t.val % 1; omega)⟩

/-- Which block of its array each window holds; the second window holds the 16 rows before the block. -/
theorem blocks : ∀ (q : Fin 8) (s : Fin 1), win0_0.index (pt q s) = ![q.val, s.val]
    ∧ win0_1.index (pt q s) = ![64 * q.val - 1, s.val]
    ∧ win0_2.index (pt q s) = ![0, s.val]
    ∧ win0_3.index (pt q s) = ![0, s.val]
    ∧ win0_4.index (pt q s) = ![q.val, s.val] := by
  decide +kernel

/-- Whether a block is the first along time. -/
theorem is_first : ∀ (q : Fin 8) (s : Fin 1), (Scalar.cmpi .sgt (BitVec.ofNat 32 (grid0.coords (pt q s) 0).val) 0#32 = 1#1 ↔ 0 < q.val) := by
  decide +kernel

/-- Row `i - 3 + k` of a column, zero before the first row. -/
def shift (x : FVec Ideal Cert.ReferenceConvFwdIdeal.S8192x1024 .bf16) (i : Fin 8192) (j : Fin 1024) (k : Fin 4) : EReal :=
  if h : k.val + i.val < 3 then 0 else x (ix2 (⟨k.val + i.val - 3, by omega⟩ : Fin 8192) j)

/-- Four products and the offset, added in the kernel's order. -/
def tap (b w3 x3 w0 x0 w1 x1 w2 x2 : EReal) : EReal := b + w3 * x3 + w0 * x0 + w1 * x1 + w2 * x2

theorem pay_at (x : FVec Ideal S1024x1024 .bf16) (b w3 w0 s0 w1 s1 w2 s2) (y : S1024x1024.Idx) :
    k0_pay1 (F := Ideal) (k0_pay5 x b w3 w0 s0 w1 s1) w2 s2 y
      = tap (b (ix2 (0 : Fin 1) (y 1))) (w3 (ix2 (0 : Fin 1) (y 1))) (x y) (w0 (ix2 (0 : Fin 1) (y 1))) (s0 y)
          (w1 (ix2 (0 : Fin 1) (y 1))) (s1 y) (w2 (ix2 (0 : Fin 1) (y 1))) (s2 y) := by
  pointwise [k0_pay1, k0_pay5, k0_pay2, tap]

theorem body_at (x : FVec Ideal S1024x1024 .bf16) (y : S1024x1024.Idx) : k0_pay3 (F := Ideal) x y = x y := by
  pointwise [k0_pay3, k0_pay2]

theorem halo_at (q : Fin 8) (s : Fin 1) (x : FVec Ideal S16x1024 .bf16) (y : S16x1024.Idx) :
    (k0_pay4 (F := Ideal) (grid0.coords (pt q s)) x y : EReal) = if 0 < q.val then x y else 0 := by
  have hq := is_first q s
  by_cases h : 0 < q.val
  · rw [if_pos h]
    have hc := hq.mpr h
    pointwise [k0_pay4, Scalar.select, hc]
    exact congrFun (if_pos rfl) y
  · rw [if_neg h]
    have hc := mt hq.mp h
    pointwise [k0_pay4, Scalar.select, hc]
    exact congrFun (if_neg hc) y

/-- The rows the block's buffer holds: the block after the 16 rows before it. -/
abbrev staged (c : Dev nD) (t : Fin cfg0.N) : List (View.Piece (Elt Ideal) S1040x1024 .f32) :=
  [⟨Rect.unit ![0, 0] ![16, 1024] inb_S1040x1024_S16x1024_0_0, k0_pay4 (grid0.coords t) (iblk m c 1 t)⟩,
    ⟨Rect.unit ![16, 0] ![1024, 1024] inb_S1040x1024_S1024x1024_16_0, k0_pay3 (iblk m c 0 t)⟩]

theorem shifted (c : Dev nD) (q : Fin 8) (s : Fin 1) (y : S1024x1024.Idx) (i : Fin 8192) (j : Fin 1024)
    (hi : i.val = 1024 * q.val + (y 0).val) (hj : j.val = 1024 * s.val + (y 1).val) (k : Fin 4) (hk : k.val < 3)
    (o : ℕ) (ho : o = 13 + k.val)
    (inb : ∀ a, (![o, 0] : Fin 2 → ℕ) a + (![1024, 1024] : Fin 2 → ℕ) a ≤ S1040x1024.size a) :
    ((View.whole cc0_scratch0).readCov (staged m c (pt q s)) (Rect.unit (s := S1040x1024) ![o, 0] S1024x1024.size inb).toLoadRect y : EReal)
      = shift (m ((c : Thread nD τ).loc main_arg0)) i j k := by
  have hy0 : (y 0).val < 1024 := (y 0).isLt
  by_cases h : 3 ≤ (y 0).val + k.val
  · refine ((Cert.ConvRows.read_before (k := 1024) (k₁ := 16) _ _ _ _ _ y (Or.inr (by omega))).trans
      (Cert.ConvRows.read_last (k := 1024) (k₁ := 1024) _ _ _ _ [] y ⟨(y 0).val + k.val - 3, by omega⟩ (by show 16 + ((y 0).val + k.val - 3) = o + (y 0).val; omega))).trans ?_
    refine (body_at _ _).trans ?_
    rw [shift, dif_neg (by omega)]
    blk_point [iblk, V, blocks q s]
  · refine (Cert.ConvRows.read_last (k := 1024) (k₁ := 16) _ _ _ _ _ y ⟨13 + k.val + (y 0).val, by omega⟩ (by show 0 + (13 + k.val + (y 0).val) = o + (y 0).val; omega)).trans ?_
    refine (halo_at q s _ _).trans ?_
    by_cases hq : 0 < q.val
    · rw [if_pos hq, shift, dif_neg (by omega)]
      blk_point [iblk, V, blocks q s]
    · rw [if_neg hq, shift, dif_pos (by omega)]

theorem present (c : Dev nD) (q : Fin 8) (s : Fin 1) (y : S1024x1024.Idx) (i : Fin 8192) (j : Fin 1024)
    (hi : i.val = 1024 * q.val + (y 0).val) (hj : j.val = 1024 * s.val + (y 1).val) :
    (iblk m c 0 (pt q s) y : EReal) = m ((c : Thread nD τ).loc main_arg0) (ix2 i j) := by
  blk_point [iblk, V, blocks q s]

theorem weight (c : Dev nD) (q : Fin 8) (s : Fin 1) (y : S1024x1024.Idx) (j : Fin 1024)
    (hj : j.val = 1024 * s.val + (y 1).val) (k : ℕ) (hk : k < 8)
    (inb : ∀ a, (![k, 0] : Fin 2 → ℕ) a + (![1, 1024] : Fin 2 → ℕ) a ≤ S8x1024.size a) :
    (View.ld (iblk m c 2 (pt q s)) (Rect.unit ![k, 0] ![1, 1024] inb) (ix2 (0 : Fin 1) (y 1)) : EReal)
      = m ((c : Thread nD τ).loc main_arg1) (ix2 (⟨k, hk⟩ : Fin 8) j) := by
  blk_point [iblk, V, blocks q s]

theorem offset (c : Dev nD) (q : Fin 8) (s : Fin 1) (y : S1024x1024.Idx) (j : Fin 1024)
    (hj : j.val = 1024 * s.val + (y 1).val) :
    (iblk m c 3 (pt q s) (ix2 (0 : Fin 1) (y 1)) : EReal) = m ((c : Thread nD τ).loc main_arg2) (ix2 (0 : Fin 1) j) := by
  blk_point [iblk, V, blocks q s]

/-- What the kernel leaves at row `i`, column `j`. -/
def conv (x : FVec Ideal Cert.ReferenceConvFwdIdeal.S8192x1024 .bf16) (w : FVec Ideal Cert.ReferenceConvFwdIdeal.S8x1024 .f32) (b : FVec Ideal Cert.ReferenceConvFwdIdeal.S1x1024 .f32) (i : Fin 8192) (j : Fin 1024) : EReal :=
  tap (b (ix2 (0 : Fin 1) j)) (w (ix2 (3 : Fin 8) j)) (x (ix2 i j)) (w (ix2 (0 : Fin 8) j)) (shift x i j 0)
    (w (ix2 (1 : Fin 8) j)) (shift x i j 1) (w (ix2 (2 : Fin 8) j)) (shift x i j 2)

theorem tap_congr {b b' w3 w3' x3 x3' w0 w0' x0 x0' w1 w1' x1 x1' w2 w2' x2 x2' : EReal} (hb : b = b') (h3 : w3 = w3') (g3 : x3 = x3')
    (h0 : w0 = w0') (g0 : x0 = x0') (h1 : w1 = w1') (g1 : x1 = x1') (h2 : w2 = w2') (g2 : x2 = x2') :
    tap b w3 x3 w0 x0 w1 x1 w2 x2 = tap b' w3' x3' w0' x0' w1' x1' w2' x2' := by
  subst hb h3 g3 h0 g0 h1 g1 h2 g2; rfl

theorem out_at (c : Dev nD) (q : Fin 8) (s : Fin 1) (y : S1024x1024.Idx) (i : Fin 8192) (j : Fin 1024)
    (hi : i.val = 1024 * q.val + (y 0).val) (hj : j.val = 1024 * s.val + (y 1).val) :
    (outsAt0 m c (pt q s) y : EReal)
      = conv (m ((c : Thread nD τ).loc main_arg0)) (m ((c : Thread nD τ).loc main_arg1)) (m ((c : Thread nD τ).loc main_arg2)) i j := by
  unfold outsAt0
  frame_out
  refine (pay_at _ _ _ _ _ _ _ _ _ y).trans ?_
  exact tap_congr (offset m c q s y j hj) (weight m c q s y j hj 3 (by decide) _) (present m c q s y i j hi hj)
    (weight m c q s y j hj 0 (by decide) _) (shifted m c q s y i j hi hj 0 (by decide) _ rfl _)
    (weight m c q s y j hj 1 (by decide) _) (shifted m c q s y i j hi hj 1 (by decide) _ rfl _)
    (weight m c q s y j hj 2 (by decide) _) (shifted m c q s y i j hi hj 2 (by decide) _ rfl _)

/-- The kernel's order of the additions and the reference's. -/
theorem reorder (b w3 x3 w0 x0 w1 x1 w2 x2 : EReal) :
    tap b w3 x3 w0 x0 w1 x1 w2 x2 = 0 + x0 * w0 + x1 * w1 + x2 * w2 + x3 * w3 + b := by
  unfold tap
  rw [zero_add, mul_comm w3, mul_comm w0, mul_comm w1, mul_comm w2]
  ac_rfl

set_option maxHeartbeats 2000000 in
/-- Kernel and reference leave the same array. -/
theorem value : Cert.algebraic_KernelConvFwdIdeal_ReferenceConvFwdIdeal := by
  pair_intro
  · run_from Cert.KernelConvFwdIdeal.Gen.run_main m g
  · refine θ_run_mono (Cert.ReferenceConvFwdIdeal.Value.run m' g') ?_
    intro r hr c
    obtain ⟨h0, kept⟩ := hr c
    obtain ⟨a0, a1, a2⟩ := hagree c
    refine ⟨h0.trans ?_, kept⟩
    clear h0 kept hr
    refine ((dats m 0 c).arrAt_eq_of_covers 4 _ (by decide +kernel) fun t hf y => ?_).symm
    obtain ⟨q, s, rfl⟩ := eq_pt t
    have hi : 1024 * q.val + (y 0).val < 8192 := by have h0 : (y 0).val < 1024 := (y 0).isLt; have hq := q.isLt; omega
    have hj : 1024 * s.val + (y 1).val < 1024 := by have h0 : (y 1).val < 1024 := (y 1).isLt; have hs := s.isLt; omega
    obtain ⟨i, j, hi', hj', e⟩ : ∃ (i : Fin 8192) (j : Fin 1024), i.val = 1024 * q.val + (y 0).val ∧ j.val = 1024 * s.val + (y 1).val
        ∧ ((cfg0.win 4).blk (pt q s)).view.emb y = ix2 i j :=
      ⟨⟨1024 * q.val + (y 0).val, hi⟩, ⟨1024 * s.val + (y 1).val, hj⟩, rfl, rfl, by blk_ext [blocks q s]⟩
    rw [e]
    blk_simp
    rw [after0_4]
    refine (out_at m c q s y i j hi' hj').trans ?_
    refine (reorder _ _ _ _ _ _ _ _ _).trans ?_
    pointwise [shift, a0, a1, a2]

end Cert.KernelConvFwdIdeal.Array

end
-- ==== Proof.ConvFwdXValue.lean ====
module

public import proofs.«01_k».proof.Proof.Gen.KernelConvFwdXIdeal.Frame
public import proofs.«01_k».proof.Proof.Gen.KernelConvFwdXIdeal.Points
public import proofs.«01_k».proof.Proof.Gen.KernelConvFwdXIdeal.Launch
public import proofs.«01_k».proof.Proof.Gen.ReferenceConvFwdXIdeal.Run
public import Idealize.ShloMosaic.Lib.Pipeline.ValueKit
public import Idealize.ShloMosaic.Lib.Pipeline.ReadBack
public import Idealize.ShloMosaic.Lib.Claim
public import proofs.«01_k».proof.Defs
public import proofs.«01_k».proof.Proof.ConvRows

/-!
The causal convolution over time: four shifted products and the offset.
-/

@[expose] public section

set_option maxRecDepth 16384

noncomputable section

namespace Cert.KernelConvFwdXIdeal.Array

open Cert.KernelConvFwdXIdeal Cert.KernelConvFwdXIdeal.Gen
open Idealize.ShloMosaic Idealize.ShloMosaic.TcCoe Idealize.SL.Sem
open Idealize.ShloMosaic.Pipeline (Dat)

variable (m : (ℓ : Loc nD τ sig) → Buf (Elt Ideal) ℓ)

/-- Row block `q`, column block `s`. -/
abbrev pt (q : Fin 8) (s : Fin 3) : Fin cfg0.N :=
  ⟨3 * q.val + s.val, by have := q.isLt; have := s.isLt; show 3 * q.val + s.val < 24; omega⟩

theorem eq_pt (t : Fin cfg0.N) : ∃ (q : Fin 8) (s : Fin 3), t = pt q s := by
  have ht : t.val < 24 := t.isLt
  exact ⟨⟨t.val / 3, by omega⟩, ⟨t.val % 3, by omega⟩, Fin.ext (by show t.val = 3 * (t.val / 3) + t.val % 3; omega)⟩

/-- Which block of its array each window holds; the second window holds the 16 rows before the block. -/
theorem blocks : ∀ (q : Fin 8) (s : Fin 3), win0_0.index (pt q s) = ![q.val, s.val]
    ∧ win0_1.index (pt q s) = ![64 * q.val - 1, s.val]
    ∧ win0_2.index (pt q s) = ![0, s.val]
    ∧ win0_3.index (pt q s) = ![0, s.val]
    ∧ win0_4.index (pt q s) = ![q.val, s.val] := by
  decide +kernel

/-- Whether a block is the first along time. -/
theorem is_first : ∀ (q : Fin 8) (s : Fin 3), (Scalar.cmpi .sgt (BitVec.ofNat 32 (grid0.coords (pt q s) 0).val) 0#32 = 1#1 ↔ 0 < q.val) := by
  decide +kernel

/-- Row `i - 3 + k` of a column, zero before the first row. -/
def shift (x : FVec Ideal Cert.ReferenceConvFwdXIdeal.S8192x3072 .bf16) (i : Fin 8192) (j : Fin 3072) (k : Fin 4) : EReal :=
  if h : k.val + i.val < 3 then 0 else x (ix2 (⟨k.val + i.val - 3, by omega⟩ : Fin 8192) j)

/-- Four products and the offset, added in the kernel's order. -/
def tap (b w3 x3 w0 x0 w1 x1 w2 x2 : EReal) : EReal := b + w3 * x3 + w0 * x0 + w1 * x1 + w2 * x2

theorem pay_at (x : FVec Ideal S1024x1024 .bf16) (b w3 w0 s0 w1 s1 w2 s2) (y : S1024x1024.Idx) :
    k0_pay1 (F := Ideal) (k0_pay5 x b w3 w0 s0 w1 s1) w2 s2 y
      = tap (b (ix2 (0 : Fin 1) (y 1))) (w3 (ix2 (0 : Fin 1) (y 1))) (x y) (w0 (ix2 (0 : Fin 1) (y 1))) (s0 y)
          (w1 (ix2 (0 : Fin 1) (y 1))) (s1 y) (w2 (ix2 (0 : Fin 1) (y 1))) (s2 y) := by
  pointwise [k0_pay1, k0_pay5, k0_pay2, tap]

theorem body_at (x : FVec Ideal S1024x1024 .bf16) (y : S1024x1024.Idx) : k0_pay3 (F := Ideal) x y = x y := by
  pointwise [k0_pay3, k0_pay2]

theorem halo_at (q : Fin 8) (s : Fin 3) (x : FVec Ideal S16x1024 .bf16) (y : S16x1024.Idx) :
    (k0_pay4 (F := Ideal) (grid0.coords (pt q s)) x y : EReal) = if 0 < q.val then x y else 0 := by
  have hq := is_first q s
  by_cases h : 0 < q.val
  · rw [if_pos h]
    have hc := hq.mpr h
    pointwise [k0_pay4, Scalar.select, hc]
    exact congrFun (if_pos rfl) y
  · rw [if_neg h]
    have hc := mt hq.mp h
    pointwise [k0_pay4, Scalar.select, hc]
    exact congrFun (if_neg hc) y

/-- The rows the block's buffer holds: the block after the 16 rows before it. -/
abbrev staged (c : Dev nD) (t : Fin cfg0.N) : List (View.Piece (Elt Ideal) S1040x1024 .f32) :=
  [⟨Rect.unit ![0, 0] ![16, 1024] inb_S1040x1024_S16x1024_0_0, k0_pay4 (grid0.coords t) (iblk m c 1 t)⟩,
    ⟨Rect.unit ![16, 0] ![1024, 1024] inb_S1040x1024_S1024x1024_16_0, k0_pay3 (iblk m c 0 t)⟩]

theorem shifted (c : Dev nD) (q : Fin 8) (s : Fin 3) (y : S1024x1024.Idx) (i : Fin 8192) (j : Fin 3072)
    (hi : i.val = 1024 * q.val + (y 0).val) (hj : j.val = 1024 * s.val + (y 1).val) (k : Fin 4) (hk : k.val < 3)
    (o : ℕ) (ho : o = 13 + k.val)
    (inb : ∀ a, (![o, 0] : Fin 2 → ℕ) a + (![1024, 1024] : Fin 2 → ℕ) a ≤ S1040x1024.size a) :
    ((View.whole cc0_scratch0).readCov (staged m c (pt q s)) (Rect.unit (s := S1040x1024) ![o, 0] S1024x1024.size inb).toLoadRect y : EReal)
      = shift (m ((c : Thread nD τ).loc main_arg0)) i j k := by
  have hy0 : (y 0).val < 1024 := (y 0).isLt
  by_cases h : 3 ≤ (y 0).val + k.val
  · refine ((Cert.ConvRows.read_before (k := 1024) (k₁ := 16) _ _ _ _ _ y (Or.inr (by omega))).trans
      (Cert.ConvRows.read_last (k := 1024) (k₁ := 1024) _ _ _ _ [] y ⟨(y 0).val + k.val - 3, by omega⟩ (by show 16 + ((y 0).val + k.val - 3) = o + (y 0).val; omega))).trans ?_
    refine (body_at _ _).trans ?_
    rw [shift, dif_neg (by omega)]
    blk_point [iblk, V, blocks q s]
  · refine (Cert.ConvRows.read_last (k := 1024) (k₁ := 16) _ _ _ _ _ y ⟨13 + k.val + (y 0).val, by omega⟩ (by show 0 + (13 + k.val + (y 0).val) = o + (y 0).val; omega)).trans ?_
    refine (halo_at q s _ _).trans ?_
    by_cases hq : 0 < q.val
    · rw [if_pos hq, shift, dif_neg (by omega)]
      blk_point [iblk, V, blocks q s]
    · rw [if_neg hq, shift, dif_pos (by omega)]

theorem present (c : Dev nD) (q : Fin 8) (s : Fin 3) (y : S1024x1024.Idx) (i : Fin 8192) (j : Fin 3072)
    (hi : i.val = 1024 * q.val + (y 0).val) (hj : j.val = 1024 * s.val + (y 1).val) :
    (iblk m c 0 (pt q s) y : EReal) = m ((c : Thread nD τ).loc main_arg0) (ix2 i j) := by
  blk_point [iblk, V, blocks q s]

theorem weight (c : Dev nD) (q : Fin 8) (s : Fin 3) (y : S1024x1024.Idx) (j : Fin 3072)
    (hj : j.val = 1024 * s.val + (y 1).val) (k : ℕ) (hk : k < 8)
    (inb : ∀ a, (![k, 0] : Fin 2 → ℕ) a + (![1, 1024] : Fin 2 → ℕ) a ≤ S8x1024.size a) :
    (View.ld (iblk m c 2 (pt q s)) (Rect.unit ![k, 0] ![1, 1024] inb) (ix2 (0 : Fin 1) (y 1)) : EReal)
      = m ((c : Thread nD τ).loc main_arg1) (ix2 (⟨k, hk⟩ : Fin 8) j) := by
  blk_point [iblk, V, blocks q s]

theorem offset (c : Dev nD) (q : Fin 8) (s : Fin 3) (y : S1024x1024.Idx) (j : Fin 3072)
    (hj : j.val = 1024 * s.val + (y 1).val) :
    (iblk m c 3 (pt q s) (ix2 (0 : Fin 1) (y 1)) : EReal) = m ((c : Thread nD τ).loc main_arg2) (ix2 (0 : Fin 1) j) := by
  blk_point [iblk, V, blocks q s]

/-- What the kernel leaves at row `i`, column `j`. -/
def conv (x : FVec Ideal Cert.ReferenceConvFwdXIdeal.S8192x3072 .bf16) (w : FVec Ideal Cert.ReferenceConvFwdXIdeal.S8x3072 .f32) (b : FVec Ideal Cert.ReferenceConvFwdXIdeal.S1x3072 .f32) (i : Fin 8192) (j : Fin 3072) : EReal :=
  tap (b (ix2 (0 : Fin 1) j)) (w (ix2 (3 : Fin 8) j)) (x (ix2 i j)) (w (ix2 (0 : Fin 8) j)) (shift x i j 0)
    (w (ix2 (1 : Fin 8) j)) (shift x i j 1) (w (ix2 (2 : Fin 8) j)) (shift x i j 2)

theorem tap_congr {b b' w3 w3' x3 x3' w0 w0' x0 x0' w1 w1' x1 x1' w2 w2' x2 x2' : EReal} (hb : b = b') (h3 : w3 = w3') (g3 : x3 = x3')
    (h0 : w0 = w0') (g0 : x0 = x0') (h1 : w1 = w1') (g1 : x1 = x1') (h2 : w2 = w2') (g2 : x2 = x2') :
    tap b w3 x3 w0 x0 w1 x1 w2 x2 = tap b' w3' x3' w0' x0' w1' x1' w2' x2' := by
  subst hb h3 g3 h0 g0 h1 g1 h2 g2; rfl

theorem out_at (c : Dev nD) (q : Fin 8) (s : Fin 3) (y : S1024x1024.Idx) (i : Fin 8192) (j : Fin 3072)
    (hi : i.val = 1024 * q.val + (y 0).val) (hj : j.val = 1024 * s.val + (y 1).val) :
    (outsAt0 m c (pt q s) y : EReal)
      = conv (m ((c : Thread nD τ).loc main_arg0)) (m ((c : Thread nD τ).loc main_arg1)) (m ((c : Thread nD τ).loc main_arg2)) i j := by
  unfold outsAt0
  frame_out
  refine (pay_at _ _ _ _ _ _ _ _ _ y).trans ?_
  exact tap_congr (offset m c q s y j hj) (weight m c q s y j hj 3 (by decide) _) (present m c q s y i j hi hj)
    (weight m c q s y j hj 0 (by decide) _) (shifted m c q s y i j hi hj 0 (by decide) _ rfl _)
    (weight m c q s y j hj 1 (by decide) _) (shifted m c q s y i j hi hj 1 (by decide) _ rfl _)
    (weight m c q s y j hj 2 (by decide) _) (shifted m c q s y i j hi hj 2 (by decide) _ rfl _)

/-- The kernel's order of the additions and the reference's. -/
theorem reorder (b w3 x3 w0 x0 w1 x1 w2 x2 : EReal) :
    tap b w3 x3 w0 x0 w1 x1 w2 x2 = 0 + x0 * w0 + x1 * w1 + x2 * w2 + x3 * w3 + b := by
  unfold tap
  rw [zero_add, mul_comm w3, mul_comm w0, mul_comm w1, mul_comm w2]
  ac_rfl

set_option maxHeartbeats 2000000 in
/-- Kernel and reference leave the same array. -/
theorem value : Cert.algebraic_KernelConvFwdXIdeal_ReferenceConvFwdXIdeal := by
  pair_intro
  · run_from Cert.KernelConvFwdXIdeal.Gen.run_main m g
  · refine θ_run_mono (Cert.ReferenceConvFwdXIdeal.Value.run m' g') ?_
    intro r hr c
    obtain ⟨h0, kept⟩ := hr c
    obtain ⟨a0, a1, a2⟩ := hagree c
    refine ⟨h0.trans ?_, kept⟩
    clear h0 kept hr
    refine ((dats m 0 c).arrAt_eq_of_covers 4 _ (by decide +kernel) fun t hf y => ?_).symm
    obtain ⟨q, s, rfl⟩ := eq_pt t
    have hi : 1024 * q.val + (y 0).val < 8192 := by have h0 : (y 0).val < 1024 := (y 0).isLt; have hq := q.isLt; omega
    have hj : 1024 * s.val + (y 1).val < 3072 := by have h0 : (y 1).val < 1024 := (y 1).isLt; have hs := s.isLt; omega
    obtain ⟨i, j, hi', hj', e⟩ : ∃ (i : Fin 8192) (j : Fin 3072), i.val = 1024 * q.val + (y 0).val ∧ j.val = 1024 * s.val + (y 1).val
        ∧ ((cfg0.win 4).blk (pt q s)).view.emb y = ix2 i j :=
      ⟨⟨1024 * q.val + (y 0).val, hi⟩, ⟨1024 * s.val + (y 1).val, hj⟩, rfl, rfl, by blk_ext [blocks q s]⟩
    rw [e]
    blk_simp
    rw [after0_4]
    refine (out_at m c q s y i j hi' hj').trans ?_
    refine (reorder _ _ _ _ _ _ _ _ _).trans ?_
    pointwise [shift, a0, a1, a2]

end Cert.KernelConvFwdXIdeal.Array

end
-- ==== Proof.MergeBwdValue.lean ====
module

public import proofs.«01_k».proof.Proof.Gen.KernelMergeBwdIdeal.Frame
public import proofs.«01_k».proof.Proof.Gen.KernelMergeBwdIdeal.Points
public import proofs.«01_k».proof.Proof.Gen.KernelMergeBwdIdeal.Launch
public import proofs.«01_k».proof.Proof.Gen.ReferenceMergeBwdIdeal.Run
public import Idealize.ShloMosaic.Lib.Pipeline.ValueKit
public import Idealize.ShloMosaic.Lib.Claim
public import proofs.«01_k».proof.Defs

/-!
Gradient of the gated merge.
-/

@[expose] public section

set_option maxRecDepth 16384

noncomputable section

namespace Cert.KernelMergeBwdIdeal.Array

open Cert.KernelMergeBwdIdeal Cert.KernelMergeBwdIdeal.Gen
open Idealize.ShloMosaic Idealize.ShloMosaic.TcCoe Idealize.SL.Sem
open Idealize.ShloMosaic.Pipeline (Dat)

variable (m : (ℓ : Loc nD τ sig) → Buf (Elt Ideal) ℓ)

/-- Which block each window holds at grid point `t`. -/
theorem blocks : ∀ t : Fin cfg0.N, win0_0.index t = ![t.val, 0]
    ∧ win0_1.index t = ![t.val, 0]
    ∧ win0_2.index t = ![t.val, 0]
    ∧ win0_3.index t = ![0, 0]
    ∧ win0_4.index t = ![t.val, 0]
    ∧ win0_5.index t = ![t.val, 0]
    ∧ win0_6.index t = ![t.val, 0]
    ∧ win0_7.index t = ![t.val, 0]
    ∧ win0_8.index t = ![0, 0] :=
  (by decide +kernel : ∀ t : Fin grid0.N, _)

/-- Row `r` of the block of grid point `t`, counted in the whole array. -/
abbrev row (t : Fin cfg0.N) (r : Fin 512) : Fin 8192 :=
  ⟨t.val * 512 + r.val, by have h : t.val < 16 := t.isLt; omega⟩

/-- Input 0 at grid point `t`: the rows of the block. -/
theorem in0 (c : Dev nD) (t : Fin cfg0.N) : iblk m c 0 t
    = fun i => m ((c : Thread nD τ).loc main_arg0) (ix2 (row t (i 0)) (i 1)) := by
  funext i
  blk_point [iblk, V, blocks t]

/-- Input 1 at grid point `t`: the rows of the block. -/
theorem in1 (c : Dev nD) (t : Fin cfg0.N) : iblk m c 1 t
    = fun i => m ((c : Thread nD τ).loc main_arg1) (ix2 (row t (i 0)) (i 1)) := by
  funext i
  blk_point [iblk, V, blocks t]

/-- Input 2 at grid point `t`: the rows of the block. -/
theorem in2 (c : Dev nD) (t : Fin cfg0.N) : iblk m c 2 t
    = fun i => m ((c : Thread nD τ).loc main_arg2) (ix2 (row t (i 0)) (i 1)) := by
  funext i
  blk_point [iblk, V, blocks t]

/-- Input 3 is staged whole. -/
theorem in3 (c : Dev nD) (t : Fin cfg0.N) : iblk m c 3 t = m ((c : Thread nD τ).loc main_arg3) := by
  funext i
  blk_point [iblk, V, blocks t]

/-- Input 4 at grid point `t`: the rows of the block. -/
theorem in4 (c : Dev nD) (t : Fin cfg0.N) : iblk m c 4 t
    = fun i => m ((c : Thread nD τ).loc main_arg4) (ix2 (row t (i 0)) (i 1)) := by
  funext i
  blk_point [iblk, V, blocks t]

/-- Where the block of output 5 at grid point `t` lies in the array. -/
theorem place5 (t : Fin cfg0.N) (y : ((cfg0.win 5).xblock (cfg0.grid.coords t)).Idx) :
    ((cfg0.win 5).blk t).view.emb y = ix2 (row t (y 0)) (y 1) := by
  blk_ext [blocks t]

/-- Where the block of output 6 at grid point `t` lies in the array. -/
theorem place6 (t : Fin cfg0.N) (y : ((cfg0.win 6).xblock (cfg0.grid.coords t)).Idx) :
    ((cfg0.win 6).blk t).view.emb y = ix2 (row t (y 0)) (y 1) := by
  blk_ext [blocks t]

/-- Where the block of output 7 at grid point `t` lies in the array. -/
theorem place7 (t : Fin cfg0.N) (y : ((cfg0.win 7).xblock (cfg0.grid.coords t)).Idx) :
    ((cfg0.win 7).blk t).view.emb y = ix2 (row t (y 0)) (y 1) := by
  blk_ext [blocks t]

/-- Output 8 is written whole. -/
theorem place8 (t : Fin cfg0.N) (y : ((cfg0.win 8).xblock (cfg0.grid.coords t)).Idx) :
    ((cfg0.win 8).blk t).view.emb y = ix2 (y 0) (y 1) := by
  blk_ext [blocks t]

theorem stored5 (c : Dev nD) (t : Fin cfg0.N) : (outsAt0 m c t.val t.isLt).1
    = k0_pay7 (iblk m c 2 t) (iblk m c 3 t) (iblk m c 4 t) := by
  by_cases h : t.val % 16 = 0
  · rw [outsAt0_A m c t h]
    frame_out
  · rw [outsAt0_B m c t h]
    frame_out

theorem stored6 (c : Dev nD) (t : Fin cfg0.N) : (outsAt0 m c t.val t.isLt).2.1
    = k0_pay8 (iblk m c 2 t) (iblk m c 3 t) (iblk m c 4 t) := by
  by_cases h : t.val % 16 = 0
  · rw [outsAt0_A m c t h]
    frame_out
  · rw [outsAt0_B m c t h]
    frame_out

theorem stored7 (c : Dev nD) (t : Fin cfg0.N) : (outsAt0 m c t.val t.isLt).2.2.1
    = k0_pay9 (iblk m c 0 t) (iblk m c 1 t) (iblk m c 2 t) (iblk m c 3 t) (iblk m c 4 t) := by
  by_cases h : t.val % 16 = 0
  · rw [outsAt0_A m c t h]
    frame_out
  · rw [outsAt0_B m c t h]
    frame_out

/-- What the rows of grid point `t` add to the column sums (output 8). -/
def part8 (c : Dev nD) (t : Fin cfg0.N) (y : S1x2048.Idx) : EReal :=
  k0_pay6 (F := Ideal) (iblk m c 0 t) (iblk m c 1 t) (iblk m c 2 t) (iblk m c 3 t) (iblk m c 4 t) y

theorem first8 (c : Dev nD) (t : Fin cfg0.N) (h : t.val % 16 = 0) (y) :
    (outsAt0 m c t.val t.isLt).2.2.2 y = 0 + part8 m c t y := by
  rw [outsAt0_A m c t h]
  frame_out
  pointwise [k0_pay2, k0_pay1]
  rfl

theorem next8 (c : Dev nD) (t : Fin cfg0.N) (h : ¬t.val % 16 = 0) (y) :
    (outsAt0 m c t.val t.isLt).2.2.2 y
      = ((outsAt0 m c (t.val - 1) (Nat.lt_of_le_of_lt (Nat.sub_le _ _) t.isLt)).2.2.2 y : EReal) + part8 m c t y := by
  rw [outsAt0_B m c t h]
  frame_out
  pointwise [k0_pay2]
  rfl

/-- After the last grid point output 8 holds the sum of the parts. -/
theorem summed8 (c : Dev nD) (t : Fin cfg0.N) (h : t.val % 16 = 15) (y : S1x2048.Idx) :
    (show FVec Ideal S1x2048 .f32 from (outsAt0 m c t.val t.isLt).2.2.2) y
      = ∑ s : Fin 16, part8 m c ⟨16 * (t.val / 16) + s.val, Pipeline.run_point_lt_of_flush t h s⟩ y := by
  have e := Pipeline.eq_sum_fin_of_reset_step_apply_of_flush
    (fun n h => (show S1x2048.Idx → EReal from (outsAt0 m c n h).2.2.2)) 16 (fun _ => 0) (part8 m c)
    (first8 m c) (next8 m c) t h y
  rw [zero_add] at e
  exact e

/-- Kernel and reference leave the same arrays. -/
theorem value : Cert.algebraic_KernelMergeBwdIdeal_ReferenceMergeBwdIdeal := by
  pair_intro
  · run_from Cert.KernelMergeBwdIdeal.Gen.run_main m g
  · run_from Cert.ReferenceMergeBwdIdeal.Value.run m' g'
    · refine ((dats m 0 c).arrAt_eq_of_covers 5 _ (by decide +kernel) fun t hf y => ?_).symm
      rw [place5 t y]
      blk_simp
      rw [after0_5, stored5, in2 m c t, in3 m c t, in4 m c t]
      pointwise [k0_pay3, k0_pay4, k0_pay7, Ideal.logistic]
    · refine ((dats m 0 c).arrAt_eq_of_covers 6 _ (by decide +kernel) fun t hf y => ?_).symm
      rw [place6 t y]
      blk_simp
      rw [after0_6, stored6, in2 m c t, in3 m c t, in4 m c t]
      pointwise [k0_pay3, k0_pay4, k0_pay8, Ideal.logistic]
    · refine ((dats m 0 c).arrAt_eq_of_covers 7 _ (by decide +kernel) fun t hf y => ?_).symm
      rw [place7 t y]
      blk_simp
      rw [after0_7, stored7, in0 m c t, in1 m c t, in2 m c t, in3 m c t, in4 m c t]
      pointwise [k0_pay3, k0_pay4, k0_pay5, k0_pay9, (hagree c).2.2.2.2, Ideal.logistic]
      by_cases hc : (y 1).val < 1024
      · simp only [dif_pos hc, zero_add]
      · simp only [dif_neg hc, add_zero]
    · refine ((dats m 0 c).arrAt_eq_of_covers 8 _ (by decide +kernel) fun t hf y => ?_).symm
      have h := (flush0_8 t).mp hf
      rw [place8 t y]
      blk_simp
      rw [after0_8]
      refine (summed8 m c t h y).trans ?_
      simp only [part8, in0 m c, in1 m c, in2 m c, in3 m c, in4 m c]
      pointwise [k0_pay3, k0_pay4, k0_pay5, k0_pay6, Ideal.logistic, (hagree c).2.2.2.2]
      refine Fin.sum_mul_add_congr fun s k hl => ?_
      have ht : t.val < 16 := t.isLt
      have e : row ⟨16 * (t.val / 16) + s.val, Pipeline.run_point_lt_of_flush t h s⟩ k = ⟨s.val * 512 + k.val, hl⟩ :=
        Fin.ext (by show (16 * (t.val / 16) + s.val) * 512 + k.val = s.val * 512 + k.val; omega)
      rw [e]
      by_cases hc : (y 1).val < 1024
      · simp only [dif_pos hc, zero_add]
      · simp only [dif_neg hc, add_zero]

end Cert.KernelMergeBwdIdeal.Array

end
-- ==== Proof.MergeFwdValue.lean ====
module

public import proofs.«01_k».proof.Proof.Gen.KernelMergeFwdIdeal.Frame
public import proofs.«01_k».proof.Proof.Gen.KernelMergeFwdIdeal.Points
public import proofs.«01_k».proof.Proof.Gen.KernelMergeFwdIdeal.Launch
public import proofs.«01_k».proof.Proof.Gen.ReferenceMergeFwdIdeal.Run
public import Idealize.ShloMosaic.Lib.Pipeline.ValueKit
public import Idealize.ShloMosaic.Lib.Claim
public import proofs.«01_k».proof.Defs

/-!
The gated merge of the two branches.
-/

@[expose] public section

set_option maxRecDepth 16384

noncomputable section

namespace Cert.KernelMergeFwdIdeal.Array

open Cert.KernelMergeFwdIdeal Cert.KernelMergeFwdIdeal.Gen
open Idealize.ShloMosaic Idealize.ShloMosaic.TcCoe Idealize.SL.Sem
open Idealize.ShloMosaic.Pipeline (Dat)

variable (m : (ℓ : Loc nD τ sig) → Buf (Elt Ideal) ℓ)

/-- Which block each window holds at grid point `t`. -/
theorem blocks : ∀ t : Fin cfg0.N, win0_0.index t = ![t.val, 0]
    ∧ win0_1.index t = ![t.val, 0]
    ∧ win0_2.index t = ![t.val, 0]
    ∧ win0_3.index t = ![0, 0]
    ∧ win0_4.index t = ![t.val, 0] :=
  (by decide +kernel : ∀ t : Fin grid0.N, _)

/-- Row `r` of the block of grid point `t`, counted in the whole array. -/
abbrev row (t : Fin cfg0.N) (r : Fin 512) : Fin 8192 :=
  ⟨t.val * 512 + r.val, by have h : t.val < 16 := t.isLt; omega⟩

/-- Input 0 at grid point `t`: the rows of the block. -/
theorem in0 (c : Dev nD) (t : Fin cfg0.N) : iblk m c 0 t
    = fun i => m ((c : Thread nD τ).loc main_arg0) (ix2 (row t (i 0)) (i 1)) := by
  funext i
  blk_point [iblk, V, blocks t]

/-- Input 1 at grid point `t`: the rows of the block. -/
theorem in1 (c : Dev nD) (t : Fin cfg0.N) : iblk m c 1 t
    = fun i => m ((c : Thread nD τ).loc main_arg1) (ix2 (row t (i 0)) (i 1)) := by
  funext i
  blk_point [iblk, V, blocks t]

/-- Input 2 at grid point `t`: the rows of the block. -/
theorem in2 (c : Dev nD) (t : Fin cfg0.N) : iblk m c 2 t
    = fun i => m ((c : Thread nD τ).loc main_arg2) (ix2 (row t (i 0)) (i 1)) := by
  funext i
  blk_point [iblk, V, blocks t]

/-- Input 3 is staged whole. -/
theorem in3 (c : Dev nD) (t : Fin cfg0.N) : iblk m c 3 t = m ((c : Thread nD τ).loc main_arg3) := by
  funext i
  blk_point [iblk, V, blocks t]

/-- Where the block of output 4 at grid point `t` lies in the array. -/
theorem place4 (t : Fin cfg0.N) (y : ((cfg0.win 4).xblock (cfg0.grid.coords t)).Idx) :
    ((cfg0.win 4).blk t).view.emb y = ix2 (row t (y 0)) (y 1) := by
  blk_ext [blocks t]

/-- Kernel and reference leave the same array. -/
theorem value : Cert.algebraic_KernelMergeFwdIdeal_ReferenceMergeFwdIdeal := by
  pair_intro
  · run_from Cert.KernelMergeFwdIdeal.Gen.run_main m g
  · run_from Cert.ReferenceMergeFwdIdeal.Value.run m' g'
    refine ((dats m 0 c).arrAt_eq_of_covers 4 _ (by decide +kernel) fun t hf y => ?_).symm
    rw [place4 t y]
    blk_simp
    rw [after0_4]
    frame_out
    rw [in0 m c t, in1 m c t, in2 m c t, in3 m c t]
    pointwise [k0_pay1, Ideal.logistic]

end Cert.KernelMergeFwdIdeal.Array

end
-- ==== Proof.ActBwdValue.lean ====
module

public import proofs.«01_k».proof.Proof.Gen.KernelActBwdIdeal.Frame
public import proofs.«01_k».proof.Proof.Gen.KernelActBwdIdeal.Points
public import proofs.«01_k».proof.Proof.Gen.KernelActBwdIdeal.Launch
public import proofs.«01_k».proof.Proof.Gen.ReferenceActBwdIdeal.Run
public import Idealize.ShloMosaic.Lib.Pipeline.ValueKit
public import Idealize.ShloMosaic.Lib.Claim
public import proofs.«01_k».proof.Defs

/-!
Gradient of the gated activation.
-/

@[expose] public section

set_option maxRecDepth 16384

noncomputable section

namespace Cert.KernelActBwdIdeal.Array

open Cert.KernelActBwdIdeal Cert.KernelActBwdIdeal.Gen
open Idealize.ShloMosaic Idealize.ShloMosaic.TcCoe Idealize.SL.Sem
open Idealize.ShloMosaic.Pipeline (Dat)

variable (m : (ℓ : Loc nD τ sig) → Buf (Elt Ideal) ℓ)

/-- Which block each window holds at grid point `t`. -/
theorem blocks : ∀ t : Fin cfg0.N, win0_0.index t = ![t.val, 0]
    ∧ win0_1.index t = ![t.val, 0]
    ∧ win0_2.index t = ![t.val, 0] :=
  (by decide +kernel : ∀ t : Fin grid0.N, _)

/-- Row `r` of the block of grid point `t`, counted in the whole array. -/
abbrev row (t : Fin cfg0.N) (r : Fin 256) : Fin 8192 :=
  ⟨t.val * 256 + r.val, by have h : t.val < 32 := t.isLt; omega⟩

/-- Input 0 at grid point `t`: the rows of the block. -/
theorem in0 (c : Dev nD) (t : Fin cfg0.N) : iblk m c 0 t
    = fun i => m ((c : Thread nD τ).loc main_arg0) (ix2 (row t (i 0)) (i 1)) := by
  funext i
  blk_point [iblk, V, blocks t]

/-- Input 1 at grid point `t`: the rows of the block. -/
theorem in1 (c : Dev nD) (t : Fin cfg0.N) : iblk m c 1 t
    = fun i => m ((c : Thread nD τ).loc main_arg1) (ix2 (row t (i 0)) (i 1)) := by
  funext i
  blk_point [iblk, V, blocks t]

/-- Where the block of output 2 at grid point `t` lies in the array. -/
theorem place2 (t : Fin cfg0.N) (y : ((cfg0.win 2).xblock (cfg0.grid.coords t)).Idx) :
    ((cfg0.win 2).blk t).view.emb y = ix2 (row t (y 0)) (y 1) := by
  blk_ext [blocks t]

/-- Kernel and reference leave the same array. -/
theorem value : Cert.algebraic_KernelActBwdIdeal_ReferenceActBwdIdeal := by
  pair_intro
  · run_from Cert.KernelActBwdIdeal.Gen.run_main m g
  · run_from Cert.ReferenceActBwdIdeal.Value.run m' g'
    refine ((dats m 0 c).arrAt_eq_of_covers 2 _ (by decide +kernel) fun t hf y => ?_).symm
    rw [place2 t y]
    blk_simp
    rw [after0_2]
    frame_out
    rw [in0 m c t, in1 m c t]
    pointwise [k0_pay1, Ideal.logistic]
    by_cases h : (y 1).val < 2816
    · simp only [dif_pos h, zero_add]
    · simp only [dif_neg h, add_zero]

end Cert.KernelActBwdIdeal.Array

end
-- ==== Proof.RmsBwdValue.lean ====
module

public import proofs.«01_k».proof.Proof.Gen.KernelRmsBwdIdeal.Frame
public import proofs.«01_k».proof.Proof.Gen.KernelRmsBwdIdeal.Points
public import proofs.«01_k».proof.Proof.Gen.KernelRmsBwdIdeal.Launch
public import proofs.«01_k».proof.Proof.Gen.ReferenceRmsBwdIdeal.Run
public import Idealize.ShloMosaic.Lib.Pipeline.ValueKit
public import Idealize.ShloMosaic.Lib.Claim
public import proofs.«01_k».proof.Defs

/-!
Gradient of the row norm, added to the gradient that comes along the residual.
-/

@[expose] public section

set_option maxRecDepth 16384

noncomputable section

namespace Cert.KernelRmsBwdIdeal.Array

open Cert.KernelRmsBwdIdeal Cert.KernelRmsBwdIdeal.Gen
open Idealize.ShloMosaic Idealize.ShloMosaic.TcCoe Idealize.SL.Sem
open Idealize.ShloMosaic.Pipeline (Dat)

variable (m : (ℓ : Loc nD τ sig) → Buf (Elt Ideal) ℓ)

/-- Which block each window holds at grid point `t`. -/
theorem blocks : ∀ t : Fin cfg0.N, win0_0.index t = ![t.val, 0]
    ∧ win0_1.index t = ![0, 0]
    ∧ win0_2.index t = ![t.val, 0]
    ∧ win0_3.index t = ![t.val, 0]
    ∧ win0_4.index t = ![t.val, 0]
    ∧ win0_5.index t = ![t.val, 0]
    ∧ win0_6.index t = ![0, 0] :=
  (by decide +kernel : ∀ t : Fin grid0.N, _)

/-- Row `r` of the block of grid point `t`, counted in the whole array. -/
abbrev row (t : Fin cfg0.N) (r : Fin 512) : Fin 8192 :=
  ⟨t.val * 512 + r.val, by have h : t.val < 16 := t.isLt; omega⟩

/-- Input 0 at grid point `t`: the rows of the block. -/
theorem in0 (c : Dev nD) (t : Fin cfg0.N) : iblk m c 0 t
    = fun i => m ((c : Thread nD τ).loc main_arg0) (ix2 (row t (i 0)) (i 1)) := by
  funext i
  blk_point [iblk, V, blocks t]

/-- Input 1 is staged whole. -/
theorem in1 (c : Dev nD) (t : Fin cfg0.N) : iblk m c 1 t = m ((c : Thread nD τ).loc main_arg1) := by
  funext i
  blk_point [iblk, V, blocks t]

/-- Input 2 at grid point `t`: the rows of the block. -/
theorem in2 (c : Dev nD) (t : Fin cfg0.N) : iblk m c 2 t
    = fun i => m ((c : Thread nD τ).loc main_arg2) (ix2 (row t (i 0)) (i 1)) := by
  funext i
  blk_point [iblk, V, blocks t]

/-- Input 3 at grid point `t`: the rows of the block. -/
theorem in3 (c : Dev nD) (t : Fin cfg0.N) : iblk m c 3 t
    = fun i => m ((c : Thread nD τ).loc main_arg3) (ix2 (row t (i 0)) (i 1)) := by
  funext i
  blk_point [iblk, V, blocks t]

/-- Where the block of output 4 at grid point `t` lies in the array. -/
theorem place4 (t : Fin cfg0.N) (y : ((cfg0.win 4).xblock (cfg0.grid.coords t)).Idx) :
    ((cfg0.win 4).blk t).view.emb y = ix2 (row t (y 0)) (y 1) := by
  blk_ext [blocks t]

/-- Where the block of output 5 at grid point `t` lies in the array. -/
theorem place5 (t : Fin cfg0.N) (y : ((cfg0.win 5).xblock (cfg0.grid.coords t)).Idx) :
    ((cfg0.win 5).blk t).view.emb y = ix2 (row t (y 0)) (y 1) := by
  blk_ext [blocks t]

/-- Output 6 is written whole. -/
theorem place6 (t : Fin cfg0.N) (y : ((cfg0.win 6).xblock (cfg0.grid.coords t)).Idx) :
    ((cfg0.win 6).blk t).view.emb y = ix2 (y 0) (y 1) := by
  blk_ext [blocks t]

theorem stored4 (c : Dev nD) (t : Fin cfg0.N) : (outsAt0 m c t.val t.isLt).1
    = k0_pay6 (iblk m c 0 t) (iblk m c 1 t) (iblk m c 2 t) (iblk m c 3 t) := by
  by_cases h : t.val % 16 = 0
  · rw [outsAt0_A m c t h]
    frame_out
  · rw [outsAt0_B m c t h]
    frame_out

theorem stored5 (c : Dev nD) (t : Fin cfg0.N) : (outsAt0 m c t.val t.isLt).2.1
    = k0_pay7 (iblk m c 0 t) (iblk m c 1 t) (iblk m c 2 t) (iblk m c 3 t) := by
  by_cases h : t.val % 16 = 0
  · rw [outsAt0_A m c t h]
    frame_out
  · rw [outsAt0_B m c t h]
    frame_out

/-- What the rows of grid point `t` add to the column sums (output 6). -/
def part6 (c : Dev nD) (t : Fin cfg0.N) (y : S1x1024.Idx) : EReal :=
  k0_pay5 (F := Ideal) (iblk m c 0 t) (iblk m c 2 t) y

theorem first6 (c : Dev nD) (t : Fin cfg0.N) (h : t.val % 16 = 0) (y) :
    (outsAt0 m c t.val t.isLt).2.2 y = 0 + part6 m c t y := by
  rw [outsAt0_A m c t h]
  frame_out
  pointwise [k0_pay2, k0_pay1]
  rfl

theorem next6 (c : Dev nD) (t : Fin cfg0.N) (h : ¬t.val % 16 = 0) (y) :
    (outsAt0 m c t.val t.isLt).2.2 y
      = ((outsAt0 m c (t.val - 1) (Nat.lt_of_le_of_lt (Nat.sub_le _ _) t.isLt)).2.2 y : EReal) + part6 m c t y := by
  rw [outsAt0_B m c t h]
  frame_out
  pointwise [k0_pay2]
  rfl

/-- After the last grid point output 6 holds the sum of the parts. -/
theorem summed6 (c : Dev nD) (t : Fin cfg0.N) (h : t.val % 16 = 15) (y : S1x1024.Idx) :
    (show FVec Ideal S1x1024 .f32 from (outsAt0 m c t.val t.isLt).2.2) y
      = ∑ s : Fin 16, part6 m c ⟨16 * (t.val / 16) + s.val, Pipeline.run_point_lt_of_flush t h s⟩ y := by
  have e := Pipeline.eq_sum_fin_of_reset_step_apply_of_flush
    (fun n h => (show S1x1024.Idx → EReal from (outsAt0 m c n h).2.2)) 16 (fun _ => 0) (part6 m c)
    (first6 m c) (next6 m c) t h y
  rw [zero_add] at e
  exact e

/-- Kernel and reference leave the same arrays. -/
theorem value : Cert.algebraic_KernelRmsBwdIdeal_ReferenceRmsBwdIdeal := by
  pair_intro
  · run_from Cert.KernelRmsBwdIdeal.Gen.run_main m g
  · refine θ_run_mono (Cert.ReferenceRmsBwdIdeal.Value.run m' g') ?_
    intro r hr c
    obtain ⟨h0, h1, h2, kept⟩ := hr c
    obtain ⟨a0, a1, a2, a3⟩ := hagree c
    refine ⟨h0.trans ?_, h1.trans ?_, h2.trans ?_, kept⟩
    · clear h0 h1 h2 kept hr
      refine ((dats m 0 c).arrAt_eq_of_covers 4 _ (by decide +kernel) fun t hf y => ?_).symm
      rw [place4 t y]
      blk_simp
      rw [after0_4, stored4, in0 m c t, in1 m c t, in2 m c t, in3 m c t]
      pointwise [k0_pay3, k0_pay4, k0_pay5, k0_pay6, k0_pay7, a0, a1, a2, a3, Ideal.logistic]
    · clear h0 h1 h2 kept hr
      refine ((dats m 0 c).arrAt_eq_of_covers 5 _ (by decide +kernel) fun t hf y => ?_).symm
      rw [place5 t y]
      blk_simp
      rw [after0_5, stored5, in0 m c t, in1 m c t, in2 m c t, in3 m c t]
      pointwise [k0_pay3, k0_pay4, k0_pay5, k0_pay6, k0_pay7, a0, a1, a2, a3, Ideal.logistic]
    · clear h0 h1 h2 kept hr
      refine ((dats m 0 c).arrAt_eq_of_covers 6 _ (by decide +kernel) fun t hf y => ?_).symm
      have h := (flush0_6 t).mp hf
      rw [place6 t y]
      blk_simp
      rw [after0_6]
      refine (summed6 m c t h y).trans ?_
      simp only [part6, in0 m c, in2 m c]
      pointwise [k0_pay3, k0_pay4, k0_pay5, k0_pay6, k0_pay7, a0, a1, a2, a3]
      refine Fin.sum_mul_add_congr fun s k hl => ?_
      have ht : t.val < 16 := t.isLt
      have e : row ⟨16 * (t.val / 16) + s.val, Pipeline.run_point_lt_of_flush t h s⟩ k = ⟨s.val * 512 + k.val, hl⟩ :=
        Fin.ext (by show (16 * (t.val / 16) + s.val) * 512 + k.val = s.val * 512 + k.val; omega)
      rw [e]

end Cert.KernelRmsBwdIdeal.Array

end
-- ==== Proof.RmsFwdValue.lean ====
module

public import proofs.«01_k».proof.Proof.Gen.KernelRmsFwdIdeal.Frame
public import proofs.«01_k».proof.Proof.Gen.KernelRmsFwdIdeal.Points
public import proofs.«01_k».proof.Proof.Gen.KernelRmsFwdIdeal.Launch
public import proofs.«01_k».proof.Proof.Gen.ReferenceRmsFwdIdeal.Run
public import Idealize.ShloMosaic.Lib.Pipeline.ValueKit
public import Idealize.ShloMosaic.Lib.Claim
public import proofs.«01_k».proof.Defs

/-!
The scaled rows.
-/

@[expose] public section

set_option maxRecDepth 16384

noncomputable section

namespace Cert.KernelRmsFwdIdeal.Array

open Cert.KernelRmsFwdIdeal Cert.KernelRmsFwdIdeal.Gen
open Idealize.ShloMosaic Idealize.ShloMosaic.TcCoe Idealize.SL.Sem
open Idealize.ShloMosaic.Pipeline (Dat)

variable (m : (ℓ : Loc nD τ sig) → Buf (Elt Ideal) ℓ)

/-- Which block each window holds at grid point `t`. -/
theorem blocks : ∀ t : Fin cfg0.N, win0_0.index t = ![t.val, 0]
    ∧ win0_1.index t = ![0, 0]
    ∧ win0_2.index t = ![t.val, 0] :=
  (by decide +kernel : ∀ t : Fin grid0.N, _)

/-- Row `r` of the block of grid point `t`, counted in the whole array. -/
abbrev row (t : Fin cfg0.N) (r : Fin 512) : Fin 8192 :=
  ⟨t.val * 512 + r.val, by have h : t.val < 16 := t.isLt; omega⟩

/-- Input 0 at grid point `t`: the rows of the block. -/
theorem in0 (c : Dev nD) (t : Fin cfg0.N) : iblk m c 0 t
    = fun i => m ((c : Thread nD τ).loc main_arg0) (ix2 (row t (i 0)) (i 1)) := by
  funext i
  blk_point [iblk, V, blocks t]

/-- Input 1 is staged whole. -/
theorem in1 (c : Dev nD) (t : Fin cfg0.N) : iblk m c 1 t = m ((c : Thread nD τ).loc main_arg1) := by
  funext i
  blk_point [iblk, V, blocks t]

/-- Where the block of output 2 at grid point `t` lies in the array. -/
theorem place2 (t : Fin cfg0.N) (y : ((cfg0.win 2).xblock (cfg0.grid.coords t)).Idx) :
    ((cfg0.win 2).blk t).view.emb y = ix2 (row t (y 0)) (y 1) := by
  blk_ext [blocks t]

/-- Kernel and reference leave the same array. -/
theorem value : Cert.algebraic_KernelRmsFwdIdeal_ReferenceRmsFwdIdeal := by
  pair_intro
  · run_from Cert.KernelRmsFwdIdeal.Gen.run_main m g
  · run_from Cert.ReferenceRmsFwdIdeal.Value.run m' g'
    refine ((dats m 0 c).arrAt_eq_of_covers 2 _ (by decide +kernel) fun t hf y => ?_).symm
    rw [place2 t y]
    blk_simp
    rw [after0_2]
    frame_out
    rw [in0 m c t, in1 m c t]
    pointwise [k0_pay1, Ideal.logistic]

end Cert.KernelRmsFwdIdeal.Array

end
-- ==== Proof.PostBwdValue.lean ====
module

public import proofs.«01_k».proof.Proof.Gen.KernelPostBwdIdeal.Frame
public import proofs.«01_k».proof.Proof.Gen.KernelPostBwdIdeal.Points
public import proofs.«01_k».proof.Proof.Gen.KernelPostBwdIdeal.Launch
public import proofs.«01_k».proof.Proof.Gen.ReferencePostBwdIdeal.Run
public import Idealize.ShloMosaic.Lib.Pipeline.ValueKit
public import Idealize.ShloMosaic.Lib.Claim
public import proofs.«01_k».proof.Defs

/-!
Gradient of the merge of the recurrence with its gate, and of the gated, grouped norm of the state-space branch.
-/

@[expose] public section

set_option maxRecDepth 16384

noncomputable section

namespace Cert.KernelPostBwdIdeal.Array

open Cert.KernelPostBwdIdeal Cert.KernelPostBwdIdeal.Gen
open Idealize.ShloMosaic Idealize.ShloMosaic.TcCoe Idealize.SL.Sem
open Idealize.ShloMosaic.Pipeline (Dat)

variable (m : (ℓ : Loc nD τ sig) → Buf (Elt Ideal) ℓ)

/-- Which block each window holds at grid point `t`. -/
theorem blocks : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![0, 0]
    ∧ win0_6.index t = ![0, 0]
    ∧ win0_7.index t = ![t.val, 0]
    ∧ win0_8.index t = ![t.val, 0]
    ∧ win0_9.index t = ![t.val, 0]
    ∧ win0_10.index t = ![t.val, 0]
    ∧ win0_11.index t = ![t.val, 0]
    ∧ win0_12.index t = ![t.val, 0]
    ∧ win0_13.index t = ![t.val, 0]
    ∧ win0_14.index t = ![0, 0]
    ∧ win0_15.index t = ![0, 0] :=
  (by decide +kernel : ∀ t : Fin grid0.N, _)

/-- Row `r` of the block of grid point `t`, counted in the whole array. -/
abbrev row (t : Fin cfg0.N) (r : Fin 128) : Fin 8192 :=
  ⟨t.val * 128 + r.val, by have h : t.val < 64 := t.isLt; omega⟩

/-- Input 0 at grid point `t`: the rows of the block. -/
theorem in0 (c : Dev nD) (t : Fin cfg0.N) : iblk m c 0 t
    = fun i => m ((c : Thread nD τ).loc main_arg0) (ix2 (row t (i 0)) (i 1)) := by
  funext i
  blk_point [iblk, V, blocks t]

/-- Input 1 at grid point `t`: the rows of the block. -/
theorem in1 (c : Dev nD) (t : Fin cfg0.N) : iblk m c 1 t
    = fun i => m ((c : Thread nD τ).loc main_arg1) (ix2 (row t (i 0)) (i 1)) := by
  funext i
  blk_point [iblk, V, blocks t]

/-- Input 2 at grid point `t`: the rows of the block. -/
theorem in2 (c : Dev nD) (t : Fin cfg0.N) : iblk m c 2 t
    = fun i => m ((c : Thread nD τ).loc main_arg2) (ix2 (row t (i 0)) (i 1)) := by
  funext i
  blk_point [iblk, V, blocks t]

/-- Input 4 at grid point `t`: the rows of the block. -/
theorem in4 (c : Dev nD) (t : Fin cfg0.N) : iblk m c 4 t
    = fun i => m ((c : Thread nD τ).loc main_arg4) (ix2 (row t (i 0)) (i 1)) := by
  funext i
  blk_point [iblk, V, blocks t]

/-- Input 7 at grid point `t`: the rows of the block. -/
theorem in7 (c : Dev nD) (t : Fin cfg0.N) : iblk m c 7 t
    = fun i => m ((c : Thread nD τ).loc main_arg7) (ix2 (row t (i 0)) (i 1)) := by
  funext i
  blk_point [iblk, V, blocks t]

/-- Input 8 at grid point `t`: the rows of the block. -/
theorem in8 (c : Dev nD) (t : Fin cfg0.N) : iblk m c 8 t
    = fun i => m ((c : Thread nD τ).loc main_arg8) (ix2 (row t (i 0)) (i 1)) := by
  funext i
  blk_point [iblk, V, blocks t]

/-- Input 5 is staged whole. -/
theorem in5 (c : Dev nD) (t : Fin cfg0.N) : iblk m c 5 t = m ((c : Thread nD τ).loc main_arg5) := by
  funext i
  blk_point [iblk, V, blocks t]

/-- Input 6 is staged whole. -/
theorem in6 (c : Dev nD) (t : Fin cfg0.N) : iblk m c 6 t = m ((c : Thread nD τ).loc main_arg6) := by
  funext i
  blk_point [iblk, V, blocks t]

/-- Where the block of output 9 at grid point `t` lies in the array. -/
theorem place9 (t : Fin cfg0.N) (y : ((cfg0.win 9).xblock (cfg0.grid.coords t)).Idx) :
    ((cfg0.win 9).blk t).view.emb y = ix2 (row t (y 0)) (y 1) := by
  blk_ext [blocks t]

/-- Where the block of output 10 at grid point `t` lies in the array. -/
theorem place10 (t : Fin cfg0.N) (y : ((cfg0.win 10).xblock (cfg0.grid.coords t)).Idx) :
    ((cfg0.win 10).blk t).view.emb y = ix2 (row t (y 0)) (y 1) := by
  blk_ext [blocks t]

/-- Where the block of output 11 at grid point `t` lies in the array. -/
theorem place11 (t : Fin cfg0.N) (y : ((cfg0.win 11).xblock (cfg0.grid.coords t)).Idx) :
    ((cfg0.win 11).blk t).view.emb y = ix2 (row t (y 0)) (y 1) := by
  blk_ext [blocks t]

/-- Where the block of output 12 at grid point `t` lies in the array. -/
theorem place12 (t : Fin cfg0.N) (y : ((cfg0.win 12).xblock (cfg0.grid.coords t)).Idx) :
    ((cfg0.win 12).blk t).view.emb y = ix2 (row t (y 0)) (y 1) := by
  blk_ext [blocks t]

/-- Where the block of output 13 at grid point `t` lies in the array. -/
theorem place13 (t : Fin cfg0.N) (y : ((cfg0.win 13).xblock (cfg0.grid.coords t)).Idx) :
    ((cfg0.win 13).blk t).view.emb y = ix2 (row t (y 0)) (y 1) := by
  blk_ext [blocks t]

/-- Output 14 is written whole. -/
theorem place14 (t : Fin cfg0.N) (y : ((cfg0.win 14).xblock (cfg0.grid.coords t)).Idx) :
    ((cfg0.win 14).blk t).view.emb y = ix2 (y 0) (y 1) := by
  blk_ext [blocks t]

/-- Output 15 is written whole. -/
theorem place15 (t : Fin cfg0.N) (y : ((cfg0.win 15).xblock (cfg0.grid.coords t)).Idx) :
    ((cfg0.win 15).blk t).view.emb y = ix2 (y 0) (y 1) := by
  blk_ext [blocks t]

/-- Input 3 is the left part of a wider array. -/
theorem in3 (c : Dev nD) (t : Fin cfg0.N) : X0_3 m c t
    = fun y : S128x2048.Idx => m ((c : Thread nD τ).loc main_arg3) (ix2 (row t (y 0)) (⟨(y 1).val, by have h : (y 1).val < 2048 := (y 1).isLt; omega⟩ : Fin 3072)) := by
  funext y
  refine (dif_pos (moved0_3 t y)).trans ?_
  blk_point [iblk, V, blocks t]

/-- The mean square of the group of 512 columns in which column `j` lies, with the small constant. -/
def ms (g : Fin 2048 → EReal) (j : Fin 2048) : EReal :=
  Ideal.div (∑ k : Fin 512, g ⟨j.val / 512 * 512 + k.val, by omega⟩ * g ⟨j.val / 512 * 512 + k.val, by omega⟩)
    (Ideal.ofBits FTy.f32 0x44000000#32) + Ideal.ofBits FTy.f32 0x358637BD#32

/-- What the gradient `b` puts on each column of the group through the mean square. -/
def pull (g b : Fin 2048 → EReal) (j : Fin 2048) : EReal :=
  ∑ _x : Fin 1, Ideal.div ((∑ k : Fin 512, g ⟨j.val / 512 * 512 + k.val, by omega⟩ * b ⟨j.val / 512 * 512 + k.val, by omega⟩)
    * (Ideal.ofBits FTy.f32 0xBF000000#32 * Ideal.div (Ideal.rsqrt (ms g j)) (ms g j))) (Ideal.ofBits FTy.f32 0x44000000#32)

/-- Gradient of the grouped norm at one entry of a row: `g` the row, `b` the gradient of its normed entries. -/
def dnorm (g b : Fin 2048 → EReal) (j : Fin 2048) : EReal :=
  b j * Ideal.rsqrt (ms g j) + g j * pull g b j + pull g b j * g j

theorem dnorm_eq (g b : Fin 2048 → EReal) (j i : Fin 2048) (f : Fin 512 → Fin 2048) (hi : i.val = j.val)
    (hf : ∀ k, (f k).val = j.val / 512 * 512 + k.val) :
    b i * Ideal.rsqrt (Ideal.div (∑ k : Fin 512, g (f k) * g (f k)) (Ideal.ofBits FTy.f32 0x44000000#32) + Ideal.ofBits FTy.f32 0x358637BD#32)
      + g i * (∑ _x : Fin 1, Ideal.div ((∑ k : Fin 512, g (f k) * b (f k))
          * (Ideal.ofBits FTy.f32 0xBF000000#32 * Ideal.div (Ideal.rsqrt (Ideal.div (∑ k : Fin 512, g (f k) * g (f k)) (Ideal.ofBits FTy.f32 0x44000000#32) + Ideal.ofBits FTy.f32 0x358637BD#32))
            (Ideal.div (∑ k : Fin 512, g (f k) * g (f k)) (Ideal.ofBits FTy.f32 0x44000000#32) + Ideal.ofBits FTy.f32 0x358637BD#32))) (Ideal.ofBits FTy.f32 0x44000000#32))
      + (∑ _x : Fin 1, Ideal.div ((∑ k : Fin 512, g (f k) * b (f k))
          * (Ideal.ofBits FTy.f32 0xBF000000#32 * Ideal.div (Ideal.rsqrt (Ideal.div (∑ k : Fin 512, g (f k) * g (f k)) (Ideal.ofBits FTy.f32 0x44000000#32) + Ideal.ofBits FTy.f32 0x358637BD#32))
            (Ideal.div (∑ k : Fin 512, g (f k) * g (f k)) (Ideal.ofBits FTy.f32 0x44000000#32) + Ideal.ofBits FTy.f32 0x358637BD#32))) (Ideal.ofBits FTy.f32 0x44000000#32)) * g i
      = dnorm g b j := by
  obtain rfl : i = j := Fin.ext hi
  unfold dnorm pull ms
  have e : (fun k : Fin 512 => (⟨i.val / 512 * 512 + k.val, by omega⟩ : Fin 2048)) = f := funext fun k => Fin.ext (hf k).symm
  subst e
  rfl

/-- One entry of a row divided by the root mean square of its group. -/
def unit (g : Fin 2048 → EReal) (j : Fin 2048) : EReal := g j * Ideal.rsqrt (ms g j)

theorem unit_eq (g : Fin 2048 → EReal) (j i : Fin 2048) (f : Fin 512 → Fin 2048) (hi : i.val = j.val)
    (hf : ∀ k, (f k).val = j.val / 512 * 512 + k.val) :
    g i * Ideal.rsqrt (Ideal.div (∑ k : Fin 512, g (f k) * g (f k)) (Ideal.ofBits FTy.f32 0x44000000#32) + Ideal.ofBits FTy.f32 0x358637BD#32) = unit g j := by
  obtain rfl : i = j := Fin.ext hi
  unfold unit ms
  have e : (fun k : Fin 512 => (⟨i.val / 512 * 512 + k.val, by omega⟩ : Fin 2048)) = f := funext fun k => Fin.ext (hf k).symm
  subst e
  rfl

/-- The gradient at the gated branch: the kernel's four groups of columns, at one entry. -/
abbrev grad (y : Vec Ideal S128x2048 .f32) (x : Vec Ideal S128x2048 .f32) (z : Vec Ideal S128x2048 .bf16) (d : Vec Ideal S1x2048 .f32) (w : Vec Ideal S1x2048 .f32) (b : Vec Ideal S128x2048 .bf16) : FVec Ideal S128x2048 .f32 :=
  k0_pay50 (F := Ideal) (k0_pay23 y x (k0_pay7 z) d) (k0_pay47 (k0_pay28 y x (k0_pay7 z) d) (k0_pay30 y x (k0_pay7 z) d) (k0_pay31 y x (k0_pay7 z) d) (k0_pay33 y x (k0_pay7 z) d) (k0_pay36 (k0_pay34 y x (k0_pay7 z) d)) (k0_pay37 (k0_pay34 y x (k0_pay7 z) d)) (k0_pay44 w (k0_pay9 b)) (k0_pay45 w (k0_pay9 b)) (k0_pay46 w (k0_pay9 b) (k0_pay22 y x (k0_pay7 z) d))) (k0_pay48 (k0_pay25 y x (k0_pay7 z) d) (k0_pay43 w (k0_pay9 b))) (k0_pay49 (k0_pay23 y x (k0_pay7 z) d) (k0_pay26 y x (k0_pay7 z) d) (k0_pay43 w (k0_pay9 b)))

set_option maxHeartbeats 2000000 in
theorem grad_at (y : Vec Ideal S128x2048 .f32) (x : Vec Ideal S128x2048 .f32) (z : Vec Ideal S128x2048 .bf16) (d : Vec Ideal S1x2048 .f32) (w : Vec Ideal S1x2048 .f32) (b : Vec Ideal S128x2048 .bf16) (r : Fin 128) (k : Fin 2048) :
    (grad y x z d w b (ix2 r k) : EReal) = dnorm (fun j => k0_pay22 (F := Ideal) y x (k0_pay7 z) d (ix2 r j)) (fun j => k0_pay42 (F := Ideal) w (k0_pay9 b) (ix2 r j)) k := by
  pointwise [grad, k0_pay50, k0_pay47, k0_pay23, k0_pay28, k0_pay30, k0_pay29, k0_pay31, k0_pay33, k0_pay36, k0_pay35, k0_pay37, k0_pay34, k0_pay44, k0_pay45, k0_pay43, k0_pay46, k0_pay38, k0_pay39, k0_pay40, k0_pay48, k0_pay49, k0_pay25, k0_pay24, k0_pay26]
  generalize k0_pay22 (F := Ideal) y x (k0_pay7 z) d = G
  generalize k0_pay42 (F := Ideal) w (k0_pay9 b) = B
  by_cases h1 : k.val < 512
  · simp only [h1, show k.val < 1536 by omega, show k.val < 1024 by omega, ↓reduceDIte, zero_add]
    exact dnorm_eq (fun j => G (ix2 r j)) (fun j => B (ix2 r j)) k k (fun x => ⟨x.val, by omega⟩) rfl (fun x => by show x.val = _; omega)
  by_cases h2 : k.val < 1024
  · simp only [h1, h2, show k.val < 1536 by omega, ↓reduceDIte, zero_add, add_zero]
    exact dnorm_eq (fun j => G (ix2 r j)) (fun j => B (ix2 r j)) k ⟨512 + (k.val - 512), by omega⟩ (fun x => ⟨512 + x.val, by omega⟩) (by show 512 + (k.val - 512) = _; omega) (fun x => by show 512 + x.val = _; omega)
  by_cases h3 : k.val < 1536
  · simp only [h1, h2, h3, ↓reduceDIte, zero_add, add_zero]
    exact dnorm_eq (fun j => G (ix2 r j)) (fun j => B (ix2 r j)) k ⟨1024 + (k.val - 1024), by omega⟩ (fun x => ⟨1024 + x.val, by omega⟩) (by show 1024 + (k.val - 1024) = _; omega) (fun x => by show 1024 + x.val = _; omega)
  · simp only [h1, h2, h3, ↓reduceDIte, zero_add, add_zero]
    exact dnorm_eq (fun j => G (ix2 r j)) (fun j => B (ix2 r j)) k ⟨1536 + (k.val - 1536), by omega⟩ (fun x => ⟨1536 + x.val, by omega⟩) (by show 1536 + (k.val - 1536) = _; omega) (fun x => by show 1536 + x.val = _; omega)

/-- The gated state-space branch, before its norm. -/
def gated (y : FVec Ideal Cert.ReferencePostBwdIdeal.S8192x2048 .f32) (x : FVec Ideal Cert.ReferencePostBwdIdeal.S8192x3072 .f32) (z : FVec Ideal Cert.ReferencePostBwdIdeal.S8192x2048 .bf16) (d : FVec Ideal Cert.ReferencePostBwdIdeal.S1x2048 .f32)
    (i : Fin 8192) (j : Fin 2048) : EReal :=
  (y (ix2 i j) + d (ix2 (0 : Fin 1) j) * (x (ix2 i (⟨j.val, by omega⟩ : Fin 3072)) * Ideal.logistic (x (ix2 i (⟨j.val, by omega⟩ : Fin 3072)))))
    * (z (ix2 i j) * Ideal.logistic (z (ix2 i j)))

/-- The gradient of the normed entries. -/
def into (b : FVec Ideal Cert.ReferencePostBwdIdeal.S8192x2048 .bf16) (w : FVec Ideal Cert.ReferencePostBwdIdeal.S1x2048 .f32) (i : Fin 8192) (j : Fin 2048) : EReal :=
  b (ix2 i j) * w (ix2 (0 : Fin 1) j)

theorem gated_at (c : Dev nD) (t : Fin cfg0.N) (r : Fin 128) (j : Fin 2048) :
    (k0_pay22 (F := Ideal) (iblk m c 2 t) (X0_3 m c t) (k0_pay7 (iblk m c 4 t)) (iblk m c 5 t) (ix2 r j) : EReal) = gated (m ((c : Thread nD τ).loc main_arg2)) (m ((c : Thread nD τ).loc main_arg3)) (m ((c : Thread nD τ).loc main_arg4)) (m ((c : Thread nD τ).loc main_arg5)) (row t r) j := by
  rw [in2 m c t, in3 m c t, in4 m c t, in5 m c t]
  unfold gated
  pointwise [k0_pay22, k0_pay18, k0_pay17, k0_pay15, k0_pay21, k0_pay19, k0_pay7, Ideal.logistic]

theorem into_at (c : Dev nD) (t : Fin cfg0.N) (r : Fin 128) (j : Fin 2048) :
    (k0_pay42 (F := Ideal) (iblk m c 6 t) (k0_pay9 (iblk m c 8 t)) (ix2 r j) : EReal) = into (m ((c : Thread nD τ).loc main_arg8)) (m ((c : Thread nD τ).loc main_arg6)) (row t r) j := by
  rw [in6 m c t, in8 m c t]
  unfold into
  pointwise [k0_pay42, k0_pay9]

/-- The gradient at the gated branch, at one entry of the block of grid point `t`. -/
theorem grad_blk (c : Dev nD) (t : Fin cfg0.N) (r : Fin 128) (k : Fin 2048) :
    (grad (iblk m c 2 t) (X0_3 m c t) (iblk m c 4 t) (iblk m c 5 t) (iblk m c 6 t) (iblk m c 8 t) (ix2 r k) : EReal) = dnorm (gated (m ((c : Thread nD τ).loc main_arg2)) (m ((c : Thread nD τ).loc main_arg3)) (m ((c : Thread nD τ).loc main_arg4)) (m ((c : Thread nD τ).loc main_arg5)) (row t r)) (into (m ((c : Thread nD τ).loc main_arg8)) (m ((c : Thread nD τ).loc main_arg6)) (row t r)) k := by
  refine (grad_at _ _ _ _ _ _ r k).trans ?_
  exact congrArg₂ (fun g b => dnorm g b k) (funext fun j => gated_at m c t r j) (funext fun j => into_at m c t r j)

theorem stored9 (c : Dev nD) (t : Fin cfg0.N) : (outsAt0 m c t.val t.isLt).1
    = k0_pay55 (k0_pay8 (iblk m c 7 t)) (k0_pay14 (iblk m c 1 t)) := by
  by_cases h : t.val % 64 = 0
  · rw [outsAt0_A m c t h]
    frame_out
  · rw [outsAt0_B m c t h]
    frame_out

theorem stored10 (c : Dev nD) (t : Fin cfg0.N) : (outsAt0 m c t.val t.isLt).2.1
    = k0_pay56 (iblk m c 0 t) (k0_pay6 (iblk m c 1 t)) (k0_pay8 (iblk m c 7 t)) (k0_pay10 (iblk m c 1 t)) (k0_pay12 (iblk m c 1 t)) (k0_pay13 (iblk m c 1 t)) := by
  by_cases h : t.val % 64 = 0
  · rw [outsAt0_A m c t h]
    frame_out
  · rw [outsAt0_B m c t h]
    frame_out

theorem stored11 (c : Dev nD) (t : Fin cfg0.N) : (outsAt0 m c t.val t.isLt).2.2.1
    = k0_pay51 (k0_pay21 (k0_pay7 (iblk m c 4 t))) (k0_pay23 (iblk m c 2 t) (X0_3 m c t) (k0_pay7 (iblk m c 4 t)) (iblk m c 5 t)) (k0_pay47 (k0_pay28 (iblk m c 2 t) (X0_3 m c t) (k0_pay7 (iblk m c 4 t)) (iblk m c 5 t)) (k0_pay30 (iblk m c 2 t) (X0_3 m c t) (k0_pay7 (iblk m c 4 t)) (iblk m c 5 t)) (k0_pay31 (iblk m c 2 t) (X0_3 m c t) (k0_pay7 (iblk m c 4 t)) (iblk m c 5 t)) (k0_pay33 (iblk m c 2 t) (X0_3 m c t) (k0_pay7 (iblk m c 4 t)) (iblk m c 5 t)) (k0_pay36 (k0_pay34 (iblk m c 2 t) (X0_3 m c t) (k0_pay7 (iblk m c 4 t)) (iblk m c 5 t))) (k0_pay37 (k0_pay34 (iblk m c 2 t) (X0_3 m c t) (k0_pay7 (iblk m c 4 t)) (iblk m c 5 t))) (k0_pay44 (iblk m c 6 t) (k0_pay9 (iblk m c 8 t))) (k0_pay45 (iblk m c 6 t) (k0_pay9 (iblk m c 8 t))) (k0_pay46 (iblk m c 6 t) (k0_pay9 (iblk m c 8 t)) (k0_pay22 (iblk m c 2 t) (X0_3 m c t) (k0_pay7 (iblk m c 4 t)) (iblk m c 5 t)))) (k0_pay48 (k0_pay25 (iblk m c 2 t) (X0_3 m c t) (k0_pay7 (iblk m c 4 t)) (iblk m c 5 t)) (k0_pay43 (iblk m c 6 t) (k0_pay9 (iblk m c 8 t)))) (k0_pay49 (k0_pay23 (iblk m c 2 t) (X0_3 m c t) (k0_pay7 (iblk m c 4 t)) (iblk m c 5 t)) (k0_pay26 (iblk m c 2 t) (X0_3 m c t) (k0_pay7 (iblk m c 4 t)) (iblk m c 5 t)) (k0_pay43 (iblk m c 6 t) (k0_pay9 (iblk m c 8 t)))) := by
  by_cases h : t.val % 64 = 0
  · rw [outsAt0_A m c t h]
    frame_out
  · rw [outsAt0_B m c t h]
    frame_out

theorem stored12 (c : Dev nD) (t : Fin cfg0.N) : (outsAt0 m c t.val t.isLt).2.2.2.1
    = k0_pay54 (X0_3 m c t) (iblk m c 5 t) (k0_pay15 (X0_3 m c t)) (k0_pay16 (X0_3 m c t)) (k0_pay21 (k0_pay7 (iblk m c 4 t))) (k0_pay23 (iblk m c 2 t) (X0_3 m c t) (k0_pay7 (iblk m c 4 t)) (iblk m c 5 t)) (k0_pay47 (k0_pay28 (iblk m c 2 t) (X0_3 m c t) (k0_pay7 (iblk m c 4 t)) (iblk m c 5 t)) (k0_pay30 (iblk m c 2 t) (X0_3 m c t) (k0_pay7 (iblk m c 4 t)) (iblk m c 5 t)) (k0_pay31 (iblk m c 2 t) (X0_3 m c t) (k0_pay7 (iblk m c 4 t)) (iblk m c 5 t)) (k0_pay33 (iblk m c 2 t) (X0_3 m c t) (k0_pay7 (iblk m c 4 t)) (iblk m c 5 t)) (k0_pay36 (k0_pay34 (iblk m c 2 t) (X0_3 m c t) (k0_pay7 (iblk m c 4 t)) (iblk m c 5 t))) (k0_pay37 (k0_pay34 (iblk m c 2 t) (X0_3 m c t) (k0_pay7 (iblk m c 4 t)) (iblk m c 5 t))) (k0_pay44 (iblk m c 6 t) (k0_pay9 (iblk m c 8 t))) (k0_pay45 (iblk m c 6 t) (k0_pay9 (iblk m c 8 t))) (k0_pay46 (iblk m c 6 t) (k0_pay9 (iblk m c 8 t)) (k0_pay22 (iblk m c 2 t) (X0_3 m c t) (k0_pay7 (iblk m c 4 t)) (iblk m c 5 t)))) (k0_pay48 (k0_pay25 (iblk m c 2 t) (X0_3 m c t) (k0_pay7 (iblk m c 4 t)) (iblk m c 5 t)) (k0_pay43 (iblk m c 6 t) (k0_pay9 (iblk m c 8 t)))) (k0_pay49 (k0_pay23 (iblk m c 2 t) (X0_3 m c t) (k0_pay7 (iblk m c 4 t)) (iblk m c 5 t)) (k0_pay26 (iblk m c 2 t) (X0_3 m c t) (k0_pay7 (iblk m c 4 t)) (iblk m c 5 t)) (k0_pay43 (iblk m c 6 t) (k0_pay9 (iblk m c 8 t)))) := by
  by_cases h : t.val % 64 = 0
  · rw [outsAt0_A m c t h]
    frame_out
  · rw [outsAt0_B m c t h]
    frame_out

theorem stored13 (c : Dev nD) (t : Fin cfg0.N) : (outsAt0 m c t.val t.isLt).2.2.2.2.1
    = k0_pay1 (k0_pay52 (k0_pay7 (iblk m c 4 t)) (k0_pay18 (iblk m c 2 t) (X0_3 m c t) (iblk m c 5 t)) (k0_pay19 (k0_pay7 (iblk m c 4 t))) (k0_pay20 (k0_pay7 (iblk m c 4 t))) (k0_pay23 (iblk m c 2 t) (X0_3 m c t) (k0_pay7 (iblk m c 4 t)) (iblk m c 5 t)) (k0_pay47 (k0_pay28 (iblk m c 2 t) (X0_3 m c t) (k0_pay7 (iblk m c 4 t)) (iblk m c 5 t)) (k0_pay30 (iblk m c 2 t) (X0_3 m c t) (k0_pay7 (iblk m c 4 t)) (iblk m c 5 t)) (k0_pay31 (iblk m c 2 t) (X0_3 m c t) (k0_pay7 (iblk m c 4 t)) (iblk m c 5 t)) (k0_pay33 (iblk m c 2 t) (X0_3 m c t) (k0_pay7 (iblk m c 4 t)) (iblk m c 5 t)) (k0_pay36 (k0_pay34 (iblk m c 2 t) (X0_3 m c t) (k0_pay7 (iblk m c 4 t)) (iblk m c 5 t))) (k0_pay37 (k0_pay34 (iblk m c 2 t) (X0_3 m c t) (k0_pay7 (iblk m c 4 t)) (iblk m c 5 t))) (k0_pay44 (iblk m c 6 t) (k0_pay9 (iblk m c 8 t))) (k0_pay45 (iblk m c 6 t) (k0_pay9 (iblk m c 8 t))) (k0_pay46 (iblk m c 6 t) (k0_pay9 (iblk m c 8 t)) (k0_pay22 (iblk m c 2 t) (X0_3 m c t) (k0_pay7 (iblk m c 4 t)) (iblk m c 5 t)))) (k0_pay48 (k0_pay25 (iblk m c 2 t) (X0_3 m c t) (k0_pay7 (iblk m c 4 t)) (iblk m c 5 t)) (k0_pay43 (iblk m c 6 t) (k0_pay9 (iblk m c 8 t)))) (k0_pay49 (k0_pay23 (iblk m c 2 t) (X0_3 m c t) (k0_pay7 (iblk m c 4 t)) (iblk m c 5 t)) (k0_pay26 (iblk m c 2 t) (X0_3 m c t) (k0_pay7 (iblk m c 4 t)) (iblk m c 5 t)) (k0_pay43 (iblk m c 6 t) (k0_pay9 (iblk m c 8 t))))) := by
  by_cases h : t.val % 64 = 0
  · rw [outsAt0_A m c t h]
    frame_out
  · rw [outsAt0_B m c t h]
    frame_out

/-- What the rows of grid point `t` add to the column sums (output 14). -/
def part14 (c : Dev nD) (t : Fin cfg0.N) (y : S1x2048.Idx) : EReal :=
  k0_pay53 (F := Ideal) (k0_pay17 (X0_3 m c t)) (k0_pay21 (k0_pay7 (iblk m c 4 t))) (k0_pay23 (iblk m c 2 t) (X0_3 m c t) (k0_pay7 (iblk m c 4 t)) (iblk m c 5 t)) (k0_pay47 (k0_pay28 (iblk m c 2 t) (X0_3 m c t) (k0_pay7 (iblk m c 4 t)) (iblk m c 5 t)) (k0_pay30 (iblk m c 2 t) (X0_3 m c t) (k0_pay7 (iblk m c 4 t)) (iblk m c 5 t)) (k0_pay31 (iblk m c 2 t) (X0_3 m c t) (k0_pay7 (iblk m c 4 t)) (iblk m c 5 t)) (k0_pay33 (iblk m c 2 t) (X0_3 m c t) (k0_pay7 (iblk m c 4 t)) (iblk m c 5 t)) (k0_pay36 (k0_pay34 (iblk m c 2 t) (X0_3 m c t) (k0_pay7 (iblk m c 4 t)) (iblk m c 5 t))) (k0_pay37 (k0_pay34 (iblk m c 2 t) (X0_3 m c t) (k0_pay7 (iblk m c 4 t)) (iblk m c 5 t))) (k0_pay44 (iblk m c 6 t) (k0_pay9 (iblk m c 8 t))) (k0_pay45 (iblk m c 6 t) (k0_pay9 (iblk m c 8 t))) (k0_pay46 (iblk m c 6 t) (k0_pay9 (iblk m c 8 t)) (k0_pay22 (iblk m c 2 t) (X0_3 m c t) (k0_pay7 (iblk m c 4 t)) (iblk m c 5 t)))) (k0_pay48 (k0_pay25 (iblk m c 2 t) (X0_3 m c t) (k0_pay7 (iblk m c 4 t)) (iblk m c 5 t)) (k0_pay43 (iblk m c 6 t) (k0_pay9 (iblk m c 8 t)))) (k0_pay49 (k0_pay23 (iblk m c 2 t) (X0_3 m c t) (k0_pay7 (iblk m c 4 t)) (iblk m c 5 t)) (k0_pay26 (iblk m c 2 t) (X0_3 m c t) (k0_pay7 (iblk m c 4 t)) (iblk m c 5 t)) (k0_pay43 (iblk m c 6 t) (k0_pay9 (iblk m c 8 t)))) y

theorem first14 (c : Dev nD) (t : Fin cfg0.N) (h : t.val % 64 = 0) (y) :
    (outsAt0 m c t.val t.isLt).2.2.2.2.2.1 y = 0 + part14 m c t y := by
  rw [outsAt0_A m c t h]
  frame_out
  pointwise [k0_pay4, k0_pay2]
  rfl

theorem next14 (c : Dev nD) (t : Fin cfg0.N) (h : ¬t.val % 64 = 0) (y) :
    (outsAt0 m c t.val t.isLt).2.2.2.2.2.1 y
      = ((outsAt0 m c (t.val - 1) (Nat.lt_of_le_of_lt (Nat.sub_le _ _) t.isLt)).2.2.2.2.2.1 y : EReal) + part14 m c t y := by
  rw [outsAt0_B m c t h]
  frame_out
  pointwise [k0_pay4]
  rfl

/-- After the last grid point output 14 holds the sum of the parts. -/
theorem summed14 (c : Dev nD) (t : Fin cfg0.N) (h : t.val % 64 = 63) (y : S1x2048.Idx) :
    (show FVec Ideal S1x2048 .f32 from (outsAt0 m c t.val t.isLt).2.2.2.2.2.1) y
      = ∑ s : Fin 64, part14 m c ⟨64 * (t.val / 64) + s.val, Pipeline.run_point_lt_of_flush t h s⟩ y := by
  have e := Pipeline.eq_sum_fin_of_reset_step_apply_of_flush
    (fun n h => (show S1x2048.Idx → EReal from (outsAt0 m c n h).2.2.2.2.2.1)) 64 (fun _ => 0) (part14 m c)
    (first14 m c) (next14 m c) t h y
  rw [zero_add] at e
  exact e

/-- What the rows of grid point `t` add to the column sums (output 15). -/
def part15 (c : Dev nD) (t : Fin cfg0.N) (y : S1x2048.Idx) : EReal :=
  k0_pay41 (F := Ideal) (k0_pay9 (iblk m c 8 t)) (k0_pay22 (iblk m c 2 t) (X0_3 m c t) (k0_pay7 (iblk m c 4 t)) (iblk m c 5 t)) (k0_pay27 (iblk m c 2 t) (X0_3 m c t) (k0_pay7 (iblk m c 4 t)) (iblk m c 5 t)) (k0_pay32 (iblk m c 2 t) (X0_3 m c t) (k0_pay7 (iblk m c 4 t)) (iblk m c 5 t)) (k0_pay33 (iblk m c 2 t) (X0_3 m c t) (k0_pay7 (iblk m c 4 t)) (iblk m c 5 t)) (k0_pay34 (iblk m c 2 t) (X0_3 m c t) (k0_pay7 (iblk m c 4 t)) (iblk m c 5 t)) y

theorem first15 (c : Dev nD) (t : Fin cfg0.N) (h : t.val % 64 = 0) (y) :
    (outsAt0 m c t.val t.isLt).2.2.2.2.2.2 y = 0 + part15 m c t y := by
  rw [outsAt0_A m c t h]
  frame_out
  pointwise [k0_pay5, k0_pay3]
  rfl

theorem next15 (c : Dev nD) (t : Fin cfg0.N) (h : ¬t.val % 64 = 0) (y) :
    (outsAt0 m c t.val t.isLt).2.2.2.2.2.2 y
      = ((outsAt0 m c (t.val - 1) (Nat.lt_of_le_of_lt (Nat.sub_le _ _) t.isLt)).2.2.2.2.2.2 y : EReal) + part15 m c t y := by
  rw [outsAt0_B m c t h]
  frame_out
  pointwise [k0_pay5]
  rfl

/-- After the last grid point output 15 holds the sum of the parts. -/
theorem summed15 (c : Dev nD) (t : Fin cfg0.N) (h : t.val % 64 = 63) (y : S1x2048.Idx) :
    (show FVec Ideal S1x2048 .f32 from (outsAt0 m c t.val t.isLt).2.2.2.2.2.2) y
      = ∑ s : Fin 64, part15 m c ⟨64 * (t.val / 64) + s.val, Pipeline.run_point_lt_of_flush t h s⟩ y := by
  have e := Pipeline.eq_sum_fin_of_reset_step_apply_of_flush
    (fun n h => (show S1x2048.Idx → EReal from (outsAt0 m c n h).2.2.2.2.2.2)) 64 (fun _ => 0) (part15 m c)
    (first15 m c) (next15 m c) t h y
  rw [zero_add] at e
  exact e

set_option maxHeartbeats 2000000 in
theorem pay51_at (c : Dev nD) (t : Fin cfg0.N) (r : Fin 128) (k : Fin 2048) :
    ((k0_pay51 (k0_pay21 (k0_pay7 (iblk m c 4 t))) (k0_pay23 (iblk m c 2 t) (X0_3 m c t) (k0_pay7 (iblk m c 4 t)) (iblk m c 5 t)) (k0_pay47 (k0_pay28 (iblk m c 2 t) (X0_3 m c t) (k0_pay7 (iblk m c 4 t)) (iblk m c 5 t)) (k0_pay30 (iblk m c 2 t) (X0_3 m c t) (k0_pay7 (iblk m c 4 t)) (iblk m c 5 t)) (k0_pay31 (iblk m c 2 t) (X0_3 m c t) (k0_pay7 (iblk m c 4 t)) (iblk m c 5 t)) (k0_pay33 (iblk m c 2 t) (X0_3 m c t) (k0_pay7 (iblk m c 4 t)) (iblk m c 5 t)) (k0_pay36 (k0_pay34 (iblk m c 2 t) (X0_3 m c t) (k0_pay7 (iblk m c 4 t)) (iblk m c 5 t))) (k0_pay37 (k0_pay34 (iblk m c 2 t) (X0_3 m c t) (k0_pay7 (iblk m c 4 t)) (iblk m c 5 t))) (k0_pay44 (iblk m c 6 t) (k0_pay9 (iblk m c 8 t))) (k0_pay45 (iblk m c 6 t) (k0_pay9 (iblk m c 8 t))) (k0_pay46 (iblk m c 6 t) (k0_pay9 (iblk m c 8 t)) (k0_pay22 (iblk m c 2 t) (X0_3 m c t) (k0_pay7 (iblk m c 4 t)) (iblk m c 5 t)))) (k0_pay48 (k0_pay25 (iblk m c 2 t) (X0_3 m c t) (k0_pay7 (iblk m c 4 t)) (iblk m c 5 t)) (k0_pay43 (iblk m c 6 t) (k0_pay9 (iblk m c 8 t)))) (k0_pay49 (k0_pay23 (iblk m c 2 t) (X0_3 m c t) (k0_pay7 (iblk m c 4 t)) (iblk m c 5 t)) (k0_pay26 (iblk m c 2 t) (X0_3 m c t) (k0_pay7 (iblk m c 4 t)) (iblk m c 5 t)) (k0_pay43 (iblk m c 6 t) (k0_pay9 (iblk m c 8 t)))) : FVec Ideal S128x2048 .f32) (ix2 r k) : EReal)
      = dnorm (gated (m ((c : Thread nD τ).loc main_arg2)) (m ((c : Thread nD τ).loc main_arg3)) (m ((c : Thread nD τ).loc main_arg4)) (m ((c : Thread nD τ).loc main_arg5)) (row t r)) (into (m ((c : Thread nD τ).loc main_arg8)) (m ((c : Thread nD τ).loc main_arg6)) (row t r)) k * (((show FVec Ideal Cert.ReferencePostBwdIdeal.S8192x2048 .bf16 from (m ((c : Thread nD τ).loc main_arg4))) (ix2 (row t r) k)) * Ideal.logistic ((show FVec Ideal Cert.ReferencePostBwdIdeal.S8192x2048 .bf16 from (m ((c : Thread nD τ).loc main_arg4))) (ix2 (row t r) k))) := by
  have e := grad_blk m c t r k
  show mulf (F := Ideal) (grad (iblk m c 2 t) (X0_3 m c t) (iblk m c 4 t) (iblk m c 5 t) (iblk m c 6 t) (iblk m c 8 t)) (k0_pay21 (k0_pay7 (iblk m c 4 t))) (ix2 r k) = _
  generalize grad (iblk m c 2 t) (X0_3 m c t) (iblk m c 4 t) (iblk m c 5 t) (iblk m c 6 t) (iblk m c 8 t) = P at e ⊢
  rw [in4 m c t]
  pointwise [k0_pay21, k0_pay19, k0_pay7, Ideal.logistic]
  rw [e]

set_option maxHeartbeats 2000000 in
theorem pay52_at (c : Dev nD) (t : Fin cfg0.N) (r : Fin 128) (k : Fin 2048) :
    ((k0_pay52 (k0_pay7 (iblk m c 4 t)) (k0_pay18 (iblk m c 2 t) (X0_3 m c t) (iblk m c 5 t)) (k0_pay19 (k0_pay7 (iblk m c 4 t))) (k0_pay20 (k0_pay7 (iblk m c 4 t))) (k0_pay23 (iblk m c 2 t) (X0_3 m c t) (k0_pay7 (iblk m c 4 t)) (iblk m c 5 t)) (k0_pay47 (k0_pay28 (iblk m c 2 t) (X0_3 m c t) (k0_pay7 (iblk m c 4 t)) (iblk m c 5 t)) (k0_pay30 (iblk m c 2 t) (X0_3 m c t) (k0_pay7 (iblk m c 4 t)) (iblk m c 5 t)) (k0_pay31 (iblk m c 2 t) (X0_3 m c t) (k0_pay7 (iblk m c 4 t)) (iblk m c 5 t)) (k0_pay33 (iblk m c 2 t) (X0_3 m c t) (k0_pay7 (iblk m c 4 t)) (iblk m c 5 t)) (k0_pay36 (k0_pay34 (iblk m c 2 t) (X0_3 m c t) (k0_pay7 (iblk m c 4 t)) (iblk m c 5 t))) (k0_pay37 (k0_pay34 (iblk m c 2 t) (X0_3 m c t) (k0_pay7 (iblk m c 4 t)) (iblk m c 5 t))) (k0_pay44 (iblk m c 6 t) (k0_pay9 (iblk m c 8 t))) (k0_pay45 (iblk m c 6 t) (k0_pay9 (iblk m c 8 t))) (k0_pay46 (iblk m c 6 t) (k0_pay9 (iblk m c 8 t)) (k0_pay22 (iblk m c 2 t) (X0_3 m c t) (k0_pay7 (iblk m c 4 t)) (iblk m c 5 t)))) (k0_pay48 (k0_pay25 (iblk m c 2 t) (X0_3 m c t) (k0_pay7 (iblk m c 4 t)) (iblk m c 5 t)) (k0_pay43 (iblk m c 6 t) (k0_pay9 (iblk m c 8 t)))) (k0_pay49 (k0_pay23 (iblk m c 2 t) (X0_3 m c t) (k0_pay7 (iblk m c 4 t)) (iblk m c 5 t)) (k0_pay26 (iblk m c 2 t) (X0_3 m c t) (k0_pay7 (iblk m c 4 t)) (iblk m c 5 t)) (k0_pay43 (iblk m c 6 t) (k0_pay9 (iblk m c 8 t)))) : FVec Ideal S128x2048 .f32) (ix2 r k) : EReal)
      = ((((show FVec Ideal Cert.ReferencePostBwdIdeal.S8192x2048 .f32 from (m ((c : Thread nD τ).loc main_arg2))) (ix2 (row t r) k)) + ((show FVec Ideal Cert.ReferencePostBwdIdeal.S1x2048 .f32 from (m ((c : Thread nD τ).loc main_arg5))) (ix2 (0 : Fin 1) k)) * (((show FVec Ideal Cert.ReferencePostBwdIdeal.S8192x3072 .f32 from (m ((c : Thread nD τ).loc main_arg3))) (ix2 (row t r) (⟨k.val, by omega⟩ : Fin 3072))) * Ideal.logistic ((show FVec Ideal Cert.ReferencePostBwdIdeal.S8192x3072 .f32 from (m ((c : Thread nD τ).loc main_arg3))) (ix2 (row t r) (⟨k.val, by omega⟩ : Fin 3072))))) * dnorm (gated (m ((c : Thread nD τ).loc main_arg2)) (m ((c : Thread nD τ).loc main_arg3)) (m ((c : Thread nD τ).loc main_arg4)) (m ((c : Thread nD τ).loc main_arg5)) (row t r)) (into (m ((c : Thread nD τ).loc main_arg8)) (m ((c : Thread nD τ).loc main_arg6)) (row t r)) k) * Ideal.logistic ((show FVec Ideal Cert.ReferencePostBwdIdeal.S8192x2048 .bf16 from (m ((c : Thread nD τ).loc main_arg4))) (ix2 (row t r) k)) + ((show FVec Ideal Cert.ReferencePostBwdIdeal.S8192x2048 .bf16 from (m ((c : Thread nD τ).loc main_arg4))) (ix2 (row t r) k)) * ((((show FVec Ideal Cert.ReferencePostBwdIdeal.S8192x2048 .f32 from (m ((c : Thread nD τ).loc main_arg2))) (ix2 (row t r) k)) + ((show FVec Ideal Cert.ReferencePostBwdIdeal.S1x2048 .f32 from (m ((c : Thread nD τ).loc main_arg5))) (ix2 (0 : Fin 1) k)) * (((show FVec Ideal Cert.ReferencePostBwdIdeal.S8192x3072 .f32 from (m ((c : Thread nD τ).loc main_arg3))) (ix2 (row t r) (⟨k.val, by omega⟩ : Fin 3072))) * Ideal.logistic ((show FVec Ideal Cert.ReferencePostBwdIdeal.S8192x3072 .f32 from (m ((c : Thread nD τ).loc main_arg3))) (ix2 (row t r) (⟨k.val, by omega⟩ : Fin 3072))))) * dnorm (gated (m ((c : Thread nD τ).loc main_arg2)) (m ((c : Thread nD τ).loc main_arg3)) (m ((c : Thread nD τ).loc main_arg4)) (m ((c : Thread nD τ).loc main_arg5)) (row t r)) (into (m ((c : Thread nD τ).loc main_arg8)) (m ((c : Thread nD τ).loc main_arg6)) (row t r)) k) * (Ideal.logistic ((show FVec Ideal Cert.ReferencePostBwdIdeal.S8192x2048 .bf16 from (m ((c : Thread nD τ).loc main_arg4))) (ix2 (row t r) k)) * (1 - Ideal.logistic ((show FVec Ideal Cert.ReferencePostBwdIdeal.S8192x2048 .bf16 from (m ((c : Thread nD τ).loc main_arg4))) (ix2 (row t r) k)))) := by
  have e := grad_blk m c t r k
  show addf (F := Ideal) (mulf (mulf (k0_pay18 (iblk m c 2 t) (X0_3 m c t) (iblk m c 5 t)) (grad (iblk m c 2 t) (X0_3 m c t) (iblk m c 4 t) (iblk m c 5 t) (iblk m c 6 t) (iblk m c 8 t))) (k0_pay19 (k0_pay7 (iblk m c 4 t)))) (mulf (mulf (k0_pay7 (iblk m c 4 t)) (mulf (k0_pay18 (iblk m c 2 t) (X0_3 m c t) (iblk m c 5 t)) (grad (iblk m c 2 t) (X0_3 m c t) (iblk m c 4 t) (iblk m c 5 t) (iblk m c 6 t) (iblk m c 8 t)))) (k0_pay20 (k0_pay7 (iblk m c 4 t)))) (ix2 r k) = _
  generalize grad (iblk m c 2 t) (X0_3 m c t) (iblk m c 4 t) (iblk m c 5 t) (iblk m c 6 t) (iblk m c 8 t) = P at e ⊢
  rw [in2 m c t, in3 m c t, in4 m c t, in5 m c t]
  pointwise [k0_pay18, k0_pay17, k0_pay15, k0_pay19, k0_pay20, k0_pay7, Ideal.logistic]
  rw [e]

theorem pay54_eq (v4 : Vec Ideal S128x2048 .f32) (v7 : Vec Ideal S1x2048 .f32) (v34 v37 v46 : FVec Ideal S128x2048 .f32) (v48 : FVec Ideal S128x512 .f32) (v170 : FVec Ideal S128x2048 .f32) (v175 : FVec Ideal S128x512 .f32) (v179 : FVec Ideal S128 .f32) :
    k0_pay54 (F := Ideal) v4 v7 v34 v37 v46 v48 v170 v175 v179
      = addf (mulf (mulf (broadcastTo S128x2048 v7 broadcasts_S1x2048_S128x2048) (mulf (k0_pay50 v48 v170 v175 v179) v46)) v34)
        (mulf (mulf v4 (mulf (broadcastTo S128x2048 v7 broadcasts_S1x2048_S128x2048) (mulf (k0_pay50 v48 v170 v175 v179) v46))) v37) := rfl

set_option maxHeartbeats 2000000 in
theorem pay54_at (c : Dev nD) (t : Fin cfg0.N) (r : Fin 128) (k : Fin 2048) :
    ((k0_pay54 (X0_3 m c t) (iblk m c 5 t) (k0_pay15 (X0_3 m c t)) (k0_pay16 (X0_3 m c t)) (k0_pay21 (k0_pay7 (iblk m c 4 t))) (k0_pay23 (iblk m c 2 t) (X0_3 m c t) (k0_pay7 (iblk m c 4 t)) (iblk m c 5 t)) (k0_pay47 (k0_pay28 (iblk m c 2 t) (X0_3 m c t) (k0_pay7 (iblk m c 4 t)) (iblk m c 5 t)) (k0_pay30 (iblk m c 2 t) (X0_3 m c t) (k0_pay7 (iblk m c 4 t)) (iblk m c 5 t)) (k0_pay31 (iblk m c 2 t) (X0_3 m c t) (k0_pay7 (iblk m c 4 t)) (iblk m c 5 t)) (k0_pay33 (iblk m c 2 t) (X0_3 m c t) (k0_pay7 (iblk m c 4 t)) (iblk m c 5 t)) (k0_pay36 (k0_pay34 (iblk m c 2 t) (X0_3 m c t) (k0_pay7 (iblk m c 4 t)) (iblk m c 5 t))) (k0_pay37 (k0_pay34 (iblk m c 2 t) (X0_3 m c t) (k0_pay7 (iblk m c 4 t)) (iblk m c 5 t))) (k0_pay44 (iblk m c 6 t) (k0_pay9 (iblk m c 8 t))) (k0_pay45 (iblk m c 6 t) (k0_pay9 (iblk m c 8 t))) (k0_pay46 (iblk m c 6 t) (k0_pay9 (iblk m c 8 t)) (k0_pay22 (iblk m c 2 t) (X0_3 m c t) (k0_pay7 (iblk m c 4 t)) (iblk m c 5 t)))) (k0_pay48 (k0_pay25 (iblk m c 2 t) (X0_3 m c t) (k0_pay7 (iblk m c 4 t)) (iblk m c 5 t)) (k0_pay43 (iblk m c 6 t) (k0_pay9 (iblk m c 8 t)))) (k0_pay49 (k0_pay23 (iblk m c 2 t) (X0_3 m c t) (k0_pay7 (iblk m c 4 t)) (iblk m c 5 t)) (k0_pay26 (iblk m c 2 t) (X0_3 m c t) (k0_pay7 (iblk m c 4 t)) (iblk m c 5 t)) (k0_pay43 (iblk m c 6 t) (k0_pay9 (iblk m c 8 t)))) : FVec Ideal S128x2048 .f32) (ix2 r k) : EReal)
      = (((show FVec Ideal Cert.ReferencePostBwdIdeal.S1x2048 .f32 from (m ((c : Thread nD τ).loc main_arg5))) (ix2 (0 : Fin 1) k)) * (dnorm (gated (m ((c : Thread nD τ).loc main_arg2)) (m ((c : Thread nD τ).loc main_arg3)) (m ((c : Thread nD τ).loc main_arg4)) (m ((c : Thread nD τ).loc main_arg5)) (row t r)) (into (m ((c : Thread nD τ).loc main_arg8)) (m ((c : Thread nD τ).loc main_arg6)) (row t r)) k * (((show FVec Ideal Cert.ReferencePostBwdIdeal.S8192x2048 .bf16 from (m ((c : Thread nD τ).loc main_arg4))) (ix2 (row t r) k)) * Ideal.logistic ((show FVec Ideal Cert.ReferencePostBwdIdeal.S8192x2048 .bf16 from (m ((c : Thread nD τ).loc main_arg4))) (ix2 (row t r) k))))) * Ideal.logistic ((show FVec Ideal Cert.ReferencePostBwdIdeal.S8192x3072 .f32 from (m ((c : Thread nD τ).loc main_arg3))) (ix2 (row t r) (⟨k.val, by omega⟩ : Fin 3072))) + ((show FVec Ideal Cert.ReferencePostBwdIdeal.S8192x3072 .f32 from (m ((c : Thread nD τ).loc main_arg3))) (ix2 (row t r) (⟨k.val, by omega⟩ : Fin 3072))) * (((show FVec Ideal Cert.ReferencePostBwdIdeal.S1x2048 .f32 from (m ((c : Thread nD τ).loc main_arg5))) (ix2 (0 : Fin 1) k)) * (dnorm (gated (m ((c : Thread nD τ).loc main_arg2)) (m ((c : Thread nD τ).loc main_arg3)) (m ((c : Thread nD τ).loc main_arg4)) (m ((c : Thread nD τ).loc main_arg5)) (row t r)) (into (m ((c : Thread nD τ).loc main_arg8)) (m ((c : Thread nD τ).loc main_arg6)) (row t r)) k * (((show FVec Ideal Cert.ReferencePostBwdIdeal.S8192x2048 .bf16 from (m ((c : Thread nD τ).loc main_arg4))) (ix2 (row t r) k)) * Ideal.logistic ((show FVec Ideal Cert.ReferencePostBwdIdeal.S8192x2048 .bf16 from (m ((c : Thread nD τ).loc main_arg4))) (ix2 (row t r) k))))) * (Ideal.logistic ((show FVec Ideal Cert.ReferencePostBwdIdeal.S8192x3072 .f32 from (m ((c : Thread nD τ).loc main_arg3))) (ix2 (row t r) (⟨k.val, by omega⟩ : Fin 3072))) * (1 - Ideal.logistic ((show FVec Ideal Cert.ReferencePostBwdIdeal.S8192x3072 .f32 from (m ((c : Thread nD τ).loc main_arg3))) (ix2 (row t r) (⟨k.val, by omega⟩ : Fin 3072))))) := by
  have e := grad_blk m c t r k
  rw [pay54_eq]
  unfold grad at e
  generalize k0_pay50 (F := Ideal) (k0_pay23 (iblk m c 2 t) (X0_3 m c t) (k0_pay7 (iblk m c 4 t)) (iblk m c 5 t)) (k0_pay47 (k0_pay28 (iblk m c 2 t) (X0_3 m c t) (k0_pay7 (iblk m c 4 t)) (iblk m c 5 t)) (k0_pay30 (iblk m c 2 t) (X0_3 m c t) (k0_pay7 (iblk m c 4 t)) (iblk m c 5 t)) (k0_pay31 (iblk m c 2 t) (X0_3 m c t) (k0_pay7 (iblk m c 4 t)) (iblk m c 5 t)) (k0_pay33 (iblk m c 2 t) (X0_3 m c t) (k0_pay7 (iblk m c 4 t)) (iblk m c 5 t)) (k0_pay36 (k0_pay34 (iblk m c 2 t) (X0_3 m c t) (k0_pay7 (iblk m c 4 t)) (iblk m c 5 t))) (k0_pay37 (k0_pay34 (iblk m c 2 t) (X0_3 m c t) (k0_pay7 (iblk m c 4 t)) (iblk m c 5 t))) (k0_pay44 (iblk m c 6 t) (k0_pay9 (iblk m c 8 t))) (k0_pay45 (iblk m c 6 t) (k0_pay9 (iblk m c 8 t))) (k0_pay46 (iblk m c 6 t) (k0_pay9 (iblk m c 8 t)) (k0_pay22 (iblk m c 2 t) (X0_3 m c t) (k0_pay7 (iblk m c 4 t)) (iblk m c 5 t)))) (k0_pay48 (k0_pay25 (iblk m c 2 t) (X0_3 m c t) (k0_pay7 (iblk m c 4 t)) (iblk m c 5 t)) (k0_pay43 (iblk m c 6 t) (k0_pay9 (iblk m c 8 t)))) (k0_pay49 (k0_pay23 (iblk m c 2 t) (X0_3 m c t) (k0_pay7 (iblk m c 4 t)) (iblk m c 5 t)) (k0_pay26 (iblk m c 2 t) (X0_3 m c t) (k0_pay7 (iblk m c 4 t)) (iblk m c 5 t)) (k0_pay43 (iblk m c 6 t) (k0_pay9 (iblk m c 8 t)))) = P at e ⊢
  rw [in3 m c t, in4 m c t, in5 m c t]
  pointwise [k0_pay21, k0_pay19, k0_pay15, k0_pay16, k0_pay7, Ideal.logistic]
  rw [e]

set_option maxHeartbeats 2000000 in
theorem part14_at (c : Dev nD) (t : Fin cfg0.N) (k : Fin 2048) :
    part14 m c t (ix2 (0 : Fin 1) k) = ∑ r : Fin 128, dnorm (gated (m ((c : Thread nD τ).loc main_arg2)) (m ((c : Thread nD τ).loc main_arg3)) (m ((c : Thread nD τ).loc main_arg4)) (m ((c : Thread nD τ).loc main_arg5)) (row t r)) (into (m ((c : Thread nD τ).loc main_arg8)) (m ((c : Thread nD τ).loc main_arg6)) (row t r)) k * (((show FVec Ideal Cert.ReferencePostBwdIdeal.S8192x2048 .bf16 from (m ((c : Thread nD τ).loc main_arg4))) (ix2 (row t r) k)) * Ideal.logistic ((show FVec Ideal Cert.ReferencePostBwdIdeal.S8192x2048 .bf16 from (m ((c : Thread nD τ).loc main_arg4))) (ix2 (row t r) k))) * (((show FVec Ideal Cert.ReferencePostBwdIdeal.S8192x3072 .f32 from (m ((c : Thread nD τ).loc main_arg3))) (ix2 (row t r) (⟨k.val, by omega⟩ : Fin 3072))) * Ideal.logistic ((show FVec Ideal Cert.ReferencePostBwdIdeal.S8192x3072 .f32 from (m ((c : Thread nD τ).loc main_arg3))) (ix2 (row t r) (⟨k.val, by omega⟩ : Fin 3072)))) := by
  have e := fun r => pay51_at m c t r k
  unfold part14
  pointwise [k0_pay53, k0_pay17, k0_pay15, Ideal.logistic]
  refine Finset.sum_congr rfl fun r _ => ?_
  refine (congrArg₂ (fun p q : EReal => p * q) (e r) (congrArg (fun v : EReal => v * Ideal.logistic v) (congrFun (in3 m c t) (ix2 r k)))).trans ?_
  rfl

theorem unit_at (c : Dev nD) (t : Fin cfg0.N) (r : Fin 128) (k : Fin 2048) :
    unit (fun j => k0_pay22 (F := Ideal) (iblk m c 2 t) (X0_3 m c t) (k0_pay7 (iblk m c 4 t)) (iblk m c 5 t) (ix2 r j)) k = unit (gated (m ((c : Thread nD τ).loc main_arg2)) (m ((c : Thread nD τ).loc main_arg3)) (m ((c : Thread nD τ).loc main_arg4)) (m ((c : Thread nD τ).loc main_arg5)) (row t r)) k :=
  congrArg (fun g => unit g k) (funext fun j => gated_at m c t r j)

set_option maxHeartbeats 2000000 in
theorem part15_at (c : Dev nD) (t : Fin cfg0.N) (k : Fin 2048) :
    part15 m c t (ix2 (0 : Fin 1) k) = ∑ r : Fin 128, unit (gated (m ((c : Thread nD τ).loc main_arg2)) (m ((c : Thread nD τ).loc main_arg3)) (m ((c : Thread nD τ).loc main_arg4)) (m ((c : Thread nD τ).loc main_arg5)) (row t r)) k * (show FVec Ideal Cert.ReferencePostBwdIdeal.S8192x2048 .bf16 from (m ((c : Thread nD τ).loc main_arg8))) (ix2 (row t r) k) := by
  have e := fun r => unit_at m c t r k
  unfold part15
  pointwise [k0_pay41, k0_pay36, k0_pay35, k0_pay34, k0_pay33, k0_pay38, k0_pay39, k0_pay40, k0_pay27, k0_pay32, k0_pay23, k0_pay24, k0_pay25, k0_pay28, k0_pay29, k0_pay30, k0_pay9]
  refine Finset.sum_congr rfl fun r _ => ?_
  have e := e r
  generalize k0_pay22 (F := Ideal) (iblk m c 2 t) (X0_3 m c t) (k0_pay7 (iblk m c 4 t)) (iblk m c 5 t) = G at e ⊢
  rw [in8 m c t]
  refine congrArg₂ (fun p q : EReal => p * q) ?_ rfl
  rw [← e]
  by_cases h1 : k.val < 512
  · simp only [h1, ↓reduceDIte]
    exact unit_eq (fun j => G (ix2 r j)) k k (fun x => ⟨x.val, by omega⟩) rfl (fun x => by show x.val = _; omega)
  by_cases h2 : k.val - 512 < 512
  · simp only [h1, h2, ↓reduceDIte]
    exact unit_eq (fun j => G (ix2 r j)) k ⟨512 + (k.val - 512), by omega⟩ (fun x => ⟨512 + x.val, by omega⟩)
      (by show 512 + (k.val - 512) = _; omega) (fun x => by show 512 + x.val = _; omega)
  by_cases h3 : k.val - 512 - 512 < 512
  · simp only [h1, h2, h3, ↓reduceDIte]
    exact unit_eq (fun j => G (ix2 r j)) k ⟨1024 + (k.val - 512 - 512), by omega⟩ (fun x => ⟨1024 + x.val, by omega⟩)
      (by show 1024 + (k.val - 512 - 512) = _; omega) (fun x => by show 1024 + x.val = _; omega)
  · simp only [h1, h2, h3, ↓reduceDIte]
    exact unit_eq (fun j => G (ix2 r j)) k ⟨1536 + (k.val - 512 - 512 - 512), by omega⟩ (fun x => ⟨1536 + x.val, by omega⟩)
      (by show 1536 + (k.val - 512 - 512 - 512) = _; omega) (fun x => by show 1536 + x.val = _; omega)

set_option maxHeartbeats 8000000 in
/-- Kernel and reference leave the same arrays. -/
theorem value : Cert.algebraic_KernelPostBwdIdeal_ReferencePostBwdIdeal := by
  pair_intro
  · run_from Cert.KernelPostBwdIdeal.Gen.run_main m g
  · refine θ_run_mono (Cert.ReferencePostBwdIdeal.Value.run m' g') ?_
    intro r hr c
    obtain ⟨h0, h1, h2, h3, h4, h5, h6, kept⟩ := hr c
    obtain ⟨a0, a1, a2, a3, a4, a5, a6, a7, a8⟩ := hagree c
    refine ⟨h0.trans ?_, h1.trans ?_, h2.trans ?_, h3.trans ?_, h4.trans ?_, h5.trans ?_, h6.trans ?_, kept⟩
    · clear h0 h1 h2 h3 h4 h5 h6 kept hr
      refine ((dats m 0 c).arrAt_eq_of_covers 9 _ (by decide +kernel) fun t hf y => ?_).symm
      rw [place9 t y]
      blk_simp
      rw [after0_9, stored9, in1 m c t, in7 m c t]
      pointwise [k0_pay55, k0_pay8, k0_pay14, k0_pay13, k0_pay11, k0_pay6, a0, a1, a2, a3, a4, a5, a6, a7, a8]
      simp only [mul_assoc (G := EReal)]
    · clear h0 h1 h2 h3 h4 h5 h6 kept hr
      refine ((dats m 0 c).arrAt_eq_of_covers 10 _ (by decide +kernel) fun t hf y => ?_).symm
      rw [place10 t y]
      blk_simp
      rw [after0_10, stored10, in0 m c t, in1 m c t, in7 m c t]
      pointwise [Cert.ReferencePostBwdIdeal.Value.res_main_v94, k0_pay56, k0_pay8, k0_pay10, k0_pay12, k0_pay13, k0_pay11, k0_pay6, a0, a1, a2, a3, a4, a5, a6, a7, a8]
      simp only [mul_assoc (G := EReal)]
    · clear h0 h1 h2 h3 h4 h5 h6 kept hr
      refine ((dats m 0 c).arrAt_eq_of_covers 11 _ (by decide +kernel) fun t hf y => ?_).symm
      rw [place11 t y]
      blk_simp
      rw [after0_11, stored11]
      obtain ⟨r, k, rfl⟩ : ∃ (r : Fin 128) (k : Fin 2048), y = ix2 r k := ⟨y 0, y 1, by funext a; fin_cases a <;> rfl⟩
      refine (pay51_at m c t r k).trans ?_
      show _ = (Cert.ReferencePostBwdIdeal.Value.res_main_v72 m' c) (ix2 (row t r) k)
      generalize row t r = i
      unfold dnorm pull ms gated into
      pointwise [Cert.ReferencePostBwdIdeal.Value.res_main_v72, a0, a1, a2, a3, a4, a5, a6, a7, a8, Ideal.logistic]
    · clear h0 h1 h2 h3 h4 h5 h6 kept hr
      refine ((dats m 0 c).arrAt_eq_of_covers 12 _ (by decide +kernel) fun t hf y => ?_).symm
      rw [place12 t y]
      blk_simp
      rw [after0_12, stored12]
      obtain ⟨r, k, rfl⟩ : ∃ (r : Fin 128) (k : Fin 2048), y = ix2 r k := ⟨y 0, y 1, by funext a; fin_cases a <;> rfl⟩
      refine (pay54_at m c t r k).trans ?_
      show _ = (Cert.ReferencePostBwdIdeal.Value.res_main_v79 m' c) (ix2 (row t r) k)
      generalize row t r = i
      unfold dnorm pull ms gated into
      pointwise [Cert.ReferencePostBwdIdeal.Value.res_main_v79, a0, a1, a2, a3, a4, a5, a6, a7, a8, Ideal.logistic]
    · clear h0 h1 h2 h3 h4 h5 h6 kept hr
      refine ((dats m 0 c).arrAt_eq_of_covers 13 _ (by decide +kernel) fun t hf y => ?_).symm
      rw [place13 t y]
      blk_simp
      rw [after0_13, stored13]
      obtain ⟨r, k, rfl⟩ : ∃ (r : Fin 128) (k : Fin 2048), y = ix2 r k := ⟨y 0, y 1, by funext a; fin_cases a <;> rfl⟩
      refine (pay52_at m c t r k).trans ?_
      show _ = (Cert.ReferencePostBwdIdeal.Value.res_main_v95 m' c) (ix2 (row t r) k)
      generalize row t r = i
      unfold dnorm pull ms gated into
      pointwise [Cert.ReferencePostBwdIdeal.Value.res_main_v95, a0, a1, a2, a3, a4, a5, a6, a7, a8, Ideal.logistic]
    · clear h0 h1 h2 h3 h4 h5 h6 kept hr
      refine ((dats m 0 c).arrAt_eq_of_covers 14 _ (by decide +kernel) fun t hf y => ?_).symm
      have h := (flush0_14 t).mp hf
      rw [place14 t y]
      blk_simp
      rw [after0_14]
      obtain ⟨u, k, rfl⟩ : ∃ (u : Fin 1) (k : Fin 2048), y = ix2 u k := ⟨y 0, y 1, by funext a; fin_cases a <;> rfl⟩
      obtain rfl : u = 0 := Subsingleton.elim _ _
      refine (summed14 m c t h (ix2 (0 : Fin 1) k)).trans ?_
      simp only [part14_at]
      unfold dnorm pull ms gated into
      pointwise [Cert.ReferencePostBwdIdeal.Value.res_main_v78, a0, a1, a2, a3, a4, a5, a6, a7, a8, Ideal.logistic]
      refine Fin.sum_mul_add_congr fun s k hl => ?_
      have ht : t.val < 64 := t.isLt
      have e : row ⟨64 * (t.val / 64) + s.val, Pipeline.run_point_lt_of_flush t h s⟩ k = ⟨s.val * 128 + k.val, hl⟩ :=
        Fin.ext (by show (64 * (t.val / 64) + s.val) * 128 + k.val = s.val * 128 + k.val; omega)
      rw [e]
    · clear h0 h1 h2 h3 h4 h5 h6 kept hr
      refine ((dats m 0 c).arrAt_eq_of_covers 15 _ (by decide +kernel) fun t hf y => ?_).symm
      have h := (flush0_15 t).mp hf
      rw [place15 t y]
      blk_simp
      rw [after0_15]
      obtain ⟨u, k, rfl⟩ : ∃ (u : Fin 1) (k : Fin 2048), y = ix2 u k := ⟨y 0, y 1, by funext a; fin_cases a <;> rfl⟩
      obtain rfl : u = 0 := Subsingleton.elim _ _
      refine (summed15 m c t h (ix2 (0 : Fin 1) k)).trans ?_
      simp only [part15_at]
      unfold unit ms gated
      pointwise [a0, a1, a2, a3, a4, a5, a6, a7, a8, Ideal.logistic]
      refine Fin.sum_mul_add_congr fun s k hl => ?_
      have ht : t.val < 64 := t.isLt
      have e : row ⟨64 * (t.val / 64) + s.val, Pipeline.run_point_lt_of_flush t h s⟩ k = ⟨s.val * 128 + k.val, hl⟩ :=
        Fin.ext (by show (64 * (t.val / 64) + s.val) * 128 + k.val = s.val * 128 + k.val; omega)
      rw [e]

end Cert.KernelPostBwdIdeal.Array

end
-- ==== Proof.PostFwdValue.lean ====
module

public import proofs.«01_k».proof.Proof.Gen.KernelPostFwdIdeal.Frame
public import proofs.«01_k».proof.Proof.Gen.KernelPostFwdIdeal.Points
public import proofs.«01_k».proof.Proof.Gen.KernelPostFwdIdeal.Launch
public import proofs.«01_k».proof.Proof.Gen.ReferencePostFwdIdeal.Run
public import Idealize.ShloMosaic.Lib.Pipeline.ValueKit
public import Idealize.ShloMosaic.Lib.Pipeline.ReadBack
public import Idealize.ShloMosaic.Lib.Claim
public import proofs.«01_k».proof.Defs

/-!
The merge of the recurrence with its gate, and the gated, grouped norm of the state-space branch.
-/

@[expose] public section

set_option maxRecDepth 16384

noncomputable section

namespace Cert.KernelPostFwdIdeal.Array

open Cert.KernelPostFwdIdeal Cert.KernelPostFwdIdeal.Gen
open Idealize.ShloMosaic Idealize.ShloMosaic.TcCoe Idealize.SL.Sem
open Idealize.ShloMosaic.Pipeline (Dat)

variable (m : (ℓ : Loc nD τ sig) → Buf (Elt Ideal) ℓ)

/-- Which block of its array each window holds at grid point `t`. -/
theorem blocks : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![0, 0]
    ∧ win0_6.index t = ![0, 0]
    ∧ win0_7.index t = ![t.val, 0]
    ∧ win0_8.index t = ![t.val, 0] :=
  (by decide +kernel : ∀ t : Fin grid0.N, _)

/-- Row `r` of the block of grid point `t`, counted in the whole array. -/
abbrev row (t : Fin cfg0.N) (r : Fin 128) : Fin 8192 :=
  ⟨128 * t.val + r.val, by have h : t.val < 64 := t.isLt; omega⟩

theorem in0 (c : Dev nD) (t : Fin cfg0.N) : iblk m c 0 t
    = fun y => m ((c : Thread nD τ).loc main_arg0) (ix2 (row t (y 0)) (y 1)) := by
  funext y
  blk_point [iblk, V, blocks t]

theorem in1 (c : Dev nD) (t : Fin cfg0.N) : iblk m c 1 t
    = fun y => m ((c : Thread nD τ).loc main_arg1) (ix2 (row t (y 0)) (y 1)) := by
  funext y
  blk_point [iblk, V, blocks t]

theorem in2 (c : Dev nD) (t : Fin cfg0.N) : iblk m c 2 t
    = fun y => m ((c : Thread nD τ).loc main_arg2) (ix2 (row t (y 0)) (y 1)) := by
  funext y
  blk_point [iblk, V, blocks t]

theorem in4 (c : Dev nD) (t : Fin cfg0.N) : iblk m c 4 t
    = fun y => m ((c : Thread nD τ).loc main_arg4) (ix2 (row t (y 0)) (y 1)) := by
  funext y
  blk_point [iblk, V, blocks t]

theorem in5 (c : Dev nD) (t : Fin cfg0.N) : iblk m c 5 t = m ((c : Thread nD τ).loc main_arg5) := by
  funext y
  blk_point [iblk, V, blocks t]

theorem in6 (c : Dev nD) (t : Fin cfg0.N) : iblk m c 6 t = m ((c : Thread nD τ).loc main_arg6) := by
  funext y
  blk_point [iblk, V, blocks t]

/-- The fourth input is the left part of a wider array. -/
theorem in3 (c : Dev nD) (t : Fin cfg0.N) : X0_3 m c t
    = fun y : S128x2048.Idx => m ((c : Thread nD τ).loc main_arg3) (ix2 (row t (y 0)) (⟨(y 1).val, by have h : (y 1).val < 2048 := (y 1).isLt; omega⟩ : Fin 3072)) := by
  funext y
  refine (dif_pos (moved0_3 t y)).trans ?_
  blk_point [iblk, V, blocks t]

/-- One entry of a row divided by the root mean square of its group of 512. -/
def unit (g : Fin 2048 → EReal) (j : Fin 2048) : EReal :=
  g j * Ideal.rsqrt (Ideal.div (∑ k : Fin 512, g ⟨j.val / 512 * 512 + k.val, by omega⟩ * g ⟨j.val / 512 * 512 + k.val, by omega⟩)
    (Ideal.ofBits FTy.f32 0x44000000#32) + Ideal.ofBits FTy.f32 0x358637BD#32)

theorem unit_eq (g : Fin 2048 → EReal) (j i : Fin 2048) (f : Fin 512 → Fin 2048) (hi : i.val = j.val)
    (hf : ∀ k, (f k).val = j.val / 512 * 512 + k.val) :
    g i * Ideal.rsqrt (Ideal.div (∑ k : Fin 512, g (f k) * g (f k)) (Ideal.ofBits FTy.f32 0x44000000#32) + Ideal.ofBits FTy.f32 0x358637BD#32) = unit g j := by
  obtain rfl : i = j := Fin.ext hi
  unfold unit
  have e : (fun k : Fin 512 => (⟨i.val / 512 * 512 + k.val, by omega⟩ : Fin 2048)) = f := funext fun k => Fin.ext (hf k).symm
  subst e
  rfl

/-- The kernel's four groups of columns, at one entry. -/
theorem pay_at (a b c d w) (r : Fin 128) (k : Fin 2048) :
    (k0_pay7 (F := Ideal) w (k0_pay2 a b c d) (k0_pay3 a b c d) (k0_pay4 a b c d) k0_pay5 (ix2 r k) : EReal)
      = unit (fun j => k0_pay2 (F := Ideal) a b c d (ix2 r j)) k * w (ix2 (0 : Fin 1) k) := by
  pointwise [k0_pay7, k0_pay4, k0_pay3, k0_pay5]
  refine congrArg (· * _) ?_
  by_cases h1 : k.val < 512
  · rw [dif_pos h1]
    exact unit_eq (fun j => k0_pay2 (F := Ideal) a b c d (ix2 r j)) k k (fun x => ⟨x.val, by omega⟩) rfl (fun x => by show x.val = _; omega)
  rw [dif_neg h1]
  by_cases h2 : k.val - 512 < 512
  · rw [dif_pos h2]
    exact unit_eq (fun j => k0_pay2 (F := Ideal) a b c d (ix2 r j)) k ⟨512 + (k.val - 512), by omega⟩ (fun x => ⟨512 + x.val, by omega⟩)
      (by show 512 + (k.val - 512) = _; omega) (fun x => by show 512 + x.val = _; omega)
  rw [dif_neg h2]
  by_cases h3 : k.val - 512 - 512 < 512
  · rw [dif_pos h3]
    exact unit_eq (fun j => k0_pay2 (F := Ideal) a b c d (ix2 r j)) k ⟨1024 + (k.val - 512 - 512), by omega⟩ (fun x => ⟨1024 + x.val, by omega⟩)
      (by show 1024 + (k.val - 512 - 512) = _; omega) (fun x => by show 1024 + x.val = _; omega)
  · rw [dif_neg h3]
    exact unit_eq (fun j => k0_pay2 (F := Ideal) a b c d (ix2 r j)) k ⟨1536 + (k.val - 512 - 512 - 512), by omega⟩ (fun x => ⟨1536 + x.val, by omega⟩)
      (by show 1536 + (k.val - 512 - 512 - 512) = _; omega) (fun x => by show 1536 + x.val = _; omega)

/-- The gated state-space branch, before its norm. -/
def gated (y : FVec Ideal Cert.ReferencePostFwdIdeal.S8192x2048 .f32) (x : FVec Ideal Cert.ReferencePostFwdIdeal.S8192x3072 .f32) (z : FVec Ideal Cert.ReferencePostFwdIdeal.S8192x2048 .bf16) (d : FVec Ideal Cert.ReferencePostFwdIdeal.S1x2048 .f32)
    (i : Fin 8192) (j : Fin 2048) : EReal :=
  (y (ix2 i j) + d (ix2 (0 : Fin 1) j) * (x (ix2 i (⟨j.val, by omega⟩ : Fin 3072)) * Ideal.logistic (x (ix2 i (⟨j.val, by omega⟩ : Fin 3072)))))
    * (z (ix2 i j) * Ideal.logistic (z (ix2 i j)))

theorem gated_at (c : Dev nD) (t : Fin cfg0.N) (r : Fin 128) (j : Fin 2048) :
    (k0_pay2 (F := Ideal) (iblk m c 2 t) (X0_3 m c t) (iblk m c 4 t) (iblk m c 5 t) (ix2 r j) : EReal)
      = gated (m ((c : Thread nD τ).loc main_arg2)) (m ((c : Thread nD τ).loc main_arg3)) (m ((c : Thread nD τ).loc main_arg4)) (m ((c : Thread nD τ).loc main_arg5)) (row t r) j := by
  rw [in2 m c t, in3 m c t, in4 m c t, in5 m c t]
  unfold gated
  pointwise [k0_pay2, Ideal.logistic]

theorem stored8 (c : Dev nD) (t : Fin cfg0.N) (y : S128x2048.Idx) : ((outsAt0 m c t).2 y : EReal)
    = unit (gated (m ((c : Thread nD τ).loc main_arg2)) (m ((c : Thread nD τ).loc main_arg3)) (m ((c : Thread nD τ).loc main_arg4)) (m ((c : Thread nD τ).loc main_arg5)) (row t (y 0))) (y 1)
      * (show FVec Ideal S1x2048 .f32 from m ((c : Thread nD τ).loc main_arg6)) (ix2 (0 : Fin 1) (y 1)) := by
  unfold outsAt0
  frame_out
  obtain ⟨r, k, rfl⟩ : ∃ (r : Fin 128) (k : Fin 2048), y = ix2 r k := ⟨y 0, y 1, by funext a; fin_cases a <;> rfl⟩
  refine (pay_at _ _ _ _ _ r k).trans ?_
  rw [in6 m c t]
  refine congrArg (· * _) ?_
  exact congrArg (fun g => unit g k) (funext fun j => gated_at m c t r j)

theorem stored7 (c : Dev nD) (t : Fin cfg0.N) : (outsAt0 m c t).1
    = k0_pay6 (F := Ideal) (k0_pay1 (iblk m c 0 t) (iblk m c 1 t)) := by
  unfold outsAt0
  frame_out

set_option maxHeartbeats 4000000 in
/-- Kernel and reference leave the same arrays. -/
theorem value : Cert.algebraic_KernelPostFwdIdeal_ReferencePostFwdIdeal := by
  pair_intro
  · run_from Cert.KernelPostFwdIdeal.Gen.run_main m g
  · refine θ_run_mono (Cert.ReferencePostFwdIdeal.Value.run m' g') ?_
    intro r hr c
    obtain ⟨h0, h1, kept⟩ := hr c
    obtain ⟨a0, a1, a2, a3, a4, a5, a6⟩ := hagree c
    refine ⟨h0.trans ?_, h1.trans ?_, kept⟩
    · clear h0 h1 kept hr
      refine ((dats m 0 c).arrAt_eq_of_covers 7 _ (by decide +kernel) fun t hf y => ?_).symm
      have e : ((cfg0.win 7).blk t).view.emb y = ix2 (row t (y 0)) (y 1) := by
        blk_ext [blocks t]
      rw [e]
      blk_simp
      rw [after0_7, stored7, in0 m c t, in1 m c t]
      pointwise [k0_pay6, k0_pay1, a0, a1]
      simp only [mul_assoc (G := EReal)]
    · clear h0 h1 kept hr
      refine ((dats m 0 c).arrAt_eq_of_covers 8 _ (by decide +kernel) fun t hf y => ?_).symm
      have e : ((cfg0.win 8).blk t).view.emb y = ix2 (row t (y 0)) (y 1) := by
        blk_ext [blocks t]
      rw [e]
      blk_simp
      rw [after0_8]
      refine (stored8 m c t y).trans ?_
      generalize row t (y 0) = i
      generalize (y 1) = j
      unfold unit gated
      pointwise [a2, a3, a4, a5, a6, Ideal.logistic]

end Cert.KernelPostFwdIdeal.Array

end
-- ==== Proof.GatesFwdValue.lean ====
module

public import proofs.«01_k».proof.Proof.Gen.KernelGatesFwdIdeal.Frame
public import proofs.«01_k».proof.Proof.Gen.KernelGatesFwdIdeal.Points
public import proofs.«01_k».proof.Proof.Gen.KernelGatesFwdIdeal.Launch
public import proofs.«01_k».proof.Proof.Gen.ReferenceGatesFwdIdeal.Run
public import Idealize.ShloMosaic.Lib.Pipeline.ValueKit
public import Idealize.ShloMosaic.Lib.Claim
public import proofs.«01_k».proof.Defs

/-!
The gates of the linear recurrence: two products with block-diagonal weights, and the decay they give.
-/

@[expose] public section

set_option maxRecDepth 16384

noncomputable section

namespace Cert.KernelGatesFwdIdeal.Array

open Cert.KernelGatesFwdIdeal Cert.KernelGatesFwdIdeal.Gen
open Idealize.ShloMosaic Idealize.ShloMosaic.TcCoe Idealize.SL.Sem
open Idealize.ShloMosaic.Pipeline (Dat)

variable (m : (ℓ : Loc nD τ sig) → Buf (Elt Ideal) ℓ)

/-- Which block each window holds at grid point `t`. -/
theorem blocks : ∀ t : Fin cfg0.N, win0_0.index t = ![t.val, 0]
    ∧ win0_1.index t = ![0, 0, 0]
    ∧ win0_2.index t = ![0, 0]
    ∧ win0_3.index t = ![0, 0, 0]
    ∧ win0_4.index t = ![0, 0]
    ∧ win0_5.index t = ![0, 0]
    ∧ win0_6.index t = ![t.val, 0]
    ∧ win0_7.index t = ![t.val, 0] :=
  (by decide +kernel : ∀ t : Fin grid0.N, _)

/-- Row `r` of the block of grid point `t`, counted in the whole array. -/
abbrev row (t : Fin cfg0.N) (r : Fin 512) : Fin 8192 :=
  ⟨t.val * 512 + r.val, by have h : t.val < 16 := t.isLt; omega⟩

/-- The weights of two heads side by side on the diagonal of a tile, zero elsewhere. -/
def tiles (w : FVec Ideal S16x64x64 .f32) : FVec Ideal S8x128x128 .f32 :=
  have z : FVec Ideal S8x64x64 .f32 := broadcastInDim S8x64x64 ![] bcast_S_S8x64x64 (constant (F := Ideal) S_ .f32 0x00000000#32)
  have p : FVec Ideal S8x2x64x64 .f32 := shapeCast S8x2x64x64 w shapeCasts_S16x64x64_S8x2x64x64
  have a : FVec Ideal S8x64x64 .f32 := shapeCast S8x64x64 (extractStridedSlice S8x1x64x64 ![0, 0, 0, 0] p slices_S8x2x64x64_S8x1x64x64_0_0_0_0) shapeCasts_S8x1x64x64_S8x64x64
  have b : FVec Ideal S8x64x64 .f32 := shapeCast S8x64x64 (extractStridedSlice S8x1x64x64 ![0, 1, 0, 0] p slices_S8x2x64x64_S8x1x64x64_0_1_0_0) shapeCasts_S8x1x64x64_S8x64x64
  concatenate S8x128x128 1
    [⟨S8x64x128, concatenate S8x64x128 2 [⟨S8x64x64, a⟩, ⟨S8x64x64, z⟩] concatenates_S8x64x64_S8x64x64_S8x64x128_d2⟩,
      ⟨S8x64x128, concatenate S8x64x128 2 [⟨S8x64x64, z⟩, ⟨S8x64x64, b⟩] concatenates_S8x64x64_S8x64x64_S8x64x128_d2⟩]
    concatenates_S8x64x128_S8x64x128_S8x128x128_d1

set_option maxHeartbeats 2000000 in
theorem V_tiles1 (c : Dev nD) : V m c main_v8 = tiles (m ((c : Thread nD τ).loc main_arg1)) := by
  unfold V
  after_results_simp <;> rfl

set_option maxHeartbeats 2000000 in
theorem V_tiles3 (c : Dev nD) : V m c main_v17 = tiles (m ((c : Thread nD τ).loc main_arg3)) := by
  unfold V
  after_results_simp <;> rfl

theorem tile00 (w : FVec Ideal S16x64x64 .f32) (k : Fin 8) (i j : Fin 64) :
    tiles w (ix3 k (⟨i.val, by omega⟩ : Fin 128) (⟨j.val, by omega⟩ : Fin 128))
      = w (ix3 (⟨2 * k.val, by omega⟩ : Fin 16) i j) := by
  pointwise [tiles]
  exact congrArg (fun h => w (ix3 h i j)) (Fin.ext (Nat.mul_comm _ _))

theorem tile01 (w : FVec Ideal S16x64x64 .f32) (k : Fin 8) (i j : Fin 64) :
    tiles w (ix3 k (⟨i.val, by omega⟩ : Fin 128) (⟨64 + j.val, by omega⟩ : Fin 128)) = 0 := by
  pointwise [tiles]

theorem tile10 (w : FVec Ideal S16x64x64 .f32) (k : Fin 8) (i j : Fin 64) :
    tiles w (ix3 k (⟨64 + i.val, by omega⟩ : Fin 128) (⟨j.val, by omega⟩ : Fin 128)) = 0 := by
  pointwise [tiles]

theorem tile11 (w : FVec Ideal S16x64x64 .f32) (k : Fin 8) (i j : Fin 64) :
    tiles w (ix3 k (⟨64 + i.val, by omega⟩ : Fin 128) (⟨64 + j.val, by omega⟩ : Fin 128))
      = w (ix3 (⟨2 * k.val + 1, by omega⟩ : Fin 16) i j) := by
  pointwise [tiles]
  exact congrArg (fun h => w (ix3 h i j)) (Fin.ext (congrArg (· + 1) (Nat.mul_comm _ _)))

/-- A row's product with tile `k`, the offset and the logistic function. -/
def gate (u : FVec Ideal S512x1024 .f32) (v : FVec Ideal S8x128x128 .f32) (b : FVec Ideal S1x1024 .f32) (r : Fin 512) (k : Fin 8) (q : Fin 128) : EReal :=
  Ideal.logistic ((∑ l : Fin 128, u (ix2 r (⟨128 * k.val + l.val, by omega⟩ : Fin 1024)) * v (ix3 k l q))
    + b (ix2 (0 : Fin 1) (⟨128 * k.val + q.val, by omega⟩ : Fin 1024)))

theorem sum_at (u : FVec Ideal S512x1024 .f32) (v : FVec Ideal S8x128x128 .f32) (r : Fin 512) (n : ℕ) (hn : n < 8) (k k' : Fin 8) (q q' : Fin 128)
    (hk : k'.val = n) (e : k.val = n) (hq : q'.val = q.val) :
    (∑ l : Fin 128, u (ix2 r (⟨128 * n + l.val, by omega⟩ : Fin 1024)) * v (ix3 k' l q'))
      = ∑ l : Fin 128, u (ix2 r (⟨128 * k.val + l.val, by omega⟩ : Fin 1024)) * v (ix3 k l q) := by
  obtain rfl : k' = k := Fin.ext (hk.trans e.symm)
  obtain rfl : q' = q := Fin.ext hq
  subst e
  rfl

theorem sum_at0 (u : FVec Ideal S512x1024 .f32) (v : FVec Ideal S8x128x128 .f32) (r : Fin 512) (k k' : Fin 8) (q q' : Fin 128)
    (hk : k'.val = 0) (e : k.val = 0) (hq : q'.val = q.val) :
    (∑ l : Fin 128, u (ix2 r (⟨l.val, by omega⟩ : Fin 1024)) * v (ix3 k' l q'))
      = ∑ l : Fin 128, u (ix2 r (⟨128 * k.val + l.val, by omega⟩ : Fin 1024)) * v (ix3 k l q) := by
  rw [Fin.ext (hk.trans e.symm), Fin.ext hq]
  exact Finset.sum_congr rfl fun l _ => congrArg (fun a => u (ix2 r a) * v (ix3 k l q)) (Fin.ext (by dsimp only; omega))

set_option maxHeartbeats 2000000 in
theorem gate_a (u : FVec Ideal S512x1024 .f32) (v : FVec Ideal S8x128x128 .f32) (b : FVec Ideal S1x1024 .f32) (r : Fin 512) (k : Fin 8) (q : Fin 128) :
    (k0_pay22 (F := Ideal) (k0_pay4 v) b (k0_pay6 u) (k0_pay8 u v) (k0_pay11 u v) (k0_pay14 u v) (k0_pay16 u) (k0_pay17 v)
      (ix2 r (⟨128 * k.val + q.val, by omega⟩ : Fin 1024)) : EReal) = gate u v b r k q := by
  pointwise [k0_pay22, k0_pay4, k0_pay6, k0_pay7, k0_pay8, k0_pay10, k0_pay11, k0_pay13, k0_pay14, k0_pay16, k0_pay17, k0_pay18, k0_pay19, k0_pay20, k0_pay21, gate]
  congr 2
  have hk := k.isLt
  rcases (by omega : k.val = 0 ∨ k.val = 1 ∨ k.val = 2 ∨ k.val = 3 ∨ k.val = 4 ∨ k.val = 5 ∨ k.val = 6 ∨ k.val = 7) with h | h | h | h | h | h | h | h
  · rw [dif_pos (show 128 * k.val + q.val < 128 by omega)]
    exact sum_at0 u v r k 0 q _ rfl h (by dsimp only; omega)
  · rw [dif_neg (show ¬(128 * k.val + q.val < 128) by omega),
      dif_pos (show 128 * k.val + q.val - 128 < 128 by omega)]
    exact sum_at u v r 1 (by decide) k 1 q _ rfl h (by dsimp only; omega)
  · rw [dif_neg (show ¬(128 * k.val + q.val < 128) by omega),
      dif_neg (show ¬(128 * k.val + q.val - 128 < 128) by omega),
      dif_pos (show 128 * k.val + q.val - 128 - 128 < 128 by omega)]
    exact sum_at u v r 2 (by decide) k 2 q _ rfl h (by dsimp only; omega)
  · rw [dif_neg (show ¬(128 * k.val + q.val < 128) by omega),
      dif_neg (show ¬(128 * k.val + q.val - 128 < 128) by omega),
      dif_neg (show ¬(128 * k.val + q.val - 128 - 128 < 128) by omega),
      dif_pos (show 128 * k.val + q.val - 128 - 128 - 128 < 128 by omega)]
    exact sum_at u v r 3 (by decide) k 3 q _ rfl h (by dsimp only; omega)
  · rw [dif_neg (show ¬(128 * k.val + q.val < 128) by omega),
      dif_neg (show ¬(128 * k.val + q.val - 128 < 128) by omega),
      dif_neg (show ¬(128 * k.val + q.val - 128 - 128 < 128) by omega),
      dif_neg (show ¬(128 * k.val + q.val - 128 - 128 - 128 < 128) by omega),
      dif_pos (show 128 * k.val + q.val - 128 - 128 - 128 - 128 < 128 by omega)]
    exact sum_at u v r 4 (by decide) k 4 q _ rfl h (by dsimp only; omega)
  · rw [dif_neg (show ¬(128 * k.val + q.val < 128) by omega),
      dif_neg (show ¬(128 * k.val + q.val - 128 < 128) by omega),
      dif_neg (show ¬(128 * k.val + q.val - 128 - 128 < 128) by omega),
      dif_neg (show ¬(128 * k.val + q.val - 128 - 128 - 128 < 128) by omega),
      dif_neg (show ¬(128 * k.val + q.val - 128 - 128 - 128 - 128 < 128) by omega),
      dif_pos (show 128 * k.val + q.val - 128 - 128 - 128 - 128 - 128 < 128 by omega)]
    exact sum_at u v r 5 (by decide) k 5 q _ rfl h (by dsimp only; omega)
  · rw [dif_neg (show ¬(128 * k.val + q.val < 128) by omega),
      dif_neg (show ¬(128 * k.val + q.val - 128 < 128) by omega),
      dif_neg (show ¬(128 * k.val + q.val - 128 - 128 < 128) by omega),
      dif_neg (show ¬(128 * k.val + q.val - 128 - 128 - 128 < 128) by omega),
      dif_neg (show ¬(128 * k.val + q.val - 128 - 128 - 128 - 128 < 128) by omega),
      dif_neg (show ¬(128 * k.val + q.val - 128 - 128 - 128 - 128 - 128 < 128) by omega),
      dif_pos (show 128 * k.val + q.val - 128 - 128 - 128 - 128 - 128 - 128 < 128 by omega)]
    exact sum_at u v r 6 (by decide) k 6 q _ rfl h (by dsimp only; omega)
  · rw [dif_neg (show ¬(128 * k.val + q.val < 128) by omega),
      dif_neg (show ¬(128 * k.val + q.val - 128 < 128) by omega),
      dif_neg (show ¬(128 * k.val + q.val - 128 - 128 < 128) by omega),
      dif_neg (show ¬(128 * k.val + q.val - 128 - 128 - 128 < 128) by omega),
      dif_neg (show ¬(128 * k.val + q.val - 128 - 128 - 128 - 128 < 128) by omega),
      dif_neg (show ¬(128 * k.val + q.val - 128 - 128 - 128 - 128 - 128 < 128) by omega),
      dif_neg (show ¬(128 * k.val + q.val - 128 - 128 - 128 - 128 - 128 - 128 < 128) by omega)]
    exact sum_at u v r 7 (by decide) k 7 q _ rfl h (by dsimp only; omega)

set_option maxHeartbeats 2000000 in
theorem gate_x (u : FVec Ideal S512x1024 .f32) (v : FVec Ideal S8x128x128 .f32) (b : FVec Ideal S1x1024 .f32) (r : Fin 512) (k : Fin 8) (q : Fin 128) :
    (k0_pay23 (F := Ideal) (k0_pay5 v) b (k0_pay6 u) (k0_pay9 u v) (k0_pay12 u v) (k0_pay15 u v) (k0_pay16 u)
      (ix2 r (⟨128 * k.val + q.val, by omega⟩ : Fin 1024)) : EReal) = gate u v b r k q := by
  pointwise [k0_pay23, k0_pay5, k0_pay6, k0_pay7, k0_pay9, k0_pay10, k0_pay12, k0_pay13, k0_pay15, k0_pay16, k0_pay18, k0_pay19, k0_pay20, k0_pay21, gate]
  congr 2
  have hk := k.isLt
  rcases (by omega : k.val = 0 ∨ k.val = 1 ∨ k.val = 2 ∨ k.val = 3 ∨ k.val = 4 ∨ k.val = 5 ∨ k.val = 6 ∨ k.val = 7) with h | h | h | h | h | h | h | h
  · rw [dif_pos (show 128 * k.val + q.val < 128 by omega)]
    exact sum_at0 u v r k 0 q _ rfl h (by dsimp only; omega)
  · rw [dif_neg (show ¬(128 * k.val + q.val < 128) by omega),
      dif_pos (show 128 * k.val + q.val - 128 < 128 by omega)]
    exact sum_at u v r 1 (by decide) k 1 q _ rfl h (by dsimp only; omega)
  · rw [dif_neg (show ¬(128 * k.val + q.val < 128) by omega),
      dif_neg (show ¬(128 * k.val + q.val - 128 < 128) by omega),
      dif_pos (show 128 * k.val + q.val - 128 - 128 < 128 by omega)]
    exact sum_at u v r 2 (by decide) k 2 q _ rfl h (by dsimp only; omega)
  · rw [dif_neg (show ¬(128 * k.val + q.val < 128) by omega),
      dif_neg (show ¬(128 * k.val + q.val - 128 < 128) by omega),
      dif_neg (show ¬(128 * k.val + q.val - 128 - 128 < 128) by omega),
      dif_pos (show 128 * k.val + q.val - 128 - 128 - 128 < 128 by omega)]
    exact sum_at u v r 3 (by decide) k 3 q _ rfl h (by dsimp only; omega)
  · rw [dif_neg (show ¬(128 * k.val + q.val < 128) by omega),
      dif_neg (show ¬(128 * k.val + q.val - 128 < 128) by omega),
      dif_neg (show ¬(128 * k.val + q.val - 128 - 128 < 128) by omega),
      dif_neg (show ¬(128 * k.val + q.val - 128 - 128 - 128 < 128) by omega),
      dif_pos (show 128 * k.val + q.val - 128 - 128 - 128 - 128 < 128 by omega)]
    exact sum_at u v r 4 (by decide) k 4 q _ rfl h (by dsimp only; omega)
  · rw [dif_neg (show ¬(128 * k.val + q.val < 128) by omega),
      dif_neg (show ¬(128 * k.val + q.val - 128 < 128) by omega),
      dif_neg (show ¬(128 * k.val + q.val - 128 - 128 < 128) by omega),
      dif_neg (show ¬(128 * k.val + q.val - 128 - 128 - 128 < 128) by omega),
      dif_neg (show ¬(128 * k.val + q.val - 128 - 128 - 128 - 128 < 128) by omega),
      dif_pos (show 128 * k.val + q.val - 128 - 128 - 128 - 128 - 128 < 128 by omega)]
    exact sum_at u v r 5 (by decide) k 5 q _ rfl h (by dsimp only; omega)
  · rw [dif_neg (show ¬(128 * k.val + q.val < 128) by omega),
      dif_neg (show ¬(128 * k.val + q.val - 128 < 128) by omega),
      dif_neg (show ¬(128 * k.val + q.val - 128 - 128 < 128) by omega),
      dif_neg (show ¬(128 * k.val + q.val - 128 - 128 - 128 < 128) by omega),
      dif_neg (show ¬(128 * k.val + q.val - 128 - 128 - 128 - 128 < 128) by omega),
      dif_neg (show ¬(128 * k.val + q.val - 128 - 128 - 128 - 128 - 128 < 128) by omega),
      dif_pos (show 128 * k.val + q.val - 128 - 128 - 128 - 128 - 128 - 128 < 128 by omega)]
    exact sum_at u v r 6 (by decide) k 6 q _ rfl h (by dsimp only; omega)
  · rw [dif_neg (show ¬(128 * k.val + q.val < 128) by omega),
      dif_neg (show ¬(128 * k.val + q.val - 128 < 128) by omega),
      dif_neg (show ¬(128 * k.val + q.val - 128 - 128 < 128) by omega),
      dif_neg (show ¬(128 * k.val + q.val - 128 - 128 - 128 < 128) by omega),
      dif_neg (show ¬(128 * k.val + q.val - 128 - 128 - 128 - 128 < 128) by omega),
      dif_neg (show ¬(128 * k.val + q.val - 128 - 128 - 128 - 128 - 128 < 128) by omega),
      dif_neg (show ¬(128 * k.val + q.val - 128 - 128 - 128 - 128 - 128 - 128 < 128) by omega)]
    exact sum_at u v r 7 (by decide) k 7 q _ rfl h (by dsimp only; omega)

/-- The gate at column `j`: the product of a row with the weights of the head that the column lies in. -/
def headGate (u : Fin 1024 → EReal) (w : FVec Ideal S16x64x64 .f32) (b : FVec Ideal S1x1024 .f32) (j : Fin 1024) : EReal :=
  Ideal.logistic ((∑ x : Fin 64, u (⟨j.val / 64 * 64 + x.val, by omega⟩ : Fin 1024) * w (ix3 (⟨j.val / 64, by omega⟩ : Fin 16) x (⟨j.val % 64, by omega⟩ : Fin 64)))
    + b (ix2 (0 : Fin 1) j))

theorem sum_head (u : FVec Ideal S512x1024 .f32) (w : FVec Ideal S16x64x64 .f32) (r : Fin 512) (h h' : Fin 16) (o o' : ℕ) (ho : o + 64 ≤ 1024) (ho' : o' + 64 ≤ 1024)
    (j j' : Fin 64) (e : o = o') (eh : h.val = h'.val) (ej : j.val = j'.val) :
    (∑ x : Fin 64, u (ix2 r (⟨o + x.val, by omega⟩ : Fin 1024)) * w (ix3 h x j))
      = ∑ x : Fin 64, u (ix2 r (⟨o' + x.val, by omega⟩ : Fin 1024)) * w (ix3 h' x j') := by
  subst e
  rw [Fin.ext eh, Fin.ext ej]

/-- The zeros beside the diagonal add nothing. -/
theorem gate_tiles (u : FVec Ideal S512x1024 .f32) (w : FVec Ideal S16x64x64 .f32) (b : FVec Ideal S1x1024 .f32) (r : Fin 512) (k : Fin 8) (q : Fin 128) :
    gate u (tiles w) b r k q = headGate (fun j => u (ix2 r j)) w b (⟨128 * k.val + q.val, by omega⟩ : Fin 1024) := by
  unfold gate headGate
  congr 2
  rw [show (∑ l : Fin 128, u (ix2 r (⟨128 * k.val + l.val, by omega⟩ : Fin 1024)) * tiles w (ix3 k l q))
      = (∑ x : Fin 64, u (ix2 r (⟨128 * k.val + x.val, by omega⟩ : Fin 1024)) * tiles w (ix3 k (⟨x.val, by omega⟩ : Fin 128) q))
        + ∑ x : Fin 64, u (ix2 r (⟨128 * k.val + (64 + x.val), by omega⟩ : Fin 1024)) * tiles w (ix3 k (⟨64 + x.val, by omega⟩ : Fin 128) q)
      from Fin.sum_univ_add (a := 64) (b := 64) (fun l : Fin 128 => u (ix2 r (⟨128 * k.val + l.val, by omega⟩ : Fin 1024)) * tiles w (ix3 k l q))]
  by_cases hq : q.val < 64
  · obtain ⟨j, rfl⟩ : ∃ j : Fin 64, q = ⟨j.val, Nat.lt_of_lt_of_le j.isLt (by decide)⟩ := ⟨⟨q.val, hq⟩, rfl⟩
    simp only [tile00, tile10, mul_zero, Finset.sum_const_zero, add_zero]
    exact sum_head u w r _ _ _ _ (by omega) (by omega) _ _ (by omega) (by dsimp only; omega) (by dsimp only; omega)
  · obtain ⟨j, rfl⟩ : ∃ j : Fin 64, q = ⟨64 + j.val, Nat.add_lt_add_left j.isLt 64⟩ := ⟨⟨q.val - 64, by omega⟩, Fin.ext (by show q.val = 64 + (q.val - 64); omega)⟩
    simp only [tile01, tile11, mul_zero, Finset.sum_const_zero, zero_add]
    simp only [← Nat.add_assoc]
    exact sum_head u w r _ _ _ _ (by omega) (by omega) _ _ (by omega) (by dsimp only; omega) (by dsimp only; omega)

/-- The gain of the input: with the hyperbolic tangent, and with the exponential. -/
theorem gain (x : EReal) :
    Ideal.div (Ideal.ofBits .f32 0xC0000000#32 * Ideal.tanh x) (1 - Ideal.tanh x)
      = -(Ideal.exp (Ideal.ofBits .f32 0x40000000#32 * x) - 1) := by
  have h2 : Ideal.ofBits .f32 0x40000000#32 = ((2 : ℝ) : EReal) := by
    simp [Ideal.ofBits, Ideal.ieee, -EReal.coe_mul]; norm_num
  have h3 : Ideal.ofBits .f32 0xC0000000#32 = ((-2 : ℝ) : EReal) := by
    simp [Ideal.ofBits, Ideal.ieee, -EReal.coe_mul, -EReal.coe_neg]; norm_num
  rw [h2, h3, ← EReal.coe_one]
  induction x using EReal.rec with
  | bot =>
    have e1 : Ideal.tanh (⊥ : EReal) = ((-1 : ℝ) : EReal) := rfl
    have e2 : ((2 : ℝ) : EReal) * ⊥ = ⊥ := EReal.coe_mul_bot_of_pos (by norm_num)
    have e3 : Ideal.exp (⊥ : EReal) = 0 := rfl
    rw [e1, e2, e3, ← EReal.coe_mul, ← EReal.coe_sub, Ideal.div, if_neg (by norm_num), ← EReal.coe_inv, ← EReal.coe_mul, zero_sub, neg_neg]
    norm_num
  | top =>
    have e1 : Ideal.tanh (⊤ : EReal) = ((1 : ℝ) : EReal) := rfl
    have e2 : ((2 : ℝ) : EReal) * ⊤ = ⊤ := EReal.coe_mul_top_of_pos (by norm_num)
    have e3 : Ideal.exp (⊤ : EReal) = ⊤ := rfl
    have e4 : ((1 : ℝ) : EReal) - ((1 : ℝ) : EReal) = 0 := by rw [← EReal.coe_sub]; norm_num
    have e5 : ¬(0 : EReal) < ((-2 : ℝ) : EReal) * ((1 : ℝ) : EReal) := by
      rw [← EReal.coe_mul]
      exact not_lt.mpr (EReal.coe_nonpos.mpr (by norm_num))
    rw [e1, e2, e3, e4, Ideal.div, if_pos rfl, if_neg e5]
    rfl
  | coe r =>
    have e1 : Ideal.tanh (r : EReal) = ((Real.tanh r : ℝ) : EReal) := rfl
    have e3 : Ideal.exp ((2 * r : ℝ) : EReal) = ((Real.exp (2 * r) : ℝ) : EReal) := rfl
    have lt : Real.tanh r < 1 := Real.tanh_lt_one r
    have ne : (1 - Real.tanh r : ℝ) ≠ 0 := (sub_pos.mpr lt).ne'
    have ne' : ((1 - Real.tanh r : ℝ) : EReal) ≠ 0 := fun h => ne (EReal.coe_eq_zero.mp h)
    rw [e1, ← EReal.coe_mul, ← EReal.coe_mul, ← EReal.coe_sub, e3, Ideal.div, if_neg ne', ← EReal.coe_inv, ← EReal.coe_mul, ← EReal.coe_sub, ← EReal.coe_neg]
    congr 1
    have hp : Real.exp r ≠ 0 := (Real.exp_pos r).ne'
    have hs : Real.exp r + Real.exp (-r) ≠ 0 := (add_pos (Real.exp_pos r) (Real.exp_pos (-r))).ne'
    have ht : Real.tanh r = (Real.exp r - Real.exp (-r)) / (Real.exp r + Real.exp (-r)) := by
      rw [Real.tanh_eq_sinh_div_cosh, Real.sinh_eq, Real.cosh_eq]
      field_simp
    have h1 : 1 - Real.tanh r = 2 * Real.exp (-r) / (Real.exp r + Real.exp (-r)) := by
      rw [ht]
      field_simp
      ring
    have h2 : Real.exp (2 * r) = Real.exp r * Real.exp r := by rw [two_mul, Real.exp_add]
    have h3 : Real.exp (-r) = (Real.exp r)⁻¹ := Real.exp_neg r
    rw [h1, ht, h2, h3]
    field_simp

/-- The decay's logarithm, from the gate `s` and the parameter `l`. -/
def logA (s l : EReal) : EReal :=
  Ideal.ofBits .f32 0xC1000000#32 * s * (if -l ≠ -l then -l else max (-l) 0 + Ideal.log1p (Ideal.exp (-FloatOps.absf (F := Ideal) (φ := .f32) (-l))))

theorem rate (l : FVec Ideal S1x1024 .f32) (p : FVec Ideal S512x1024 .f32) (y : S512x1024.Idx) :
    (k0_pay1 (F := Ideal) l p y : EReal) = logA (p y) (l (ix2 (0 : Fin 1) (y 1))) := by
  pointwise [k0_pay1, logA]
  simp only [zero_sub]

/-- Input 0 at grid point `t`: the rows of the block. -/
theorem in0 (c : Dev nD) (t : Fin cfg0.N) : iblk m c 0 t
    = fun i => m ((c : Thread nD τ).loc main_arg0) (ix2 (row t (i 0)) (i 1)) := by
  funext i
  blk_point [iblk, V, blocks t]

/-- Input 2 is staged whole. -/
theorem in2 (c : Dev nD) (t : Fin cfg0.N) : iblk m c 2 t = m ((c : Thread nD τ).loc main_arg2) := by
  funext i
  blk_point [iblk, V, blocks t]

/-- Input 4 is staged whole. -/
theorem in4 (c : Dev nD) (t : Fin cfg0.N) : iblk m c 4 t = m ((c : Thread nD τ).loc main_arg4) := by
  funext i
  blk_point [iblk, V, blocks t]

/-- Input 5 is staged whole. -/
theorem in5 (c : Dev nD) (t : Fin cfg0.N) : iblk m c 5 t = m ((c : Thread nD τ).loc main_arg5) := by
  funext i
  blk_point [iblk, V, blocks t]

theorem in1 (c : Dev nD) (t : Fin cfg0.N) : iblk m c 1 t = tiles (m ((c : Thread nD τ).loc main_arg1)) := by
  rw [← V_tiles1]
  funext y
  blk_point [iblk, blocks t]

theorem in3 (c : Dev nD) (t : Fin cfg0.N) : iblk m c 3 t = tiles (m ((c : Thread nD τ).loc main_arg3)) := by
  rw [← V_tiles3]
  funext y
  blk_point [iblk, blocks t]

/-- Where the block of output 6 at grid point `t` lies in the array. -/
theorem place6 (t : Fin cfg0.N) (y : ((cfg0.win 6).xblock (cfg0.grid.coords t)).Idx) :
    ((cfg0.win 6).blk t).view.emb y = ix2 (row t (y 0)) (y 1) := by
  blk_ext [blocks t]

/-- Where the block of output 7 at grid point `t` lies in the array. -/
theorem place7 (t : Fin cfg0.N) (y : ((cfg0.win 7).xblock (cfg0.grid.coords t)).Idx) :
    ((cfg0.win 7).blk t).view.emb y = ix2 (row t (y 0)) (y 1) := by
  blk_ext [blocks t]

/-- The first gate at a grid point. -/
theorem first_gate (c : Dev nD) (t : Fin cfg0.N) (y : S512x1024.Idx) :
    (k0_pay26 (F := Ideal) (iblk m c 0 t) (iblk m c 1 t) (iblk m c 2 t) (iblk m c 3 t) (iblk m c 4 t) (iblk m c 5 t) y : EReal)
      = headGate (fun j => m ((c : Thread nD τ).loc main_arg0) (ix2 (row t (y 0)) j)) (m ((c : Thread nD τ).loc main_arg1)) (m ((c : Thread nD τ).loc main_arg2)) (y 1) := by
  have hy : (y 1).val < 1024 := (y 1).isLt
  obtain ⟨k, q, e⟩ : ∃ (k : Fin 8) (q : Fin 128), y 1 = (⟨128 * k.val + q.val, by omega⟩ : Fin 1024) :=
    ⟨⟨(y 1).val / 128, by omega⟩, ⟨(y 1).val % 128, by omega⟩, Fin.ext (by show (y 1).val = 128 * ((y 1).val / 128) + (y 1).val % 128; omega)⟩
  have ey : y = ix2 (y 0) (⟨128 * k.val + q.val, by omega⟩ : Fin 1024) := by rw [← e]; exact (ix2_eta y).symm
  unfold k0_pay26 k0_pay24 k0_pay25
  frame_out
  rw [in0 m c t, in1 m c t, in2 m c t, e]
  rw [ey]
  exact (gate_a _ _ _ _ k q).trans (gate_tiles _ _ _ _ k q)

/-- The second gate at a grid point. -/
theorem second_gate (c : Dev nD) (t : Fin cfg0.N) (y : S512x1024.Idx) :
    (k0_pay23 (F := Ideal) (k0_pay5 (iblk m c 3 t)) (iblk m c 4 t) (k0_pay6 (iblk m c 0 t)) (k0_pay9 (iblk m c 0 t) (iblk m c 3 t))
      (k0_pay12 (iblk m c 0 t) (iblk m c 3 t)) (k0_pay15 (iblk m c 0 t) (iblk m c 3 t)) (k0_pay16 (iblk m c 0 t)) y : EReal)
      = headGate (fun j => m ((c : Thread nD τ).loc main_arg0) (ix2 (row t (y 0)) j)) (m ((c : Thread nD τ).loc main_arg3)) (m ((c : Thread nD τ).loc main_arg4)) (y 1) := by
  have hy : (y 1).val < 1024 := (y 1).isLt
  obtain ⟨k, q, e⟩ : ∃ (k : Fin 8) (q : Fin 128), y 1 = (⟨128 * k.val + q.val, by omega⟩ : Fin 1024) :=
    ⟨⟨(y 1).val / 128, by omega⟩, ⟨(y 1).val % 128, by omega⟩, Fin.ext (by show (y 1).val = 128 * ((y 1).val / 128) + (y 1).val % 128; omega)⟩
  have ey : y = ix2 (y 0) (⟨128 * k.val + q.val, by omega⟩ : Fin 1024) := by rw [← e]; exact (ix2_eta y).symm
  rw [in0 m c t, in3 m c t, in4 m c t, e]
  rw [ey]
  exact (gate_x _ _ _ _ k q).trans (gate_tiles _ _ _ _ k q)

/-- The reference's spelling of a gate. -/
theorem spelt (u : Fin 1024 → EReal) (w : FVec Ideal S16x64x64 .f32) (b : FVec Ideal S1x1024 .f32) (j : Fin 1024) :
    headGate u w b j = Ideal.div 1 (1 + Ideal.exp (-((∑ x : Fin 64, w (ix3 (⟨j.val / 64, by omega⟩ : Fin 16) x (⟨j.val % 64, by omega⟩ : Fin 64)) * u (⟨j.val / 64 * 64 + x.val, by omega⟩ : Fin 1024)) + b (ix2 (0 : Fin 1) j)))) := by
  unfold headGate Ideal.logistic
  congr 5
  exact Finset.sum_congr rfl fun x _ => mul_comm (G := EReal) _ _

set_option maxHeartbeats 2000000 in
/-- Kernel and reference leave the same arrays. -/
theorem value : Cert.algebraic_KernelGatesFwdIdeal_ReferenceGatesFwdIdeal := by
  pair_intro
  · run_from Cert.KernelGatesFwdIdeal.Gen.run_main m g
  · refine θ_run_mono (Cert.ReferenceGatesFwdIdeal.Value.run m' g') ?_
    intro r hr c
    obtain ⟨h0, h1, kept⟩ := hr c
    obtain ⟨a0, a1, a2, a3, a4, a5⟩ := hagree c
    refine ⟨h0.trans ?_, h1.trans ?_, kept⟩
    · clear h0 h1 kept hr
      refine ((dats m 0 c).arrAt_eq_of_covers 6 _ (by decide +kernel) fun t hf y => ?_).symm
      rw [place6 t y]
      blk_simp
      rw [after0_6]
      frame_out
      pointwise [k0_pay2]
      rw [rate, first_gate m c t, in5 m c t]
      pointwise [a0, a1, a2, a3, a4, a5]
      refine (congrArg (fun s => Ideal.exp (logA s _)) (spelt _ _ _ _)).trans ?_
      rfl
    · clear h0 h1 kept hr
      refine ((dats m 0 c).arrAt_eq_of_covers 7 _ (by decide +kernel) fun t hf y => ?_).symm
      rw [place7 t y]
      blk_simp
      rw [after0_7]
      frame_out
      unfold k0_pay24 k0_pay25
      frame_out
      pointwise [k0_pay3]
      rw [rate, first_gate m c t, second_gate m c t, in0 m c t, in5 m c t, gain]
      pointwise [a0, a1, a2, a3, a4, a5]
      refine (congrArg₂ (fun s s' => Ideal.sqrt (-(Ideal.exp (Ideal.ofBits .f32 0x40000000#32 * logA s _) - 1)) * (s' * _)) (spelt _ _ _ _) (spelt _ _ _ _)).trans ?_
      rfl

end Cert.KernelGatesFwdIdeal.Array

end
-- ==== Proof.DwValue.lean ====
module

public import proofs.«01_k».proof.Proof.Gen.KernelDwIdeal.Frame
public import proofs.«01_k».proof.Proof.Gen.KernelDwIdeal.Points
public import proofs.«01_k».proof.Proof.Gen.KernelDwIdeal.Launch
public import proofs.«01_k».proof.Proof.Gen.ReferenceDwIdeal.Run
public import Idealize.ShloMosaic.Lib.Pipeline.ValueKit
public import Idealize.ShloMosaic.Lib.Pipeline.ReadBack
public import Idealize.ShloMosaic.Lib.Claim
public import proofs.«01_k».proof.Defs

/-!
Gradients of the square weights (w_out, the first branch projection, the lru_x and lru_gate columns of w_in).
-/

@[expose] public section

set_option maxRecDepth 16384

noncomputable section

namespace Cert.KernelDwIdeal.Array

open Cert.KernelDwIdeal Cert.KernelDwIdeal.Gen
open Idealize.ShloMosaic Idealize.ShloMosaic.TcCoe Idealize.SL.Sem
open Idealize.ShloMosaic.Pipeline (Dat)

variable (m : (ℓ : Loc nD τ sig) → Buf (Elt Ideal) ℓ)

/-- The gradient of the weight as the reference writes it: one product over all rows. -/
abbrev want (x : FVec Ideal Cert.ReferenceDwIdeal.S8192x1024 .bf16) (dy : FVec Ideal Cert.ReferenceDwIdeal.S8192x1024 .bf16) :
    FVec Ideal Cert.ReferenceDwIdeal.S1024x1024 .bf16 :=
  truncf .bf16 (transpose Cert.ReferenceDwIdeal.S1024x1024 [1, 0]
    (Host.dotGeneral Cert.ReferenceDwIdeal.dot_S8192x1024_S8192x1024_S1024x1024_0_0_1_1_n_n none (extf .f32 dy Cert.ReferenceDwIdeal.Gen.bitsLt_bf16_f32) (extf .f32 x Cert.ReferenceDwIdeal.Gen.bitsLt_bf16_f32))
    Cert.ReferenceDwIdeal.Gen.transposes_S1024x1024_S1024x1024_1_0) Cert.ReferenceDwIdeal.Gen.bitsLt_bf16_f32

/-- Which block each window holds at grid point `t`. -/
theorem blocks : ∀ t : Fin cfg0.N, win0_0.index t = ![t.val % 4, 0]
    ∧ win0_1.index t = ![t.val % 4, 0]
    ∧ win0_2.index t = ![0, 0] :=
  (by decide +kernel : ∀ t : Fin grid0.N, _)

/-- What one block of the summed dimension adds at an entry. -/
def dot (x : FVec Ideal S2048x1024 .bf16) (dy : FVec Ideal S2048x1024 .bf16) (y : S1024x1024.Idx) : EReal :=
  ∑ k : Fin 2048, x (ix2 k (y 0)) * dy (ix2 k (y 1))

/-- What grid point `t` adds at an entry. -/
abbrev part (c : Dev nD) (t : Fin cfg0.N) (y : S1024x1024.Idx) : EReal := dot (iblk m c 0 t) (iblk m c 1 t) y

theorem first_pay (x dy) (y : S1024x1024.Idx) : k0_pay2 (F := Ideal) x dy y = dot x dy y := by
  pointwise [k0_pay2, k0_pay1, dot]

theorem next_pay (x dy acc) (y : S1024x1024.Idx) : k0_pay3 (F := Ideal) x dy acc y = (acc y : EReal) + dot x dy y := by
  pointwise [k0_pay3, k0_pay1, dot]

theorem last_pay (x dy acc) (y : S1024x1024.Idx) : k0_pay4 (F := Ideal) x dy acc y = (acc y : EReal) + dot x dy y := by
  pointwise [k0_pay4, k0_pay1, dot]

/-- The running sum after grid point `n`: the scratch, or at the last point of a block the block written out. -/
def running (c : Dev nD) (n : ℕ) (h : n < cfg0.N) : S1024x1024.Idx → EReal :=
  if n % 4 = 3 then (outsAt0 m c n h).1 else (outsAt0 m c n h).2

theorem running_first (c : Dev nD) (t : Fin cfg0.N) (h : t.val % 4 = 0) (y) :
    running m c t.val t.isLt y = 0 + part m c t y := by
  rw [running, if_neg (by omega), outsAt0_A m c t h (by omega) (by omega)]
  frame_out
  exact (first_pay _ _ y).trans (zero_add (part m c t y)).symm

theorem running_next (c : Dev nD) (t : Fin cfg0.N) (h : ¬t.val % 4 = 0) (y) :
    running m c t.val t.isLt y
      = running m c (t.val - 1) (Nat.lt_of_le_of_lt (Nat.sub_le _ _) t.isLt) y + part m c t y := by
  have hp : ¬(t.val - 1) % 4 = 3 := by omega
  by_cases h3 : t.val % 4 = 3
  · rw [running, running, if_pos h3, if_neg hp, outsAt0_C m c t h (by omega) h3]
    frame_out
    exact (last_pay _ _ _ y).trans (congrArg (fun a : EReal => a + part m c t y)
      (congrFun (read_unread_whole cc0_scratch0 _ _) y))
  · rw [running, running, if_neg h3, if_neg hp, outsAt0_B m c t h (by omega) h3]
    frame_out
    exact (next_pay _ _ _ y).trans (congrArg (fun a : EReal => a + part m c t y)
      (congrFun (read_unread_whole cc0_scratch0 _ _) y))

/-- What is written out at the last point of a block is the sum of its parts. -/
theorem written (c : Dev nD) (t : Fin cfg0.N) (h : t.val % 4 = 3) (y : S1024x1024.Idx) :
    (show FVec Ideal S1024x1024 .bf16 from (outsAt0 m c t.val t.isLt).1) y
      = ∑ s : Fin 4, part m c ⟨4 * (t.val / 4) + s.val, Pipeline.run_point_lt_of_flush t h s⟩ y := by
  have e := Pipeline.eq_sum_fin_of_reset_step_apply_of_flush (running m c) 4 (fun _ => 0) (part m c)
    (running_first m c) (running_next m c) t h y
  rw [running, if_pos h, zero_add] at e
  exact e

/-- The result array after the run. -/
theorem array (c : Dev nD) : (dats m 0 c).arrAt 2 (cfgs 0).N
    = want (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2]
  refine (written m c t h y).trans ?_
  pointwise [want, part, dot]
  refine Fin.sum_mul_add_congr fun s k hl => ?_
  refine Eq.trans ?_ (mul_comm (G := EReal) _ _)
  blk_point [iblk, V, blocks t, blocks ⟨_, Pipeline.run_point_lt_of_flush t h s⟩]

/-- Kernel and reference leave the same array. -/
theorem value : Cert.algebraic_KernelDwIdeal_ReferenceDwIdeal := by
  pair_intro
  · run_from Cert.KernelDwIdeal.Gen.run_main m g
  · run_from Cert.ReferenceDwIdeal.Value.run m' g'
    exact (array m c).symm

end Cert.KernelDwIdeal.Array

end
-- ==== Proof.DwZValue.lean ====
module

public import proofs.«01_k».proof.Proof.Gen.KernelDwZIdeal.Frame
public import proofs.«01_k».proof.Proof.Gen.KernelDwZIdeal.Points
public import proofs.«01_k».proof.Proof.Gen.KernelDwZIdeal.Launch
public import proofs.«01_k».proof.Proof.Gen.ReferenceDwZIdeal.Run
public import Idealize.ShloMosaic.Lib.Pipeline.ValueKit
public import Idealize.ShloMosaic.Lib.Pipeline.ReadBack
public import Idealize.ShloMosaic.Lib.Claim
public import proofs.«01_k».proof.Defs

/-!
Gradients of the 2048-wide column blocks of w_in (the ssd gate and the merge gates).
-/

@[expose] public section

set_option maxRecDepth 16384

noncomputable section

namespace Cert.KernelDwZIdeal.Array

open Cert.KernelDwZIdeal Cert.KernelDwZIdeal.Gen
open Idealize.ShloMosaic Idealize.ShloMosaic.TcCoe Idealize.SL.Sem
open Idealize.ShloMosaic.Pipeline (Dat)

variable (m : (ℓ : Loc nD τ sig) → Buf (Elt Ideal) ℓ)

/-- The gradient of the weight as the reference writes it: one product over all rows. -/
abbrev want (x : FVec Ideal Cert.ReferenceDwZIdeal.S8192x1024 .bf16) (dy : FVec Ideal Cert.ReferenceDwZIdeal.S8192x2048 .bf16) :
    FVec Ideal Cert.ReferenceDwZIdeal.S1024x2048 .bf16 :=
  truncf .bf16 (transpose Cert.ReferenceDwZIdeal.S1024x2048 [1, 0]
    (Host.dotGeneral Cert.ReferenceDwZIdeal.dot_S8192x2048_S8192x1024_S2048x1024_0_0_1_1_n_n none (extf .f32 dy Cert.ReferenceDwZIdeal.Gen.bitsLt_bf16_f32) (extf .f32 x Cert.ReferenceDwZIdeal.Gen.bitsLt_bf16_f32))
    Cert.ReferenceDwZIdeal.Gen.transposes_S2048x1024_S1024x2048_1_0) Cert.ReferenceDwZIdeal.Gen.bitsLt_bf16_f32

/-- Which block each window holds at grid point `t`. -/
theorem blocks : ∀ t : Fin cfg0.N, win0_0.index t = ![t.val % 4, 0]
    ∧ win0_1.index t = ![t.val % 4, t.val / 4]
    ∧ win0_2.index t = ![0, t.val / 4] :=
  (by decide +kernel : ∀ t : Fin grid0.N, _)

/-- What one block of the summed dimension adds at an entry. -/
def dot (x : FVec Ideal S2048x1024 .bf16) (dy : FVec Ideal S2048x1024 .bf16) (y : S1024x1024.Idx) : EReal :=
  ∑ k : Fin 2048, x (ix2 k (y 0)) * dy (ix2 k (y 1))

/-- What grid point `t` adds at an entry. -/
abbrev part (c : Dev nD) (t : Fin cfg0.N) (y : S1024x1024.Idx) : EReal := dot (iblk m c 0 t) (iblk m c 1 t) y

theorem first_pay (x dy) (y : S1024x1024.Idx) : k0_pay2 (F := Ideal) x dy y = dot x dy y := by
  pointwise [k0_pay2, k0_pay1, dot]

theorem next_pay (x dy acc) (y : S1024x1024.Idx) : k0_pay3 (F := Ideal) x dy acc y = (acc y : EReal) + dot x dy y := by
  pointwise [k0_pay3, k0_pay1, dot]

theorem last_pay (x dy acc) (y : S1024x1024.Idx) : k0_pay4 (F := Ideal) x dy acc y = (acc y : EReal) + dot x dy y := by
  pointwise [k0_pay4, k0_pay1, dot]

/-- The running sum after grid point `n`: the scratch, or at the last point of a block the block written out. -/
def running (c : Dev nD) (n : ℕ) (h : n < cfg0.N) : S1024x1024.Idx → EReal :=
  if n % 4 = 3 then (outsAt0 m c n h).1 else (outsAt0 m c n h).2

theorem running_first (c : Dev nD) (t : Fin cfg0.N) (h : t.val % 4 = 0) (y) :
    running m c t.val t.isLt y = 0 + part m c t y := by
  rw [running, if_neg (by omega), outsAt0_A m c t h (by omega) (by omega)]
  frame_out
  exact (first_pay _ _ y).trans (zero_add (part m c t y)).symm

theorem running_next (c : Dev nD) (t : Fin cfg0.N) (h : ¬t.val % 4 = 0) (y) :
    running m c t.val t.isLt y
      = running m c (t.val - 1) (Nat.lt_of_le_of_lt (Nat.sub_le _ _) t.isLt) y + part m c t y := by
  have hp : ¬(t.val - 1) % 4 = 3 := by omega
  by_cases h3 : t.val % 4 = 3
  · rw [running, running, if_pos h3, if_neg hp, outsAt0_C m c t h (by omega) h3]
    frame_out
    exact (last_pay _ _ _ y).trans (congrArg (fun a : EReal => a + part m c t y)
      (congrFun (read_unread_whole cc0_scratch0 _ _) y))
  · rw [running, running, if_neg h3, if_neg hp, outsAt0_B m c t h (by omega) h3]
    frame_out
    exact (next_pay _ _ _ y).trans (congrArg (fun a : EReal => a + part m c t y)
      (congrFun (read_unread_whole cc0_scratch0 _ _) y))

/-- What is written out at the last point of a block is the sum of its parts. -/
theorem written (c : Dev nD) (t : Fin cfg0.N) (h : t.val % 4 = 3) (y : S1024x1024.Idx) :
    (show FVec Ideal S1024x1024 .bf16 from (outsAt0 m c t.val t.isLt).1) y
      = ∑ s : Fin 4, part m c ⟨4 * (t.val / 4) + s.val, Pipeline.run_point_lt_of_flush t h s⟩ y := by
  have e := Pipeline.eq_sum_fin_of_reset_step_apply_of_flush (running m c) 4 (fun _ => 0) (part m c)
    (running_first m c) (running_next m c) t h y
  rw [running, if_pos h, zero_add] at e
  exact e

/-- The result array after the run. -/
theorem array (c : Dev nD) : (dats m 0 c).arrAt 2 (cfgs 0).N
    = want (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2]
  refine (written m c t h y).trans ?_
  pointwise [want, part, dot]
  refine Fin.sum_mul_add_congr fun s k hl => ?_
  refine Eq.trans ?_ (mul_comm (G := EReal) _ _)
  blk_point [iblk, V, blocks t, blocks ⟨_, Pipeline.run_point_lt_of_flush t h s⟩]

/-- Kernel and reference leave the same array. -/
theorem value : Cert.algebraic_KernelDwZIdeal_ReferenceDwZIdeal := by
  pair_intro
  · run_from Cert.KernelDwZIdeal.Gen.run_main m g
  · run_from Cert.ReferenceDwZIdeal.Value.run m' g'
    exact (array m c).symm

end Cert.KernelDwZIdeal.Array

end
-- ==== Proof.DwXbcValue.lean ====
module

public import proofs.«01_k».proof.Proof.Gen.KernelDwXbcIdeal.Frame
public import proofs.«01_k».proof.Proof.Gen.KernelDwXbcIdeal.Points
public import proofs.«01_k».proof.Proof.Gen.KernelDwXbcIdeal.Launch
public import proofs.«01_k».proof.Proof.Gen.ReferenceDwXbcIdeal.Run
public import Idealize.ShloMosaic.Lib.Pipeline.ValueKit
public import Idealize.ShloMosaic.Lib.Pipeline.ReadBack
public import Idealize.ShloMosaic.Lib.Claim
public import proofs.«01_k».proof.Defs

/-!
Gradient of the convolved columns of w_in.
-/

@[expose] public section

set_option maxRecDepth 16384

noncomputable section

namespace Cert.KernelDwXbcIdeal.Array

open Cert.KernelDwXbcIdeal Cert.KernelDwXbcIdeal.Gen
open Idealize.ShloMosaic Idealize.ShloMosaic.TcCoe Idealize.SL.Sem
open Idealize.ShloMosaic.Pipeline (Dat)

variable (m : (ℓ : Loc nD τ sig) → Buf (Elt Ideal) ℓ)

/-- The gradient of the weight as the reference writes it: one product over all rows. -/
abbrev want (x : FVec Ideal Cert.ReferenceDwXbcIdeal.S8192x1024 .bf16) (dy : FVec Ideal Cert.ReferenceDwXbcIdeal.S8192x3072 .bf16) :
    FVec Ideal Cert.ReferenceDwXbcIdeal.S1024x3072 .bf16 :=
  truncf .bf16 (transpose Cert.ReferenceDwXbcIdeal.S1024x3072 [1, 0]
    (Host.dotGeneral Cert.ReferenceDwXbcIdeal.dot_S8192x3072_S8192x1024_S3072x1024_0_0_1_1_n_n none (extf .f32 dy Cert.ReferenceDwXbcIdeal.Gen.bitsLt_bf16_f32) (extf .f32 x Cert.ReferenceDwXbcIdeal.Gen.bitsLt_bf16_f32))
    Cert.ReferenceDwXbcIdeal.Gen.transposes_S3072x1024_S1024x3072_1_0) Cert.ReferenceDwXbcIdeal.Gen.bitsLt_bf16_f32

/-- Which block each window holds at grid point `t`. -/
theorem blocks : ∀ t : Fin cfg0.N, win0_0.index t = ![t.val % 4, 0]
    ∧ win0_1.index t = ![t.val % 4, t.val / 4]
    ∧ win0_2.index t = ![0, t.val / 4] :=
  (by decide +kernel : ∀ t : Fin grid0.N, _)

/-- What one block of the summed dimension adds at an entry. -/
def dot (x : FVec Ideal S2048x1024 .bf16) (dy : FVec Ideal S2048x1024 .bf16) (y : S1024x1024.Idx) : EReal :=
  ∑ k : Fin 2048, x (ix2 k (y 0)) * dy (ix2 k (y 1))

/-- What grid point `t` adds at an entry. -/
abbrev part (c : Dev nD) (t : Fin cfg0.N) (y : S1024x1024.Idx) : EReal := dot (iblk m c 0 t) (iblk m c 1 t) y

theorem first_pay (x dy) (y : S1024x1024.Idx) : k0_pay2 (F := Ideal) x dy y = dot x dy y := by
  pointwise [k0_pay2, k0_pay1, dot]

theorem next_pay (x dy acc) (y : S1024x1024.Idx) : k0_pay3 (F := Ideal) x dy acc y = (acc y : EReal) + dot x dy y := by
  pointwise [k0_pay3, k0_pay1, dot]

theorem last_pay (x dy acc) (y : S1024x1024.Idx) : k0_pay4 (F := Ideal) x dy acc y = (acc y : EReal) + dot x dy y := by
  pointwise [k0_pay4, k0_pay1, dot]

/-- The running sum after grid point `n`: the scratch, or at the last point of a block the block written out. -/
def running (c : Dev nD) (n : ℕ) (h : n < cfg0.N) : S1024x1024.Idx → EReal :=
  if n % 4 = 3 then (outsAt0 m c n h).1 else (outsAt0 m c n h).2

theorem running_first (c : Dev nD) (t : Fin cfg0.N) (h : t.val % 4 = 0) (y) :
    running m c t.val t.isLt y = 0 + part m c t y := by
  rw [running, if_neg (by omega), outsAt0_A m c t h (by omega) (by omega)]
  frame_out
  exact (first_pay _ _ y).trans (zero_add (part m c t y)).symm

theorem running_next (c : Dev nD) (t : Fin cfg0.N) (h : ¬t.val % 4 = 0) (y) :
    running m c t.val t.isLt y
      = running m c (t.val - 1) (Nat.lt_of_le_of_lt (Nat.sub_le _ _) t.isLt) y + part m c t y := by
  have hp : ¬(t.val - 1) % 4 = 3 := by omega
  by_cases h3 : t.val % 4 = 3
  · rw [running, running, if_pos h3, if_neg hp, outsAt0_C m c t h (by omega) h3]
    frame_out
    exact (last_pay _ _ _ y).trans (congrArg (fun a : EReal => a + part m c t y)
      (congrFun (read_unread_whole cc0_scratch0 _ _) y))
  · rw [running, running, if_neg h3, if_neg hp, outsAt0_B m c t h (by omega) h3]
    frame_out
    exact (next_pay _ _ _ y).trans (congrArg (fun a : EReal => a + part m c t y)
      (congrFun (read_unread_whole cc0_scratch0 _ _) y))

/-- What is written out at the last point of a block is the sum of its parts. -/
theorem written (c : Dev nD) (t : Fin cfg0.N) (h : t.val % 4 = 3) (y : S1024x1024.Idx) :
    (show FVec Ideal S1024x1024 .bf16 from (outsAt0 m c t.val t.isLt).1) y
      = ∑ s : Fin 4, part m c ⟨4 * (t.val / 4) + s.val, Pipeline.run_point_lt_of_flush t h s⟩ y := by
  have e := Pipeline.eq_sum_fin_of_reset_step_apply_of_flush (running m c) 4 (fun _ => 0) (part m c)
    (running_first m c) (running_next m c) t h y
  rw [running, if_pos h, zero_add] at e
  exact e

/-- The result array after the run. -/
theorem array (c : Dev nD) : (dats m 0 c).arrAt 2 (cfgs 0).N
    = want (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2]
  refine (written m c t h y).trans ?_
  pointwise [want, part, dot]
  refine Fin.sum_mul_add_congr fun s k hl => ?_
  refine Eq.trans ?_ (mul_comm (G := EReal) _ _)
  blk_point [iblk, V, blocks t, blocks ⟨_, Pipeline.run_point_lt_of_flush t h s⟩]

/-- Kernel and reference leave the same array. -/
theorem value : Cert.algebraic_KernelDwXbcIdeal_ReferenceDwXbcIdeal := by
  pair_intro
  · run_from Cert.KernelDwXbcIdeal.Gen.run_main m g
  · run_from Cert.ReferenceDwXbcIdeal.Value.run m' g'
    exact (array m c).symm

end Cert.KernelDwXbcIdeal.Array

end
-- ==== Proof.DwDtValue.lean ====
module

public import proofs.«01_k».proof.Proof.Gen.KernelDwDtIdeal.Frame
public import proofs.«01_k».proof.Proof.Gen.KernelDwDtIdeal.Points
public import proofs.«01_k».proof.Proof.Gen.KernelDwDtIdeal.Launch
public import proofs.«01_k».proof.Proof.Gen.ReferenceDwDtIdeal.Run
public import Idealize.ShloMosaic.Lib.Pipeline.ValueKit
public import Idealize.ShloMosaic.Lib.Pipeline.ReadBack
public import Idealize.ShloMosaic.Lib.Claim
public import proofs.«01_k».proof.Defs

/-!
Gradient of the padded step-size columns of w_in.
-/

@[expose] public section

set_option maxRecDepth 16384

noncomputable section

namespace Cert.KernelDwDtIdeal.Array

open Cert.KernelDwDtIdeal Cert.KernelDwDtIdeal.Gen
open Idealize.ShloMosaic Idealize.ShloMosaic.TcCoe Idealize.SL.Sem
open Idealize.ShloMosaic.Pipeline (Dat)

variable (m : (ℓ : Loc nD τ sig) → Buf (Elt Ideal) ℓ)

/-- The gradient of the weight as the reference writes it: one product over all rows. -/
abbrev want (x : FVec Ideal Cert.ReferenceDwDtIdeal.S8192x1024 .bf16) (dy : FVec Ideal Cert.ReferenceDwDtIdeal.S8192x128 .bf16) :
    FVec Ideal Cert.ReferenceDwDtIdeal.S1024x128 .bf16 :=
  truncf .bf16 (transpose Cert.ReferenceDwDtIdeal.S1024x128 [1, 0]
    (Host.dotGeneral Cert.ReferenceDwDtIdeal.dot_S8192x128_S8192x1024_S128x1024_0_0_1_1_n_n none (extf .f32 dy Cert.ReferenceDwDtIdeal.Gen.bitsLt_bf16_f32) (extf .f32 x Cert.ReferenceDwDtIdeal.Gen.bitsLt_bf16_f32))
    Cert.ReferenceDwDtIdeal.Gen.transposes_S128x1024_S1024x128_1_0) Cert.ReferenceDwDtIdeal.Gen.bitsLt_bf16_f32

/-- Which block each window holds at grid point `t`. -/
theorem blocks : ∀ t : Fin cfg0.N, win0_0.index t = ![t.val % 4, 0]
    ∧ win0_1.index t = ![t.val % 4, 0]
    ∧ win0_2.index t = ![0, 0] :=
  (by decide +kernel : ∀ t : Fin grid0.N, _)

/-- What one block of the summed dimension adds at an entry. -/
def dot (x : FVec Ideal S2048x1024 .bf16) (dy : FVec Ideal S2048x128 .bf16) (y : S1024x128.Idx) : EReal :=
  ∑ k : Fin 2048, x (ix2 k (y 0)) * dy (ix2 k (y 1))

/-- What grid point `t` adds at an entry. -/
abbrev part (c : Dev nD) (t : Fin cfg0.N) (y : S1024x128.Idx) : EReal := dot (iblk m c 0 t) (iblk m c 1 t) y

theorem first_pay (x dy) (y : S1024x128.Idx) : k0_pay2 (F := Ideal) x dy y = dot x dy y := by
  pointwise [k0_pay2, k0_pay1, dot]

theorem next_pay (x dy acc) (y : S1024x128.Idx) : k0_pay3 (F := Ideal) x dy acc y = (acc y : EReal) + dot x dy y := by
  pointwise [k0_pay3, k0_pay1, dot]

theorem last_pay (x dy acc) (y : S1024x128.Idx) : k0_pay4 (F := Ideal) x dy acc y = (acc y : EReal) + dot x dy y := by
  pointwise [k0_pay4, k0_pay1, dot]

/-- The running sum after grid point `n`: the scratch, or at the last point of a block the block written out. -/
def running (c : Dev nD) (n : ℕ) (h : n < cfg0.N) : S1024x128.Idx → EReal :=
  if n % 4 = 3 then (outsAt0 m c n h).1 else (outsAt0 m c n h).2

theorem running_first (c : Dev nD) (t : Fin cfg0.N) (h : t.val % 4 = 0) (y) :
    running m c t.val t.isLt y = 0 + part m c t y := by
  rw [running, if_neg (by omega), outsAt0_A m c t h (by omega) (by omega)]
  frame_out
  exact (first_pay _ _ y).trans (zero_add (part m c t y)).symm

theorem running_next (c : Dev nD) (t : Fin cfg0.N) (h : ¬t.val % 4 = 0) (y) :
    running m c t.val t.isLt y
      = running m c (t.val - 1) (Nat.lt_of_le_of_lt (Nat.sub_le _ _) t.isLt) y + part m c t y := by
  have hp : ¬(t.val - 1) % 4 = 3 := by omega
  by_cases h3 : t.val % 4 = 3
  · rw [running, running, if_pos h3, if_neg hp, outsAt0_C m c t h (by omega) h3]
    frame_out
    exact (last_pay _ _ _ y).trans (congrArg (fun a : EReal => a + part m c t y)
      (congrFun (read_unread_whole cc0_scratch0 _ _) y))
  · rw [running, running, if_neg h3, if_neg hp, outsAt0_B m c t h (by omega) h3]
    frame_out
    exact (next_pay _ _ _ y).trans (congrArg (fun a : EReal => a + part m c t y)
      (congrFun (read_unread_whole cc0_scratch0 _ _) y))

/-- What is written out at the last point of a block is the sum of its parts. -/
theorem written (c : Dev nD) (t : Fin cfg0.N) (h : t.val % 4 = 3) (y : S1024x128.Idx) :
    (show FVec Ideal S1024x128 .bf16 from (outsAt0 m c t.val t.isLt).1) y
      = ∑ s : Fin 4, part m c ⟨4 * (t.val / 4) + s.val, Pipeline.run_point_lt_of_flush t h s⟩ y := by
  have e := Pipeline.eq_sum_fin_of_reset_step_apply_of_flush (running m c) 4 (fun _ => 0) (part m c)
    (running_first m c) (running_next m c) t h y
  rw [running, if_pos h, zero_add] at e
  exact e

/-- The result array after the run. -/
theorem array (c : Dev nD) : (dats m 0 c).arrAt 2 (cfgs 0).N
    = want (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2]
  refine (written m c t h y).trans ?_
  pointwise [want, part, dot]
  refine Fin.sum_mul_add_congr fun s k hl => ?_
  refine Eq.trans ?_ (mul_comm (G := EReal) _ _)
  blk_point [iblk, V, blocks t, blocks ⟨_, Pipeline.run_point_lt_of_flush t h s⟩]

/-- Kernel and reference leave the same array. -/
theorem value : Cert.algebraic_KernelDwDtIdeal_ReferenceDwDtIdeal := by
  pair_intro
  · run_from Cert.KernelDwDtIdeal.Gen.run_main m g
  · run_from Cert.ReferenceDwDtIdeal.Value.run m' g'
    exact (array m c).symm

end Cert.KernelDwDtIdeal.Array

end
-- ==== Proof.DwFfnOutValue.lean ====
module

public import proofs.«01_k».proof.Proof.Gen.KernelDwFfnOutIdeal.Frame
public import proofs.«01_k».proof.Proof.Gen.KernelDwFfnOutIdeal.Points
public import proofs.«01_k».proof.Proof.Gen.KernelDwFfnOutIdeal.Launch
public import proofs.«01_k».proof.Proof.Gen.ReferenceDwFfnOutIdeal.Run
public import Idealize.ShloMosaic.Lib.Pipeline.ValueKit
public import Idealize.ShloMosaic.Lib.Pipeline.ReadBack
public import Idealize.ShloMosaic.Lib.Claim
public import proofs.«01_k».proof.Defs

/-!
Gradient of w_ffn_out.
-/

@[expose] public section

set_option maxRecDepth 16384

noncomputable section

namespace Cert.KernelDwFfnOutIdeal.Array

open Cert.KernelDwFfnOutIdeal Cert.KernelDwFfnOutIdeal.Gen
open Idealize.ShloMosaic Idealize.ShloMosaic.TcCoe Idealize.SL.Sem
open Idealize.ShloMosaic.Pipeline (Dat)

variable (m : (ℓ : Loc nD τ sig) → Buf (Elt Ideal) ℓ)

/-- The gradient of the weight as the reference writes it: one product over all rows. -/
abbrev want (x : FVec Ideal Cert.ReferenceDwFfnOutIdeal.S8192x2816 .bf16) (dy : FVec Ideal Cert.ReferenceDwFfnOutIdeal.S8192x1024 .bf16) :
    FVec Ideal Cert.ReferenceDwFfnOutIdeal.S2816x1024 .bf16 :=
  truncf .bf16 (transpose Cert.ReferenceDwFfnOutIdeal.S2816x1024 [1, 0]
    (Host.dotGeneral Cert.ReferenceDwFfnOutIdeal.dot_S8192x1024_S8192x2816_S1024x2816_0_0_1_1_n_n none (extf .f32 dy Cert.ReferenceDwFfnOutIdeal.Gen.bitsLt_bf16_f32) (extf .f32 x Cert.ReferenceDwFfnOutIdeal.Gen.bitsLt_bf16_f32))
    Cert.ReferenceDwFfnOutIdeal.Gen.transposes_S1024x2816_S2816x1024_1_0) Cert.ReferenceDwFfnOutIdeal.Gen.bitsLt_bf16_f32

/-- Which block each window holds at grid point `t`. -/
theorem blocks : ∀ t : Fin cfg0.N, win0_0.index t = ![t.val % 4, t.val / 4]
    ∧ win0_1.index t = ![t.val % 4, 0]
    ∧ win0_2.index t = ![t.val / 4, 0] :=
  (by decide +kernel : ∀ t : Fin grid0.N, _)

/-- What one block of the summed dimension adds at an entry. -/
def dot (x : FVec Ideal S2048x256 .bf16) (dy : FVec Ideal S2048x1024 .bf16) (y : S256x1024.Idx) : EReal :=
  ∑ k : Fin 2048, x (ix2 k (y 0)) * dy (ix2 k (y 1))

/-- What grid point `t` adds at an entry. -/
abbrev part (c : Dev nD) (t : Fin cfg0.N) (y : S256x1024.Idx) : EReal := dot (iblk m c 0 t) (iblk m c 1 t) y

theorem first_pay (x dy) (y : S256x1024.Idx) : k0_pay2 (F := Ideal) x dy y = dot x dy y := by
  pointwise [k0_pay2, k0_pay1, dot]

theorem next_pay (x dy acc) (y : S256x1024.Idx) : k0_pay3 (F := Ideal) x dy acc y = (acc y : EReal) + dot x dy y := by
  pointwise [k0_pay3, k0_pay1, dot]

theorem last_pay (x dy acc) (y : S256x1024.Idx) : k0_pay4 (F := Ideal) x dy acc y = (acc y : EReal) + dot x dy y := by
  pointwise [k0_pay4, k0_pay1, dot]

/-- The running sum after grid point `n`: the scratch, or at the last point of a block the block written out. -/
def running (c : Dev nD) (n : ℕ) (h : n < cfg0.N) : S256x1024.Idx → EReal :=
  if n % 4 = 3 then (outsAt0 m c n h).1 else (outsAt0 m c n h).2

theorem running_first (c : Dev nD) (t : Fin cfg0.N) (h : t.val % 4 = 0) (y) :
    running m c t.val t.isLt y = 0 + part m c t y := by
  rw [running, if_neg (by omega), outsAt0_A m c t h (by omega) (by omega)]
  frame_out
  exact (first_pay _ _ y).trans (zero_add (part m c t y)).symm

theorem running_next (c : Dev nD) (t : Fin cfg0.N) (h : ¬t.val % 4 = 0) (y) :
    running m c t.val t.isLt y
      = running m c (t.val - 1) (Nat.lt_of_le_of_lt (Nat.sub_le _ _) t.isLt) y + part m c t y := by
  have hp : ¬(t.val - 1) % 4 = 3 := by omega
  by_cases h3 : t.val % 4 = 3
  · rw [running, running, if_pos h3, if_neg hp, outsAt0_C m c t h (by omega) h3]
    frame_out
    exact (last_pay _ _ _ y).trans (congrArg (fun a : EReal => a + part m c t y)
      (congrFun (read_unread_whole cc0_scratch0 _ _) y))
  · rw [running, running, if_neg h3, if_neg hp, outsAt0_B m c t h (by omega) h3]
    frame_out
    exact (next_pay _ _ _ y).trans (congrArg (fun a : EReal => a + part m c t y)
      (congrFun (read_unread_whole cc0_scratch0 _ _) y))

/-- What is written out at the last point of a block is the sum of its parts. -/
theorem written (c : Dev nD) (t : Fin cfg0.N) (h : t.val % 4 = 3) (y : S256x1024.Idx) :
    (show FVec Ideal S256x1024 .bf16 from (outsAt0 m c t.val t.isLt).1) y
      = ∑ s : Fin 4, part m c ⟨4 * (t.val / 4) + s.val, Pipeline.run_point_lt_of_flush t h s⟩ y := by
  have e := Pipeline.eq_sum_fin_of_reset_step_apply_of_flush (running m c) 4 (fun _ => 0) (part m c)
    (running_first m c) (running_next m c) t h y
  rw [running, if_pos h, zero_add] at e
  exact e

/-- The result array after the run. -/
theorem array (c : Dev nD) : (dats m 0 c).arrAt 2 (cfgs 0).N
    = want (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2]
  refine (written m c t h y).trans ?_
  pointwise [want, part, dot]
  refine Fin.sum_mul_add_congr fun s k hl => ?_
  refine Eq.trans ?_ (mul_comm (G := EReal) _ _)
  blk_point [iblk, V, blocks t, blocks ⟨_, Pipeline.run_point_lt_of_flush t h s⟩]

/-- Kernel and reference leave the same array. -/
theorem value : Cert.algebraic_KernelDwFfnOutIdeal_ReferenceDwFfnOutIdeal := by
  pair_intro
  · run_from Cert.KernelDwFfnOutIdeal.Gen.run_main m g
  · run_from Cert.ReferenceDwFfnOutIdeal.Value.run m' g'
    exact (array m c).symm

end Cert.KernelDwFfnOutIdeal.Array

end
-- ==== Proof.DwFfnInValue.lean ====
module

public import proofs.«01_k».proof.Proof.Gen.KernelDwFfnInIdeal.Frame
public import proofs.«01_k».proof.Proof.Gen.KernelDwFfnInIdeal.Points
public import proofs.«01_k».proof.Proof.Gen.KernelDwFfnInIdeal.Launch
public import proofs.«01_k».proof.Proof.Gen.ReferenceDwFfnInIdeal.Run
public import Idealize.ShloMosaic.Lib.Pipeline.ValueKit
public import Idealize.ShloMosaic.Lib.Pipeline.ReadBack
public import Idealize.ShloMosaic.Lib.Claim
public import proofs.«01_k».proof.Defs

/-!
Gradient of w_ffn_in, kept transposed.
-/

@[expose] public section

set_option maxRecDepth 16384

noncomputable section

namespace Cert.KernelDwFfnInIdeal.Array

open Cert.KernelDwFfnInIdeal Cert.KernelDwFfnInIdeal.Gen
open Idealize.ShloMosaic Idealize.ShloMosaic.TcCoe Idealize.SL.Sem
open Idealize.ShloMosaic.Pipeline (Dat)

variable (m : (ℓ : Loc nD τ sig) → Buf (Elt Ideal) ℓ)

/-- The gradient of the weight as the reference writes it: one product over all rows. -/
abbrev want (x : FVec Ideal Cert.ReferenceDwFfnInIdeal.S8192x5632 .bf16) (dy : FVec Ideal Cert.ReferenceDwFfnInIdeal.S8192x1024 .bf16) :
    FVec Ideal Cert.ReferenceDwFfnInIdeal.S5632x1024 .bf16 :=
  transpose Cert.ReferenceDwFfnInIdeal.S5632x1024 [1, 0] (truncf .bf16 (transpose Cert.ReferenceDwFfnInIdeal.S1024x5632 [1, 0]
    (Host.dotGeneral Cert.ReferenceDwFfnInIdeal.dot_S8192x5632_S8192x1024_S5632x1024_0_0_1_1_n_n none (extf .f32 x Cert.ReferenceDwFfnInIdeal.Gen.bitsLt_bf16_f32) (extf .f32 dy Cert.ReferenceDwFfnInIdeal.Gen.bitsLt_bf16_f32))
    Cert.ReferenceDwFfnInIdeal.Gen.transposes_S5632x1024_S1024x5632_1_0) Cert.ReferenceDwFfnInIdeal.Gen.bitsLt_bf16_f32) Cert.ReferenceDwFfnInIdeal.Gen.transposes_S1024x5632_S5632x1024_1_0

/-- Which block each window holds at grid point `t`. -/
theorem blocks : ∀ t : Fin cfg0.N, win0_0.index t = ![t.val % 4, t.val / 4]
    ∧ win0_1.index t = ![t.val % 4, 0]
    ∧ win0_2.index t = ![t.val / 4, 0] :=
  (by decide +kernel : ∀ t : Fin grid0.N, _)

/-- What one block of the summed dimension adds at an entry. -/
def dot (x : FVec Ideal S2048x512 .bf16) (dy : FVec Ideal S2048x1024 .bf16) (y : S512x1024.Idx) : EReal :=
  ∑ k : Fin 2048, x (ix2 k (y 0)) * dy (ix2 k (y 1))

/-- What grid point `t` adds at an entry. -/
abbrev part (c : Dev nD) (t : Fin cfg0.N) (y : S512x1024.Idx) : EReal := dot (iblk m c 0 t) (iblk m c 1 t) y

theorem first_pay (x dy) (y : S512x1024.Idx) : k0_pay2 (F := Ideal) x dy y = dot x dy y := by
  pointwise [k0_pay2, k0_pay1, dot]

theorem next_pay (x dy acc) (y : S512x1024.Idx) : k0_pay3 (F := Ideal) x dy acc y = (acc y : EReal) + dot x dy y := by
  pointwise [k0_pay3, k0_pay1, dot]

theorem last_pay (x dy acc) (y : S512x1024.Idx) : k0_pay4 (F := Ideal) x dy acc y = (acc y : EReal) + dot x dy y := by
  pointwise [k0_pay4, k0_pay1, dot]

/-- The running sum after grid point `n`: the scratch, or at the last point of a block the block written out. -/
def running (c : Dev nD) (n : ℕ) (h : n < cfg0.N) : S512x1024.Idx → EReal :=
  if n % 4 = 3 then (outsAt0 m c n h).1 else (outsAt0 m c n h).2

theorem running_first (c : Dev nD) (t : Fin cfg0.N) (h : t.val % 4 = 0) (y) :
    running m c t.val t.isLt y = 0 + part m c t y := by
  rw [running, if_neg (by omega), outsAt0_A m c t h (by omega) (by omega)]
  frame_out
  exact (first_pay _ _ y).trans (zero_add (part m c t y)).symm

theorem running_next (c : Dev nD) (t : Fin cfg0.N) (h : ¬t.val % 4 = 0) (y) :
    running m c t.val t.isLt y
      = running m c (t.val - 1) (Nat.lt_of_le_of_lt (Nat.sub_le _ _) t.isLt) y + part m c t y := by
  have hp : ¬(t.val - 1) % 4 = 3 := by omega
  by_cases h3 : t.val % 4 = 3
  · rw [running, running, if_pos h3, if_neg hp, outsAt0_C m c t h (by omega) h3]
    frame_out
    exact (last_pay _ _ _ y).trans (congrArg (fun a : EReal => a + part m c t y)
      (congrFun (read_unread_whole cc0_scratch0 _ _) y))
  · rw [running, running, if_neg h3, if_neg hp, outsAt0_B m c t h (by omega) h3]
    frame_out
    exact (next_pay _ _ _ y).trans (congrArg (fun a : EReal => a + part m c t y)
      (congrFun (read_unread_whole cc0_scratch0 _ _) y))

/-- What is written out at the last point of a block is the sum of its parts. -/
theorem written (c : Dev nD) (t : Fin cfg0.N) (h : t.val % 4 = 3) (y : S512x1024.Idx) :
    (show FVec Ideal S512x1024 .bf16 from (outsAt0 m c t.val t.isLt).1) y
      = ∑ s : Fin 4, part m c ⟨4 * (t.val / 4) + s.val, Pipeline.run_point_lt_of_flush t h s⟩ y := by
  have e := Pipeline.eq_sum_fin_of_reset_step_apply_of_flush (running m c) 4 (fun _ => 0) (part m c)
    (running_first m c) (running_next m c) t h y
  rw [running, if_pos h, zero_add] at e
  exact e

/-- The result array after the run. -/
theorem array (c : Dev nD) : (dats m 0 c).arrAt 2 (cfgs 0).N
    = want (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2]
  refine (written m c t h y).trans ?_
  pointwise [want, part, dot]
  refine Fin.sum_mul_add_congr fun s k hl => ?_
  blk_point [iblk, V, blocks t, blocks ⟨_, Pipeline.run_point_lt_of_flush t h s⟩]

/-- Kernel and reference leave the same array. -/
theorem value : Cert.algebraic_KernelDwFfnInIdeal_ReferenceDwFfnInIdeal := by
  pair_intro
  · run_from Cert.KernelDwFfnInIdeal.Gen.run_main m g
  · run_from Cert.ReferenceDwFfnInIdeal.Value.run m' g'
    exact (array m c).symm

end Cert.KernelDwFfnInIdeal.Array

end
-- ==== Proof.DwBrbValue.lean ====
module

public import proofs.«01_k».proof.Proof.Gen.KernelDwBrbIdeal.Frame
public import proofs.«01_k».proof.Proof.Gen.KernelDwBrbIdeal.Points
public import proofs.«01_k».proof.Proof.Gen.KernelDwBrbIdeal.Launch
public import proofs.«01_k».proof.Proof.Gen.ReferenceDwBrbIdeal.Run
public import Idealize.ShloMosaic.Lib.Pipeline.ValueKit
public import Idealize.ShloMosaic.Lib.Pipeline.ReadBack
public import Idealize.ShloMosaic.Lib.Claim
public import proofs.«01_k».proof.Defs

/-!
Gradient of the second branch projection.
-/

@[expose] public section

set_option maxRecDepth 16384

noncomputable section

namespace Cert.KernelDwBrbIdeal.Array

open Cert.KernelDwBrbIdeal Cert.KernelDwBrbIdeal.Gen
open Idealize.ShloMosaic Idealize.ShloMosaic.TcCoe Idealize.SL.Sem
open Idealize.ShloMosaic.Pipeline (Dat)

variable (m : (ℓ : Loc nD τ sig) → Buf (Elt Ideal) ℓ)

/-- The gradient of the weight as the reference writes it: one product over all rows. -/
abbrev want (x : FVec Ideal Cert.ReferenceDwBrbIdeal.S8192x2048 .bf16) (dy : FVec Ideal Cert.ReferenceDwBrbIdeal.S8192x1024 .bf16) :
    FVec Ideal Cert.ReferenceDwBrbIdeal.S2048x1024 .bf16 :=
  truncf .bf16 (transpose Cert.ReferenceDwBrbIdeal.S2048x1024 [1, 0]
    (Host.dotGeneral Cert.ReferenceDwBrbIdeal.dot_S8192x1024_S8192x2048_S1024x2048_0_0_1_1_n_n none (extf .f32 dy Cert.ReferenceDwBrbIdeal.Gen.bitsLt_bf16_f32) (extf .f32 x Cert.ReferenceDwBrbIdeal.Gen.bitsLt_bf16_f32))
    Cert.ReferenceDwBrbIdeal.Gen.transposes_S1024x2048_S2048x1024_1_0) Cert.ReferenceDwBrbIdeal.Gen.bitsLt_bf16_f32

/-- Which block each window holds at grid point `t`. -/
theorem blocks : ∀ t : Fin cfg0.N, win0_0.index t = ![t.val % 4, t.val / 4]
    ∧ win0_1.index t = ![t.val % 4, 0]
    ∧ win0_2.index t = ![t.val / 4, 0] :=
  (by decide +kernel : ∀ t : Fin grid0.N, _)

/-- What one block of the summed dimension adds at an entry. -/
def dot (x : FVec Ideal S2048x1024 .bf16) (dy : FVec Ideal S2048x1024 .bf16) (y : S1024x1024.Idx) : EReal :=
  ∑ k : Fin 2048, x (ix2 k (y 0)) * dy (ix2 k (y 1))

/-- What grid point `t` adds at an entry. -/
abbrev part (c : Dev nD) (t : Fin cfg0.N) (y : S1024x1024.Idx) : EReal := dot (iblk m c 0 t) (iblk m c 1 t) y

theorem first_pay (x dy) (y : S1024x1024.Idx) : k0_pay2 (F := Ideal) x dy y = dot x dy y := by
  pointwise [k0_pay2, k0_pay1, dot]

theorem next_pay (x dy acc) (y : S1024x1024.Idx) : k0_pay3 (F := Ideal) x dy acc y = (acc y : EReal) + dot x dy y := by
  pointwise [k0_pay3, k0_pay1, dot]

theorem last_pay (x dy acc) (y : S1024x1024.Idx) : k0_pay4 (F := Ideal) x dy acc y = (acc y : EReal) + dot x dy y := by
  pointwise [k0_pay4, k0_pay1, dot]

/-- The running sum after grid point `n`: the scratch, or at the last point of a block the block written out. -/
def running (c : Dev nD) (n : ℕ) (h : n < cfg0.N) : S1024x1024.Idx → EReal :=
  if n % 4 = 3 then (outsAt0 m c n h).1 else (outsAt0 m c n h).2

theorem running_first (c : Dev nD) (t : Fin cfg0.N) (h : t.val % 4 = 0) (y) :
    running m c t.val t.isLt y = 0 + part m c t y := by
  rw [running, if_neg (by omega), outsAt0_A m c t h (by omega) (by omega)]
  frame_out
  exact (first_pay _ _ y).trans (zero_add (part m c t y)).symm

theorem running_next (c : Dev nD) (t : Fin cfg0.N) (h : ¬t.val % 4 = 0) (y) :
    running m c t.val t.isLt y
      = running m c (t.val - 1) (Nat.lt_of_le_of_lt (Nat.sub_le _ _) t.isLt) y + part m c t y := by
  have hp : ¬(t.val - 1) % 4 = 3 := by omega
  by_cases h3 : t.val % 4 = 3
  · rw [running, running, if_pos h3, if_neg hp, outsAt0_C m c t h (by omega) h3]
    frame_out
    exact (last_pay _ _ _ y).trans (congrArg (fun a : EReal => a + part m c t y)
      (congrFun (read_unread_whole cc0_scratch0 _ _) y))
  · rw [running, running, if_neg h3, if_neg hp, outsAt0_B m c t h (by omega) h3]
    frame_out
    exact (next_pay _ _ _ y).trans (congrArg (fun a : EReal => a + part m c t y)
      (congrFun (read_unread_whole cc0_scratch0 _ _) y))

/-- What is written out at the last point of a block is the sum of its parts. -/
theorem written (c : Dev nD) (t : Fin cfg0.N) (h : t.val % 4 = 3) (y : S1024x1024.Idx) :
    (show FVec Ideal S1024x1024 .bf16 from (outsAt0 m c t.val t.isLt).1) y
      = ∑ s : Fin 4, part m c ⟨4 * (t.val / 4) + s.val, Pipeline.run_point_lt_of_flush t h s⟩ y := by
  have e := Pipeline.eq_sum_fin_of_reset_step_apply_of_flush (running m c) 4 (fun _ => 0) (part m c)
    (running_first m c) (running_next m c) t h y
  rw [running, if_pos h, zero_add] at e
  exact e

/-- The result array after the run. -/
theorem array (c : Dev nD) : (dats m 0 c).arrAt 2 (cfgs 0).N
    = want (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2]
  refine (written m c t h y).trans ?_
  pointwise [want, part, dot]
  refine Fin.sum_mul_add_congr fun s k hl => ?_
  refine Eq.trans ?_ (mul_comm (G := EReal) _ _)
  blk_point [iblk, V, blocks t, blocks ⟨_, Pipeline.run_point_lt_of_flush t h s⟩]

/-- Kernel and reference leave the same array. -/
theorem value : Cert.algebraic_KernelDwBrbIdeal_ReferenceDwBrbIdeal := by
  pair_intro
  · run_from Cert.KernelDwBrbIdeal.Gen.run_main m g
  · run_from Cert.ReferenceDwBrbIdeal.Value.run m' g'
    exact (array m c).symm

end Cert.KernelDwBrbIdeal.Array

end
-- ==== Proof.DActValue.lean ====
module

public import proofs.«01_k».proof.Proof.Gen.KernelDActIdeal.Frame
public import proofs.«01_k».proof.Proof.Gen.KernelDActIdeal.Points
public import proofs.«01_k».proof.Proof.Gen.KernelDActIdeal.Launch
public import proofs.«01_k».proof.Proof.Gen.ReferenceDActIdeal.Run
public import Idealize.ShloMosaic.Lib.Pipeline.ValueKit
public import Idealize.ShloMosaic.Lib.Pipeline.ReadBack
public import Idealize.ShloMosaic.Lib.Claim
public import proofs.«01_k».proof.Defs

/-!
Gradient of the SwiGLU activation.
-/

@[expose] public section

set_option maxRecDepth 16384

noncomputable section

namespace Cert.KernelDActIdeal.Array

open Cert.KernelDActIdeal Cert.KernelDActIdeal.Gen
open Idealize.ShloMosaic Idealize.ShloMosaic.TcCoe Idealize.SL.Sem
open Idealize.ShloMosaic.Pipeline (Dat)

variable (m : (ℓ : Loc nD τ sig) → Buf (Elt Ideal) ℓ)

/-- The gradient of the rows as the reference writes it: the incoming gradient times the transposed weight. -/
abbrev want (dy : FVec Ideal Cert.ReferenceDActIdeal.S8192x1024 .bf16) (w : FVec Ideal Cert.ReferenceDActIdeal.S2816x1024 .bf16) :
    FVec Ideal Cert.ReferenceDActIdeal.S8192x2816 .bf16 :=
  truncf .bf16 (Host.dotGeneral Cert.ReferenceDActIdeal.dot_S8192x1024_S2816x1024_S8192x2816_1_1_0_0_n_n none
    (extf .f32 dy Cert.ReferenceDActIdeal.Gen.bitsLt_bf16_f32) (extf .f32 w Cert.ReferenceDActIdeal.Gen.bitsLt_bf16_f32)) Cert.ReferenceDActIdeal.Gen.bitsLt_bf16_f32

/-- Which block each window holds at grid point `t`. -/
theorem blocks : ∀ t : Fin cfg0.N, win0_0.index t = ![t.val / 2, 0]
    ∧ win0_1.index t = ![t.val % 2, 0]
    ∧ win0_2.index t = ![t.val / 2, t.val % 2] :=
  (by decide +kernel : ∀ t : Fin grid0.N, _)

/-- The product of two blocks is the block of the product. -/
theorem block_product (c : Dev nD) (t : Fin cfg0.N) (y) :
    k0_pay1 (iblk m c 0 t) (iblk m c 1 t) y
      = want (m ((c : Thread nD τ).loc main_arg0)) (m ((c : Thread nD τ).loc main_arg1)) (((cfg0.win 2).blk t).view.emb y) := by
  pointwise [k0_pay1, want]
  blk_point [iblk, V, blocks t]

/-- The result array after the run. -/
theorem array (c : Dev nD) : (dats m 0 c).arrAt 2 (cfgs 0).N
    = want (m ((c : Thread nD τ).loc main_arg0)) (m ((c : Thread nD τ).loc main_arg1)) := by
  refine (dats m 0 c).arrAt_eq_of_covers 2 _ (by decide +kernel) fun t hf y => ?_
  blk_simp
  rw [after0_2]
  frame_out
  exact block_product m c t y

/-- Kernel and reference leave the same array. -/
theorem value : Cert.algebraic_KernelDActIdeal_ReferenceDActIdeal := by
  pair_intro
  · run_from Cert.KernelDActIdeal.Gen.run_main m g
  · run_from Cert.ReferenceDActIdeal.Value.run m' g'
    exact (array m c).symm

end Cert.KernelDActIdeal.Array

end
-- ==== Proof.DxValue.lean ====
module

public import proofs.«01_k».proof.Proof.Gen.KernelDxIdeal.Frame
public import proofs.«01_k».proof.Proof.Gen.KernelDxIdeal.Points
public import proofs.«01_k».proof.Proof.Gen.KernelDxIdeal.Launch
public import proofs.«01_k».proof.Proof.Gen.ReferenceDxIdeal.Run
public import Idealize.ShloMosaic.Lib.Pipeline.ValueKit
public import Idealize.ShloMosaic.Lib.Pipeline.ReadBack
public import Idealize.ShloMosaic.Lib.Claim
public import proofs.«01_k».proof.Defs

/-!
Gradient through a square weight (the merged branches, the first branch).
-/

@[expose] public section

set_option maxRecDepth 16384

noncomputable section

namespace Cert.KernelDxIdeal.Array

open Cert.KernelDxIdeal Cert.KernelDxIdeal.Gen
open Idealize.ShloMosaic Idealize.ShloMosaic.TcCoe Idealize.SL.Sem
open Idealize.ShloMosaic.Pipeline (Dat)

variable (m : (ℓ : Loc nD τ sig) → Buf (Elt Ideal) ℓ)

/-- The gradient of the rows as the reference writes it: the incoming gradient times the transposed weight. -/
abbrev want (dy : FVec Ideal Cert.ReferenceDxIdeal.S8192x1024 .bf16) (w : FVec Ideal Cert.ReferenceDxIdeal.S1024x1024 .bf16) :
    FVec Ideal Cert.ReferenceDxIdeal.S8192x1024 .bf16 :=
  truncf .bf16 (Host.dotGeneral Cert.ReferenceDxIdeal.dot_S8192x1024_S1024x1024_S8192x1024_1_1_0_0_n_n none
    (extf .f32 dy Cert.ReferenceDxIdeal.Gen.bitsLt_bf16_f32) (extf .f32 w Cert.ReferenceDxIdeal.Gen.bitsLt_bf16_f32)) Cert.ReferenceDxIdeal.Gen.bitsLt_bf16_f32

/-- Which block each window holds at grid point `t`. -/
theorem blocks : ∀ t : Fin cfg0.N, win0_0.index t = ![t.val, 0]
    ∧ win0_1.index t = ![0, 0]
    ∧ win0_2.index t = ![t.val, 0] :=
  (by decide +kernel : ∀ t : Fin grid0.N, _)

/-- The product of two blocks is the block of the product. -/
theorem block_product (c : Dev nD) (t : Fin cfg0.N) (y) :
    k0_pay1 (iblk m c 0 t) (iblk m c 1 t) y
      = want (m ((c : Thread nD τ).loc main_arg0)) (m ((c : Thread nD τ).loc main_arg1)) (((cfg0.win 2).blk t).view.emb y) := by
  pointwise [k0_pay1, want]
  blk_point [iblk, V, blocks t]

/-- The result array after the run. -/
theorem array (c : Dev nD) : (dats m 0 c).arrAt 2 (cfgs 0).N
    = want (m ((c : Thread nD τ).loc main_arg0)) (m ((c : Thread nD τ).loc main_arg1)) := by
  refine (dats m 0 c).arrAt_eq_of_covers 2 _ (by decide +kernel) fun t hf y => ?_
  blk_simp
  rw [after0_2]
  frame_out
  exact block_product m c t y

/-- Kernel and reference leave the same array. -/
theorem value : Cert.algebraic_KernelDxIdeal_ReferenceDxIdeal := by
  pair_intro
  · run_from Cert.KernelDxIdeal.Gen.run_main m g
  · run_from Cert.ReferenceDxIdeal.Value.run m' g'
    exact (array m c).symm

end Cert.KernelDxIdeal.Array

end
-- ==== Proof.DYbValue.lean ====
module

public import proofs.«01_k».proof.Proof.Gen.KernelDYbIdeal.Frame
public import proofs.«01_k».proof.Proof.Gen.KernelDYbIdeal.Points
public import proofs.«01_k».proof.Proof.Gen.KernelDYbIdeal.Launch
public import proofs.«01_k».proof.Proof.Gen.ReferenceDYbIdeal.Run
public import Idealize.ShloMosaic.Lib.Pipeline.ValueKit
public import Idealize.ShloMosaic.Lib.Pipeline.ReadBack
public import Idealize.ShloMosaic.Lib.Claim
public import proofs.«01_k».proof.Defs

/-!
Gradient of the second branch.
-/

@[expose] public section

set_option maxRecDepth 16384

noncomputable section

namespace Cert.KernelDYbIdeal.Array

open Cert.KernelDYbIdeal Cert.KernelDYbIdeal.Gen
open Idealize.ShloMosaic Idealize.ShloMosaic.TcCoe Idealize.SL.Sem
open Idealize.ShloMosaic.Pipeline (Dat)

variable (m : (ℓ : Loc nD τ sig) → Buf (Elt Ideal) ℓ)

/-- The gradient of the rows as the reference writes it: the incoming gradient times the transposed weight. -/
abbrev want (dy : FVec Ideal Cert.ReferenceDYbIdeal.S8192x1024 .bf16) (w : FVec Ideal Cert.ReferenceDYbIdeal.S2048x1024 .bf16) :
    FVec Ideal Cert.ReferenceDYbIdeal.S8192x2048 .bf16 :=
  truncf .bf16 (Host.dotGeneral Cert.ReferenceDYbIdeal.dot_S8192x1024_S2048x1024_S8192x2048_1_1_0_0_n_n none
    (extf .f32 dy Cert.ReferenceDYbIdeal.Gen.bitsLt_bf16_f32) (extf .f32 w Cert.ReferenceDYbIdeal.Gen.bitsLt_bf16_f32)) Cert.ReferenceDYbIdeal.Gen.bitsLt_bf16_f32

/-- Which block each window holds at grid point `t`. -/
theorem blocks : ∀ t : Fin cfg0.N, win0_0.index t = ![t.val / 2, 0]
    ∧ win0_1.index t = ![t.val % 2, 0]
    ∧ win0_2.index t = ![t.val / 2, t.val % 2] :=
  (by decide +kernel : ∀ t : Fin grid0.N, _)

/-- The product of two blocks is the block of the product. -/
theorem block_product (c : Dev nD) (t : Fin cfg0.N) (y) :
    k0_pay1 (iblk m c 0 t) (iblk m c 1 t) y
      = want (m ((c : Thread nD τ).loc main_arg0)) (m ((c : Thread nD τ).loc main_arg1)) (((cfg0.win 2).blk t).view.emb y) := by
  pointwise [k0_pay1, want]
  blk_point [iblk, V, blocks t]

/-- The result array after the run. -/
theorem array (c : Dev nD) : (dats m 0 c).arrAt 2 (cfgs 0).N
    = want (m ((c : Thread nD τ).loc main_arg0)) (m ((c : Thread nD τ).loc main_arg1)) := by
  refine (dats m 0 c).arrAt_eq_of_covers 2 _ (by decide +kernel) fun t hf y => ?_
  blk_simp
  rw [after0_2]
  frame_out
  exact block_product m c t y

/-- Kernel and reference leave the same array. -/
theorem value : Cert.algebraic_KernelDYbIdeal_ReferenceDYbIdeal := by
  pair_intro
  · run_from Cert.KernelDYbIdeal.Gen.run_main m g
  · run_from Cert.ReferenceDYbIdeal.Value.run m' g'
    exact (array m c).symm

end Cert.KernelDYbIdeal.Array

end
-- ==== Proof.DXn2Value.lean ====
module

public import proofs.«01_k».proof.Proof.Gen.KernelDXn2Ideal.Frame
public import proofs.«01_k».proof.Proof.Gen.KernelDXn2Ideal.Points
public import proofs.«01_k».proof.Proof.Gen.KernelDXn2Ideal.Launch
public import proofs.«01_k».proof.Proof.Gen.ReferenceDXn2Ideal.Run
public import Idealize.ShloMosaic.Lib.Pipeline.ValueKit
public import Idealize.ShloMosaic.Lib.Pipeline.ReadBack
public import Idealize.ShloMosaic.Lib.Claim
public import proofs.«01_k».proof.Defs

/-!
Gradient of the normalised rows before the feed-forward block.
-/

@[expose] public section

set_option maxRecDepth 16384

noncomputable section

namespace Cert.KernelDXn2Ideal.Array

open Cert.KernelDXn2Ideal Cert.KernelDXn2Ideal.Gen
open Idealize.ShloMosaic Idealize.ShloMosaic.TcCoe Idealize.SL.Sem
open Idealize.ShloMosaic.Pipeline (Dat)

variable (m : (ℓ : Loc nD τ sig) → Buf (Elt Ideal) ℓ)

/-- The gradient of the rows as the reference writes it: the incoming gradient times the transposed weight. -/
abbrev want (dy : FVec Ideal Cert.ReferenceDXn2Ideal.S8192x5632 .bf16) (w : FVec Ideal Cert.ReferenceDXn2Ideal.S5632x1024 .bf16) :
    FVec Ideal Cert.ReferenceDXn2Ideal.S8192x1024 .f32 :=
  Host.dotGeneral Cert.ReferenceDXn2Ideal.dot_S8192x5632_S1024x5632_S8192x1024_1_1_0_0_n_n none
    (extf .f32 dy Cert.ReferenceDXn2Ideal.Gen.bitsLt_bf16_f32) (transpose Cert.ReferenceDXn2Ideal.S1024x5632 [1, 0] (extf .f32 w Cert.ReferenceDXn2Ideal.Gen.bitsLt_bf16_f32) Cert.ReferenceDXn2Ideal.Gen.transposes_S5632x1024_S1024x5632_1_0)

/-- Which block each window holds at grid point `t`. -/
theorem blocks : ∀ t : Fin cfg0.N, win0_0.index t = ![t.val / 4, t.val % 4]
    ∧ win0_1.index t = ![t.val % 4, 0]
    ∧ win0_2.index t = ![t.val / 4, 0] :=
  (by decide +kernel : ∀ t : Fin grid0.N, _)

/-- What one block of the summed dimension adds at an entry. -/
def dot (x : FVec Ideal S1024x1408 .bf16) (dy : FVec Ideal S1408x1024 .bf16) (y : S1024x1024.Idx) : EReal :=
  ∑ k : Fin 1408, x (ix2 (y 0) k) * dy (ix2 k (y 1))

/-- What grid point `t` adds at an entry. -/
abbrev part (c : Dev nD) (t : Fin cfg0.N) (y : S1024x1024.Idx) : EReal := dot (iblk m c 0 t) (iblk m c 1 t) y

theorem first_pay (x dy) (y : S1024x1024.Idx) : k0_pay2 (F := Ideal) x dy y = dot x dy y := by
  pointwise [k0_pay2, k0_pay1, dot]

theorem next_pay (x dy acc) (y : S1024x1024.Idx) : k0_pay4 (F := Ideal) x dy acc y = (acc y : EReal) + dot x dy y := by
  pointwise [k0_pay4, k0_pay1, dot]

theorem last_pay (x dy acc) (y : S1024x1024.Idx) : k0_pay3 (F := Ideal) x dy acc y = (acc y : EReal) + dot x dy y := by
  pointwise [k0_pay3, k0_pay1, dot]

/-- The running sum after grid point `n`: the scratch, or at the last point of a block the block written out. -/
def running (c : Dev nD) (n : ℕ) (h : n < cfg0.N) : S1024x1024.Idx → EReal :=
  if n % 4 = 3 then (outsAt0 m c n h).1 else (outsAt0 m c n h).2

theorem running_first (c : Dev nD) (t : Fin cfg0.N) (h : t.val % 4 = 0) (y) :
    running m c t.val t.isLt y = 0 + part m c t y := by
  rw [running, if_neg (by omega), outsAt0_A m c t h (by omega) (by omega)]
  frame_out
  exact (first_pay _ _ y).trans (zero_add (part m c t y)).symm

theorem running_next (c : Dev nD) (t : Fin cfg0.N) (h : ¬t.val % 4 = 0) (y) :
    running m c t.val t.isLt y
      = running m c (t.val - 1) (Nat.lt_of_le_of_lt (Nat.sub_le _ _) t.isLt) y + part m c t y := by
  have hp : ¬(t.val - 1) % 4 = 3 := by omega
  by_cases h3 : t.val % 4 = 3
  · rw [running, running, if_pos h3, if_neg hp, outsAt0_C m c t h (by omega) (by omega)]
    frame_out
    exact (last_pay _ _ _ y).trans (congrArg (fun a : EReal => a + part m c t y)
      (congrFun (read_unread_whole cc0_scratch0 _ _) y))
  · rw [running, running, if_neg h3, if_neg hp, outsAt0_B m c t h (by omega) (by omega)]
    frame_out
    exact (next_pay _ _ _ y).trans (congrArg (fun a : EReal => a + part m c t y)
      (congrFun (read_unread_whole cc0_scratch0 _ _) y))

/-- What is written out at the last point of a block is the sum of its parts. -/
theorem written (c : Dev nD) (t : Fin cfg0.N) (h : t.val % 4 = 3) (y : S1024x1024.Idx) :
    (show FVec Ideal S1024x1024 .f32 from (outsAt0 m c t.val t.isLt).1) y
      = ∑ s : Fin 4, part m c ⟨4 * (t.val / 4) + s.val, Pipeline.run_point_lt_of_flush t h s⟩ y := by
  have e := Pipeline.eq_sum_fin_of_reset_step_apply_of_flush (running m c) 4 (fun _ => 0) (part m c)
    (running_first m c) (running_next m c) t h y
  rw [running, if_pos h, zero_add] at e
  exact e

/-- The result array after the run. -/
theorem array (c : Dev nD) : (dats m 0 c).arrAt 2 (cfgs 0).N
    = want (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2]
  refine (written m c t h y).trans ?_
  pointwise [want, part, dot]
  refine Fin.sum_mul_add_congr fun s k hl => ?_
  blk_point [iblk, V, blocks t, blocks ⟨_, Pipeline.run_point_lt_of_flush t h s⟩]

/-- Kernel and reference leave the same array. -/
theorem value : Cert.algebraic_KernelDXn2Ideal_ReferenceDXn2Ideal := by
  pair_intro
  · run_from Cert.KernelDXn2Ideal.Gen.run_main m g
  · run_from Cert.ReferenceDXn2Ideal.Value.run m' g'
    exact (array m c).symm

end Cert.KernelDXn2Ideal.Array

end
-- ==== Proof.DXnAValue.lean ====
module

public import proofs.«01_k».proof.Proof.Gen.KernelDXnAIdeal.Frame
public import proofs.«01_k».proof.Proof.Gen.KernelDXnAIdeal.Points
public import proofs.«01_k».proof.Proof.Gen.KernelDXnAIdeal.Launch
public import proofs.«01_k».proof.Proof.Gen.ReferenceDXnAIdeal.Run
public import Idealize.ShloMosaic.Lib.Pipeline.ValueKit
public import Idealize.ShloMosaic.Lib.Pipeline.ReadBack
public import Idealize.ShloMosaic.Lib.Claim
public import proofs.«01_k».proof.Defs

/-!
Gradient of the normalised rows through the two gate products and the branch gate product.
-/

@[expose] public section

set_option maxRecDepth 16384

noncomputable section

namespace Cert.KernelDXnAIdeal.Array

open Cert.KernelDXnAIdeal Cert.KernelDXnAIdeal.Gen
open Idealize.ShloMosaic Idealize.ShloMosaic.TcCoe Idealize.SL.Sem
open Idealize.ShloMosaic.Pipeline (Dat)

variable (m : (ℓ : Loc nD τ sig) → Buf (Elt Ideal) ℓ)

/-- The gradient of the rows as the reference writes it: the gradient of each product times its weight, all added. -/
abbrev want (x0 : FVec Ideal Cert.ReferenceDXnAIdeal.S8192x1024 .bf16) (w0 : FVec Ideal Cert.ReferenceDXnAIdeal.S1024x1024 .bf16) (x1 : FVec Ideal Cert.ReferenceDXnAIdeal.S8192x1024 .bf16) (w1 : FVec Ideal Cert.ReferenceDXnAIdeal.S1024x1024 .bf16) (x2 : FVec Ideal Cert.ReferenceDXnAIdeal.S8192x2048 .bf16) (w2 : FVec Ideal Cert.ReferenceDXnAIdeal.S1024x2048 .bf16) :
    FVec Ideal Cert.ReferenceDXnAIdeal.S8192x1024 .f32 :=
  addf (addf (Host.dotGeneral Cert.ReferenceDXnAIdeal.dot_S8192x2048_S1024x2048_S8192x1024_1_1_0_0_n_n none (extf .f32 x2 Cert.ReferenceDXnAIdeal.Gen.bitsLt_bf16_f32) (extf .f32 w2 Cert.ReferenceDXnAIdeal.Gen.bitsLt_bf16_f32))
      (Host.dotGeneral Cert.ReferenceDXnAIdeal.dot_S8192x1024_S1024x1024_S8192x1024_1_1_0_0_n_n none (extf .f32 x1 Cert.ReferenceDXnAIdeal.Gen.bitsLt_bf16_f32) (extf .f32 w1 Cert.ReferenceDXnAIdeal.Gen.bitsLt_bf16_f32)))
      (Host.dotGeneral Cert.ReferenceDXnAIdeal.dot_S8192x1024_S1024x1024_S8192x1024_1_1_0_0_n_n none (extf .f32 x0 Cert.ReferenceDXnAIdeal.Gen.bitsLt_bf16_f32) (extf .f32 w0 Cert.ReferenceDXnAIdeal.Gen.bitsLt_bf16_f32))

/-- Step `s` of the 4 steps of row block `q`. -/
abbrev pt (q : Fin 8) (s : Fin 4) : Fin cfg0.N :=
  ⟨4 * q.val + s.val, by have := q.isLt; have := s.isLt; show 4 * q.val + s.val < 32; omega⟩

/-- The last step of a row block, from its number. -/
theorem eq_pt (t : Fin cfg0.N) (h : t.val % 4 = 3) : ∃ q : Fin 8, t = pt q 3 := by
  have ht : t.val < 32 := t.isLt
  exact ⟨⟨t.val / 4, by omega⟩, Fin.ext (by show t.val = 4 * (t.val / 4) + 3; omega)⟩

/-- Which block of its arrays each step reads, and which rows are written. -/
theorem blocks : ∀ q : Fin 8, win0_6.index (pt q 3) = ![q.val, 0]
    ∧ win0_0.index (pt q 0) = ![q.val, 0] ∧ win0_1.index (pt q 0) = ![0, 0]
    ∧ win0_2.index (pt q 1) = ![q.val, 0] ∧ win0_3.index (pt q 1) = ![0, 0]
    ∧ win0_4.index (pt q 2) = ![q.val, 0] ∧ win0_5.index (pt q 2) = ![0, 0]
    ∧ win0_4.index (pt q 3) = ![q.val, 1] ∧ win0_5.index (pt q 3) = ![0, 1] :=
  by decide +kernel

/-- One entry of a product of rows with the rows of a weight. -/
def prod1024 (x : FVec Ideal Cert.ReferenceDXnAIdeal.S8192x1024 .bf16) (w : FVec Ideal Cert.ReferenceDXnAIdeal.S1024x1024 .bf16) (i : Fin 8192) (j : Fin 1024) : EReal :=
  ∑ l : Fin 1024, x (ix2 i l) * w (ix2 j l)

/-- One entry of a product of rows with the rows of a weight. -/
def prod2048 (x : FVec Ideal Cert.ReferenceDXnAIdeal.S8192x2048 .bf16) (w : FVec Ideal Cert.ReferenceDXnAIdeal.S1024x2048 .bf16) (i : Fin 8192) (j : Fin 1024) : EReal :=
  ∑ l : Fin 2048, x (ix2 i l) * w (ix2 j l)

theorem want_at (x0 : FVec Ideal Cert.ReferenceDXnAIdeal.S8192x1024 .bf16) (w0 : FVec Ideal Cert.ReferenceDXnAIdeal.S1024x1024 .bf16) (x1 : FVec Ideal Cert.ReferenceDXnAIdeal.S8192x1024 .bf16) (w1 : FVec Ideal Cert.ReferenceDXnAIdeal.S1024x1024 .bf16) (x2 : FVec Ideal Cert.ReferenceDXnAIdeal.S8192x2048 .bf16) (w2 : FVec Ideal Cert.ReferenceDXnAIdeal.S1024x2048 .bf16) (i : Fin 8192) (j : Fin 1024) :
    want x0 w0 x1 w1 x2 w2 (ix2 i j) = prod2048 x2 w2 i j + prod1024 x1 w1 i j + prod1024 x0 w0 i j := by
  pointwise [want, prod1024, prod2048]

/-- The products of one step, added over 1024 columns. -/
def dot1024 (x : FVec Ideal S1024x1024 .bf16) (w : FVec Ideal S1024x1024 .bf16) (y : S1024x1024.Idx) : EReal :=
  ∑ k : Fin 1024, x (ix2 (y 0) k) * w (ix2 (y 1) k)

theorem k0_pay1_at (x w) (y : S1024x1024.Idx) : k0_pay1 (F := Ideal) x w y = dot1024 x w y := by
  pointwise [k0_pay1, dot1024]

theorem k0_pay2_at (x w acc) (y : S1024x1024.Idx) :
    k0_pay2 (F := Ideal) x w acc y = (acc y : EReal) + dot1024 x w y := by
  pointwise [k0_pay2, dot1024]

theorem k0_pay5_at (x w acc) (y : S1024x1024.Idx) :
    k0_pay5 (F := Ideal) x w acc y = (acc y : EReal) + dot1024 x w y := by
  pointwise [k0_pay5, k0_pay3, dot1024]

theorem k0_pay4_at (x w acc) (y : S1024x1024.Idx) :
    k0_pay4 (F := Ideal) x w acc y = (acc y : EReal) + dot1024 x w y := by
  pointwise [k0_pay4, k0_pay3, dot1024]

theorem step0 (c : Dev nD) (t : Fin cfg0.N) (h : t.val % 4 = 0) (y : S1024x1024.Idx) :
    ((outsAt0 m c t.val t.isLt).2 y : EReal) = dot1024 (iblk m c 0 t) (iblk m c 1 t) y := by
  rw [outsAt0_A m c t (by omega) (by omega) (by omega) (by omega)]
  frame_out
  exact k0_pay1_at _ _ y

theorem step1 (c : Dev nD) (t : Fin cfg0.N) (h : t.val % 4 = 1) (y : S1024x1024.Idx) :
    ((outsAt0 m c t.val t.isLt).2 y : EReal)
      = ((outsAt0 m c (t.val - 1) (Nat.lt_of_le_of_lt (Nat.sub_le _ _) t.isLt)).2 y : EReal) + dot1024 (iblk m c 2 t) (iblk m c 3 t) y := by
  rw [outsAt0_B m c t (by omega) (by omega) (by omega) (by omega)]
  frame_out
  exact (k0_pay2_at _ _ _ y).trans (congrArg (fun a : EReal => a + dot1024 (iblk m c 2 t) (iblk m c 3 t) y)
    (congrFun (read_unread_whole cc0_scratch0 _ _) y))

theorem step2 (c : Dev nD) (t : Fin cfg0.N) (h : t.val % 4 = 2) (y : S1024x1024.Idx) :
    ((outsAt0 m c t.val t.isLt).2 y : EReal)
      = ((outsAt0 m c (t.val - 1) (Nat.lt_of_le_of_lt (Nat.sub_le _ _) t.isLt)).2 y : EReal) + dot1024 (iblk m c 4 t) (iblk m c 5 t) y := by
  rw [outsAt0_C m c t (by omega) (by omega) (by omega) (by omega) (by omega)]
  frame_out
  exact (k0_pay5_at _ _ _ y).trans (congrArg (fun a : EReal => a + dot1024 (iblk m c 4 t) (iblk m c 5 t) y)
    (congrFun (read_unread_whole cc0_scratch0 _ _) y))

theorem step3 (c : Dev nD) (t : Fin cfg0.N) (h : t.val % 4 = 3) (y : S1024x1024.Idx) :
    ((outsAt0 m c t.val t.isLt).1 y : EReal)
      = ((outsAt0 m c (t.val - 1) (Nat.lt_of_le_of_lt (Nat.sub_le _ _) t.isLt)).2 y : EReal) + dot1024 (iblk m c 4 t) (iblk m c 5 t) y := by
  rw [outsAt0_D m c t (by omega) (by omega) (by omega) (by omega) (by omega)]
  frame_out
  exact (k0_pay4_at _ _ _ y).trans (congrArg (fun a : EReal => a + dot1024 (iblk m c 4 t) (iblk m c 5 t) y)
    (congrFun (read_unread_whole cc0_scratch0 _ _) y))

/-- What the last step writes out. -/
theorem written (c : Dev nD) (q : Fin 8) (y : S1024x1024.Idx) :
    ((outsAt0 m c (pt q 3).val (pt q 3).isLt).1 y : EReal)
      = dot1024 (iblk m c 0 (pt q 0)) (iblk m c 1 (pt q 0)) y
        + dot1024 (iblk m c 2 (pt q 1)) (iblk m c 3 (pt q 1)) y
        + dot1024 (iblk m c 4 (pt q 2)) (iblk m c 5 (pt q 2)) y
        + dot1024 (iblk m c 4 (pt q 3)) (iblk m c 5 (pt q 3)) y := by
  have e0 := step0 m c (pt q 0) (by show (4 * q.val + 0) % 4 = 0; omega) y
  have e1 := step1 m c (pt q 1) (by show (4 * q.val + 1) % 4 = 1; omega) y
  have e2 := step2 m c (pt q 2) (by show (4 * q.val + 2) % 4 = 2; omega) y
  have e3 := step3 m c (pt q 3) (by show (4 * q.val + 3) % 4 = 3; omega) y
  have p1 : (outsAt0 m c ((pt q 1).val - 1) (Nat.lt_of_le_of_lt (Nat.sub_le _ _) (pt q 1).isLt)).2 y
      = (outsAt0 m c (pt q 0).val (pt q 0).isLt).2 y := by
    congr 2
  have p2 : (outsAt0 m c ((pt q 2).val - 1) (Nat.lt_of_le_of_lt (Nat.sub_le _ _) (pt q 2).isLt)).2 y
      = (outsAt0 m c (pt q 1).val (pt q 1).isLt).2 y := by
    congr 2
  have p3 : (outsAt0 m c ((pt q 3).val - 1) (Nat.lt_of_le_of_lt (Nat.sub_le _ _) (pt q 3).isLt)).2 y
      = (outsAt0 m c (pt q 2).val (pt q 2).isLt).2 y := by
    congr 2
  rw [e3, p3, e2, p2, e1, p1, e0]

/-- A sum over all columns is the sum over the first half and the sum over the second. -/
theorem halves (n : ℕ) (f g : Fin n → EReal) (w : Fin (n + n) → EReal)
    (hf : ∀ (k : Fin n) (l : Fin (n + n)), l.val = k.val → f k = w l)
    (hg : ∀ (k : Fin n) (l : Fin (n + n)), l.val = n + k.val → g k = w l) :
    (∑ k, f k) + ∑ k, g k = ∑ l, w l := by
  rw [Fin.sum_univ_add]
  exact congrArg₂ (· + ·) (Finset.sum_congr rfl fun k _ => hf k _ rfl) (Finset.sum_congr rfl fun k _ => hg k _ rfl)

/-- Pair 1: its steps together add up one entry of the whole product. -/
theorem pair0 (c : Dev nD) (q : Fin 8) (y : S1024x1024.Idx) (i : Fin 8192) (hi : i.val = 1024 * q.val + (y 0).val) :
    dot1024 (iblk m c 0 (pt q 0)) (iblk m c 1 (pt q 0)) y
      = prod1024 (m ((c : Thread nD τ).loc main_arg0)) (m ((c : Thread nD τ).loc main_arg1)) i (y 1) := by
  refine Finset.sum_congr rfl fun k _ => ?_
  refine congrArg₂ (fun a b : EReal => a * b) ?_ ?_
  · blk_point [iblk, V, blocks q]
  · blk_point [iblk, V, blocks q]

/-- Pair 2: its steps together add up one entry of the whole product. -/
theorem pair1 (c : Dev nD) (q : Fin 8) (y : S1024x1024.Idx) (i : Fin 8192) (hi : i.val = 1024 * q.val + (y 0).val) :
    dot1024 (iblk m c 2 (pt q 1)) (iblk m c 3 (pt q 1)) y
      = prod1024 (m ((c : Thread nD τ).loc main_arg2)) (m ((c : Thread nD τ).loc main_arg3)) i (y 1) := by
  refine Finset.sum_congr rfl fun k _ => ?_
  refine congrArg₂ (fun a b : EReal => a * b) ?_ ?_
  · blk_point [iblk, V, blocks q]
  · blk_point [iblk, V, blocks q]

/-- Pair 3: its steps together add up one entry of the whole product. -/
theorem pair2 (c : Dev nD) (q : Fin 8) (y : S1024x1024.Idx) (i : Fin 8192) (hi : i.val = 1024 * q.val + (y 0).val) :
    dot1024 (iblk m c 4 (pt q 2)) (iblk m c 5 (pt q 2)) y
      + dot1024 (iblk m c 4 (pt q 3)) (iblk m c 5 (pt q 3)) y
      = prod2048 (m ((c : Thread nD τ).loc main_arg4)) (m ((c : Thread nD τ).loc main_arg5)) i (y 1) := by
  refine halves 1024 _ _ (fun l : Fin 2048 => (show FVec Ideal Cert.ReferenceDXnAIdeal.S8192x2048 .bf16 from m ((c : Thread nD τ).loc main_arg4)) (ix2 i l)
      * (show FVec Ideal Cert.ReferenceDXnAIdeal.S1024x2048 .bf16 from m ((c : Thread nD τ).loc main_arg5)) (ix2 (y 1) l)) ?_ ?_
  all_goals
    intro k l hl
    refine congrArg₂ (fun a b : EReal => a * b) ?_ ?_
  all_goals blk_point [iblk, V, blocks q]

theorem reorder (a b c d : EReal) : a + b + c + d = c + d + b + a := by
  ac_rfl

/-- The result array after the run. -/
theorem array (c : Dev nD) : (dats m 0 c).arrAt 6 (cfgs 0).N
    = want (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  obtain ⟨q, rfl⟩ := eq_pt t ((flush0_6 t).mp hf)
  blk_simp
  rw [after0_6]
  refine (written m c q y).trans ?_
  have hi : 1024 * q.val + (y 0).val < 8192 := by have h0 : (y 0).val < 1024 := (y 0).isLt; have hq := q.isLt; omega
  have e : ((cfg0.win 6).blk (pt q 3)).view.emb y = ix2 (⟨1024 * q.val + (y 0).val, hi⟩ : Fin 8192) (y 1) := by
    blk_ext [blocks q]
  refine Eq.trans ?_ ((congrArg (want (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) e).trans (want_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) _ _)).symm
  rw [← pair0 m c q y _ rfl, ← pair1 m c q y _ rfl, ← pair2 m c q y _ rfl]
  exact reorder _ _ _ _

/-- Kernel and reference leave the same array. -/
theorem value : Cert.algebraic_KernelDXnAIdeal_ReferenceDXnAIdeal := by
  pair_intro
  · run_from Cert.KernelDXnAIdeal.Gen.run_main m g
  · run_from Cert.ReferenceDXnAIdeal.Value.run m' g'
    exact (array m c).symm

end Cert.KernelDXnAIdeal.Array

end
-- ==== Proof.DXnBValue.lean ====
module

public import proofs.«01_k».proof.Proof.Gen.KernelDXnBIdeal.Frame
public import proofs.«01_k».proof.Proof.Gen.KernelDXnBIdeal.Points
public import proofs.«01_k».proof.Proof.Gen.KernelDXnBIdeal.Launch
public import proofs.«01_k».proof.Proof.Gen.ReferenceDXnBIdeal.Run
public import Idealize.ShloMosaic.Lib.Pipeline.ValueKit
public import Idealize.ShloMosaic.Lib.Pipeline.ReadBack
public import Idealize.ShloMosaic.Lib.Claim
public import proofs.«01_k».proof.Defs

/-!
Gradient of the normalised rows through the products of the second branch, added to the gradient so far.
-/

@[expose] public section

set_option maxRecDepth 16384

noncomputable section

namespace Cert.KernelDXnBIdeal.Array

open Cert.KernelDXnBIdeal Cert.KernelDXnBIdeal.Gen
open Idealize.ShloMosaic Idealize.ShloMosaic.TcCoe Idealize.SL.Sem
open Idealize.ShloMosaic.Pipeline (Dat)

variable (m : (ℓ : Loc nD τ sig) → Buf (Elt Ideal) ℓ)

/-- The gradient of the rows as the reference writes it: the gradient of each product times its weight, all added. -/
abbrev want (x0 : FVec Ideal Cert.ReferenceDXnBIdeal.S8192x3072 .bf16) (w0 : FVec Ideal Cert.ReferenceDXnBIdeal.S1024x3072 .bf16) (x1 : FVec Ideal Cert.ReferenceDXnBIdeal.S8192x128 .bf16) (w1 : FVec Ideal Cert.ReferenceDXnBIdeal.S1024x128 .bf16) (x2 : FVec Ideal Cert.ReferenceDXnBIdeal.S8192x2048 .bf16) (w2 : FVec Ideal Cert.ReferenceDXnBIdeal.S1024x2048 .bf16) (dy : FVec Ideal Cert.ReferenceDXnBIdeal.S8192x1024 .f32) :
    FVec Ideal Cert.ReferenceDXnBIdeal.S8192x1024 .f32 :=
  addf dy (addf (addf (Host.dotGeneral Cert.ReferenceDXnBIdeal.dot_S8192x2048_S1024x2048_S8192x1024_1_1_0_0_n_n none (extf .f32 x2 Cert.ReferenceDXnBIdeal.Gen.bitsLt_bf16_f32) (extf .f32 w2 Cert.ReferenceDXnBIdeal.Gen.bitsLt_bf16_f32))
      (Host.dotGeneral Cert.ReferenceDXnBIdeal.dot_S8192x128_S1024x128_S8192x1024_1_1_0_0_n_n none (extf .f32 x1 Cert.ReferenceDXnBIdeal.Gen.bitsLt_bf16_f32) (extf .f32 w1 Cert.ReferenceDXnBIdeal.Gen.bitsLt_bf16_f32)))
      (Host.dotGeneral Cert.ReferenceDXnBIdeal.dot_S8192x3072_S1024x3072_S8192x1024_1_1_0_0_n_n none (extf .f32 x0 Cert.ReferenceDXnBIdeal.Gen.bitsLt_bf16_f32) (extf .f32 w0 Cert.ReferenceDXnBIdeal.Gen.bitsLt_bf16_f32)))

/-- Step `s` of the 5 steps of row block `q`. -/
abbrev pt (q : Fin 8) (s : Fin 5) : Fin cfg0.N :=
  ⟨5 * q.val + s.val, by have := q.isLt; have := s.isLt; show 5 * q.val + s.val < 40; omega⟩

/-- The last step of a row block, from its number. -/
theorem eq_pt (t : Fin cfg0.N) (h : t.val % 5 = 4) : ∃ q : Fin 8, t = pt q 4 := by
  have ht : t.val < 40 := t.isLt
  exact ⟨⟨t.val / 5, by omega⟩, Fin.ext (by show t.val = 5 * (t.val / 5) + 4; omega)⟩

/-- Which block of its arrays each step reads, and which rows are written. -/
theorem blocks : ∀ q : Fin 8, win0_7.index (pt q 4) = ![q.val, 0]
    ∧ win0_0.index (pt q 0) = ![q.val, 0] ∧ win0_1.index (pt q 0) = ![0, 0]
    ∧ win0_0.index (pt q 1) = ![q.val, 1] ∧ win0_1.index (pt q 1) = ![0, 1]
    ∧ win0_2.index (pt q 2) = ![q.val, 0] ∧ win0_3.index (pt q 2) = ![0, 0]
    ∧ win0_4.index (pt q 3) = ![q.val, 0] ∧ win0_5.index (pt q 3) = ![0, 0]
    ∧ win0_4.index (pt q 4) = ![q.val, 1] ∧ win0_5.index (pt q 4) = ![0, 1]
    ∧ win0_6.index (pt q 4) = ![q.val, 0] :=
  by decide +kernel

/-- One entry of a product of rows with the rows of a weight. -/
def prod128 (x : FVec Ideal Cert.ReferenceDXnBIdeal.S8192x128 .bf16) (w : FVec Ideal Cert.ReferenceDXnBIdeal.S1024x128 .bf16) (i : Fin 8192) (j : Fin 1024) : EReal :=
  ∑ l : Fin 128, x (ix2 i l) * w (ix2 j l)

/-- One entry of a product of rows with the rows of a weight. -/
def prod2048 (x : FVec Ideal Cert.ReferenceDXnBIdeal.S8192x2048 .bf16) (w : FVec Ideal Cert.ReferenceDXnBIdeal.S1024x2048 .bf16) (i : Fin 8192) (j : Fin 1024) : EReal :=
  ∑ l : Fin 2048, x (ix2 i l) * w (ix2 j l)

/-- One entry of a product of rows with the rows of a weight. -/
def prod3072 (x : FVec Ideal Cert.ReferenceDXnBIdeal.S8192x3072 .bf16) (w : FVec Ideal Cert.ReferenceDXnBIdeal.S1024x3072 .bf16) (i : Fin 8192) (j : Fin 1024) : EReal :=
  ∑ l : Fin 3072, x (ix2 i l) * w (ix2 j l)

theorem want_at (x0 : FVec Ideal Cert.ReferenceDXnBIdeal.S8192x3072 .bf16) (w0 : FVec Ideal Cert.ReferenceDXnBIdeal.S1024x3072 .bf16) (x1 : FVec Ideal Cert.ReferenceDXnBIdeal.S8192x128 .bf16) (w1 : FVec Ideal Cert.ReferenceDXnBIdeal.S1024x128 .bf16) (x2 : FVec Ideal Cert.ReferenceDXnBIdeal.S8192x2048 .bf16) (w2 : FVec Ideal Cert.ReferenceDXnBIdeal.S1024x2048 .bf16) (dy : FVec Ideal Cert.ReferenceDXnBIdeal.S8192x1024 .f32) (i : Fin 8192) (j : Fin 1024) :
    want x0 w0 x1 w1 x2 w2 dy (ix2 i j) = (dy (ix2 i j) : EReal) + (prod2048 x2 w2 i j + prod128 x1 w1 i j + prod3072 x0 w0 i j) := by
  pointwise [want, prod128, prod2048, prod3072]

/-- The products of one step, added over 128 columns. -/
def dot128 (x : FVec Ideal S1024x128 .bf16) (w : FVec Ideal S1024x128 .bf16) (y : S1024x1024.Idx) : EReal :=
  ∑ k : Fin 128, x (ix2 (y 0) k) * w (ix2 (y 1) k)

/-- The products of one step, added over 1024 columns. -/
def dot1024 (x : FVec Ideal S1024x1024 .bf16) (w : FVec Ideal S1024x1024 .bf16) (y : S1024x1024.Idx) : EReal :=
  ∑ k : Fin 1024, x (ix2 (y 0) k) * w (ix2 (y 1) k)

/-- The products of one step, added over 1536 columns. -/
def dot1536 (x : FVec Ideal S1024x1536 .bf16) (w : FVec Ideal S1024x1536 .bf16) (y : S1024x1024.Idx) : EReal :=
  ∑ k : Fin 1536, x (ix2 (y 0) k) * w (ix2 (y 1) k)

theorem k0_pay2_at (x w) (y : S1024x1024.Idx) : k0_pay2 (F := Ideal) x w y = dot1536 x w y := by
  pointwise [k0_pay2, k0_pay1, dot1536]

theorem k0_pay3_at (x w acc) (y : S1024x1024.Idx) :
    k0_pay3 (F := Ideal) x w acc y = (acc y : EReal) + dot1536 x w y := by
  pointwise [k0_pay3, k0_pay1, dot1536]

theorem k0_pay4_at (x w acc) (y : S1024x1024.Idx) :
    k0_pay4 (F := Ideal) x w acc y = (acc y : EReal) + dot128 x w y := by
  pointwise [k0_pay4, dot128]

theorem k0_pay7_at (x w acc) (y : S1024x1024.Idx) :
    k0_pay7 (F := Ideal) x w acc y = (acc y : EReal) + dot1024 x w y := by
  pointwise [k0_pay7, k0_pay5, dot1024]

theorem k0_pay6_at (x w acc dy) (y : S1024x1024.Idx) :
    k0_pay6 (F := Ideal) x w acc dy y = (acc y : EReal) + dot1024 x w y + (dy y : EReal) := by
  pointwise [k0_pay6, k0_pay5, dot1024]

theorem step0 (c : Dev nD) (t : Fin cfg0.N) (h : t.val % 5 = 0) (y : S1024x1024.Idx) :
    ((outsAt0 m c t.val t.isLt).2 y : EReal) = dot1536 (iblk m c 0 t) (iblk m c 1 t) y := by
  rw [outsAt0_A m c t (by omega) (by omega) (by omega) (by omega) (by omega)]
  frame_out
  exact k0_pay2_at _ _ y

theorem step1 (c : Dev nD) (t : Fin cfg0.N) (h : t.val % 5 = 1) (y : S1024x1024.Idx) :
    ((outsAt0 m c t.val t.isLt).2 y : EReal)
      = ((outsAt0 m c (t.val - 1) (Nat.lt_of_le_of_lt (Nat.sub_le _ _) t.isLt)).2 y : EReal) + dot1536 (iblk m c 0 t) (iblk m c 1 t) y := by
  rw [outsAt0_B m c t (by omega) (by omega) (by omega) (by omega) (by omega)]
  frame_out
  exact (k0_pay3_at _ _ _ y).trans (congrArg (fun a : EReal => a + dot1536 (iblk m c 0 t) (iblk m c 1 t) y)
    (congrFun (read_unread_whole cc0_scratch0 _ _) y))

theorem step2 (c : Dev nD) (t : Fin cfg0.N) (h : t.val % 5 = 2) (y : S1024x1024.Idx) :
    ((outsAt0 m c t.val t.isLt).2 y : EReal)
      = ((outsAt0 m c (t.val - 1) (Nat.lt_of_le_of_lt (Nat.sub_le _ _) t.isLt)).2 y : EReal) + dot128 (iblk m c 2 t) (iblk m c 3 t) y := by
  rw [outsAt0_C m c t (by omega) (by omega) (by omega) (by omega)]
  frame_out
  exact (k0_pay4_at _ _ _ y).trans (congrArg (fun a : EReal => a + dot128 (iblk m c 2 t) (iblk m c 3 t) y)
    (congrFun (read_unread_whole cc0_scratch0 _ _) y))

theorem step3 (c : Dev nD) (t : Fin cfg0.N) (h : t.val % 5 = 3) (y : S1024x1024.Idx) :
    ((outsAt0 m c t.val t.isLt).2 y : EReal)
      = ((outsAt0 m c (t.val - 1) (Nat.lt_of_le_of_lt (Nat.sub_le _ _) t.isLt)).2 y : EReal) + dot1024 (iblk m c 4 t) (iblk m c 5 t) y := by
  rw [outsAt0_D m c t (by omega) (by omega) (by omega) (by omega) (by omega)]
  frame_out
  exact (k0_pay7_at _ _ _ y).trans (congrArg (fun a : EReal => a + dot1024 (iblk m c 4 t) (iblk m c 5 t) y)
    (congrFun (read_unread_whole cc0_scratch0 _ _) y))

theorem step4 (c : Dev nD) (t : Fin cfg0.N) (h : t.val % 5 = 4) (y : S1024x1024.Idx) :
    ((outsAt0 m c t.val t.isLt).1 y : EReal)
      = ((outsAt0 m c (t.val - 1) (Nat.lt_of_le_of_lt (Nat.sub_le _ _) t.isLt)).2 y : EReal) + dot1024 (iblk m c 4 t) (iblk m c 5 t) y + (iblk m c 6 t y : EReal) := by
  rw [outsAt0_E m c t (by omega) (by omega) (by omega) (by omega) (by omega)]
  frame_out
  exact (k0_pay6_at _ _ _ _ y).trans (congrArg (fun a : EReal => a + dot1024 (iblk m c 4 t) (iblk m c 5 t) y + (iblk m c 6 t y : EReal))
    (congrFun (read_unread_whole cc0_scratch0 _ _) y))

/-- What the last step writes out. -/
theorem written (c : Dev nD) (q : Fin 8) (y : S1024x1024.Idx) :
    ((outsAt0 m c (pt q 4).val (pt q 4).isLt).1 y : EReal)
      = dot1536 (iblk m c 0 (pt q 0)) (iblk m c 1 (pt q 0)) y
        + dot1536 (iblk m c 0 (pt q 1)) (iblk m c 1 (pt q 1)) y
        + dot128 (iblk m c 2 (pt q 2)) (iblk m c 3 (pt q 2)) y
        + dot1024 (iblk m c 4 (pt q 3)) (iblk m c 5 (pt q 3)) y
        + dot1024 (iblk m c 4 (pt q 4)) (iblk m c 5 (pt q 4)) y + (iblk m c 6 (pt q 4) y : EReal) := by
  have e0 := step0 m c (pt q 0) (by show (5 * q.val + 0) % 5 = 0; omega) y
  have e1 := step1 m c (pt q 1) (by show (5 * q.val + 1) % 5 = 1; omega) y
  have e2 := step2 m c (pt q 2) (by show (5 * q.val + 2) % 5 = 2; omega) y
  have e3 := step3 m c (pt q 3) (by show (5 * q.val + 3) % 5 = 3; omega) y
  have e4 := step4 m c (pt q 4) (by show (5 * q.val + 4) % 5 = 4; omega) y
  have p1 : (outsAt0 m c ((pt q 1).val - 1) (Nat.lt_of_le_of_lt (Nat.sub_le _ _) (pt q 1).isLt)).2 y
      = (outsAt0 m c (pt q 0).val (pt q 0).isLt).2 y := by
    congr 2
  have p2 : (outsAt0 m c ((pt q 2).val - 1) (Nat.lt_of_le_of_lt (Nat.sub_le _ _) (pt q 2).isLt)).2 y
      = (outsAt0 m c (pt q 1).val (pt q 1).isLt).2 y := by
    congr 2
  have p3 : (outsAt0 m c ((pt q 3).val - 1) (Nat.lt_of_le_of_lt (Nat.sub_le _ _) (pt q 3).isLt)).2 y
      = (outsAt0 m c (pt q 2).val (pt q 2).isLt).2 y := by
    congr 2
  have p4 : (outsAt0 m c ((pt q 4).val - 1) (Nat.lt_of_le_of_lt (Nat.sub_le _ _) (pt q 4).isLt)).2 y
      = (outsAt0 m c (pt q 3).val (pt q 3).isLt).2 y := by
    congr 2
  rw [e4, p4, e3, p3, e2, p2, e1, p1, e0]

/-- A sum over all columns is the sum over the first half and the sum over the second. -/
theorem halves (n : ℕ) (f g : Fin n → EReal) (w : Fin (n + n) → EReal)
    (hf : ∀ (k : Fin n) (l : Fin (n + n)), l.val = k.val → f k = w l)
    (hg : ∀ (k : Fin n) (l : Fin (n + n)), l.val = n + k.val → g k = w l) :
    (∑ k, f k) + ∑ k, g k = ∑ l, w l := by
  rw [Fin.sum_univ_add]
  exact congrArg₂ (· + ·) (Finset.sum_congr rfl fun k _ => hf k _ rfl) (Finset.sum_congr rfl fun k _ => hg k _ rfl)

/-- Pair 1: its steps together add up one entry of the whole product. -/
theorem pair0 (c : Dev nD) (q : Fin 8) (y : S1024x1024.Idx) (i : Fin 8192) (hi : i.val = 1024 * q.val + (y 0).val) :
    dot1536 (iblk m c 0 (pt q 0)) (iblk m c 1 (pt q 0)) y
      + dot1536 (iblk m c 0 (pt q 1)) (iblk m c 1 (pt q 1)) y
      = prod3072 (m ((c : Thread nD τ).loc main_arg0)) (m ((c : Thread nD τ).loc main_arg1)) i (y 1) := by
  refine halves 1536 _ _ (fun l : Fin 3072 => (show FVec Ideal Cert.ReferenceDXnBIdeal.S8192x3072 .bf16 from m ((c : Thread nD τ).loc main_arg0)) (ix2 i l)
      * (show FVec Ideal Cert.ReferenceDXnBIdeal.S1024x3072 .bf16 from m ((c : Thread nD τ).loc main_arg1)) (ix2 (y 1) l)) ?_ ?_
  all_goals
    intro k l hl
    refine congrArg₂ (fun a b : EReal => a * b) ?_ ?_
  all_goals blk_point [iblk, V, blocks q]

/-- Pair 2: its steps together add up one entry of the whole product. -/
theorem pair1 (c : Dev nD) (q : Fin 8) (y : S1024x1024.Idx) (i : Fin 8192) (hi : i.val = 1024 * q.val + (y 0).val) :
    dot128 (iblk m c 2 (pt q 2)) (iblk m c 3 (pt q 2)) y
      = prod128 (m ((c : Thread nD τ).loc main_arg2)) (m ((c : Thread nD τ).loc main_arg3)) i (y 1) := by
  refine Finset.sum_congr rfl fun k _ => ?_
  refine congrArg₂ (fun a b : EReal => a * b) ?_ ?_
  · blk_point [iblk, V, blocks q]
  · blk_point [iblk, V, blocks q]

/-- Pair 3: its steps together add up one entry of the whole product. -/
theorem pair2 (c : Dev nD) (q : Fin 8) (y : S1024x1024.Idx) (i : Fin 8192) (hi : i.val = 1024 * q.val + (y 0).val) :
    dot1024 (iblk m c 4 (pt q 3)) (iblk m c 5 (pt q 3)) y
      + dot1024 (iblk m c 4 (pt q 4)) (iblk m c 5 (pt q 4)) y
      = prod2048 (m ((c : Thread nD τ).loc main_arg4)) (m ((c : Thread nD τ).loc main_arg5)) i (y 1) := by
  refine halves 1024 _ _ (fun l : Fin 2048 => (show FVec Ideal Cert.ReferenceDXnBIdeal.S8192x2048 .bf16 from m ((c : Thread nD τ).loc main_arg4)) (ix2 i l)
      * (show FVec Ideal Cert.ReferenceDXnBIdeal.S1024x2048 .bf16 from m ((c : Thread nD τ).loc main_arg5)) (ix2 (y 1) l)) ?_ ?_
  all_goals
    intro k l hl
    refine congrArg₂ (fun a b : EReal => a * b) ?_ ?_
  all_goals blk_point [iblk, V, blocks q]

theorem reorder (a b c d e r : EReal) : a + b + c + d + e + r = r + (d + e + c + (a + b)) := by
  ac_rfl

/-- The block of the gradient so far that the last step adds. -/
theorem rest (c : Dev nD) (q : Fin 8) (y : S1024x1024.Idx) (i : Fin 8192) (hi : i.val = 1024 * q.val + (y 0).val) :
    (iblk m c 6 (pt q 4) y : EReal) = m ((c : Thread nD τ).loc main_arg6) (ix2 i (y 1)) := by
  blk_point [iblk, V, blocks q]

/-- The result array after the run. -/
theorem array (c : Dev nD) : (dats m 0 c).arrAt 7 (cfgs 0).N
    = want (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  obtain ⟨q, rfl⟩ := eq_pt t ((flush0_7 t).mp hf)
  blk_simp
  rw [after0_7]
  refine (written m c q y).trans ?_
  have hi : 1024 * q.val + (y 0).val < 8192 := by have h0 : (y 0).val < 1024 := (y 0).isLt; have hq := q.isLt; omega
  have e : ((cfg0.win 7).blk (pt q 4)).view.emb y = ix2 (⟨1024 * q.val + (y 0).val, hi⟩ : Fin 8192) (y 1) := by
    blk_ext [blocks q]
  refine Eq.trans ?_ ((congrArg (want (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) e).trans (want_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) _ _)).symm
  rw [← pair0 m c q y _ rfl, ← pair1 m c q y _ rfl, ← pair2 m c q y _ rfl]
  exact (congrArg (fun r : EReal => _ + r) (rest m c q y _ rfl)).trans (reorder _ _ _ _ _ _)

/-- Kernel and reference leave the same array. -/
theorem value : Cert.algebraic_KernelDXnBIdeal_ReferenceDXnBIdeal := by
  pair_intro
  · run_from Cert.KernelDXnBIdeal.Gen.run_main m g
  · run_from Cert.ReferenceDXnBIdeal.Value.run m' g'
    exact (array m c).symm

end Cert.KernelDXnBIdeal.Array

end
-- ==== Proof.YValue.lean ====
module

public import proofs.«01_k».proof.Proof.Gen.KernelYIdeal.Frame
public import proofs.«01_k».proof.Proof.Gen.KernelYIdeal.Points
public import proofs.«01_k».proof.Proof.Gen.KernelYIdeal.Launch
public import proofs.«01_k».proof.Proof.Gen.ReferenceYIdeal.Run
public import Idealize.ShloMosaic.Lib.Pipeline.ValueKit
public import Idealize.ShloMosaic.Lib.Pipeline.ReadBack
public import Idealize.ShloMosaic.Lib.Claim
public import proofs.«01_k».proof.Defs

/-!
Forward product with a square weight.
-/

@[expose] public section

set_option maxRecDepth 16384

noncomputable section

namespace Cert.KernelYIdeal.Array

open Cert.KernelYIdeal Cert.KernelYIdeal.Gen
open Idealize.ShloMosaic Idealize.ShloMosaic.TcCoe Idealize.SL.Sem
open Idealize.ShloMosaic.Pipeline (Dat)

variable (m : (ℓ : Loc nD τ sig) → Buf (Elt Ideal) ℓ)

/-- The product as the reference writes it. -/
abbrev want (x : FVec Ideal Cert.ReferenceYIdeal.S8192x1024 .bf16) (w : FVec Ideal Cert.ReferenceYIdeal.S1024x1024 .bf16) :
    FVec Ideal Cert.ReferenceYIdeal.S8192x1024 .bf16 :=
  truncf .bf16 (Host.dotGeneral Cert.ReferenceYIdeal.dot_S8192x1024_S1024x1024_S8192x1024_1_0_0_1_n_n none
    (extf .f32 x Cert.ReferenceYIdeal.Gen.bitsLt_bf16_f32) (extf .f32 w Cert.ReferenceYIdeal.Gen.bitsLt_bf16_f32)) Cert.ReferenceYIdeal.Gen.bitsLt_bf16_f32

/-- Which block each window holds at grid point `t`. -/
theorem blocks : ∀ t : Fin cfg0.N, win0_0.index t = ![t.val, 0]
    ∧ win0_1.index t = ![0, 0]
    ∧ win0_2.index t = ![t.val, 0] :=
  (by decide +kernel : ∀ t : Fin grid0.N, _)

/-- The product of two blocks is the block of the product. -/
theorem block_product (c : Dev nD) (t : Fin cfg0.N) (y) :
    k0_pay1 (iblk m c 0 t) (iblk m c 1 t) y
      = want (m ((c : Thread nD τ).loc main_arg0)) (m ((c : Thread nD τ).loc main_arg1)) (((cfg0.win 2).blk t).view.emb y) := by
  pointwise [k0_pay1, want]
  blk_point [iblk, V, blocks t]

/-- The result array after the run. -/
theorem array (c : Dev nD) : (dats m 0 c).arrAt 2 (cfgs 0).N
    = want (m ((c : Thread nD τ).loc main_arg0)) (m ((c : Thread nD τ).loc main_arg1)) := by
  refine (dats m 0 c).arrAt_eq_of_covers 2 _ (by decide +kernel) fun t hf y => ?_
  blk_simp
  rw [after0_2]
  frame_out
  exact block_product m c t y

/-- Kernel and reference leave the same array. -/
theorem value : Cert.algebraic_KernelYIdeal_ReferenceYIdeal := by
  pair_intro
  · run_from Cert.KernelYIdeal.Gen.run_main m g
  · run_from Cert.ReferenceYIdeal.Value.run m' g'
    exact (array m c).symm

end Cert.KernelYIdeal.Array

end
-- ==== Proof.YZValue.lean ====
module

public import proofs.«01_k».proof.Proof.Gen.KernelYZIdeal.Frame
public import proofs.«01_k».proof.Proof.Gen.KernelYZIdeal.Points
public import proofs.«01_k».proof.Proof.Gen.KernelYZIdeal.Launch
public import proofs.«01_k».proof.Proof.Gen.ReferenceYZIdeal.Run
public import Idealize.ShloMosaic.Lib.Pipeline.ValueKit
public import Idealize.ShloMosaic.Lib.Pipeline.ReadBack
public import Idealize.ShloMosaic.Lib.Claim
public import proofs.«01_k».proof.Defs

/-!
Forward product with a 2048-wide column block of w_in.
-/

@[expose] public section

set_option maxRecDepth 16384

noncomputable section

namespace Cert.KernelYZIdeal.Array

open Cert.KernelYZIdeal Cert.KernelYZIdeal.Gen
open Idealize.ShloMosaic Idealize.ShloMosaic.TcCoe Idealize.SL.Sem
open Idealize.ShloMosaic.Pipeline (Dat)

variable (m : (ℓ : Loc nD τ sig) → Buf (Elt Ideal) ℓ)

/-- The product as the reference writes it. -/
abbrev want (x : FVec Ideal Cert.ReferenceYZIdeal.S8192x1024 .bf16) (w : FVec Ideal Cert.ReferenceYZIdeal.S1024x2048 .bf16) :
    FVec Ideal Cert.ReferenceYZIdeal.S8192x2048 .bf16 :=
  truncf .bf16 (Host.dotGeneral Cert.ReferenceYZIdeal.dot_S8192x1024_S1024x2048_S8192x2048_1_0_0_1_n_n none
    (extf .f32 x Cert.ReferenceYZIdeal.Gen.bitsLt_bf16_f32) (extf .f32 w Cert.ReferenceYZIdeal.Gen.bitsLt_bf16_f32)) Cert.ReferenceYZIdeal.Gen.bitsLt_bf16_f32

/-- Which block each window holds at grid point `t`. -/
theorem blocks : ∀ t : Fin cfg0.N, win0_0.index t = ![t.val / 2, 0]
    ∧ win0_1.index t = ![0, t.val % 2]
    ∧ win0_2.index t = ![t.val / 2, t.val % 2] :=
  (by decide +kernel : ∀ t : Fin grid0.N, _)

/-- The product of two blocks is the block of the product. -/
theorem block_product (c : Dev nD) (t : Fin cfg0.N) (y) :
    k0_pay1 (iblk m c 0 t) (iblk m c 1 t) y
      = want (m ((c : Thread nD τ).loc main_arg0)) (m ((c : Thread nD τ).loc main_arg1)) (((cfg0.win 2).blk t).view.emb y) := by
  pointwise [k0_pay1, want]
  blk_point [iblk, V, blocks t]

/-- The result array after the run. -/
theorem array (c : Dev nD) : (dats m 0 c).arrAt 2 (cfgs 0).N
    = want (m ((c : Thread nD τ).loc main_arg0)) (m ((c : Thread nD τ).loc main_arg1)) := by
  refine (dats m 0 c).arrAt_eq_of_covers 2 _ (by decide +kernel) fun t hf y => ?_
  blk_simp
  rw [after0_2]
  frame_out
  exact block_product m c t y

/-- Kernel and reference leave the same array. -/
theorem value : Cert.algebraic_KernelYZIdeal_ReferenceYZIdeal := by
  pair_intro
  · run_from Cert.KernelYZIdeal.Gen.run_main m g
  · run_from Cert.ReferenceYZIdeal.Value.run m' g'
    exact (array m c).symm

end Cert.KernelYZIdeal.Array

end
-- ==== Proof.YXbcValue.lean ====
module

public import proofs.«01_k».proof.Proof.Gen.KernelYXbcIdeal.Frame
public import proofs.«01_k».proof.Proof.Gen.KernelYXbcIdeal.Points
public import proofs.«01_k».proof.Proof.Gen.KernelYXbcIdeal.Launch
public import proofs.«01_k».proof.Proof.Gen.ReferenceYXbcIdeal.Run
public import Idealize.ShloMosaic.Lib.Pipeline.ValueKit
public import Idealize.ShloMosaic.Lib.Pipeline.ReadBack
public import Idealize.ShloMosaic.Lib.Claim
public import proofs.«01_k».proof.Defs

/-!
Forward product with the convolved columns of w_in.
-/

@[expose] public section

set_option maxRecDepth 16384

noncomputable section

namespace Cert.KernelYXbcIdeal.Array

open Cert.KernelYXbcIdeal Cert.KernelYXbcIdeal.Gen
open Idealize.ShloMosaic Idealize.ShloMosaic.TcCoe Idealize.SL.Sem
open Idealize.ShloMosaic.Pipeline (Dat)

variable (m : (ℓ : Loc nD τ sig) → Buf (Elt Ideal) ℓ)

/-- The product as the reference writes it. -/
abbrev want (x : FVec Ideal Cert.ReferenceYXbcIdeal.S8192x1024 .bf16) (w : FVec Ideal Cert.ReferenceYXbcIdeal.S1024x3072 .bf16) :
    FVec Ideal Cert.ReferenceYXbcIdeal.S8192x3072 .bf16 :=
  truncf .bf16 (Host.dotGeneral Cert.ReferenceYXbcIdeal.dot_S8192x1024_S1024x3072_S8192x3072_1_0_0_1_n_n none
    (extf .f32 x Cert.ReferenceYXbcIdeal.Gen.bitsLt_bf16_f32) (extf .f32 w Cert.ReferenceYXbcIdeal.Gen.bitsLt_bf16_f32)) Cert.ReferenceYXbcIdeal.Gen.bitsLt_bf16_f32

/-- Which block each window holds at grid point `t`. -/
theorem blocks : ∀ t : Fin cfg0.N, win0_0.index t = ![t.val / 2, 0]
    ∧ win0_1.index t = ![0, t.val % 2]
    ∧ win0_2.index t = ![t.val / 2, t.val % 2] :=
  (by decide +kernel : ∀ t : Fin grid0.N, _)

/-- The product of two blocks is the block of the product. -/
theorem block_product (c : Dev nD) (t : Fin cfg0.N) (y) :
    k0_pay1 (iblk m c 0 t) (iblk m c 1 t) y
      = want (m ((c : Thread nD τ).loc main_arg0)) (m ((c : Thread nD τ).loc main_arg1)) (((cfg0.win 2).blk t).view.emb y) := by
  pointwise [k0_pay1, want]
  blk_point [iblk, V, blocks t]

/-- The result array after the run. -/
theorem array (c : Dev nD) : (dats m 0 c).arrAt 2 (cfgs 0).N
    = want (m ((c : Thread nD τ).loc main_arg0)) (m ((c : Thread nD τ).loc main_arg1)) := by
  refine (dats m 0 c).arrAt_eq_of_covers 2 _ (by decide +kernel) fun t hf y => ?_
  blk_simp
  rw [after0_2]
  frame_out
  exact block_product m c t y

/-- Kernel and reference leave the same array. -/
theorem value : Cert.algebraic_KernelYXbcIdeal_ReferenceYXbcIdeal := by
  pair_intro
  · run_from Cert.KernelYXbcIdeal.Gen.run_main m g
  · run_from Cert.ReferenceYXbcIdeal.Value.run m' g'
    exact (array m c).symm

end Cert.KernelYXbcIdeal.Array

end
-- ==== Proof.YDtValue.lean ====
module

public import proofs.«01_k».proof.Proof.Gen.KernelYDtIdeal.Frame
public import proofs.«01_k».proof.Proof.Gen.KernelYDtIdeal.Points
public import proofs.«01_k».proof.Proof.Gen.KernelYDtIdeal.Launch
public import proofs.«01_k».proof.Proof.Gen.ReferenceYDtIdeal.Run
public import Idealize.ShloMosaic.Lib.Pipeline.ValueKit
public import Idealize.ShloMosaic.Lib.Pipeline.ReadBack
public import Idealize.ShloMosaic.Lib.Claim
public import proofs.«01_k».proof.Defs

/-!
Forward product with the padded step-size columns of w_in.
-/

@[expose] public section

set_option maxRecDepth 16384

noncomputable section

namespace Cert.KernelYDtIdeal.Array

open Cert.KernelYDtIdeal Cert.KernelYDtIdeal.Gen
open Idealize.ShloMosaic Idealize.ShloMosaic.TcCoe Idealize.SL.Sem
open Idealize.ShloMosaic.Pipeline (Dat)

variable (m : (ℓ : Loc nD τ sig) → Buf (Elt Ideal) ℓ)

/-- The product as the reference writes it. -/
abbrev want (x : FVec Ideal Cert.ReferenceYDtIdeal.S8192x1024 .bf16) (w : FVec Ideal Cert.ReferenceYDtIdeal.S1024x128 .bf16) :
    FVec Ideal Cert.ReferenceYDtIdeal.S8192x128 .f32 :=
  Host.dotGeneral Cert.ReferenceYDtIdeal.dot_S8192x1024_S1024x128_S8192x128_1_0_0_1_n_n none
    (extf .f32 x Cert.ReferenceYDtIdeal.Gen.bitsLt_bf16_f32) (extf .f32 w Cert.ReferenceYDtIdeal.Gen.bitsLt_bf16_f32)

/-- Which block each window holds at grid point `t`. -/
theorem blocks : ∀ t : Fin cfg0.N, win0_0.index t = ![t.val, 0]
    ∧ win0_1.index t = ![0, 0]
    ∧ win0_2.index t = ![t.val, 0] :=
  (by decide +kernel : ∀ t : Fin grid0.N, _)

/-- The product of two blocks is the block of the product. -/
theorem block_product (c : Dev nD) (t : Fin cfg0.N) (y) :
    k0_pay1 (iblk m c 0 t) (iblk m c 1 t) y
      = want (m ((c : Thread nD τ).loc main_arg0)) (m ((c : Thread nD τ).loc main_arg1)) (((cfg0.win 2).blk t).view.emb y) := by
  pointwise [k0_pay1, want]
  blk_point [iblk, V, blocks t]

/-- The result array after the run. -/
theorem array (c : Dev nD) : (dats m 0 c).arrAt 2 (cfgs 0).N
    = want (m ((c : Thread nD τ).loc main_arg0)) (m ((c : Thread nD τ).loc main_arg1)) := by
  refine (dats m 0 c).arrAt_eq_of_covers 2 _ (by decide +kernel) fun t hf y => ?_
  blk_simp
  rw [after0_2]
  frame_out
  exact block_product m c t y

/-- Kernel and reference leave the same array. -/
theorem value : Cert.algebraic_KernelYDtIdeal_ReferenceYDtIdeal := by
  pair_intro
  · run_from Cert.KernelYDtIdeal.Gen.run_main m g
  · run_from Cert.ReferenceYDtIdeal.Value.run m' g'
    exact (array m c).symm

end Cert.KernelYDtIdeal.Array

end
-- ==== Proof.YBrbValue.lean ====
module

public import proofs.«01_k».proof.Proof.Gen.KernelYBrbIdeal.Frame
public import proofs.«01_k».proof.Proof.Gen.KernelYBrbIdeal.Points
public import proofs.«01_k».proof.Proof.Gen.KernelYBrbIdeal.Launch
public import proofs.«01_k».proof.Proof.Gen.ReferenceYBrbIdeal.Run
public import Idealize.ShloMosaic.Lib.Pipeline.ValueKit
public import Idealize.ShloMosaic.Lib.Pipeline.ReadBack
public import Idealize.ShloMosaic.Lib.Claim
public import proofs.«01_k».proof.Defs

/-!
Forward product of the second branch projection.
-/

@[expose] public section

set_option maxRecDepth 16384

noncomputable section

namespace Cert.KernelYBrbIdeal.Array

open Cert.KernelYBrbIdeal Cert.KernelYBrbIdeal.Gen
open Idealize.ShloMosaic Idealize.ShloMosaic.TcCoe Idealize.SL.Sem
open Idealize.ShloMosaic.Pipeline (Dat)

variable (m : (ℓ : Loc nD τ sig) → Buf (Elt Ideal) ℓ)

/-- The product as the reference writes it. -/
abbrev want (x : FVec Ideal Cert.ReferenceYBrbIdeal.S8192x2048 .bf16) (w : FVec Ideal Cert.ReferenceYBrbIdeal.S2048x1024 .bf16) :
    FVec Ideal Cert.ReferenceYBrbIdeal.S8192x1024 .bf16 :=
  truncf .bf16 (Host.dotGeneral Cert.ReferenceYBrbIdeal.dot_S8192x2048_S2048x1024_S8192x1024_1_0_0_1_n_n none
    (extf .f32 x Cert.ReferenceYBrbIdeal.Gen.bitsLt_bf16_f32) (extf .f32 w Cert.ReferenceYBrbIdeal.Gen.bitsLt_bf16_f32)) Cert.ReferenceYBrbIdeal.Gen.bitsLt_bf16_f32

/-- Which block each window holds at grid point `t`. -/
theorem blocks : ∀ t : Fin cfg0.N, win0_0.index t = ![t.val / 2, t.val % 2]
    ∧ win0_1.index t = ![t.val % 2, 0]
    ∧ win0_2.index t = ![t.val / 2, 0] :=
  (by decide +kernel : ∀ t : Fin grid0.N, _)

/-- What one block of the summed dimension adds at an entry. -/
def dot (x : FVec Ideal S1024x1024 .bf16) (dy : FVec Ideal S1024x1024 .bf16) (y : S1024x1024.Idx) : EReal :=
  ∑ k : Fin 1024, x (ix2 (y 0) k) * dy (ix2 k (y 1))

/-- What grid point `t` adds at an entry. -/
abbrev part (c : Dev nD) (t : Fin cfg0.N) (y : S1024x1024.Idx) : EReal := dot (iblk m c 0 t) (iblk m c 1 t) y

theorem first_pay (x dy) (y : S1024x1024.Idx) : k0_pay2 (F := Ideal) x dy y = dot x dy y := by
  pointwise [k0_pay2, k0_pay1, dot]

theorem last_pay (x dy acc) (y : S1024x1024.Idx) : k0_pay3 (F := Ideal) x dy acc y = (acc y : EReal) + dot x dy y := by
  pointwise [k0_pay3, k0_pay1, dot]

/-- The running sum after grid point `n`: the scratch, or at the last point of a block the block written out. -/
def running (c : Dev nD) (n : ℕ) (h : n < cfg0.N) : S1024x1024.Idx → EReal :=
  if n % 2 = 1 then (outsAt0 m c n h).1 else (outsAt0 m c n h).2

theorem running_first (c : Dev nD) (t : Fin cfg0.N) (h : t.val % 2 = 0) (y) :
    running m c t.val t.isLt y = 0 + part m c t y := by
  rw [running, if_neg (by omega), outsAt0_A m c t h (by omega)]
  frame_out
  exact (first_pay _ _ y).trans (zero_add (part m c t y)).symm

theorem running_next (c : Dev nD) (t : Fin cfg0.N) (h : ¬t.val % 2 = 0) (y) :
    running m c t.val t.isLt y
      = running m c (t.val - 1) (Nat.lt_of_le_of_lt (Nat.sub_le _ _) t.isLt) y + part m c t y := by
  have h1 : t.val % 2 = 1 := by omega
  have hp : ¬(t.val - 1) % 2 = 1 := by omega
  rw [running, running, if_pos h1, if_neg hp, outsAt0_B m c t h h1]
  frame_out
  exact (last_pay _ _ _ y).trans (congrArg (fun a : EReal => a + part m c t y)
    (congrFun (read_unread_whole cc0_scratch0 _ _) y))

/-- What is written out at the last point of a block is the sum of its parts. -/
theorem written (c : Dev nD) (t : Fin cfg0.N) (h : t.val % 2 = 1) (y : S1024x1024.Idx) :
    (show FVec Ideal S1024x1024 .bf16 from (outsAt0 m c t.val t.isLt).1) y
      = ∑ s : Fin 2, part m c ⟨2 * (t.val / 2) + s.val, Pipeline.run_point_lt_of_flush t h s⟩ y := by
  have e := Pipeline.eq_sum_fin_of_reset_step_apply_of_flush (running m c) 2 (fun _ => 0) (part m c)
    (running_first m c) (running_next m c) t h y
  rw [running, if_pos h, zero_add] at e
  exact e

/-- The result array after the run. -/
theorem array (c : Dev nD) : (dats m 0 c).arrAt 2 (cfgs 0).N
    = want (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2]
  refine (written m c t h y).trans ?_
  pointwise [want, part, dot]
  refine Fin.sum_mul_add_congr fun s k hl => ?_
  blk_point [iblk, V, blocks t, blocks ⟨_, Pipeline.run_point_lt_of_flush t h s⟩]

/-- Kernel and reference leave the same array. -/
theorem value : Cert.algebraic_KernelYBrbIdeal_ReferenceYBrbIdeal := by
  pair_intro
  · run_from Cert.KernelYBrbIdeal.Gen.run_main m g
  · run_from Cert.ReferenceYBrbIdeal.Value.run m' g'
    exact (array m c).symm

end Cert.KernelYBrbIdeal.Array

end
-- ==== Proof.YFfnInValue.lean ====
module

public import proofs.«01_k».proof.Proof.Gen.KernelYFfnInIdeal.Frame
public import proofs.«01_k».proof.Proof.Gen.KernelYFfnInIdeal.Points
public import proofs.«01_k».proof.Proof.Gen.KernelYFfnInIdeal.Launch
public import proofs.«01_k».proof.Proof.Gen.ReferenceYFfnInIdeal.Run
public import Idealize.ShloMosaic.Lib.Pipeline.ValueKit
public import Idealize.ShloMosaic.Lib.Pipeline.ReadBack
public import Idealize.ShloMosaic.Lib.Claim
public import proofs.«01_k».proof.Defs

/-!
Forward product with w_ffn_in.
-/

@[expose] public section

set_option maxRecDepth 16384

noncomputable section

namespace Cert.KernelYFfnInIdeal.Array

open Cert.KernelYFfnInIdeal Cert.KernelYFfnInIdeal.Gen
open Idealize.ShloMosaic Idealize.ShloMosaic.TcCoe Idealize.SL.Sem
open Idealize.ShloMosaic.Pipeline (Dat)

variable (m : (ℓ : Loc nD τ sig) → Buf (Elt Ideal) ℓ)

/-- The product as the reference writes it. -/
abbrev want (x : FVec Ideal Cert.ReferenceYFfnInIdeal.S8192x1024 .bf16) (w : FVec Ideal Cert.ReferenceYFfnInIdeal.S5632x1024 .bf16) :
    FVec Ideal Cert.ReferenceYFfnInIdeal.S8192x5632 .bf16 :=
  truncf .bf16 (Host.dotGeneral Cert.ReferenceYFfnInIdeal.dot_S8192x1024_S1024x5632_S8192x5632_1_0_0_1_n_n none
    (extf .f32 x Cert.ReferenceYFfnInIdeal.Gen.bitsLt_bf16_f32) (extf .f32 (transpose Cert.ReferenceYFfnInIdeal.S1024x5632 [1, 0] w Cert.ReferenceYFfnInIdeal.Gen.transposes_S5632x1024_S1024x5632_1_0) Cert.ReferenceYFfnInIdeal.Gen.bitsLt_bf16_f32)) Cert.ReferenceYFfnInIdeal.Gen.bitsLt_bf16_f32

/-- Which block each window holds at grid point `t`. -/
theorem blocks : ∀ t : Fin cfg0.N, win0_0.index t = ![t.val / 4, 0]
    ∧ win0_1.index t = ![t.val % 4, 0]
    ∧ win0_2.index t = ![t.val / 4, t.val % 4] :=
  (by decide +kernel : ∀ t : Fin grid0.N, _)

/-- The product of two blocks is the block of the product. -/
theorem block_product (c : Dev nD) (t : Fin cfg0.N) (y) :
    k0_pay1 (iblk m c 0 t) (iblk m c 1 t) y
      = want (m ((c : Thread nD τ).loc main_arg0)) (m ((c : Thread nD τ).loc main_arg1)) (((cfg0.win 2).blk t).view.emb y) := by
  pointwise [k0_pay1, want]
  blk_point [iblk, V, blocks t]

/-- The result array after the run. -/
theorem array (c : Dev nD) : (dats m 0 c).arrAt 2 (cfgs 0).N
    = want (m ((c : Thread nD τ).loc main_arg0)) (m ((c : Thread nD τ).loc main_arg1)) := by
  refine (dats m 0 c).arrAt_eq_of_covers 2 _ (by decide +kernel) fun t hf y => ?_
  blk_simp
  rw [after0_2]
  frame_out
  exact block_product m c t y

/-- Kernel and reference leave the same array. -/
theorem value : Cert.algebraic_KernelYFfnInIdeal_ReferenceYFfnInIdeal := by
  pair_intro
  · run_from Cert.KernelYFfnInIdeal.Gen.run_main m g
  · run_from Cert.ReferenceYFfnInIdeal.Value.run m' g'
    exact (array m c).symm

end Cert.KernelYFfnInIdeal.Array

end
-- ==== Proof.OutValue.lean ====
module

public import proofs.«01_k».proof.Proof.Gen.KernelOutIdeal.Frame
public import proofs.«01_k».proof.Proof.Gen.KernelOutIdeal.Points
public import proofs.«01_k».proof.Proof.Gen.KernelOutIdeal.Launch
public import proofs.«01_k».proof.Proof.Gen.ReferenceOutIdeal.Run
public import Idealize.ShloMosaic.Lib.Pipeline.ValueKit
public import Idealize.ShloMosaic.Lib.Pipeline.ReadBack
public import Idealize.ShloMosaic.Lib.Claim
public import proofs.«01_k».proof.Defs

/-!
Forward output projection with the residual.
-/

@[expose] public section

set_option maxRecDepth 16384

noncomputable section

namespace Cert.KernelOutIdeal.Array

open Cert.KernelOutIdeal Cert.KernelOutIdeal.Gen
open Idealize.ShloMosaic Idealize.ShloMosaic.TcCoe Idealize.SL.Sem
open Idealize.ShloMosaic.Pipeline (Dat)

variable (m : (ℓ : Loc nD τ sig) → Buf (Elt Ideal) ℓ)

/-- The product as the reference writes it. -/
abbrev want (x : FVec Ideal Cert.ReferenceOutIdeal.S8192x1024 .bf16) (w : FVec Ideal Cert.ReferenceOutIdeal.S1024x1024 .bf16) (h : FVec Ideal Cert.ReferenceOutIdeal.S8192x1024 .f32) :
    FVec Ideal Cert.ReferenceOutIdeal.S8192x1024 .f32 :=
  addf h (Host.dotGeneral Cert.ReferenceOutIdeal.dot_S8192x1024_S1024x1024_S8192x1024_1_0_0_1_n_n none
    (extf .f32 x Cert.ReferenceOutIdeal.Gen.bitsLt_bf16_f32) (extf .f32 w Cert.ReferenceOutIdeal.Gen.bitsLt_bf16_f32))

/-- Which block each window holds at grid point `t`. -/
theorem blocks : ∀ t : Fin cfg0.N, win0_0.index t = ![t.val, 0]
    ∧ win0_1.index t = ![0, 0]
    ∧ win0_2.index t = ![t.val, 0]
    ∧ win0_3.index t = ![t.val, 0] :=
  (by decide +kernel : ∀ t : Fin grid0.N, _)

/-- The product of two blocks is the block of the product. -/
theorem block_product (c : Dev nD) (t : Fin cfg0.N) (y) :
    k0_pay1 (iblk m c 0 t) (iblk m c 1 t) (iblk m c 2 t) y
      = want (m ((c : Thread nD τ).loc main_arg0)) (m ((c : Thread nD τ).loc main_arg1)) (m ((c : Thread nD τ).loc main_arg2)) (((cfg0.win 3).blk t).view.emb y) := by
  pointwise [k0_pay1, want]
  refine (add_comm (G := EReal) _ _).trans ?_
  blk_point [iblk, V, blocks t]

/-- The result array after the run. -/
theorem array (c : Dev nD) : (dats m 0 c).arrAt 3 (cfgs 0).N
    = want (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  exact block_product m c t y

/-- Kernel and reference leave the same array. -/
theorem value : Cert.algebraic_KernelOutIdeal_ReferenceOutIdeal := by
  pair_intro
  · run_from Cert.KernelOutIdeal.Gen.run_main m g
  · run_from Cert.ReferenceOutIdeal.Value.run m' g'
    exact (array m c).symm

end Cert.KernelOutIdeal.Array

end
-- ==== Proof.FfnOutValue.lean ====
module

public import proofs.«01_k».proof.Proof.Gen.KernelFfnOutIdeal.Frame
public import proofs.«01_k».proof.Proof.Gen.KernelFfnOutIdeal.Points
public import proofs.«01_k».proof.Proof.Gen.KernelFfnOutIdeal.Launch
public import proofs.«01_k».proof.Proof.Gen.ReferenceFfnOutIdeal.Run
public import Idealize.ShloMosaic.Lib.Pipeline.ValueKit
public import Idealize.ShloMosaic.Lib.Pipeline.ReadBack
public import Idealize.ShloMosaic.Lib.Claim
public import proofs.«01_k».proof.Defs

/-!
The end of the feed-forward block: the gated activation, its product with the output weight, and the residual.
-/

@[expose] public section

set_option maxRecDepth 16384

noncomputable section

namespace Cert.KernelFfnOutIdeal.Array

open Cert.KernelFfnOutIdeal Cert.KernelFfnOutIdeal.Gen
open Idealize.ShloMosaic Idealize.ShloMosaic.TcCoe Idealize.SL.Sem
open Idealize.ShloMosaic.Pipeline (Dat)

variable (m : (ℓ : Loc nD τ sig) → Buf (Elt Ideal) ℓ)

/-- The activation the reference keeps: the first half of the columns times its logistic, times the second half. -/
abbrev wantAct (gu : FVec Ideal Cert.ReferenceFfnOutIdeal.S8192x5632 .bf16) : FVec Ideal Cert.ReferenceFfnOutIdeal.S8192x2816 .bf16 :=
  truncf .bf16 (mulf (mulf (extractStridedSlice Cert.ReferenceFfnOutIdeal.S8192x2816 ![0, 0] (extf .f32 gu Cert.ReferenceFfnOutIdeal.Gen.bitsLt_bf16_f32) Cert.ReferenceFfnOutIdeal.Gen.slices_S8192x5632_S8192x2816_0_0)
    (Host.divf (broadcastInDim Cert.ReferenceFfnOutIdeal.S8192x2816 ![] Cert.ReferenceFfnOutIdeal.Gen.bcast_S_S8192x2816 (constant Cert.ReferenceFfnOutIdeal.S_ .f32 0x3F800000#32))
      (addf (broadcastInDim Cert.ReferenceFfnOutIdeal.S8192x2816 ![] Cert.ReferenceFfnOutIdeal.Gen.bcast_S_S8192x2816 (constant Cert.ReferenceFfnOutIdeal.S_ .f32 0x3F800000#32))
        (Host.exp (Host.negf (extractStridedSlice Cert.ReferenceFfnOutIdeal.S8192x2816 ![0, 0] (extf .f32 gu Cert.ReferenceFfnOutIdeal.Gen.bitsLt_bf16_f32) Cert.ReferenceFfnOutIdeal.Gen.slices_S8192x5632_S8192x2816_0_0))))))
    (extractStridedSlice Cert.ReferenceFfnOutIdeal.S8192x2816 ![0, 2816] (extf .f32 gu Cert.ReferenceFfnOutIdeal.Gen.bitsLt_bf16_f32) Cert.ReferenceFfnOutIdeal.Gen.slices_S8192x5632_S8192x2816_0_2816)) Cert.ReferenceFfnOutIdeal.Gen.bitsLt_bf16_f32

/-- The residual plus an activation times the weight, as the reference writes it. -/
abbrev wantRows (a : FVec Ideal Cert.ReferenceFfnOutIdeal.S8192x2816 .bf16) (w : FVec Ideal Cert.ReferenceFfnOutIdeal.S2816x1024 .bf16) (h : FVec Ideal Cert.ReferenceFfnOutIdeal.S8192x1024 .f32) :
    FVec Ideal Cert.ReferenceFfnOutIdeal.S8192x1024 .f32 :=
  addf h (Host.dotGeneral Cert.ReferenceFfnOutIdeal.dot_S8192x2816_S2816x1024_S8192x1024_1_0_0_1_n_n none
    (extf .f32 a Cert.ReferenceFfnOutIdeal.Gen.bitsLt_bf16_f32) (extf .f32 w Cert.ReferenceFfnOutIdeal.Gen.bitsLt_bf16_f32))

/-- The rows the reference leaves. -/
abbrev want (gu : FVec Ideal Cert.ReferenceFfnOutIdeal.S8192x5632 .bf16) (w : FVec Ideal Cert.ReferenceFfnOutIdeal.S2816x1024 .bf16) (h : FVec Ideal Cert.ReferenceFfnOutIdeal.S8192x1024 .f32) :
    FVec Ideal Cert.ReferenceFfnOutIdeal.S8192x1024 .f32 :=
  wantRows (wantAct gu) w h

/-- Step `s` of the two steps of row block `q`. -/
abbrev pt (q : Fin 16) (s : Fin 2) : Fin cfg0.N :=
  ⟨2 * q.val + s.val, by have := q.isLt; have := s.isLt; show 2 * q.val + s.val < 32; omega⟩

/-- Every grid point is a step of a row block. -/
theorem eq_pt (t : Fin cfg0.N) : ∃ (q : Fin 16) (s : Fin 2), t = pt q s := by
  have ht : t.val < 32 := t.isLt
  exact ⟨⟨t.val / 2, by omega⟩, ⟨t.val % 2, by omega⟩, Fin.ext (by show t.val = 2 * (t.val / 2) + t.val % 2; omega)⟩

/-- Which block of its array each window holds at each step. -/
theorem blocks : ∀ (q : Fin 16) (s : Fin 2), win0_0.index (pt q s) = ![q.val, s.val]
    ∧ win0_1.index (pt q s) = ![q.val, s.val + 2]
    ∧ win0_2.index (pt q s) = ![s.val, 0]
    ∧ win0_3.index (pt q s) = ![q.val, 0]
    ∧ win0_4.index (pt q s) = ![q.val, 0]
    ∧ win0_5.index (pt q s) = ![q.val, s.val] := by
  decide +kernel

/-- The gated activation of a gate and an input. -/
def act (g u : EReal) : EReal := g * Ideal.logistic g * u

/-- The products of one step, added over 1408 columns. -/
def dot (g u : FVec Ideal S512x1408 .bf16) (w : FVec Ideal S1408x1024 .bf16) (y : S512x1024.Idx) : EReal :=
  ∑ k : Fin 1408, act (g (ix2 (y 0) k)) (u (ix2 (y 0) k)) * w (ix2 k (y 1))

theorem act_pay (g u) (y : S512x1408.Idx) : k0_pay1 (F := Ideal) g u y = act (g y) (u y) := by
  pointwise [k0_pay1, act, Ideal.logistic]

theorem first_pay (g u w) (y : S512x1024.Idx) : k0_pay3 (F := Ideal) g u w y = dot g u w y := by
  pointwise [k0_pay3, k0_pay2, k0_pay1, dot, act, Ideal.logistic]

theorem last_pay (g u w acc h) (y : S512x1024.Idx) :
    k0_pay5 (F := Ideal) g u w acc h y = (acc y : EReal) + dot g u w y + (h y : EReal) := by
  pointwise [k0_pay5, k0_pay2, k0_pay1, dot, act, Ideal.logistic]

theorem kept_first (c : Dev nD) (t : Fin cfg0.N) (h : t.val % 2 = 0) (y : S512x1024.Idx) :
    ((outsAt0 m c t.val t.isLt).2.2 y : EReal) = dot (iblk m c 0 t) (iblk m c 1 t) (iblk m c 2 t) y := by
  rw [outsAt0_A m c t h (by omega)]
  frame_out
  exact first_pay _ _ _ y

theorem out_last (c : Dev nD) (t : Fin cfg0.N) (h : t.val % 2 = 1) (y : S512x1024.Idx) :
    ((outsAt0 m c t.val t.isLt).1 y : EReal)
      = ((outsAt0 m c (t.val - 1) (Nat.lt_of_le_of_lt (Nat.sub_le _ _) t.isLt)).2.2 y : EReal)
        + dot (iblk m c 0 t) (iblk m c 1 t) (iblk m c 2 t) y + (iblk m c 3 t y : EReal) := by
  rw [outsAt0_B m c t (by omega) h]
  frame_out
  exact (last_pay _ _ _ _ _ y).trans (congrArg (fun a : EReal => a + dot (iblk m c 0 t) (iblk m c 1 t) (iblk m c 2 t) y + (iblk m c 3 t y : EReal))
    (congrFun (read_unread_whole cc0_scratch0 _ _) y))

theorem out_act (c : Dev nD) (t : Fin cfg0.N) (y : S512x1408.Idx) :
    ((outsAt0 m c t.val t.isLt).2.1 y : EReal) = act (iblk m c 0 t y) (iblk m c 1 t y) := by
  by_cases h : t.val % 2 = 0
  · rw [outsAt0_A m c t h (by omega)]
    frame_out
    exact act_pay _ _ y
  · rw [outsAt0_B m c t h (by omega)]
    frame_out
    exact act_pay _ _ y

/-- What the last step of a row block writes out. -/
theorem written (c : Dev nD) (q : Fin 16) (y : S512x1024.Idx) :
    ((outsAt0 m c (pt q 1).val (pt q 1).isLt).1 y : EReal)
      = dot (iblk m c 0 (pt q 0)) (iblk m c 1 (pt q 0)) (iblk m c 2 (pt q 0)) y
        + dot (iblk m c 0 (pt q 1)) (iblk m c 1 (pt q 1)) (iblk m c 2 (pt q 1)) y + (iblk m c 3 (pt q 1) y : EReal) := by
  have e0 := kept_first m c (pt q 0) (by show (2 * q.val + 0) % 2 = 0; omega) y
  have e1 := out_last m c (pt q 1) (by show (2 * q.val + 1) % 2 = 1; omega) y
  have p1 : (outsAt0 m c ((pt q 1).val - 1) (Nat.lt_of_le_of_lt (Nat.sub_le _ _) (pt q 1).isLt)).2.2 y
      = (outsAt0 m c (pt q 0).val (pt q 0).isLt).2.2 y := by
    congr 3
  rw [e1, p1, e0]

theorem wantAct_at (gu : FVec Ideal Cert.ReferenceFfnOutIdeal.S8192x5632 .bf16) (i : Fin 8192) (l : Fin 2816) :
    wantAct gu (ix2 i l) = act (gu (ix2 i ⟨l.val, by omega⟩)) (gu (ix2 i ⟨2816 + l.val, by omega⟩)) := by
  pointwise [wantAct, act, Ideal.logistic]

theorem want_at (a : FVec Ideal Cert.ReferenceFfnOutIdeal.S8192x2816 .bf16) (w : FVec Ideal Cert.ReferenceFfnOutIdeal.S2816x1024 .bf16) (h : FVec Ideal Cert.ReferenceFfnOutIdeal.S8192x1024 .f32)
    (i : Fin 8192) (j : Fin 1024) :
    wantRows a w h (ix2 i j) = (h (ix2 i j) : EReal) + ∑ l : Fin 2816, (a (ix2 i l) : EReal) * w (ix2 l j) := by
  pointwise [wantRows]

/-- A sum over all columns is the sum over the first half and the sum over the second. -/
theorem halves (n : ℕ) (f g : Fin n → EReal) (w : Fin (n + n) → EReal)
    (hf : ∀ (k : Fin n) (l : Fin (n + n)), l.val = k.val → f k = w l)
    (hg : ∀ (k : Fin n) (l : Fin (n + n)), l.val = n + k.val → g k = w l) :
    (∑ k, f k) + ∑ k, g k = ∑ l, w l := by
  rw [Fin.sum_univ_add]
  exact congrArg₂ (· + ·) (Finset.sum_congr rfl fun k _ => hf k _ rfl) (Finset.sum_congr rfl fun k _ => hg k _ rfl)

/-- The two steps of a row block add up one entry of the whole product. -/
theorem both (c : Dev nD) (q : Fin 16) (y : S512x1024.Idx) (i : Fin 8192) (hi : i.val = 512 * q.val + (y 0).val) :
    dot (iblk m c 0 (pt q 0)) (iblk m c 1 (pt q 0)) (iblk m c 2 (pt q 0)) y
      + dot (iblk m c 0 (pt q 1)) (iblk m c 1 (pt q 1)) (iblk m c 2 (pt q 1)) y
      = ∑ l : Fin 2816, (wantAct (m ((c : Thread nD τ).loc main_arg0)) (ix2 i l) : EReal)
          * (show FVec Ideal Cert.ReferenceFfnOutIdeal.S2816x1024 .bf16 from m ((c : Thread nD τ).loc main_arg1)) (ix2 l (y 1)) := by
  refine halves 1408 _ _ (fun l : Fin 2816 => (wantAct (m ((c : Thread nD τ).loc main_arg0)) (ix2 i l) : EReal)
    * (show FVec Ideal Cert.ReferenceFfnOutIdeal.S2816x1024 .bf16 from m ((c : Thread nD τ).loc main_arg1)) (ix2 l (y 1))) ?_ ?_
  all_goals
    intro k l hl
    refine congrArg₂ (fun a b : EReal => a * b) ((congrArg₂ act ?_ ?_).trans (wantAct_at _ i l).symm) ?_
  all_goals blk_point [iblk, V, blocks q]

theorem rest (c : Dev nD) (q : Fin 16) (y : S512x1024.Idx) (i : Fin 8192) (hi : i.val = 512 * q.val + (y 0).val) :
    (iblk m c 3 (pt q 1) y : EReal) = m ((c : Thread nD τ).loc main_arg2) (ix2 i (y 1)) := by
  blk_point [iblk, V, blocks q]

/-- The rows after the run. -/
theorem array (c : Dev nD) : (dats m 0 c).arrAt 4 (cfgs 0).N
    = want (m ((c : Thread nD τ).loc main_arg0)) (m ((c : Thread nD τ).loc main_arg1)) (m ((c : Thread nD τ).loc main_arg2)) := by
  refine (dats m 0 c).arrAt_eq_of_covers 4 _ (by decide +kernel) fun t hf y => ?_
  have ht := (flush0_4 t).mp hf
  obtain ⟨q, s, rfl⟩ := eq_pt t
  obtain rfl : s = 1 := Fin.ext (by have hs := s.isLt; have h' : (2 * q.val + s.val) % 2 = 1 := ht; show s.val = 1; omega)
  blk_simp
  rw [after0_4]
  have hi : 512 * q.val + (y 0).val < 8192 := by have h0 : (y 0).val < 512 := (y 0).isLt; have hq := q.isLt; omega
  have e : ((cfg0.win 4).blk (pt q 1)).view.emb y = ix2 (⟨512 * q.val + (y 0).val, hi⟩ : Fin 8192) (y 1) := by
    blk_ext [blocks q]
  refine (written m c q y).trans ?_
  refine Eq.trans ?_ ((congrArg (want _ _ _) e).trans (want_at _ _ _ _ _)).symm
  refine (congrArg₂ (fun a r : EReal => a + r) (both m c q y ⟨512 * q.val + (y 0).val, hi⟩ rfl) (rest m c q y ⟨512 * q.val + (y 0).val, hi⟩ rfl)).trans ?_
  exact add_comm (G := EReal) _ _

/-- The activation after the run. -/
theorem arrayAct (c : Dev nD) : (dats m 0 c).arrAt 5 (cfgs 0).N = wantAct (m ((c : Thread nD τ).loc main_arg0)) := by
  refine (dats m 0 c).arrAt_eq_of_covers 5 _ (by decide +kernel) fun t hf y => ?_
  obtain ⟨q, s, rfl⟩ := eq_pt t
  blk_simp
  rw [after0_5]
  have hi : 512 * q.val + (y 0).val < 8192 := by have h0 : (y 0).val < 512 := (y 0).isLt; have hq := q.isLt; omega
  have hj : 1408 * s.val + (y 1).val < 2816 := by have h0 : (y 1).val < 1408 := (y 1).isLt; have hs := s.isLt; omega
  have e : ((cfg0.win 5).blk (pt q s)).view.emb y = ix2 (⟨512 * q.val + (y 0).val, hi⟩ : Fin 8192) (⟨1408 * s.val + (y 1).val, hj⟩ : Fin 2816) := by
    blk_ext [blocks q s]
  refine (out_act m c (pt q s) y).trans ?_
  refine Eq.trans ?_ ((congrArg (wantAct _) e).trans (wantAct_at _ _ _)).symm
  refine congrArg₂ act ?_ ?_
  all_goals blk_point [iblk, V, blocks q s]

/-- Kernel and reference leave the same arrays. -/
theorem value : Cert.algebraic_KernelFfnOutIdeal_ReferenceFfnOutIdeal := by
  pair_intro
  · run_from Cert.KernelFfnOutIdeal.Gen.run_main m g
  · run_from Cert.ReferenceFfnOutIdeal.Value.run m' g'
    · exact (array m c).symm
    · exact (arrayAct m c).symm

end Cert.KernelFfnOutIdeal.Array

end
-- ==== Proof.LossValue.lean ====
module

public import proofs.«01_k».proof.Proof.Gen.KernelLossIdeal.Frame
public import proofs.«01_k».proof.Proof.Gen.KernelLossIdeal.Points
public import proofs.«01_k».proof.Proof.Gen.KernelLossIdeal.Launch
public import proofs.«01_k».proof.Proof.Gen.ReferenceLossIdeal.Run
public import Idealize.ShloMosaic.Lib.Pipeline.ValueKit
public import Idealize.ShloMosaic.Lib.Claim
public import proofs.«01_k».proof.Defs

/-!
The loss and its gradient: a norm, the squared distance to the target, and both sums over the rows.
-/

@[expose] public section

set_option maxRecDepth 16384

noncomputable section

namespace Cert.KernelLossIdeal.Array

open Cert.KernelLossIdeal Cert.KernelLossIdeal.Gen
open Idealize.ShloMosaic Idealize.ShloMosaic.TcCoe Idealize.SL.Sem
open Idealize.ShloMosaic.Pipeline (Dat)

variable (m : (ℓ : Loc nD τ sig) → Buf (Elt Ideal) ℓ)

/-- Which block each window holds at grid point `t`. -/
theorem blocks : ∀ t : Fin cfg0.N, win0_0.index t = ![t.val, 0]
    ∧ win0_1.index t = ![t.val, 0]
    ∧ win0_2.index t = ![0, 0]
    ∧ win0_3.index t = ![t.val, 0]
    ∧ win0_4.index t = ![0, 0]
    ∧ win0_5.index t = ![0, 0]
    ∧ win0_6.index t = ![t.val, 0] :=
  (by decide +kernel : ∀ t : Fin grid0.N, _)

/-- Row `r` of the block of grid point `t`, counted in the whole array. -/
abbrev row (t : Fin cfg0.N) (r : Fin 512) : Fin 8192 :=
  ⟨t.val * 512 + r.val, by have h : t.val < 16 := t.isLt; omega⟩

/-- Input 0 at grid point `t`: the rows of the block. -/
theorem in0 (c : Dev nD) (t : Fin cfg0.N) : iblk m c 0 t
    = fun i => m ((c : Thread nD τ).loc main_arg0) (ix2 (row t (i 0)) (i 1)) := by
  funext i
  blk_point [iblk, V, blocks t]

/-- Input 1 at grid point `t`: the rows of the block. -/
theorem in1 (c : Dev nD) (t : Fin cfg0.N) : iblk m c 1 t
    = fun i => m ((c : Thread nD τ).loc main_arg1) (ix2 (row t (i 0)) (i 1)) := by
  funext i
  blk_point [iblk, V, blocks t]

/-- Input 2 is staged whole. -/
theorem in2 (c : Dev nD) (t : Fin cfg0.N) : iblk m c 2 t = m ((c : Thread nD τ).loc main_arg2) := by
  funext i
  blk_point [iblk, V, blocks t]

/-- Where the block of output 3 at grid point `t` lies in the array. -/
theorem place3 (t : Fin cfg0.N) (y : ((cfg0.win 3).xblock (cfg0.grid.coords t)).Idx) :
    ((cfg0.win 3).blk t).view.emb y = ix2 (row t (y 0)) (y 1) := by
  blk_ext [blocks t]

/-- Output 4 is written whole. -/
theorem place4 (t : Fin cfg0.N) (y : ((cfg0.win 4).xblock (cfg0.grid.coords t)).Idx) :
    ((cfg0.win 4).blk t).view.emb y = ix2 (y 0) (y 1) := by
  blk_ext [blocks t]

/-- Output 5 is written whole. -/
theorem place5 (t : Fin cfg0.N) (y : ((cfg0.win 5).xblock (cfg0.grid.coords t)).Idx) :
    ((cfg0.win 5).blk t).view.emb y = ix2 (y 0) (y 1) := by
  blk_ext [blocks t]

/-- Where the block of output 6 at grid point `t` lies in the array. -/
theorem place6 (t : Fin cfg0.N) (y : ((cfg0.win 6).xblock (cfg0.grid.coords t)).Idx) :
    ((cfg0.win 6).blk t).view.emb y = ix2 (row t (y 0)) (y 1) := by
  blk_ext [blocks t]

/-- The factors in front of the squared distance: the kernel has them multiplied out. -/
theorem factor (e : EReal) :
    Ideal.div (Ideal.ofBits .f32 0x3F000000#32) (Ideal.ofBits .f32 0x44800000#32)
      * (Ideal.ofBits .f32 0x40000000#32 * e) = e * Ideal.ofBits .f32 0x3A800000#32 := by
  have h1 : Ideal.ofBits .f32 0x3F000000#32 = ((1 / 2 : ℝ) : EReal) := by
    simp [Ideal.ofBits, Ideal.ieee, -EReal.coe_mul]; norm_num
  have h2 : Ideal.ofBits .f32 0x44800000#32 = ((1024 : ℝ) : EReal) := by
    simp [Ideal.ofBits, Ideal.ieee, -EReal.coe_mul]; norm_num
  have h3 : Ideal.ofBits .f32 0x40000000#32 = ((2 : ℝ) : EReal) := by
    simp [Ideal.ofBits, Ideal.ieee, -EReal.coe_mul]; norm_num
  have h4 : Ideal.ofBits .f32 0x3A800000#32 = ((1 / 1024 : ℝ) : EReal) := by
    simp [Ideal.ofBits, Ideal.ieee, -EReal.coe_mul]; norm_num
  have h5 : Ideal.div ((1 / 2 : ℝ) : EReal) ((1024 : ℝ) : EReal) = ((1 / 2048 : ℝ) : EReal) := by
    rw [Ideal.div, if_neg (by norm_num), ← EReal.coe_inv, ← EReal.coe_mul]
    norm_num
  rw [h1, h2, h3, h4, h5, ← mul_assoc, mul_comm e, ← EReal.coe_mul]
  norm_num

/-- Half of a sum over the blocks is the sum of the halves. -/
theorem half_sum (n : Nat) (f : Fin n → EReal) :
    ∑ s : Fin n, Ideal.ofBits .f32 0x3F000000#32 * f s = Ideal.ofBits .f32 0x3F000000#32 * ∑ s : Fin n, f s := by
  have h1 : Ideal.ofBits .f32 0x3F000000#32 = ((1 / 2 : ℝ) : EReal) := by
    simp [Ideal.ofBits, Ideal.ieee, -EReal.coe_mul]; norm_num
  rw [h1]
  induction n with
  | zero => simp
  | succ n ih =>
    rw [Fin.sum_univ_castSucc, Fin.sum_univ_castSucc, ih,
      EReal.left_distrib_of_nonneg_of_ne_top (EReal.coe_nonneg.mpr (by norm_num)) (EReal.coe_ne_top _)]

theorem stored3 (c : Dev nD) (t : Fin cfg0.N) : (outsAt0 m c t.val t.isLt).1
    = k0_pay1 (iblk m c 0 t) (k0_pay14 (iblk m c 0 t) (iblk m c 2 t) (iblk m c 1 t)) (k0_pay15 (iblk m c 0 t) (iblk m c 2 t) (iblk m c 1 t)) (k0_pay16 (iblk m c 0 t) (iblk m c 2 t) (iblk m c 1 t)) := by
  by_cases h : t.val % 16 = 0
  · rw [outsAt0_A m c t h]
    frame_out
  · rw [outsAt0_B m c t h]
    frame_out

theorem stored6 (c : Dev nD) (t : Fin cfg0.N) : (outsAt0 m c t.val t.isLt).2.2.2
    = k0_pay2 (iblk m c 0 t) (k0_pay14 (iblk m c 0 t) (iblk m c 2 t) (iblk m c 1 t)) (k0_pay15 (iblk m c 0 t) (iblk m c 2 t) (iblk m c 1 t)) (k0_pay16 (iblk m c 0 t) (iblk m c 2 t) (iblk m c 1 t)) := by
  by_cases h : t.val % 16 = 0
  · rw [outsAt0_A m c t h]
    frame_out
  · rw [outsAt0_B m c t h]
    frame_out

/-- What the rows of grid point `t` add to the column sums (output 4). -/
def part4 (c : Dev nD) (t : Fin cfg0.N) (y : S1x1024.Idx) : EReal :=
  k0_pay12 (F := Ideal) (iblk m c 0 t) (iblk m c 2 t) (iblk m c 1 t) y

theorem first4 (c : Dev nD) (t : Fin cfg0.N) (h : t.val % 16 = 0) (y) :
    (outsAt0 m c t.val t.isLt).2.1 y = 0 + part4 m c t y := by
  rw [outsAt0_A m c t h]
  frame_out
  pointwise [k0_pay3, k0_pay5]
  rfl

theorem next4 (c : Dev nD) (t : Fin cfg0.N) (h : ¬t.val % 16 = 0) (y) :
    (outsAt0 m c t.val t.isLt).2.1 y
      = ((outsAt0 m c (t.val - 1) (Nat.lt_of_le_of_lt (Nat.sub_le _ _) t.isLt)).2.1 y : EReal) + part4 m c t y := by
  rw [outsAt0_B m c t h]
  frame_out
  pointwise [k0_pay3]
  rfl

/-- After the last grid point output 4 holds the sum of the parts. -/
theorem summed4 (c : Dev nD) (t : Fin cfg0.N) (h : t.val % 16 = 15) (y : S1x1024.Idx) :
    (show FVec Ideal S1x1024 .f32 from (outsAt0 m c t.val t.isLt).2.1) y
      = ∑ s : Fin 16, part4 m c ⟨16 * (t.val / 16) + s.val, Pipeline.run_point_lt_of_flush t h s⟩ y := by
  have e := Pipeline.eq_sum_fin_of_reset_step_apply_of_flush
    (fun n h => (show S1x1024.Idx → EReal from (outsAt0 m c n h).2.1)) 16 (fun _ => 0) (part4 m c)
    (first4 m c) (next4 m c) t h y
  rw [zero_add] at e
  exact e

/-- What the rows of grid point `t` add to the column sums (output 5). -/
def part5 (c : Dev nD) (t : Fin cfg0.N) (y : S8x128.Idx) : EReal :=
  k0_pay4 (F := Ideal) (k0_pay10 (iblk m c 0 t) (iblk m c 2 t) (iblk m c 1 t)) (k0_pay6 (F := Ideal)) y

theorem first5 (c : Dev nD) (t : Fin cfg0.N) (h : t.val % 16 = 0) (y) :
    (outsAt0 m c t.val t.isLt).2.2.1 y = 0 + part5 m c t y := by
  rw [outsAt0_A m c t h]
  frame_out
  rw [zero_add]
  rfl

theorem next5 (c : Dev nD) (t : Fin cfg0.N) (h : ¬t.val % 16 = 0) (y) :
    (outsAt0 m c t.val t.isLt).2.2.1 y
      = ((outsAt0 m c (t.val - 1) (Nat.lt_of_le_of_lt (Nat.sub_le _ _) t.isLt)).2.2.1 y : EReal) + part5 m c t y := by
  rw [outsAt0_B m c t h]
  frame_out
  pointwise [part5, k0_pay4, k0_pay6]

/-- After the last grid point output 5 holds the sum of the parts. -/
theorem summed5 (c : Dev nD) (t : Fin cfg0.N) (h : t.val % 16 = 15) (y : S8x128.Idx) :
    (show FVec Ideal S8x128 .f32 from (outsAt0 m c t.val t.isLt).2.2.1) y
      = ∑ s : Fin 16, part5 m c ⟨16 * (t.val / 16) + s.val, Pipeline.run_point_lt_of_flush t h s⟩ y := by
  have e := Pipeline.eq_sum_fin_of_reset_step_apply_of_flush
    (fun n h => (show S8x128.Idx → EReal from (outsAt0 m c n h).2.2.1)) 16 (fun _ => 0) (part5 m c)
    (first5 m c) (next5 m c) t h y
  rw [zero_add] at e
  exact e

set_option maxHeartbeats 1000000 in
/-- Kernel and reference leave the same arrays. -/
theorem value : Cert.algebraic_KernelLossIdeal_ReferenceLossIdeal := by
  pair_intro
  · run_from Cert.KernelLossIdeal.Gen.run_main m g
  · refine θ_run_mono (Cert.ReferenceLossIdeal.Value.run m' g') ?_
    intro r hr c
    obtain ⟨h0, h1, h2, h3, kept⟩ := hr c
    obtain ⟨a0, a1, a2⟩ := hagree c
    refine ⟨h0.trans ?_, h1.trans ?_, h2.trans ?_, h3.trans ?_, kept⟩
    · clear h0 h1 h2 h3 kept hr
      refine ((dats m 0 c).arrAt_eq_of_covers 3 _ (by decide +kernel) fun t hf y => ?_).symm
      rw [place3 t y]
      blk_simp
      rw [after0_3, stored3, in0 m c t, in1 m c t, in2 m c t]
      unfold Cert.ReferenceLossIdeal.Value.res_main_v48
      pointwise [k0_pay1, k0_pay7, k0_pay8, k0_pay9, k0_pay10, k0_pay11, k0_pay13, k0_pay14, k0_pay15, k0_pay16, a0, a1, a2]
      simp only [factor]
    · clear h0 h1 h2 h3 kept hr
      refine ((dats m 0 c).arrAt_eq_of_covers 4 _ (by decide +kernel) fun t hf y => ?_).symm
      have h := (flush0_4 t).mp hf
      rw [place4 t y]
      blk_simp
      rw [after0_4]
      refine (summed4 m c t h y).trans ?_
      simp only [part4, in0 m c, in1 m c, in2 m c]
      pointwise [k0_pay12, k0_pay7, k0_pay8, k0_pay9, k0_pay10, k0_pay11, a0, a1, a2]
      simp only [factor]
      refine Fin.sum_mul_add_congr fun s k hl => ?_
      have ht : t.val < 16 := t.isLt
      have e : row ⟨16 * (t.val / 16) + s.val, Pipeline.run_point_lt_of_flush t h s⟩ k = ⟨s.val * 512 + k.val, hl⟩ :=
        Fin.ext (by show (16 * (t.val / 16) + s.val) * 512 + k.val = s.val * 512 + k.val; omega)
      rw [e]
    · clear h0 h1 h2 h3 kept hr
      refine ((dats m 0 c).arrAt_eq_of_covers 5 _ (by decide +kernel) fun t hf y => ?_).symm
      have h := (flush0_5 t).mp hf
      rw [place5 t y]
      blk_simp
      rw [after0_5]
      refine (summed5 m c t h y).trans ?_
      simp only [part5, in0 m c, in1 m c, in2 m c]
      pointwise [k0_pay4, k0_pay6, k0_pay7, k0_pay8, k0_pay9, k0_pay10, a0, a1, a2]
      rw [half_sum]
      congr 1
      refine Fin.sum_mul_add_congr fun s k hl => ?_
      have ht : t.val < 16 := t.isLt
      have e : row ⟨16 * (t.val / 16) + s.val, Pipeline.run_point_lt_of_flush t h s⟩ k = ⟨s.val * 512 + k.val, hl⟩ :=
        Fin.ext (by show (16 * (t.val / 16) + s.val) * 512 + k.val = s.val * 512 + k.val; omega)
      rw [e]
    · clear h0 h1 h2 h3 kept hr
      refine ((dats m 0 c).arrAt_eq_of_covers 6 _ (by decide +kernel) fun t hf y => ?_).symm
      rw [place6 t y]
      blk_simp
      rw [after0_6, stored6, in0 m c t, in1 m c t, in2 m c t]
      unfold Cert.ReferenceLossIdeal.Value.res_main_v50
      pointwise [k0_pay2, k0_pay1, k0_pay7, k0_pay8, k0_pay9, k0_pay10, k0_pay11, k0_pay13, k0_pay14, k0_pay15, k0_pay16, a0, a1, a2]
      simp only [factor]

end Cert.KernelLossIdeal.Array

end
-- ==== Proof.AdamBranchValue.lean ====
module

public import proofs.«01_k».proof.Proof.Gen.KernelAdamBranchIdeal.Frame
public import proofs.«01_k».proof.Proof.Gen.KernelAdamBranchIdeal.Points
public import proofs.«01_k».proof.Proof.Gen.KernelAdamBranchIdeal.Launch
public import proofs.«01_k».proof.Proof.Gen.ReferenceAdamBranchIdeal.Run
public import Idealize.ShloMosaic.Lib.Pipeline.ValueKit
public import Idealize.ShloMosaic.Lib.Claim
public import proofs.«01_k».proof.Defs

/-!
The optimiser's step on a device's part of the branch projections: the eight devices' gradients are added up first.
-/

@[expose] public section

set_option maxRecDepth 16384

noncomputable section

namespace Cert.KernelAdamBranchIdeal.Array

open Cert.KernelAdamBranchIdeal Cert.KernelAdamBranchIdeal.Gen
open Idealize.ShloMosaic Idealize.ShloMosaic.TcCoe Idealize.SL.Sem
open Idealize.ShloMosaic.Pipeline (Dat)

variable (m : (ℓ : Loc nD τ sig) → Buf (Elt Ideal) ℓ)

/-- Which block each window of a parameter holds at grid point `t`: the layers follow one another. -/
theorem blocks : ∀ t : Fin cfg0.N, win0_0.index t = ![t.val / 1, t.val % 1, 0]
    ∧ win0_1.index t = ![t.val / 1, t.val % 1, 0]
    ∧ win0_2.index t = ![t.val / 1, t.val % 1, 0]
    ∧ win0_5.index t = ![t.val / 1, t.val % 1, 0]
    ∧ win0_6.index t = ![t.val / 1, t.val % 1, 0]
    ∧ win0_7.index t = ![t.val / 1, t.val % 1, 0]
    ∧ win0_8.index t = ![t.val / 1, t.val % 1, 0] :=
  (by decide +kernel : ∀ t : Fin grid0.N, _)

/-- Which block of the first layer's gradients is held while that layer is stepped. -/
theorem blocks3 : ∀ t : Fin cfg0.N, t.val < 1 → win0_3.index t = ![0, t.val % 1, 0] :=
  (by decide +kernel : ∀ t : Fin grid0.N, _)

/-- Which block of the second layer's gradients is held while that layer is stepped. -/
theorem blocks4 : ∀ t : Fin cfg0.N, 1 ≤ t.val → win0_4.index t = ![0, t.val % 1, 0] :=
  (by decide +kernel : ∀ t : Fin grid0.N, _)

/-- The layer of grid point `t`. -/
abbrev layer (t : Fin cfg0.N) : Fin 2 := ⟨t.val / 1, by have h : t.val < 2 := t.isLt; omega⟩

/-- Input 0 at grid point `t`: rows of one layer. -/
theorem in0 (c : Dev nD) (t : Fin cfg0.N) : iblk m c 0 t
    = fun i => m ((c : Thread nD τ).loc main_arg0) (ix3 (layer t) (i 1) (i 2)) := by
  funext i
  blk_point [iblk, V, blocks t]

/-- Input 1 at grid point `t`: rows of one layer. -/
theorem in1 (c : Dev nD) (t : Fin cfg0.N) : iblk m c 1 t
    = fun i => m ((c : Thread nD τ).loc main_arg1) (ix3 (layer t) (i 1) (i 2)) := by
  funext i
  blk_point [iblk, V, blocks t]

/-- Input 2 at grid point `t`: rows of one layer. -/
theorem in2 (c : Dev nD) (t : Fin cfg0.N) : iblk m c 2 t
    = fun i => m ((c : Thread nD τ).loc main_arg2) (ix3 (layer t) (i 1) (i 2)) := by
  funext i
  blk_point [iblk, V, blocks t]

/-- Input 3 at a grid point of its layer: the same rows of the eight devices' gradients. -/
theorem in3 (c : Dev nD) (t : Fin cfg0.N) (h : t.val < 1) : iblk m c 3 t
    = fun i => m ((c : Thread nD τ).loc main_arg3) (ix3 (i 0) (i 1) (i 2)) := by
  funext i
  blk_point [iblk, V, blocks3 t h]

/-- Input 4 at a grid point of its layer: the same rows of the eight devices' gradients. -/
theorem in4 (c : Dev nD) (t : Fin cfg0.N) (h : 1 ≤ t.val) : iblk m c 4 t
    = fun i => m ((c : Thread nD τ).loc main_arg4) (ix3 (i 0) (i 1) (i 2)) := by
  funext i
  blk_point [iblk, V, blocks4 t h]

/-- Where the block of output 5 at grid point `t` lies in the array. -/
theorem place5 (t : Fin cfg0.N) (y : ((cfg0.win 5).xblock (cfg0.grid.coords t)).Idx) :
    ((cfg0.win 5).blk t).view.emb y = ix3 (layer t) (y 1) (y 2) := by
  blk_ext [blocks t]

/-- Where the block of output 6 at grid point `t` lies in the array. -/
theorem place6 (t : Fin cfg0.N) (y : ((cfg0.win 6).xblock (cfg0.grid.coords t)).Idx) :
    ((cfg0.win 6).blk t).view.emb y = ix3 (layer t) (y 1) (y 2) := by
  blk_ext [blocks t]

/-- Where the block of output 7 at grid point `t` lies in the array. -/
theorem place7 (t : Fin cfg0.N) (y : ((cfg0.win 7).xblock (cfg0.grid.coords t)).Idx) :
    ((cfg0.win 7).blk t).view.emb y = ix3 (layer t) (y 1) (y 2) := by
  blk_ext [blocks t]

/-- Where the block of output 8 at grid point `t` lies in the array. -/
theorem place8 (t : Fin cfg0.N) (y : ((cfg0.win 8).xblock (cfg0.grid.coords t)).Idx) :
    ((cfg0.win 8).blk t).view.emb y = ix3 (layer t) (y 1) (y 2) := by
  blk_ext [blocks t]

/-- The sum over the devices as the first layer's grid points form it. -/
theorem sumA (x : Vec Ideal S8x384x1024 .bf16) :
    k0_pay5 (View.ld x (Rect.unit ![0, 0, 0] ![1, 384, 1024] inb_S8x384x1024_S1x384x1024_0_0_0)) (View.ld x (Rect.unit ![1, 0, 0] ![1, 384, 1024] inb_S8x384x1024_S1x384x1024_1_0_0)) (View.ld x (Rect.unit ![2, 0, 0] ![1, 384, 1024] inb_S8x384x1024_S1x384x1024_2_0_0)) (View.ld x (Rect.unit ![3, 0, 0] ![1, 384, 1024] inb_S8x384x1024_S1x384x1024_3_0_0)) (View.ld x (Rect.unit ![4, 0, 0] ![1, 384, 1024] inb_S8x384x1024_S1x384x1024_4_0_0)) (View.ld x (Rect.unit ![5, 0, 0] ![1, 384, 1024] inb_S8x384x1024_S1x384x1024_5_0_0)) (View.ld x (Rect.unit ![6, 0, 0] ![1, 384, 1024] inb_S8x384x1024_S1x384x1024_6_0_0)) (View.ld x (Rect.unit ![7, 0, 0] ![1, 384, 1024] inb_S8x384x1024_S1x384x1024_7_0_0))
      = fun i => ∑ d : Fin 8, (show S8x384x1024.Idx → EReal from x) (ix3 d (i 0) (i 1)) := by
  funext i
  rw [Fin.sum_univ_eight]
  pointwise [k0_pay5]

/-- The sum over the devices as the second layer's grid points form it. -/
theorem sumB (x : Vec Ideal S8x384x1024 .bf16) :
    k0_pay11 (View.ld x (Rect.unit ![0, 0, 0] ![1, 384, 1024] inb_S8x384x1024_S1x384x1024_0_0_0)) (View.ld x (Rect.unit ![1, 0, 0] ![1, 384, 1024] inb_S8x384x1024_S1x384x1024_1_0_0)) (View.ld x (Rect.unit ![2, 0, 0] ![1, 384, 1024] inb_S8x384x1024_S1x384x1024_2_0_0)) (View.ld x (Rect.unit ![3, 0, 0] ![1, 384, 1024] inb_S8x384x1024_S1x384x1024_3_0_0)) (View.ld x (Rect.unit ![4, 0, 0] ![1, 384, 1024] inb_S8x384x1024_S1x384x1024_4_0_0)) (View.ld x (Rect.unit ![5, 0, 0] ![1, 384, 1024] inb_S8x384x1024_S1x384x1024_5_0_0)) (View.ld x (Rect.unit ![6, 0, 0] ![1, 384, 1024] inb_S8x384x1024_S1x384x1024_6_0_0)) (View.ld x (Rect.unit ![7, 0, 0] ![1, 384, 1024] inb_S8x384x1024_S1x384x1024_7_0_0))
      = fun i => ∑ d : Fin 8, (show S8x384x1024.Idx → EReal from x) (ix3 d (i 0) (i 1)) := by
  funext i
  rw [Fin.sum_univ_eight]
  pointwise [k0_pay11]

set_option maxHeartbeats 2000000 in
/-- Kernel and reference leave the same arrays. -/
theorem value : Cert.algebraic_KernelAdamBranchIdeal_ReferenceAdamBranchIdeal := by
  pair_intro
  · run_from Cert.KernelAdamBranchIdeal.Gen.run_main m g
  · run_from Cert.ReferenceAdamBranchIdeal.Value.run m' g'
    · refine ((dats m 0 c).arrAt_eq_of_covers 5 _ (by decide +kernel) fun t hf y => ?_).symm
      have ht : t.val < 2 := t.isLt
      obtain ⟨-, -, -, a3, a4⟩ := hagree c
      rw [place5 t y]
      blk_simp
      rw [after0_5]
      rcases Nat.lt_or_ge t.val 1 with h | h
      · have e : layer t = 0 := Fin.ext (by show t.val / 1 = 0; omega)
        rw [outsAt0_A m c t (by omega) (by omega)]
        frame_out
        rw [sumA, in3 m c t h, e]
        pointwise [k0_pay9]
        rw [a3]
      · have e : layer t = 1 := Fin.ext (by show t.val / 1 = 1; omega)
        rw [outsAt0_B m c t (by omega) (by omega)]
        frame_out
        rw [sumB, in4 m c t h, e]
        pointwise [k0_pay15]
        rw [a4]
    · refine ((dats m 0 c).arrAt_eq_of_covers 6 _ (by decide +kernel) fun t hf y => ?_).symm
      have ht : t.val < 2 := t.isLt
      obtain ⟨-, -, -, a3, a4⟩ := hagree c
      rw [place6 t y]
      blk_simp
      rw [after0_6]
      rcases Nat.lt_or_ge t.val 1 with h | h
      · have e : layer t = 0 := Fin.ext (by show t.val / 1 = 0; omega)
        rw [outsAt0_A m c t (by omega) (by omega)]
        frame_out
        rw [sumA, in3 m c t h, in0 m c t, in1 m c t, in2 m c t, e]
        pointwise [k0_pay10, k0_pay7, k0_pay8, k0_pay6]
        rw [a3]
        rfl
      · have e : layer t = 1 := Fin.ext (by show t.val / 1 = 1; omega)
        rw [outsAt0_B m c t (by omega) (by omega)]
        frame_out
        rw [sumB, in4 m c t h, in0 m c t, in1 m c t, in2 m c t, e]
        pointwise [k0_pay16, k0_pay13, k0_pay14, k0_pay12]
        rw [a4]
        rfl
    · refine ((dats m 0 c).arrAt_eq_of_covers 7 _ (by decide +kernel) fun t hf y => ?_).symm
      have ht : t.val < 2 := t.isLt
      obtain ⟨-, -, -, a3, a4⟩ := hagree c
      rw [place7 t y]
      blk_simp
      rw [after0_7]
      rcases Nat.lt_or_ge t.val 1 with h | h
      · have e : layer t = 0 := Fin.ext (by show t.val / 1 = 0; omega)
        rw [outsAt0_A m c t (by omega) (by omega)]
        frame_out
        rw [sumA, in3 m c t h, in1 m c t, e]
        pointwise [k0_pay1, k0_pay7, k0_pay6]
        rw [a3]
        rfl
      · have e : layer t = 1 := Fin.ext (by show t.val / 1 = 1; omega)
        rw [outsAt0_B m c t (by omega) (by omega)]
        frame_out
        rw [sumB, in4 m c t h, in1 m c t, e]
        pointwise [k0_pay3, k0_pay13, k0_pay12]
        rw [a4]
        rfl
    · refine ((dats m 0 c).arrAt_eq_of_covers 8 _ (by decide +kernel) fun t hf y => ?_).symm
      have ht : t.val < 2 := t.isLt
      obtain ⟨-, -, -, a3, a4⟩ := hagree c
      rw [place8 t y]
      blk_simp
      rw [after0_8]
      rcases Nat.lt_or_ge t.val 1 with h | h
      · have e : layer t = 0 := Fin.ext (by show t.val / 1 = 0; omega)
        rw [outsAt0_A m c t (by omega) (by omega)]
        frame_out
        rw [sumA, in3 m c t h, in2 m c t, e]
        pointwise [k0_pay2, k0_pay8]
        rw [a3]
        rfl
      · have e : layer t = 1 := Fin.ext (by show t.val / 1 = 1; omega)
        rw [outsAt0_B m c t (by omega) (by omega)]
        frame_out
        rw [sumB, in4 m c t h, in2 m c t, e]
        pointwise [k0_pay4, k0_pay14]
        rw [a4]
        rfl

end Cert.KernelAdamBranchIdeal.Array

end
-- ==== Proof.AdamOutValue.lean ====
module

public import proofs.«01_k».proof.Proof.Gen.KernelAdamOutIdeal.Frame
public import proofs.«01_k».proof.Proof.Gen.KernelAdamOutIdeal.Points
public import proofs.«01_k».proof.Proof.Gen.KernelAdamOutIdeal.Launch
public import proofs.«01_k».proof.Proof.Gen.ReferenceAdamOutIdeal.Run
public import Idealize.ShloMosaic.Lib.Pipeline.ValueKit
public import Idealize.ShloMosaic.Lib.Claim
public import proofs.«01_k».proof.Defs

/-!
The optimiser's step on a device's part of the output projection: the eight devices' gradients are added up first.
-/

@[expose] public section

set_option maxRecDepth 16384

noncomputable section

namespace Cert.KernelAdamOutIdeal.Array

open Cert.KernelAdamOutIdeal Cert.KernelAdamOutIdeal.Gen
open Idealize.ShloMosaic Idealize.ShloMosaic.TcCoe Idealize.SL.Sem
open Idealize.ShloMosaic.Pipeline (Dat)

variable (m : (ℓ : Loc nD τ sig) → Buf (Elt Ideal) ℓ)

/-- Which block each window of a parameter holds at grid point `t`: the layers follow one another. -/
theorem blocks : ∀ t : Fin cfg0.N, win0_0.index t = ![t.val / 1, t.val % 1, 0]
    ∧ win0_1.index t = ![t.val / 1, t.val % 1, 0]
    ∧ win0_2.index t = ![t.val / 1, t.val % 1, 0]
    ∧ win0_5.index t = ![t.val / 1, t.val % 1, 0]
    ∧ win0_6.index t = ![t.val / 1, t.val % 1, 0]
    ∧ win0_7.index t = ![t.val / 1, t.val % 1, 0]
    ∧ win0_8.index t = ![t.val / 1, t.val % 1, 0] :=
  (by decide +kernel : ∀ t : Fin grid0.N, _)

/-- Which block of the first layer's gradients is held while that layer is stepped. -/
theorem blocks3 : ∀ t : Fin cfg0.N, t.val < 1 → win0_3.index t = ![0, t.val % 1, 0] :=
  (by decide +kernel : ∀ t : Fin grid0.N, _)

/-- Which block of the second layer's gradients is held while that layer is stepped. -/
theorem blocks4 : ∀ t : Fin cfg0.N, 1 ≤ t.val → win0_4.index t = ![0, t.val % 1, 0] :=
  (by decide +kernel : ∀ t : Fin grid0.N, _)

/-- The layer of grid point `t`. -/
abbrev layer (t : Fin cfg0.N) : Fin 2 := ⟨t.val / 1, by have h : t.val < 2 := t.isLt; omega⟩

/-- Input 0 at grid point `t`: rows of one layer. -/
theorem in0 (c : Dev nD) (t : Fin cfg0.N) : iblk m c 0 t
    = fun i => m ((c : Thread nD τ).loc main_arg0) (ix3 (layer t) (i 1) (i 2)) := by
  funext i
  blk_point [iblk, V, blocks t]

/-- Input 1 at grid point `t`: rows of one layer. -/
theorem in1 (c : Dev nD) (t : Fin cfg0.N) : iblk m c 1 t
    = fun i => m ((c : Thread nD τ).loc main_arg1) (ix3 (layer t) (i 1) (i 2)) := by
  funext i
  blk_point [iblk, V, blocks t]

/-- Input 2 at grid point `t`: rows of one layer. -/
theorem in2 (c : Dev nD) (t : Fin cfg0.N) : iblk m c 2 t
    = fun i => m ((c : Thread nD τ).loc main_arg2) (ix3 (layer t) (i 1) (i 2)) := by
  funext i
  blk_point [iblk, V, blocks t]

/-- Input 3 at a grid point of its layer: the same rows of the eight devices' gradients. -/
theorem in3 (c : Dev nD) (t : Fin cfg0.N) (h : t.val < 1) : iblk m c 3 t
    = fun i => m ((c : Thread nD τ).loc main_arg3) (ix3 (i 0) (i 1) (i 2)) := by
  funext i
  blk_point [iblk, V, blocks3 t h]

/-- Input 4 at a grid point of its layer: the same rows of the eight devices' gradients. -/
theorem in4 (c : Dev nD) (t : Fin cfg0.N) (h : 1 ≤ t.val) : iblk m c 4 t
    = fun i => m ((c : Thread nD τ).loc main_arg4) (ix3 (i 0) (i 1) (i 2)) := by
  funext i
  blk_point [iblk, V, blocks4 t h]

/-- Where the block of output 5 at grid point `t` lies in the array. -/
theorem place5 (t : Fin cfg0.N) (y : ((cfg0.win 5).xblock (cfg0.grid.coords t)).Idx) :
    ((cfg0.win 5).blk t).view.emb y = ix3 (layer t) (y 1) (y 2) := by
  blk_ext [blocks t]

/-- Where the block of output 6 at grid point `t` lies in the array. -/
theorem place6 (t : Fin cfg0.N) (y : ((cfg0.win 6).xblock (cfg0.grid.coords t)).Idx) :
    ((cfg0.win 6).blk t).view.emb y = ix3 (layer t) (y 1) (y 2) := by
  blk_ext [blocks t]

/-- Where the block of output 7 at grid point `t` lies in the array. -/
theorem place7 (t : Fin cfg0.N) (y : ((cfg0.win 7).xblock (cfg0.grid.coords t)).Idx) :
    ((cfg0.win 7).blk t).view.emb y = ix3 (layer t) (y 1) (y 2) := by
  blk_ext [blocks t]

/-- Where the block of output 8 at grid point `t` lies in the array. -/
theorem place8 (t : Fin cfg0.N) (y : ((cfg0.win 8).xblock (cfg0.grid.coords t)).Idx) :
    ((cfg0.win 8).blk t).view.emb y = ix3 (layer t) (y 1) (y 2) := by
  blk_ext [blocks t]

/-- The sum over the devices as the first layer's grid points form it. -/
theorem sumA (x : Vec Ideal S8x128x1024 .bf16) :
    k0_pay5 (View.ld x (Rect.unit ![0, 0, 0] ![1, 128, 1024] inb_S8x128x1024_S1x128x1024_0_0_0)) (View.ld x (Rect.unit ![1, 0, 0] ![1, 128, 1024] inb_S8x128x1024_S1x128x1024_1_0_0)) (View.ld x (Rect.unit ![2, 0, 0] ![1, 128, 1024] inb_S8x128x1024_S1x128x1024_2_0_0)) (View.ld x (Rect.unit ![3, 0, 0] ![1, 128, 1024] inb_S8x128x1024_S1x128x1024_3_0_0)) (View.ld x (Rect.unit ![4, 0, 0] ![1, 128, 1024] inb_S8x128x1024_S1x128x1024_4_0_0)) (View.ld x (Rect.unit ![5, 0, 0] ![1, 128, 1024] inb_S8x128x1024_S1x128x1024_5_0_0)) (View.ld x (Rect.unit ![6, 0, 0] ![1, 128, 1024] inb_S8x128x1024_S1x128x1024_6_0_0)) (View.ld x (Rect.unit ![7, 0, 0] ![1, 128, 1024] inb_S8x128x1024_S1x128x1024_7_0_0))
      = fun i => ∑ d : Fin 8, (show S8x128x1024.Idx → EReal from x) (ix3 d (i 0) (i 1)) := by
  funext i
  rw [Fin.sum_univ_eight]
  pointwise [k0_pay5]

/-- The sum over the devices as the second layer's grid points form it. -/
theorem sumB (x : Vec Ideal S8x128x1024 .bf16) :
    k0_pay11 (View.ld x (Rect.unit ![0, 0, 0] ![1, 128, 1024] inb_S8x128x1024_S1x128x1024_0_0_0)) (View.ld x (Rect.unit ![1, 0, 0] ![1, 128, 1024] inb_S8x128x1024_S1x128x1024_1_0_0)) (View.ld x (Rect.unit ![2, 0, 0] ![1, 128, 1024] inb_S8x128x1024_S1x128x1024_2_0_0)) (View.ld x (Rect.unit ![3, 0, 0] ![1, 128, 1024] inb_S8x128x1024_S1x128x1024_3_0_0)) (View.ld x (Rect.unit ![4, 0, 0] ![1, 128, 1024] inb_S8x128x1024_S1x128x1024_4_0_0)) (View.ld x (Rect.unit ![5, 0, 0] ![1, 128, 1024] inb_S8x128x1024_S1x128x1024_5_0_0)) (View.ld x (Rect.unit ![6, 0, 0] ![1, 128, 1024] inb_S8x128x1024_S1x128x1024_6_0_0)) (View.ld x (Rect.unit ![7, 0, 0] ![1, 128, 1024] inb_S8x128x1024_S1x128x1024_7_0_0))
      = fun i => ∑ d : Fin 8, (show S8x128x1024.Idx → EReal from x) (ix3 d (i 0) (i 1)) := by
  funext i
  rw [Fin.sum_univ_eight]
  pointwise [k0_pay11]

set_option maxHeartbeats 2000000 in
/-- Kernel and reference leave the same arrays. -/
theorem value : Cert.algebraic_KernelAdamOutIdeal_ReferenceAdamOutIdeal := by
  pair_intro
  · run_from Cert.KernelAdamOutIdeal.Gen.run_main m g
  · run_from Cert.ReferenceAdamOutIdeal.Value.run m' g'
    · refine ((dats m 0 c).arrAt_eq_of_covers 5 _ (by decide +kernel) fun t hf y => ?_).symm
      have ht : t.val < 2 := t.isLt
      obtain ⟨-, -, -, a3, a4⟩ := hagree c
      rw [place5 t y]
      blk_simp
      rw [after0_5]
      rcases Nat.lt_or_ge t.val 1 with h | h
      · have e : layer t = 0 := Fin.ext (by show t.val / 1 = 0; omega)
        rw [outsAt0_A m c t (by omega) (by omega)]
        frame_out
        rw [sumA, in3 m c t h, e]
        pointwise [k0_pay9]
        rw [a3]
      · have e : layer t = 1 := Fin.ext (by show t.val / 1 = 1; omega)
        rw [outsAt0_B m c t (by omega) (by omega)]
        frame_out
        rw [sumB, in4 m c t h, e]
        pointwise [k0_pay15]
        rw [a4]
    · refine ((dats m 0 c).arrAt_eq_of_covers 6 _ (by decide +kernel) fun t hf y => ?_).symm
      have ht : t.val < 2 := t.isLt
      obtain ⟨-, -, -, a3, a4⟩ := hagree c
      rw [place6 t y]
      blk_simp
      rw [after0_6]
      rcases Nat.lt_or_ge t.val 1 with h | h
      · have e : layer t = 0 := Fin.ext (by show t.val / 1 = 0; omega)
        rw [outsAt0_A m c t (by omega) (by omega)]
        frame_out
        rw [sumA, in3 m c t h, in0 m c t, in1 m c t, in2 m c t, e]
        pointwise [k0_pay10, k0_pay7, k0_pay8, k0_pay6]
        rw [a3]
        rfl
      · have e : layer t = 1 := Fin.ext (by show t.val / 1 = 1; omega)
        rw [outsAt0_B m c t (by omega) (by omega)]
        frame_out
        rw [sumB, in4 m c t h, in0 m c t, in1 m c t, in2 m c t, e]
        pointwise [k0_pay16, k0_pay13, k0_pay14, k0_pay12]
        rw [a4]
        rfl
    · refine ((dats m 0 c).arrAt_eq_of_covers 7 _ (by decide +kernel) fun t hf y => ?_).symm
      have ht : t.val < 2 := t.isLt
      obtain ⟨-, -, -, a3, a4⟩ := hagree c
      rw [place7 t y]
      blk_simp
      rw [after0_7]
      rcases Nat.lt_or_ge t.val 1 with h | h
      · have e : layer t = 0 := Fin.ext (by show t.val / 1 = 0; omega)
        rw [outsAt0_A m c t (by omega) (by omega)]
        frame_out
        rw [sumA, in3 m c t h, in1 m c t, e]
        pointwise [k0_pay1, k0_pay7, k0_pay6]
        rw [a3]
        rfl
      · have e : layer t = 1 := Fin.ext (by show t.val / 1 = 1; omega)
        rw [outsAt0_B m c t (by omega) (by omega)]
        frame_out
        rw [sumB, in4 m c t h, in1 m c t, e]
        pointwise [k0_pay3, k0_pay13, k0_pay12]
        rw [a4]
        rfl
    · refine ((dats m 0 c).arrAt_eq_of_covers 8 _ (by decide +kernel) fun t hf y => ?_).symm
      have ht : t.val < 2 := t.isLt
      obtain ⟨-, -, -, a3, a4⟩ := hagree c
      rw [place8 t y]
      blk_simp
      rw [after0_8]
      rcases Nat.lt_or_ge t.val 1 with h | h
      · have e : layer t = 0 := Fin.ext (by show t.val / 1 = 0; omega)
        rw [outsAt0_A m c t (by omega) (by omega)]
        frame_out
        rw [sumA, in3 m c t h, in2 m c t, e]
        pointwise [k0_pay2, k0_pay8]
        rw [a3]
        rfl
      · have e : layer t = 1 := Fin.ext (by show t.val / 1 = 1; omega)
        rw [outsAt0_B m c t (by omega) (by omega)]
        frame_out
        rw [sumB, in4 m c t h, in2 m c t, e]
        pointwise [k0_pay4, k0_pay14]
        rw [a4]
        rfl

end Cert.KernelAdamOutIdeal.Array

end
-- ==== Proof.AdamFfnInValue.lean ====
module

public import proofs.«01_k».proof.Proof.Gen.KernelAdamFfnInIdeal.Frame
public import proofs.«01_k».proof.Proof.Gen.KernelAdamFfnInIdeal.Points
public import proofs.«01_k».proof.Proof.Gen.KernelAdamFfnInIdeal.Launch
public import proofs.«01_k».proof.Proof.Gen.ReferenceAdamFfnInIdeal.Run
public import Idealize.ShloMosaic.Lib.Pipeline.ValueKit
public import Idealize.ShloMosaic.Lib.Claim
public import proofs.«01_k».proof.Defs

/-!
The optimiser's step on a device's part of the first dense layer: the eight devices' gradients are added up first.
-/

@[expose] public section

set_option maxRecDepth 16384

noncomputable section

namespace Cert.KernelAdamFfnInIdeal.Array

open Cert.KernelAdamFfnInIdeal Cert.KernelAdamFfnInIdeal.Gen
open Idealize.ShloMosaic Idealize.ShloMosaic.TcCoe Idealize.SL.Sem
open Idealize.ShloMosaic.Pipeline (Dat)

variable (m : (ℓ : Loc nD τ sig) → Buf (Elt Ideal) ℓ)

/-- Which block each window of a parameter holds at grid point `t`: the layers follow one another. -/
theorem blocks : ∀ t : Fin cfg0.N, win0_0.index t = ![t.val / 4, t.val % 4, 0]
    ∧ win0_1.index t = ![t.val / 4, t.val % 4, 0]
    ∧ win0_2.index t = ![t.val / 4, t.val % 4, 0]
    ∧ win0_5.index t = ![t.val / 4, t.val % 4, 0]
    ∧ win0_6.index t = ![t.val / 4, t.val % 4, 0]
    ∧ win0_7.index t = ![t.val / 4, t.val % 4, 0]
    ∧ win0_8.index t = ![t.val / 4, t.val % 4, 0] :=
  (by decide +kernel : ∀ t : Fin grid0.N, _)

/-- Which block of the first layer's gradients is held while that layer is stepped. -/
theorem blocks3 : ∀ t : Fin cfg0.N, t.val < 4 → win0_3.index t = ![0, t.val % 4, 0] :=
  (by decide +kernel : ∀ t : Fin grid0.N, _)

/-- Which block of the second layer's gradients is held while that layer is stepped. -/
theorem blocks4 : ∀ t : Fin cfg0.N, 4 ≤ t.val → win0_4.index t = ![0, t.val % 4, 0] :=
  (by decide +kernel : ∀ t : Fin grid0.N, _)

/-- The layer of grid point `t`. -/
abbrev layer (t : Fin cfg0.N) : Fin 2 := ⟨t.val / 4, by have h : t.val < 8 := t.isLt; omega⟩

/-- Row `r` of the block of grid point `t`, counted in the whole array. -/
abbrev row (t : Fin cfg0.N) (r : Fin 176) : Fin 704 :=
  ⟨t.val % 4 * 176 + r.val, by omega⟩

/-- Input 0 at grid point `t`: rows of one layer. -/
theorem in0 (c : Dev nD) (t : Fin cfg0.N) : iblk m c 0 t
    = fun i => m ((c : Thread nD τ).loc main_arg0) (ix3 (layer t) (row t (i 1)) (i 2)) := by
  funext i
  blk_point [iblk, V, blocks t]

/-- Input 1 at grid point `t`: rows of one layer. -/
theorem in1 (c : Dev nD) (t : Fin cfg0.N) : iblk m c 1 t
    = fun i => m ((c : Thread nD τ).loc main_arg1) (ix3 (layer t) (row t (i 1)) (i 2)) := by
  funext i
  blk_point [iblk, V, blocks t]

/-- Input 2 at grid point `t`: rows of one layer. -/
theorem in2 (c : Dev nD) (t : Fin cfg0.N) : iblk m c 2 t
    = fun i => m ((c : Thread nD τ).loc main_arg2) (ix3 (layer t) (row t (i 1)) (i 2)) := by
  funext i
  blk_point [iblk, V, blocks t]

/-- Input 3 at a grid point of its layer: the same rows of the eight devices' gradients. -/
theorem in3 (c : Dev nD) (t : Fin cfg0.N) (h : t.val < 4) : iblk m c 3 t
    = fun i => m ((c : Thread nD τ).loc main_arg3) (ix3 (i 0) (row t (i 1)) (i 2)) := by
  funext i
  blk_point [iblk, V, blocks3 t h]

/-- Input 4 at a grid point of its layer: the same rows of the eight devices' gradients. -/
theorem in4 (c : Dev nD) (t : Fin cfg0.N) (h : 4 ≤ t.val) : iblk m c 4 t
    = fun i => m ((c : Thread nD τ).loc main_arg4) (ix3 (i 0) (row t (i 1)) (i 2)) := by
  funext i
  blk_point [iblk, V, blocks4 t h]

/-- Where the block of output 5 at grid point `t` lies in the array. -/
theorem place5 (t : Fin cfg0.N) (y : ((cfg0.win 5).xblock (cfg0.grid.coords t)).Idx) :
    ((cfg0.win 5).blk t).view.emb y = ix3 (layer t) (row t (y 1)) (y 2) := by
  blk_ext [blocks t]

/-- Where the block of output 6 at grid point `t` lies in the array. -/
theorem place6 (t : Fin cfg0.N) (y : ((cfg0.win 6).xblock (cfg0.grid.coords t)).Idx) :
    ((cfg0.win 6).blk t).view.emb y = ix3 (layer t) (row t (y 1)) (y 2) := by
  blk_ext [blocks t]

/-- Where the block of output 7 at grid point `t` lies in the array. -/
theorem place7 (t : Fin cfg0.N) (y : ((cfg0.win 7).xblock (cfg0.grid.coords t)).Idx) :
    ((cfg0.win 7).blk t).view.emb y = ix3 (layer t) (row t (y 1)) (y 2) := by
  blk_ext [blocks t]

/-- Where the block of output 8 at grid point `t` lies in the array. -/
theorem place8 (t : Fin cfg0.N) (y : ((cfg0.win 8).xblock (cfg0.grid.coords t)).Idx) :
    ((cfg0.win 8).blk t).view.emb y = ix3 (layer t) (row t (y 1)) (y 2) := by
  blk_ext [blocks t]

/-- The sum over the devices as the first layer's grid points form it. -/
theorem sumA (x : Vec Ideal S8x176x1024 .bf16) :
    k0_pay5 (View.ld x (Rect.unit ![0, 0, 0] ![1, 176, 1024] inb_S8x176x1024_S1x176x1024_0_0_0)) (View.ld x (Rect.unit ![1, 0, 0] ![1, 176, 1024] inb_S8x176x1024_S1x176x1024_1_0_0)) (View.ld x (Rect.unit ![2, 0, 0] ![1, 176, 1024] inb_S8x176x1024_S1x176x1024_2_0_0)) (View.ld x (Rect.unit ![3, 0, 0] ![1, 176, 1024] inb_S8x176x1024_S1x176x1024_3_0_0)) (View.ld x (Rect.unit ![4, 0, 0] ![1, 176, 1024] inb_S8x176x1024_S1x176x1024_4_0_0)) (View.ld x (Rect.unit ![5, 0, 0] ![1, 176, 1024] inb_S8x176x1024_S1x176x1024_5_0_0)) (View.ld x (Rect.unit ![6, 0, 0] ![1, 176, 1024] inb_S8x176x1024_S1x176x1024_6_0_0)) (View.ld x (Rect.unit ![7, 0, 0] ![1, 176, 1024] inb_S8x176x1024_S1x176x1024_7_0_0))
      = fun i => ∑ d : Fin 8, (show S8x176x1024.Idx → EReal from x) (ix3 d (i 0) (i 1)) := by
  funext i
  rw [Fin.sum_univ_eight]
  pointwise [k0_pay5]

/-- The sum over the devices as the second layer's grid points form it. -/
theorem sumB (x : Vec Ideal S8x176x1024 .bf16) :
    k0_pay11 (View.ld x (Rect.unit ![0, 0, 0] ![1, 176, 1024] inb_S8x176x1024_S1x176x1024_0_0_0)) (View.ld x (Rect.unit ![1, 0, 0] ![1, 176, 1024] inb_S8x176x1024_S1x176x1024_1_0_0)) (View.ld x (Rect.unit ![2, 0, 0] ![1, 176, 1024] inb_S8x176x1024_S1x176x1024_2_0_0)) (View.ld x (Rect.unit ![3, 0, 0] ![1, 176, 1024] inb_S8x176x1024_S1x176x1024_3_0_0)) (View.ld x (Rect.unit ![4, 0, 0] ![1, 176, 1024] inb_S8x176x1024_S1x176x1024_4_0_0)) (View.ld x (Rect.unit ![5, 0, 0] ![1, 176, 1024] inb_S8x176x1024_S1x176x1024_5_0_0)) (View.ld x (Rect.unit ![6, 0, 0] ![1, 176, 1024] inb_S8x176x1024_S1x176x1024_6_0_0)) (View.ld x (Rect.unit ![7, 0, 0] ![1, 176, 1024] inb_S8x176x1024_S1x176x1024_7_0_0))
      = fun i => ∑ d : Fin 8, (show S8x176x1024.Idx → EReal from x) (ix3 d (i 0) (i 1)) := by
  funext i
  rw [Fin.sum_univ_eight]
  pointwise [k0_pay11]

set_option maxHeartbeats 2000000 in
/-- Kernel and reference leave the same arrays. -/
theorem value : Cert.algebraic_KernelAdamFfnInIdeal_ReferenceAdamFfnInIdeal := by
  pair_intro
  · run_from Cert.KernelAdamFfnInIdeal.Gen.run_main m g
  · run_from Cert.ReferenceAdamFfnInIdeal.Value.run m' g'
    · refine ((dats m 0 c).arrAt_eq_of_covers 5 _ (by decide +kernel) fun t hf y => ?_).symm
      have ht : t.val < 8 := t.isLt
      obtain ⟨-, -, -, a3, a4⟩ := hagree c
      rw [place5 t y]
      blk_simp
      rw [after0_5]
      rcases Nat.lt_or_ge t.val 4 with h | h
      · have e : layer t = 0 := Fin.ext (by show t.val / 4 = 0; omega)
        rw [outsAt0_A m c t (by omega) (by omega)]
        frame_out
        rw [sumA, in3 m c t h, e]
        pointwise [k0_pay9]
        rw [a3]
      · have e : layer t = 1 := Fin.ext (by show t.val / 4 = 1; omega)
        rw [outsAt0_B m c t (by omega) (by omega)]
        frame_out
        rw [sumB, in4 m c t h, e]
        pointwise [k0_pay15]
        rw [a4]
    · refine ((dats m 0 c).arrAt_eq_of_covers 6 _ (by decide +kernel) fun t hf y => ?_).symm
      have ht : t.val < 8 := t.isLt
      obtain ⟨-, -, -, a3, a4⟩ := hagree c
      rw [place6 t y]
      blk_simp
      rw [after0_6]
      rcases Nat.lt_or_ge t.val 4 with h | h
      · have e : layer t = 0 := Fin.ext (by show t.val / 4 = 0; omega)
        rw [outsAt0_A m c t (by omega) (by omega)]
        frame_out
        rw [sumA, in3 m c t h, in0 m c t, in1 m c t, in2 m c t, e]
        pointwise [k0_pay10, k0_pay7, k0_pay8, k0_pay6]
        rw [a3]
        rfl
      · have e : layer t = 1 := Fin.ext (by show t.val / 4 = 1; omega)
        rw [outsAt0_B m c t (by omega) (by omega)]
        frame_out
        rw [sumB, in4 m c t h, in0 m c t, in1 m c t, in2 m c t, e]
        pointwise [k0_pay16, k0_pay13, k0_pay14, k0_pay12]
        rw [a4]
        rfl
    · refine ((dats m 0 c).arrAt_eq_of_covers 7 _ (by decide +kernel) fun t hf y => ?_).symm
      have ht : t.val < 8 := t.isLt
      obtain ⟨-, -, -, a3, a4⟩ := hagree c
      rw [place7 t y]
      blk_simp
      rw [after0_7]
      rcases Nat.lt_or_ge t.val 4 with h | h
      · have e : layer t = 0 := Fin.ext (by show t.val / 4 = 0; omega)
        rw [outsAt0_A m c t (by omega) (by omega)]
        frame_out
        rw [sumA, in3 m c t h, in1 m c t, e]
        pointwise [k0_pay1, k0_pay7, k0_pay6]
        rw [a3]
        rfl
      · have e : layer t = 1 := Fin.ext (by show t.val / 4 = 1; omega)
        rw [outsAt0_B m c t (by omega) (by omega)]
        frame_out
        rw [sumB, in4 m c t h, in1 m c t, e]
        pointwise [k0_pay3, k0_pay13, k0_pay12]
        rw [a4]
        rfl
    · refine ((dats m 0 c).arrAt_eq_of_covers 8 _ (by decide +kernel) fun t hf y => ?_).symm
      have ht : t.val < 8 := t.isLt
      obtain ⟨-, -, -, a3, a4⟩ := hagree c
      rw [place8 t y]
      blk_simp
      rw [after0_8]
      rcases Nat.lt_or_ge t.val 4 with h | h
      · have e : layer t = 0 := Fin.ext (by show t.val / 4 = 0; omega)
        rw [outsAt0_A m c t (by omega) (by omega)]
        frame_out
        rw [sumA, in3 m c t h, in2 m c t, e]
        pointwise [k0_pay2, k0_pay8]
        rw [a3]
        rfl
      · have e : layer t = 1 := Fin.ext (by show t.val / 4 = 1; omega)
        rw [outsAt0_B m c t (by omega) (by omega)]
        frame_out
        rw [sumB, in4 m c t h, in2 m c t, e]
        pointwise [k0_pay4, k0_pay14]
        rw [a4]
        rfl

end Cert.KernelAdamFfnInIdeal.Array

end
-- ==== Proof.AdamFfnOutValue.lean ====
module

public import proofs.«01_k».proof.Proof.Gen.KernelAdamFfnOutIdeal.Frame
public import proofs.«01_k».proof.Proof.Gen.KernelAdamFfnOutIdeal.Points
public import proofs.«01_k».proof.Proof.Gen.KernelAdamFfnOutIdeal.Launch
public import proofs.«01_k».proof.Proof.Gen.ReferenceAdamFfnOutIdeal.Run
public import Idealize.ShloMosaic.Lib.Pipeline.ValueKit
public import Idealize.ShloMosaic.Lib.Claim
public import proofs.«01_k».proof.Defs

/-!
The optimiser's step on a device's part of the second dense layer: the eight devices' gradients are added up first.
-/

@[expose] public section

set_option maxRecDepth 16384

noncomputable section

namespace Cert.KernelAdamFfnOutIdeal.Array

open Cert.KernelAdamFfnOutIdeal Cert.KernelAdamFfnOutIdeal.Gen
open Idealize.ShloMosaic Idealize.ShloMosaic.TcCoe Idealize.SL.Sem
open Idealize.ShloMosaic.Pipeline (Dat)

variable (m : (ℓ : Loc nD τ sig) → Buf (Elt Ideal) ℓ)

/-- Which block each window of a parameter holds at grid point `t`: the layers follow one another. -/
theorem blocks : ∀ t : Fin cfg0.N, win0_0.index t = ![t.val / 1, t.val % 1, 0]
    ∧ win0_1.index t = ![t.val / 1, t.val % 1, 0]
    ∧ win0_2.index t = ![t.val / 1, t.val % 1, 0]
    ∧ win0_5.index t = ![t.val / 1, t.val % 1, 0]
    ∧ win0_6.index t = ![t.val / 1, t.val % 1, 0]
    ∧ win0_7.index t = ![t.val / 1, t.val % 1, 0]
    ∧ win0_8.index t = ![t.val / 1, t.val % 1, 0] :=
  (by decide +kernel : ∀ t : Fin grid0.N, _)

/-- Which block of the first layer's gradients is held while that layer is stepped. -/
theorem blocks3 : ∀ t : Fin cfg0.N, t.val < 1 → win0_3.index t = ![0, t.val % 1, 0] :=
  (by decide +kernel : ∀ t : Fin grid0.N, _)

/-- Which block of the second layer's gradients is held while that layer is stepped. -/
theorem blocks4 : ∀ t : Fin cfg0.N, 1 ≤ t.val → win0_4.index t = ![0, t.val % 1, 0] :=
  (by decide +kernel : ∀ t : Fin grid0.N, _)

/-- The layer of grid point `t`. -/
abbrev layer (t : Fin cfg0.N) : Fin 2 := ⟨t.val / 1, by have h : t.val < 2 := t.isLt; omega⟩

/-- Input 0 at grid point `t`: rows of one layer. -/
theorem in0 (c : Dev nD) (t : Fin cfg0.N) : iblk m c 0 t
    = fun i => m ((c : Thread nD τ).loc main_arg0) (ix3 (layer t) (i 1) (i 2)) := by
  funext i
  blk_point [iblk, V, blocks t]

/-- Input 1 at grid point `t`: rows of one layer. -/
theorem in1 (c : Dev nD) (t : Fin cfg0.N) : iblk m c 1 t
    = fun i => m ((c : Thread nD τ).loc main_arg1) (ix3 (layer t) (i 1) (i 2)) := by
  funext i
  blk_point [iblk, V, blocks t]

/-- Input 2 at grid point `t`: rows of one layer. -/
theorem in2 (c : Dev nD) (t : Fin cfg0.N) : iblk m c 2 t
    = fun i => m ((c : Thread nD τ).loc main_arg2) (ix3 (layer t) (i 1) (i 2)) := by
  funext i
  blk_point [iblk, V, blocks t]

/-- Input 3 at a grid point of its layer: the same rows of the eight devices' gradients. -/
theorem in3 (c : Dev nD) (t : Fin cfg0.N) (h : t.val < 1) : iblk m c 3 t
    = fun i => m ((c : Thread nD τ).loc main_arg3) (ix3 (i 0) (i 1) (i 2)) := by
  funext i
  blk_point [iblk, V, blocks3 t h]

/-- Input 4 at a grid point of its layer: the same rows of the eight devices' gradients. -/
theorem in4 (c : Dev nD) (t : Fin cfg0.N) (h : 1 ≤ t.val) : iblk m c 4 t
    = fun i => m ((c : Thread nD τ).loc main_arg4) (ix3 (i 0) (i 1) (i 2)) := by
  funext i
  blk_point [iblk, V, blocks4 t h]

/-- Where the block of output 5 at grid point `t` lies in the array. -/
theorem place5 (t : Fin cfg0.N) (y : ((cfg0.win 5).xblock (cfg0.grid.coords t)).Idx) :
    ((cfg0.win 5).blk t).view.emb y = ix3 (layer t) (y 1) (y 2) := by
  blk_ext [blocks t]

/-- Where the block of output 6 at grid point `t` lies in the array. -/
theorem place6 (t : Fin cfg0.N) (y : ((cfg0.win 6).xblock (cfg0.grid.coords t)).Idx) :
    ((cfg0.win 6).blk t).view.emb y = ix3 (layer t) (y 1) (y 2) := by
  blk_ext [blocks t]

/-- Where the block of output 7 at grid point `t` lies in the array. -/
theorem place7 (t : Fin cfg0.N) (y : ((cfg0.win 7).xblock (cfg0.grid.coords t)).Idx) :
    ((cfg0.win 7).blk t).view.emb y = ix3 (layer t) (y 1) (y 2) := by
  blk_ext [blocks t]

/-- Where the block of output 8 at grid point `t` lies in the array. -/
theorem place8 (t : Fin cfg0.N) (y : ((cfg0.win 8).xblock (cfg0.grid.coords t)).Idx) :
    ((cfg0.win 8).blk t).view.emb y = ix3 (layer t) (y 1) (y 2) := by
  blk_ext [blocks t]

/-- The sum over the devices as the first layer's grid points form it. -/
theorem sumA (x : Vec Ideal S8x352x1024 .bf16) :
    k0_pay5 (View.ld x (Rect.unit ![0, 0, 0] ![1, 352, 1024] inb_S8x352x1024_S1x352x1024_0_0_0)) (View.ld x (Rect.unit ![1, 0, 0] ![1, 352, 1024] inb_S8x352x1024_S1x352x1024_1_0_0)) (View.ld x (Rect.unit ![2, 0, 0] ![1, 352, 1024] inb_S8x352x1024_S1x352x1024_2_0_0)) (View.ld x (Rect.unit ![3, 0, 0] ![1, 352, 1024] inb_S8x352x1024_S1x352x1024_3_0_0)) (View.ld x (Rect.unit ![4, 0, 0] ![1, 352, 1024] inb_S8x352x1024_S1x352x1024_4_0_0)) (View.ld x (Rect.unit ![5, 0, 0] ![1, 352, 1024] inb_S8x352x1024_S1x352x1024_5_0_0)) (View.ld x (Rect.unit ![6, 0, 0] ![1, 352, 1024] inb_S8x352x1024_S1x352x1024_6_0_0)) (View.ld x (Rect.unit ![7, 0, 0] ![1, 352, 1024] inb_S8x352x1024_S1x352x1024_7_0_0))
      = fun i => ∑ d : Fin 8, (show S8x352x1024.Idx → EReal from x) (ix3 d (i 0) (i 1)) := by
  funext i
  rw [Fin.sum_univ_eight]
  pointwise [k0_pay5]

/-- The sum over the devices as the second layer's grid points form it. -/
theorem sumB (x : Vec Ideal S8x352x1024 .bf16) :
    k0_pay11 (View.ld x (Rect.unit ![0, 0, 0] ![1, 352, 1024] inb_S8x352x1024_S1x352x1024_0_0_0)) (View.ld x (Rect.unit ![1, 0, 0] ![1, 352, 1024] inb_S8x352x1024_S1x352x1024_1_0_0)) (View.ld x (Rect.unit ![2, 0, 0] ![1, 352, 1024] inb_S8x352x1024_S1x352x1024_2_0_0)) (View.ld x (Rect.unit ![3, 0, 0] ![1, 352, 1024] inb_S8x352x1024_S1x352x1024_3_0_0)) (View.ld x (Rect.unit ![4, 0, 0] ![1, 352, 1024] inb_S8x352x1024_S1x352x1024_4_0_0)) (View.ld x (Rect.unit ![5, 0, 0] ![1, 352, 1024] inb_S8x352x1024_S1x352x1024_5_0_0)) (View.ld x (Rect.unit ![6, 0, 0] ![1, 352, 1024] inb_S8x352x1024_S1x352x1024_6_0_0)) (View.ld x (Rect.unit ![7, 0, 0] ![1, 352, 1024] inb_S8x352x1024_S1x352x1024_7_0_0))
      = fun i => ∑ d : Fin 8, (show S8x352x1024.Idx → EReal from x) (ix3 d (i 0) (i 1)) := by
  funext i
  rw [Fin.sum_univ_eight]
  pointwise [k0_pay11]

set_option maxHeartbeats 2000000 in
/-- Kernel and reference leave the same arrays. -/
theorem value : Cert.algebraic_KernelAdamFfnOutIdeal_ReferenceAdamFfnOutIdeal := by
  pair_intro
  · run_from Cert.KernelAdamFfnOutIdeal.Gen.run_main m g
  · run_from Cert.ReferenceAdamFfnOutIdeal.Value.run m' g'
    · refine ((dats m 0 c).arrAt_eq_of_covers 5 _ (by decide +kernel) fun t hf y => ?_).symm
      have ht : t.val < 2 := t.isLt
      obtain ⟨-, -, -, a3, a4⟩ := hagree c
      rw [place5 t y]
      blk_simp
      rw [after0_5]
      rcases Nat.lt_or_ge t.val 1 with h | h
      · have e : layer t = 0 := Fin.ext (by show t.val / 1 = 0; omega)
        rw [outsAt0_A m c t (by omega) (by omega)]
        frame_out
        rw [sumA, in3 m c t h, e]
        pointwise [k0_pay9]
        rw [a3]
      · have e : layer t = 1 := Fin.ext (by show t.val / 1 = 1; omega)
        rw [outsAt0_B m c t (by omega) (by omega)]
        frame_out
        rw [sumB, in4 m c t h, e]
        pointwise [k0_pay15]
        rw [a4]
    · refine ((dats m 0 c).arrAt_eq_of_covers 6 _ (by decide +kernel) fun t hf y => ?_).symm
      have ht : t.val < 2 := t.isLt
      obtain ⟨-, -, -, a3, a4⟩ := hagree c
      rw [place6 t y]
      blk_simp
      rw [after0_6]
      rcases Nat.lt_or_ge t.val 1 with h | h
      · have e : layer t = 0 := Fin.ext (by show t.val / 1 = 0; omega)
        rw [outsAt0_A m c t (by omega) (by omega)]
        frame_out
        rw [sumA, in3 m c t h, in0 m c t, in1 m c t, in2 m c t, e]
        pointwise [k0_pay10, k0_pay7, k0_pay8, k0_pay6]
        rw [a3]
        rfl
      · have e : layer t = 1 := Fin.ext (by show t.val / 1 = 1; omega)
        rw [outsAt0_B m c t (by omega) (by omega)]
        frame_out
        rw [sumB, in4 m c t h, in0 m c t, in1 m c t, in2 m c t, e]
        pointwise [k0_pay16, k0_pay13, k0_pay14, k0_pay12]
        rw [a4]
        rfl
    · refine ((dats m 0 c).arrAt_eq_of_covers 7 _ (by decide +kernel) fun t hf y => ?_).symm
      have ht : t.val < 2 := t.isLt
      obtain ⟨-, -, -, a3, a4⟩ := hagree c
      rw [place7 t y]
      blk_simp
      rw [after0_7]
      rcases Nat.lt_or_ge t.val 1 with h | h
      · have e : layer t = 0 := Fin.ext (by show t.val / 1 = 0; omega)
        rw [outsAt0_A m c t (by omega) (by omega)]
        frame_out
        rw [sumA, in3 m c t h, in1 m c t, e]
        pointwise [k0_pay1, k0_pay7, k0_pay6]
        rw [a3]
        rfl
      · have e : layer t = 1 := Fin.ext (by show t.val / 1 = 1; omega)
        rw [outsAt0_B m c t (by omega) (by omega)]
        frame_out
        rw [sumB, in4 m c t h, in1 m c t, e]
        pointwise [k0_pay3, k0_pay13, k0_pay12]
        rw [a4]
        rfl
    · refine ((dats m 0 c).arrAt_eq_of_covers 8 _ (by decide +kernel) fun t hf y => ?_).symm
      have ht : t.val < 2 := t.isLt
      obtain ⟨-, -, -, a3, a4⟩ := hagree c
      rw [place8 t y]
      blk_simp
      rw [after0_8]
      rcases Nat.lt_or_ge t.val 1 with h | h
      · have e : layer t = 0 := Fin.ext (by show t.val / 1 = 0; omega)
        rw [outsAt0_A m c t (by omega) (by omega)]
        frame_out
        rw [sumA, in3 m c t h, in2 m c t, e]
        pointwise [k0_pay2, k0_pay8]
        rw [a3]
        rfl
      · have e : layer t = 1 := Fin.ext (by show t.val / 1 = 1; omega)
        rw [outsAt0_B m c t (by omega) (by omega)]
        frame_out
        rw [sumB, in4 m c t h, in2 m c t, e]
        pointwise [k0_pay4, k0_pay14]
        rw [a4]
        rfl

end Cert.KernelAdamFfnOutIdeal.Array

end
-- ==== Proof.AdamSmallValue.lean ====
module

public import proofs.«01_k».proof.Proof.Gen.KernelAdamSmallIdeal.Frame
public import proofs.«01_k».proof.Proof.Gen.KernelAdamSmallIdeal.Points
public import proofs.«01_k».proof.Proof.Gen.KernelAdamSmallIdeal.Launch
public import proofs.«01_k».proof.Proof.Gen.ReferenceAdamSmallIdeal.Run
public import Idealize.ShloMosaic.Lib.Pipeline.ValueKit
public import Idealize.ShloMosaic.Lib.Claim
public import proofs.«01_k».proof.Defs

/-!
The optimiser's step on the packed small weights.
-/

@[expose] public section

set_option maxRecDepth 16384

noncomputable section

namespace Cert.KernelAdamSmallIdeal.Array

open Cert.KernelAdamSmallIdeal Cert.KernelAdamSmallIdeal.Gen
open Idealize.ShloMosaic Idealize.ShloMosaic.TcCoe Idealize.SL.Sem
open Idealize.ShloMosaic.Pipeline (Dat)

variable (m : (ℓ : Loc nD τ sig) → Buf (Elt Ideal) ℓ)

/-- Which block each window holds at grid point `t`. -/
theorem blocks : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

/-- Row `r` of the block of grid point `t`, counted in the whole array. -/
abbrev row (t : Fin cfg0.N) (r : Fin 384) : Fin 2304 :=
  ⟨t.val * 384 + r.val, by have h : t.val < 6 := t.isLt; omega⟩

/-- Input 0 at grid point `t`: the rows of the block. -/
theorem in0 (c : Dev nD) (t : Fin cfg0.N) : iblk m c 0 t
    = fun i => m ((c : Thread nD τ).loc main_arg0) (ix2 (row t (i 0)) (i 1)) := by
  funext i
  blk_point [iblk, V, blocks t]

/-- Input 1 at grid point `t`: the rows of the block. -/
theorem in1 (c : Dev nD) (t : Fin cfg0.N) : iblk m c 1 t
    = fun i => m ((c : Thread nD τ).loc main_arg1) (ix2 (row t (i 0)) (i 1)) := by
  funext i
  blk_point [iblk, V, blocks t]

/-- Input 2 at grid point `t`: the rows of the block. -/
theorem in2 (c : Dev nD) (t : Fin cfg0.N) : iblk m c 2 t
    = fun i => m ((c : Thread nD τ).loc main_arg2) (ix2 (row t (i 0)) (i 1)) := by
  funext i
  blk_point [iblk, V, blocks t]

/-- Input 3 at grid point `t`: the rows of the block. -/
theorem in3 (c : Dev nD) (t : Fin cfg0.N) : iblk m c 3 t
    = fun i => m ((c : Thread nD τ).loc main_arg3) (ix2 (row t (i 0)) (i 1)) := by
  funext i
  blk_point [iblk, V, blocks t]

/-- Where the block of output 4 at grid point `t` lies in the array. -/
theorem place4 (t : Fin cfg0.N) (y : ((cfg0.win 4).xblock (cfg0.grid.coords t)).Idx) :
    ((cfg0.win 4).blk t).view.emb y = ix2 (row t (y 0)) (y 1) := by
  blk_ext [blocks t]

/-- Where the block of output 5 at grid point `t` lies in the array. -/
theorem place5 (t : Fin cfg0.N) (y : ((cfg0.win 5).xblock (cfg0.grid.coords t)).Idx) :
    ((cfg0.win 5).blk t).view.emb y = ix2 (row t (y 0)) (y 1) := by
  blk_ext [blocks t]

/-- Where the block of output 6 at grid point `t` lies in the array. -/
theorem place6 (t : Fin cfg0.N) (y : ((cfg0.win 6).xblock (cfg0.grid.coords t)).Idx) :
    ((cfg0.win 6).blk t).view.emb y = ix2 (row t (y 0)) (y 1) := by
  blk_ext [blocks t]

/-- Kernel and reference leave the same arrays. -/
theorem value : Cert.algebraic_KernelAdamSmallIdeal_ReferenceAdamSmallIdeal := by
  pair_intro
  · run_from Cert.KernelAdamSmallIdeal.Gen.run_main m g
  · run_from Cert.ReferenceAdamSmallIdeal.Value.run m' g'
    · refine ((dats m 0 c).arrAt_eq_of_covers 4 _ (by decide +kernel) fun t hf y => ?_).symm
      rw [place4 t y]
      blk_simp
      rw [after0_4]
      frame_out
      rw [in0 m c t, in1 m c t, in2 m c t, in3 m c t]
      pointwise [k0_pay1, k0_pay2, k0_pay3]
    · refine ((dats m 0 c).arrAt_eq_of_covers 5 _ (by decide +kernel) fun t hf y => ?_).symm
      rw [place5 t y]
      blk_simp
      rw [after0_5]
      frame_out
      rw [in1 m c t, in2 m c t]
      pointwise [k0_pay1, k0_pay2, k0_pay3]
    · refine ((dats m 0 c).arrAt_eq_of_covers 6 _ (by decide +kernel) fun t hf y => ?_).symm
      rw [place6 t y]
      blk_simp
      rw [after0_6]
      frame_out
      rw [in1 m c t, in3 m c t]
      pointwise [k0_pay1, k0_pay2, k0_pay3]

end Cert.KernelAdamSmallIdeal.Array

end
-- ==== Proof.SumGradsValue.lean ====
module

public import proofs.«01_k».proof.Proof.Gen.KernelSumGradsIdeal.Frame
public import proofs.«01_k».proof.Proof.Gen.KernelSumGradsIdeal.Points
public import proofs.«01_k».proof.Proof.Gen.KernelSumGradsIdeal.Launch
public import proofs.«01_k».proof.Proof.Gen.ReferenceSumGradsIdeal.Run
public import Idealize.ShloMosaic.Lib.Pipeline.ValueKit
public import Idealize.ShloMosaic.Lib.Claim
public import proofs.«01_k».proof.Defs

/-!
The eight devices' packed gradients of the small weights, added up.
-/

@[expose] public section

set_option maxRecDepth 16384

noncomputable section

namespace Cert.KernelSumGradsIdeal.Array

open Cert.KernelSumGradsIdeal Cert.KernelSumGradsIdeal.Gen
open Idealize.ShloMosaic Idealize.ShloMosaic.TcCoe Idealize.SL.Sem
open Idealize.ShloMosaic.Pipeline (Dat)

variable (m : (ℓ : Loc nD τ sig) → Buf (Elt Ideal) ℓ)

/-- Which block each window holds at grid point `t`: windows 0 to 7 the same rows of the eight devices' parts. -/
theorem blocks : ∀ t : Fin cfg0.N, win0_0.index t = ![t.val, 0]
    ∧ win0_1.index t = ![10 + t.val, 0]
    ∧ win0_2.index t = ![20 + t.val, 0]
    ∧ win0_3.index t = ![30 + t.val, 0]
    ∧ win0_4.index t = ![40 + t.val, 0]
    ∧ win0_5.index t = ![50 + t.val, 0]
    ∧ win0_6.index t = ![60 + t.val, 0]
    ∧ win0_7.index t = ![70 + t.val, 0]
    ∧ win0_8.index t = ![t.val, 0] :=
  (by decide +kernel : ∀ t : Fin grid0.N, _)

/-- Row `r` of the block of grid point `t`, counted in the whole array. -/
abbrev row (t : Fin cfg0.N) (r : Fin 256) : Fin 2560 :=
  ⟨t.val * 256 + r.val, by have h : t.val < 10 := t.isLt; omega⟩

/-- Row `r` of the block of grid point `t` in device `d`'s part, counted in the whole array. -/
abbrev rowOf (d : Fin 8) (t : Fin cfg0.N) (r : Fin 256) : Fin 20480 :=
  ⟨d.val * 2560 + (row t r).val, by have h := (row t r).isLt; omega⟩

/-- Input 0 at grid point `t`: rows of device 0's part. -/
theorem in0 (c : Dev nD) (t : Fin cfg0.N) : iblk m c 0 t
    = fun i => m ((c : Thread nD τ).loc main_arg0) (ix2 (rowOf 0 t (i 0)) (i 1)) := by
  funext i
  blk_point [iblk, V, blocks t]

/-- Input 1 at grid point `t`: rows of device 1's part. -/
theorem in1 (c : Dev nD) (t : Fin cfg0.N) : iblk m c 1 t
    = fun i => m ((c : Thread nD τ).loc main_arg0) (ix2 (rowOf 1 t (i 0)) (i 1)) := by
  funext i
  blk_point [iblk, V, blocks t]

/-- Input 2 at grid point `t`: rows of device 2's part. -/
theorem in2 (c : Dev nD) (t : Fin cfg0.N) : iblk m c 2 t
    = fun i => m ((c : Thread nD τ).loc main_arg0) (ix2 (rowOf 2 t (i 0)) (i 1)) := by
  funext i
  blk_point [iblk, V, blocks t]

/-- Input 3 at grid point `t`: rows of device 3's part. -/
theorem in3 (c : Dev nD) (t : Fin cfg0.N) : iblk m c 3 t
    = fun i => m ((c : Thread nD τ).loc main_arg0) (ix2 (rowOf 3 t (i 0)) (i 1)) := by
  funext i
  blk_point [iblk, V, blocks t]

/-- Input 4 at grid point `t`: rows of device 4's part. -/
theorem in4 (c : Dev nD) (t : Fin cfg0.N) : iblk m c 4 t
    = fun i => m ((c : Thread nD τ).loc main_arg0) (ix2 (rowOf 4 t (i 0)) (i 1)) := by
  funext i
  blk_point [iblk, V, blocks t]

/-- Input 5 at grid point `t`: rows of device 5's part. -/
theorem in5 (c : Dev nD) (t : Fin cfg0.N) : iblk m c 5 t
    = fun i => m ((c : Thread nD τ).loc main_arg0) (ix2 (rowOf 5 t (i 0)) (i 1)) := by
  funext i
  blk_point [iblk, V, blocks t]

/-- Input 6 at grid point `t`: rows of device 6's part. -/
theorem in6 (c : Dev nD) (t : Fin cfg0.N) : iblk m c 6 t
    = fun i => m ((c : Thread nD τ).loc main_arg0) (ix2 (rowOf 6 t (i 0)) (i 1)) := by
  funext i
  blk_point [iblk, V, blocks t]

/-- Input 7 at grid point `t`: rows of device 7's part. -/
theorem in7 (c : Dev nD) (t : Fin cfg0.N) : iblk m c 7 t
    = fun i => m ((c : Thread nD τ).loc main_arg0) (ix2 (rowOf 7 t (i 0)) (i 1)) := by
  funext i
  blk_point [iblk, V, blocks t]

/-- Where the block of output 8 at grid point `t` lies in the array. -/
theorem place8 (t : Fin cfg0.N) (y : ((cfg0.win 8).xblock (cfg0.grid.coords t)).Idx) :
    ((cfg0.win 8).blk t).view.emb y = ix2 (row t (y 0)) (y 1) := by
  blk_ext [blocks t]

/-- Row `r` of device `d`'s part is row `d * 2560 + r` of the whole array. -/
theorem parts (x : S20480x128.Idx → EReal) (h : S20480x128.ShapeCasts ⟨3, ![8, 2560, 128]⟩) (d : Fin 8) (r : Fin 2560) (k : Fin 128) :
    shapeCast ⟨3, ![8, 2560, 128]⟩ x h (ix3 d r k) = x (ix2 ⟨d.val * 2560 + r.val, by omega⟩ k) := by
  refine shapeCast_apply _ _ _ _ ?_
  rw [Shape.rowMajor_val_two, Shape.rowMajor_val_three]
  rfl

/-- What grid point `t` stores: the sum over the eight devices. -/
theorem stored (c : Dev nD) (t : Fin cfg0.N) (y : S256x128.Idx) :
    (k0_pay1 (iblk m c 0 t) (iblk m c 1 t) (iblk m c 2 t) (iblk m c 3 t) (iblk m c 4 t) (iblk m c 5 t) (iblk m c 6 t)
        (iblk m c 7 t) : FVec Ideal S256x128 .f32) y
      = ∑ d : Fin 8, (show S20480x128.Idx → EReal from m ((c : Thread nD τ).loc main_arg0)) (ix2 (rowOf d t (y 0)) (y 1)) := by
  rw [Fin.sum_univ_eight, in0 m c t, in1 m c t, in2 m c t, in3 m c t, in4 m c t, in5 m c t, in6 m c t, in7 m c t]
  rfl

set_option maxHeartbeats 1000000 in
/-- Kernel and reference leave the same array. -/
theorem value : Cert.algebraic_KernelSumGradsIdeal_ReferenceSumGradsIdeal := by
  pair_intro
  · run_from Cert.KernelSumGradsIdeal.Gen.run_main m g
  · run_from Cert.ReferenceSumGradsIdeal.Value.run m' g'
    refine ((dats m 0 c).arrAt_eq_of_covers 8 _ (by decide +kernel) fun t hf y => ?_).symm
    rw [place8 t y]
    blk_simp
    rw [after0_8]
    frame_out
    refine (stored m c t y).trans ?_
    have hx : ∀ (d : Fin 8) (r : Fin 2560) (k : Fin 128), shapeCast Cert.ReferenceSumGradsIdeal.S8x2560x128
        (m ((c : Thread nD τ).loc main_arg0)) Cert.ReferenceSumGradsIdeal.Gen.shapeCasts_S20480x128_S8x2560x128 (ix3 d r k)
        = m ((c : Thread nD τ).loc main_arg0) (ix2 ⟨d.val * 2560 + r.val, by omega⟩ k) :=
      fun d r k => parts _ _ d r k
    revert hx
    generalize shapeCast Cert.ReferenceSumGradsIdeal.S8x2560x128 _ _ = x
    intro hx
    pointwise []
    exact Finset.sum_congr rfl fun d _ => (hx d _ _).symm

end Cert.KernelSumGradsIdeal.Array

end
-- ==== Proof.ScanBlock.lean ====
/- The gated recurrence's backward scan inside one block of 1024 rows: the carried row after `n` rows
   (`carry`), the rows the block stores (`outBlk`), and one trip of the kernel's loop — eight rows, last first —
   as eight steps of that recursion (`trip_carry`, `trip_rows`). -/
module

public import proofs.«01_k».proof.Proof.Gen.KernelScanBwdIdeal.Loops
public import proofs.«01_k».proof.Proof.Gen.KernelScanBwdIdeal.Frame
public import Idealize.ShloMosaic.Lib.Pointwise

@[expose] public section

set_option maxRecDepth 16384

noncomputable section

namespace Cert.KernelScanBwdIdeal.Scan

open Cert.KernelScanBwdIdeal Cert.KernelScanBwdIdeal.Gen
open Idealize.ShloMosaic Idealize.ShloMosaic.TcCoe

variable {F : FTy → Type} [FloatOps F]

/-- The row carried after `n` rows of a block, from `c0`: row `1023 - n` next, `a · (d + carried)`. -/
def carry (a d : Vec F S1024x1024 .f32) (c0 : Fin 1024 → F .f32) : ℕ → Fin 1024 → F .f32
  | 0 => c0
  | n + 1 => fun l => FloatOps.mulf (a (ix2 ⟨1023 - n, by omega⟩ l))
      (FloatOps.addf (d (ix2 ⟨1023 - n, by omega⟩ l)) (carry a d c0 n l))

/-- The block's gradient rows: each the incoming row plus what the rows after it hand back. -/
def outBlk (a d : Vec F S1024x1024 .f32) (c0 : Fin 1024 → F .f32) : Vec F S1024x1024 .f32 :=
  fun j => FloatOps.addf (d j) (carry a d c0 (1023 - (j 0).val) (j 1))

theorem carry_succ (a d : Vec F S1024x1024 .f32) (c0 : Fin 1024 → F .f32) (n : ℕ) (l : Fin 1024) (r : Fin 1024)
    (hr : r.val = 1023 - n) : carry a d c0 (n + 1) l
      = FloatOps.mulf (a (ix2 r l)) (FloatOps.addf (d (ix2 r l)) (carry a d c0 n l)) := by
  have e : r = ⟨1023 - n, by omega⟩ := Fin.ext hr
  rw [e]
  rfl

variable (a d : Vec F S1024x1024 .f32) (c0 : Fin 1024 → F .f32) (v13 v15 : Vec F S8x1024 .f32)
  (acc : Vec F S1x1024 .f32) (k : ℕ)

/-- What the eight rows of trip `k` read: rows `1016 - 8 k` on of the two inputs, and the carried row. -/
structure TripIn : Prop where
  hk : k < 128
  ha : ∀ (r : Fin 8) (l : Fin 1024), v13 (ix2 r l) = a (ix2 ⟨1016 - 8 * k + r.val, by omega⟩ l)
  hd : ∀ (r : Fin 8) (l : Fin 1024), v15 (ix2 r l) = d (ix2 ⟨1016 - 8 * k + r.val, by omega⟩ l)
  hc : ∀ l : Fin 1024, acc (ix2 0 l) = carry a d c0 (8 * k) l

variable {a d c0 v13 v15 acc k}

section
variable (h : TripIn a d c0 v13 v15 acc k) (l : Fin 1024)
include h

theorem pay2_eq : k0_pay2 acc v15 (ix2 0 l) = FloatOps.addf (d (ix2 ⟨1016 - 8 * k + 7, by have := h.hk; omega⟩ l)) (carry a d c0 (8 * k) l) := by
  pointwise [k0_pay2, h.hd, h.hc]
theorem pay3_eq : k0_pay3 acc v13 v15 (ix2 0 l) = FloatOps.addf (d (ix2 ⟨1016 - 8 * k + 6, by have := h.hk; omega⟩ l)) (carry a d c0 (8 * k + 1) l) := by
  rw [carry_succ a d c0 (8 * k) l ⟨1016 - 8 * k + 7, by have := h.hk; omega⟩ (by have := h.hk; dsimp only; omega)]
  pointwise [k0_pay3, h.hd, h.ha, pay2_eq h]
theorem pay4_eq : k0_pay4 acc v13 v15 (ix2 0 l) = FloatOps.addf (d (ix2 ⟨1016 - 8 * k + 5, by have := h.hk; omega⟩ l)) (carry a d c0 (8 * k + 2) l) := by
  rw [carry_succ a d c0 (8 * k + 1) l ⟨1016 - 8 * k + 6, by have := h.hk; omega⟩ (by have := h.hk; dsimp only; omega)]
  pointwise [k0_pay4, h.hd, h.ha, pay3_eq h]
theorem pay5_eq : k0_pay5 acc v13 v15 (ix2 0 l) = FloatOps.addf (d (ix2 ⟨1016 - 8 * k + 4, by have := h.hk; omega⟩ l)) (carry a d c0 (8 * k + 3) l) := by
  rw [carry_succ a d c0 (8 * k + 2) l ⟨1016 - 8 * k + 5, by have := h.hk; omega⟩ (by have := h.hk; dsimp only; omega)]
  pointwise [k0_pay5, h.hd, h.ha, pay4_eq h]
theorem pay6_eq : k0_pay6 acc v13 v15 (ix2 0 l) = FloatOps.addf (d (ix2 ⟨1016 - 8 * k + 3, by have := h.hk; omega⟩ l)) (carry a d c0 (8 * k + 4) l) := by
  rw [carry_succ a d c0 (8 * k + 3) l ⟨1016 - 8 * k + 4, by have := h.hk; omega⟩ (by have := h.hk; dsimp only; omega)]
  pointwise [k0_pay6, h.hd, h.ha, pay5_eq h]
theorem pay7_eq : k0_pay7 acc v13 v15 (ix2 0 l) = FloatOps.addf (d (ix2 ⟨1016 - 8 * k + 2, by have := h.hk; omega⟩ l)) (carry a d c0 (8 * k + 5) l) := by
  rw [carry_succ a d c0 (8 * k + 4) l ⟨1016 - 8 * k + 3, by have := h.hk; omega⟩ (by have := h.hk; dsimp only; omega)]
  pointwise [k0_pay7, h.hd, h.ha, pay6_eq h]
theorem pay8_eq : k0_pay8 acc v13 v15 (ix2 0 l) = FloatOps.addf (d (ix2 ⟨1016 - 8 * k + 1, by have := h.hk; omega⟩ l)) (carry a d c0 (8 * k + 6) l) := by
  rw [carry_succ a d c0 (8 * k + 5) l ⟨1016 - 8 * k + 2, by have := h.hk; omega⟩ (by have := h.hk; dsimp only; omega)]
  pointwise [k0_pay8, h.hd, h.ha, pay7_eq h]
theorem pay9_eq : k0_pay9 acc v13 v15 (ix2 0 l) = FloatOps.addf (d (ix2 ⟨1016 - 8 * k + 0, by have := h.hk; omega⟩ l)) (carry a d c0 (8 * k + 7) l) := by
  rw [carry_succ a d c0 (8 * k + 6) l ⟨1016 - 8 * k + 1, by have := h.hk; omega⟩ (by have := h.hk; dsimp only; omega)]
  pointwise [k0_pay9, h.hd, h.ha, pay8_eq h]

/-- A trip carries the row on by eight steps. -/
theorem trip_carry : k0_pay10 acc v13 v15 (ix2 0 l) = carry a d c0 (8 * (k + 1)) l := by
  rw [show 8 * (k + 1) = 8 * k + 7 + 1 from by omega, carry_succ a d c0 (8 * k + 7) l ⟨1016 - 8 * k + 0, by have := h.hk; omega⟩ (by have := h.hk; dsimp only; omega)]
  pointwise [k0_pay10, h.ha, pay9_eq h]

/-- The eight rows a trip stores are the block's gradient rows there. -/
theorem trip_rows (r : Fin 8) : k0_pay11 acc v13 v15 (ix2 r l) = outBlk a d c0 (ix2 ⟨1016 - 8 * k + r.val, by have := h.hk; omega⟩ l) := by
  have hk := h.hk
  have e : ∀ (j : ℕ) (hj : j < 8), (1023 - (1016 - 8 * k + j)) = 8 * k + (7 - j) := fun j hj => by omega
  unfold outBlk
  pointwise [k0_pay11]
  fin_vals r with hr <;> simp only [hr, Nat.reduceSub, Nat.reduceLT, if_true, if_false, dif_pos, reduceDIte]
  · rw [e 0 (by decide)]; exact pay9_eq h l
  · rw [e 1 (by decide)]; exact pay8_eq h l
  · rw [e 2 (by decide)]; exact pay7_eq h l
  · rw [e 3 (by decide)]; exact pay6_eq h l
  · rw [e 4 (by decide)]; exact pay5_eq h l
  · rw [e 5 (by decide)]; exact pay4_eq h l
  · rw [e 6 (by decide)]; exact pay3_eq h l
  · rw [e 7 (by decide)]; exact pay2_eq h l
end

end Cert.KernelScanBwdIdeal.Scan

end
-- ==== Proof.ScanTrip.lean ====
/- The kernel's loop over one block: before trip `k` the carried row is `carry` after `8 k` rows, and the rows
   stored so far are the block's last `8 k` rows of `outBlk`. -/
module

public import proofs.«01_k».proof.Proof.ScanBlock
public import proofs.«01_k».proof.Proof.Gen.KernelScanBwdIdeal.Loops
public import Idealize.ShloMosaic.Lib.WritesUnit

@[expose] public section

set_option maxRecDepth 16384

noncomputable section

namespace Cert.KernelScanBwdIdeal.Scan

open Cert.KernelScanBwdIdeal Cert.KernelScanBwdIdeal.Gen
open Idealize.ShloMosaic Idealize.ShloMosaic.TcCoe

variable {F : FTy → Type} [FloatOps F]

theorem trips_eq : k0_t1_loop.trips = 128 := by decide +kernel

/-- A read of one of the eight rows written last. -/
theorem row_head (v : View sig .tc .vmem S1024x1024 .f32) (f : v.ty.Contents (Elt F)) {off : Fin 2 → ℕ} {o : ℕ}
    (hoff : off = ![o, 0]) (inb : ∀ a, off a + S8x1024.size a ≤ S1024x1024.size a) (w : Vec F S8x1024 .f32)
    (L : List (View.Piece (Elt F) S1024x1024 .f32)) (r : Fin 8) (l : Fin 1024) (h : o + r.val < 1024) :
    v.read (Elt F) (v.writes (Elt F) f (⟨Rect.unit (s := S1024x1024) off S8x1024.size inb, w⟩ :: L)) (ix2 ⟨o + r.val, h⟩ l)
      = w (ix2 r l) :=
  View.read_writes_cons_unit_of_mem v f inb w L _ (ix2 r l) hoff (fun a => by
    match a with
    | ⟨0, _⟩ => rfl
    | ⟨1, _⟩ => exact (Nat.zero_add _).symm)

section
variable (𝒱 : Variants) (c : Dev nD) (bd : Option 𝒱.V) (i : grid0.Coords)
  (arg1 : Memref sig .tc .vmem S1024x1024 .f32) (harg1 : arg1.IsWhole)
  (arg2 : Memref sig .tc .vmem S1024x1024 .f32) (harg2 : arg2.IsWhole)
  (arg3 : Memref sig .tc .vmem S1024x1024 .f32) (harg3 : arg3.IsWhole)
  (arg4 : Memref sig .tc .vmem S8x1024 .f32) (harg4 : arg4.IsWhole)
  (a d : Vec F S1024x1024 .f32) (init : Vec F S1x1024 .f32)

/-- The rows of a whole block a trip loads. -/
theorem rows_read (arg : Memref sig .tc .vmem S1024x1024 .f32) (harg : arg.IsWhole) (x : Vec F S1024x1024 .f32)
    (k : Fin k0_t1_loop.trips) (hk : k.val < 128) (r : Fin 8) (l : Fin 1024) :
    arg.view.readAt (Elt F) (Rect.unit (s := S1024x1024) (k0_off1 k) S8x1024.size (k0_off1_inb k)).toLoadRect
      (harg.unread x) (ix2 r l) = x (ix2 ⟨1016 - 8 * k.val + r.val, by omega⟩ l) := by
  rw [View.readAt_apply, harg.read_unread]
  refine congrArg x (funext fun a => Fin.ext ?_)
  have e := k0_off1_eq k
  match a with
  | ⟨0, _⟩ =>
    show (k0_off1 k) 0 + 1 * r.val = _
    rw [e]; show (1016 - 8 * k.val) + 1 * r.val = 1016 - 8 * k.val + r.val; omega
  | ⟨1, _⟩ =>
    show (k0_off1 k) 1 + 1 * l.val = _
    rw [e]; show 0 + 1 * l.val = l.val; omega

/-- The state before trip `k`: the carried row, and what the pieces stored so far read back as. -/
theorem st_spec (f : BufTy.Contents (Elt F) arg3.view.ty) : ∀ k, k ≤ 128 →
    (∀ l : Fin 1024, (st_k0_t1 𝒱 c bd i arg1 harg1 arg2 harg2 arg3 harg3 arg4 harg4 (harg1.unread a) (harg2.unread d) init k).1 (ix2 0 l)
        = carry a d (fun l => init (ix2 0 l)) (8 * k) l)
    ∧ (∀ (r l : Fin 1024), 1024 ≤ r.val + 8 * k →
        arg3.view.read (Elt F) (arg3.view.writes (Elt F) f
          (st_k0_t1 𝒱 c bd i arg1 harg1 arg2 harg2 arg3 harg3 arg4 harg4 (harg1.unread a) (harg2.unread d) init k).2) (ix2 r l)
        = outBlk a d (fun l => init (ix2 0 l)) (ix2 r l))
  | 0, _ => ⟨fun l => rfl, fun r l h => absurd r.isLt (by omega)⟩
  | k + 1, hk => by
    obtain ⟨h1, h2⟩ := st_spec f k (by omega)
    have hk' : k < k0_t1_loop.trips := by rw [trips_eq]; omega
    have hs := st_k0_t1_succ (F := F) 𝒱 c bd i arg1 harg1 arg2 harg2 arg3 harg3 arg4 harg4 (harg1.unread a) (harg2.unread d) init ⟨k, hk'⟩
    dsimp only at hs
    rw [hs]
    have T : TripIn a d (fun l => init (ix2 0 l))
        (arg1.view.readAt (Elt F) (Rect.unit (s := S1024x1024) (k0_off1 ⟨k, hk'⟩) S8x1024.size (k0_off1_inb ⟨k, hk'⟩)).toLoadRect (harg1.unread a))
        (arg2.view.readAt (Elt F) (Rect.unit (s := S1024x1024) (k0_off1 ⟨k, hk'⟩) S8x1024.size (k0_off1_inb ⟨k, hk'⟩)).toLoadRect (harg2.unread d))
        (st_k0_t1 𝒱 c bd i arg1 harg1 arg2 harg2 arg3 harg3 arg4 harg4 (harg1.unread a) (harg2.unread d) init k).1 k :=
      ⟨by omega, rows_read arg1 harg1 a ⟨k, hk'⟩ (by dsimp only; omega), rows_read arg2 harg2 d ⟨k, hk'⟩ (by dsimp only; omega), h1⟩
    refine ⟨fun l => ?_, fun r l hr => ?_⟩
    · unfold tripR_k0_t1 trip_k0_t1
      exact trip_carry T l
    · unfold tripL_k0_t1 trip_k0_t1
      dsimp only [List.singleton_append]
      by_cases hr' : 1024 ≤ r.val + 8 * k
      · rw [View.read_writes_cons_rows_of_not_mem (o := 1016 - 8 * k) (W := 8) _ _ _ _ _ _ (k0_off1_eq ⟨k, hk'⟩) rfl (.inr (by show 1016 - 8 * k + 8 ≤ r.val; omega))]
        exact h2 r l hr'
      · have e : r.val = 1016 - 8 * k + (r.val - (1016 - 8 * k)) := by omega
        have hr8 : r.val - (1016 - 8 * k) < 8 := by omega
        have er : r = ⟨1016 - 8 * k + (⟨r.val - (1016 - 8 * k), hr8⟩ : Fin 8).val, by omega⟩ := Fin.ext e
        rw [er]
        exact (row_head arg3.view f (k0_off1_eq ⟨k, hk'⟩) _ _ _ ⟨r.val - (1016 - 8 * k), hr8⟩ l _).trans (trip_rows T l _)
end

end Cert.KernelScanBwdIdeal.Scan

end
-- ==== Proof.ScanRun.lean ====
module

public import proofs.«01_k».proof.Proof.ScanTrip
public import Idealize.ShloMosaic.Lib.VecWindow

@[expose] public section

set_option maxRecDepth 16384

noncomputable section

namespace Cert.KernelScanBwdIdeal.Scan

open Cert.KernelScanBwdIdeal Cert.KernelScanBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first-point branch. -/
abbrev first (i : grid0.Coords) : Prop := (Scalar.cmpi .ne (Scalar.extui (Scalar.cmpi .eq (BitVec.ofNat 32 (i 0).val) 0#32)) 0#32) = 1#1

/-- A whole store of zeros, read back at the scratch's first row. -/
theorem zero_row (arg4 : Memref sig .tc .vmem S8x1024 .f32) (f : arg4.view.ty.Contents (Elt F)) (l : Fin 1024) :
    arg4.view.readAt (Elt F) (Rect.unit (s := S8x1024) ![0, 0] S1x1024.size inb_S8x1024_S1x1024_0_0).toLoadRect
      (arg4.view.writes (Elt F) f [⟨Rect.unit (s := S8x1024) ![0, 0] S8x1024.size inb_S8x1024_S8x1024_0_0, k0_pay1 (F := F)⟩]) (ix2 0 l)
      = Scalar.ofBits .f32 0x00000000#32 := by
  rw [View.readAt_apply, View.read_writes_full]
  rfl

/-- Row 0 of the scratch as the body loads it. -/
theorem row_read (arg4 : Memref sig .tc .vmem S8x1024 .f32) (harg4 : arg4.IsWhole) (xs : Vec F S8x1024 .f32) (l : Fin 1024) :
    arg4.view.readAt (Elt F) (Rect.unit (s := S8x1024) ![0, 0] S1x1024.size inb_S8x1024_S1x1024_0_0).toLoadRect
      (harg4.unread xs) (ix2 0 l) = xs (ix2 0 l) := by
  rw [View.readAt_apply, harg4.read_unread]
  refine congrArg xs (funext fun a => Fin.ext ?_)
  match a with
  | ⟨0, _⟩ => rfl
  | ⟨1, _⟩ => show 0 + 1 * l.val = l.val; omega

set_option maxHeartbeats 1000000 in
theorem run_first (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S8x1024 .f32) (harg4 : arg4.IsWhole) (hc0 : first i)
    (x0 : Vec F S1024x1024 .f32) (x1 : Vec F S1024x1024 .f32) (E : Set ℕ) (K : PUnit → sProp 𝕄) :
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ owns (c : Thread nD τ) arg3 fullShare (outBlk x0 x1 fun _ => Scalar.ofBits .f32 0x00000000#32)
                ∗ (∃ xs, ⌜∀ l : Fin 1024, xs (ix2 0 l) = carry x0 x1 (fun _ => Scalar.ofBits .f32 0x00000000#32) 1024 l⌝ ∗ owns (c : Thread nD τ) arg4 fullShare xs)) -∗ K ⟨⟩))
          ⊢ wp frame (wpE (defs₀ (F := F)) Variants.none c none) E (cc0_lru_scan_bwd i arg1 harg1 arg2 harg2 arg3 harg3 arg4 harg4) K := by
    simp only [cc0_lru_scan_bwd_eq_skeleton]; unfold cc0_lru_scan_bwd_skel
    unfold owns
    iintro ⟨⟨%f0, %hf0, H0⟩, ⟨%f1, %hf1, H1⟩, ⟨%d2, %f2, -, H2⟩, ⟨%ds0, %fs0, -, HS0⟩, Hk⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro
      have hz : ∀ l : Fin 1024, (run_first.sl.v3 (F := F) c arg4) (ix2 0 l) = Scalar.ofBits .f32 0x00000000#32 := by
        exact fun l => (by unfold run_first.sl.v3 run_first.sl.HS0_1 View.readCov; exact zero_row arg4 _ l)
      refine Eq.trans ?_ (congrArg (outBlk x0 x1) (funext hz))
      funext j
      idx_vars j
      exact (st_spec Variants.none c none i arg1 harg1 arg2 harg2 arg3 harg3 arg4 harg4 x0 x1 _ f2 128 (le_refl _)).2 j0 j1 (by omega)
    · iexists _; isplitr; swap
      · iexists _; isplitr; swap; · iexact HS0
        ipureintro; rfl
      ipureintro
      intro l
      have hz : ∀ l : Fin 1024, (run_first.sl.v3 (F := F) c arg4) (ix2 0 l) = Scalar.ofBits .f32 0x00000000#32 := fun l => (by unfold run_first.sl.v3 run_first.sl.HS0_1 View.readCov; exact zero_row arg4 _ l)
      refine (View.read_writes_cons_unit_of_mem _ _ _ _ _ _ (ix2 0 l) rfl (fun a => by
        match a with
        | ⟨0, _⟩ => rfl
        | ⟨1, _⟩ => exact (Nat.zero_add _).symm)).trans ?_
      refine Eq.trans ?_ (congrFun (congrArg (fun z => carry x0 x1 z 1024) (funext hz)) l)
      pointwise [k0_pay12]
      exact (st_spec Variants.none c none i arg1 harg1 arg2 harg2 arg3 harg3 arg4 harg4 x0 x1 _ f2 128 (le_refl _)).1 l

set_option maxHeartbeats 1000000 in
theorem run_next (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S8x1024 .f32) (harg4 : arg4.IsWhole) (hc0 : ¬first i)
    (x0 : Vec F S1024x1024 .f32) (x1 : Vec F S1024x1024 .f32) (xs : Vec F S8x1024 .f32) (E : Set ℕ) (K : PUnit → sProp 𝕄) :
        iprop(owns (c : Thread nD τ) arg1 fullShare x0 ∗ owns (c : Thread nD τ) arg2 fullShare x1 ∗ (∃ d, owns (c : Thread nD τ) arg3 fullShare d) ∗ owns (c : Thread nD τ) arg4 fullShare xs
            ∗ (iprop(owns (c : Thread nD τ) arg1 fullShare x0 ∗ owns (c : Thread nD τ) arg2 fullShare x1 ∗ owns (c : Thread nD τ) arg3 fullShare (outBlk x0 x1 fun l => xs (ix2 0 l))
                ∗ (∃ xs', ⌜∀ l : Fin 1024, xs' (ix2 0 l) = carry x0 x1 (fun l => xs (ix2 0 l)) 1024 l⌝ ∗ owns (c : Thread nD τ) arg4 fullShare xs')) -∗ K ⟨⟩))
          ⊢ wp frame (wpE (defs₀ (F := F)) Variants.none c none) E (cc0_lru_scan_bwd i arg1 harg1 arg2 harg2 arg3 harg3 arg4 harg4) K := by
    simp only [cc0_lru_scan_bwd_eq_skeleton]; unfold cc0_lru_scan_bwd_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro
      have hz := row_read arg4 harg4 xs
      refine Eq.trans ?_ (congrArg (outBlk x0 x1) (funext hz))
      funext j
      idx_vars j
      exact (st_spec Variants.none c none i arg1 harg1 arg2 harg2 arg3 harg3 arg4 harg4 x0 x1 _ f2 128 (le_refl _)).2 j0 j1 (by omega)
    · iexists _; isplitr; swap
      · iexists _; isplitr; swap; · iexact HS0
        ipureintro; rfl
      ipureintro
      intro l
      have hz := row_read arg4 harg4 xs
      refine (View.read_writes_cons_unit_of_mem _ _ _ _ _ _ (ix2 0 l) rfl (fun a => by
        match a with
        | ⟨0, _⟩ => rfl
        | ⟨1, _⟩ => exact (Nat.zero_add _).symm)).trans ?_
      refine Eq.trans ?_ (congrFun (congrArg (fun z => carry x0 x1 z 1024) (funext hz)) l)
      pointwise [k0_pay12]
      exact (st_spec Variants.none c none i arg1 harg1 arg2 harg2 arg3 harg3 arg4 harg4 x0 x1 _ f2 128 (le_refl _)).1 l

end Cert.KernelScanBwdIdeal.Scan

end
-- ==== Proof.ScanLaunch.lean ====
/- The backward scan's run: the eight blocks in order, last rows first, the carried row handed on in the scratch's
   first row; the result array ends at `G` of the two argument arrays. -/
module

public import proofs.«01_k».proof.Proof.ScanRun
public import proofs.«01_k».proof.Proof.Gen.KernelScanBwdIdeal.Frame
public import proofs.«01_k».proof.Proof.Gen.KernelScanBwdIdeal.Points
public import proofs.«01_k».proof.Proof.Gen.KernelScanBwdIdeal.Launch
public import Idealize.ShloMosaic.Lib.Pipeline.FrameBody
public import Idealize.ShloMosaic.Lib.Pipeline.ValueKit
public import Idealize.ShloMosaic.Lib.Claim

@[expose] public section

set_option maxRecDepth 16384

noncomputable section

namespace Cert.KernelScanBwdIdeal.Scan

open Cert.KernelScanBwdIdeal Cert.KernelScanBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The row carried back after the last `n` rows of the whole sequence. -/
def gcarry (A D : Vec F S8192x1024 .f32) : ℕ → Fin 1024 → F .f32
  | 0 => fun _ => Scalar.ofBits .f32 0x00000000#32
  | n + 1 => fun l => FloatOps.mulf (A (ix2 ⟨8191 - n, by omega⟩ l))
      (FloatOps.addf (D (ix2 ⟨8191 - n, by omega⟩ l)) (gcarry A D n l))

/-- The gradient rows of the whole sequence. -/
def G (A D : Vec F S8192x1024 .f32) : Vec F S8192x1024 .f32 :=
  fun j => FloatOps.addf (D j) (gcarry A D (8191 - (j 0).val) (j 1))

/-- A block of rows `1024 · (7 - t)` on carries the sequence's row on. -/
theorem carry_block (A D : Vec F S8192x1024 .f32) (a d : Vec F S1024x1024 .f32) (t : ℕ) (ht : t < 8)
    (ha : ∀ r l : Fin 1024, a (ix2 r l) = A (ix2 ⟨1024 * (7 - t) + r.val, by omega⟩ l))
    (hd : ∀ r l : Fin 1024, d (ix2 r l) = D (ix2 ⟨1024 * (7 - t) + r.val, by omega⟩ l)) (n : ℕ) (hn : n ≤ 1024) :
    carry a d (gcarry A D (1024 * t)) n = gcarry A D (1024 * t + n) := by
  induction n with
  | zero => rfl
  | succ n ih =>
    funext l
    show FloatOps.mulf (a _) (FloatOps.addf (d _) (carry a d (gcarry A D (1024 * t)) n l)) = FloatOps.mulf (A _) (FloatOps.addf (D _) (gcarry A D (1024 * t + n) l))
    rw [ih (by omega), ha, hd]
    have e : (⟨1024 * (7 - t) + (⟨1023 - n, by omega⟩ : Fin 1024).val, by omega⟩ : Fin 8192) = ⟨8191 - (1024 * t + n), by omega⟩ :=
      Fin.ext (by show 1024 * (7 - t) + (1023 - n) = 8191 - (1024 * t + n); omega)
    rw [e]; rfl

variable (m : (ℓ : Loc nD τ sig) → Buf (Elt F) ℓ) (ρ : Dev nD → PrngReg)

/-- The argument arrays as launched. -/
abbrev argA (c : Dev nD) : Vec F S8192x1024 .f32 := m ((c : Thread nD τ).loc main_arg0)
abbrev argD (c : Dev nD) : Vec F S8192x1024 .f32 := m ((c : Thread nD τ).loc main_arg1)

/-- The body's first-point branch is taken at the first point only. -/
theorem hfirst : ∀ t : Fin cfg0.N, first (grid0.coords t) ↔ t.val = 0 := (by decide +kernel : ∀ t : Fin grid0.N, first (grid0.coords t) ↔ t.val = 0)

/-- Which block each window is on at a point: the last rows first. -/
theorem idx : ∀ t : Fin cfg0.N, win0_0.index t = ![7 - t.val, 0] ∧ win0_1.index t = ![7 - t.val, 0] ∧ win0_2.index t = ![7 - t.val, 0] :=
  (by decide +kernel : ∀ t : Fin grid0.N, _)

theorem lt8 (t : Fin cfg0.N) : t.val < 8 := lt_of_lt_of_eq t.isLt (show cfg0.N = 8 from N_0)

theorem iblk0_apply (c : Dev nD) (t : Fin cfg0.N) (r l : Fin 1024) :
    iblk m c 0 t (ix2 r l) = argA m c (ix2 ⟨1024 * (7 - t.val) + r.val, by omega⟩ l) := by
  have := lt8 t
  blk_ext [iblk, V, idx t]

theorem iblk1_apply (c : Dev nD) (t : Fin cfg0.N) (r l : Fin 1024) :
    iblk m c 1 t (ix2 r l) = argD m c (ix2 ⟨1024 * (7 - t.val) + r.val, by omega⟩ l) := by
  have := lt8 t
  blk_ext [iblk, V, idx t]

/-- The row carried into grid point `n`. -/
abbrev into (c : Dev nD) (n : ℕ) : Fin 1024 → F .f32 := gcarry (argA m c) (argD m c) (1024 * n)

/-- Point `t` carries the row on to point `t + 1`. -/
theorem carry_point (c : Dev nD) (t : Fin cfg0.N) :
    carry (iblk m c 0 t) (iblk m c 1 t) (into m c t.val) 1024 = into m c (t.val + 1) :=
  (carry_block (argA m c) (argD m c) _ _ t.val (lt8 t) (iblk0_apply m c t) (iblk1_apply m c t) 1024 (le_refl _)).trans
    (congrArg (gcarry _ _) (by omega))

abbrev ms0 (t : Fin cfg0.N) : Memref sig .tc .vmem S1024x1024 .f32 := win0_0.stage (cfg0.slots t 0)
abbrev ms1 (t : Fin cfg0.N) : Memref sig .tc .vmem S1024x1024 .f32 := win0_1.stage (cfg0.slots t 1)
abbrev ms2 (t : Fin cfg0.N) : Memref sig .tc .vmem S1024x1024 .f32 := win0_2.stage (cfg0.slots t 2)
abbrev scM : Memref sig .tc .vmem S8x1024 .f32 := Memref.whole cc0_scratch0

theorem PhiA_scratch (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- Before point `n`: the scratch's first row is the row carried so far. -/
def PhiS (c : Dev nD) (n : ℕ) : sProp 𝕄 :=
  if n = 0 then Pipeline.ΦA spec0 c
  else iprop((∃ xs : Vec F S8x1024 .f32, ⌜∀ l : Fin 1024, xs (ix2 0 l) = into m c n l⌝ ∗ owns (c : Thread nD τ) scM fullShare xs) ∗ (∃ r, prngReg c r))

theorem PhiS_zero (c : Dev nD) (n : ℕ) (h : n = 0) : PhiS m c n = Pipeline.ΦA spec0 c := if_pos h
theorem PhiS_pos (c : Dev nD) (n : ℕ) (h : n ≠ 0) : PhiS m c n
    = iprop((∃ xs : Vec F S8x1024 .f32, ⌜∀ l : Fin 1024, xs (ix2 0 l) = into m c n l⌝ ∗ owns (c : Thread nD τ) scM fullShare xs) ∗ (∃ r, prngReg c r)) := if_neg h

/-- The proof data: each input's buffer at its block, the output's at its gradient rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk (iblk m c 0 t) (iblk m c 1 t) (into m c t.val)
  Φ t := PhiS m c t.val
  q _ := fullShare
  owed _ := 0

theorem A_eq (c : Dev nD) (w : Fin cfg0.W) : (dats m 0 c).A w = V m c (Pipeline.arrRef spec0 w) := by
  dsimp only [dats]
theorem Phi_eq (c : Dev nD) (t : Fin (cfg0.N + 1)) : (dats m 0 c).Φ t = PhiS m c t.val := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outBlk (iblk m c 0 t) (iblk m c 1 t) (into m c t.val) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

set_option maxHeartbeats 3200000 in
/-- The body at any point: the first point starts from the zero row, every later one from the row handed on. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl,
    after0, after1, after2, Phi_eq, Phi_eq]
  rw [show (t.succ : Fin (cfg0.N + 1)).val = t.val + 1 from rfl, show (t.castSucc : Fin (cfg0.N + 1)).val = t.val from rfl,
    PhiS_pos m c (t.val + 1) (by omega)]
  by_cases hz : t.val = 0
  · rw [PhiS_zero m c _ hz, PhiA_scratch]
    have hc : into m c t.val = fun _ => Scalar.ofBits .f32 0x00000000#32 := by rw [hz]; rfl
    have hp := carry_point m c t
    rw [hc] at hp ⊢
    iintro ⟨⟨HS0, Hg⟩, Ho, ⟨%d0, H0⟩, ⟨%d1, H1⟩, ⟨%d2, H2⟩⟩
    iapply (run_first c (grid0.coords t) _ _ _ _ _ _ _ _ ((hfirst t).mpr hz) (iblk m c 0 t) (iblk m c 1 t) Set.univ _)
    isplitl [H0]; · iexact H0
    isplitl [H1]; · iexact H1
    isplitl [H2]; · iexists _; iexact H2
    isplitl [HS0]; · iexact HS0
    iintro ⟨H0, H1, H2, ⟨%xs, %hxs, HS0⟩⟩
    isplitl [HS0 Hg]
    · isplitl [HS0]
      · iexists xs; isplitr
        · ipureintro; intro l; rw [hxs l, hp]
        iexact HS0
      iexact Hg
    isplitl [Ho]; · iexact Ho
    isplitl [H0]; · iexact H0
    isplitl [H1]; · iexact H1
    iexact H2
  · rw [PhiS_pos m c _ hz]
    have hp := carry_point m c t
    iintro ⟨⟨⟨%ys, %hys, HS0⟩, Hg⟩, Ho, ⟨%d0, H0⟩, ⟨%d1, H1⟩, ⟨%d2, H2⟩⟩
    rw [← funext hys] at hp ⊢
    iapply (run_next c (grid0.coords t) _ _ _ _ _ _ _ _ (fun h => hz ((hfirst t).mp h)) (iblk m c 0 t) (iblk m c 1 t) ys Set.univ _)
    isplitl [H0]; · iexact H0
    isplitl [H1]; · iexact H1
    isplitl [H2]; · iexists _; iexact H2
    isplitl [HS0]; · iexact HS0
    iintro ⟨H0, H1, H2, ⟨%xs, %hxs, HS0⟩⟩
    isplitl [HS0 Hg]
    · isplitl [HS0]
      · iexists xs; isplitr
        · ipureintro; intro l; rw [hxs l, hp]
        iexact HS0
      iexact Hg
    isplitl [Ho]; · iexact Ho
    isplitl [H0]; · iexact H0
    isplitl [H1]; · iexact H1
    iexact H2

theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [Phi_eq, PhiS_zero m c (0 : Fin (cfg0.N + 1)).val rfl]
  try exact Idealize.SL.BI.Entails.refl _

theorem hout (c : Dev nD) : (dats m 0 c).Φ (Fin.last cfg0.N) ⊢ Pipeline.ΦA spec0 c := by
  rw [Phi_eq, PhiS_pos m c _ (by rw [Fin.val_last]; have : cfg0.N = 8 := N_0; omega), PhiA_scratch]
  iintro ⟨⟨%xs, -, HS0⟩, Hg⟩
  isplitl [HS0]
  · iexists xs; iexact HS0
  iexact Hg

set_option backward.isDefEq.respectTransparency.types false in
/-- The launch: every execution ends, the arrays as the proof data say, every semaphore counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- What point `t` leaves of its block is the sequence's gradient there. -/
theorem block_rows (c : Dev nD) (t : Fin cfg0.N) (y : S1024x1024.Idx) (j : S8192x1024.Idx)
    (hj0 : (j 0 : ℕ) = 1024 * (7 - t.val) + (y 0 : ℕ)) (hj1 : (j 1 : ℕ) = (y 1 : ℕ)) :
    outBlk (iblk m c 0 t) (iblk m c 1 t) (into m c t.val) y = G (argA m c) (argD m c) j := by
  have ht := lt8 t
  have hb := carry_block (argA m c) (argD m c) _ _ t.val ht (iblk0_apply m c t) (iblk1_apply m c t) (1023 - (y 0).val) (by omega)
  idx_vars y
  idx_vars j
  have e1 : j1 = y1 := Fin.ext hj1
  have hy : (y0 : ℕ) < 1024 := y0.isLt
  have e0 : j0 = ⟨1024 * (7 - t.val) + y0.val, by omega⟩ := Fin.ext hj0
  show FloatOps.addf (iblk m c 1 t (ix2 y0 y1)) (carry (iblk m c 0 t) (iblk m c 1 t) (into m c t.val) (1023 - y0.val) y1)
    = FloatOps.addf (argD m c (ix2 j0 j1)) (gcarry (argA m c) (argD m c) (8191 - j0.val) j1)
  rw [iblk1_apply, e1, e0]
  refine congrArg _ ((congrFun hb y1).trans ?_)
  refine congrFun (congrArg (gcarry _ _) ?_) y1
  show 1024 * t.val + (1023 - y0.val) = 8191 - (1024 * (7 - t.val) + y0.val)
  omega

/-- The result array: the gradient rows of the whole sequence. -/
theorem final (c : Dev nD) : (dats m 0 c).arrAt 2 (cfgs 0).N = G (argA m c) (argD m c) := by
  refine (dats m 0 c).arrAt_eq_of_covers 2 _ (by decide +kernel) fun t hf y => ?_
  have := lt8 t
  blk_simp
  rw [after2]
  have hj0 : (((win0_2.blk t).view.emb y) 0 : ℕ) = 1024 * (7 - t.val) + (y 0 : ℕ) := by blk_simp [idx t] <;> omega
  have hj1 : (((win0_2.blk t).view.emb y) 1 : ℕ) = (y 1 : ℕ) := by blk_simp [idx t] <;> omega
  exact block_rows m c t y _ hj0 hj1

/-- The frame: the argument arrays end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

/-- The run with its value: the result array holds `G` of the two argument arrays, which end unchanged. -/
theorem run_value : θ_run defs (onTc (τ := τ) (main (F := F))) ⟨m, fun _ => 0, ρ⟩ (fun r => ∀ c : Dev nD,
      r.2.mem ((c.tc : Thread nD τ).loc main_v0) = G (argA m c) (argD m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1.out_eq c 2).trans (final m c),
      (h.1.in_eq c 0 rfl).trans ((A_eq m c 0).trans (V_main_arg0 m c)),
      (h.1.in_eq c 1 rfl).trans ((A_eq m c 1).trans (V_main_arg1 m c))⟩) (run_quiescent m ρ)

end Cert.KernelScanBwdIdeal.Scan

end
-- ==== Proof.ScanRef.lean ====
/- The reference: its loop walks the rows from the last to the first; after `k` trips the carried row is the sequence's
   (`gcarry`) and the last `k` rows of the result are the gradient's (`G`). -/
module

public import proofs.«01_k».proof.Proof.ScanLaunch
public import proofs.«01_k».proof.Proof.Gen.ReferenceScanBwdIdeal.Run
public import Idealize.ShloMosaic.Lib.Pointwise
public import Idealize.ShloMosaic.Lib.Quiescent

@[expose] public section

set_option maxRecDepth 16384

noncomputable section

namespace Cert.ReferenceScanBwdIdeal.Scan

open Cert.ReferenceScanBwdIdeal Cert.ReferenceScanBwdIdeal.Gen Cert.ReferenceScanBwdIdeal.Value
open Idealize.ShloMosaic Idealize.ShloMosaic.TcCoe Idealize.SL.Sem Idealize.ShloMosaic.StableHlo
open Cert.KernelScanBwdIdeal.Scan (gcarry G)

/-- The word a trip's row number is, and the number it is. -/
theorem row_word (k : ℕ) (hk : k < 8192) : (8192#32 - BitVec.ofNat 32 k - 1#32).toInt = ((8191 - k : ℕ) : ℤ) := by
  have e : 8192#32 - BitVec.ofNat 32 k - 1#32 = BitVec.ofNat 32 (8191 - k) := by
    apply BitVec.eq_of_toNat_eq
    simp only [BitVec.toNat_sub, BitVec.toNat_ofNat]
    omega
  rw [e, BitVec.toInt_eq_toNat_cond]
  simp only [BitVec.toNat_ofNat]
  rw [if_pos (by omega)]
  omega

/-- Where a trip's row starts, as the slices read it. -/
def start (w : (⟨S_, .i32⟩ : BufTy).Contents (Elt Ideal)) : Fin 2 → Int :=
  fun k => ((![w, constantI S_ 32 0#32] : Fin 2 → (⟨S_, .i32⟩ : BufTy).Contents (Elt Ideal)) k (Shape.Idx.first h_S_)).toInt

theorem start_rows (w : (⟨S_, .i32⟩ : BufTy).Contents (Elt Ideal)) (k : ℕ) (hk : k < 8192)
    (hw : ∀ i, (w i).toInt = ((8191 - k : ℕ) : ℤ)) (h) : Host.clampedStart S8192x1024 S1x1024 h (start w) 0 = 8191 - k :=
  Host.clampedStart_of_le h (start w) 0 (8191 - k) (hw _) (by show 8191 - k + 1 ≤ 8192; omega)

theorem start_lanes (w : (⟨S_, .i32⟩ : BufTy).Contents (Elt Ideal)) (h) : Host.clampedStart S8192x1024 S1x1024 h (start w) 1 = 0 :=
  Host.clampedStart_of_le h (start w) 1 0 rfl (by show 0 + 1024 ≤ 1024; omega)

/-- One row read out of an array. -/
theorem slice_row (x : Vec Ideal S8192x1024 .f32) (w : (⟨S_, .i32⟩ : BufTy).Contents (Elt Ideal)) (k : ℕ) (hk : k < 8192)
    (hw : ∀ i, (w i).toInt = ((8191 - k : ℕ) : ℤ)) (l : Fin 1024) :
    (shapeCast S1024 (Host.dynamicSlice S1x1024 x (start w) sliceFits_S8192x1024_S1x1024) shapeCasts_S1x1024_S1024 : Vec Ideal S1024 .f32) (ix1 l)
      = x (ix2 ⟨8191 - k, by omega⟩ l) := by
  pointwise
  refine congrArg x (congr (congrArg ix2 (Fin.ext ?_)) (Fin.ext ?_))
  · exact start_rows w k hk hw sliceFits_S8192x1024_S1x1024.1
  · show Host.clampedStart S8192x1024 S1x1024 _ (start w) 1 + l.val = l.val
    rw [start_lanes]; omega

/-- One row written into an array. -/
theorem update_row (x : Vec Ideal S8192x1024 .f32) (u : Vec Ideal S1024 .f32) (w : (⟨S_, .i32⟩ : BufTy).Contents (Elt Ideal)) (k : ℕ) (hk : k < 8192)
    (hw : ∀ i, (w i).toInt = ((8191 - k : ℕ) : ℤ)) (r : Fin 8192) (l : Fin 1024) :
    (Host.dynamicUpdateSlice x (broadcastInDim S1x1024 ![1] bcast_S1024_S1x1024_1 u : Vec Ideal S1x1024 .f32) (start w) updateFits_S8192x1024_S1x1024 : Vec Ideal S8192x1024 .f32) (ix2 r l)
      = if r.val = 8191 - k then u (ix1 l) else x (ix2 r l) := by
  pointwise
  have e0 := start_rows w k hk hw updateFits_S8192x1024_S1x1024.1
  have e1 := start_lanes w updateFits_S8192x1024_S1x1024.1
  by_cases hr : r.val = 8191 - k
  · rw [if_pos hr, dif_pos (by rw [e0, e1]; omega)]
    refine congrArg u (congrArg ix1 (Fin.ext ?_))
    show l.val - Host.clampedStart S8192x1024 S1x1024 _ (start w) 1 = l.val
    rw [e1]; omega
  · rw [if_neg hr, dif_neg (by rw [e0, e1]; omega)]

/-- One row read out, one row written in, a trip's gradient row and the row it carries on. -/
def takeRow (x : Vec Ideal S8192x1024 .f32) (w : (⟨S_, .i32⟩ : BufTy).Contents (Elt Ideal)) : Vec Ideal S1024 .f32 :=
  shapeCast S1024 (Host.dynamicSlice S1x1024 x (start w) sliceFits_S8192x1024_S1x1024) shapeCasts_S1x1024_S1024
def putRow (x : Vec Ideal S8192x1024 .f32) (u : Vec Ideal S1024 .f32) (w : (⟨S_, .i32⟩ : BufTy).Contents (Elt Ideal)) : Vec Ideal S8192x1024 .f32 :=
  Host.dynamicUpdateSlice x (broadcastInDim S1x1024 ![1] bcast_S1024_S1x1024_1 u : Vec Ideal S1x1024 .f32) (start w) updateFits_S8192x1024_S1x1024
def gradRow (h : FVec Ideal S1024 .f32) (x : Vec Ideal S8192x1024 .f32) (w : (⟨S_, .i32⟩ : BufTy).Contents (Elt Ideal)) : FVec Ideal S1024 .f32 :=
  addf h (takeRow x w)
def nextRow (x : Vec Ideal S8192x1024 .f32) (g : FVec Ideal S1024 .f32) (w : (⟨S_, .i32⟩ : BufTy).Contents (Elt Ideal)) : FVec Ideal S1024 .f32 :=
  mulf (takeRow x w) g

variable (V0 : Valuation τ sig (Elt Ideal)) in
theorem v8_eq : res_main_while0b_v8 V0 = gradRow (V0 (Proc.devRef .tc main_v3_3)) (V0 (Proc.devRef .tc main_v3_0)) (res_main_while0b_v5 V0) := by
  unfold res_main_while0b_v8 gradRow takeRow start; rfl
variable (V0 : Valuation τ sig (Elt Ideal)) in
theorem step3_eq : step_main_v3_3 V0 = nextRow (V0 (Proc.devRef .tc main_v3_1)) (res_main_while0b_v8 V0) (res_main_while0b_v5 V0) := by
  unfold step_main_v3_3 nextRow takeRow start; rfl
variable (V0 : Valuation τ sig (Elt Ideal)) in
theorem step4_eq : step_main_v3_4 V0 = putRow (V0 (Proc.devRef .tc main_v3_4)) (res_main_while0b_v8 V0) (res_main_while0b_v5 V0) := by
  unfold step_main_v3_4 putRow start
  exact id_eq _

/-- What the loop's buffers hold before trip `k`, of the two argument arrays. -/
structure Inv (A D : Vec Ideal S8192x1024 .f32) (k : ℕ) (V0 : Valuation τ sig (Elt Ideal)) : Prop where
  dh : V0 (Proc.devRef .tc main_v3_0) = D
  decay : V0 (Proc.devRef .tc main_v3_1) = A
  count : V0 (Proc.devRef .tc main_v3_2) = constantI S_ 32 (BitVec.ofNat 32 k)
  row : ∀ l : Fin 1024, (V0 (Proc.devRef .tc main_v3_3) : Vec Ideal S1024 .f32) (ix1 l) = gcarry A D k l
  out : ∀ (r : Fin 8192) (l : Fin 1024), 8192 - k ≤ r.val → (V0 (Proc.devRef .tc main_v3_4) : Vec Ideal S8192x1024 .f32) (ix2 r l) = G A D (ix2 r l)

variable {A D : Vec Ideal S8192x1024 .f32} {k : ℕ} {V0 : Valuation τ sig (Elt Ideal)}

/-- The row number of trip `k`. -/
theorem Inv.word (h : Inv A D k V0) (hk : k < 8192) (i : S_.Idx) : (res_main_while0b_v5 V0 i).toInt = ((8191 - k : ℕ) : ℤ) := by
  unfold res_main_while0b_v5
  rw [h.count]
  exact row_word k hk

/-- The gradient row of trip `k`: the row carried plus the row of the argument. -/
theorem Inv.grad (h : Inv A D k V0) (hk : k < 8192) (l : Fin 1024) :
    (res_main_while0b_v8 V0 : Vec Ideal S1024 .f32) (ix1 l) = FloatOps.addf (D (ix2 ⟨8191 - k, by omega⟩ l)) (gcarry A D k l) := by
  rw [v8_eq]
  unfold gradRow takeRow
  have e := slice_row D _ k hk (h.word hk) l
  have e2 := h.row l
  rw [h.dh]
  refine (congrArg₂ FloatOps.addf e2 e).trans ?_
  exact add_comm (G := EReal) _ _

/-- One trip. -/
theorem Inv.trip (h : Inv A D k V0) (hk : k < 8192) : Inv A D (k + 1) (STEP V0) where
  dh := (STEP_main_v3_0 V0).trans h.dh
  decay := (STEP_main_v3_1 V0).trans h.decay
  count := by
    rw [STEP_main_v3_2]
    unfold step_main_v3_2
    rw [h.count]
    funext i
    show BitVec.ofNat 32 k + 1#32 = BitVec.ofNat 32 (k + 1)
    simp only [BitVec.ofNat_add]
  row := fun l => by
    rw [STEP_main_v3_3]
    rw [step3_eq]
    unfold nextRow takeRow
    show FloatOps.mulf _ _ = FloatOps.mulf (A _) (FloatOps.addf (D _) (gcarry A D k l))
    rw [slice_row _ _ k hk (h.word hk), h.decay, h.grad hk]
  out := fun r l hr => by
    rw [STEP_main_v3_4]
    rw [step4_eq]
    unfold putRow
    rw [update_row _ _ _ k hk (h.word hk)]
    by_cases hr' : r.val = 8191 - k
    · rw [if_pos hr', h.grad hk]
      have er : (⟨8191 - k, by omega⟩ : Fin 8192) = r := Fin.ext hr'.symm
      have ek : 8191 - r.val = k := by omega
      show _ = FloatOps.addf (D (ix2 r l)) (gcarry A D (8191 - r.val) l)
      rw [ek, er]
    · rw [if_neg hr']
      exact h.out r l (by omega)

variable (m : (ℓ : Loc nD τ sig) → Buf (Elt Ideal) ℓ) (ρ : Dev nD → PrngReg)

set_option maxRecDepth 65536 in
/-- Before the first trip: the zero row, no row of the result yet. -/
theorem entry (c : Dev nD) : Inv (m ((c.tc : Thread nD τ).loc main_arg0)) (m ((c.tc : Thread nD τ).loc main_arg1)) 0 (entryContents preI m c) where
  dh := by simp only [entryContents, afterL_cons, afterL_nil]; after_reads_simp; try rfl
  decay := by simp only [entryContents, afterL_cons, afterL_nil]; after_reads_simp; try rfl
  count := by simp only [entryContents, afterL_cons, afterL_nil]; after_reads_simp; try rfl
  row := fun l => by simp only [entryContents, afterL_cons, afterL_nil]; after_reads_simp; try rfl
  out := fun r l hr => absurd hr (by have := r.isLt; omega)

theorem trips (c : Dev nD) : ∀ k, k ≤ 8192 →
    Inv (m ((c.tc : Thread nD τ).loc main_arg0)) (m ((c.tc : Thread nD τ).loc main_arg1)) k (STEP^[k] (entryContents preI m c))
  | 0, _ => entry m c
  | k + 1, hk => by
    rw [Function.iterate_succ_apply']
    exact (trips c k (by omega)).trip (by omega)

/-- The reference's run with its value. -/
theorem run_value : θ_run (defs (F := Ideal)) (onTc (τ := τ) (main (F := Ideal))) ⟨m, fun _ => 0, ρ⟩ (fun r => ∀ c : Dev nD,
      r.2.mem ((c.tc : Thread nD τ).loc main_v3_4) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (funext fun j => by
      idx_vars j
      exact (trips m c 8192 (le_refl _)).out j0 j1 (by omega)), (h c).2⟩) (Value.run m ρ)

/-- The frame: the argument arrays end unchanged and every semaphore counter is zero. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, Idealize.ShloMosaic.sem_eq_zero_of_no_sems (by decide) r.2⟩) (run_value m ρ)

end Cert.ReferenceScanBwdIdeal.Scan

end
-- ==== Proof.ScanFrames.lean ====
/- The kernel on machine words and the kernel at ideal values are one text in two namespaces: their body tables are
   equal, so the run proved at any values is also the run of the first. -/
module

public import proofs.«01_k».proof.Defs
public import proofs.«01_k».proof.Proof.Gen.KernelScanBwd
public import proofs.«01_k».proof.Proof.ScanLaunch

@[expose] public section

set_option maxRecDepth 65536

noncomputable section

namespace Cert.Proof

open Idealize.ShloMosaic Idealize.SL.Sem

theorem scan_body (i) (a1 h1 a2 h2 a3 h3 a4 h4) :
    Cert.KernelScanBwd.cc0_lru_scan_bwd (F := Bits) i a1 h1 a2 h2 a3 h3 a4 h4 = Cert.KernelScanBwdIdeal.cc0_lru_scan_bwd (F := Bits) i a1 h1 a2 h2 a3 h3 a4 h4 := rfl

theorem scan_table : Cert.KernelScanBwd.defs₀ (F := Bits) = Cert.KernelScanBwdIdeal.defs₀ := by
  unfold Cert.KernelScanBwd.defs₀ Cert.KernelScanBwdIdeal.defs₀
  congr 1
  funext l x
  obtain ⟨l, hl⟩ := l
  cases l with
  | zero => rfl
  | succ n => exact absurd hl (Nat.not_lt.2 (Nat.le_add_left _ _))

theorem scan_defs : Cert.KernelScanBwd.defs (F := Bits) = Cert.KernelScanBwdIdeal.defs :=
  congrArg (Pipeline.defs Cert.KernelScanBwdIdeal.pcfgs) scan_table

theorem frame_kernel : Cert.quiescent_KernelScanBwd := fun m ρ _ => by
  rw [scan_defs]
  exact Cert.KernelScanBwdIdeal.Scan.frame (F := Bits) m ρ

end Cert.Proof

end
-- ==== Proof.FwdBlock.lean ====
/- The gated recurrence inside one block of 1024 rows: the row carried after `n` rows (`carry`), the rows the block
   stores in its two results, each row's state (`outBlk`) and the state before it (`prevBlk`), and one trip of the
   kernel's loop, eight rows, as eight steps of that recursion (`trip_carry`, `trip_rows`, `trip_prevs`). -/
module

public import proofs.«01_k».proof.Proof.Gen.KernelScanFwdIdeal.Loops
public import proofs.«01_k».proof.Proof.Gen.KernelScanFwdIdeal.Frame
public import Idealize.ShloMosaic.Lib.Pointwise

@[expose] public section

set_option maxRecDepth 16384

noncomputable section

namespace Cert.KernelScanFwdIdeal.Scan

open Cert.KernelScanFwdIdeal Cert.KernelScanFwdIdeal.Gen
open Idealize.ShloMosaic Idealize.ShloMosaic.TcCoe

variable {F : FTy → Type} [FloatOps F]

/-- The state after `n` rows of a block, from `c0`: `a · h + u`, row by row. -/
def carry (a u : Vec F S1024x1024 .f32) (c0 : Fin 1024 → F .f32) : ℕ → Fin 1024 → F .f32
  | 0 => c0
  | n + 1 => fun l => FloatOps.addf (FloatOps.mulf (a (ix2 ⟨min n 1023, by omega⟩ l)) (carry a u c0 n l))
      (u (ix2 ⟨min n 1023, by omega⟩ l))

/-- The block's states. -/
def outBlk (a u : Vec F S1024x1024 .f32) (c0 : Fin 1024 → F .f32) : Vec F S1024x1024 .f32 :=
  fun j => carry a u c0 ((j 0).val + 1) (j 1)

/-- The state before each row of the block. -/
def prevBlk (a u : Vec F S1024x1024 .f32) (c0 : Fin 1024 → F .f32) : Vec F S1024x1024 .f32 :=
  fun j => carry a u c0 (j 0).val (j 1)

theorem carry_succ (a u : Vec F S1024x1024 .f32) (c0 : Fin 1024 → F .f32) (n : ℕ) (l : Fin 1024) (r : Fin 1024)
    (hr : r.val = n) : carry a u c0 (n + 1) l
      = FloatOps.addf (FloatOps.mulf (a (ix2 r l)) (carry a u c0 n l)) (u (ix2 r l)) := by
  have e : r = ⟨min n 1023, by omega⟩ := Fin.ext (by show r.val = min n 1023; omega)
  rw [e]
  rfl

variable (a u : Vec F S1024x1024 .f32) (c0 : Fin 1024 → F .f32) (v12 v14 : Vec F S8x1024 .f32)
  (acc : Vec F S1x1024 .f32) (k : ℕ)

/-- What the eight rows of trip `k` read: rows `8 k` on of the two inputs, and the carried row. -/
structure TripIn : Prop where
  hk : k < 128
  ha : ∀ (r : Fin 8) (l : Fin 1024), v12 (ix2 r l) = a (ix2 ⟨8 * k + r.val, by omega⟩ l)
  hd : ∀ (r : Fin 8) (l : Fin 1024), v14 (ix2 r l) = u (ix2 ⟨8 * k + r.val, by omega⟩ l)
  hc : ∀ l : Fin 1024, acc (ix2 0 l) = carry a u c0 (8 * k) l

variable {a u c0 v12 v14 acc k}

section
variable (h : TripIn a u c0 v12 v14 acc k) (l : Fin 1024)
include h

theorem pay2_eq : k0_pay2 acc v12 v14 (ix2 0 l) = carry a u c0 (8 * k + 0 + 1) l := by
  rw [carry_succ a u c0 (8 * k + 0) l ⟨8 * k + 0, by have := h.hk; omega⟩ rfl]
  pointwise [k0_pay2, h.ha, h.hd, h.hc]
theorem pay3_eq : k0_pay3 acc v12 v14 (ix2 0 l) = carry a u c0 (8 * k + 1 + 1) l := by
  rw [carry_succ a u c0 (8 * k + 1) l ⟨8 * k + 1, by have := h.hk; omega⟩ rfl]
  pointwise [k0_pay3, h.ha, h.hd, pay2_eq h]
theorem pay4_eq : k0_pay4 acc v12 v14 (ix2 0 l) = carry a u c0 (8 * k + 2 + 1) l := by
  rw [carry_succ a u c0 (8 * k + 2) l ⟨8 * k + 2, by have := h.hk; omega⟩ rfl]
  pointwise [k0_pay4, h.ha, h.hd, pay3_eq h]
theorem pay5_eq : k0_pay5 acc v12 v14 (ix2 0 l) = carry a u c0 (8 * k + 3 + 1) l := by
  rw [carry_succ a u c0 (8 * k + 3) l ⟨8 * k + 3, by have := h.hk; omega⟩ rfl]
  pointwise [k0_pay5, h.ha, h.hd, pay4_eq h]
theorem pay6_eq : k0_pay6 acc v12 v14 (ix2 0 l) = carry a u c0 (8 * k + 4 + 1) l := by
  rw [carry_succ a u c0 (8 * k + 4) l ⟨8 * k + 4, by have := h.hk; omega⟩ rfl]
  pointwise [k0_pay6, h.ha, h.hd, pay5_eq h]
theorem pay7_eq : k0_pay7 acc v12 v14 (ix2 0 l) = carry a u c0 (8 * k + 5 + 1) l := by
  rw [carry_succ a u c0 (8 * k + 5) l ⟨8 * k + 5, by have := h.hk; omega⟩ rfl]
  pointwise [k0_pay7, h.ha, h.hd, pay6_eq h]
theorem pay8_eq : k0_pay8 acc v12 v14 (ix2 0 l) = carry a u c0 (8 * k + 6 + 1) l := by
  rw [carry_succ a u c0 (8 * k + 6) l ⟨8 * k + 6, by have := h.hk; omega⟩ rfl]
  pointwise [k0_pay8, h.ha, h.hd, pay7_eq h]
theorem pay9_eq : k0_pay9 acc v12 v14 (ix2 0 l) = carry a u c0 (8 * k + 7 + 1) l := by
  rw [carry_succ a u c0 (8 * k + 7) l ⟨8 * k + 7, by have := h.hk; omega⟩ rfl]
  pointwise [k0_pay9, h.ha, h.hd, pay8_eq h]

/-- A trip carries the state on by eight rows. -/
theorem trip_carry : k0_pay9 acc v12 v14 (ix2 0 l) = carry a u c0 (8 * (k + 1)) l := pay9_eq h l

/-- The eight rows a trip stores in the first result are the block's states there. -/
theorem trip_rows (r : Fin 8) : k0_pay10 acc v12 v14 (ix2 r l) = outBlk a u c0 (ix2 ⟨8 * k + r.val, by have := h.hk; omega⟩ l) := by
  unfold outBlk
  pointwise [k0_pay10]
  fin_vals r with hr <;> simp only [hr, Nat.reduceSub, Nat.reduceLT, if_true, if_false, dif_pos, reduceDIte]
  · exact pay2_eq h l
  · exact pay3_eq h l
  · exact pay4_eq h l
  · exact pay5_eq h l
  · exact pay6_eq h l
  · exact pay7_eq h l
  · exact pay8_eq h l
  · exact pay9_eq h l

/-- The eight rows a trip stores in the second result are the states before them. -/
theorem trip_prevs (r : Fin 8) : k0_pay11 acc v12 v14 (ix2 r l) = prevBlk a u c0 (ix2 ⟨8 * k + r.val, by have := h.hk; omega⟩ l) := by
  unfold prevBlk
  pointwise [k0_pay11]
  fin_vals r with hr <;> simp only [hr, Nat.reduceSub, Nat.reduceLT, if_true, if_false, dif_pos, reduceDIte]
  · exact h.hc l
  · exact pay2_eq h l
  · exact pay3_eq h l
  · exact pay4_eq h l
  · exact pay5_eq h l
  · exact pay6_eq h l
  · exact pay7_eq h l
  · exact pay8_eq h l
end

end Cert.KernelScanFwdIdeal.Scan

end
-- ==== Proof.FwdTrip.lean ====
/- The kernel's loop over one block: before trip `k` the carried row is `carry` after `8 k` rows, and the rows
   stored so far are the block's first `8 k` rows of `outBlk` and of `prevBlk`. -/
module

public import proofs.«01_k».proof.Proof.FwdBlock
public import proofs.«01_k».proof.Proof.Gen.KernelScanFwdIdeal.Loops
public import Idealize.ShloMosaic.Lib.WritesUnit

@[expose] public section

set_option maxRecDepth 16384

noncomputable section

namespace Cert.KernelScanFwdIdeal.Scan

open Cert.KernelScanFwdIdeal Cert.KernelScanFwdIdeal.Gen
open Idealize.ShloMosaic Idealize.ShloMosaic.TcCoe

variable {F : FTy → Type} [FloatOps F]

theorem trips_eq : k0_t1_loop.trips = 128 := by decide +kernel

/-- A read of one of the eight rows written last. -/
theorem row_head (v : View sig .tc .vmem S1024x1024 .f32) (f : v.ty.Contents (Elt F)) {off : Fin 2 → ℕ} {o : ℕ}
    (hoff : off = ![o, 0]) (inb : ∀ a, off a + S8x1024.size a ≤ S1024x1024.size a) (w : Vec F S8x1024 .f32)
    (L : List (View.Piece (Elt F) S1024x1024 .f32)) (r : Fin 8) (l : Fin 1024) (h : o + r.val < 1024) :
    v.read (Elt F) (v.writes (Elt F) f (⟨Rect.unit (s := S1024x1024) off S8x1024.size inb, w⟩ :: L)) (ix2 ⟨o + r.val, h⟩ l)
      = w (ix2 r l) :=
  View.read_writes_cons_unit_of_mem v f inb w L _ (ix2 r l) hoff (fun a => by
    match a with
    | ⟨0, _⟩ => rfl
    | ⟨1, _⟩ => exact (Nat.zero_add _).symm)

/-- Where rows up to `8 k` read back as `out`, and the eight rows written last are `out`'s next ones, rows up to
    `8 (k + 1)` do. -/
theorem rows_cons (v : View sig .tc .vmem S1024x1024 .f32) (f : v.ty.Contents (Elt F)) (out : Vec F S1024x1024 .f32)
    {off : Fin 2 → ℕ} (k : ℕ) (hk : k < 128) (hoff : off = ![8 * k, 0]) (inb : ∀ a, off a + S8x1024.size a ≤ S1024x1024.size a)
    (w : Vec F S8x1024 .f32) (L : List (View.Piece (Elt F) S1024x1024 .f32))
    (hw : ∀ (r : Fin 8) (l : Fin 1024), w (ix2 r l) = out (ix2 ⟨8 * k + r.val, by omega⟩ l))
    (hL : ∀ r l : Fin 1024, r.val < 8 * k → v.read (Elt F) (v.writes (Elt F) f L) (ix2 r l) = out (ix2 r l))
    (r l : Fin 1024) (hr : r.val < 8 * (k + 1)) :
    v.read (Elt F) (v.writes (Elt F) f (⟨Rect.unit (s := S1024x1024) off S8x1024.size inb, w⟩ :: L)) (ix2 r l) = out (ix2 r l) := by
  by_cases hr' : r.val < 8 * k
  · rw [View.read_writes_cons_rows_of_not_mem (o := 8 * k) (W := 8) _ _ _ _ _ _ hoff rfl (.inl hr')]
    exact hL r l hr'
  · have hr8 : r.val - 8 * k < 8 := by omega
    have er : r = ⟨8 * k + (⟨r.val - 8 * k, hr8⟩ : Fin 8).val, by show 8 * k + (r.val - 8 * k) < 1024; omega⟩ :=
      Fin.ext (by show r.val = 8 * k + (r.val - 8 * k); omega)
    rw [er]
    exact (row_head v f hoff inb w L ⟨r.val - 8 * k, hr8⟩ l _).trans (hw _ l)

section
variable (𝒱 : Variants) (c : Dev nD) (bd : Option 𝒱.V) (i : grid0.Coords)
  (arg1 : Memref sig .tc .vmem S1024x1024 .f32) (harg1 : arg1.IsWhole)
  (arg2 : Memref sig .tc .vmem S1024x1024 .f32) (harg2 : arg2.IsWhole)
  (arg3 : Memref sig .tc .vmem S1024x1024 .f32) (harg3 : arg3.IsWhole)
  (arg4 : Memref sig .tc .vmem S1024x1024 .f32) (harg4 : arg4.IsWhole)
  (arg5 : Memref sig .tc .vmem S8x1024 .f32) (harg5 : arg5.IsWhole)
  (a u : Vec F S1024x1024 .f32) (init : Vec F S1x1024 .f32)

/-- The rows of a whole block a trip loads. -/
theorem rows_read (arg : Memref sig .tc .vmem S1024x1024 .f32) (harg : arg.IsWhole) (x : Vec F S1024x1024 .f32)
    (k : Fin k0_t1_loop.trips) (hk : k.val < 128) (r : Fin 8) (l : Fin 1024) :
    arg.view.readAt (Elt F) (Rect.unit (s := S1024x1024) (k0_off1 k) S8x1024.size (k0_off1_inb k)).toLoadRect
      (harg.unread x) (ix2 r l) = x (ix2 ⟨8 * k.val + r.val, by omega⟩ l) := by
  rw [View.readAt_apply, harg.read_unread]
  refine congrArg x (funext fun a => Fin.ext ?_)
  have e := k0_off1_eq k
  match a with
  | ⟨0, _⟩ =>
    show (k0_off1 k) 0 + 1 * r.val = _
    rw [e]; show (8 * k.val) + 1 * r.val = 8 * k.val + r.val; omega
  | ⟨1, _⟩ =>
    show (k0_off1 k) 1 + 1 * l.val = _
    rw [e]; show 0 + 1 * l.val = l.val; omega

/-- The state before trip `k`: the carried row, and what the rows stored so far read back as. -/
theorem st_spec (f : BufTy.Contents (Elt F) arg3.view.ty) (g : BufTy.Contents (Elt F) arg4.view.ty) : ∀ k, k ≤ 128 →
    (∀ l : Fin 1024, (st_k0_t1 𝒱 c bd i arg1 harg1 arg2 harg2 arg3 harg3 arg4 harg4 arg5 harg5 (harg1.unread a) (harg2.unread u) init k).1 (ix2 0 l) = carry a u (fun l => init (ix2 0 l)) (8 * k) l)
    ∧ (∀ r l : Fin 1024, r.val < 8 * k →
        arg3.view.read (Elt F) (arg3.view.writes (Elt F) f (st_k0_t1 𝒱 c bd i arg1 harg1 arg2 harg2 arg3 harg3 arg4 harg4 arg5 harg5 (harg1.unread a) (harg2.unread u) init k).2.1) (ix2 r l)
        = outBlk a u (fun l => init (ix2 0 l)) (ix2 r l))
    ∧ (∀ r l : Fin 1024, r.val < 8 * k →
        arg4.view.read (Elt F) (arg4.view.writes (Elt F) g (st_k0_t1 𝒱 c bd i arg1 harg1 arg2 harg2 arg3 harg3 arg4 harg4 arg5 harg5 (harg1.unread a) (harg2.unread u) init k).2.2) (ix2 r l)
        = prevBlk a u (fun l => init (ix2 0 l)) (ix2 r l))
  | 0, _ => ⟨fun l => rfl, fun r l h => absurd h (by omega), fun r l h => absurd h (by omega)⟩
  | k + 1, hk => by
    obtain ⟨h1, h2, h3⟩ := st_spec f g k (by omega)
    have hk' : k < k0_t1_loop.trips := by rw [trips_eq]; omega
    have hs := st_k0_t1_succ (F := F) 𝒱 c bd i arg1 harg1 arg2 harg2 arg3 harg3 arg4 harg4 arg5 harg5 (harg1.unread a) (harg2.unread u) init ⟨k, hk'⟩
    dsimp only at hs
    rw [hs]
    have T : TripIn a u (fun l => init (ix2 0 l))
        (arg1.view.readAt (Elt F) (Rect.unit (s := S1024x1024) (k0_off1 ⟨k, hk'⟩) S8x1024.size (k0_off1_inb ⟨k, hk'⟩)).toLoadRect (harg1.unread a))
        (arg2.view.readAt (Elt F) (Rect.unit (s := S1024x1024) (k0_off1 ⟨k, hk'⟩) S8x1024.size (k0_off1_inb ⟨k, hk'⟩)).toLoadRect (harg2.unread u))
        (st_k0_t1 𝒱 c bd i arg1 harg1 arg2 harg2 arg3 harg3 arg4 harg4 arg5 harg5 (harg1.unread a) (harg2.unread u) init k).1 k :=
      ⟨by omega, rows_read arg1 harg1 a ⟨k, hk'⟩ (by dsimp only; omega), rows_read arg2 harg2 u ⟨k, hk'⟩ (by dsimp only; omega), h1⟩
    refine ⟨fun l => ?_, fun r l hr => ?_, fun r l hr => ?_⟩
    · unfold tripR_k0_t1 trip_k0_t1
      exact trip_carry T l
    · unfold trip_k0_t1
      dsimp only [List.singleton_append]
      exact rows_cons arg3.view f _ k (by omega) (k0_off1_eq ⟨k, hk'⟩) _ _ _ (fun r l => trip_rows T l r) h2 r l hr
    · unfold trip_k0_t1
      dsimp only [List.singleton_append]
      exact rows_cons arg4.view g _ k (by omega) (k0_off1_eq ⟨k, hk'⟩) _ _ _ (fun r l => trip_prevs T l r) h3 r l hr
end

end Cert.KernelScanFwdIdeal.Scan

end
-- ==== Proof.FwdRun.lean ====
module

public import proofs.«01_k».proof.Proof.FwdTrip
public import Idealize.ShloMosaic.Lib.VecWindow

@[expose] public section

set_option maxRecDepth 16384

noncomputable section

namespace Cert.KernelScanFwdIdeal.Scan

open Cert.KernelScanFwdIdeal Cert.KernelScanFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first-point branch. -/
abbrev first (i : grid0.Coords) : Prop := (Scalar.cmpi .ne (Scalar.extui (Scalar.cmpi .eq (BitVec.ofNat 32 (i 0).val) 0#32)) 0#32) = 1#1

/-- A whole store of zeros, read back at the scratch's first row. -/
theorem zero_row (arg4 : Memref sig .tc .vmem S8x1024 .f32) (f : arg4.view.ty.Contents (Elt F)) (l : Fin 1024) :
    arg4.view.readAt (Elt F) (Rect.unit (s := S8x1024) ![0, 0] S1x1024.size inb_S8x1024_S1x1024_0_0).toLoadRect
      (arg4.view.writes (Elt F) f [⟨Rect.unit (s := S8x1024) ![0, 0] S8x1024.size inb_S8x1024_S8x1024_0_0, k0_pay1 (F := F)⟩]) (ix2 0 l)
      = Scalar.ofBits .f32 0x00000000#32 := by
  rw [View.readAt_apply, View.read_writes_full]
  rfl

/-- Row 0 of the scratch as the body loads it. -/
theorem row_read (arg4 : Memref sig .tc .vmem S8x1024 .f32) (harg4 : arg4.IsWhole) (xs : Vec F S8x1024 .f32) (l : Fin 1024) :
    arg4.view.readAt (Elt F) (Rect.unit (s := S8x1024) ![0, 0] S1x1024.size inb_S8x1024_S1x1024_0_0).toLoadRect
      (harg4.unread xs) (ix2 0 l) = xs (ix2 0 l) := by
  rw [View.readAt_apply, harg4.read_unread]
  refine congrArg xs (funext fun a => Fin.ext ?_)
  match a with
  | ⟨0, _⟩ => rfl
  | ⟨1, _⟩ => show 0 + 1 * l.val = l.val; omega

set_option maxHeartbeats 1000000 in
theorem run_first (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S8x1024 .f32) (harg5 : arg5.IsWhole) (hc0 : first i)
    (x0 : Vec F S1024x1024 .f32) (x1 : Vec F S1024x1024 .f32) (E : Set ℕ) (K : PUnit → sProp 𝕄) :
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare (outBlk x0 x1 fun _ => Scalar.ofBits .f32 0x00000000#32)
                ∗ owns (c : Thread nD τ) arg4 fullShare (prevBlk x0 x1 fun _ => Scalar.ofBits .f32 0x00000000#32)
                ∗ (∃ xs, ⌜∀ l : Fin 1024, xs (ix2 0 l) = carry x0 x1 (fun _ => Scalar.ofBits .f32 0x00000000#32) 1024 l⌝ ∗ owns (c : Thread nD τ) arg5 fullShare xs)) -∗ K ⟨⟩))
          ⊢ wp frame (wpE (defs₀ (F := F)) Variants.none c none) E (cc0_lru_scan_fwd i arg1 harg1 arg2 harg2 arg3 harg3 arg4 harg4 arg5 harg5) K := by
    simp only [cc0_lru_scan_fwd_eq_skeleton]; unfold cc0_lru_scan_fwd_skel
    unfold owns
    iintro ⟨⟨%f0, %hf0, H0⟩, ⟨%f1, %hf1, H1⟩, ⟨%d2, %f2, -, H2⟩, ⟨%d3, %f3, -, H3⟩, ⟨%ds0, %fs0, -, HS0⟩, Hk⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro
      have hz : ∀ l : Fin 1024, (run_first.sl.v3 (F := F) c arg5) (ix2 0 l) = Scalar.ofBits .f32 0x00000000#32 := by
        exact fun l => (by unfold run_first.sl.v3 run_first.sl.HS0_1 View.readCov; exact zero_row arg5 _ l)
      refine Eq.trans ?_ (congrArg (outBlk x0 x1) (funext hz))
      funext j
      idx_vars j
      exact (st_spec Variants.none c none i arg1 harg1 arg2 harg2 arg3 harg3 arg4 harg4 arg5 harg5 x0 x1 _ f2 f3 128 (le_refl _)).2.1 j0 j1 (by omega)
    isplitl [H3]
    · iexists _; isplitr; swap; · iexact H3
      ipureintro
      have hz : ∀ l : Fin 1024, (run_first.sl.v3 (F := F) c arg5) (ix2 0 l) = Scalar.ofBits .f32 0x00000000#32 := by
        exact fun l => (by unfold run_first.sl.v3 run_first.sl.HS0_1 View.readCov; exact zero_row arg5 _ l)
      refine Eq.trans ?_ (congrArg (prevBlk x0 x1) (funext hz))
      funext j
      idx_vars j
      exact (st_spec Variants.none c none i arg1 harg1 arg2 harg2 arg3 harg3 arg4 harg4 arg5 harg5 x0 x1 _ f2 f3 128 (le_refl _)).2.2 j0 j1 (by omega)
    · iexists _; isplitr; swap
      · iexists _; isplitr; swap; · iexact HS0
        ipureintro; rfl
      ipureintro
      intro l
      have hz : ∀ l : Fin 1024, (run_first.sl.v3 (F := F) c arg5) (ix2 0 l) = Scalar.ofBits .f32 0x00000000#32 := fun l => (by unfold run_first.sl.v3 run_first.sl.HS0_1 View.readCov; exact zero_row arg5 _ l)
      refine (View.read_writes_cons_unit_of_mem _ _ _ _ _ _ (ix2 0 l) rfl (fun a => by
        match a with
        | ⟨0, _⟩ => rfl
        | ⟨1, _⟩ => exact (Nat.zero_add _).symm)).trans ?_
      refine Eq.trans ?_ (congrFun (congrArg (fun z => carry x0 x1 z 1024) (funext hz)) l)
      pointwise [k0_pay12]
      exact (st_spec Variants.none c none i arg1 harg1 arg2 harg2 arg3 harg3 arg4 harg4 arg5 harg5 x0 x1 _ f2 f3 128 (le_refl _)).1 l

set_option maxHeartbeats 1000000 in
theorem run_next (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S8x1024 .f32) (harg5 : arg5.IsWhole) (hc0 : ¬first i)
    (x0 : Vec F S1024x1024 .f32) (x1 : Vec F S1024x1024 .f32) (xs : Vec F S8x1024 .f32) (E : Set ℕ) (K : PUnit → sProp 𝕄) :
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs
            ∗ (iprop(owns (c : Thread nD τ) arg1 fullShare x0 ∗ owns (c : Thread nD τ) arg2 fullShare x1 ∗ owns (c : Thread nD τ) arg3 fullShare (outBlk x0 x1 fun l => xs (ix2 0 l))
                ∗ owns (c : Thread nD τ) arg4 fullShare (prevBlk x0 x1 fun l => xs (ix2 0 l))
                ∗ (∃ xs', ⌜∀ l : Fin 1024, xs' (ix2 0 l) = carry x0 x1 (fun l => xs (ix2 0 l)) 1024 l⌝ ∗ owns (c : Thread nD τ) arg5 fullShare xs')) -∗ K ⟨⟩))
          ⊢ wp frame (wpE (defs₀ (F := F)) Variants.none c none) E (cc0_lru_scan_fwd i arg1 harg1 arg2 harg2 arg3 harg3 arg4 harg4 arg5 harg5) K := by
    simp only [cc0_lru_scan_fwd_eq_skeleton]; unfold cc0_lru_scan_fwd_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg1.eq_unread hf0; obtain rfl := harg2.eq_unread hf1; obtain rfl := harg5.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro
      have hz := row_read arg5 harg5 xs
      refine Eq.trans ?_ (congrArg (outBlk x0 x1) (funext hz))
      funext j
      idx_vars j
      exact (st_spec Variants.none c none i arg1 harg1 arg2 harg2 arg3 harg3 arg4 harg4 arg5 harg5 x0 x1 _ f2 f3 128 (le_refl _)).2.1 j0 j1 (by omega)
    isplitl [H3]
    · iexists _; isplitr; swap; · iexact H3
      ipureintro
      have hz := row_read arg5 harg5 xs
      refine Eq.trans ?_ (congrArg (prevBlk x0 x1) (funext hz))
      funext j
      idx_vars j
      exact (st_spec Variants.none c none i arg1 harg1 arg2 harg2 arg3 harg3 arg4 harg4 arg5 harg5 x0 x1 _ f2 f3 128 (le_refl _)).2.2 j0 j1 (by omega)
    · iexists _; isplitr; swap
      · iexists _; isplitr; swap; · iexact HS0
        ipureintro; rfl
      ipureintro
      intro l
      have hz := row_read arg5 harg5 xs
      refine (View.read_writes_cons_unit_of_mem _ _ _ _ _ _ (ix2 0 l) rfl (fun a => by
        match a with
        | ⟨0, _⟩ => rfl
        | ⟨1, _⟩ => exact (Nat.zero_add _).symm)).trans ?_
      refine Eq.trans ?_ (congrFun (congrArg (fun z => carry x0 x1 z 1024) (funext hz)) l)
      pointwise [k0_pay12]
      exact (st_spec Variants.none c none i arg1 harg1 arg2 harg2 arg3 harg3 arg4 harg4 arg5 harg5 x0 x1 _ f2 f3 128 (le_refl _)).1 l

end Cert.KernelScanFwdIdeal.Scan

end
-- ==== Proof.FwdLaunch.lean ====
/- The scan's run: the eight blocks in order, the carried row handed on in the scratch's first row; the two result
   arrays end at `G` and `P` of the two argument arrays. -/
module

public import proofs.«01_k».proof.Proof.FwdRun
public import proofs.«01_k».proof.Proof.Gen.KernelScanFwdIdeal.Frame
public import proofs.«01_k».proof.Proof.Gen.KernelScanFwdIdeal.Points
public import proofs.«01_k».proof.Proof.Gen.KernelScanFwdIdeal.Launch
public import Idealize.ShloMosaic.Lib.Pipeline.FrameBody
public import Idealize.ShloMosaic.Lib.Pipeline.ValueKit
public import Idealize.ShloMosaic.Lib.Claim

@[expose] public section

set_option maxRecDepth 16384

noncomputable section

namespace Cert.KernelScanFwdIdeal.Scan

open Cert.KernelScanFwdIdeal Cert.KernelScanFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The state after the first `n` rows of the whole sequence. -/
def gcarry (A U : Vec F S8192x1024 .f32) : ℕ → Fin 1024 → F .f32
  | 0 => fun _ => Scalar.ofBits .f32 0x00000000#32
  | n + 1 => fun l => FloatOps.addf (FloatOps.mulf (A (ix2 ⟨min n 8191, by omega⟩ l)) (gcarry A U n l))
      (U (ix2 ⟨min n 8191, by omega⟩ l))

theorem gcarry_succ (A U : Vec F S8192x1024 .f32) (n : ℕ) (l : Fin 1024) (r : Fin 8192) (hr : r.val = n) :
    gcarry A U (n + 1) l = FloatOps.addf (FloatOps.mulf (A (ix2 r l)) (gcarry A U n l)) (U (ix2 r l)) := by
  have e : r = ⟨min n 8191, by omega⟩ := Fin.ext (by show r.val = min n 8191; omega)
  rw [e]
  rfl

/-- The states of the whole sequence, and the state before each row. -/
def G (A U : Vec F S8192x1024 .f32) : Vec F S8192x1024 .f32 := fun j => gcarry A U ((j 0).val + 1) (j 1)
def P (A U : Vec F S8192x1024 .f32) : Vec F S8192x1024 .f32 := fun j => gcarry A U (j 0).val (j 1)

/-- A block of rows `1024 t` on carries the sequence's state on. -/
theorem carry_block (A U : Vec F S8192x1024 .f32) (a u : Vec F S1024x1024 .f32) (t : ℕ) (ht : t < 8)
    (ha : ∀ r l : Fin 1024, a (ix2 r l) = A (ix2 ⟨1024 * t + r.val, by omega⟩ l))
    (hd : ∀ r l : Fin 1024, u (ix2 r l) = U (ix2 ⟨1024 * t + r.val, by omega⟩ l)) (n : ℕ) (hn : n ≤ 1024) :
    carry a u (gcarry A U (1024 * t)) n = gcarry A U (1024 * t + n) := by
  induction n with
  | zero => rfl
  | succ n ih =>
    funext l
    rw [carry_succ a u _ n l ⟨n, by omega⟩ rfl, ih (by omega), ha, hd]
    exact (gcarry_succ A U (1024 * t + n) l _ rfl).symm

variable (m : (ℓ : Loc nD τ sig) → Buf (Elt F) ℓ) (ρ : Dev nD → PrngReg)

/-- The argument arrays as launched. -/
abbrev argA (c : Dev nD) : Vec F S8192x1024 .f32 := m ((c : Thread nD τ).loc main_arg0)
abbrev argU (c : Dev nD) : Vec F S8192x1024 .f32 := m ((c : Thread nD τ).loc main_arg1)

/-- The body's first-point branch is taken at the first point only. -/
theorem hfirst : ∀ t : Fin cfg0.N, first (grid0.coords t) ↔ t.val = 0 := (by decide +kernel : ∀ t : Fin grid0.N, first (grid0.coords t) ↔ t.val = 0)

/-- Which block each window is on at a point. -/
theorem idx : ∀ t : Fin cfg0.N, win0_0.index t = ![t.val, 0] ∧ win0_1.index t = ![t.val, 0] ∧ win0_2.index t = ![t.val, 0] ∧ win0_3.index t = ![t.val, 0] :=
  (by decide +kernel : ∀ t : Fin grid0.N, _)

theorem lt8 (t : Fin cfg0.N) : t.val < 8 := lt_of_lt_of_eq t.isLt (show cfg0.N = 8 from N_0)

theorem iblk0_apply (c : Dev nD) (t : Fin cfg0.N) (r l : Fin 1024) :
    iblk m c 0 t (ix2 r l) = argA m c (ix2 ⟨1024 * t.val + r.val, by have := lt8 t; omega⟩ l) := by
  have := lt8 t
  blk_ext [iblk, V, idx t]

theorem iblk1_apply (c : Dev nD) (t : Fin cfg0.N) (r l : Fin 1024) :
    iblk m c 1 t (ix2 r l) = argU m c (ix2 ⟨1024 * t.val + r.val, by have := lt8 t; omega⟩ l) := by
  have := lt8 t
  blk_ext [iblk, V, idx t]

/-- The row carried into grid point `n`. -/
abbrev into (c : Dev nD) (n : ℕ) : Fin 1024 → F .f32 := gcarry (argA m c) (argU m c) (1024 * n)

/-- Point `t` carries the row on to point `t + 1`. -/
theorem carry_point (c : Dev nD) (t : Fin cfg0.N) :
    carry (iblk m c 0 t) (iblk m c 1 t) (into m c t.val) 1024 = into m c (t.val + 1) :=
  (carry_block (argA m c) (argU m c) _ _ t.val (lt8 t) (iblk0_apply m c t) (iblk1_apply m c t) 1024 (le_refl _)).trans
    (congrArg (gcarry _ _) (by omega))

abbrev ms0 (t : Fin cfg0.N) : Memref sig .tc .vmem S1024x1024 .f32 := win0_0.stage (cfg0.slots t 0)
abbrev ms1 (t : Fin cfg0.N) : Memref sig .tc .vmem S1024x1024 .f32 := win0_1.stage (cfg0.slots t 1)
abbrev ms2 (t : Fin cfg0.N) : Memref sig .tc .vmem S1024x1024 .f32 := win0_2.stage (cfg0.slots t 2)
abbrev ms3 (t : Fin cfg0.N) : Memref sig .tc .vmem S1024x1024 .f32 := win0_3.stage (cfg0.slots t 3)
abbrev scM : Memref sig .tc .vmem S8x1024 .f32 := Memref.whole cc0_scratch0

theorem PhiA_scratch (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- Before point `n`: the scratch's first row is the row carried so far. -/
def PhiS (c : Dev nD) (n : ℕ) : sProp 𝕄 :=
  if n = 0 then Pipeline.ΦA spec0 c
  else iprop((∃ xs : Vec F S8x1024 .f32, ⌜∀ l : Fin 1024, xs (ix2 0 l) = into m c n l⌝ ∗ owns (c : Thread nD τ) scM fullShare xs) ∗ (∃ r, prngReg c r))

theorem PhiS_zero (c : Dev nD) (n : ℕ) (h : n = 0) : PhiS m c n = Pipeline.ΦA spec0 c := if_pos h
theorem PhiS_pos (c : Dev nD) (n : ℕ) (h : n ≠ 0) : PhiS m c n
    = iprop((∃ xs : Vec F S8x1024 .f32, ⌜∀ l : Fin 1024, xs (ix2 0 l) = into m c n l⌝ ∗ owns (c : Thread nD τ) scM fullShare xs) ∗ (∃ r, prngReg c r)) := if_neg h

/-- The proof data: each input's buffer at its block, the outputs' at the states and the states before. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk (iblk m c 0 t) (iblk m c 1 t) (into m c t.val)
    | ⟨3, _⟩ => prevBlk (iblk m c 0 t) (iblk m c 1 t) (into m c t.val)
  Φ t := PhiS m c t.val
  q _ := fullShare
  owed _ := 0

theorem A_eq (c : Dev nD) (w : Fin cfg0.W) : (dats m 0 c).A w = V m c (Pipeline.arrRef spec0 w) := by
  dsimp only [dats]
theorem Phi_eq (c : Dev nD) (t : Fin (cfg0.N + 1)) : (dats m 0 c).Φ t = PhiS m c t.val := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outBlk (iblk m c 0 t) (iblk m c 1 t) (into m c t.val) := by dsimp only [dats]
theorem after3 (c : Dev nD) (t : Fin cfg0.N) : (dats m 0 c).after 3 t = prevBlk (iblk m c 0 t) (iblk m c 1 t) (into m c t.val) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 3200000 in
/-- The body at any point: the first point starts from the zero row, every later one from the row handed on. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl,
    after0, after1, after2, after3, Phi_eq, Phi_eq]
  rw [show (t.succ : Fin (cfg0.N + 1)).val = t.val + 1 from rfl, show (t.castSucc : Fin (cfg0.N + 1)).val = t.val from rfl,
    PhiS_pos m c (t.val + 1) (by omega)]
  by_cases hz : t.val = 0
  · rw [PhiS_zero m c _ hz, PhiA_scratch]
    have hc : into m c t.val = fun _ => Scalar.ofBits .f32 0x00000000#32 := by rw [hz]; rfl
    have hp := carry_point m c t
    rw [hc] at hp ⊢
    iintro ⟨⟨HS0, Hg⟩, Ho, ⟨%d0, H0⟩, ⟨%d1, H1⟩, ⟨%d2, H2⟩, ⟨%d3, H3⟩⟩
    iapply (run_first c (grid0.coords t) _ _ _ _ _ _ _ _ _ _ ((hfirst t).mpr hz) (iblk m c 0 t) (iblk m c 1 t) Set.univ _)
    isplitl [H0]; · iexact H0
    isplitl [H1]; · iexact H1
    isplitl [H2]; · iexists _; iexact H2
    isplitl [H3]; · iexists _; iexact H3
    isplitl [HS0]; · iexact HS0
    iintro ⟨H0, H1, H2, H3, ⟨%xs, %hxs, HS0⟩⟩
    isplitl [HS0 Hg]
    · isplitl [HS0]
      · iexists xs; isplitr
        · ipureintro; intro l; rw [hxs l, hp]
        iexact HS0
      iexact Hg
    isplitl [Ho]; · iexact Ho
    isplitl [H0]; · iexact H0
    isplitl [H1]; · iexact H1
    isplitl [H2]; · iexact H2
    iexact H3
  · rw [PhiS_pos m c _ hz]
    have hp := carry_point m c t
    iintro ⟨⟨⟨%ys, %hys, HS0⟩, Hg⟩, Ho, ⟨%d0, H0⟩, ⟨%d1, H1⟩, ⟨%d2, H2⟩, ⟨%d3, H3⟩⟩
    rw [← funext hys] at hp ⊢
    iapply (run_next c (grid0.coords t) _ _ _ _ _ _ _ _ _ _ (fun h => hz ((hfirst t).mp h)) (iblk m c 0 t) (iblk m c 1 t) ys Set.univ _)
    isplitl [H0]; · iexact H0
    isplitl [H1]; · iexact H1
    isplitl [H2]; · iexists _; iexact H2
    isplitl [H3]; · iexists _; iexact H3
    isplitl [HS0]; · iexact HS0
    iintro ⟨H0, H1, H2, H3, ⟨%xs, %hxs, HS0⟩⟩
    isplitl [HS0 Hg]
    · isplitl [HS0]
      · iexists xs; isplitr
        · ipureintro; intro l; rw [hxs l, hp]
        iexact HS0
      iexact Hg
    isplitl [Ho]; · iexact Ho
    isplitl [H0]; · iexact H0
    isplitl [H1]; · iexact H1
    isplitl [H2]; · iexact H2
    iexact H3

theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [Phi_eq, PhiS_zero m c (0 : Fin (cfg0.N + 1)).val rfl]
  try exact Idealize.SL.BI.Entails.refl _

theorem hout (c : Dev nD) : (dats m 0 c).Φ (Fin.last cfg0.N) ⊢ Pipeline.ΦA spec0 c := by
  rw [Phi_eq, PhiS_pos m c _ (by rw [Fin.val_last]; have : cfg0.N = 8 := N_0; omega), PhiA_scratch]
  iintro ⟨⟨%xs, -, HS0⟩, Hg⟩
  isplitl [HS0]
  · iexists xs; iexact HS0
  iexact Hg

set_option backward.isDefEq.respectTransparency.types false in
/-- The launch: every execution ends, the arrays as the proof data say, every semaphore counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- What point `t` leaves of its blocks is the sequence's there. -/
theorem block_rows (c : Dev nD) (t : Fin cfg0.N) (y : S1024x1024.Idx) (j : S8192x1024.Idx)
    (hj0 : (j 0 : ℕ) = 1024 * t.val + (y 0 : ℕ)) (hj1 : (j 1 : ℕ) = (y 1 : ℕ)) :
    outBlk (iblk m c 0 t) (iblk m c 1 t) (into m c t.val) y = G (argA m c) (argU m c) j
    ∧ prevBlk (iblk m c 0 t) (iblk m c 1 t) (into m c t.val) y = P (argA m c) (argU m c) j := by
  have ht := lt8 t
  have hb := carry_block (argA m c) (argU m c) _ _ t.val ht (iblk0_apply m c t) (iblk1_apply m c t)
  idx_vars y
  idx_vars j
  have e1 : j1 = y1 := Fin.ext hj1
  subst e1
  have e0 : (j0 : ℕ) = 1024 * t.val + y0.val := hj0
  have hy : (y0 : ℕ) < 1024 := y0.isLt
  show carry _ _ _ (y0.val + 1) j1 = gcarry _ _ (j0.val + 1) j1 ∧ carry _ _ _ y0.val j1 = gcarry _ _ j0.val j1
  rw [e0]
  exact ⟨congrFun (hb (y0.val + 1) (by omega)) j1, congrFun (hb y0.val (by omega)) j1⟩

/-- The first result: the states of the whole sequence. -/
theorem final2 (c : Dev nD) : (dats m 0 c).arrAt 2 (cfgs 0).N = G (argA m c) (argU m c) := by
  refine (dats m 0 c).arrAt_eq_of_covers 2 _ (by decide +kernel) fun t hf y => ?_
  have := lt8 t
  blk_simp
  rw [after2]
  have hj0 : (((win0_2.blk t).view.emb y) 0 : ℕ) = 1024 * t.val + (y 0 : ℕ) := by blk_simp [idx t] <;> omega
  have hj1 : (((win0_2.blk t).view.emb y) 1 : ℕ) = (y 1 : ℕ) := by blk_simp [idx t] <;> omega
  exact (block_rows m c t y _ hj0 hj1).1

/-- The second result: the state before each row. -/
theorem final3 (c : Dev nD) : (dats m 0 c).arrAt 3 (cfgs 0).N = P (argA m c) (argU m c) := by
  refine (dats m 0 c).arrAt_eq_of_covers 3 _ (by decide +kernel) fun t hf y => ?_
  have := lt8 t
  blk_simp
  rw [after3]
  have hj0 : (((win0_3.blk t).view.emb y) 0 : ℕ) = 1024 * t.val + (y 0 : ℕ) := by blk_simp [idx t] <;> omega
  have hj1 : (((win0_3.blk t).view.emb y) 1 : ℕ) = (y 1 : ℕ) := by blk_simp [idx t] <;> omega
  exact (block_rows m c t y _ hj0 hj1).2

/-- The frame: the argument arrays end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

/-- The run with its value: the result arrays hold `G` and `P` of the two argument arrays, which end unchanged. -/
theorem run_value : θ_run defs (onTc (τ := τ) (main (F := F))) ⟨m, fun _ => 0, ρ⟩ (fun r => ∀ c : Dev nD,
      r.2.mem ((c.tc : Thread nD τ).loc main_v0_0) = G (argA m c) (argU m c)
      ∧ r.2.mem ((c.tc : Thread nD τ).loc main_v0_1) = P (argA m c) (argU m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1.out_eq c 2).trans (final2 m c), (h.1.out_eq c 3).trans (final3 m c),
      (h.1.in_eq c 0 rfl).trans ((A_eq m c 0).trans (V_main_arg0 m c)),
      (h.1.in_eq c 1 rfl).trans ((A_eq m c 1).trans (V_main_arg1 m c))⟩) (run_quiescent m ρ)

end Cert.KernelScanFwdIdeal.Scan

end
-- ==== Proof.FwdRef.lean ====
/- The reference: its loop walks the rows in order; after `k` trips the carried row is the sequence's (`gcarry`) and the
   first `k` rows of the loop's result are the states (`G`). The second result is the first moved down a row. -/
module

public import proofs.«01_k».proof.Proof.FwdLaunch
public import proofs.«01_k».proof.Proof.Gen.ReferenceScanFwdIdeal.Run
public import Idealize.ShloMosaic.Lib.Pointwise
public import Idealize.ShloMosaic.Lib.Quiescent

@[expose] public section

set_option maxRecDepth 16384

noncomputable section

namespace Cert.ReferenceScanFwdIdeal.Scan

open Cert.ReferenceScanFwdIdeal Cert.ReferenceScanFwdIdeal.Gen Cert.ReferenceScanFwdIdeal.Value
open Idealize.ShloMosaic Idealize.ShloMosaic.TcCoe Idealize.SL.Sem Idealize.ShloMosaic.StableHlo
open Cert.KernelScanFwdIdeal.Scan (gcarry gcarry_succ G P)

/-- The word a trip's row number is, and the number it is. -/
theorem row_word (k : ℕ) (hk : k < 8192) : (BitVec.ofNat 32 k).toInt = (k : ℤ) := by
  rw [BitVec.toInt_eq_toNat_cond]
  simp only [BitVec.toNat_ofNat]
  rw [if_pos (by omega)]
  omega

/-- Where a trip's row starts, as the slices read it. -/
def start (w : (⟨S_, .i32⟩ : BufTy).Contents (Elt Ideal)) : Fin 2 → Int :=
  fun k => ((![w, constantI S_ 32 0#32] : Fin 2 → (⟨S_, .i32⟩ : BufTy).Contents (Elt Ideal)) k (Shape.Idx.first h_S_)).toInt

theorem start_rows (w : (⟨S_, .i32⟩ : BufTy).Contents (Elt Ideal)) (k : ℕ) (hk : k < 8192)
    (hw : ∀ i, (w i).toInt = (k : ℤ)) (h) : Host.clampedStart S8192x1024 S1x1024 h (start w) 0 = k :=
  Host.clampedStart_of_le h (start w) 0 (k) (hw _) (by show k + 1 ≤ 8192; omega)

theorem start_lanes (w : (⟨S_, .i32⟩ : BufTy).Contents (Elt Ideal)) (h) : Host.clampedStart S8192x1024 S1x1024 h (start w) 1 = 0 :=
  Host.clampedStart_of_le h (start w) 1 0 rfl (by show 0 + 1024 ≤ 1024; omega)

/-- One row read out of an array. -/
theorem slice_row (x : Vec Ideal S8192x1024 .f32) (w : (⟨S_, .i32⟩ : BufTy).Contents (Elt Ideal)) (k : ℕ) (hk : k < 8192)
    (hw : ∀ i, (w i).toInt = (k : ℤ)) (l : Fin 1024) :
    (shapeCast S1024 (Host.dynamicSlice S1x1024 x (start w) sliceFits_S8192x1024_S1x1024) shapeCasts_S1x1024_S1024 : Vec Ideal S1024 .f32) (ix1 l)
      = x (ix2 ⟨k, hk⟩ l) := by
  pointwise
  refine congrArg x (congr (congrArg ix2 (Fin.ext ?_)) (Fin.ext ?_))
  · exact start_rows w k hk hw sliceFits_S8192x1024_S1x1024.1
  · show Host.clampedStart S8192x1024 S1x1024 _ (start w) 1 + l.val = l.val
    rw [start_lanes]; omega

/-- One row written into an array. -/
theorem update_row (x : Vec Ideal S8192x1024 .f32) (u : Vec Ideal S1024 .f32) (w : (⟨S_, .i32⟩ : BufTy).Contents (Elt Ideal)) (k : ℕ) (hk : k < 8192)
    (hw : ∀ i, (w i).toInt = (k : ℤ)) (r : Fin 8192) (l : Fin 1024) :
    (Host.dynamicUpdateSlice x (broadcastInDim S1x1024 ![1] bcast_S1024_S1x1024_1 u : Vec Ideal S1x1024 .f32) (start w) updateFits_S8192x1024_S1x1024 : Vec Ideal S8192x1024 .f32) (ix2 r l)
      = if r.val = k then u (ix1 l) else x (ix2 r l) := by
  pointwise
  have e0 := start_rows w k hk hw updateFits_S8192x1024_S1x1024.1
  have e1 := start_lanes w updateFits_S8192x1024_S1x1024.1
  by_cases hr : r.val = k
  · rw [if_pos hr, dif_pos (by rw [e0, e1]; omega)]
    refine congrArg u (congrArg ix1 (Fin.ext ?_))
    show l.val - Host.clampedStart S8192x1024 S1x1024 _ (start w) 1 = l.val
    rw [e1]; omega
  · rw [if_neg hr, dif_neg (by rw [e0, e1]; omega)]

/-- One row read out, one row written in, and a trip's state. -/
def takeRow (x : Vec Ideal S8192x1024 .f32) (w : (⟨S_, .i32⟩ : BufTy).Contents (Elt Ideal)) : FVec Ideal S1024 .f32 :=
  shapeCast S1024 (Host.dynamicSlice S1x1024 x (start w) sliceFits_S8192x1024_S1x1024) shapeCasts_S1x1024_S1024
def putRow (x : Vec Ideal S8192x1024 .f32) (u : Vec Ideal S1024 .f32) (w : (⟨S_, .i32⟩ : BufTy).Contents (Elt Ideal)) : Vec Ideal S8192x1024 .f32 :=
  Host.dynamicUpdateSlice x (broadcastInDim S1x1024 ![1] bcast_S1024_S1x1024_1 u : Vec Ideal S1x1024 .f32) (start w) updateFits_S8192x1024_S1x1024
def stateRow (a u : Vec Ideal S8192x1024 .f32) (h : FVec Ideal S1024 .f32) (w : (⟨S_, .i32⟩ : BufTy).Contents (Elt Ideal)) : FVec Ideal S1024 .f32 :=
  addf (mulf (takeRow a w) h) (takeRow u w)

variable (V0 : Valuation τ sig (Elt Ideal)) in
theorem v9_eq : res_main_while0b_v9 V0 = stateRow (V0 (Proc.devRef .tc main_v2_0)) (V0 (Proc.devRef .tc main_v2_1)) (V0 (Proc.devRef .tc main_v2_3)) (V0 (Proc.devRef .tc main_v2_2)) := by
  unfold res_main_while0b_v9 stateRow takeRow start; rfl
variable (V0 : Valuation τ sig (Elt Ideal)) in
theorem step3_eq : step_main_v2_3 V0 = res_main_while0b_v9 V0 := by
  unfold step_main_v2_3
  exact id_eq _
variable (V0 : Valuation τ sig (Elt Ideal)) in
theorem step4_eq : step_main_v2_4 V0 = putRow (V0 (Proc.devRef .tc main_v2_4)) (res_main_while0b_v9 V0) (V0 (Proc.devRef .tc main_v2_2)) := by
  unfold step_main_v2_4 putRow start
  exact id_eq _

/-- What the loop's buffers hold before trip `k`, of the two argument arrays. -/
structure Inv (A U : Vec Ideal S8192x1024 .f32) (k : ℕ) (V0 : Valuation τ sig (Elt Ideal)) : Prop where
  decay : V0 (Proc.devRef .tc main_v2_0) = A
  input : V0 (Proc.devRef .tc main_v2_1) = U
  count : V0 (Proc.devRef .tc main_v2_2) = constantI S_ 32 (BitVec.ofNat 32 k)
  row : ∀ l : Fin 1024, (V0 (Proc.devRef .tc main_v2_3) : Vec Ideal S1024 .f32) (ix1 l) = gcarry A U k l
  out : ∀ (r : Fin 8192) (l : Fin 1024), r.val < k → (V0 (Proc.devRef .tc main_v2_4) : Vec Ideal S8192x1024 .f32) (ix2 r l) = G A U (ix2 r l)

variable {A U : Vec Ideal S8192x1024 .f32} {k : ℕ} {V0 : Valuation τ sig (Elt Ideal)}

/-- The row number of trip `k`. -/
theorem Inv.word (h : Inv A U k V0) (hk : k < 8192) (i : S_.Idx) : ((V0 (Proc.devRef .tc main_v2_2) : (⟨S_, .i32⟩ : BufTy).Contents (Elt Ideal)) i).toInt = (k : ℤ) := by
  rw [h.count]
  exact row_word k hk

/-- The state of trip `k`: the carried row once more through the recurrence. -/
theorem Inv.state (h : Inv A U k V0) (hk : k < 8192) (l : Fin 1024) :
    (res_main_while0b_v9 V0 : Vec Ideal S1024 .f32) (ix1 l) = gcarry A U (k + 1) l := by
  rw [v9_eq, gcarry_succ A U k l ⟨k, hk⟩ rfl]
  unfold stateRow takeRow
  have ea := slice_row A _ k hk (h.word hk) l
  have eu := slice_row U _ k hk (h.word hk) l
  have er := h.row l
  rw [h.decay, h.input]
  exact congrArg₂ FloatOps.addf (congrArg₂ FloatOps.mulf ea er) eu

/-- One trip. -/
theorem Inv.trip (h : Inv A U k V0) (hk : k < 8192) : Inv A U (k + 1) (STEP V0) where
  decay := (STEP_main_v2_0 V0).trans h.decay
  input := (STEP_main_v2_1 V0).trans h.input
  count := by
    rw [STEP_main_v2_2]
    unfold step_main_v2_2
    rw [h.count]
    funext i
    show BitVec.ofNat 32 k + 1#32 = BitVec.ofNat 32 (k + 1)
    simp only [BitVec.ofNat_add]
  row := fun l => by
    rw [STEP_main_v2_3, step3_eq]
    exact h.state hk l
  out := fun r l hr => by
    rw [STEP_main_v2_4, step4_eq]
    unfold putRow
    rw [update_row _ _ _ k hk (h.word hk)]
    by_cases hr' : r.val = k
    · rw [if_pos hr', h.state hk]
      show _ = gcarry A U (r.val + 1) l
      rw [hr']
    · rw [if_neg hr']
      exact h.out r l (by omega)

/-- The states moved down a row, a zero row first. -/
theorem shifted (x : Vec Ideal S8192x1024 .f32) (hx : x = G A U) (r : Fin 8192) (l : Fin 1024) :
    (concatenate S8192x1024 0 [⟨S1x1024, (broadcastInDim S1x1024 ![] bcast_S_S1x1024 (constant (F := Ideal) S_ .f32 0x00000000#32) : Vec Ideal S1x1024 .f32)⟩, ⟨S8191x1024, (extractStridedSlice S8191x1024 ![0, 0] x slices_S8192x1024_S8191x1024_0_0)⟩] concatenates_S1x1024_S8191x1024_S8192x1024_d0 : Vec Ideal S8192x1024 .f32) (ix2 r l)
      = P A U (ix2 r l) := by
  subst hx
  show _ = gcarry A U r.val l
  pointwise
  by_cases hr : r.val < 1
  · rw [dif_pos hr]
    have e : r.val = 0 := by omega
    rw [e]; exact Ideal.ofBits_zero_f32.symm
  · rw [dif_neg hr]
    show gcarry A U (r.val - 1 + 1) l = _
    rw [show r.val - 1 + 1 = r.val by omega]

variable (m : (ℓ : Loc nD τ sig) → Buf (Elt Ideal) ℓ) (ρ : Dev nD → PrngReg)

set_option maxRecDepth 65536 in
/-- Before the first trip: the zero row, no state yet. -/
theorem entry (c : Dev nD) : Inv (m ((c.tc : Thread nD τ).loc main_arg0)) (m ((c.tc : Thread nD τ).loc main_arg1)) 0 (entryContents preI m c) where
  input := by simp only [entryContents, afterL_cons, afterL_nil]; after_reads_simp; try rfl
  decay := by simp only [entryContents, afterL_cons, afterL_nil]; after_reads_simp; try rfl
  count := by simp only [entryContents, afterL_cons, afterL_nil]; after_reads_simp; try rfl
  row := fun l => by simp only [entryContents, afterL_cons, afterL_nil]; after_reads_simp; try rfl
  out := fun r l hr => absurd hr (by have := r.isLt; omega)

theorem trips (c : Dev nD) : ∀ k, k ≤ 8192 →
    Inv (m ((c.tc : Thread nD τ).loc main_arg0)) (m ((c.tc : Thread nD τ).loc main_arg1)) k (STEP^[k] (entryContents preI m c))
  | 0, _ => entry m c
  | k + 1, hk => by
    rw [Function.iterate_succ_apply']
    exact (trips c k (by omega)).trip (by omega)

/-- The loop's result: the states of the whole sequence. -/
theorem states (c : Dev nD) : (STEP^[8192] (entryContents preI m c)) (Proc.devRef .tc main_v2_4)
    = G (m ((c.tc : Thread nD τ).loc main_arg0)) (m ((c.tc : Thread nD τ).loc main_arg1)) := funext fun j => by
  idx_vars j
  exact (trips m c 8192 (le_refl _)).out j0 j1 j0.isLt

/-- The reference's run with its value. -/
theorem run_value : θ_run (defs (F := Ideal)) (onTc (τ := τ) (main (F := Ideal))) ⟨m, fun _ => 0, ρ⟩ (fun r => ∀ c : Dev nD,
      r.2.mem ((c.tc : Thread nD τ).loc main_v2_4) = G (m ((c.tc : Thread nD τ).loc main_arg0)) (m ((c.tc : Thread nD τ).loc main_arg1))
      ∧ r.2.mem ((c.tc : Thread nD τ).loc main_v5) = P (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (states m c), (h c).2.1.trans (funext fun j => by
      unfold out_main_v5
      idx_vars j
      exact shifted _ (states m c) j0 j1), (h c).2.2⟩) (Value.run m ρ)

/-- The frame: the argument arrays end unchanged and every semaphore counter is zero. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2.2, Idealize.ShloMosaic.sem_eq_zero_of_no_sems (by decide) r.2⟩) (run_value m ρ)

end Cert.ReferenceScanFwdIdeal.Scan

end
-- ==== Proof.FwdFrames.lean ====
/- The kernel on machine words and the kernel at ideal values are one text in two namespaces: their body tables are
   equal, so the run proved at any values is also the run of the first. -/
module

public import proofs.«01_k».proof.Defs
public import proofs.«01_k».proof.Proof.Gen.KernelScanFwd
public import proofs.«01_k».proof.Proof.FwdLaunch

@[expose] public section

set_option maxRecDepth 65536

noncomputable section

namespace Cert.Proof

open Idealize.ShloMosaic Idealize.SL.Sem

theorem scan_fwd_body (i) (a1 h1 a2 h2 a3 h3 a4 h4 a5 h5) :
    Cert.KernelScanFwd.cc0_lru_scan_fwd (F := Bits) i a1 h1 a2 h2 a3 h3 a4 h4 a5 h5 = Cert.KernelScanFwdIdeal.cc0_lru_scan_fwd (F := Bits) i a1 h1 a2 h2 a3 h3 a4 h4 a5 h5 := rfl

theorem scan_fwd_table : Cert.KernelScanFwd.defs₀ (F := Bits) = Cert.KernelScanFwdIdeal.defs₀ := by
  unfold Cert.KernelScanFwd.defs₀ Cert.KernelScanFwdIdeal.defs₀
  congr 1
  funext l x
  obtain ⟨l, hl⟩ := l
  cases l with
  | zero => rfl
  | succ n => exact absurd hl (Nat.not_lt.2 (Nat.le_add_left _ _))

theorem scan_fwd_defs : Cert.KernelScanFwd.defs (F := Bits) = Cert.KernelScanFwdIdeal.defs :=
  congrArg (Pipeline.defs Cert.KernelScanFwdIdeal.pcfgs) scan_fwd_table

theorem frame_kernel_fwd : Cert.quiescent_KernelScanFwd := fun m ρ _ => by
  rw [scan_fwd_defs]
  exact Cert.KernelScanFwdIdeal.Scan.frame (F := Bits) m ρ

end Cert.Proof

end
-- ==== Proof.RefFrames.lean ====
module

public import proofs.«01_k».proof.Proof.Gen.ReferenceConvBwdIdeal.Run
public import proofs.«01_k».proof.Proof.Gen.ReferenceConvBwdXIdeal.Run
public import proofs.«01_k».proof.Proof.Gen.ReferenceConvFwdIdeal.Run
public import proofs.«01_k».proof.Proof.Gen.ReferenceConvFwdXIdeal.Run
public import proofs.«01_k».proof.Proof.Gen.ReferenceMergeBwdIdeal.Run
public import proofs.«01_k».proof.Proof.Gen.ReferenceMergeFwdIdeal.Run
public import proofs.«01_k».proof.Proof.Gen.ReferenceActBwdIdeal.Run
public import proofs.«01_k».proof.Proof.Gen.ReferenceRmsBwdIdeal.Run
public import proofs.«01_k».proof.Proof.Gen.ReferenceRmsFwdIdeal.Run
public import proofs.«01_k».proof.Proof.Gen.ReferencePostBwdIdeal.Run
public import proofs.«01_k».proof.Proof.Gen.ReferencePostFwdIdeal.Run
public import proofs.«01_k».proof.Proof.Gen.ReferenceGatesFwdIdeal.Run
public import proofs.«01_k».proof.Proof.Gen.ReferenceDwIdeal.Run
public import proofs.«01_k».proof.Proof.Gen.ReferenceDwZIdeal.Run
public import proofs.«01_k».proof.Proof.Gen.ReferenceDwXbcIdeal.Run
public import proofs.«01_k».proof.Proof.Gen.ReferenceDwDtIdeal.Run
public import proofs.«01_k».proof.Proof.Gen.ReferenceDwFfnOutIdeal.Run
public import proofs.«01_k».proof.Proof.Gen.ReferenceDwFfnInIdeal.Run
public import proofs.«01_k».proof.Proof.Gen.ReferenceDwBrbIdeal.Run
public import proofs.«01_k».proof.Proof.Gen.ReferenceDActIdeal.Run
public import proofs.«01_k».proof.Proof.Gen.ReferenceDxIdeal.Run
public import proofs.«01_k».proof.Proof.Gen.ReferenceDYbIdeal.Run
public import proofs.«01_k».proof.Proof.Gen.ReferenceDXn2Ideal.Run
public import proofs.«01_k».proof.Proof.Gen.ReferenceDXnAIdeal.Run
public import proofs.«01_k».proof.Proof.Gen.ReferenceDXnBIdeal.Run
public import proofs.«01_k».proof.Proof.Gen.ReferenceYIdeal.Run
public import proofs.«01_k».proof.Proof.Gen.ReferenceYZIdeal.Run
public import proofs.«01_k».proof.Proof.Gen.ReferenceYXbcIdeal.Run
public import proofs.«01_k».proof.Proof.Gen.ReferenceYDtIdeal.Run
public import proofs.«01_k».proof.Proof.Gen.ReferenceYBrbIdeal.Run
public import proofs.«01_k».proof.Proof.Gen.ReferenceYFfnInIdeal.Run
public import proofs.«01_k».proof.Proof.Gen.ReferenceOutIdeal.Run
public import proofs.«01_k».proof.Proof.Gen.ReferenceFfnOutIdeal.Run
public import proofs.«01_k».proof.Proof.Gen.ReferenceLossIdeal.Run
public import proofs.«01_k».proof.Proof.Gen.ReferenceAdamBranchIdeal.Run
public import proofs.«01_k».proof.Proof.Gen.ReferenceAdamOutIdeal.Run
public import proofs.«01_k».proof.Proof.Gen.ReferenceAdamFfnInIdeal.Run
public import proofs.«01_k».proof.Proof.Gen.ReferenceAdamFfnOutIdeal.Run
public import proofs.«01_k».proof.Proof.Gen.ReferenceAdamSmallIdeal.Run
public import proofs.«01_k».proof.Proof.Gen.ReferenceSumGradsIdeal.Run
public import Idealize.ShloMosaic.Lib.Quiescent
public import proofs.«01_k».proof.Defs

/-!
The frames of the references: each runs to its end, leaves its arguments as they were, and has no semaphore.
-/

@[expose] public section

set_option maxRecDepth 16384

noncomputable section

namespace Cert.Proof

open Idealize.ShloMosaic Idealize.SL.Sem

theorem frame_ConvBwd : Cert.quiescent_ReferenceConvBwdIdeal := fun m ρ _ =>
  (θ_run Cert.ReferenceConvBwdIdeal.defs _ _).mono (fun r h => ⟨fun c => (h c).2.2, sem_eq_zero_of_no_sems (by decide) r.2⟩) (Cert.ReferenceConvBwdIdeal.Value.run m ρ)

theorem frame_ConvBwdX : Cert.quiescent_ReferenceConvBwdXIdeal := fun m ρ _ =>
  (θ_run Cert.ReferenceConvBwdXIdeal.defs _ _).mono (fun r h => ⟨fun c => (h c).2.2, sem_eq_zero_of_no_sems (by decide) r.2⟩) (Cert.ReferenceConvBwdXIdeal.Value.run m ρ)

theorem frame_ConvFwd : Cert.quiescent_ReferenceConvFwdIdeal := fun m ρ _ =>
  (θ_run Cert.ReferenceConvFwdIdeal.defs _ _).mono (fun r h => ⟨fun c => (h c).2, sem_eq_zero_of_no_sems (by decide) r.2⟩) (Cert.ReferenceConvFwdIdeal.Value.run m ρ)

theorem frame_ConvFwdX : Cert.quiescent_ReferenceConvFwdXIdeal := fun m ρ _ =>
  (θ_run Cert.ReferenceConvFwdXIdeal.defs _ _).mono (fun r h => ⟨fun c => (h c).2, sem_eq_zero_of_no_sems (by decide) r.2⟩) (Cert.ReferenceConvFwdXIdeal.Value.run m ρ)

theorem frame_MergeBwd : Cert.quiescent_ReferenceMergeBwdIdeal := fun m ρ _ =>
  (θ_run Cert.ReferenceMergeBwdIdeal.defs _ _).mono (fun r h => ⟨fun c => (h c).2.2.2.2, sem_eq_zero_of_no_sems (by decide) r.2⟩) (Cert.ReferenceMergeBwdIdeal.Value.run m ρ)

theorem frame_MergeFwd : Cert.quiescent_ReferenceMergeFwdIdeal := fun m ρ _ =>
  (θ_run Cert.ReferenceMergeFwdIdeal.defs _ _).mono (fun r h => ⟨fun c => (h c).2, sem_eq_zero_of_no_sems (by decide) r.2⟩) (Cert.ReferenceMergeFwdIdeal.Value.run m ρ)

theorem frame_ActBwd : Cert.quiescent_ReferenceActBwdIdeal := fun m ρ _ =>
  (θ_run Cert.ReferenceActBwdIdeal.defs _ _).mono (fun r h => ⟨fun c => (h c).2, sem_eq_zero_of_no_sems (by decide) r.2⟩) (Cert.ReferenceActBwdIdeal.Value.run m ρ)

theorem frame_RmsBwd : Cert.quiescent_ReferenceRmsBwdIdeal := fun m ρ _ =>
  (θ_run Cert.ReferenceRmsBwdIdeal.defs _ _).mono (fun r h => ⟨fun c => (h c).2.2.2, sem_eq_zero_of_no_sems (by decide) r.2⟩) (Cert.ReferenceRmsBwdIdeal.Value.run m ρ)

theorem frame_RmsFwd : Cert.quiescent_ReferenceRmsFwdIdeal := fun m ρ _ =>
  (θ_run Cert.ReferenceRmsFwdIdeal.defs _ _).mono (fun r h => ⟨fun c => (h c).2, sem_eq_zero_of_no_sems (by decide) r.2⟩) (Cert.ReferenceRmsFwdIdeal.Value.run m ρ)

theorem frame_PostBwd : Cert.quiescent_ReferencePostBwdIdeal := fun m ρ _ =>
  (θ_run Cert.ReferencePostBwdIdeal.defs _ _).mono (fun r h => ⟨fun c => (h c).2.2.2.2.2.2.2, sem_eq_zero_of_no_sems (by decide) r.2⟩) (Cert.ReferencePostBwdIdeal.Value.run m ρ)

theorem frame_PostFwd : Cert.quiescent_ReferencePostFwdIdeal := fun m ρ _ =>
  (θ_run Cert.ReferencePostFwdIdeal.defs _ _).mono (fun r h => ⟨fun c => (h c).2.2, sem_eq_zero_of_no_sems (by decide) r.2⟩) (Cert.ReferencePostFwdIdeal.Value.run m ρ)

theorem frame_GatesFwd : Cert.quiescent_ReferenceGatesFwdIdeal := fun m ρ _ =>
  (θ_run Cert.ReferenceGatesFwdIdeal.defs _ _).mono (fun r h => ⟨fun c => (h c).2.2, sem_eq_zero_of_no_sems (by decide) r.2⟩) (Cert.ReferenceGatesFwdIdeal.Value.run m ρ)

theorem frame_Dw : Cert.quiescent_ReferenceDwIdeal := fun m ρ _ =>
  (θ_run Cert.ReferenceDwIdeal.defs _ _).mono (fun r h => ⟨fun c => (h c).2, sem_eq_zero_of_no_sems (by decide) r.2⟩) (Cert.ReferenceDwIdeal.Value.run m ρ)

theorem frame_DwZ : Cert.quiescent_ReferenceDwZIdeal := fun m ρ _ =>
  (θ_run Cert.ReferenceDwZIdeal.defs _ _).mono (fun r h => ⟨fun c => (h c).2, sem_eq_zero_of_no_sems (by decide) r.2⟩) (Cert.ReferenceDwZIdeal.Value.run m ρ)

theorem frame_DwXbc : Cert.quiescent_ReferenceDwXbcIdeal := fun m ρ _ =>
  (θ_run Cert.ReferenceDwXbcIdeal.defs _ _).mono (fun r h => ⟨fun c => (h c).2, sem_eq_zero_of_no_sems (by decide) r.2⟩) (Cert.ReferenceDwXbcIdeal.Value.run m ρ)

theorem frame_DwDt : Cert.quiescent_ReferenceDwDtIdeal := fun m ρ _ =>
  (θ_run Cert.ReferenceDwDtIdeal.defs _ _).mono (fun r h => ⟨fun c => (h c).2, sem_eq_zero_of_no_sems (by decide) r.2⟩) (Cert.ReferenceDwDtIdeal.Value.run m ρ)

theorem frame_DwFfnOut : Cert.quiescent_ReferenceDwFfnOutIdeal := fun m ρ _ =>
  (θ_run Cert.ReferenceDwFfnOutIdeal.defs _ _).mono (fun r h => ⟨fun c => (h c).2, sem_eq_zero_of_no_sems (by decide) r.2⟩) (Cert.ReferenceDwFfnOutIdeal.Value.run m ρ)

theorem frame_DwFfnIn : Cert.quiescent_ReferenceDwFfnInIdeal := fun m ρ _ =>
  (θ_run Cert.ReferenceDwFfnInIdeal.defs _ _).mono (fun r h => ⟨fun c => (h c).2, sem_eq_zero_of_no_sems (by decide) r.2⟩) (Cert.ReferenceDwFfnInIdeal.Value.run m ρ)

theorem frame_DwBrb : Cert.quiescent_ReferenceDwBrbIdeal := fun m ρ _ =>
  (θ_run Cert.ReferenceDwBrbIdeal.defs _ _).mono (fun r h => ⟨fun c => (h c).2, sem_eq_zero_of_no_sems (by decide) r.2⟩) (Cert.ReferenceDwBrbIdeal.Value.run m ρ)

theorem frame_DAct : Cert.quiescent_ReferenceDActIdeal := fun m ρ _ =>
  (θ_run Cert.ReferenceDActIdeal.defs _ _).mono (fun r h => ⟨fun c => (h c).2, sem_eq_zero_of_no_sems (by decide) r.2⟩) (Cert.ReferenceDActIdeal.Value.run m ρ)

theorem frame_Dx : Cert.quiescent_ReferenceDxIdeal := fun m ρ _ =>
  (θ_run Cert.ReferenceDxIdeal.defs _ _).mono (fun r h => ⟨fun c => (h c).2, sem_eq_zero_of_no_sems (by decide) r.2⟩) (Cert.ReferenceDxIdeal.Value.run m ρ)

theorem frame_DYb : Cert.quiescent_ReferenceDYbIdeal := fun m ρ _ =>
  (θ_run Cert.ReferenceDYbIdeal.defs _ _).mono (fun r h => ⟨fun c => (h c).2, sem_eq_zero_of_no_sems (by decide) r.2⟩) (Cert.ReferenceDYbIdeal.Value.run m ρ)

theorem frame_DXn2 : Cert.quiescent_ReferenceDXn2Ideal := fun m ρ _ =>
  (θ_run Cert.ReferenceDXn2Ideal.defs _ _).mono (fun r h => ⟨fun c => (h c).2, sem_eq_zero_of_no_sems (by decide) r.2⟩) (Cert.ReferenceDXn2Ideal.Value.run m ρ)

theorem frame_DXnA : Cert.quiescent_ReferenceDXnAIdeal := fun m ρ _ =>
  (θ_run Cert.ReferenceDXnAIdeal.defs _ _).mono (fun r h => ⟨fun c => (h c).2, sem_eq_zero_of_no_sems (by decide) r.2⟩) (Cert.ReferenceDXnAIdeal.Value.run m ρ)

theorem frame_DXnB : Cert.quiescent_ReferenceDXnBIdeal := fun m ρ _ =>
  (θ_run Cert.ReferenceDXnBIdeal.defs _ _).mono (fun r h => ⟨fun c => (h c).2, sem_eq_zero_of_no_sems (by decide) r.2⟩) (Cert.ReferenceDXnBIdeal.Value.run m ρ)

theorem frame_Y : Cert.quiescent_ReferenceYIdeal := fun m ρ _ =>
  (θ_run Cert.ReferenceYIdeal.defs _ _).mono (fun r h => ⟨fun c => (h c).2, sem_eq_zero_of_no_sems (by decide) r.2⟩) (Cert.ReferenceYIdeal.Value.run m ρ)

theorem frame_YZ : Cert.quiescent_ReferenceYZIdeal := fun m ρ _ =>
  (θ_run Cert.ReferenceYZIdeal.defs _ _).mono (fun r h => ⟨fun c => (h c).2, sem_eq_zero_of_no_sems (by decide) r.2⟩) (Cert.ReferenceYZIdeal.Value.run m ρ)

theorem frame_YXbc : Cert.quiescent_ReferenceYXbcIdeal := fun m ρ _ =>
  (θ_run Cert.ReferenceYXbcIdeal.defs _ _).mono (fun r h => ⟨fun c => (h c).2, sem_eq_zero_of_no_sems (by decide) r.2⟩) (Cert.ReferenceYXbcIdeal.Value.run m ρ)

theorem frame_YDt : Cert.quiescent_ReferenceYDtIdeal := fun m ρ _ =>
  (θ_run Cert.ReferenceYDtIdeal.defs _ _).mono (fun r h => ⟨fun c => (h c).2, sem_eq_zero_of_no_sems (by decide) r.2⟩) (Cert.ReferenceYDtIdeal.Value.run m ρ)

theorem frame_YBrb : Cert.quiescent_ReferenceYBrbIdeal := fun m ρ _ =>
  (θ_run Cert.ReferenceYBrbIdeal.defs _ _).mono (fun r h => ⟨fun c => (h c).2, sem_eq_zero_of_no_sems (by decide) r.2⟩) (Cert.ReferenceYBrbIdeal.Value.run m ρ)

theorem frame_YFfnIn : Cert.quiescent_ReferenceYFfnInIdeal := fun m ρ _ =>
  (θ_run Cert.ReferenceYFfnInIdeal.defs _ _).mono (fun r h => ⟨fun c => (h c).2, sem_eq_zero_of_no_sems (by decide) r.2⟩) (Cert.ReferenceYFfnInIdeal.Value.run m ρ)

theorem frame_Out : Cert.quiescent_ReferenceOutIdeal := fun m ρ _ =>
  (θ_run Cert.ReferenceOutIdeal.defs _ _).mono (fun r h => ⟨fun c => (h c).2, sem_eq_zero_of_no_sems (by decide) r.2⟩) (Cert.ReferenceOutIdeal.Value.run m ρ)

theorem frame_FfnOut : Cert.quiescent_ReferenceFfnOutIdeal := fun m ρ _ =>
  (θ_run Cert.ReferenceFfnOutIdeal.defs _ _).mono (fun r h => ⟨fun c => (h c).2.2, sem_eq_zero_of_no_sems (by decide) r.2⟩) (Cert.ReferenceFfnOutIdeal.Value.run m ρ)

theorem frame_Loss : Cert.quiescent_ReferenceLossIdeal := fun m ρ _ =>
  (θ_run Cert.ReferenceLossIdeal.defs _ _).mono (fun r h => ⟨fun c => (h c).2.2.2.2, sem_eq_zero_of_no_sems (by decide) r.2⟩) (Cert.ReferenceLossIdeal.Value.run m ρ)

theorem frame_AdamBranch : Cert.quiescent_ReferenceAdamBranchIdeal := fun m ρ _ =>
  (θ_run Cert.ReferenceAdamBranchIdeal.defs _ _).mono (fun r h => ⟨fun c => (h c).2.2.2.2, sem_eq_zero_of_no_sems (by decide) r.2⟩) (Cert.ReferenceAdamBranchIdeal.Value.run m ρ)

theorem frame_AdamOut : Cert.quiescent_ReferenceAdamOutIdeal := fun m ρ _ =>
  (θ_run Cert.ReferenceAdamOutIdeal.defs _ _).mono (fun r h => ⟨fun c => (h c).2.2.2.2, sem_eq_zero_of_no_sems (by decide) r.2⟩) (Cert.ReferenceAdamOutIdeal.Value.run m ρ)

theorem frame_AdamFfnIn : Cert.quiescent_ReferenceAdamFfnInIdeal := fun m ρ _ =>
  (θ_run Cert.ReferenceAdamFfnInIdeal.defs _ _).mono (fun r h => ⟨fun c => (h c).2.2.2.2, sem_eq_zero_of_no_sems (by decide) r.2⟩) (Cert.ReferenceAdamFfnInIdeal.Value.run m ρ)

theorem frame_AdamFfnOut : Cert.quiescent_ReferenceAdamFfnOutIdeal := fun m ρ _ =>
  (θ_run Cert.ReferenceAdamFfnOutIdeal.defs _ _).mono (fun r h => ⟨fun c => (h c).2.2.2.2, sem_eq_zero_of_no_sems (by decide) r.2⟩) (Cert.ReferenceAdamFfnOutIdeal.Value.run m ρ)

theorem frame_AdamSmall : Cert.quiescent_ReferenceAdamSmallIdeal := fun m ρ _ =>
  (θ_run Cert.ReferenceAdamSmallIdeal.defs _ _).mono (fun r h => ⟨fun c => (h c).2.2.2, sem_eq_zero_of_no_sems (by decide) r.2⟩) (Cert.ReferenceAdamSmallIdeal.Value.run m ρ)

theorem frame_SumGrads : Cert.quiescent_ReferenceSumGradsIdeal := fun m ρ _ =>
  (θ_run Cert.ReferenceSumGradsIdeal.defs _ _).mono (fun r h => ⟨fun c => (h c).2, sem_eq_zero_of_no_sems (by decide) r.2⟩) (Cert.ReferenceSumGradsIdeal.Value.run m ρ)

end Cert.Proof

end
-- ==== Proof.lean ====
module

public import proofs.«01_k».proof.Defs
public import proofs.«01_k».proof.Proof.Gen.KernelScanBwd
public import proofs.«01_k».proof.Proof.Gen.KernelScanBwd.Frame
public import proofs.«01_k».proof.Proof.Gen.KernelScanBwdIdeal
public import proofs.«01_k».proof.Proof.Gen.KernelScanBwdIdeal.Frame
public import proofs.«01_k».proof.Proof.Gen.ReferenceScanBwdIdeal
public import proofs.«01_k».proof.Proof.Gen.KernelScanFwd
public import proofs.«01_k».proof.Proof.Gen.KernelScanFwd.Frame
public import proofs.«01_k».proof.Proof.Gen.KernelScanFwdIdeal
public import proofs.«01_k».proof.Proof.Gen.KernelScanFwdIdeal.Frame
public import proofs.«01_k».proof.Proof.Gen.ReferenceScanFwdIdeal
public import proofs.«01_k».proof.Proof.Gen.KernelConvBwd
public import proofs.«01_k».proof.Proof.Gen.KernelConvBwd.Frame
public import proofs.«01_k».proof.Proof.Gen.KernelConvBwdIdeal
public import proofs.«01_k».proof.Proof.Gen.KernelConvBwdIdeal.Frame
public import proofs.«01_k».proof.Proof.Gen.ReferenceConvBwdIdeal
public import proofs.«01_k».proof.Proof.Gen.KernelConvBwdX
public import proofs.«01_k».proof.Proof.Gen.KernelConvBwdX.Frame
public import proofs.«01_k».proof.Proof.Gen.KernelConvBwdXIdeal
public import proofs.«01_k».proof.Proof.Gen.KernelConvBwdXIdeal.Frame
public import proofs.«01_k».proof.Proof.Gen.ReferenceConvBwdXIdeal
public import proofs.«01_k».proof.Proof.Gen.KernelConvFwd
public import proofs.«01_k».proof.Proof.Gen.KernelConvFwd.Frame
public import proofs.«01_k».proof.Proof.Gen.KernelConvFwdIdeal
public import proofs.«01_k».proof.Proof.Gen.KernelConvFwdIdeal.Frame
public import proofs.«01_k».proof.Proof.Gen.ReferenceConvFwdIdeal
public import proofs.«01_k».proof.Proof.Gen.KernelConvFwdX
public import proofs.«01_k».proof.Proof.Gen.KernelConvFwdX.Frame
public import proofs.«01_k».proof.Proof.Gen.KernelConvFwdXIdeal
public import proofs.«01_k».proof.Proof.Gen.KernelConvFwdXIdeal.Frame
public import proofs.«01_k».proof.Proof.Gen.ReferenceConvFwdXIdeal
public import proofs.«01_k».proof.Proof.Gen.KernelMergeBwd
public import proofs.«01_k».proof.Proof.Gen.KernelMergeBwd.Frame
public import proofs.«01_k».proof.Proof.Gen.KernelMergeBwdIdeal
public import proofs.«01_k».proof.Proof.Gen.KernelMergeBwdIdeal.Frame
public import proofs.«01_k».proof.Proof.Gen.ReferenceMergeBwdIdeal
public import proofs.«01_k».proof.Proof.Gen.KernelMergeFwd
public import proofs.«01_k».proof.Proof.Gen.KernelMergeFwd.Frame
public import proofs.«01_k».proof.Proof.Gen.KernelMergeFwdIdeal
public import proofs.«01_k».proof.Proof.Gen.KernelMergeFwdIdeal.Frame
public import proofs.«01_k».proof.Proof.Gen.ReferenceMergeFwdIdeal
public import proofs.«01_k».proof.Proof.Gen.KernelActBwd
public import proofs.«01_k».proof.Proof.Gen.KernelActBwd.Frame
public import proofs.«01_k».proof.Proof.Gen.KernelActBwdIdeal
public import proofs.«01_k».proof.Proof.Gen.KernelActBwdIdeal.Frame
public import proofs.«01_k».proof.Proof.Gen.ReferenceActBwdIdeal
public import proofs.«01_k».proof.Proof.Gen.KernelRmsBwd
public import proofs.«01_k».proof.Proof.Gen.KernelRmsBwd.Frame
public import proofs.«01_k».proof.Proof.Gen.KernelRmsBwdIdeal
public import proofs.«01_k».proof.Proof.Gen.KernelRmsBwdIdeal.Frame
public import proofs.«01_k».proof.Proof.Gen.ReferenceRmsBwdIdeal
public import proofs.«01_k».proof.Proof.Gen.KernelRmsFwd
public import proofs.«01_k».proof.Proof.Gen.KernelRmsFwd.Frame
public import proofs.«01_k».proof.Proof.Gen.KernelRmsFwdIdeal
public import proofs.«01_k».proof.Proof.Gen.KernelRmsFwdIdeal.Frame
public import proofs.«01_k».proof.Proof.Gen.ReferenceRmsFwdIdeal
public import proofs.«01_k».proof.Proof.Gen.KernelPostBwd
public import proofs.«01_k».proof.Proof.Gen.KernelPostBwd.Frame
public import proofs.«01_k».proof.Proof.Gen.KernelPostBwdIdeal
public import proofs.«01_k».proof.Proof.Gen.KernelPostBwdIdeal.Frame
public import proofs.«01_k».proof.Proof.Gen.ReferencePostBwdIdeal
public import proofs.«01_k».proof.Proof.Gen.KernelPostFwd
public import proofs.«01_k».proof.Proof.Gen.KernelPostFwd.Frame
public import proofs.«01_k».proof.Proof.Gen.KernelPostFwdIdeal
public import proofs.«01_k».proof.Proof.Gen.KernelPostFwdIdeal.Frame
public import proofs.«01_k».proof.Proof.Gen.ReferencePostFwdIdeal
public import proofs.«01_k».proof.Proof.Gen.KernelGatesFwd
public import proofs.«01_k».proof.Proof.Gen.KernelGatesFwd.Frame
public import proofs.«01_k».proof.Proof.Gen.KernelGatesFwdIdeal
public import proofs.«01_k».proof.Proof.Gen.KernelGatesFwdIdeal.Frame
public import proofs.«01_k».proof.Proof.Gen.ReferenceGatesFwdIdeal
public import proofs.«01_k».proof.Proof.Gen.KernelDw
public import proofs.«01_k».proof.Proof.Gen.KernelDw.Frame
public import proofs.«01_k».proof.Proof.Gen.KernelDwIdeal
public import proofs.«01_k».proof.Proof.Gen.KernelDwIdeal.Frame
public import proofs.«01_k».proof.Proof.Gen.ReferenceDwIdeal
public import proofs.«01_k».proof.Proof.Gen.KernelDwZ
public import proofs.«01_k».proof.Proof.Gen.KernelDwZ.Frame
public import proofs.«01_k».proof.Proof.Gen.KernelDwZIdeal
public import proofs.«01_k».proof.Proof.Gen.KernelDwZIdeal.Frame
public import proofs.«01_k».proof.Proof.Gen.ReferenceDwZIdeal
public import proofs.«01_k».proof.Proof.Gen.KernelDwXbc
public import proofs.«01_k».proof.Proof.Gen.KernelDwXbc.Frame
public import proofs.«01_k».proof.Proof.Gen.KernelDwXbcIdeal
public import proofs.«01_k».proof.Proof.Gen.KernelDwXbcIdeal.Frame
public import proofs.«01_k».proof.Proof.Gen.ReferenceDwXbcIdeal
public import proofs.«01_k».proof.Proof.Gen.KernelDwDt
public import proofs.«01_k».proof.Proof.Gen.KernelDwDt.Frame
public import proofs.«01_k».proof.Proof.Gen.KernelDwDtIdeal
public import proofs.«01_k».proof.Proof.Gen.KernelDwDtIdeal.Frame
public import proofs.«01_k».proof.Proof.Gen.ReferenceDwDtIdeal
public import proofs.«01_k».proof.Proof.Gen.KernelDwFfnOut
public import proofs.«01_k».proof.Proof.Gen.KernelDwFfnOut.Frame
public import proofs.«01_k».proof.Proof.Gen.KernelDwFfnOutIdeal
public import proofs.«01_k».proof.Proof.Gen.KernelDwFfnOutIdeal.Frame
public import proofs.«01_k».proof.Proof.Gen.ReferenceDwFfnOutIdeal
public import proofs.«01_k».proof.Proof.Gen.KernelDwFfnIn
public import proofs.«01_k».proof.Proof.Gen.KernelDwFfnIn.Frame
public import proofs.«01_k».proof.Proof.Gen.KernelDwFfnInIdeal
public import proofs.«01_k».proof.Proof.Gen.KernelDwFfnInIdeal.Frame
public import proofs.«01_k».proof.Proof.Gen.ReferenceDwFfnInIdeal
public import proofs.«01_k».proof.Proof.Gen.KernelDwBrb
public import proofs.«01_k».proof.Proof.Gen.KernelDwBrb.Frame
public import proofs.«01_k».proof.Proof.Gen.KernelDwBrbIdeal
public import proofs.«01_k».proof.Proof.Gen.KernelDwBrbIdeal.Frame
public import proofs.«01_k».proof.Proof.Gen.ReferenceDwBrbIdeal
public import proofs.«01_k».proof.Proof.Gen.KernelDAct
public import proofs.«01_k».proof.Proof.Gen.KernelDAct.Frame
public import proofs.«01_k».proof.Proof.Gen.KernelDActIdeal
public import proofs.«01_k».proof.Proof.Gen.KernelDActIdeal.Frame
public import proofs.«01_k».proof.Proof.Gen.ReferenceDActIdeal
public import proofs.«01_k».proof.Proof.Gen.KernelDx
public import proofs.«01_k».proof.Proof.Gen.KernelDx.Frame
public import proofs.«01_k».proof.Proof.Gen.KernelDxIdeal
public import proofs.«01_k».proof.Proof.Gen.KernelDxIdeal.Frame
public import proofs.«01_k».proof.Proof.Gen.ReferenceDxIdeal
public import proofs.«01_k».proof.Proof.Gen.KernelDYb
public import proofs.«01_k».proof.Proof.Gen.KernelDYb.Frame
public import proofs.«01_k».proof.Proof.Gen.KernelDYbIdeal
public import proofs.«01_k».proof.Proof.Gen.KernelDYbIdeal.Frame
public import proofs.«01_k».proof.Proof.Gen.ReferenceDYbIdeal
public import proofs.«01_k».proof.Proof.Gen.KernelDXn2
public import proofs.«01_k».proof.Proof.Gen.KernelDXn2.Frame
public import proofs.«01_k».proof.Proof.Gen.KernelDXn2Ideal
public import proofs.«01_k».proof.Proof.Gen.KernelDXn2Ideal.Frame
public import proofs.«01_k».proof.Proof.Gen.ReferenceDXn2Ideal
public import proofs.«01_k».proof.Proof.Gen.KernelDXnA
public import proofs.«01_k».proof.Proof.Gen.KernelDXnA.Frame
public import proofs.«01_k».proof.Proof.Gen.KernelDXnAIdeal
public import proofs.«01_k».proof.Proof.Gen.KernelDXnAIdeal.Frame
public import proofs.«01_k».proof.Proof.Gen.ReferenceDXnAIdeal
public import proofs.«01_k».proof.Proof.Gen.KernelDXnB
public import proofs.«01_k».proof.Proof.Gen.KernelDXnB.Frame
public import proofs.«01_k».proof.Proof.Gen.KernelDXnBIdeal
public import proofs.«01_k».proof.Proof.Gen.KernelDXnBIdeal.Frame
public import proofs.«01_k».proof.Proof.Gen.ReferenceDXnBIdeal
public import proofs.«01_k».proof.Proof.Gen.KernelY
public import proofs.«01_k».proof.Proof.Gen.KernelY.Frame
public import proofs.«01_k».proof.Proof.Gen.KernelYIdeal
public import proofs.«01_k».proof.Proof.Gen.KernelYIdeal.Frame
public import proofs.«01_k».proof.Proof.Gen.ReferenceYIdeal
public import proofs.«01_k».proof.Proof.Gen.KernelYZ
public import proofs.«01_k».proof.Proof.Gen.KernelYZ.Frame
public import proofs.«01_k».proof.Proof.Gen.KernelYZIdeal
public import proofs.«01_k».proof.Proof.Gen.KernelYZIdeal.Frame
public import proofs.«01_k».proof.Proof.Gen.ReferenceYZIdeal
public import proofs.«01_k».proof.Proof.Gen.KernelYXbc
public import proofs.«01_k».proof.Proof.Gen.KernelYXbc.Frame
public import proofs.«01_k».proof.Proof.Gen.KernelYXbcIdeal
public import proofs.«01_k».proof.Proof.Gen.KernelYXbcIdeal.Frame
public import proofs.«01_k».proof.Proof.Gen.ReferenceYXbcIdeal
public import proofs.«01_k».proof.Proof.Gen.KernelYDt
public import proofs.«01_k».proof.Proof.Gen.KernelYDt.Frame
public import proofs.«01_k».proof.Proof.Gen.KernelYDtIdeal
public import proofs.«01_k».proof.Proof.Gen.KernelYDtIdeal.Frame
public import proofs.«01_k».proof.Proof.Gen.ReferenceYDtIdeal
public import proofs.«01_k».proof.Proof.Gen.KernelYBrb
public import proofs.«01_k».proof.Proof.Gen.KernelYBrb.Frame
public import proofs.«01_k».proof.Proof.Gen.KernelYBrbIdeal
public import proofs.«01_k».proof.Proof.Gen.KernelYBrbIdeal.Frame
public import proofs.«01_k».proof.Proof.Gen.ReferenceYBrbIdeal
public import proofs.«01_k».proof.Proof.Gen.KernelYFfnIn
public import proofs.«01_k».proof.Proof.Gen.KernelYFfnIn.Frame
public import proofs.«01_k».proof.Proof.Gen.KernelYFfnInIdeal
public import proofs.«01_k».proof.Proof.Gen.KernelYFfnInIdeal.Frame
public import proofs.«01_k».proof.Proof.Gen.ReferenceYFfnInIdeal
public import proofs.«01_k».proof.Proof.Gen.KernelOut
public import proofs.«01_k».proof.Proof.Gen.KernelOut.Frame
public import proofs.«01_k».proof.Proof.Gen.KernelOutIdeal
public import proofs.«01_k».proof.Proof.Gen.KernelOutIdeal.Frame
public import proofs.«01_k».proof.Proof.Gen.ReferenceOutIdeal
public import proofs.«01_k».proof.Proof.Gen.KernelFfnOut
public import proofs.«01_k».proof.Proof.Gen.KernelFfnOut.Frame
public import proofs.«01_k».proof.Proof.Gen.KernelFfnOutIdeal
public import proofs.«01_k».proof.Proof.Gen.KernelFfnOutIdeal.Frame
public import proofs.«01_k».proof.Proof.Gen.ReferenceFfnOutIdeal
public import proofs.«01_k».proof.Proof.Gen.KernelLoss
public import proofs.«01_k».proof.Proof.Gen.KernelLoss.Frame
public import proofs.«01_k».proof.Proof.Gen.KernelLossIdeal
public import proofs.«01_k».proof.Proof.Gen.KernelLossIdeal.Frame
public import proofs.«01_k».proof.Proof.Gen.ReferenceLossIdeal
public import proofs.«01_k».proof.Proof.Gen.KernelAdamBranch
public import proofs.«01_k».proof.Proof.Gen.KernelAdamBranch.Frame
public import proofs.«01_k».proof.Proof.Gen.KernelAdamBranchIdeal
public import proofs.«01_k».proof.Proof.Gen.KernelAdamBranchIdeal.Frame
public import proofs.«01_k».proof.Proof.Gen.ReferenceAdamBranchIdeal
public import proofs.«01_k».proof.Proof.Gen.KernelAdamOut
public import proofs.«01_k».proof.Proof.Gen.KernelAdamOut.Frame
public import proofs.«01_k».proof.Proof.Gen.KernelAdamOutIdeal
public import proofs.«01_k».proof.Proof.Gen.KernelAdamOutIdeal.Frame
public import proofs.«01_k».proof.Proof.Gen.ReferenceAdamOutIdeal
public import proofs.«01_k».proof.Proof.Gen.KernelAdamFfnIn
public import proofs.«01_k».proof.Proof.Gen.KernelAdamFfnIn.Frame
public import proofs.«01_k».proof.Proof.Gen.KernelAdamFfnInIdeal
public import proofs.«01_k».proof.Proof.Gen.KernelAdamFfnInIdeal.Frame
public import proofs.«01_k».proof.Proof.Gen.ReferenceAdamFfnInIdeal
public import proofs.«01_k».proof.Proof.Gen.KernelAdamFfnOut
public import proofs.«01_k».proof.Proof.Gen.KernelAdamFfnOut.Frame
public import proofs.«01_k».proof.Proof.Gen.KernelAdamFfnOutIdeal
public import proofs.«01_k».proof.Proof.Gen.KernelAdamFfnOutIdeal.Frame
public import proofs.«01_k».proof.Proof.Gen.ReferenceAdamFfnOutIdeal
public import proofs.«01_k».proof.Proof.Gen.KernelAdamSmall
public import proofs.«01_k».proof.Proof.Gen.KernelAdamSmall.Frame
public import proofs.«01_k».proof.Proof.Gen.KernelAdamSmallIdeal
public import proofs.«01_k».proof.Proof.Gen.KernelAdamSmallIdeal.Frame
public import proofs.«01_k».proof.Proof.Gen.ReferenceAdamSmallIdeal
public import proofs.«01_k».proof.Proof.Gen.KernelSumGrads
public import proofs.«01_k».proof.Proof.Gen.KernelSumGrads.Frame
public import proofs.«01_k».proof.Proof.Gen.KernelSumGradsIdeal
public import proofs.«01_k».proof.Proof.Gen.KernelSumGradsIdeal.Frame
public import proofs.«01_k».proof.Proof.Gen.ReferenceSumGradsIdeal
public import proofs.«01_k».proof.Proof.ConvBwdValue
public import proofs.«01_k».proof.Proof.ConvBwdXValue
public import proofs.«01_k».proof.Proof.ConvFwdValue
public import proofs.«01_k».proof.Proof.ConvFwdXValue
public import proofs.«01_k».proof.Proof.MergeBwdValue
public import proofs.«01_k».proof.Proof.MergeFwdValue
public import proofs.«01_k».proof.Proof.ActBwdValue
public import proofs.«01_k».proof.Proof.RmsBwdValue
public import proofs.«01_k».proof.Proof.RmsFwdValue
public import proofs.«01_k».proof.Proof.PostBwdValue
public import proofs.«01_k».proof.Proof.PostFwdValue
public import proofs.«01_k».proof.Proof.GatesFwdValue
public import proofs.«01_k».proof.Proof.DwValue
public import proofs.«01_k».proof.Proof.DwZValue
public import proofs.«01_k».proof.Proof.DwXbcValue
public import proofs.«01_k».proof.Proof.DwDtValue
public import proofs.«01_k».proof.Proof.DwFfnOutValue
public import proofs.«01_k».proof.Proof.DwFfnInValue
public import proofs.«01_k».proof.Proof.DwBrbValue
public import proofs.«01_k».proof.Proof.DActValue
public import proofs.«01_k».proof.Proof.DxValue
public import proofs.«01_k».proof.Proof.DYbValue
public import proofs.«01_k».proof.Proof.DXn2Value
public import proofs.«01_k».proof.Proof.DXnAValue
public import proofs.«01_k».proof.Proof.DXnBValue
public import proofs.«01_k».proof.Proof.YValue
public import proofs.«01_k».proof.Proof.YZValue
public import proofs.«01_k».proof.Proof.YXbcValue
public import proofs.«01_k».proof.Proof.YDtValue
public import proofs.«01_k».proof.Proof.YBrbValue
public import proofs.«01_k».proof.Proof.YFfnInValue
public import proofs.«01_k».proof.Proof.OutValue
public import proofs.«01_k».proof.Proof.FfnOutValue
public import proofs.«01_k».proof.Proof.LossValue
public import proofs.«01_k».proof.Proof.AdamBranchValue
public import proofs.«01_k».proof.Proof.AdamOutValue
public import proofs.«01_k».proof.Proof.AdamFfnInValue
public import proofs.«01_k».proof.Proof.AdamFfnOutValue
public import proofs.«01_k».proof.Proof.AdamSmallValue
public import proofs.«01_k».proof.Proof.SumGradsValue
public import proofs.«01_k».proof.Proof.ScanRef
public import proofs.«01_k».proof.Proof.ScanFrames
public import proofs.«01_k».proof.Proof.FwdRef
public import proofs.«01_k».proof.Proof.FwdFrames
public import proofs.«01_k».proof.Proof.RefFrames
public import Idealize.ShloMosaic.Adequacy
public import Idealize.ShloMosaic.Init

/-!
The claims put together, program by program: the kernel ends cleanly at machine values and at ideal values, its
reference ends cleanly, and at ideal values both leave the same results.
-/

@[expose] public section

set_option maxRecDepth 16384

noncomputable section

namespace Cert.Proof

open Idealize.ShloMosaic Idealize.SL.Sem

/-- The gradient of the recurrence: kernel and reference both leave the gradient rows of the whole sequence. -/
theorem scan_value : Cert.algebraic_KernelScanBwdIdeal_ReferenceScanBwdIdeal := fun m g m' g' _ h =>
  ⟨fun c => Cert.KernelScanBwdIdeal.Scan.G (Cert.KernelScanBwdIdeal.Scan.argA m c) (Cert.KernelScanBwdIdeal.Scan.argD m c),
    Cert.KernelScanBwdIdeal.Scan.run_value m g,
    (θ_run Cert.ReferenceScanBwdIdeal.defs _ _).mono (fun _ hr c => ⟨(hr c).1.trans (congrArg₂ Cert.KernelScanBwdIdeal.Scan.G (h c).1 (h c).2), (hr c).2⟩)
      (Cert.ReferenceScanBwdIdeal.Scan.run_value m' g')⟩

/-- The recurrence: kernel and reference both leave the states of the whole sequence and the state before each row. -/
theorem fwd_value : Cert.algebraic_KernelScanFwdIdeal_ReferenceScanFwdIdeal := fun m g m' g' _ h =>
  ⟨fun c => (Cert.KernelScanFwdIdeal.Scan.G (Cert.KernelScanFwdIdeal.Scan.argA m c) (Cert.KernelScanFwdIdeal.Scan.argU m c)),
   fun c => (Cert.KernelScanFwdIdeal.Scan.P (Cert.KernelScanFwdIdeal.Scan.argA m c) (Cert.KernelScanFwdIdeal.Scan.argU m c)),
    Cert.KernelScanFwdIdeal.Scan.run_value m g,
    (θ_run Cert.ReferenceScanFwdIdeal.defs _ _).mono (fun _ hr c => ⟨(hr c).1.trans (congrArg₂ Cert.KernelScanFwdIdeal.Scan.G (h c).1 (h c).2),
        (hr c).2.1.trans (congrArg₂ Cert.KernelScanFwdIdeal.Scan.P (h c).1 (h c).2), (hr c).2.2⟩)
      (Cert.ReferenceScanFwdIdeal.Scan.run_value m' g')⟩

theorem claim : Cert.Claim := ⟨Cert.KernelScanBwd.Gen.facts, Cert.KernelScanBwdIdeal.Gen.facts, Cert.ReferenceScanBwdIdeal.Gen.facts,
  Cert.KernelScanFwd.Gen.facts, Cert.KernelScanFwdIdeal.Gen.facts, Cert.ReferenceScanFwdIdeal.Gen.facts,
  Cert.KernelConvBwd.Gen.facts, Cert.KernelConvBwdIdeal.Gen.facts, Cert.ReferenceConvBwdIdeal.Gen.facts,
  Cert.KernelConvBwdX.Gen.facts, Cert.KernelConvBwdXIdeal.Gen.facts, Cert.ReferenceConvBwdXIdeal.Gen.facts,
  Cert.KernelConvFwd.Gen.facts, Cert.KernelConvFwdIdeal.Gen.facts, Cert.ReferenceConvFwdIdeal.Gen.facts,
  Cert.KernelConvFwdX.Gen.facts, Cert.KernelConvFwdXIdeal.Gen.facts, Cert.ReferenceConvFwdXIdeal.Gen.facts,
  Cert.KernelMergeBwd.Gen.facts, Cert.KernelMergeBwdIdeal.Gen.facts, Cert.ReferenceMergeBwdIdeal.Gen.facts,
  Cert.KernelMergeFwd.Gen.facts, Cert.KernelMergeFwdIdeal.Gen.facts, Cert.ReferenceMergeFwdIdeal.Gen.facts,
  Cert.KernelActBwd.Gen.facts, Cert.KernelActBwdIdeal.Gen.facts, Cert.ReferenceActBwdIdeal.Gen.facts,
  Cert.KernelRmsBwd.Gen.facts, Cert.KernelRmsBwdIdeal.Gen.facts, Cert.ReferenceRmsBwdIdeal.Gen.facts,
  Cert.KernelRmsFwd.Gen.facts, Cert.KernelRmsFwdIdeal.Gen.facts, Cert.ReferenceRmsFwdIdeal.Gen.facts,
  Cert.KernelPostBwd.Gen.facts, Cert.KernelPostBwdIdeal.Gen.facts, Cert.ReferencePostBwdIdeal.Gen.facts,
  Cert.KernelPostFwd.Gen.facts, Cert.KernelPostFwdIdeal.Gen.facts, Cert.ReferencePostFwdIdeal.Gen.facts,
  Cert.KernelGatesFwd.Gen.facts, Cert.KernelGatesFwdIdeal.Gen.facts, Cert.ReferenceGatesFwdIdeal.Gen.facts,
  Cert.KernelDw.Gen.facts, Cert.KernelDwIdeal.Gen.facts, Cert.ReferenceDwIdeal.Gen.facts,
  Cert.KernelDwZ.Gen.facts, Cert.KernelDwZIdeal.Gen.facts, Cert.ReferenceDwZIdeal.Gen.facts,
  Cert.KernelDwXbc.Gen.facts, Cert.KernelDwXbcIdeal.Gen.facts, Cert.ReferenceDwXbcIdeal.Gen.facts,
  Cert.KernelDwDt.Gen.facts, Cert.KernelDwDtIdeal.Gen.facts, Cert.ReferenceDwDtIdeal.Gen.facts,
  Cert.KernelDwFfnOut.Gen.facts, Cert.KernelDwFfnOutIdeal.Gen.facts, Cert.ReferenceDwFfnOutIdeal.Gen.facts,
  Cert.KernelDwFfnIn.Gen.facts, Cert.KernelDwFfnInIdeal.Gen.facts, Cert.ReferenceDwFfnInIdeal.Gen.facts,
  Cert.KernelDwBrb.Gen.facts, Cert.KernelDwBrbIdeal.Gen.facts, Cert.ReferenceDwBrbIdeal.Gen.facts,
  Cert.KernelDAct.Gen.facts, Cert.KernelDActIdeal.Gen.facts, Cert.ReferenceDActIdeal.Gen.facts,
  Cert.KernelDx.Gen.facts, Cert.KernelDxIdeal.Gen.facts, Cert.ReferenceDxIdeal.Gen.facts,
  Cert.KernelDYb.Gen.facts, Cert.KernelDYbIdeal.Gen.facts, Cert.ReferenceDYbIdeal.Gen.facts,
  Cert.KernelDXn2.Gen.facts, Cert.KernelDXn2Ideal.Gen.facts, Cert.ReferenceDXn2Ideal.Gen.facts,
  Cert.KernelDXnA.Gen.facts, Cert.KernelDXnAIdeal.Gen.facts, Cert.ReferenceDXnAIdeal.Gen.facts,
  Cert.KernelDXnB.Gen.facts, Cert.KernelDXnBIdeal.Gen.facts, Cert.ReferenceDXnBIdeal.Gen.facts,
  Cert.KernelY.Gen.facts, Cert.KernelYIdeal.Gen.facts, Cert.ReferenceYIdeal.Gen.facts,
  Cert.KernelYZ.Gen.facts, Cert.KernelYZIdeal.Gen.facts, Cert.ReferenceYZIdeal.Gen.facts,
  Cert.KernelYXbc.Gen.facts, Cert.KernelYXbcIdeal.Gen.facts, Cert.ReferenceYXbcIdeal.Gen.facts,
  Cert.KernelYDt.Gen.facts, Cert.KernelYDtIdeal.Gen.facts, Cert.ReferenceYDtIdeal.Gen.facts,
  Cert.KernelYBrb.Gen.facts, Cert.KernelYBrbIdeal.Gen.facts, Cert.ReferenceYBrbIdeal.Gen.facts,
  Cert.KernelYFfnIn.Gen.facts, Cert.KernelYFfnInIdeal.Gen.facts, Cert.ReferenceYFfnInIdeal.Gen.facts,
  Cert.KernelOut.Gen.facts, Cert.KernelOutIdeal.Gen.facts, Cert.ReferenceOutIdeal.Gen.facts,
  Cert.KernelFfnOut.Gen.facts, Cert.KernelFfnOutIdeal.Gen.facts, Cert.ReferenceFfnOutIdeal.Gen.facts,
  Cert.KernelLoss.Gen.facts, Cert.KernelLossIdeal.Gen.facts, Cert.ReferenceLossIdeal.Gen.facts,
  Cert.KernelAdamBranch.Gen.facts, Cert.KernelAdamBranchIdeal.Gen.facts, Cert.ReferenceAdamBranchIdeal.Gen.facts,
  Cert.KernelAdamOut.Gen.facts, Cert.KernelAdamOutIdeal.Gen.facts, Cert.ReferenceAdamOutIdeal.Gen.facts,
  Cert.KernelAdamFfnIn.Gen.facts, Cert.KernelAdamFfnInIdeal.Gen.facts, Cert.ReferenceAdamFfnInIdeal.Gen.facts,
  Cert.KernelAdamFfnOut.Gen.facts, Cert.KernelAdamFfnOutIdeal.Gen.facts, Cert.ReferenceAdamFfnOutIdeal.Gen.facts,
  Cert.KernelAdamSmall.Gen.facts, Cert.KernelAdamSmallIdeal.Gen.facts, Cert.ReferenceAdamSmallIdeal.Gen.facts,
  Cert.KernelSumGrads.Gen.facts, Cert.KernelSumGradsIdeal.Gen.facts, Cert.ReferenceSumGradsIdeal.Gen.facts,
  frame_kernel, fun m ρ _ => Cert.KernelScanBwdIdeal.Scan.frame m ρ, fun m ρ _ => Cert.ReferenceScanBwdIdeal.Scan.frame m ρ,
  frame_kernel_fwd, fun m ρ _ => Cert.KernelScanFwdIdeal.Scan.frame m ρ, fun m ρ _ => Cert.ReferenceScanFwdIdeal.Scan.frame m ρ,
  fun m ρ _ => Cert.KernelConvBwd.Gen.frame m ρ, fun m ρ _ => Cert.KernelConvBwdIdeal.Gen.frame m ρ, frame_ConvBwd,
  fun m ρ _ => Cert.KernelConvBwdX.Gen.frame m ρ, fun m ρ _ => Cert.KernelConvBwdXIdeal.Gen.frame m ρ, frame_ConvBwdX,
  fun m ρ _ => Cert.KernelConvFwd.Gen.frame m ρ, fun m ρ _ => Cert.KernelConvFwdIdeal.Gen.frame m ρ, frame_ConvFwd,
  fun m ρ _ => Cert.KernelConvFwdX.Gen.frame m ρ, fun m ρ _ => Cert.KernelConvFwdXIdeal.Gen.frame m ρ, frame_ConvFwdX,
  fun m ρ _ => Cert.KernelMergeBwd.Gen.frame m ρ, fun m ρ _ => Cert.KernelMergeBwdIdeal.Gen.frame m ρ, frame_MergeBwd,
  fun m ρ _ => Cert.KernelMergeFwd.Gen.frame m ρ, fun m ρ _ => Cert.KernelMergeFwdIdeal.Gen.frame m ρ, frame_MergeFwd,
  fun m ρ _ => Cert.KernelActBwd.Gen.frame m ρ, fun m ρ _ => Cert.KernelActBwdIdeal.Gen.frame m ρ, frame_ActBwd,
  fun m ρ _ => Cert.KernelRmsBwd.Gen.frame m ρ, fun m ρ _ => Cert.KernelRmsBwdIdeal.Gen.frame m ρ, frame_RmsBwd,
  fun m ρ _ => Cert.KernelRmsFwd.Gen.frame m ρ, fun m ρ _ => Cert.KernelRmsFwdIdeal.Gen.frame m ρ, frame_RmsFwd,
  fun m ρ _ => Cert.KernelPostBwd.Gen.frame m ρ, fun m ρ _ => Cert.KernelPostBwdIdeal.Gen.frame m ρ, frame_PostBwd,
  fun m ρ _ => Cert.KernelPostFwd.Gen.frame m ρ, fun m ρ _ => Cert.KernelPostFwdIdeal.Gen.frame m ρ, frame_PostFwd,
  fun m ρ _ => Cert.KernelGatesFwd.Gen.frame m ρ, fun m ρ _ => Cert.KernelGatesFwdIdeal.Gen.frame m ρ, frame_GatesFwd,
  fun m ρ _ => Cert.KernelDw.Gen.frame m ρ, fun m ρ _ => Cert.KernelDwIdeal.Gen.frame m ρ, frame_Dw,
  fun m ρ _ => Cert.KernelDwZ.Gen.frame m ρ, fun m ρ _ => Cert.KernelDwZIdeal.Gen.frame m ρ, frame_DwZ,
  fun m ρ _ => Cert.KernelDwXbc.Gen.frame m ρ, fun m ρ _ => Cert.KernelDwXbcIdeal.Gen.frame m ρ, frame_DwXbc,
  fun m ρ _ => Cert.KernelDwDt.Gen.frame m ρ, fun m ρ _ => Cert.KernelDwDtIdeal.Gen.frame m ρ, frame_DwDt,
  fun m ρ _ => Cert.KernelDwFfnOut.Gen.frame m ρ, fun m ρ _ => Cert.KernelDwFfnOutIdeal.Gen.frame m ρ, frame_DwFfnOut,
  fun m ρ _ => Cert.KernelDwFfnIn.Gen.frame m ρ, fun m ρ _ => Cert.KernelDwFfnInIdeal.Gen.frame m ρ, frame_DwFfnIn,
  fun m ρ _ => Cert.KernelDwBrb.Gen.frame m ρ, fun m ρ _ => Cert.KernelDwBrbIdeal.Gen.frame m ρ, frame_DwBrb,
  fun m ρ _ => Cert.KernelDAct.Gen.frame m ρ, fun m ρ _ => Cert.KernelDActIdeal.Gen.frame m ρ, frame_DAct,
  fun m ρ _ => Cert.KernelDx.Gen.frame m ρ, fun m ρ _ => Cert.KernelDxIdeal.Gen.frame m ρ, frame_Dx,
  fun m ρ _ => Cert.KernelDYb.Gen.frame m ρ, fun m ρ _ => Cert.KernelDYbIdeal.Gen.frame m ρ, frame_DYb,
  fun m ρ _ => Cert.KernelDXn2.Gen.frame m ρ, fun m ρ _ => Cert.KernelDXn2Ideal.Gen.frame m ρ, frame_DXn2,
  fun m ρ _ => Cert.KernelDXnA.Gen.frame m ρ, fun m ρ _ => Cert.KernelDXnAIdeal.Gen.frame m ρ, frame_DXnA,
  fun m ρ _ => Cert.KernelDXnB.Gen.frame m ρ, fun m ρ _ => Cert.KernelDXnBIdeal.Gen.frame m ρ, frame_DXnB,
  fun m ρ _ => Cert.KernelY.Gen.frame m ρ, fun m ρ _ => Cert.KernelYIdeal.Gen.frame m ρ, frame_Y,
  fun m ρ _ => Cert.KernelYZ.Gen.frame m ρ, fun m ρ _ => Cert.KernelYZIdeal.Gen.frame m ρ, frame_YZ,
  fun m ρ _ => Cert.KernelYXbc.Gen.frame m ρ, fun m ρ _ => Cert.KernelYXbcIdeal.Gen.frame m ρ, frame_YXbc,
  fun m ρ _ => Cert.KernelYDt.Gen.frame m ρ, fun m ρ _ => Cert.KernelYDtIdeal.Gen.frame m ρ, frame_YDt,
  fun m ρ _ => Cert.KernelYBrb.Gen.frame m ρ, fun m ρ _ => Cert.KernelYBrbIdeal.Gen.frame m ρ, frame_YBrb,
  fun m ρ _ => Cert.KernelYFfnIn.Gen.frame m ρ, fun m ρ _ => Cert.KernelYFfnInIdeal.Gen.frame m ρ, frame_YFfnIn,
  fun m ρ _ => Cert.KernelOut.Gen.frame m ρ, fun m ρ _ => Cert.KernelOutIdeal.Gen.frame m ρ, frame_Out,
  fun m ρ _ => Cert.KernelFfnOut.Gen.frame m ρ, fun m ρ _ => Cert.KernelFfnOutIdeal.Gen.frame m ρ, frame_FfnOut,
  fun m ρ _ => Cert.KernelLoss.Gen.frame m ρ, fun m ρ _ => Cert.KernelLossIdeal.Gen.frame m ρ, frame_Loss,
  fun m ρ _ => Cert.KernelAdamBranch.Gen.frame m ρ, fun m ρ _ => Cert.KernelAdamBranchIdeal.Gen.frame m ρ, frame_AdamBranch,
  fun m ρ _ => Cert.KernelAdamOut.Gen.frame m ρ, fun m ρ _ => Cert.KernelAdamOutIdeal.Gen.frame m ρ, frame_AdamOut,
  fun m ρ _ => Cert.KernelAdamFfnIn.Gen.frame m ρ, fun m ρ _ => Cert.KernelAdamFfnInIdeal.Gen.frame m ρ, frame_AdamFfnIn,
  fun m ρ _ => Cert.KernelAdamFfnOut.Gen.frame m ρ, fun m ρ _ => Cert.KernelAdamFfnOutIdeal.Gen.frame m ρ, frame_AdamFfnOut,
  fun m ρ _ => Cert.KernelAdamSmall.Gen.frame m ρ, fun m ρ _ => Cert.KernelAdamSmallIdeal.Gen.frame m ρ, frame_AdamSmall,
  fun m ρ _ => Cert.KernelSumGrads.Gen.frame m ρ, fun m ρ _ => Cert.KernelSumGradsIdeal.Gen.frame m ρ, frame_SumGrads,
  trivial, scan_value,
  trivial, fwd_value,
  trivial, Cert.KernelConvBwdIdeal.Array.value,
  trivial, Cert.KernelConvBwdXIdeal.Array.value,
  trivial, Cert.KernelConvFwdIdeal.Array.value,
  trivial, Cert.KernelConvFwdXIdeal.Array.value,
  trivial, Cert.KernelMergeBwdIdeal.Array.value,
  trivial, Cert.KernelMergeFwdIdeal.Array.value,
  trivial, Cert.KernelActBwdIdeal.Array.value,
  trivial, Cert.KernelRmsBwdIdeal.Array.value,
  trivial, Cert.KernelRmsFwdIdeal.Array.value,
  trivial, Cert.KernelPostBwdIdeal.Array.value,
  trivial, Cert.KernelPostFwdIdeal.Array.value,
  trivial, Cert.KernelGatesFwdIdeal.Array.value,
  trivial, Cert.KernelDwIdeal.Array.value,
  trivial, Cert.KernelDwZIdeal.Array.value,
  trivial, Cert.KernelDwXbcIdeal.Array.value,
  trivial, Cert.KernelDwDtIdeal.Array.value,
  trivial, Cert.KernelDwFfnOutIdeal.Array.value,
  trivial, Cert.KernelDwFfnInIdeal.Array.value,
  trivial, Cert.KernelDwBrbIdeal.Array.value,
  trivial, Cert.KernelDActIdeal.Array.value,
  trivial, Cert.KernelDxIdeal.Array.value,
  trivial, Cert.KernelDYbIdeal.Array.value,
  trivial, Cert.KernelDXn2Ideal.Array.value,
  trivial, Cert.KernelDXnAIdeal.Array.value,
  trivial, Cert.KernelDXnBIdeal.Array.value,
  trivial, Cert.KernelYIdeal.Array.value,
  trivial, Cert.KernelYZIdeal.Array.value,
  trivial, Cert.KernelYXbcIdeal.Array.value,
  trivial, Cert.KernelYDtIdeal.Array.value,
  trivial, Cert.KernelYBrbIdeal.Array.value,
  trivial, Cert.KernelYFfnInIdeal.Array.value,
  trivial, Cert.KernelOutIdeal.Array.value,
  trivial, Cert.KernelFfnOutIdeal.Array.value,
  trivial, Cert.KernelLossIdeal.Array.value,
  trivial, Cert.KernelAdamBranchIdeal.Array.value,
  trivial, Cert.KernelAdamOutIdeal.Array.value,
  trivial, Cert.KernelAdamFfnInIdeal.Array.value,
  trivial, Cert.KernelAdamFfnOutIdeal.Array.value,
  trivial, Cert.KernelAdamSmallIdeal.Array.value,
  trivial, Cert.KernelSumGradsIdeal.Array.value⟩

end Cert.Proof

end
